-- ==== Defs.lean ====
def Pre_Kernel [hPre_lengths : Cert.Pre_lengths.Facts] (m : (ℓ : Loc Cert.Kernel.nD Cert.Kernel.τ Cert.Kernel.sig) → Buf (Elt Bits) ℓ) : Prop :=
  ∀ c : Dev Cert.Kernel.nD,
    (Cert.Pre_lengths.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_lengths : Cert.Pre_lengths.Facts] (m : (ℓ : Loc Cert.KernelIdeal.nD Cert.KernelIdeal.τ Cert.KernelIdeal.sig) → Buf (Elt Ideal) ℓ) : Prop :=
  ∀ c : Dev Cert.KernelIdeal.nD,
    (Cert.Pre_lengths.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_lengths [hPre_lengths : Cert.Pre_lengths.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_lengths.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] [hPre_lengths : Cert.Pre_lengths.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] [hPre_lengths : Cert.Pre_lengths.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_lengths [hReferenceIdeal : Cert.ReferenceIdeal.Facts] [hPre_lengths : Cert.Pre_lengths.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_lengths m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_lengths : Cert.Pre_lengths.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_lengths : Cert.Pre_lengths.Facts),
    quiescent_Kernel (hKernel := hKernel) (hPre_lengths := hPre_lengths)
    ∧ quiescent_KernelIdeal (hKernelIdeal := hKernelIdeal) (hPre_lengths := hPre_lengths)
    ∧ quiescent_ReferenceIdeal (hReferenceIdeal := hReferenceIdeal)
    ∧ quiescent_ReferenceIdeal_pre_lengths (hReferenceIdeal := hReferenceIdeal) (hPre_lengths := hPre_lengths)
    ∧ preserves_Kernel_KernelIdeal
    ∧ algebraic_KernelIdeal_ReferenceIdeal (hKernelIdeal := hKernelIdeal) (hReferenceIdeal := hReferenceIdeal) (hPre_lengths := hPre_lengths)
-- ==== Pre_lengths.lean ====
abbrev S64x1x4096 : Shape := ⟨3, ![64, 1, 4096]⟩
abbrev S64x8192x4x128 : Shape := ⟨4, ![64, 8192, 4, 128]⟩
abbrev S64x128x4 : Shape := ⟨3, ![64, 128, 4]⟩
abbrev S64 : Shape := ⟨1, ![64]⟩
abbrev S_ : Shape := ⟨0, ![]⟩

class Facts : Prop where
  bcast_S_S64 : S_.BroadcastsInDim S64 (![] : Fin 0 → Fin S64.rank)

variable [Facts]

def fn {F : FTy → Type} [FloatOps F] (main_arg0 : FVec F S64x1x4096 .bf16) (main_arg1 : FVec F S64x8192x4x128 .fp8e4m3) (main_arg2 : FVec F S64x128x4 .f32) (main_arg3 : FVec F S64x8192x4x128 .fp8e4m3) (main_arg4 : FVec F S64x128x4 .f32) (main_arg5 : IVec S64 32) : IVec S64 1 :=
  let main_c : IVec S_ 32 := constantI S_ 32 1#32
  let main_v0 : IVec S64 32 := broadcastInDim S64 ![] bcast_S_S64 main_c
  let main_v1 : IVec S64 1 := cmpi .sge main_arg5 main_v0
  let main_c_0 : IVec S_ 32 := constantI S_ 32 8192#32
  let main_v2 : IVec S64 32 := broadcastInDim S64 ![] bcast_S_S64 main_c_0
  let main_v3 : IVec S64 1 := cmpi .sle main_arg5 main_v2
  let main_v4 : IVec S64 1 := andi main_v1 main_v3
  main_v4
-- ==== Kernel.lean ====
abbrev S64x1x4096 : Shape := ⟨3, ![64, 1, 4096]⟩
abbrev S64x8192x4x128 : Shape := ⟨4, ![64, 8192, 4, 128]⟩
abbrev S64x128x4 : Shape := ⟨3, ![64, 128, 4]⟩
abbrev S64 : Shape := ⟨1, ![64]⟩
abbrev S64x4096 : Shape := ⟨2, ![64, 4096]⟩
abbrev S64x128x256x128 : Shape := ⟨4, ![64, 128, 256, 128]⟩
abbrev S64x4x128 : Shape := ⟨3, ![64, 4, 128]⟩
abbrev S24x16x256x128 : Shape := ⟨4, ![24, 16, 256, 128]⟩
abbrev S2048x128 : Shape := ⟨2, ![2048, 128]⟩
abbrev S256x8x128 : Shape := ⟨3, ![256, 8, 128]⟩
abbrev S128x128 : Shape := ⟨2, ![128, 128]⟩
abbrev S24 : Shape := ⟨1, ![24]⟩
abbrev S8x128 : Shape := ⟨2, ![8, 128]⟩
abbrev S16x256x128 : Shape := ⟨3, ![16, 256, 128]⟩
abbrev S1x16x256x128 : Shape := ⟨4, ![1, 16, 256, 128]⟩
abbrev S1 : Shape := ⟨1, ![1]⟩
abbrev S_ : Shape := ⟨0, ![]⟩
abbrev S32x128 : Shape := ⟨2, ![32, 128]⟩
abbrev S32x256 : Shape := ⟨2, ![32, 256]⟩
abbrev S64x256 : Shape := ⟨2, ![64, 256]⟩
abbrev S1x4x128 : Shape := ⟨3, ![1, 4, 128]⟩
abbrev S4x128 : Shape := ⟨2, ![4, 128]⟩
abbrev S1x1x256x128 : Shape := ⟨4, ![1, 1, 256, 128]⟩
abbrev S256x128 : Shape := ⟨2, ![256, 128]⟩
abbrev S256x256 : Shape := ⟨2, ![256, 256]⟩
abbrev S1x128 : Shape := ⟨2, ![1, 128]⟩
abbrev S1x8x128 : Shape := ⟨3, ![1, 8, 128]⟩

abbrev nBuf : Space → Nat
  | .hbm => 13
  | .vmem => 10
  | .smem => 1
  | _ => 0

abbrev bufTy : (tb : Table) → Fin (tcTables nBuf tb) → BufTy
  | .hbm, ⟨0, _⟩ => ⟨S64x1x4096, .bf16⟩
  | .hbm, ⟨1, _⟩ => ⟨S64x8192x4x128, .fp8e4m3⟩
  | .hbm, ⟨2, _⟩ => ⟨S64x128x4, .f32⟩
  | .hbm, ⟨3, _⟩ => ⟨S64x8192x4x128, .fp8e4m3⟩
  | .hbm, ⟨4, _⟩ => ⟨S64x128x4, .f32⟩
  | .hbm, ⟨5, _⟩ => ⟨S64, .i32⟩
  | .hbm, ⟨6, _⟩ => ⟨S64x4096, .bf16⟩
  | .hbm, ⟨7, _⟩ => ⟨S64x128x256x128, .fp8e4m3⟩
  | .hbm, ⟨8, _⟩ => ⟨S64x4x128, .f32⟩
  | .hbm, ⟨9, _⟩ => ⟨S64x128x256x128, .fp8e4m3⟩
  | .hbm, ⟨10, _⟩ => ⟨S64x4x128, .f32⟩
  | .hbm, ⟨11, _⟩ => ⟨S64x4096, .bf16⟩
  | .hbm, ⟨12, _⟩ => ⟨S64x1x4096, .bf16⟩
  | .local _ .vmem, ⟨0, _⟩ => ⟨S64x4096, .bf16⟩
  | .local _ .vmem, ⟨1, _⟩ => ⟨S64x4x128, .f32⟩
  | .local _ .vmem, ⟨2, _⟩ => ⟨S64x4x128, .f32⟩
  | .local _ .vmem, ⟨3, _⟩ => ⟨S64x4096, .bf16⟩
  | .local _ .vmem, ⟨4, _⟩ => ⟨S24x16x256x128, .fp8e4m3⟩
  | .local _ .vmem, ⟨5, _⟩ => ⟨S2048x128, .f32⟩
  | .local _ .vmem, ⟨6, _⟩ => ⟨S2048x128, .f32⟩
  | .local _ .vmem, ⟨7, _⟩ => ⟨S256x8x128, .f32⟩
  | .local _ .vmem, ⟨8, _⟩ => ⟨S128x128, .f32⟩
  | .local _ .vmem, ⟨9, _⟩ => ⟨S128x128, .f32⟩
  | .local _ .smem, ⟨0, _⟩ => ⟨S64, .i32⟩
  | _, _ => ⟨S64x1x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_scratch5 : Ref sig .tc := ⟨.vmem, 9, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

@[reducible] def k0_t1_loop : Scf.Loop 32 :=
  let c0_i32_10 : BitVec 32 := 0#32
  let c24_i32 : BitVec 32 := 24#32
  let v42 : BitVec 32 := Scalar.addi c0_i32_10 c24_i32
  let c1_i32_11 : BitVec 32 := 1#32
  ⟨c0_i32_10, v42, c1_i32_11⟩
def k0_off1 (k0_t1 : Fin k0_t1_loop.trips) : Fin 4 → Nat :=
  let c0_i32_10 : BitVec 32 := 0#32
  let c1_i32_11 : BitVec 32 := 1#32
  let arg14 : BitVec 32 := Scf.iv c0_i32_10 c1_i32_11 k0_t1
  let v2352 : Index := Scalar.indexCast arg14
  let c0_1788 : Index := 0#32
  let c0_1789 : Index := 0#32
  let c0_1790 : Index := 0#32
  ![v2352.toNat, 0, 0, 0]
@[reducible] def k0_t2_loop : Scf.Loop 32 :=
  let c0_i32_17 : BitVec 32 := 0#32
  let c24_i32_18 : BitVec 32 := 24#32
  let v43 : BitVec 32 := Scalar.addi c0_i32_17 c24_i32_18
  let c1_i32_19 : BitVec 32 := 1#32
  ⟨c0_i32_17, v43, c1_i32_19⟩
def k0_off2 (arg15 : BitVec 32) : Fin 1 → Nat :=
  let v2355 : Index := Scalar.indexCast arg15
  ![v2355.toNat]
def k0_cond1 (arg15 : BitVec 32) : BitVec 1 :=
  let c64_i32_1788 : BitVec 32 := 64#32
  let v2351 : BitVec 1 := Scalar.cmpi .slt arg15 c64_i32_1788
  let v2352 : BitVec 32 := Scalar.extui v2351
  let c0_i32_1789 : BitVec 32 := 0#32
  let v2353 : BitVec 1 := Scalar.cmpi .ne v2352 c0_i32_1789
  v2353

def k0_chk1 (arg15 : BitVec 32) : Prop :=
  (∀ (k0_h1 : k0_cond1 arg15 = 1#1), ∀ a, (k0_off2 arg15) a + S1.size a ≤ S64.size a)
theorem k0_off2_inb : ∀ (arg15 : BitVec 32) (k0_hw1 : k0_chk1 arg15), ∀ (k0_h1 : k0_cond1 arg15 = 1#1), ∀ a, (k0_off2 arg15) a + S1.size a ≤ S64.size a := fun arg15 k0_hw1 k0_h1 => k0_hw1 k0_h1

def k0_off3 (arg18 : BitVec 32) : Fin 1 → Nat :=
  ![arg18.toNat]
def k0_cond2 (arg16 : BitVec 32) : BitVec 1 :=
  let c0_i32_1798 : BitVec 32 := 0#32
  let v2378 : BitVec 1 := Scalar.cmpi .eq arg16 c0_i32_1798
  let v2379 : BitVec 32 := Scalar.extui v2378
  let c0_i32_1799 : BitVec 32 := 0#32
  let v2380 : BitVec 1 := Scalar.cmpi .ne v2379 c0_i32_1799
  v2380

def k0_off4 (arg17 : BitVec 32) (arg18 : BitVec 32) (v2356 : BitVec 32) : (Fin 4 → Nat) × (Fin 4 → Nat) :=
  let c0_i32_1814 : BitVec 32 := 0#32
  let c0_i32_1815 : BitVec 32 := 0#32
  let c0_i32_1816 : BitVec 32 := 0#32
  let c63_i32 : BitVec 32 := 63#32
  let v2357 : BitVec 32 := Scalar.addi v2356 c63_i32
  let c0_i32_1791 : BitVec 32 := 0#32
  let v2359 : BitVec 1 := Scalar.cmpi .sgt v2357 c0_i32_1791
  let v2360 : BitVec 32 := Scalar.extui v2359
  let c0_i32_1792 : BitVec 32 := 0#32
  let v2361 : BitVec 1 := Scalar.cmpi .slt v2357 c0_i32_1792
  let v2362 : BitVec 32 := Scalar.extui v2361
  let v2363 : BitVec 32 := Scalar.subi v2360 v2362
  let c64_i32_1790 : BitVec 32 := 64#32
  let c0_i32_1793 : BitVec 32 := 0#32
  let v2364 : BitVec 1 := Scalar.cmpi .sgt c64_i32_1790 c0_i32_1793
  let v2365 : BitVec 32 := Scalar.extui v2364
  let c0_i32_1794 : BitVec 32 := 0#32
  let v2366 : BitVec 1 := Scalar.cmpi .slt c64_i32_1790 c0_i32_1794
  let v2367 : BitVec 32 := Scalar.extui v2366
  let v2368 : BitVec 32 := Scalar.subi v2365 v2367
  let v2369 : BitVec 1 := Scalar.cmpi .ne v2363 v2368
  let v2370 : BitVec 32 := Scalar.remsi v2357 c64_i32_1790
  let c0_i32_1795 : BitVec 32 := 0#32
  let v2371 : BitVec 1 := Scalar.cmpi .ne v2370 c0_i32_1795
  let v2372 : BitVec 1 := Scalar.andi v2369 v2371
  let v2358 : BitVec 32 := Scalar.divsi v2357 c64_i32_1790
  let c1_i32_1796 : BitVec 32 := 1#32
  let v2373 : BitVec 32 := Scalar.subi v2358 c1_i32_1796
  let v2374 : BitVec 32 := Scalar.select v2372 v2373 v2358
  let c16_i32 : BitVec 32 := 16#32
  let v2375 : BitVec 32 := Scalar.muli arg17 c16_i32
  let v2376 : BitVec 32 := Scalar.subi v2374 v2375
  let c16_i32_1797 : BitVec 32 := 16#32
  let v2377 : BitVec 32 := Scalar.minsi v2376 c16_i32_1797
  ⟨![arg18.toNat, 0, 0, 0], ![1, v2377.toNat, 256, 128]⟩

def k0_sz1 (arg17 : BitVec 32) (v2356 : BitVec 32) : Fin 3 → Nat :=
  let c63_i32 : BitVec 32 := 63#32
  let v2357 : BitVec 32 := Scalar.addi v2356 c63_i32
  let c0_i32_1791 : BitVec 32 := 0#32
  let v2359 : BitVec 1 := Scalar.cmpi .sgt v2357 c0_i32_1791
  let v2360 : BitVec 32 := Scalar.extui v2359
  let c0_i32_1792 : BitVec 32 := 0#32
  let v2361 : BitVec 1 := Scalar.cmpi .slt v2357 c0_i32_1792
  let v2362 : BitVec 32 := Scalar.extui v2361
  let v2363 : BitVec 32 := Scalar.subi v2360 v2362
  let c64_i32_1790 : BitVec 32 := 64#32
  let c0_i32_1793 : BitVec 32 := 0#32
  let v2364 : BitVec 1 := Scalar.cmpi .sgt c64_i32_1790 c0_i32_1793
  let v2365 : BitVec 32 := Scalar.extui v2364
  let c0_i32_1794 : BitVec 32 := 0#32
  let v2366 : BitVec 1 := Scalar.cmpi .slt c64_i32_1790 c0_i32_1794
  let v2367 : BitVec 32 := Scalar.extui v2366
  let v2368 : BitVec 32 := Scalar.subi v2365 v2367
  let v2369 : BitVec 1 := Scalar.cmpi .ne v2363 v2368
  let v2370 : BitVec 32 := Scalar.remsi v2357 c64_i32_1790
  let c0_i32_1795 : BitVec 32 := 0#32
  let v2371 : BitVec 1 := Scalar.cmpi .ne v2370 c0_i32_1795
  let v2372 : BitVec 1 := Scalar.andi v2369 v2371
  let v2358 : BitVec 32 := Scalar.divsi v2357 c64_i32_1790
  let c1_i32_1796 : BitVec 32 := 1#32
  let v2373 : BitVec 32 := Scalar.subi v2358 c1_i32_1796
  let v2374 : BitVec 32 := Scalar.select v2372 v2373 v2358
  let c16_i32 : BitVec 32 := 16#32
  let v2375 : BitVec 32 := Scalar.muli arg17 c16_i32
  let v2376 : BitVec 32 := Scalar.subi v2374 v2375
  let c16_i32_1797 : BitVec 32 := 16#32
  let v2377 : BitVec 32 := Scalar.minsi v2376 c16_i32_1797
  ![v2377.toNat, 256, 128]
def k0_off5 (arg15 : BitVec 32) (arg17 : BitVec 32) (v2356 : BitVec 32) : (Fin 4 → Nat) × (Fin 4 → Nat) :=
  let c16_i32_1813 : BitVec 32 := 16#32
  let v2399 : BitVec 32 := Scalar.muli arg17 c16_i32_1813
  let c0_i32_1817 : BitVec 32 := 0#32
  let c0_i32_1818 : BitVec 32 := 0#32
  let c63_i32 : BitVec 32 := 63#32
  let v2357 : BitVec 32 := Scalar.addi v2356 c63_i32
  let c0_i32_1791 : BitVec 32 := 0#32
  let v2359 : BitVec 1 := Scalar.cmpi .sgt v2357 c0_i32_1791
  let v2360 : BitVec 32 := Scalar.extui v2359
  let c0_i32_1792 : BitVec 32 := 0#32
  let v2361 : BitVec 1 := Scalar.cmpi .slt v2357 c0_i32_1792
  let v2362 : BitVec 32 := Scalar.extui v2361
  let v2363 : BitVec 32 := Scalar.subi v2360 v2362
  let c64_i32_1790 : BitVec 32 := 64#32
  let c0_i32_1793 : BitVec 32 := 0#32
  let v2364 : BitVec 1 := Scalar.cmpi .sgt c64_i32_1790 c0_i32_1793
  let v2365 : BitVec 32 := Scalar.extui v2364
  let c0_i32_1794 : BitVec 32 := 0#32
  let v2366 : BitVec 1 := Scalar.cmpi .slt c64_i32_1790 c0_i32_1794
  let v2367 : BitVec 32 := Scalar.extui v2366
  let v2368 : BitVec 32 := Scalar.subi v2365 v2367
  let v2369 : BitVec 1 := Scalar.cmpi .ne v2363 v2368
  let v2370 : BitVec 32 := Scalar.remsi v2357 c64_i32_1790
  let c0_i32_1795 : BitVec 32 := 0#32
  let v2371 : BitVec 1 := Scalar.cmpi .ne v2370 c0_i32_1795
  let v2372 : BitVec 1 := Scalar.andi v2369 v2371
  let v2358 : BitVec 32 := Scalar.divsi v2357 c64_i32_1790
  let c1_i32_1796 : BitVec 32 := 1#32
  let v2373 : BitVec 32 := Scalar.subi v2358 c1_i32_1796
  let v2374 : BitVec 32 := Scalar.select v2372 v2373 v2358
  let c16_i32 : BitVec 32 := 16#32
  let v2375 : BitVec 32 := Scalar.muli arg17 c16_i32
  let v2376 : BitVec 32 := Scalar.subi v2374 v2375
  let c16_i32_1797 : BitVec 32 := 16#32
  let v2377 : BitVec 32 := Scalar.minsi v2376 c16_i32_1797
  ⟨![arg15.toNat, v2399.toNat, 0, 0], ![1, v2377.toNat, 256, 128]⟩
def k0_sz2 (arg17 : BitVec 32) (v2356 : BitVec 32) : Fin 3 → Nat :=
  let c63_i32 : BitVec 32 := 63#32
  let v2357 : BitVec 32 := Scalar.addi v2356 c63_i32
  let c0_i32_1791 : BitVec 32 := 0#32
  let v2359 : BitVec 1 := Scalar.cmpi .sgt v2357 c0_i32_1791
  let v2360 : BitVec 32 := Scalar.extui v2359
  let c0_i32_1792 : BitVec 32 := 0#32
  let v2361 : BitVec 1 := Scalar.cmpi .slt v2357 c0_i32_1792
  let v2362 : BitVec 32 := Scalar.extui v2361
  let v2363 : BitVec 32 := Scalar.subi v2360 v2362
  let c64_i32_1790 : BitVec 32 := 64#32
  let c0_i32_1793 : BitVec 32 := 0#32
  let v2364 : BitVec 1 := Scalar.cmpi .sgt c64_i32_1790 c0_i32_1793
  let v2365 : BitVec 32 := Scalar.extui v2364
  let c0_i32_1794 : BitVec 32 := 0#32
  let v2366 : BitVec 1 := Scalar.cmpi .slt c64_i32_1790 c0_i32_1794
  let v2367 : BitVec 32 := Scalar.extui v2366
  let v2368 : BitVec 32 := Scalar.subi v2365 v2367
  let v2369 : BitVec 1 := Scalar.cmpi .ne v2363 v2368
  let v2370 : BitVec 32 := Scalar.remsi v2357 c64_i32_1790
  let c0_i32_1795 : BitVec 32 := 0#32
  let v2371 : BitVec 1 := Scalar.cmpi .ne v2370 c0_i32_1795
  let v2372 : BitVec 1 := Scalar.andi v2369 v2371
  let v2358 : BitVec 32 := Scalar.divsi v2357 c64_i32_1790
  let c1_i32_1796 : BitVec 32 := 1#32
  let v2373 : BitVec 32 := Scalar.subi v2358 c1_i32_1796
  let v2374 : BitVec 32 := Scalar.select v2372 v2373 v2358
  let c16_i32 : BitVec 32 := 16#32
  let v2375 : BitVec 32 := Scalar.muli arg17 c16_i32
  let v2376 : BitVec 32 := Scalar.subi v2374 v2375
  let c16_i32_1797 : BitVec 32 := 16#32
  let v2377 : BitVec 32 := Scalar.minsi v2376 c16_i32_1797
  ![v2377.toNat, 256, 128]
def k0_off6 (arg18 : BitVec 32) : Fin 1 → Nat :=
  ![arg18.toNat]
def k0_cond3 (arg16 : BitVec 32) : BitVec 1 :=
  let c1_i32_1800 : BitVec 32 := 1#32
  let v2381 : BitVec 1 := Scalar.cmpi .eq arg16 c1_i32_1800
  let v2382 : BitVec 32 := Scalar.extui v2381
  let c0_i32_1801 : BitVec 32 := 0#32
  let v2383 : BitVec 1 := Scalar.cmpi .ne v2382 c0_i32_1801
  v2383

def k0_chk2 (arg15 : BitVec 32) (arg16 : BitVec 32) (arg18 : BitVec 32) : Prop :=
  (∀ (k0_h1 : k0_cond1 arg15 = 1#1), ∀ (k0_h2 : k0_cond2 arg16 = 1#1), ∀ a, (k0_off3 arg18) a + S1.size a ≤ S24.size a) ∧
  (∀ (k0_h1 : k0_cond1 arg15 = 1#1), ∀ (k0_h3 : k0_cond3 arg16 = 1#1), ∀ a, (k0_off6 arg18) a + S1.size a ≤ S24.size a)
theorem k0_off3_inb : ∀ (arg15 : BitVec 32) (arg16 : BitVec 32) (arg18 : BitVec 32) (k0_hw2 : k0_chk2 arg15 arg16 arg18), ∀ (k0_h1 : k0_cond1 arg15 = 1#1), ∀ (k0_h2 : k0_cond2 arg16 = 1#1), ∀ a, (k0_off3 arg18) a + S1.size a ≤ S24.size a := fun arg15 arg16 arg18 k0_hw2 k0_h1 k0_h2 => k0_hw2.1 k0_h1 k0_h2
theorem k0_off6_inb : ∀ (arg15 : BitVec 32) (arg16 : BitVec 32) (arg18 : BitVec 32) (k0_hw2 : k0_chk2 arg15 arg16 arg18), ∀ (k0_h1 : k0_cond1 arg15 = 1#1), ∀ (k0_h3 : k0_cond3 arg16 = 1#1), ∀ a, (k0_off6 arg18) a + S1.size a ≤ S24.size a := fun arg15 arg16 arg18 k0_hw2 k0_h1 k0_h3 => k0_hw2.2 k0_h1 k0_h3

def k0_off7 (arg17 : BitVec 32) (arg18 : BitVec 32) (v2356 : BitVec 32) : (Fin 4 → Nat) × (Fin 4 → Nat) :=
  let c0_i32_1814 : BitVec 32 := 0#32
  let c0_i32_1815 : BitVec 32 := 0#32
  let c0_i32_1816 : BitVec 32 := 0#32
  let c63_i32 : BitVec 32 := 63#32
  let v2357 : BitVec 32 := Scalar.addi v2356 c63_i32
  let c0_i32_1791 : BitVec 32 := 0#32
  let v2359 : BitVec 1 := Scalar.cmpi .sgt v2357 c0_i32_1791
  let v2360 : BitVec 32 := Scalar.extui v2359
  let c0_i32_1792 : BitVec 32 := 0#32
  let v2361 : BitVec 1 := Scalar.cmpi .slt v2357 c0_i32_1792
  let v2362 : BitVec 32 := Scalar.extui v2361
  let v2363 : BitVec 32 := Scalar.subi v2360 v2362
  let c64_i32_1790 : BitVec 32 := 64#32
  let c0_i32_1793 : BitVec 32 := 0#32
  let v2364 : BitVec 1 := Scalar.cmpi .sgt c64_i32_1790 c0_i32_1793
  let v2365 : BitVec 32 := Scalar.extui v2364
  let c0_i32_1794 : BitVec 32 := 0#32
  let v2366 : BitVec 1 := Scalar.cmpi .slt c64_i32_1790 c0_i32_1794
  let v2367 : BitVec 32 := Scalar.extui v2366
  let v2368 : BitVec 32 := Scalar.subi v2365 v2367
  let v2369 : BitVec 1 := Scalar.cmpi .ne v2363 v2368
  let v2370 : BitVec 32 := Scalar.remsi v2357 c64_i32_1790
  let c0_i32_1795 : BitVec 32 := 0#32
  let v2371 : BitVec 1 := Scalar.cmpi .ne v2370 c0_i32_1795
  let v2372 : BitVec 1 := Scalar.andi v2369 v2371
  let v2358 : BitVec 32 := Scalar.divsi v2357 c64_i32_1790
  let c1_i32_1796 : BitVec 32 := 1#32
  let v2373 : BitVec 32 := Scalar.subi v2358 c1_i32_1796
  let v2374 : BitVec 32 := Scalar.select v2372 v2373 v2358
  let c16_i32 : BitVec 32 := 16#32
  let v2375 : BitVec 32 := Scalar.muli arg17 c16_i32
  let v2376 : BitVec 32 := Scalar.subi v2374 v2375
  let c16_i32_1797 : BitVec 32 := 16#32
  let v2377 : BitVec 32 := Scalar.minsi v2376 c16_i32_1797
  ⟨![arg18.toNat, 0, 0, 0], ![1, v2377.toNat, 256, 128]⟩
def k0_sz3 (arg17 : BitVec 32) (v2356 : BitVec 32) : Fin 3 → Nat :=
  let c63_i32 : BitVec 32 := 63#32
  let v2357 : BitVec 32 := Scalar.addi v2356 c63_i32
  let c0_i32_1791 : BitVec 32 := 0#32
  let v2359 : BitVec 1 := Scalar.cmpi .sgt v2357 c0_i32_1791
  let v2360 : BitVec 32 := Scalar.extui v2359
  let c0_i32_1792 : BitVec 32 := 0#32
  let v2361 : BitVec 1 := Scalar.cmpi .slt v2357 c0_i32_1792
  let v2362 : BitVec 32 := Scalar.extui v2361
  let v2363 : BitVec 32 := Scalar.subi v2360 v2362
  let c64_i32_1790 : BitVec 32 := 64#32
  let c0_i32_1793 : BitVec 32 := 0#32
  let v2364 : BitVec 1 := Scalar.cmpi .sgt c64_i32_1790 c0_i32_1793
  let v2365 : BitVec 32 := Scalar.extui v2364
  let c0_i32_1794 : BitVec 32 := 0#32
  let v2366 : BitVec 1 := Scalar.cmpi .slt c64_i32_1790 c0_i32_1794
  let v2367 : BitVec 32 := Scalar.extui v2366
  let v2368 : BitVec 32 := Scalar.subi v2365 v2367
  let v2369 : BitVec 1 := Scalar.cmpi .ne v2363 v2368
  let v2370 : BitVec 32 := Scalar.remsi v2357 c64_i32_1790
  let c0_i32_1795 : BitVec 32 := 0#32
  let v2371 : BitVec 1 := Scalar.cmpi .ne v2370 c0_i32_1795
  let v2372 : BitVec 1 := Scalar.andi v2369 v2371
  let v2358 : BitVec 32 := Scalar.divsi v2357 c64_i32_1790
  let c1_i32_1796 : BitVec 32 := 1#32
  let v2373 : BitVec 32 := Scalar.subi v2358 c1_i32_1796
  let v2374 : BitVec 32 := Scalar.select v2372 v2373 v2358
  let c16_i32 : BitVec 32 := 16#32
  let v2375 : BitVec 32 := Scalar.muli arg17 c16_i32
  let v2376 : BitVec 32 := Scalar.subi v2374 v2375
  let c16_i32_1797 : BitVec 32 := 16#32
  let v2377 : BitVec 32 := Scalar.minsi v2376 c16_i32_1797
  ![v2377.toNat, 256, 128]
def k0_off8 (arg15 : BitVec 32) (arg17 : BitVec 32) (v2356 : BitVec 32) : (Fin 4 → Nat) × (Fin 4 → Nat) :=
  let c16_i32_1813 : BitVec 32 := 16#32
  let v2399 : BitVec 32 := Scalar.muli arg17 c16_i32_1813
  let c0_i32_1817 : BitVec 32 := 0#32
  let c0_i32_1818 : BitVec 32 := 0#32
  let c63_i32 : BitVec 32 := 63#32
  let v2357 : BitVec 32 := Scalar.addi v2356 c63_i32
  let c0_i32_1791 : BitVec 32 := 0#32
  let v2359 : BitVec 1 := Scalar.cmpi .sgt v2357 c0_i32_1791
  let v2360 : BitVec 32 := Scalar.extui v2359
  let c0_i32_1792 : BitVec 32 := 0#32
  let v2361 : BitVec 1 := Scalar.cmpi .slt v2357 c0_i32_1792
  let v2362 : BitVec 32 := Scalar.extui v2361
  let v2363 : BitVec 32 := Scalar.subi v2360 v2362
  let c64_i32_1790 : BitVec 32 := 64#32
  let c0_i32_1793 : BitVec 32 := 0#32
  let v2364 : BitVec 1 := Scalar.cmpi .sgt c64_i32_1790 c0_i32_1793
  let v2365 : BitVec 32 := Scalar.extui v2364
  let c0_i32_1794 : BitVec 32 := 0#32
  let v2366 : BitVec 1 := Scalar.cmpi .slt c64_i32_1790 c0_i32_1794
  let v2367 : BitVec 32 := Scalar.extui v2366
  let v2368 : BitVec 32 := Scalar.subi v2365 v2367
  let v2369 : BitVec 1 := Scalar.cmpi .ne v2363 v2368
  let v2370 : BitVec 32 := Scalar.remsi v2357 c64_i32_1790
  let c0_i32_1795 : BitVec 32 := 0#32
  let v2371 : BitVec 1 := Scalar.cmpi .ne v2370 c0_i32_1795
  let v2372 : BitVec 1 := Scalar.andi v2369 v2371
  let v2358 : BitVec 32 := Scalar.divsi v2357 c64_i32_1790
  let c1_i32_1796 : BitVec 32 := 1#32
  let v2373 : BitVec 32 := Scalar.subi v2358 c1_i32_1796
  let v2374 : BitVec 32 := Scalar.select v2372 v2373 v2358
  let c16_i32 : BitVec 32 := 16#32
  let v2375 : BitVec 32 := Scalar.muli arg17 c16_i32
  let v2376 : BitVec 32 := Scalar.subi v2374 v2375
  let c16_i32_1797 : BitVec 32 := 16#32
  let v2377 : BitVec 32 := Scalar.minsi v2376 c16_i32_1797
  ⟨![arg15.toNat, v2399.toNat, 0, 0], ![1, v2377.toNat, 256, 128]⟩
def k0_sz4 (arg17 : BitVec 32) (v2356 : BitVec 32) : Fin 3 → Nat :=
  let c63_i32 : BitVec 32 := 63#32
  let v2357 : BitVec 32 := Scalar.addi v2356 c63_i32
  let c0_i32_1791 : BitVec 32 := 0#32
  let v2359 : BitVec 1 := Scalar.cmpi .sgt v2357 c0_i32_1791
  let v2360 : BitVec 32 := Scalar.extui v2359
  let c0_i32_1792 : BitVec 32 := 0#32
  let v2361 : BitVec 1 := Scalar.cmpi .slt v2357 c0_i32_1792
  let v2362 : BitVec 32 := Scalar.extui v2361
  let v2363 : BitVec 32 := Scalar.subi v2360 v2362
  let c64_i32_1790 : BitVec 32 := 64#32
  let c0_i32_1793 : BitVec 32 := 0#32
  let v2364 : BitVec 1 := Scalar.cmpi .sgt c64_i32_1790 c0_i32_1793
  let v2365 : BitVec 32 := Scalar.extui v2364
  let c0_i32_1794 : BitVec 32 := 0#32
  let v2366 : BitVec 1 := Scalar.cmpi .slt c64_i32_1790 c0_i32_1794
  let v2367 : BitVec 32 := Scalar.extui v2366
  let v2368 : BitVec 32 := Scalar.subi v2365 v2367
  let v2369 : BitVec 1 := Scalar.cmpi .ne v2363 v2368
  let v2370 : BitVec 32 := Scalar.remsi v2357 c64_i32_1790
  let c0_i32_1795 : BitVec 32 := 0#32
  let v2371 : BitVec 1 := Scalar.cmpi .ne v2370 c0_i32_1795
  let v2372 : BitVec 1 := Scalar.andi v2369 v2371
  let v2358 : BitVec 32 := Scalar.divsi v2357 c64_i32_1790
  let c1_i32_1796 : BitVec 32 := 1#32
  let v2373 : BitVec 32 := Scalar.subi v2358 c1_i32_1796
  let v2374 : BitVec 32 := Scalar.select v2372 v2373 v2358
  let c16_i32 : BitVec 32 := 16#32
  let v2375 : BitVec 32 := Scalar.muli arg17 c16_i32
  let v2376 : BitVec 32 := Scalar.subi v2374 v2375
  let c16_i32_1797 : BitVec 32 := 16#32
  let v2377 : BitVec 32 := Scalar.minsi v2376 c16_i32_1797
  ![v2377.toNat, 256, 128]

def k0_chk3 (arg15 : BitVec 32) (arg16 : BitVec 32) (arg17 : BitVec 32) (arg18 : BitVec 32) (v2356 : BitVec 32) : Prop :=
  (∀ (k0_h1 : k0_cond1 arg15 = 1#1), ∀ (k0_h2 : k0_cond2 arg16 = 1#1), ∀ a, (k0_off4 arg17 arg18 v2356).2 a = 0 ∨ (k0_off4 arg17 arg18 v2356).1 a + (k0_off4 arg17 arg18 v2356).2 a ≤ S24x16x256x128.size a) ∧
  (∀ (k0_h1 : k0_cond1 arg15 = 1#1), ∀ (k0_h2 : k0_cond2 arg16 = 1#1), (⟨4, (k0_off4 arg17 arg18 v2356).2⟩ : Shape).Squeezes ⟨3, k0_sz1 arg17 v2356⟩) ∧
  (∀ (k0_h1 : k0_cond1 arg15 = 1#1), ∀ (k0_h2 : k0_cond2 arg16 = 1#1), ∀ a, (k0_off5 arg15 arg17 v2356).2 a = 0 ∨ (k0_off5 arg15 arg17 v2356).1 a + (k0_off5 arg15 arg17 v2356).2 a ≤ S64x128x256x128.size a) ∧
  (∀ (k0_h1 : k0_cond1 arg15 = 1#1), ∀ (k0_h2 : k0_cond2 arg16 = 1#1), (⟨4, (k0_off5 arg15 arg17 v2356).2⟩ : Shape).Squeezes ⟨3, k0_sz2 arg17 v2356⟩) ∧
  (∀ (k0_h1 : k0_cond1 arg15 = 1#1), ∀ (k0_h2 : k0_cond2 arg16 = 1#1), ∀ (hinb : ∀ a, (k0_off5 arg15 arg17 v2356).2 a = 0 ∨ (k0_off5 arg15 arg17 v2356).1 a + (k0_off5 arg15 arg17 v2356).2 a ≤ S64x128x256x128.size a), (Rect.unitDyn (s := S64x128x256x128) (k0_off5 arg15 arg17 v2356).1 (k0_off5 arg15 arg17 v2356).2 hinb).WholeWords (EltTy.packing .fp8e4m3)) ∧
  (∀ (k0_h1 : k0_cond1 arg15 = 1#1), ∀ (k0_h2 : k0_cond2 arg16 = 1#1), ∀ (hinb : ∀ a, (k0_off4 arg17 arg18 v2356).2 a = 0 ∨ (k0_off4 arg17 arg18 v2356).1 a + (k0_off4 arg17 arg18 v2356).2 a ≤ S24x16x256x128.size a), (Rect.unitDyn (s := S24x16x256x128) (k0_off4 arg17 arg18 v2356).1 (k0_off4 arg17 arg18 v2356).2 hinb).WholeWords (EltTy.packing .fp8e4m3)) ∧
  (∀ (k0_h1 : k0_cond1 arg15 = 1#1), ∀ (k0_h3 : k0_cond3 arg16 = 1#1), ∀ a, (k0_off7 arg17 arg18 v2356).2 a = 0 ∨ (k0_off7 arg17 arg18 v2356).1 a + (k0_off7 arg17 arg18 v2356).2 a ≤ S24x16x256x128.size a) ∧
  (∀ (k0_h1 : k0_cond1 arg15 = 1#1), ∀ (k0_h3 : k0_cond3 arg16 = 1#1), (⟨4, (k0_off7 arg17 arg18 v2356).2⟩ : Shape).Squeezes ⟨3, k0_sz3 arg17 v2356⟩) ∧
  (∀ (k0_h1 : k0_cond1 arg15 = 1#1), ∀ (k0_h3 : k0_cond3 arg16 = 1#1), ∀ a, (k0_off8 arg15 arg17 v2356).2 a = 0 ∨ (k0_off8 arg15 arg17 v2356).1 a + (k0_off8 arg15 arg17 v2356).2 a ≤ S64x128x256x128.size a) ∧
  (∀ (k0_h1 : k0_cond1 arg15 = 1#1), ∀ (k0_h3 : k0_cond3 arg16 = 1#1), (⟨4, (k0_off8 arg15 arg17 v2356).2⟩ : Shape).Squeezes ⟨3, k0_sz4 arg17 v2356⟩) ∧
  (∀ (k0_h1 : k0_cond1 arg15 = 1#1), ∀ (k0_h3 : k0_cond3 arg16 = 1#1), ∀ (hinb : ∀ a, (k0_off8 arg15 arg17 v2356).2 a = 0 ∨ (k0_off8 arg15 arg17 v2356).1 a + (k0_off8 arg15 arg17 v2356).2 a ≤ S64x128x256x128.size a), (Rect.unitDyn (s := S64x128x256x128) (k0_off8 arg15 arg17 v2356).1 (k0_off8 arg15 arg17 v2356).2 hinb).WholeWords (EltTy.packing .fp8e4m3)) ∧
  (∀ (k0_h1 : k0_cond1 arg15 = 1#1), ∀ (k0_h3 : k0_cond3 arg16 = 1#1), ∀ (hinb : ∀ a, (k0_off7 arg17 arg18 v2356).2 a = 0 ∨ (k0_off7 arg17 arg18 v2356).1 a + (k0_off7 arg17 arg18 v2356).2 a ≤ S24x16x256x128.size a), (Rect.unitDyn (s := S24x16x256x128) (k0_off7 arg17 arg18 v2356).1 (k0_off7 arg17 arg18 v2356).2 hinb).WholeWords (EltTy.packing .fp8e4m3))
theorem k0_off4_inb : ∀ (arg15 : BitVec 32) (arg16 : BitVec 32) (arg17 : BitVec 32) (arg18 : BitVec 32) (v2356 : BitVec 32) (k0_hw3 : k0_chk3 arg15 arg16 arg17 arg18 v2356), ∀ (k0_h1 : k0_cond1 arg15 = 1#1), ∀ (k0_h2 : k0_cond2 arg16 = 1#1), ∀ a, (k0_off4 arg17 arg18 v2356).2 a = 0 ∨ (k0_off4 arg17 arg18 v2356).1 a + (k0_off4 arg17 arg18 v2356).2 a ≤ S24x16x256x128.size a := fun arg15 arg16 arg17 arg18 v2356 k0_hw3 k0_h1 k0_h2 => k0_hw3.1 k0_h1 k0_h2
theorem k0_sz1_squeezes : ∀ (arg15 : BitVec 32) (arg16 : BitVec 32) (arg17 : BitVec 32) (arg18 : BitVec 32) (v2356 : BitVec 32) (k0_hw3 : k0_chk3 arg15 arg16 arg17 arg18 v2356), ∀ (k0_h1 : k0_cond1 arg15 = 1#1), ∀ (k0_h2 : k0_cond2 arg16 = 1#1), (⟨4, (k0_off4 arg17 arg18 v2356).2⟩ : Shape).Squeezes ⟨3, k0_sz1 arg17 v2356⟩ := fun arg15 arg16 arg17 arg18 v2356 k0_hw3 k0_h1 k0_h2 => k0_hw3.2.1 k0_h1 k0_h2
theorem k0_off5_inb : ∀ (arg15 : BitVec 32) (arg16 : BitVec 32) (arg17 : BitVec 32) (arg18 : BitVec 32) (v2356 : BitVec 32) (k0_hw3 : k0_chk3 arg15 arg16 arg17 arg18 v2356), ∀ (k0_h1 : k0_cond1 arg15 = 1#1), ∀ (k0_h2 : k0_cond2 arg16 = 1#1), ∀ a, (k0_off5 arg15 arg17 v2356).2 a = 0 ∨ (k0_off5 arg15 arg17 v2356).1 a + (k0_off5 arg15 arg17 v2356).2 a ≤ S64x128x256x128.size a := fun arg15 arg16 arg17 arg18 v2356 k0_hw3 k0_h1 k0_h2 => k0_hw3.2.2.1 k0_h1 k0_h2
theorem k0_sz2_squeezes : ∀ (arg15 : BitVec 32) (arg16 : BitVec 32) (arg17 : BitVec 32) (arg18 : BitVec 32) (v2356 : BitVec 32) (k0_hw3 : k0_chk3 arg15 arg16 arg17 arg18 v2356), ∀ (k0_h1 : k0_cond1 arg15 = 1#1), ∀ (k0_h2 : k0_cond2 arg16 = 1#1), (⟨4, (k0_off5 arg15 arg17 v2356).2⟩ : Shape).Squeezes ⟨3, k0_sz2 arg17 v2356⟩ := fun arg15 arg16 arg17 arg18 v2356 k0_hw3 k0_h1 k0_h2 => k0_hw3.2.2.2.1 k0_h1 k0_h2
theorem k0_off5_wordsfp8e4m3 : ∀ (arg15 : BitVec 32) (arg16 : BitVec 32) (arg17 : BitVec 32) (arg18 : BitVec 32) (v2356 : BitVec 32) (k0_hw3 : k0_chk3 arg15 arg16 arg17 arg18 v2356), ∀ (k0_h1 : k0_cond1 arg15 = 1#1), ∀ (k0_h2 : k0_cond2 arg16 = 1#1), (Rect.unitDyn (s := S64x128x256x128) (k0_off5 arg15 arg17 v2356).1 (k0_off5 arg15 arg17 v2356).2 (k0_off5_inb arg15 arg16 arg17 arg18 v2356 k0_hw3 k0_h1 k0_h2)).WholeWords (EltTy.packing .fp8e4m3) := fun arg15 arg16 arg17 arg18 v2356 k0_hw3 k0_h1 k0_h2 => k0_hw3.2.2.2.2.1 k0_h1 k0_h2 (k0_off5_inb arg15 arg16 arg17 arg18 v2356 k0_hw3 k0_h1 k0_h2)
theorem k0_off4_wordsfp8e4m3 : ∀ (arg15 : BitVec 32) (arg16 : BitVec 32) (arg17 : BitVec 32) (arg18 : BitVec 32) (v2356 : BitVec 32) (k0_hw3 : k0_chk3 arg15 arg16 arg17 arg18 v2356), ∀ (k0_h1 : k0_cond1 arg15 = 1#1), ∀ (k0_h2 : k0_cond2 arg16 = 1#1), (Rect.unitDyn (s := S24x16x256x128) (k0_off4 arg17 arg18 v2356).1 (k0_off4 arg17 arg18 v2356).2 (k0_off4_inb arg15 arg16 arg17 arg18 v2356 k0_hw3 k0_h1 k0_h2)).WholeWords (EltTy.packing .fp8e4m3) := fun arg15 arg16 arg17 arg18 v2356 k0_hw3 k0_h1 k0_h2 => k0_hw3.2.2.2.2.2.1 k0_h1 k0_h2 (k0_off4_inb arg15 arg16 arg17 arg18 v2356 k0_hw3 k0_h1 k0_h2)
theorem k0_off7_inb : ∀ (arg15 : BitVec 32) (arg16 : BitVec 32) (arg17 : BitVec 32) (arg18 : BitVec 32) (v2356 : BitVec 32) (k0_hw3 : k0_chk3 arg15 arg16 arg17 arg18 v2356), ∀ (k0_h1 : k0_cond1 arg15 = 1#1), ∀ (k0_h3 : k0_cond3 arg16 = 1#1), ∀ a, (k0_off7 arg17 arg18 v2356).2 a = 0 ∨ (k0_off7 arg17 arg18 v2356).1 a + (k0_off7 arg17 arg18 v2356).2 a ≤ S24x16x256x128.size a := fun arg15 arg16 arg17 arg18 v2356 k0_hw3 k0_h1 k0_h3 => k0_hw3.2.2.2.2.2.2.1 k0_h1 k0_h3
theorem k0_sz3_squeezes : ∀ (arg15 : BitVec 32) (arg16 : BitVec 32) (arg17 : BitVec 32) (arg18 : BitVec 32) (v2356 : BitVec 32) (k0_hw3 : k0_chk3 arg15 arg16 arg17 arg18 v2356), ∀ (k0_h1 : k0_cond1 arg15 = 1#1), ∀ (k0_h3 : k0_cond3 arg16 = 1#1), (⟨4, (k0_off7 arg17 arg18 v2356).2⟩ : Shape).Squeezes ⟨3, k0_sz3 arg17 v2356⟩ := fun arg15 arg16 arg17 arg18 v2356 k0_hw3 k0_h1 k0_h3 => k0_hw3.2.2.2.2.2.2.2.1 k0_h1 k0_h3
theorem k0_off8_inb : ∀ (arg15 : BitVec 32) (arg16 : BitVec 32) (arg17 : BitVec 32) (arg18 : BitVec 32) (v2356 : BitVec 32) (k0_hw3 : k0_chk3 arg15 arg16 arg17 arg18 v2356), ∀ (k0_h1 : k0_cond1 arg15 = 1#1), ∀ (k0_h3 : k0_cond3 arg16 = 1#1), ∀ a, (k0_off8 arg15 arg17 v2356).2 a = 0 ∨ (k0_off8 arg15 arg17 v2356).1 a + (k0_off8 arg15 arg17 v2356).2 a ≤ S64x128x256x128.size a := fun arg15 arg16 arg17 arg18 v2356 k0_hw3 k0_h1 k0_h3 => k0_hw3.2.2.2.2.2.2.2.2.1 k0_h1 k0_h3
theorem k0_sz4_squeezes : ∀ (arg15 : BitVec 32) (arg16 : BitVec 32) (arg17 : BitVec 32) (arg18 : BitVec 32) (v2356 : BitVec 32) (k0_hw3 : k0_chk3 arg15 arg16 arg17 arg18 v2356), ∀ (k0_h1 : k0_cond1 arg15 = 1#1), ∀ (k0_h3 : k0_cond3 arg16 = 1#1), (⟨4, (k0_off8 arg15 arg17 v2356).2⟩ : Shape).Squeezes ⟨3, k0_sz4 arg17 v2356⟩ := fun arg15 arg16 arg17 arg18 v2356 k0_hw3 k0_h1 k0_h3 => k0_hw3.2.2.2.2.2.2.2.2.2.1 k0_h1 k0_h3
theorem k0_off8_wordsfp8e4m3 : ∀ (arg15 : BitVec 32) (arg16 : BitVec 32) (arg17 : BitVec 32) (arg18 : BitVec 32) (v2356 : BitVec 32) (k0_hw3 : k0_chk3 arg15 arg16 arg17 arg18 v2356), ∀ (k0_h1 : k0_cond1 arg15 = 1#1), ∀ (k0_h3 : k0_cond3 arg16 = 1#1), (Rect.unitDyn (s := S64x128x256x128) (k0_off8 arg15 arg17 v2356).1 (k0_off8 arg15 arg17 v2356).2 (k0_off8_inb arg15 arg16 arg17 arg18 v2356 k0_hw3 k0_h1 k0_h3)).WholeWords (EltTy.packing .fp8e4m3) := fun arg15 arg16 arg17 arg18 v2356 k0_hw3 k0_h1 k0_h3 => k0_hw3.2.2.2.2.2.2.2.2.2.2.1 k0_h1 k0_h3 (k0_off8_inb arg15 arg16 arg17 arg18 v2356 k0_hw3 k0_h1 k0_h3)
theorem k0_off7_wordsfp8e4m3 : ∀ (arg15 : BitVec 32) (arg16 : BitVec 32) (arg17 : BitVec 32) (arg18 : BitVec 32) (v2356 : BitVec 32) (k0_hw3 : k0_chk3 arg15 arg16 arg17 arg18 v2356), ∀ (k0_h1 : k0_cond1 arg15 = 1#1), ∀ (k0_h3 : k0_cond3 arg16 = 1#1), (Rect.unitDyn (s := S24x16x256x128) (k0_off7 arg17 arg18 v2356).1 (k0_off7 arg17 arg18 v2356).2 (k0_off7_inb arg15 arg16 arg17 arg18 v2356 k0_hw3 k0_h1 k0_h3)).WholeWords (EltTy.packing .fp8e4m3) := fun arg15 arg16 arg17 arg18 v2356 k0_hw3 k0_h1 k0_h3 => k0_hw3.2.2.2.2.2.2.2.2.2.2.2 k0_h1 k0_h3 (k0_off7_inb arg15 arg16 arg17 arg18 v2356 k0_hw3 k0_h1 k0_h3)

@[reducible] def k0_t3_loop : Scf.Loop 32 :=
  let c0_i32_761 : BitVec 32 := 0#32
  let c64_i32 : BitVec 32 := 64#32
  let v1581 : BitVec 32 := Scalar.addi c0_i32_761 c64_i32
  let c1_i32_762 : BitVec 32 := 1#32
  ⟨c0_i32_761, v1581, c1_i32_762⟩
def k0_off9 (k0_t3 : Fin k0_t3_loop.trips) : Fin 1 → Nat :=
  let c0_i32_761 : BitVec 32 := 0#32
  let c1_i32_762 : BitVec 32 := 1#32
  let arg14 : BitVec 32 := Scf.iv c0_i32_761 c1_i32_762 k0_t3
  let v2351 : Index := Scalar.indexCast arg14
  ![v2351.toNat]
def k0_mult1 (k0_t3 : Fin k0_t3_loop.trips) : BitVec 32 :=
  let c0_i32_761 : BitVec 32 := 0#32
  let c1_i32_762 : BitVec 32 := 1#32
  let arg14 : BitVec 32 := Scf.iv c0_i32_761 c1_i32_762 k0_t3
  let c32_i32 : BitVec 32 := 32#32
  let v2392 : BitVec 32 := Scalar.muli arg14 c32_i32
  v2392
def k0_off10 (k0_t3 : Fin k0_t3_loop.trips) : Fin 2 → Nat :=
  let c0_i32_761 : BitVec 32 := 0#32
  let c1_i32_762 : BitVec 32 := 1#32
  let arg14 : BitVec 32 := Scf.iv c0_i32_761 c1_i32_762 k0_t3
  let c32_i32 : BitVec 32 := 32#32
  let v2392 : BitVec 32 := Scalar.muli arg14 c32_i32
  let v2393 : BitVec 32 := v2392
  let v2394 : Index := Scalar.indexCast v2393
  let c0_1803 : Index := 0#32
  ![v2394.toNat, 0]
def k0_off11 (k0_t3 : Fin k0_t3_loop.trips) : Fin 3 → Nat :=
  let c0_i32_761 : BitVec 32 := 0#32
  let c1_i32_762 : BitVec 32 := 1#32
  let arg14 : BitVec 32 := Scf.iv c0_i32_761 c1_i32_762 k0_t3
  let v2401 : Index := Scalar.indexCast arg14
  let c0_1804 : Index := 0#32
  let c0_1805 : Index := 0#32
  ![v2401.toNat, 0, 0]
@[reducible] def k0_t4_loop (v2354 : BitVec 32) : Scf.Loop 32 :=
  let c0_i32_1814 : BitVec 32 := 0#32
  let c63_i32 : BitVec 32 := 63#32
  let v2355 : BitVec 32 := Scalar.addi v2354 c63_i32
  let c0_i32_1789 : BitVec 32 := 0#32
  let v2357 : BitVec 1 := Scalar.cmpi .sgt v2355 c0_i32_1789
  let v2358 : BitVec 32 := Scalar.extui v2357
  let c0_i32_1790 : BitVec 32 := 0#32
  let v2359 : BitVec 1 := Scalar.cmpi .slt v2355 c0_i32_1790
  let v2360 : BitVec 32 := Scalar.extui v2359
  let v2361 : BitVec 32 := Scalar.subi v2358 v2360
  let c64_i32_1788 : BitVec 32 := 64#32
  let c0_i32_1791 : BitVec 32 := 0#32
  let v2362 : BitVec 1 := Scalar.cmpi .sgt c64_i32_1788 c0_i32_1791
  let v2363 : BitVec 32 := Scalar.extui v2362
  let c0_i32_1792 : BitVec 32 := 0#32
  let v2364 : BitVec 1 := Scalar.cmpi .slt c64_i32_1788 c0_i32_1792
  let v2365 : BitVec 32 := Scalar.extui v2364
  let v2366 : BitVec 32 := Scalar.subi v2363 v2365
  let v2367 : BitVec 1 := Scalar.cmpi .ne v2361 v2366
  let v2368 : BitVec 32 := Scalar.remsi v2355 c64_i32_1788
  let c0_i32_1793 : BitVec 32 := 0#32
  let v2369 : BitVec 1 := Scalar.cmpi .ne v2368 c0_i32_1793
  let v2370 : BitVec 1 := Scalar.andi v2367 v2369
  let v2356 : BitVec 32 := Scalar.divsi v2355 c64_i32_1788
  let c1_i32_1794 : BitVec 32 := 1#32
  let v2371 : BitVec 32 := Scalar.subi v2356 c1_i32_1794
  let v2372 : BitVec 32 := Scalar.select v2370 v2371 v2356
  let c16_i32 : BitVec 32 := 16#32
  let v2373 : BitVec 32 := Scalar.addi v2372 c16_i32
  let c1_i32_1795 : BitVec 32 := 1#32
  let v2374 : BitVec 32 := Scalar.subi v2373 c1_i32_1795
  let c0_i32_1797 : BitVec 32 := 0#32
  let v2376 : BitVec 1 := Scalar.cmpi .sgt v2374 c0_i32_1797
  let v2377 : BitVec 32 := Scalar.extui v2376
  let c0_i32_1798 : BitVec 32 := 0#32
  let v2378 : BitVec 1 := Scalar.cmpi .slt v2374 c0_i32_1798
  let v2379 : BitVec 32 := Scalar.extui v2378
  let v2380 : BitVec 32 := Scalar.subi v2377 v2379
  let c16_i32_1796 : BitVec 32 := 16#32
  let c0_i32_1799 : BitVec 32 := 0#32
  let v2381 : BitVec 1 := Scalar.cmpi .sgt c16_i32_1796 c0_i32_1799
  let v2382 : BitVec 32 := Scalar.extui v2381
  let c0_i32_1800 : BitVec 32 := 0#32
  let v2383 : BitVec 1 := Scalar.cmpi .slt c16_i32_1796 c0_i32_1800
  let v2384 : BitVec 32 := Scalar.extui v2383
  let v2385 : BitVec 32 := Scalar.subi v2382 v2384
  let v2386 : BitVec 1 := Scalar.cmpi .ne v2380 v2385
  let v2387 : BitVec 32 := Scalar.remsi v2374 c16_i32_1796
  let c0_i32_1801 : BitVec 32 := 0#32
  let v2388 : BitVec 1 := Scalar.cmpi .ne v2387 c0_i32_1801
  let v2389 : BitVec 1 := Scalar.andi v2386 v2388
  let v2375 : BitVec 32 := Scalar.divsi v2374 c16_i32_1796
  let c1_i32_1802 : BitVec 32 := 1#32
  let v2390 : BitVec 32 := Scalar.subi v2375 c1_i32_1802
  let v2391 : BitVec 32 := Scalar.select v2389 v2390 v2375
  let v2420 : BitVec 32 := Scalar.subi v2391 c0_i32_1814
  let c1_i32_1815 : BitVec 32 := 1#32
  let v2422 : BitVec 32 := Scalar.divsi v2420 c1_i32_1815
  let v2423 : BitVec 32 := Scalar.muli v2422 c1_i32_1815
  let v2424 : BitVec 32 := Scalar.addi c0_i32_1814 v2423
  let c1_i32_1816 : BitVec 32 := 1#32
  ⟨c0_i32_1814, v2424, c1_i32_1816⟩

def k0_off12 (arg25 : BitVec 32) : Fin 1 → Nat :=
  ![arg25.toNat]

def k0_off13 (v2354 : BitVec 32) (k0_t4 : Fin (k0_t4_loop v2354).trips) (arg25 : BitVec 32) : (Fin 4 → Nat) × (Fin 4 → Nat) :=
  let c0_i32_1844 : BitVec 32 := 0#32
  let c0_i32_1845 : BitVec 32 := 0#32
  let c0_i32_1846 : BitVec 32 := 0#32
  let c63_i32 : BitVec 32 := 63#32
  let v2355 : BitVec 32 := Scalar.addi v2354 c63_i32
  let c0_i32_1789 : BitVec 32 := 0#32
  let v2357 : BitVec 1 := Scalar.cmpi .sgt v2355 c0_i32_1789
  let v2358 : BitVec 32 := Scalar.extui v2357
  let c0_i32_1790 : BitVec 32 := 0#32
  let v2359 : BitVec 1 := Scalar.cmpi .slt v2355 c0_i32_1790
  let v2360 : BitVec 32 := Scalar.extui v2359
  let v2361 : BitVec 32 := Scalar.subi v2358 v2360
  let c64_i32_1788 : BitVec 32 := 64#32
  let c0_i32_1791 : BitVec 32 := 0#32
  let v2362 : BitVec 1 := Scalar.cmpi .sgt c64_i32_1788 c0_i32_1791
  let v2363 : BitVec 32 := Scalar.extui v2362
  let c0_i32_1792 : BitVec 32 := 0#32
  let v2364 : BitVec 1 := Scalar.cmpi .slt c64_i32_1788 c0_i32_1792
  let v2365 : BitVec 32 := Scalar.extui v2364
  let v2366 : BitVec 32 := Scalar.subi v2363 v2365
  let v2367 : BitVec 1 := Scalar.cmpi .ne v2361 v2366
  let v2368 : BitVec 32 := Scalar.remsi v2355 c64_i32_1788
  let c0_i32_1793 : BitVec 32 := 0#32
  let v2369 : BitVec 1 := Scalar.cmpi .ne v2368 c0_i32_1793
  let v2370 : BitVec 1 := Scalar.andi v2367 v2369
  let v2356 : BitVec 32 := Scalar.divsi v2355 c64_i32_1788
  let c1_i32_1794 : BitVec 32 := 1#32
  let v2371 : BitVec 32 := Scalar.subi v2356 c1_i32_1794
  let v2372 : BitVec 32 := Scalar.select v2370 v2371 v2356
  let c0_i32_1814 : BitVec 32 := 0#32
  let c1_i32_1816 : BitVec 32 := 1#32
  let arg20 : BitVec 32 := Scf.iv c0_i32_1814 c1_i32_1816 k0_t4
  let c16_i32_1841 : BitVec 32 := 16#32
  let v2475 : BitVec 32 := Scalar.muli arg20 c16_i32_1841
  let v2476 : BitVec 32 := Scalar.subi v2372 v2475
  let c16_i32_1842 : BitVec 32 := 16#32
  let v2477 : BitVec 32 := Scalar.minsi v2476 c16_i32_1842
  ⟨![arg25.toNat, 0, 0, 0], ![1, v2477.toNat, 256, 128]⟩

def k0_sz5 (v2354 : BitVec 32) (k0_t4 : Fin (k0_t4_loop v2354).trips) : Fin 3 → Nat :=
  let c63_i32 : BitVec 32 := 63#32
  let v2355 : BitVec 32 := Scalar.addi v2354 c63_i32
  let c0_i32_1789 : BitVec 32 := 0#32
  let v2357 : BitVec 1 := Scalar.cmpi .sgt v2355 c0_i32_1789
  let v2358 : BitVec 32 := Scalar.extui v2357
  let c0_i32_1790 : BitVec 32 := 0#32
  let v2359 : BitVec 1 := Scalar.cmpi .slt v2355 c0_i32_1790
  let v2360 : BitVec 32 := Scalar.extui v2359
  let v2361 : BitVec 32 := Scalar.subi v2358 v2360
  let c64_i32_1788 : BitVec 32 := 64#32
  let c0_i32_1791 : BitVec 32 := 0#32
  let v2362 : BitVec 1 := Scalar.cmpi .sgt c64_i32_1788 c0_i32_1791
  let v2363 : BitVec 32 := Scalar.extui v2362
  let c0_i32_1792 : BitVec 32 := 0#32
  let v2364 : BitVec 1 := Scalar.cmpi .slt c64_i32_1788 c0_i32_1792
  let v2365 : BitVec 32 := Scalar.extui v2364
  let v2366 : BitVec 32 := Scalar.subi v2363 v2365
  let v2367 : BitVec 1 := Scalar.cmpi .ne v2361 v2366
  let v2368 : BitVec 32 := Scalar.remsi v2355 c64_i32_1788
  let c0_i32_1793 : BitVec 32 := 0#32
  let v2369 : BitVec 1 := Scalar.cmpi .ne v2368 c0_i32_1793
  let v2370 : BitVec 1 := Scalar.andi v2367 v2369
  let v2356 : BitVec 32 := Scalar.divsi v2355 c64_i32_1788
  let c1_i32_1794 : BitVec 32 := 1#32
  let v2371 : BitVec 32 := Scalar.subi v2356 c1_i32_1794
  let v2372 : BitVec 32 := Scalar.select v2370 v2371 v2356
  let c0_i32_1814 : BitVec 32 := 0#32
  let c1_i32_1816 : BitVec 32 := 1#32
  let arg20 : BitVec 32 := Scf.iv c0_i32_1814 c1_i32_1816 k0_t4
  let c16_i32_1841 : BitVec 32 := 16#32
  let v2475 : BitVec 32 := Scalar.muli arg20 c16_i32_1841
  let v2476 : BitVec 32 := Scalar.subi v2372 v2475
  let c16_i32_1842 : BitVec 32 := 16#32
  let v2477 : BitVec 32 := Scalar.minsi v2476 c16_i32_1842
  ![v2477.toNat, 256, 128]
def k0_off14 (k0_t3 : Fin k0_t3_loop.trips) (v2354 : BitVec 32) (k0_t4 : Fin (k0_t4_loop v2354).trips) : (Fin 4 → Nat) × (Fin 4 → Nat) :=
  let c0_i32_761 : BitVec 32 := 0#32
  let c1_i32_762 : BitVec 32 := 1#32
  let arg14 : BitVec 32 := Scf.iv c0_i32_761 c1_i32_762 k0_t3
  let c0_i32_1814 : BitVec 32 := 0#32
  let c1_i32_1816 : BitVec 32 := 1#32
  let arg20 : BitVec 32 := Scf.iv c0_i32_1814 c1_i32_1816 k0_t4
  let c16_i32_1843 : BitVec 32 := 16#32
  let v2478 : BitVec 32 := Scalar.muli arg20 c16_i32_1843
  let c0_i32_1847 : BitVec 32 := 0#32
  let c0_i32_1848 : BitVec 32 := 0#32
  let c63_i32 : BitVec 32 := 63#32
  let v2355 : BitVec 32 := Scalar.addi v2354 c63_i32
  let c0_i32_1789 : BitVec 32 := 0#32
  let v2357 : BitVec 1 := Scalar.cmpi .sgt v2355 c0_i32_1789
  let v2358 : BitVec 32 := Scalar.extui v2357
  let c0_i32_1790 : BitVec 32 := 0#32
  let v2359 : BitVec 1 := Scalar.cmpi .slt v2355 c0_i32_1790
  let v2360 : BitVec 32 := Scalar.extui v2359
  let v2361 : BitVec 32 := Scalar.subi v2358 v2360
  let c64_i32_1788 : BitVec 32 := 64#32
  let c0_i32_1791 : BitVec 32 := 0#32
  let v2362 : BitVec 1 := Scalar.cmpi .sgt c64_i32_1788 c0_i32_1791
  let v2363 : BitVec 32 := Scalar.extui v2362
  let c0_i32_1792 : BitVec 32 := 0#32
  let v2364 : BitVec 1 := Scalar.cmpi .slt c64_i32_1788 c0_i32_1792
  let v2365 : BitVec 32 := Scalar.extui v2364
  let v2366 : BitVec 32 := Scalar.subi v2363 v2365
  let v2367 : BitVec 1 := Scalar.cmpi .ne v2361 v2366
  let v2368 : BitVec 32 := Scalar.remsi v2355 c64_i32_1788
  let c0_i32_1793 : BitVec 32 := 0#32
  let v2369 : BitVec 1 := Scalar.cmpi .ne v2368 c0_i32_1793
  let v2370 : BitVec 1 := Scalar.andi v2367 v2369
  let v2356 : BitVec 32 := Scalar.divsi v2355 c64_i32_1788
  let c1_i32_1794 : BitVec 32 := 1#32
  let v2371 : BitVec 32 := Scalar.subi v2356 c1_i32_1794
  let v2372 : BitVec 32 := Scalar.select v2370 v2371 v2356
  let c16_i32_1841 : BitVec 32 := 16#32
  let v2475 : BitVec 32 := Scalar.muli arg20 c16_i32_1841
  let v2476 : BitVec 32 := Scalar.subi v2372 v2475
  let c16_i32_1842 : BitVec 32 := 16#32
  let v2477 : BitVec 32 := Scalar.minsi v2476 c16_i32_1842
  ⟨![arg14.toNat, v2478.toNat, 0, 0], ![1, v2477.toNat, 256, 128]⟩

def k0_sz6 (v2354 : BitVec 32) (k0_t4 : Fin (k0_t4_loop v2354).trips) : Fin 3 → Nat :=
  let c63_i32 : BitVec 32 := 63#32
  let v2355 : BitVec 32 := Scalar.addi v2354 c63_i32
  let c0_i32_1789 : BitVec 32 := 0#32
  let v2357 : BitVec 1 := Scalar.cmpi .sgt v2355 c0_i32_1789
  let v2358 : BitVec 32 := Scalar.extui v2357
  let c0_i32_1790 : BitVec 32 := 0#32
  let v2359 : BitVec 1 := Scalar.cmpi .slt v2355 c0_i32_1790
  let v2360 : BitVec 32 := Scalar.extui v2359
  let v2361 : BitVec 32 := Scalar.subi v2358 v2360
  let c64_i32_1788 : BitVec 32 := 64#32
  let c0_i32_1791 : BitVec 32 := 0#32
  let v2362 : BitVec 1 := Scalar.cmpi .sgt c64_i32_1788 c0_i32_1791
  let v2363 : BitVec 32 := Scalar.extui v2362
  let c0_i32_1792 : BitVec 32 := 0#32
  let v2364 : BitVec 1 := Scalar.cmpi .slt c64_i32_1788 c0_i32_1792
  let v2365 : BitVec 32 := Scalar.extui v2364
  let v2366 : BitVec 32 := Scalar.subi v2363 v2365
  let v2367 : BitVec 1 := Scalar.cmpi .ne v2361 v2366
  let v2368 : BitVec 32 := Scalar.remsi v2355 c64_i32_1788
  let c0_i32_1793 : BitVec 32 := 0#32
  let v2369 : BitVec 1 := Scalar.cmpi .ne v2368 c0_i32_1793
  let v2370 : BitVec 1 := Scalar.andi v2367 v2369
  let v2356 : BitVec 32 := Scalar.divsi v2355 c64_i32_1788
  let c1_i32_1794 : BitVec 32 := 1#32
  let v2371 : BitVec 32 := Scalar.subi v2356 c1_i32_1794
  let v2372 : BitVec 32 := Scalar.select v2370 v2371 v2356
  let c0_i32_1814 : BitVec 32 := 0#32
  let c1_i32_1816 : BitVec 32 := 1#32
  let arg20 : BitVec 32 := Scf.iv c0_i32_1814 c1_i32_1816 k0_t4
  let c16_i32_1841 : BitVec 32 := 16#32
  let v2475 : BitVec 32 := Scalar.muli arg20 c16_i32_1841
  let v2476 : BitVec 32 := Scalar.subi v2372 v2475
  let c16_i32_1842 : BitVec 32 := 16#32
  let v2477 : BitVec 32 := Scalar.minsi v2476 c16_i32_1842
  ![v2477.toNat, 256, 128]
def k0_off15 (arg25 : BitVec 32) : Fin 4 → Nat :=
  let v2485 : Index := Scalar.indexCast arg25
  let c0_1849 : Index := 0#32
  let c0_1850 : Index := 0#32
  let c0_1851 : Index := 0#32
  ![v2485.toNat, 0, 0, 0]
def k0_off16 (arg25 : BitVec 32) : Fin 4 → Nat :=
  let v2488 : Index := Scalar.indexCast arg25
  let c1_1852 : Index := 1#32
  let c0_1853 : Index := 0#32
  let c0_1854 : Index := 0#32
  ![v2488.toNat, 1, 0, 0]
def k0_off17 (v2354 : BitVec 32) (k0_t4 : Fin (k0_t4_loop v2354).trips) (c0_i32_1857 : BitVec 32) (c0_i32_1858 : BitVec 32) : Fin 2 → Nat :=
  let c0_i32_1814 : BitVec 32 := 0#32
  let c1_i32_1816 : BitVec 32 := 1#32
  let arg20 : BitVec 32 := Scf.iv c0_i32_1814 c1_i32_1816 k0_t4
  let c16_i32_1856 : BitVec 32 := 16#32
  let v2493 : BitVec 32 := Scalar.muli arg20 c16_i32_1856
  let v2494 : BitVec 32 := Scalar.addi v2493 c0_i32_1857
  let v2495 : BitVec 32 := Scalar.addi v2494 c0_i32_1858
  let v2496 : Index := Scalar.indexCast v2495
  let c0_1859 : Index := 0#32
  ![v2496.toNat, 0]
def k0_off18 (v2354 : BitVec 32) (k0_t4 : Fin (k0_t4_loop v2354).trips) (c0_i32_1857 : BitVec 32) (c0_i32_1858 : BitVec 32) (c0_i32_1865 : BitVec 32) : Fin 3 → Nat :=
  let c0_i32_1814 : BitVec 32 := 0#32
  let c1_i32_1816 : BitVec 32 := 1#32
  let arg20 : BitVec 32 := Scf.iv c0_i32_1814 c1_i32_1816 k0_t4
  let c16_i32_1856 : BitVec 32 := 16#32
  let v2493 : BitVec 32 := Scalar.muli arg20 c16_i32_1856
  let v2494 : BitVec 32 := Scalar.addi v2493 c0_i32_1857
  let v2495 : BitVec 32 := Scalar.addi v2494 c0_i32_1858
  let c2_i32_1864 : BitVec 32 := 2#32
  let v2520 : BitVec 32 := Scalar.muli v2495 c2_i32_1864
  let v2521 : BitVec 32 := Scalar.addi v2520 c0_i32_1865
  let v2522 : Index := Scalar.indexCast v2521
  let c0_1866 : Index := 0#32
  let c0_1867 : Index := 0#32
  ![v2522.toNat, 0, 0]
def k0_off19 (arg25 : BitVec 32) : Fin 4 → Nat :=
  let v2619 : Index := Scalar.indexCast arg25
  let c2_1902 : Index := 2#32
  let c0_1903 : Index := 0#32
  let c0_1904 : Index := 0#32
  ![v2619.toNat, 2, 0, 0]
def k0_off20 (arg25 : BitVec 32) : Fin 4 → Nat :=
  let v2622 : Index := Scalar.indexCast arg25
  let c3_1905 : Index := 3#32
  let c0_1906 : Index := 0#32
  let c0_1907 : Index := 0#32
  ![v2622.toNat, 3, 0, 0]
def k0_off21 (arg25 : BitVec 32) : Fin 4 → Nat :=
  let v2753 : Index := Scalar.indexCast arg25
  let c4_1957 : Index := 4#32
  let c0_1958 : Index := 0#32
  let c0_1959 : Index := 0#32
  ![v2753.toNat, 4, 0, 0]
def k0_off22 (arg25 : BitVec 32) : Fin 4 → Nat :=
  let v2756 : Index := Scalar.indexCast arg25
  let c5_1960 : Index := 5#32
  let c0_1961 : Index := 0#32
  let c0_1962 : Index := 0#32
  ![v2756.toNat, 5, 0, 0]
def k0_off23 (arg25 : BitVec 32) : Fin 4 → Nat :=
  let v2887 : Index := Scalar.indexCast arg25
  let c6_2012 : Index := 6#32
  let c0_2013 : Index := 0#32
  let c0_2014 : Index := 0#32
  ![v2887.toNat, 6, 0, 0]
def k0_off24 (arg25 : BitVec 32) : Fin 4 → Nat :=
  let v2890 : Index := Scalar.indexCast arg25
  let c7_2015 : Index := 7#32
  let c0_2016 : Index := 0#32
  let c0_2017 : Index := 0#32
  ![v2890.toNat, 7, 0, 0]
def k0_off25 (arg25 : BitVec 32) : Fin 4 → Nat :=
  let v3021 : Index := Scalar.indexCast arg25
  let c8_2066 : Index := 8#32
  let c0_2067 : Index := 0#32
  let c0_2068 : Index := 0#32
  ![v3021.toNat, 8, 0, 0]
def k0_off26 (arg25 : BitVec 32) : Fin 4 → Nat :=
  let v3024 : Index := Scalar.indexCast arg25
  let c9_2069 : Index := 9#32
  let c0_2070 : Index := 0#32
  let c0_2071 : Index := 0#32
  ![v3024.toNat, 9, 0, 0]
def k0_off27 (arg25 : BitVec 32) : Fin 4 → Nat :=
  let v3155 : Index := Scalar.indexCast arg25
  let c10_2121 : Index := 10#32
  let c0_2122 : Index := 0#32
  let c0_2123 : Index := 0#32
  ![v3155.toNat, 10, 0, 0]
def k0_off28 (arg25 : BitVec 32) : Fin 4 → Nat :=
  let v3158 : Index := Scalar.indexCast arg25
  let c11_2124 : Index := 11#32
  let c0_2125 : Index := 0#32
  let c0_2126 : Index := 0#32
  ![v3158.toNat, 11, 0, 0]
def k0_off29 (arg25 : BitVec 32) : Fin 4 → Nat :=
  let v3289 : Index := Scalar.indexCast arg25
  let c12_2175 : Index := 12#32
  let c0_2176 : Index := 0#32
  let c0_2177 : Index := 0#32
  ![v3289.toNat, 12, 0, 0]
def k0_off30 (arg25 : BitVec 32) : Fin 4 → Nat :=
  let v3292 : Index := Scalar.indexCast arg25
  let c13_2178 : Index := 13#32
  let c0_2179 : Index := 0#32
  let c0_2180 : Index := 0#32
  ![v3292.toNat, 13, 0, 0]
def k0_off31 (arg25 : BitVec 32) : Fin 4 → Nat :=
  let v3423 : Index := Scalar.indexCast arg25
  let c14_2229 : Index := 14#32
  let c0_2230 : Index := 0#32
  let c0_2231 : Index := 0#32
  ![v3423.toNat, 14, 0, 0]
def k0_off32 (arg25 : BitVec 32) : Fin 4 → Nat :=
  let v3426 : Index := Scalar.indexCast arg25
  let c15_2232 : Index := 15#32
  let c0_2233 : Index := 0#32
  let c0_2234 : Index := 0#32
  ![v3426.toNat, 15, 0, 0]

def k0_chk5 (v2354 : BitVec 32) (k0_t4 : Fin (k0_t4_loop v2354).trips) (arg25 : BitVec 32) : Prop :=
  (∀ a, (k0_off12 arg25) a + S1.size a ≤ S24.size a) ∧
  ((⟨4, (k0_off13 v2354 k0_t4 arg25).2⟩ : Shape).Squeezes ⟨3, k0_sz5 v2354 k0_t4⟩) ∧
  (∀ a, (k0_off15 arg25) a + S1x1x256x128.size a ≤ S24x16x256x128.size a) ∧
  (∀ a, (k0_off16 arg25) a + S1x1x256x128.size a ≤ S24x16x256x128.size a) ∧
  (∀ a, (k0_off19 arg25) a + S1x1x256x128.size a ≤ S24x16x256x128.size a) ∧
  (∀ a, (k0_off20 arg25) a + S1x1x256x128.size a ≤ S24x16x256x128.size a) ∧
  (∀ a, (k0_off21 arg25) a + S1x1x256x128.size a ≤ S24x16x256x128.size a) ∧
  (∀ a, (k0_off22 arg25) a + S1x1x256x128.size a ≤ S24x16x256x128.size a) ∧
  (∀ a, (k0_off23 arg25) a + S1x1x256x128.size a ≤ S24x16x256x128.size a) ∧
  (∀ a, (k0_off24 arg25) a + S1x1x256x128.size a ≤ S24x16x256x128.size a) ∧
  (∀ a, (k0_off25 arg25) a + S1x1x256x128.size a ≤ S24x16x256x128.size a) ∧
  (∀ a, (k0_off26 arg25) a + S1x1x256x128.size a ≤ S24x16x256x128.size a) ∧
  (∀ a, (k0_off27 arg25) a + S1x1x256x128.size a ≤ S24x16x256x128.size a) ∧
  (∀ a, (k0_off28 arg25) a + S1x1x256x128.size a ≤ S24x16x256x128.size a) ∧
  (∀ a, (k0_off29 arg25) a + S1x1x256x128.size a ≤ S24x16x256x128.size a) ∧
  (∀ a, (k0_off30 arg25) a + S1x1x256x128.size a ≤ S24x16x256x128.size a) ∧
  (∀ a, (k0_off31 arg25) a + S1x1x256x128.size a ≤ S24x16x256x128.size a) ∧
  (∀ a, (k0_off32 arg25) a + S1x1x256x128.size a ≤ S24x16x256x128.size a)
theorem k0_off12_inb : ∀ (v2354 : BitVec 32) (k0_t4 : Fin (k0_t4_loop v2354).trips) (arg25 : BitVec 32) (k0_hw5 : k0_chk5 v2354 k0_t4 arg25), ∀ a, (k0_off12 arg25) a + S1.size a ≤ S24.size a := fun v2354 k0_t4 arg25 k0_hw5 => k0_hw5.1
theorem k0_sz5_squeezes : ∀ (v2354 : BitVec 32) (k0_t4 : Fin (k0_t4_loop v2354).trips) (arg25 : BitVec 32) (k0_hw5 : k0_chk5 v2354 k0_t4 arg25), (⟨4, (k0_off13 v2354 k0_t4 arg25).2⟩ : Shape).Squeezes ⟨3, k0_sz5 v2354 k0_t4⟩ := fun v2354 k0_t4 arg25 k0_hw5 => k0_hw5.2.1
theorem k0_off15_inb : ∀ (v2354 : BitVec 32) (k0_t4 : Fin (k0_t4_loop v2354).trips) (arg25 : BitVec 32) (k0_hw5 : k0_chk5 v2354 k0_t4 arg25), ∀ a, (k0_off15 arg25) a + S1x1x256x128.size a ≤ S24x16x256x128.size a := fun v2354 k0_t4 arg25 k0_hw5 => k0_hw5.2.2.1
theorem k0_off16_inb : ∀ (v2354 : BitVec 32) (k0_t4 : Fin (k0_t4_loop v2354).trips) (arg25 : BitVec 32) (k0_hw5 : k0_chk5 v2354 k0_t4 arg25), ∀ a, (k0_off16 arg25) a + S1x1x256x128.size a ≤ S24x16x256x128.size a := fun v2354 k0_t4 arg25 k0_hw5 => k0_hw5.2.2.2.1
theorem k0_off19_inb : ∀ (v2354 : BitVec 32) (k0_t4 : Fin (k0_t4_loop v2354).trips) (arg25 : BitVec 32) (k0_hw5 : k0_chk5 v2354 k0_t4 arg25), ∀ a, (k0_off19 arg25) a + S1x1x256x128.size a ≤ S24x16x256x128.size a := fun v2354 k0_t4 arg25 k0_hw5 => k0_hw5.2.2.2.2.1
theorem k0_off20_inb : ∀ (v2354 : BitVec 32) (k0_t4 : Fin (k0_t4_loop v2354).trips) (arg25 : BitVec 32) (k0_hw5 : k0_chk5 v2354 k0_t4 arg25), ∀ a, (k0_off20 arg25) a + S1x1x256x128.size a ≤ S24x16x256x128.size a := fun v2354 k0_t4 arg25 k0_hw5 => k0_hw5.2.2.2.2.2.1
theorem k0_off21_inb : ∀ (v2354 : BitVec 32) (k0_t4 : Fin (k0_t4_loop v2354).trips) (arg25 : BitVec 32) (k0_hw5 : k0_chk5 v2354 k0_t4 arg25), ∀ a, (k0_off21 arg25) a + S1x1x256x128.size a ≤ S24x16x256x128.size a := fun v2354 k0_t4 arg25 k0_hw5 => k0_hw5.2.2.2.2.2.2.1
theorem k0_off22_inb : ∀ (v2354 : BitVec 32) (k0_t4 : Fin (k0_t4_loop v2354).trips) (arg25 : BitVec 32) (k0_hw5 : k0_chk5 v2354 k0_t4 arg25), ∀ a, (k0_off22 arg25) a + S1x1x256x128.size a ≤ S24x16x256x128.size a := fun v2354 k0_t4 arg25 k0_hw5 => k0_hw5.2.2.2.2.2.2.2.1
theorem k0_off23_inb : ∀ (v2354 : BitVec 32) (k0_t4 : Fin (k0_t4_loop v2354).trips) (arg25 : BitVec 32) (k0_hw5 : k0_chk5 v2354 k0_t4 arg25), ∀ a, (k0_off23 arg25) a + S1x1x256x128.size a ≤ S24x16x256x128.size a := fun v2354 k0_t4 arg25 k0_hw5 => k0_hw5.2.2.2.2.2.2.2.2.1
theorem k0_off24_inb : ∀ (v2354 : BitVec 32) (k0_t4 : Fin (k0_t4_loop v2354).trips) (arg25 : BitVec 32) (k0_hw5 : k0_chk5 v2354 k0_t4 arg25), ∀ a, (k0_off24 arg25) a + S1x1x256x128.size a ≤ S24x16x256x128.size a := fun v2354 k0_t4 arg25 k0_hw5 => k0_hw5.2.2.2.2.2.2.2.2.2.1
theorem k0_off25_inb : ∀ (v2354 : BitVec 32) (k0_t4 : Fin (k0_t4_loop v2354).trips) (arg25 : BitVec 32) (k0_hw5 : k0_chk5 v2354 k0_t4 arg25), ∀ a, (k0_off25 arg25) a + S1x1x256x128.size a ≤ S24x16x256x128.size a := fun v2354 k0_t4 arg25 k0_hw5 => k0_hw5.2.2.2.2.2.2.2.2.2.2.1
theorem k0_off26_inb : ∀ (v2354 : BitVec 32) (k0_t4 : Fin (k0_t4_loop v2354).trips) (arg25 : BitVec 32) (k0_hw5 : k0_chk5 v2354 k0_t4 arg25), ∀ a, (k0_off26 arg25) a + S1x1x256x128.size a ≤ S24x16x256x128.size a := fun v2354 k0_t4 arg25 k0_hw5 => k0_hw5.2.2.2.2.2.2.2.2.2.2.2.1
theorem k0_off27_inb : ∀ (v2354 : BitVec 32) (k0_t4 : Fin (k0_t4_loop v2354).trips) (arg25 : BitVec 32) (k0_hw5 : k0_chk5 v2354 k0_t4 arg25), ∀ a, (k0_off27 arg25) a + S1x1x256x128.size a ≤ S24x16x256x128.size a := fun v2354 k0_t4 arg25 k0_hw5 => k0_hw5.2.2.2.2.2.2.2.2.2.2.2.2.1
theorem k0_off28_inb : ∀ (v2354 : BitVec 32) (k0_t4 : Fin (k0_t4_loop v2354).trips) (arg25 : BitVec 32) (k0_hw5 : k0_chk5 v2354 k0_t4 arg25), ∀ a, (k0_off28 arg25) a + S1x1x256x128.size a ≤ S24x16x256x128.size a := fun v2354 k0_t4 arg25 k0_hw5 => k0_hw5.2.2.2.2.2.2.2.2.2.2.2.2.2.1
theorem k0_off29_inb : ∀ (v2354 : BitVec 32) (k0_t4 : Fin (k0_t4_loop v2354).trips) (arg25 : BitVec 32) (k0_hw5 : k0_chk5 v2354 k0_t4 arg25), ∀ a, (k0_off29 arg25) a + S1x1x256x128.size a ≤ S24x16x256x128.size a := fun v2354 k0_t4 arg25 k0_hw5 => k0_hw5.2.2.2.2.2.2.2.2.2.2.2.2.2.2.1
theorem k0_off30_inb : ∀ (v2354 : BitVec 32) (k0_t4 : Fin (k0_t4_loop v2354).trips) (arg25 : BitVec 32) (k0_hw5 : k0_chk5 v2354 k0_t4 arg25), ∀ a, (k0_off30 arg25) a + S1x1x256x128.size a ≤ S24x16x256x128.size a := fun v2354 k0_t4 arg25 k0_hw5 => k0_hw5.2.2.2.2.2.2.2.2.2.2.2.2.2.2.2.1
theorem k0_off31_inb : ∀ (v2354 : BitVec 32) (k0_t4 : Fin (k0_t4_loop v2354).trips) (arg25 : BitVec 32) (k0_hw5 : k0_chk5 v2354 k0_t4 arg25), ∀ a, (k0_off31 arg25) a + S1x1x256x128.size a ≤ S24x16x256x128.size a := fun v2354 k0_t4 arg25 k0_hw5 => k0_hw5.2.2.2.2.2.2.2.2.2.2.2.2.2.2.2.2.1
theorem k0_off32_inb : ∀ (v2354 : BitVec 32) (k0_t4 : Fin (k0_t4_loop v2354).trips) (arg25 : BitVec 32) (k0_hw5 : k0_chk5 v2354 k0_t4 arg25), ∀ a, (k0_off32 arg25) a + S1x1x256x128.size a ≤ S24x16x256x128.size a := fun v2354 k0_t4 arg25 k0_hw5 => k0_hw5.2.2.2.2.2.2.2.2.2.2.2.2.2.2.2.2.2

def k0_off33 (arg21 : BitVec 32) : Fin 1 → Nat :=
  let v3565 : Index := Scalar.indexCast arg21
  ![v3565.toNat]
def k0_cond4 (arg21 : BitVec 32) : BitVec 1 :=
  let c64_i32_2283 : BitVec 32 := 64#32
  let v3557 : BitVec 1 := Scalar.cmpi .slt arg21 c64_i32_2283
  let v3558 : BitVec 32 := Scalar.extui v3557
  let c0_i32_2284 : BitVec 32 := 0#32
  let v3559 : BitVec 1 := Scalar.cmpi .ne v3558 c0_i32_2284
  v3559

def k0_chk6 (arg21 : BitVec 32) : Prop :=
  (∀ (k0_h4 : k0_cond4 arg21 = 1#1), ∀ a, (k0_off33 arg21) a + S1.size a ≤ S64.size a)
theorem k0_off33_inb : ∀ (arg21 : BitVec 32) (k0_hw6 : k0_chk6 arg21), ∀ (k0_h4 : k0_cond4 arg21 = 1#1), ∀ a, (k0_off33 arg21) a + S1.size a ≤ S64.size a := fun arg21 k0_hw6 k0_h4 => k0_hw6 k0_h4

def k0_off34 (arg24 : BitVec 32) : Fin 1 → Nat :=
  ![arg24.toNat]
def k0_cond5 (arg22 : BitVec 32) : BitVec 1 :=
  let c0_i32_2299 : BitVec 32 := 0#32
  let v3588 : BitVec 1 := Scalar.cmpi .eq arg22 c0_i32_2299
  let v3589 : BitVec 32 := Scalar.extui v3588
  let c0_i32_2300 : BitVec 32 := 0#32
  let v3590 : BitVec 1 := Scalar.cmpi .ne v3589 c0_i32_2300
  v3590

def k0_off35 (arg23 : BitVec 32) (arg24 : BitVec 32) (v3566 : BitVec 32) : (Fin 4 → Nat) × (Fin 4 → Nat) :=
  let c0_i32_2315 : BitVec 32 := 0#32
  let c0_i32_2316 : BitVec 32 := 0#32
  let c0_i32_2317 : BitVec 32 := 0#32
  let c63_i32_2289 : BitVec 32 := 63#32
  let v3567 : BitVec 32 := Scalar.addi v3566 c63_i32_2289
  let c0_i32_2291 : BitVec 32 := 0#32
  let v3569 : BitVec 1 := Scalar.cmpi .sgt v3567 c0_i32_2291
  let v3570 : BitVec 32 := Scalar.extui v3569
  let c0_i32_2292 : BitVec 32 := 0#32
  let v3571 : BitVec 1 := Scalar.cmpi .slt v3567 c0_i32_2292
  let v3572 : BitVec 32 := Scalar.extui v3571
  let v3573 : BitVec 32 := Scalar.subi v3570 v3572
  let c64_i32_2290 : BitVec 32 := 64#32
  let c0_i32_2293 : BitVec 32 := 0#32
  let v3574 : BitVec 1 := Scalar.cmpi .sgt c64_i32_2290 c0_i32_2293
  let v3575 : BitVec 32 := Scalar.extui v3574
  let c0_i32_2294 : BitVec 32 := 0#32
  let v3576 : BitVec 1 := Scalar.cmpi .slt c64_i32_2290 c0_i32_2294
  let v3577 : BitVec 32 := Scalar.extui v3576
  let v3578 : BitVec 32 := Scalar.subi v3575 v3577
  let v3579 : BitVec 1 := Scalar.cmpi .ne v3573 v3578
  let v3580 : BitVec 32 := Scalar.remsi v3567 c64_i32_2290
  let c0_i32_2295 : BitVec 32 := 0#32
  let v3581 : BitVec 1 := Scalar.cmpi .ne v3580 c0_i32_2295
  let v3582 : BitVec 1 := Scalar.andi v3579 v3581
  let v3568 : BitVec 32 := Scalar.divsi v3567 c64_i32_2290
  let c1_i32_2296 : BitVec 32 := 1#32
  let v3583 : BitVec 32 := Scalar.subi v3568 c1_i32_2296
  let v3584 : BitVec 32 := Scalar.select v3582 v3583 v3568
  let c16_i32_2297 : BitVec 32 := 16#32
  let v3585 : BitVec 32 := Scalar.muli arg23 c16_i32_2297
  let v3586 : BitVec 32 := Scalar.subi v3584 v3585
  let c16_i32_2298 : BitVec 32 := 16#32
  let v3587 : BitVec 32 := Scalar.minsi v3586 c16_i32_2298
  ⟨![arg24.toNat, 0, 0, 0], ![1, v3587.toNat, 256, 128]⟩

def k0_sz7 (arg23 : BitVec 32) (v3566 : BitVec 32) : Fin 3 → Nat :=
  let c63_i32_2289 : BitVec 32 := 63#32
  let v3567 : BitVec 32 := Scalar.addi v3566 c63_i32_2289
  let c0_i32_2291 : BitVec 32 := 0#32
  let v3569 : BitVec 1 := Scalar.cmpi .sgt v3567 c0_i32_2291
  let v3570 : BitVec 32 := Scalar.extui v3569
  let c0_i32_2292 : BitVec 32 := 0#32
  let v3571 : BitVec 1 := Scalar.cmpi .slt v3567 c0_i32_2292
  let v3572 : BitVec 32 := Scalar.extui v3571
  let v3573 : BitVec 32 := Scalar.subi v3570 v3572
  let c64_i32_2290 : BitVec 32 := 64#32
  let c0_i32_2293 : BitVec 32 := 0#32
  let v3574 : BitVec 1 := Scalar.cmpi .sgt c64_i32_2290 c0_i32_2293
  let v3575 : BitVec 32 := Scalar.extui v3574
  let c0_i32_2294 : BitVec 32 := 0#32
  let v3576 : BitVec 1 := Scalar.cmpi .slt c64_i32_2290 c0_i32_2294
  let v3577 : BitVec 32 := Scalar.extui v3576
  let v3578 : BitVec 32 := Scalar.subi v3575 v3577
  let v3579 : BitVec 1 := Scalar.cmpi .ne v3573 v3578
  let v3580 : BitVec 32 := Scalar.remsi v3567 c64_i32_2290
  let c0_i32_2295 : BitVec 32 := 0#32
  let v3581 : BitVec 1 := Scalar.cmpi .ne v3580 c0_i32_2295
  let v3582 : BitVec 1 := Scalar.andi v3579 v3581
  let v3568 : BitVec 32 := Scalar.divsi v3567 c64_i32_2290
  let c1_i32_2296 : BitVec 32 := 1#32
  let v3583 : BitVec 32 := Scalar.subi v3568 c1_i32_2296
  let v3584 : BitVec 32 := Scalar.select v3582 v3583 v3568
  let c16_i32_2297 : BitVec 32 := 16#32
  let v3585 : BitVec 32 := Scalar.muli arg23 c16_i32_2297
  let v3586 : BitVec 32 := Scalar.subi v3584 v3585
  let c16_i32_2298 : BitVec 32 := 16#32
  let v3587 : BitVec 32 := Scalar.minsi v3586 c16_i32_2298
  ![v3587.toNat, 256, 128]
def k0_off36 (arg21 : BitVec 32) (arg23 : BitVec 32) (v3566 : BitVec 32) : (Fin 4 → Nat) × (Fin 4 → Nat) :=
  let c16_i32_2314 : BitVec 32 := 16#32
  let v3609 : BitVec 32 := Scalar.muli arg23 c16_i32_2314
  let c0_i32_2318 : BitVec 32 := 0#32
  let c0_i32_2319 : BitVec 32 := 0#32
  let c63_i32_2289 : BitVec 32 := 63#32
  let v3567 : BitVec 32 := Scalar.addi v3566 c63_i32_2289
  let c0_i32_2291 : BitVec 32 := 0#32
  let v3569 : BitVec 1 := Scalar.cmpi .sgt v3567 c0_i32_2291
  let v3570 : BitVec 32 := Scalar.extui v3569
  let c0_i32_2292 : BitVec 32 := 0#32
  let v3571 : BitVec 1 := Scalar.cmpi .slt v3567 c0_i32_2292
  let v3572 : BitVec 32 := Scalar.extui v3571
  let v3573 : BitVec 32 := Scalar.subi v3570 v3572
  let c64_i32_2290 : BitVec 32 := 64#32
  let c0_i32_2293 : BitVec 32 := 0#32
  let v3574 : BitVec 1 := Scalar.cmpi .sgt c64_i32_2290 c0_i32_2293
  let v3575 : BitVec 32 := Scalar.extui v3574
  let c0_i32_2294 : BitVec 32 := 0#32
  let v3576 : BitVec 1 := Scalar.cmpi .slt c64_i32_2290 c0_i32_2294
  let v3577 : BitVec 32 := Scalar.extui v3576
  let v3578 : BitVec 32 := Scalar.subi v3575 v3577
  let v3579 : BitVec 1 := Scalar.cmpi .ne v3573 v3578
  let v3580 : BitVec 32 := Scalar.remsi v3567 c64_i32_2290
  let c0_i32_2295 : BitVec 32 := 0#32
  let v3581 : BitVec 1 := Scalar.cmpi .ne v3580 c0_i32_2295
  let v3582 : BitVec 1 := Scalar.andi v3579 v3581
  let v3568 : BitVec 32 := Scalar.divsi v3567 c64_i32_2290
  let c1_i32_2296 : BitVec 32 := 1#32
  let v3583 : BitVec 32 := Scalar.subi v3568 c1_i32_2296
  let v3584 : BitVec 32 := Scalar.select v3582 v3583 v3568
  let c16_i32_2297 : BitVec 32 := 16#32
  let v3585 : BitVec 32 := Scalar.muli arg23 c16_i32_2297
  let v3586 : BitVec 32 := Scalar.subi v3584 v3585
  let c16_i32_2298 : BitVec 32 := 16#32
  let v3587 : BitVec 32 := Scalar.minsi v3586 c16_i32_2298
  ⟨![arg21.toNat, v3609.toNat, 0, 0], ![1, v3587.toNat, 256, 128]⟩
def k0_sz8 (arg23 : BitVec 32) (v3566 : BitVec 32) : Fin 3 → Nat :=
  let c63_i32_2289 : BitVec 32 := 63#32
  let v3567 : BitVec 32 := Scalar.addi v3566 c63_i32_2289
  let c0_i32_2291 : BitVec 32 := 0#32
  let v3569 : BitVec 1 := Scalar.cmpi .sgt v3567 c0_i32_2291
  let v3570 : BitVec 32 := Scalar.extui v3569
  let c0_i32_2292 : BitVec 32 := 0#32
  let v3571 : BitVec 1 := Scalar.cmpi .slt v3567 c0_i32_2292
  let v3572 : BitVec 32 := Scalar.extui v3571
  let v3573 : BitVec 32 := Scalar.subi v3570 v3572
  let c64_i32_2290 : BitVec 32 := 64#32
  let c0_i32_2293 : BitVec 32 := 0#32
  let v3574 : BitVec 1 := Scalar.cmpi .sgt c64_i32_2290 c0_i32_2293
  let v3575 : BitVec 32 := Scalar.extui v3574
  let c0_i32_2294 : BitVec 32 := 0#32
  let v3576 : BitVec 1 := Scalar.cmpi .slt c64_i32_2290 c0_i32_2294
  let v3577 : BitVec 32 := Scalar.extui v3576
  let v3578 : BitVec 32 := Scalar.subi v3575 v3577
  let v3579 : BitVec 1 := Scalar.cmpi .ne v3573 v3578
  let v3580 : BitVec 32 := Scalar.remsi v3567 c64_i32_2290
  let c0_i32_2295 : BitVec 32 := 0#32
  let v3581 : BitVec 1 := Scalar.cmpi .ne v3580 c0_i32_2295
  let v3582 : BitVec 1 := Scalar.andi v3579 v3581
  let v3568 : BitVec 32 := Scalar.divsi v3567 c64_i32_2290
  let c1_i32_2296 : BitVec 32 := 1#32
  let v3583 : BitVec 32 := Scalar.subi v3568 c1_i32_2296
  let v3584 : BitVec 32 := Scalar.select v3582 v3583 v3568
  let c16_i32_2297 : BitVec 32 := 16#32
  let v3585 : BitVec 32 := Scalar.muli arg23 c16_i32_2297
  let v3586 : BitVec 32 := Scalar.subi v3584 v3585
  let c16_i32_2298 : BitVec 32 := 16#32
  let v3587 : BitVec 32 := Scalar.minsi v3586 c16_i32_2298
  ![v3587.toNat, 256, 128]
def k0_off37 (arg24 : BitVec 32) : Fin 1 → Nat :=
  ![arg24.toNat]
def k0_cond6 (arg22 : BitVec 32) : BitVec 1 :=
  let c1_i32_2301 : BitVec 32 := 1#32
  let v3591 : BitVec 1 := Scalar.cmpi .eq arg22 c1_i32_2301
  let v3592 : BitVec 32 := Scalar.extui v3591
  let c0_i32_2302 : BitVec 32 := 0#32
  let v3593 : BitVec 1 := Scalar.cmpi .ne v3592 c0_i32_2302
  v3593

def k0_chk7 (arg21 : BitVec 32) (arg22 : BitVec 32) (arg24 : BitVec 32) : Prop :=
  (∀ (k0_h4 : k0_cond4 arg21 = 1#1), ∀ (k0_h5 : k0_cond5 arg22 = 1#1), ∀ a, (k0_off34 arg24) a + S1.size a ≤ S24.size a) ∧
  (∀ (k0_h4 : k0_cond4 arg21 = 1#1), ∀ (k0_h6 : k0_cond6 arg22 = 1#1), ∀ a, (k0_off37 arg24) a + S1.size a ≤ S24.size a)
theorem k0_off34_inb : ∀ (arg21 : BitVec 32) (arg22 : BitVec 32) (arg24 : BitVec 32) (k0_hw7 : k0_chk7 arg21 arg22 arg24), ∀ (k0_h4 : k0_cond4 arg21 = 1#1), ∀ (k0_h5 : k0_cond5 arg22 = 1#1), ∀ a, (k0_off34 arg24) a + S1.size a ≤ S24.size a := fun arg21 arg22 arg24 k0_hw7 k0_h4 k0_h5 => k0_hw7.1 k0_h4 k0_h5
theorem k0_off37_inb : ∀ (arg21 : BitVec 32) (arg22 : BitVec 32) (arg24 : BitVec 32) (k0_hw7 : k0_chk7 arg21 arg22 arg24), ∀ (k0_h4 : k0_cond4 arg21 = 1#1), ∀ (k0_h6 : k0_cond6 arg22 = 1#1), ∀ a, (k0_off37 arg24) a + S1.size a ≤ S24.size a := fun arg21 arg22 arg24 k0_hw7 k0_h4 k0_h6 => k0_hw7.2 k0_h4 k0_h6

def k0_off38 (arg23 : BitVec 32) (arg24 : BitVec 32) (v3566 : BitVec 32) : (Fin 4 → Nat) × (Fin 4 → Nat) :=
  let c0_i32_2315 : BitVec 32 := 0#32
  let c0_i32_2316 : BitVec 32 := 0#32
  let c0_i32_2317 : BitVec 32 := 0#32
  let c63_i32_2289 : BitVec 32 := 63#32
  let v3567 : BitVec 32 := Scalar.addi v3566 c63_i32_2289
  let c0_i32_2291 : BitVec 32 := 0#32
  let v3569 : BitVec 1 := Scalar.cmpi .sgt v3567 c0_i32_2291
  let v3570 : BitVec 32 := Scalar.extui v3569
  let c0_i32_2292 : BitVec 32 := 0#32
  let v3571 : BitVec 1 := Scalar.cmpi .slt v3567 c0_i32_2292
  let v3572 : BitVec 32 := Scalar.extui v3571
  let v3573 : BitVec 32 := Scalar.subi v3570 v3572
  let c64_i32_2290 : BitVec 32 := 64#32
  let c0_i32_2293 : BitVec 32 := 0#32
  let v3574 : BitVec 1 := Scalar.cmpi .sgt c64_i32_2290 c0_i32_2293
  let v3575 : BitVec 32 := Scalar.extui v3574
  let c0_i32_2294 : BitVec 32 := 0#32
  let v3576 : BitVec 1 := Scalar.cmpi .slt c64_i32_2290 c0_i32_2294
  let v3577 : BitVec 32 := Scalar.extui v3576
  let v3578 : BitVec 32 := Scalar.subi v3575 v3577
  let v3579 : BitVec 1 := Scalar.cmpi .ne v3573 v3578
  let v3580 : BitVec 32 := Scalar.remsi v3567 c64_i32_2290
  let c0_i32_2295 : BitVec 32 := 0#32
  let v3581 : BitVec 1 := Scalar.cmpi .ne v3580 c0_i32_2295
  let v3582 : BitVec 1 := Scalar.andi v3579 v3581
  let v3568 : BitVec 32 := Scalar.divsi v3567 c64_i32_2290
  let c1_i32_2296 : BitVec 32 := 1#32
  let v3583 : BitVec 32 := Scalar.subi v3568 c1_i32_2296
  let v3584 : BitVec 32 := Scalar.select v3582 v3583 v3568
  let c16_i32_2297 : BitVec 32 := 16#32
  let v3585 : BitVec 32 := Scalar.muli arg23 c16_i32_2297
  let v3586 : BitVec 32 := Scalar.subi v3584 v3585
  let c16_i32_2298 : BitVec 32 := 16#32
  let v3587 : BitVec 32 := Scalar.minsi v3586 c16_i32_2298
  ⟨![arg24.toNat, 0, 0, 0], ![1, v3587.toNat, 256, 128]⟩
def k0_sz9 (arg23 : BitVec 32) (v3566 : BitVec 32) : Fin 3 → Nat :=
  let c63_i32_2289 : BitVec 32 := 63#32
  let v3567 : BitVec 32 := Scalar.addi v3566 c63_i32_2289
  let c0_i32_2291 : BitVec 32 := 0#32
  let v3569 : BitVec 1 := Scalar.cmpi .sgt v3567 c0_i32_2291
  let v3570 : BitVec 32 := Scalar.extui v3569
  let c0_i32_2292 : BitVec 32 := 0#32
  let v3571 : BitVec 1 := Scalar.cmpi .slt v3567 c0_i32_2292
  let v3572 : BitVec 32 := Scalar.extui v3571
  let v3573 : BitVec 32 := Scalar.subi v3570 v3572
  let c64_i32_2290 : BitVec 32 := 64#32
  let c0_i32_2293 : BitVec 32 := 0#32
  let v3574 : BitVec 1 := Scalar.cmpi .sgt c64_i32_2290 c0_i32_2293
  let v3575 : BitVec 32 := Scalar.extui v3574
  let c0_i32_2294 : BitVec 32 := 0#32
  let v3576 : BitVec 1 := Scalar.cmpi .slt c64_i32_2290 c0_i32_2294
  let v3577 : BitVec 32 := Scalar.extui v3576
  let v3578 : BitVec 32 := Scalar.subi v3575 v3577
  let v3579 : BitVec 1 := Scalar.cmpi .ne v3573 v3578
  let v3580 : BitVec 32 := Scalar.remsi v3567 c64_i32_2290
  let c0_i32_2295 : BitVec 32 := 0#32
  let v3581 : BitVec 1 := Scalar.cmpi .ne v3580 c0_i32_2295
  let v3582 : BitVec 1 := Scalar.andi v3579 v3581
  let v3568 : BitVec 32 := Scalar.divsi v3567 c64_i32_2290
  let c1_i32_2296 : BitVec 32 := 1#32
  let v3583 : BitVec 32 := Scalar.subi v3568 c1_i32_2296
  let v3584 : BitVec 32 := Scalar.select v3582 v3583 v3568
  let c16_i32_2297 : BitVec 32 := 16#32
  let v3585 : BitVec 32 := Scalar.muli arg23 c16_i32_2297
  let v3586 : BitVec 32 := Scalar.subi v3584 v3585
  let c16_i32_2298 : BitVec 32 := 16#32
  let v3587 : BitVec 32 := Scalar.minsi v3586 c16_i32_2298
  ![v3587.toNat, 256, 128]
def k0_off39 (arg21 : BitVec 32) (arg23 : BitVec 32) (v3566 : BitVec 32) : (Fin 4 → Nat) × (Fin 4 → Nat) :=
  let c16_i32_2314 : BitVec 32 := 16#32
  let v3609 : BitVec 32 := Scalar.muli arg23 c16_i32_2314
  let c0_i32_2318 : BitVec 32 := 0#32
  let c0_i32_2319 : BitVec 32 := 0#32
  let c63_i32_2289 : BitVec 32 := 63#32
  let v3567 : BitVec 32 := Scalar.addi v3566 c63_i32_2289
  let c0_i32_2291 : BitVec 32 := 0#32
  let v3569 : BitVec 1 := Scalar.cmpi .sgt v3567 c0_i32_2291
  let v3570 : BitVec 32 := Scalar.extui v3569
  let c0_i32_2292 : BitVec 32 := 0#32
  let v3571 : BitVec 1 := Scalar.cmpi .slt v3567 c0_i32_2292
  let v3572 : BitVec 32 := Scalar.extui v3571
  let v3573 : BitVec 32 := Scalar.subi v3570 v3572
  let c64_i32_2290 : BitVec 32 := 64#32
  let c0_i32_2293 : BitVec 32 := 0#32
  let v3574 : BitVec 1 := Scalar.cmpi .sgt c64_i32_2290 c0_i32_2293
  let v3575 : BitVec 32 := Scalar.extui v3574
  let c0_i32_2294 : BitVec 32 := 0#32
  let v3576 : BitVec 1 := Scalar.cmpi .slt c64_i32_2290 c0_i32_2294
  let v3577 : BitVec 32 := Scalar.extui v3576
  let v3578 : BitVec 32 := Scalar.subi v3575 v3577
  let v3579 : BitVec 1 := Scalar.cmpi .ne v3573 v3578
  let v3580 : BitVec 32 := Scalar.remsi v3567 c64_i32_2290
  let c0_i32_2295 : BitVec 32 := 0#32
  let v3581 : BitVec 1 := Scalar.cmpi .ne v3580 c0_i32_2295
  let v3582 : BitVec 1 := Scalar.andi v3579 v3581
  let v3568 : BitVec 32 := Scalar.divsi v3567 c64_i32_2290
  let c1_i32_2296 : BitVec 32 := 1#32
  let v3583 : BitVec 32 := Scalar.subi v3568 c1_i32_2296
  let v3584 : BitVec 32 := Scalar.select v3582 v3583 v3568
  let c16_i32_2297 : BitVec 32 := 16#32
  let v3585 : BitVec 32 := Scalar.muli arg23 c16_i32_2297
  let v3586 : BitVec 32 := Scalar.subi v3584 v3585
  let c16_i32_2298 : BitVec 32 := 16#32
  let v3587 : BitVec 32 := Scalar.minsi v3586 c16_i32_2298
  ⟨![arg21.toNat, v3609.toNat, 0, 0], ![1, v3587.toNat, 256, 128]⟩
def k0_sz10 (arg23 : BitVec 32) (v3566 : BitVec 32) : Fin 3 → Nat :=
  let c63_i32_2289 : BitVec 32 := 63#32
  let v3567 : BitVec 32 := Scalar.addi v3566 c63_i32_2289
  let c0_i32_2291 : BitVec 32 := 0#32
  let v3569 : BitVec 1 := Scalar.cmpi .sgt v3567 c0_i32_2291
  let v3570 : BitVec 32 := Scalar.extui v3569
  let c0_i32_2292 : BitVec 32 := 0#32
  let v3571 : BitVec 1 := Scalar.cmpi .slt v3567 c0_i32_2292
  let v3572 : BitVec 32 := Scalar.extui v3571
  let v3573 : BitVec 32 := Scalar.subi v3570 v3572
  let c64_i32_2290 : BitVec 32 := 64#32
  let c0_i32_2293 : BitVec 32 := 0#32
  let v3574 : BitVec 1 := Scalar.cmpi .sgt c64_i32_2290 c0_i32_2293
  let v3575 : BitVec 32 := Scalar.extui v3574
  let c0_i32_2294 : BitVec 32 := 0#32
  let v3576 : BitVec 1 := Scalar.cmpi .slt c64_i32_2290 c0_i32_2294
  let v3577 : BitVec 32 := Scalar.extui v3576
  let v3578 : BitVec 32 := Scalar.subi v3575 v3577
  let v3579 : BitVec 1 := Scalar.cmpi .ne v3573 v3578
  let v3580 : BitVec 32 := Scalar.remsi v3567 c64_i32_2290
  let c0_i32_2295 : BitVec 32 := 0#32
  let v3581 : BitVec 1 := Scalar.cmpi .ne v3580 c0_i32_2295
  let v3582 : BitVec 1 := Scalar.andi v3579 v3581
  let v3568 : BitVec 32 := Scalar.divsi v3567 c64_i32_2290
  let c1_i32_2296 : BitVec 32 := 1#32
  let v3583 : BitVec 32 := Scalar.subi v3568 c1_i32_2296
  let v3584 : BitVec 32 := Scalar.select v3582 v3583 v3568
  let c16_i32_2297 : BitVec 32 := 16#32
  let v3585 : BitVec 32 := Scalar.muli arg23 c16_i32_2297
  let v3586 : BitVec 32 := Scalar.subi v3584 v3585
  let c16_i32_2298 : BitVec 32 := 16#32
  let v3587 : BitVec 32 := Scalar.minsi v3586 c16_i32_2298
  ![v3587.toNat, 256, 128]

def k0_chk8 (arg21 : BitVec 32) (arg22 : BitVec 32) (arg23 : BitVec 32) (arg24 : BitVec 32) (v3566 : BitVec 32) : Prop :=
  (∀ (k0_h4 : k0_cond4 arg21 = 1#1), ∀ (k0_h5 : k0_cond5 arg22 = 1#1), ∀ a, (k0_off35 arg23 arg24 v3566).2 a = 0 ∨ (k0_off35 arg23 arg24 v3566).1 a + (k0_off35 arg23 arg24 v3566).2 a ≤ S24x16x256x128.size a) ∧
  (∀ (k0_h4 : k0_cond4 arg21 = 1#1), ∀ (k0_h5 : k0_cond5 arg22 = 1#1), (⟨4, (k0_off35 arg23 arg24 v3566).2⟩ : Shape).Squeezes ⟨3, k0_sz7 arg23 v3566⟩) ∧
  (∀ (k0_h4 : k0_cond4 arg21 = 1#1), ∀ (k0_h5 : k0_cond5 arg22 = 1#1), ∀ a, (k0_off36 arg21 arg23 v3566).2 a = 0 ∨ (k0_off36 arg21 arg23 v3566).1 a + (k0_off36 arg21 arg23 v3566).2 a ≤ S64x128x256x128.size a) ∧
  (∀ (k0_h4 : k0_cond4 arg21 = 1#1), ∀ (k0_h5 : k0_cond5 arg22 = 1#1), (⟨4, (k0_off36 arg21 arg23 v3566).2⟩ : Shape).Squeezes ⟨3, k0_sz8 arg23 v3566⟩) ∧
  (∀ (k0_h4 : k0_cond4 arg21 = 1#1), ∀ (k0_h5 : k0_cond5 arg22 = 1#1), ∀ (hinb : ∀ a, (k0_off36 arg21 arg23 v3566).2 a = 0 ∨ (k0_off36 arg21 arg23 v3566).1 a + (k0_off36 arg21 arg23 v3566).2 a ≤ S64x128x256x128.size a), (Rect.unitDyn (s := S64x128x256x128) (k0_off36 arg21 arg23 v3566).1 (k0_off36 arg21 arg23 v3566).2 hinb).WholeWords (EltTy.packing .fp8e4m3)) ∧
  (∀ (k0_h4 : k0_cond4 arg21 = 1#1), ∀ (k0_h5 : k0_cond5 arg22 = 1#1), ∀ (hinb : ∀ a, (k0_off35 arg23 arg24 v3566).2 a = 0 ∨ (k0_off35 arg23 arg24 v3566).1 a + (k0_off35 arg23 arg24 v3566).2 a ≤ S24x16x256x128.size a), (Rect.unitDyn (s := S24x16x256x128) (k0_off35 arg23 arg24 v3566).1 (k0_off35 arg23 arg24 v3566).2 hinb).WholeWords (EltTy.packing .fp8e4m3)) ∧
  (∀ (k0_h4 : k0_cond4 arg21 = 1#1), ∀ (k0_h6 : k0_cond6 arg22 = 1#1), ∀ a, (k0_off38 arg23 arg24 v3566).2 a = 0 ∨ (k0_off38 arg23 arg24 v3566).1 a + (k0_off38 arg23 arg24 v3566).2 a ≤ S24x16x256x128.size a) ∧
  (∀ (k0_h4 : k0_cond4 arg21 = 1#1), ∀ (k0_h6 : k0_cond6 arg22 = 1#1), (⟨4, (k0_off38 arg23 arg24 v3566).2⟩ : Shape).Squeezes ⟨3, k0_sz9 arg23 v3566⟩) ∧
  (∀ (k0_h4 : k0_cond4 arg21 = 1#1), ∀ (k0_h6 : k0_cond6 arg22 = 1#1), ∀ a, (k0_off39 arg21 arg23 v3566).2 a = 0 ∨ (k0_off39 arg21 arg23 v3566).1 a + (k0_off39 arg21 arg23 v3566).2 a ≤ S64x128x256x128.size a) ∧
  (∀ (k0_h4 : k0_cond4 arg21 = 1#1), ∀ (k0_h6 : k0_cond6 arg22 = 1#1), (⟨4, (k0_off39 arg21 arg23 v3566).2⟩ : Shape).Squeezes ⟨3, k0_sz10 arg23 v3566⟩) ∧
  (∀ (k0_h4 : k0_cond4 arg21 = 1#1), ∀ (k0_h6 : k0_cond6 arg22 = 1#1), ∀ (hinb : ∀ a, (k0_off39 arg21 arg23 v3566).2 a = 0 ∨ (k0_off39 arg21 arg23 v3566).1 a + (k0_off39 arg21 arg23 v3566).2 a ≤ S64x128x256x128.size a), (Rect.unitDyn (s := S64x128x256x128) (k0_off39 arg21 arg23 v3566).1 (k0_off39 arg21 arg23 v3566).2 hinb).WholeWords (EltTy.packing .fp8e4m3)) ∧
  (∀ (k0_h4 : k0_cond4 arg21 = 1#1), ∀ (k0_h6 : k0_cond6 arg22 = 1#1), ∀ (hinb : ∀ a, (k0_off38 arg23 arg24 v3566).2 a = 0 ∨ (k0_off38 arg23 arg24 v3566).1 a + (k0_off38 arg23 arg24 v3566).2 a ≤ S24x16x256x128.size a), (Rect.unitDyn (s := S24x16x256x128) (k0_off38 arg23 arg24 v3566).1 (k0_off38 arg23 arg24 v3566).2 hinb).WholeWords (EltTy.packing .fp8e4m3))
theorem k0_off35_inb : ∀ (arg21 : BitVec 32) (arg22 : BitVec 32) (arg23 : BitVec 32) (arg24 : BitVec 32) (v3566 : BitVec 32) (k0_hw8 : k0_chk8 arg21 arg22 arg23 arg24 v3566), ∀ (k0_h4 : k0_cond4 arg21 = 1#1), ∀ (k0_h5 : k0_cond5 arg22 = 1#1), ∀ a, (k0_off35 arg23 arg24 v3566).2 a = 0 ∨ (k0_off35 arg23 arg24 v3566).1 a + (k0_off35 arg23 arg24 v3566).2 a ≤ S24x16x256x128.size a := fun arg21 arg22 arg23 arg24 v3566 k0_hw8 k0_h4 k0_h5 => k0_hw8.1 k0_h4 k0_h5
theorem k0_sz7_squeezes : ∀ (arg21 : BitVec 32) (arg22 : BitVec 32) (arg23 : BitVec 32) (arg24 : BitVec 32) (v3566 : BitVec 32) (k0_hw8 : k0_chk8 arg21 arg22 arg23 arg24 v3566), ∀ (k0_h4 : k0_cond4 arg21 = 1#1), ∀ (k0_h5 : k0_cond5 arg22 = 1#1), (⟨4, (k0_off35 arg23 arg24 v3566).2⟩ : Shape).Squeezes ⟨3, k0_sz7 arg23 v3566⟩ := fun arg21 arg22 arg23 arg24 v3566 k0_hw8 k0_h4 k0_h5 => k0_hw8.2.1 k0_h4 k0_h5
theorem k0_off36_inb : ∀ (arg21 : BitVec 32) (arg22 : BitVec 32) (arg23 : BitVec 32) (arg24 : BitVec 32) (v3566 : BitVec 32) (k0_hw8 : k0_chk8 arg21 arg22 arg23 arg24 v3566), ∀ (k0_h4 : k0_cond4 arg21 = 1#1), ∀ (k0_h5 : k0_cond5 arg22 = 1#1), ∀ a, (k0_off36 arg21 arg23 v3566).2 a = 0 ∨ (k0_off36 arg21 arg23 v3566).1 a + (k0_off36 arg21 arg23 v3566).2 a ≤ S64x128x256x128.size a := fun arg21 arg22 arg23 arg24 v3566 k0_hw8 k0_h4 k0_h5 => k0_hw8.2.2.1 k0_h4 k0_h5
theorem k0_sz8_squeezes : ∀ (arg21 : BitVec 32) (arg22 : BitVec 32) (arg23 : BitVec 32) (arg24 : BitVec 32) (v3566 : BitVec 32) (k0_hw8 : k0_chk8 arg21 arg22 arg23 arg24 v3566), ∀ (k0_h4 : k0_cond4 arg21 = 1#1), ∀ (k0_h5 : k0_cond5 arg22 = 1#1), (⟨4, (k0_off36 arg21 arg23 v3566).2⟩ : Shape).Squeezes ⟨3, k0_sz8 arg23 v3566⟩ := fun arg21 arg22 arg23 arg24 v3566 k0_hw8 k0_h4 k0_h5 => k0_hw8.2.2.2.1 k0_h4 k0_h5
theorem k0_off36_wordsfp8e4m3 : ∀ (arg21 : BitVec 32) (arg22 : BitVec 32) (arg23 : BitVec 32) (arg24 : BitVec 32) (v3566 : BitVec 32) (k0_hw8 : k0_chk8 arg21 arg22 arg23 arg24 v3566), ∀ (k0_h4 : k0_cond4 arg21 = 1#1), ∀ (k0_h5 : k0_cond5 arg22 = 1#1), (Rect.unitDyn (s := S64x128x256x128) (k0_off36 arg21 arg23 v3566).1 (k0_off36 arg21 arg23 v3566).2 (k0_off36_inb arg21 arg22 arg23 arg24 v3566 k0_hw8 k0_h4 k0_h5)).WholeWords (EltTy.packing .fp8e4m3) := fun arg21 arg22 arg23 arg24 v3566 k0_hw8 k0_h4 k0_h5 => k0_hw8.2.2.2.2.1 k0_h4 k0_h5 (k0_off36_inb arg21 arg22 arg23 arg24 v3566 k0_hw8 k0_h4 k0_h5)
theorem k0_off35_wordsfp8e4m3 : ∀ (arg21 : BitVec 32) (arg22 : BitVec 32) (arg23 : BitVec 32) (arg24 : BitVec 32) (v3566 : BitVec 32) (k0_hw8 : k0_chk8 arg21 arg22 arg23 arg24 v3566), ∀ (k0_h4 : k0_cond4 arg21 = 1#1), ∀ (k0_h5 : k0_cond5 arg22 = 1#1), (Rect.unitDyn (s := S24x16x256x128) (k0_off35 arg23 arg24 v3566).1 (k0_off35 arg23 arg24 v3566).2 (k0_off35_inb arg21 arg22 arg23 arg24 v3566 k0_hw8 k0_h4 k0_h5)).WholeWords (EltTy.packing .fp8e4m3) := fun arg21 arg22 arg23 arg24 v3566 k0_hw8 k0_h4 k0_h5 => k0_hw8.2.2.2.2.2.1 k0_h4 k0_h5 (k0_off35_inb arg21 arg22 arg23 arg24 v3566 k0_hw8 k0_h4 k0_h5)
theorem k0_off38_inb : ∀ (arg21 : BitVec 32) (arg22 : BitVec 32) (arg23 : BitVec 32) (arg24 : BitVec 32) (v3566 : BitVec 32) (k0_hw8 : k0_chk8 arg21 arg22 arg23 arg24 v3566), ∀ (k0_h4 : k0_cond4 arg21 = 1#1), ∀ (k0_h6 : k0_cond6 arg22 = 1#1), ∀ a, (k0_off38 arg23 arg24 v3566).2 a = 0 ∨ (k0_off38 arg23 arg24 v3566).1 a + (k0_off38 arg23 arg24 v3566).2 a ≤ S24x16x256x128.size a := fun arg21 arg22 arg23 arg24 v3566 k0_hw8 k0_h4 k0_h6 => k0_hw8.2.2.2.2.2.2.1 k0_h4 k0_h6
theorem k0_sz9_squeezes : ∀ (arg21 : BitVec 32) (arg22 : BitVec 32) (arg23 : BitVec 32) (arg24 : BitVec 32) (v3566 : BitVec 32) (k0_hw8 : k0_chk8 arg21 arg22 arg23 arg24 v3566), ∀ (k0_h4 : k0_cond4 arg21 = 1#1), ∀ (k0_h6 : k0_cond6 arg22 = 1#1), (⟨4, (k0_off38 arg23 arg24 v3566).2⟩ : Shape).Squeezes ⟨3, k0_sz9 arg23 v3566⟩ := fun arg21 arg22 arg23 arg24 v3566 k0_hw8 k0_h4 k0_h6 => k0_hw8.2.2.2.2.2.2.2.1 k0_h4 k0_h6
theorem k0_off39_inb : ∀ (arg21 : BitVec 32) (arg22 : BitVec 32) (arg23 : BitVec 32) (arg24 : BitVec 32) (v3566 : BitVec 32) (k0_hw8 : k0_chk8 arg21 arg22 arg23 arg24 v3566), ∀ (k0_h4 : k0_cond4 arg21 = 1#1), ∀ (k0_h6 : k0_cond6 arg22 = 1#1), ∀ a, (k0_off39 arg21 arg23 v3566).2 a = 0 ∨ (k0_off39 arg21 arg23 v3566).1 a + (k0_off39 arg21 arg23 v3566).2 a ≤ S64x128x256x128.size a := fun arg21 arg22 arg23 arg24 v3566 k0_hw8 k0_h4 k0_h6 => k0_hw8.2.2.2.2.2.2.2.2.1 k0_h4 k0_h6
theorem k0_sz10_squeezes : ∀ (arg21 : BitVec 32) (arg22 : BitVec 32) (arg23 : BitVec 32) (arg24 : BitVec 32) (v3566 : BitVec 32) (k0_hw8 : k0_chk8 arg21 arg22 arg23 arg24 v3566), ∀ (k0_h4 : k0_cond4 arg21 = 1#1), ∀ (k0_h6 : k0_cond6 arg22 = 1#1), (⟨4, (k0_off39 arg21 arg23 v3566).2⟩ : Shape).Squeezes ⟨3, k0_sz10 arg23 v3566⟩ := fun arg21 arg22 arg23 arg24 v3566 k0_hw8 k0_h4 k0_h6 => k0_hw8.2.2.2.2.2.2.2.2.2.1 k0_h4 k0_h6
theorem k0_off39_wordsfp8e4m3 : ∀ (arg21 : BitVec 32) (arg22 : BitVec 32) (arg23 : BitVec 32) (arg24 : BitVec 32) (v3566 : BitVec 32) (k0_hw8 : k0_chk8 arg21 arg22 arg23 arg24 v3566), ∀ (k0_h4 : k0_cond4 arg21 = 1#1), ∀ (k0_h6 : k0_cond6 arg22 = 1#1), (Rect.unitDyn (s := S64x128x256x128) (k0_off39 arg21 arg23 v3566).1 (k0_off39 arg21 arg23 v3566).2 (k0_off39_inb arg21 arg22 arg23 arg24 v3566 k0_hw8 k0_h4 k0_h6)).WholeWords (EltTy.packing .fp8e4m3) := fun arg21 arg22 arg23 arg24 v3566 k0_hw8 k0_h4 k0_h6 => k0_hw8.2.2.2.2.2.2.2.2.2.2.1 k0_h4 k0_h6 (k0_off39_inb arg21 arg22 arg23 arg24 v3566 k0_hw8 k0_h4 k0_h6)
theorem k0_off38_wordsfp8e4m3 : ∀ (arg21 : BitVec 32) (arg22 : BitVec 32) (arg23 : BitVec 32) (arg24 : BitVec 32) (v3566 : BitVec 32) (k0_hw8 : k0_chk8 arg21 arg22 arg23 arg24 v3566), ∀ (k0_h4 : k0_cond4 arg21 = 1#1), ∀ (k0_h6 : k0_cond6 arg22 = 1#1), (Rect.unitDyn (s := S24x16x256x128) (k0_off38 arg23 arg24 v3566).1 (k0_off38 arg23 arg24 v3566).2 (k0_off38_inb arg21 arg22 arg23 arg24 v3566 k0_hw8 k0_h4 k0_h6)).WholeWords (EltTy.packing .fp8e4m3) := fun arg21 arg22 arg23 arg24 v3566 k0_hw8 k0_h4 k0_h6 => k0_hw8.2.2.2.2.2.2.2.2.2.2.2 k0_h4 k0_h6 (k0_off38_inb arg21 arg22 arg23 arg24 v3566 k0_hw8 k0_h4 k0_h6)

@[reducible] def k0_t5_loop (v2354 : BitVec 32) : Scf.Loop 32 :=
  let c0_i32_1814 : BitVec 32 := 0#32
  let c63_i32 : BitVec 32 := 63#32
  let v2355 : BitVec 32 := Scalar.addi v2354 c63_i32
  let c0_i32_1789 : BitVec 32 := 0#32
  let v2357 : BitVec 1 := Scalar.cmpi .sgt v2355 c0_i32_1789
  let v2358 : BitVec 32 := Scalar.extui v2357
  let c0_i32_1790 : BitVec 32 := 0#32
  let v2359 : BitVec 1 := Scalar.cmpi .slt v2355 c0_i32_1790
  let v2360 : BitVec 32 := Scalar.extui v2359
  let v2361 : BitVec 32 := Scalar.subi v2358 v2360
  let c64_i32_1788 : BitVec 32 := 64#32
  let c0_i32_1791 : BitVec 32 := 0#32
  let v2362 : BitVec 1 := Scalar.cmpi .sgt c64_i32_1788 c0_i32_1791
  let v2363 : BitVec 32 := Scalar.extui v2362
  let c0_i32_1792 : BitVec 32 := 0#32
  let v2364 : BitVec 1 := Scalar.cmpi .slt c64_i32_1788 c0_i32_1792
  let v2365 : BitVec 32 := Scalar.extui v2364
  let v2366 : BitVec 32 := Scalar.subi v2363 v2365
  let v2367 : BitVec 1 := Scalar.cmpi .ne v2361 v2366
  let v2368 : BitVec 32 := Scalar.remsi v2355 c64_i32_1788
  let c0_i32_1793 : BitVec 32 := 0#32
  let v2369 : BitVec 1 := Scalar.cmpi .ne v2368 c0_i32_1793
  let v2370 : BitVec 1 := Scalar.andi v2367 v2369
  let v2356 : BitVec 32 := Scalar.divsi v2355 c64_i32_1788
  let c1_i32_1794 : BitVec 32 := 1#32
  let v2371 : BitVec 32 := Scalar.subi v2356 c1_i32_1794
  let v2372 : BitVec 32 := Scalar.select v2370 v2371 v2356
  let c16_i32 : BitVec 32 := 16#32
  let v2373 : BitVec 32 := Scalar.addi v2372 c16_i32
  let c1_i32_1795 : BitVec 32 := 1#32
  let v2374 : BitVec 32 := Scalar.subi v2373 c1_i32_1795
  let c0_i32_1797 : BitVec 32 := 0#32
  let v2376 : BitVec 1 := Scalar.cmpi .sgt v2374 c0_i32_1797
  let v2377 : BitVec 32 := Scalar.extui v2376
  let c0_i32_1798 : BitVec 32 := 0#32
  let v2378 : BitVec 1 := Scalar.cmpi .slt v2374 c0_i32_1798
  let v2379 : BitVec 32 := Scalar.extui v2378
  let v2380 : BitVec 32 := Scalar.subi v2377 v2379
  let c16_i32_1796 : BitVec 32 := 16#32
  let c0_i32_1799 : BitVec 32 := 0#32
  let v2381 : BitVec 1 := Scalar.cmpi .sgt c16_i32_1796 c0_i32_1799
  let v2382 : BitVec 32 := Scalar.extui v2381
  let c0_i32_1800 : BitVec 32 := 0#32
  let v2383 : BitVec 1 := Scalar.cmpi .slt c16_i32_1796 c0_i32_1800
  let v2384 : BitVec 32 := Scalar.extui v2383
  let v2385 : BitVec 32 := Scalar.subi v2382 v2384
  let v2386 : BitVec 1 := Scalar.cmpi .ne v2380 v2385
  let v2387 : BitVec 32 := Scalar.remsi v2374 c16_i32_1796
  let c0_i32_1801 : BitVec 32 := 0#32
  let v2388 : BitVec 1 := Scalar.cmpi .ne v2387 c0_i32_1801
  let v2389 : BitVec 1 := Scalar.andi v2386 v2388
  let v2375 : BitVec 32 := Scalar.divsi v2374 c16_i32_1796
  let c1_i32_1802 : BitVec 32 := 1#32
  let v2390 : BitVec 32 := Scalar.subi v2375 c1_i32_1802
  let v2391 : BitVec 32 := Scalar.select v2389 v2390 v2375
  let v2420 : BitVec 32 := Scalar.subi v2391 c0_i32_1814
  let c1_i32_1815 : BitVec 32 := 1#32
  let v2422 : BitVec 32 := Scalar.divsi v2420 c1_i32_1815
  let v2423 : BitVec 32 := Scalar.muli v2422 c1_i32_1815
  let v2424 : BitVec 32 := Scalar.addi c0_i32_1814 v2423
  let v2421 : BitVec 32 := Scalar.addi c0_i32_1814 v2420
  let c1_i32_1817 : BitVec 32 := 1#32
  ⟨v2424, v2421, c1_i32_1817⟩
def k0_off40 (arg25 : BitVec 32) : Fin 1 → Nat :=
  ![arg25.toNat]

def k0_off41 (v2354 : BitVec 32) (k0_t5 : Fin (k0_t5_loop v2354).trips) (arg25 : BitVec 32) : (Fin 4 → Nat) × (Fin 4 → Nat) :=
  let c0_i32_1844 : BitVec 32 := 0#32
  let c0_i32_1845 : BitVec 32 := 0#32
  let c0_i32_1846 : BitVec 32 := 0#32
  let c63_i32 : BitVec 32 := 63#32
  let v2355 : BitVec 32 := Scalar.addi v2354 c63_i32
  let c0_i32_1789 : BitVec 32 := 0#32
  let v2357 : BitVec 1 := Scalar.cmpi .sgt v2355 c0_i32_1789
  let v2358 : BitVec 32 := Scalar.extui v2357
  let c0_i32_1790 : BitVec 32 := 0#32
  let v2359 : BitVec 1 := Scalar.cmpi .slt v2355 c0_i32_1790
  let v2360 : BitVec 32 := Scalar.extui v2359
  let v2361 : BitVec 32 := Scalar.subi v2358 v2360
  let c64_i32_1788 : BitVec 32 := 64#32
  let c0_i32_1791 : BitVec 32 := 0#32
  let v2362 : BitVec 1 := Scalar.cmpi .sgt c64_i32_1788 c0_i32_1791
  let v2363 : BitVec 32 := Scalar.extui v2362
  let c0_i32_1792 : BitVec 32 := 0#32
  let v2364 : BitVec 1 := Scalar.cmpi .slt c64_i32_1788 c0_i32_1792
  let v2365 : BitVec 32 := Scalar.extui v2364
  let v2366 : BitVec 32 := Scalar.subi v2363 v2365
  let v2367 : BitVec 1 := Scalar.cmpi .ne v2361 v2366
  let v2368 : BitVec 32 := Scalar.remsi v2355 c64_i32_1788
  let c0_i32_1793 : BitVec 32 := 0#32
  let v2369 : BitVec 1 := Scalar.cmpi .ne v2368 c0_i32_1793
  let v2370 : BitVec 1 := Scalar.andi v2367 v2369
  let v2356 : BitVec 32 := Scalar.divsi v2355 c64_i32_1788
  let c1_i32_1794 : BitVec 32 := 1#32
  let v2371 : BitVec 32 := Scalar.subi v2356 c1_i32_1794
  let v2372 : BitVec 32 := Scalar.select v2370 v2371 v2356
  let c0_i32_1814 : BitVec 32 := 0#32
  let c16_i32 : BitVec 32 := 16#32
  let v2373 : BitVec 32 := Scalar.addi v2372 c16_i32
  let c1_i32_1795 : BitVec 32 := 1#32
  let v2374 : BitVec 32 := Scalar.subi v2373 c1_i32_1795
  let c0_i32_1797 : BitVec 32 := 0#32
  let v2376 : BitVec 1 := Scalar.cmpi .sgt v2374 c0_i32_1797
  let v2377 : BitVec 32 := Scalar.extui v2376
  let c0_i32_1798 : BitVec 32 := 0#32
  let v2378 : BitVec 1 := Scalar.cmpi .slt v2374 c0_i32_1798
  let v2379 : BitVec 32 := Scalar.extui v2378
  let v2380 : BitVec 32 := Scalar.subi v2377 v2379
  let c16_i32_1796 : BitVec 32 := 16#32
  let c0_i32_1799 : BitVec 32 := 0#32
  let v2381 : BitVec 1 := Scalar.cmpi .sgt c16_i32_1796 c0_i32_1799
  let v2382 : BitVec 32 := Scalar.extui v2381
  let c0_i32_1800 : BitVec 32 := 0#32
  let v2383 : BitVec 1 := Scalar.cmpi .slt c16_i32_1796 c0_i32_1800
  let v2384 : BitVec 32 := Scalar.extui v2383
  let v2385 : BitVec 32 := Scalar.subi v2382 v2384
  let v2386 : BitVec 1 := Scalar.cmpi .ne v2380 v2385
  let v2387 : BitVec 32 := Scalar.remsi v2374 c16_i32_1796
  let c0_i32_1801 : BitVec 32 := 0#32
  let v2388 : BitVec 1 := Scalar.cmpi .ne v2387 c0_i32_1801
  let v2389 : BitVec 1 := Scalar.andi v2386 v2388
  let v2375 : BitVec 32 := Scalar.divsi v2374 c16_i32_1796
  let c1_i32_1802 : BitVec 32 := 1#32
  let v2390 : BitVec 32 := Scalar.subi v2375 c1_i32_1802
  let v2391 : BitVec 32 := Scalar.select v2389 v2390 v2375
  let v2420 : BitVec 32 := Scalar.subi v2391 c0_i32_1814
  let c1_i32_1815 : BitVec 32 := 1#32
  let v2422 : BitVec 32 := Scalar.divsi v2420 c1_i32_1815
  let v2423 : BitVec 32 := Scalar.muli v2422 c1_i32_1815
  let v2424 : BitVec 32 := Scalar.addi c0_i32_1814 v2423
  let c1_i32_1817 : BitVec 32 := 1#32
  let arg20 : BitVec 32 := Scf.iv v2424 c1_i32_1817 k0_t5
  let c16_i32_1841 : BitVec 32 := 16#32
  let v2475 : BitVec 32 := Scalar.muli arg20 c16_i32_1841
  let v2476 : BitVec 32 := Scalar.subi v2372 v2475
  let c16_i32_1842 : BitVec 32 := 16#32
  let v2477 : BitVec 32 := Scalar.minsi v2476 c16_i32_1842
  ⟨![arg25.toNat, 0, 0, 0], ![1, v2477.toNat, 256, 128]⟩

def k0_sz11 (v2354 : BitVec 32) (k0_t5 : Fin (k0_t5_loop v2354).trips) : Fin 3 → Nat :=
  let c63_i32 : BitVec 32 := 63#32
  let v2355 : BitVec 32 := Scalar.addi v2354 c63_i32
  let c0_i32_1789 : BitVec 32 := 0#32
  let v2357 : BitVec 1 := Scalar.cmpi .sgt v2355 c0_i32_1789
  let v2358 : BitVec 32 := Scalar.extui v2357
  let c0_i32_1790 : BitVec 32 := 0#32
  let v2359 : BitVec 1 := Scalar.cmpi .slt v2355 c0_i32_1790
  let v2360 : BitVec 32 := Scalar.extui v2359
  let v2361 : BitVec 32 := Scalar.subi v2358 v2360
  let c64_i32_1788 : BitVec 32 := 64#32
  let c0_i32_1791 : BitVec 32 := 0#32
  let v2362 : BitVec 1 := Scalar.cmpi .sgt c64_i32_1788 c0_i32_1791
  let v2363 : BitVec 32 := Scalar.extui v2362
  let c0_i32_1792 : BitVec 32 := 0#32
  let v2364 : BitVec 1 := Scalar.cmpi .slt c64_i32_1788 c0_i32_1792
  let v2365 : BitVec 32 := Scalar.extui v2364
  let v2366 : BitVec 32 := Scalar.subi v2363 v2365
  let v2367 : BitVec 1 := Scalar.cmpi .ne v2361 v2366
  let v2368 : BitVec 32 := Scalar.remsi v2355 c64_i32_1788
  let c0_i32_1793 : BitVec 32 := 0#32
  let v2369 : BitVec 1 := Scalar.cmpi .ne v2368 c0_i32_1793
  let v2370 : BitVec 1 := Scalar.andi v2367 v2369
  let v2356 : BitVec 32 := Scalar.divsi v2355 c64_i32_1788
  let c1_i32_1794 : BitVec 32 := 1#32
  let v2371 : BitVec 32 := Scalar.subi v2356 c1_i32_1794
  let v2372 : BitVec 32 := Scalar.select v2370 v2371 v2356
  let c0_i32_1814 : BitVec 32 := 0#32
  let c16_i32 : BitVec 32 := 16#32
  let v2373 : BitVec 32 := Scalar.addi v2372 c16_i32
  let c1_i32_1795 : BitVec 32 := 1#32
  let v2374 : BitVec 32 := Scalar.subi v2373 c1_i32_1795
  let c0_i32_1797 : BitVec 32 := 0#32
  let v2376 : BitVec 1 := Scalar.cmpi .sgt v2374 c0_i32_1797
  let v2377 : BitVec 32 := Scalar.extui v2376
  let c0_i32_1798 : BitVec 32 := 0#32
  let v2378 : BitVec 1 := Scalar.cmpi .slt v2374 c0_i32_1798
  let v2379 : BitVec 32 := Scalar.extui v2378
  let v2380 : BitVec 32 := Scalar.subi v2377 v2379
  let c16_i32_1796 : BitVec 32 := 16#32
  let c0_i32_1799 : BitVec 32 := 0#32
  let v2381 : BitVec 1 := Scalar.cmpi .sgt c16_i32_1796 c0_i32_1799
  let v2382 : BitVec 32 := Scalar.extui v2381
  let c0_i32_1800 : BitVec 32 := 0#32
  let v2383 : BitVec 1 := Scalar.cmpi .slt c16_i32_1796 c0_i32_1800
  let v2384 : BitVec 32 := Scalar.extui v2383
  let v2385 : BitVec 32 := Scalar.subi v2382 v2384
  let v2386 : BitVec 1 := Scalar.cmpi .ne v2380 v2385
  let v2387 : BitVec 32 := Scalar.remsi v2374 c16_i32_1796
  let c0_i32_1801 : BitVec 32 := 0#32
  let v2388 : BitVec 1 := Scalar.cmpi .ne v2387 c0_i32_1801
  let v2389 : BitVec 1 := Scalar.andi v2386 v2388
  let v2375 : BitVec 32 := Scalar.divsi v2374 c16_i32_1796
  let c1_i32_1802 : BitVec 32 := 1#32
  let v2390 : BitVec 32 := Scalar.subi v2375 c1_i32_1802
  let v2391 : BitVec 32 := Scalar.select v2389 v2390 v2375
  let v2420 : BitVec 32 := Scalar.subi v2391 c0_i32_1814
  let c1_i32_1815 : BitVec 32 := 1#32
  let v2422 : BitVec 32 := Scalar.divsi v2420 c1_i32_1815
  let v2423 : BitVec 32 := Scalar.muli v2422 c1_i32_1815
  let v2424 : BitVec 32 := Scalar.addi c0_i32_1814 v2423
  let c1_i32_1817 : BitVec 32 := 1#32
  let arg20 : BitVec 32 := Scf.iv v2424 c1_i32_1817 k0_t5
  let c16_i32_1841 : BitVec 32 := 16#32
  let v2475 : BitVec 32 := Scalar.muli arg20 c16_i32_1841
  let v2476 : BitVec 32 := Scalar.subi v2372 v2475
  let c16_i32_1842 : BitVec 32 := 16#32
  let v2477 : BitVec 32 := Scalar.minsi v2476 c16_i32_1842
  ![v2477.toNat, 256, 128]
def k0_off42 (k0_t3 : Fin k0_t3_loop.trips) (v2354 : BitVec 32) (k0_t5 : Fin (k0_t5_loop v2354).trips) : (Fin 4 → Nat) × (Fin 4 → Nat) :=
  let c0_i32_761 : BitVec 32 := 0#32
  let c1_i32_762 : BitVec 32 := 1#32
  let arg14 : BitVec 32 := Scf.iv c0_i32_761 c1_i32_762 k0_t3
  let c0_i32_1814 : BitVec 32 := 0#32
  let c63_i32 : BitVec 32 := 63#32
  let v2355 : BitVec 32 := Scalar.addi v2354 c63_i32
  let c0_i32_1789 : BitVec 32 := 0#32
  let v2357 : BitVec 1 := Scalar.cmpi .sgt v2355 c0_i32_1789
  let v2358 : BitVec 32 := Scalar.extui v2357
  let c0_i32_1790 : BitVec 32 := 0#32
  let v2359 : BitVec 1 := Scalar.cmpi .slt v2355 c0_i32_1790
  let v2360 : BitVec 32 := Scalar.extui v2359
  let v2361 : BitVec 32 := Scalar.subi v2358 v2360
  let c64_i32_1788 : BitVec 32 := 64#32
  let c0_i32_1791 : BitVec 32 := 0#32
  let v2362 : BitVec 1 := Scalar.cmpi .sgt c64_i32_1788 c0_i32_1791
  let v2363 : BitVec 32 := Scalar.extui v2362
  let c0_i32_1792 : BitVec 32 := 0#32
  let v2364 : BitVec 1 := Scalar.cmpi .slt c64_i32_1788 c0_i32_1792
  let v2365 : BitVec 32 := Scalar.extui v2364
  let v2366 : BitVec 32 := Scalar.subi v2363 v2365
  let v2367 : BitVec 1 := Scalar.cmpi .ne v2361 v2366
  let v2368 : BitVec 32 := Scalar.remsi v2355 c64_i32_1788
  let c0_i32_1793 : BitVec 32 := 0#32
  let v2369 : BitVec 1 := Scalar.cmpi .ne v2368 c0_i32_1793
  let v2370 : BitVec 1 := Scalar.andi v2367 v2369
  let v2356 : BitVec 32 := Scalar.divsi v2355 c64_i32_1788
  let c1_i32_1794 : BitVec 32 := 1#32
  let v2371 : BitVec 32 := Scalar.subi v2356 c1_i32_1794
  let v2372 : BitVec 32 := Scalar.select v2370 v2371 v2356
  let c16_i32 : BitVec 32 := 16#32
  let v2373 : BitVec 32 := Scalar.addi v2372 c16_i32
  let c1_i32_1795 : BitVec 32 := 1#32
  let v2374 : BitVec 32 := Scalar.subi v2373 c1_i32_1795
  let c0_i32_1797 : BitVec 32 := 0#32
  let v2376 : BitVec 1 := Scalar.cmpi .sgt v2374 c0_i32_1797
  let v2377 : BitVec 32 := Scalar.extui v2376
  let c0_i32_1798 : BitVec 32 := 0#32
  let v2378 : BitVec 1 := Scalar.cmpi .slt v2374 c0_i32_1798
  let v2379 : BitVec 32 := Scalar.extui v2378
  let v2380 : BitVec 32 := Scalar.subi v2377 v2379
  let c16_i32_1796 : BitVec 32 := 16#32
  let c0_i32_1799 : BitVec 32 := 0#32
  let v2381 : BitVec 1 := Scalar.cmpi .sgt c16_i32_1796 c0_i32_1799
  let v2382 : BitVec 32 := Scalar.extui v2381
  let c0_i32_1800 : BitVec 32 := 0#32
  let v2383 : BitVec 1 := Scalar.cmpi .slt c16_i32_1796 c0_i32_1800
  let v2384 : BitVec 32 := Scalar.extui v2383
  let v2385 : BitVec 32 := Scalar.subi v2382 v2384
  let v2386 : BitVec 1 := Scalar.cmpi .ne v2380 v2385
  let v2387 : BitVec 32 := Scalar.remsi v2374 c16_i32_1796
  let c0_i32_1801 : BitVec 32 := 0#32
  let v2388 : BitVec 1 := Scalar.cmpi .ne v2387 c0_i32_1801
  let v2389 : BitVec 1 := Scalar.andi v2386 v2388
  let v2375 : BitVec 32 := Scalar.divsi v2374 c16_i32_1796
  let c1_i32_1802 : BitVec 32 := 1#32
  let v2390 : BitVec 32 := Scalar.subi v2375 c1_i32_1802
  let v2391 : BitVec 32 := Scalar.select v2389 v2390 v2375
  let v2420 : BitVec 32 := Scalar.subi v2391 c0_i32_1814
  let c1_i32_1815 : BitVec 32 := 1#32
  let v2422 : BitVec 32 := Scalar.divsi v2420 c1_i32_1815
  let v2423 : BitVec 32 := Scalar.muli v2422 c1_i32_1815
  let v2424 : BitVec 32 := Scalar.addi c0_i32_1814 v2423
  let c1_i32_1817 : BitVec 32 := 1#32
  let arg20 : BitVec 32 := Scf.iv v2424 c1_i32_1817 k0_t5
  let c16_i32_1843 : BitVec 32 := 16#32
  let v2478 : BitVec 32 := Scalar.muli arg20 c16_i32_1843
  let c0_i32_1847 : BitVec 32 := 0#32
  let c0_i32_1848 : BitVec 32 := 0#32
  let c16_i32_1841 : BitVec 32 := 16#32
  let v2475 : BitVec 32 := Scalar.muli arg20 c16_i32_1841
  let v2476 : BitVec 32 := Scalar.subi v2372 v2475
  let c16_i32_1842 : BitVec 32 := 16#32
  let v2477 : BitVec 32 := Scalar.minsi v2476 c16_i32_1842
  ⟨![arg14.toNat, v2478.toNat, 0, 0], ![1, v2477.toNat, 256, 128]⟩

def k0_sz12 (v2354 : BitVec 32) (k0_t5 : Fin (k0_t5_loop v2354).trips) : Fin 3 → Nat :=
  let c63_i32 : BitVec 32 := 63#32
  let v2355 : BitVec 32 := Scalar.addi v2354 c63_i32
  let c0_i32_1789 : BitVec 32 := 0#32
  let v2357 : BitVec 1 := Scalar.cmpi .sgt v2355 c0_i32_1789
  let v2358 : BitVec 32 := Scalar.extui v2357
  let c0_i32_1790 : BitVec 32 := 0#32
  let v2359 : BitVec 1 := Scalar.cmpi .slt v2355 c0_i32_1790
  let v2360 : BitVec 32 := Scalar.extui v2359
  let v2361 : BitVec 32 := Scalar.subi v2358 v2360
  let c64_i32_1788 : BitVec 32 := 64#32
  let c0_i32_1791 : BitVec 32 := 0#32
  let v2362 : BitVec 1 := Scalar.cmpi .sgt c64_i32_1788 c0_i32_1791
  let v2363 : BitVec 32 := Scalar.extui v2362
  let c0_i32_1792 : BitVec 32 := 0#32
  let v2364 : BitVec 1 := Scalar.cmpi .slt c64_i32_1788 c0_i32_1792
  let v2365 : BitVec 32 := Scalar.extui v2364
  let v2366 : BitVec 32 := Scalar.subi v2363 v2365
  let v2367 : BitVec 1 := Scalar.cmpi .ne v2361 v2366
  let v2368 : BitVec 32 := Scalar.remsi v2355 c64_i32_1788
  let c0_i32_1793 : BitVec 32 := 0#32
  let v2369 : BitVec 1 := Scalar.cmpi .ne v2368 c0_i32_1793
  let v2370 : BitVec 1 := Scalar.andi v2367 v2369
  let v2356 : BitVec 32 := Scalar.divsi v2355 c64_i32_1788
  let c1_i32_1794 : BitVec 32 := 1#32
  let v2371 : BitVec 32 := Scalar.subi v2356 c1_i32_1794
  let v2372 : BitVec 32 := Scalar.select v2370 v2371 v2356
  let c0_i32_1814 : BitVec 32 := 0#32
  let c16_i32 : BitVec 32 := 16#32
  let v2373 : BitVec 32 := Scalar.addi v2372 c16_i32
  let c1_i32_1795 : BitVec 32 := 1#32
  let v2374 : BitVec 32 := Scalar.subi v2373 c1_i32_1795
  let c0_i32_1797 : BitVec 32 := 0#32
  let v2376 : BitVec 1 := Scalar.cmpi .sgt v2374 c0_i32_1797
  let v2377 : BitVec 32 := Scalar.extui v2376
  let c0_i32_1798 : BitVec 32 := 0#32
  let v2378 : BitVec 1 := Scalar.cmpi .slt v2374 c0_i32_1798
  let v2379 : BitVec 32 := Scalar.extui v2378
  let v2380 : BitVec 32 := Scalar.subi v2377 v2379
  let c16_i32_1796 : BitVec 32 := 16#32
  let c0_i32_1799 : BitVec 32 := 0#32
  let v2381 : BitVec 1 := Scalar.cmpi .sgt c16_i32_1796 c0_i32_1799
  let v2382 : BitVec 32 := Scalar.extui v2381
  let c0_i32_1800 : BitVec 32 := 0#32
  let v2383 : BitVec 1 := Scalar.cmpi .slt c16_i32_1796 c0_i32_1800
  let v2384 : BitVec 32 := Scalar.extui v2383
  let v2385 : BitVec 32 := Scalar.subi v2382 v2384
  let v2386 : BitVec 1 := Scalar.cmpi .ne v2380 v2385
  let v2387 : BitVec 32 := Scalar.remsi v2374 c16_i32_1796
  let c0_i32_1801 : BitVec 32 := 0#32
  let v2388 : BitVec 1 := Scalar.cmpi .ne v2387 c0_i32_1801
  let v2389 : BitVec 1 := Scalar.andi v2386 v2388
  let v2375 : BitVec 32 := Scalar.divsi v2374 c16_i32_1796
  let c1_i32_1802 : BitVec 32 := 1#32
  let v2390 : BitVec 32 := Scalar.subi v2375 c1_i32_1802
  let v2391 : BitVec 32 := Scalar.select v2389 v2390 v2375
  let v2420 : BitVec 32 := Scalar.subi v2391 c0_i32_1814
  let c1_i32_1815 : BitVec 32 := 1#32
  let v2422 : BitVec 32 := Scalar.divsi v2420 c1_i32_1815
  let v2423 : BitVec 32 := Scalar.muli v2422 c1_i32_1815
  let v2424 : BitVec 32 := Scalar.addi c0_i32_1814 v2423
  let c1_i32_1817 : BitVec 32 := 1#32
  let arg20 : BitVec 32 := Scf.iv v2424 c1_i32_1817 k0_t5
  let c16_i32_1841 : BitVec 32 := 16#32
  let v2475 : BitVec 32 := Scalar.muli arg20 c16_i32_1841
  let v2476 : BitVec 32 := Scalar.subi v2372 v2475
  let c16_i32_1842 : BitVec 32 := 16#32
  let v2477 : BitVec 32 := Scalar.minsi v2476 c16_i32_1842
  ![v2477.toNat, 256, 128]
def k0_off43 (arg25 : BitVec 32) : Fin 4 → Nat :=
  let v2485 : Index := Scalar.indexCast arg25
  let c0_1849 : Index := 0#32
  let c0_1850 : Index := 0#32
  let c0_1851 : Index := 0#32
  ![v2485.toNat, 0, 0, 0]
def k0_off44 (arg25 : BitVec 32) : Fin 4 → Nat :=
  let v2488 : Index := Scalar.indexCast arg25
  let c1_1852 : Index := 1#32
  let c0_1853 : Index := 0#32
  let c0_1854 : Index := 0#32
  ![v2488.toNat, 1, 0, 0]
def k0_off45 (v2354 : BitVec 32) (k0_t5 : Fin (k0_t5_loop v2354).trips) (c0_i32_1857 : BitVec 32) (c0_i32_1858 : BitVec 32) : Fin 2 → Nat :=
  let c0_i32_1814 : BitVec 32 := 0#32
  let c63_i32 : BitVec 32 := 63#32
  let v2355 : BitVec 32 := Scalar.addi v2354 c63_i32
  let c0_i32_1789 : BitVec 32 := 0#32
  let v2357 : BitVec 1 := Scalar.cmpi .sgt v2355 c0_i32_1789
  let v2358 : BitVec 32 := Scalar.extui v2357
  let c0_i32_1790 : BitVec 32 := 0#32
  let v2359 : BitVec 1 := Scalar.cmpi .slt v2355 c0_i32_1790
  let v2360 : BitVec 32 := Scalar.extui v2359
  let v2361 : BitVec 32 := Scalar.subi v2358 v2360
  let c64_i32_1788 : BitVec 32 := 64#32
  let c0_i32_1791 : BitVec 32 := 0#32
  let v2362 : BitVec 1 := Scalar.cmpi .sgt c64_i32_1788 c0_i32_1791
  let v2363 : BitVec 32 := Scalar.extui v2362
  let c0_i32_1792 : BitVec 32 := 0#32
  let v2364 : BitVec 1 := Scalar.cmpi .slt c64_i32_1788 c0_i32_1792
  let v2365 : BitVec 32 := Scalar.extui v2364
  let v2366 : BitVec 32 := Scalar.subi v2363 v2365
  let v2367 : BitVec 1 := Scalar.cmpi .ne v2361 v2366
  let v2368 : BitVec 32 := Scalar.remsi v2355 c64_i32_1788
  let c0_i32_1793 : BitVec 32 := 0#32
  let v2369 : BitVec 1 := Scalar.cmpi .ne v2368 c0_i32_1793
  let v2370 : BitVec 1 := Scalar.andi v2367 v2369
  let v2356 : BitVec 32 := Scalar.divsi v2355 c64_i32_1788
  let c1_i32_1794 : BitVec 32 := 1#32
  let v2371 : BitVec 32 := Scalar.subi v2356 c1_i32_1794
  let v2372 : BitVec 32 := Scalar.select v2370 v2371 v2356
  let c16_i32 : BitVec 32 := 16#32
  let v2373 : BitVec 32 := Scalar.addi v2372 c16_i32
  let c1_i32_1795 : BitVec 32 := 1#32
  let v2374 : BitVec 32 := Scalar.subi v2373 c1_i32_1795
  let c0_i32_1797 : BitVec 32 := 0#32
  let v2376 : BitVec 1 := Scalar.cmpi .sgt v2374 c0_i32_1797
  let v2377 : BitVec 32 := Scalar.extui v2376
  let c0_i32_1798 : BitVec 32 := 0#32
  let v2378 : BitVec 1 := Scalar.cmpi .slt v2374 c0_i32_1798
  let v2379 : BitVec 32 := Scalar.extui v2378
  let v2380 : BitVec 32 := Scalar.subi v2377 v2379
  let c16_i32_1796 : BitVec 32 := 16#32
  let c0_i32_1799 : BitVec 32 := 0#32
  let v2381 : BitVec 1 := Scalar.cmpi .sgt c16_i32_1796 c0_i32_1799
  let v2382 : BitVec 32 := Scalar.extui v2381
  let c0_i32_1800 : BitVec 32 := 0#32
  let v2383 : BitVec 1 := Scalar.cmpi .slt c16_i32_1796 c0_i32_1800
  let v2384 : BitVec 32 := Scalar.extui v2383
  let v2385 : BitVec 32 := Scalar.subi v2382 v2384
  let v2386 : BitVec 1 := Scalar.cmpi .ne v2380 v2385
  let v2387 : BitVec 32 := Scalar.remsi v2374 c16_i32_1796
  let c0_i32_1801 : BitVec 32 := 0#32
  let v2388 : BitVec 1 := Scalar.cmpi .ne v2387 c0_i32_1801
  let v2389 : BitVec 1 := Scalar.andi v2386 v2388
  let v2375 : BitVec 32 := Scalar.divsi v2374 c16_i32_1796
  let c1_i32_1802 : BitVec 32 := 1#32
  let v2390 : BitVec 32 := Scalar.subi v2375 c1_i32_1802
  let v2391 : BitVec 32 := Scalar.select v2389 v2390 v2375
  let v2420 : BitVec 32 := Scalar.subi v2391 c0_i32_1814
  let c1_i32_1815 : BitVec 32 := 1#32
  let v2422 : BitVec 32 := Scalar.divsi v2420 c1_i32_1815
  let v2423 : BitVec 32 := Scalar.muli v2422 c1_i32_1815
  let v2424 : BitVec 32 := Scalar.addi c0_i32_1814 v2423
  let c1_i32_1817 : BitVec 32 := 1#32
  let arg20 : BitVec 32 := Scf.iv v2424 c1_i32_1817 k0_t5
  let c16_i32_1856 : BitVec 32 := 16#32
  let v2493 : BitVec 32 := Scalar.muli arg20 c16_i32_1856
  let v2494 : BitVec 32 := Scalar.addi v2493 c0_i32_1857
  let v2495 : BitVec 32 := Scalar.addi v2494 c0_i32_1858
  let v2496 : Index := Scalar.indexCast v2495
  let c0_1859 : Index := 0#32
  ![v2496.toNat, 0]
def k0_off46 (v2354 : BitVec 32) (k0_t5 : Fin (k0_t5_loop v2354).trips) (c0_i32_1857 : BitVec 32) (c0_i32_1858 : BitVec 32) (c0_i32_1865 : BitVec 32) : Fin 3 → Nat :=
  let c0_i32_1814 : BitVec 32 := 0#32
  let c63_i32 : BitVec 32 := 63#32
  let v2355 : BitVec 32 := Scalar.addi v2354 c63_i32
  let c0_i32_1789 : BitVec 32 := 0#32
  let v2357 : BitVec 1 := Scalar.cmpi .sgt v2355 c0_i32_1789
  let v2358 : BitVec 32 := Scalar.extui v2357
  let c0_i32_1790 : BitVec 32 := 0#32
  let v2359 : BitVec 1 := Scalar.cmpi .slt v2355 c0_i32_1790
  let v2360 : BitVec 32 := Scalar.extui v2359
  let v2361 : BitVec 32 := Scalar.subi v2358 v2360
  let c64_i32_1788 : BitVec 32 := 64#32
  let c0_i32_1791 : BitVec 32 := 0#32
  let v2362 : BitVec 1 := Scalar.cmpi .sgt c64_i32_1788 c0_i32_1791
  let v2363 : BitVec 32 := Scalar.extui v2362
  let c0_i32_1792 : BitVec 32 := 0#32
  let v2364 : BitVec 1 := Scalar.cmpi .slt c64_i32_1788 c0_i32_1792
  let v2365 : BitVec 32 := Scalar.extui v2364
  let v2366 : BitVec 32 := Scalar.subi v2363 v2365
  let v2367 : BitVec 1 := Scalar.cmpi .ne v2361 v2366
  let v2368 : BitVec 32 := Scalar.remsi v2355 c64_i32_1788
  let c0_i32_1793 : BitVec 32 := 0#32
  let v2369 : BitVec 1 := Scalar.cmpi .ne v2368 c0_i32_1793
  let v2370 : BitVec 1 := Scalar.andi v2367 v2369
  let v2356 : BitVec 32 := Scalar.divsi v2355 c64_i32_1788
  let c1_i32_1794 : BitVec 32 := 1#32
  let v2371 : BitVec 32 := Scalar.subi v2356 c1_i32_1794
  let v2372 : BitVec 32 := Scalar.select v2370 v2371 v2356
  let c16_i32 : BitVec 32 := 16#32
  let v2373 : BitVec 32 := Scalar.addi v2372 c16_i32
  let c1_i32_1795 : BitVec 32 := 1#32
  let v2374 : BitVec 32 := Scalar.subi v2373 c1_i32_1795
  let c0_i32_1797 : BitVec 32 := 0#32
  let v2376 : BitVec 1 := Scalar.cmpi .sgt v2374 c0_i32_1797
  let v2377 : BitVec 32 := Scalar.extui v2376
  let c0_i32_1798 : BitVec 32 := 0#32
  let v2378 : BitVec 1 := Scalar.cmpi .slt v2374 c0_i32_1798
  let v2379 : BitVec 32 := Scalar.extui v2378
  let v2380 : BitVec 32 := Scalar.subi v2377 v2379
  let c16_i32_1796 : BitVec 32 := 16#32
  let c0_i32_1799 : BitVec 32 := 0#32
  let v2381 : BitVec 1 := Scalar.cmpi .sgt c16_i32_1796 c0_i32_1799
  let v2382 : BitVec 32 := Scalar.extui v2381
  let c0_i32_1800 : BitVec 32 := 0#32
  let v2383 : BitVec 1 := Scalar.cmpi .slt c16_i32_1796 c0_i32_1800
  let v2384 : BitVec 32 := Scalar.extui v2383
  let v2385 : BitVec 32 := Scalar.subi v2382 v2384
  let v2386 : BitVec 1 := Scalar.cmpi .ne v2380 v2385
  let v2387 : BitVec 32 := Scalar.remsi v2374 c16_i32_1796
  let c0_i32_1801 : BitVec 32 := 0#32
  let v2388 : BitVec 1 := Scalar.cmpi .ne v2387 c0_i32_1801
  let v2389 : BitVec 1 := Scalar.andi v2386 v2388
  let v2375 : BitVec 32 := Scalar.divsi v2374 c16_i32_1796
  let c1_i32_1802 : BitVec 32 := 1#32
  let v2390 : BitVec 32 := Scalar.subi v2375 c1_i32_1802
  let v2391 : BitVec 32 := Scalar.select v2389 v2390 v2375
  let v2420 : BitVec 32 := Scalar.subi v2391 c0_i32_1814
  let c1_i32_1815 : BitVec 32 := 1#32
  let v2422 : BitVec 32 := Scalar.divsi v2420 c1_i32_1815
  let v2423 : BitVec 32 := Scalar.muli v2422 c1_i32_1815
  let v2424 : BitVec 32 := Scalar.addi c0_i32_1814 v2423
  let c1_i32_1817 : BitVec 32 := 1#32
  let arg20 : BitVec 32 := Scf.iv v2424 c1_i32_1817 k0_t5
  let c16_i32_1856 : BitVec 32 := 16#32
  let v2493 : BitVec 32 := Scalar.muli arg20 c16_i32_1856
  let v2494 : BitVec 32 := Scalar.addi v2493 c0_i32_1857
  let v2495 : BitVec 32 := Scalar.addi v2494 c0_i32_1858
  let c2_i32_1864 : BitVec 32 := 2#32
  let v2520 : BitVec 32 := Scalar.muli v2495 c2_i32_1864
  let v2521 : BitVec 32 := Scalar.addi v2520 c0_i32_1865
  let v2522 : Index := Scalar.indexCast v2521
  let c0_1866 : Index := 0#32
  let c0_1867 : Index := 0#32
  ![v2522.toNat, 0, 0]
def k0_off47 (arg25 : BitVec 32) : Fin 4 → Nat :=
  let v2619 : Index := Scalar.indexCast arg25
  let c2_1902 : Index := 2#32
  let c0_1903 : Index := 0#32
  let c0_1904 : Index := 0#32
  ![v2619.toNat, 2, 0, 0]
def k0_off48 (arg25 : BitVec 32) : Fin 4 → Nat :=
  let v2622 : Index := Scalar.indexCast arg25
  let c3_1905 : Index := 3#32
  let c0_1906 : Index := 0#32
  let c0_1907 : Index := 0#32
  ![v2622.toNat, 3, 0, 0]
def k0_off49 (arg25 : BitVec 32) : Fin 4 → Nat :=
  let v2753 : Index := Scalar.indexCast arg25
  let c4_1957 : Index := 4#32
  let c0_1958 : Index := 0#32
  let c0_1959 : Index := 0#32
  ![v2753.toNat, 4, 0, 0]
def k0_off50 (arg25 : BitVec 32) : Fin 4 → Nat :=
  let v2756 : Index := Scalar.indexCast arg25
  let c5_1960 : Index := 5#32
  let c0_1961 : Index := 0#32
  let c0_1962 : Index := 0#32
  ![v2756.toNat, 5, 0, 0]
def k0_off51 (arg25 : BitVec 32) : Fin 4 → Nat :=
  let v2887 : Index := Scalar.indexCast arg25
  let c6_2012 : Index := 6#32
  let c0_2013 : Index := 0#32
  let c0_2014 : Index := 0#32
  ![v2887.toNat, 6, 0, 0]
def k0_off52 (arg25 : BitVec 32) : Fin 4 → Nat :=
  let v2890 : Index := Scalar.indexCast arg25
  let c7_2015 : Index := 7#32
  let c0_2016 : Index := 0#32
  let c0_2017 : Index := 0#32
  ![v2890.toNat, 7, 0, 0]
def k0_off53 (arg25 : BitVec 32) : Fin 4 → Nat :=
  let v3021 : Index := Scalar.indexCast arg25
  let c8_2066 : Index := 8#32
  let c0_2067 : Index := 0#32
  let c0_2068 : Index := 0#32
  ![v3021.toNat, 8, 0, 0]
def k0_off54 (arg25 : BitVec 32) : Fin 4 → Nat :=
  let v3024 : Index := Scalar.indexCast arg25
  let c9_2069 : Index := 9#32
  let c0_2070 : Index := 0#32
  let c0_2071 : Index := 0#32
  ![v3024.toNat, 9, 0, 0]
def k0_off55 (arg25 : BitVec 32) : Fin 4 → Nat :=
  let v3155 : Index := Scalar.indexCast arg25
  let c10_2121 : Index := 10#32
  let c0_2122 : Index := 0#32
  let c0_2123 : Index := 0#32
  ![v3155.toNat, 10, 0, 0]
def k0_off56 (arg25 : BitVec 32) : Fin 4 → Nat :=
  let v3158 : Index := Scalar.indexCast arg25
  let c11_2124 : Index := 11#32
  let c0_2125 : Index := 0#32
  let c0_2126 : Index := 0#32
  ![v3158.toNat, 11, 0, 0]
def k0_off57 (arg25 : BitVec 32) : Fin 4 → Nat :=
  let v3289 : Index := Scalar.indexCast arg25
  let c12_2175 : Index := 12#32
  let c0_2176 : Index := 0#32
  let c0_2177 : Index := 0#32
  ![v3289.toNat, 12, 0, 0]
def k0_off58 (arg25 : BitVec 32) : Fin 4 → Nat :=
  let v3292 : Index := Scalar.indexCast arg25
  let c13_2178 : Index := 13#32
  let c0_2179 : Index := 0#32
  let c0_2180 : Index := 0#32
  ![v3292.toNat, 13, 0, 0]
def k0_off59 (arg25 : BitVec 32) : Fin 4 → Nat :=
  let v3423 : Index := Scalar.indexCast arg25
  let c14_2229 : Index := 14#32
  let c0_2230 : Index := 0#32
  let c0_2231 : Index := 0#32
  ![v3423.toNat, 14, 0, 0]
def k0_off60 (arg25 : BitVec 32) : Fin 4 → Nat :=
  let v3426 : Index := Scalar.indexCast arg25
  let c15_2232 : Index := 15#32
  let c0_2233 : Index := 0#32
  let c0_2234 : Index := 0#32
  ![v3426.toNat, 15, 0, 0]

def k0_chk9 (v2354 : BitVec 32) (k0_t5 : Fin (k0_t5_loop v2354).trips) (arg25 : BitVec 32) : Prop :=
  (∀ a, (k0_off40 arg25) a + S1.size a ≤ S24.size a) ∧
  ((⟨4, (k0_off41 v2354 k0_t5 arg25).2⟩ : Shape).Squeezes ⟨3, k0_sz11 v2354 k0_t5⟩) ∧
  (∀ a, (k0_off43 arg25) a + S1x1x256x128.size a ≤ S24x16x256x128.size a) ∧
  (∀ a, (k0_off44 arg25) a + S1x1x256x128.size a ≤ S24x16x256x128.size a) ∧
  (∀ a, (k0_off47 arg25) a + S1x1x256x128.size a ≤ S24x16x256x128.size a) ∧
  (∀ a, (k0_off48 arg25) a + S1x1x256x128.size a ≤ S24x16x256x128.size a) ∧
  (∀ a, (k0_off49 arg25) a + S1x1x256x128.size a ≤ S24x16x256x128.size a) ∧
  (∀ a, (k0_off50 arg25) a + S1x1x256x128.size a ≤ S24x16x256x128.size a) ∧
  (∀ a, (k0_off51 arg25) a + S1x1x256x128.size a ≤ S24x16x256x128.size a) ∧
  (∀ a, (k0_off52 arg25) a + S1x1x256x128.size a ≤ S24x16x256x128.size a) ∧
  (∀ a, (k0_off53 arg25) a + S1x1x256x128.size a ≤ S24x16x256x128.size a) ∧
  (∀ a, (k0_off54 arg25) a + S1x1x256x128.size a ≤ S24x16x256x128.size a) ∧
  (∀ a, (k0_off55 arg25) a + S1x1x256x128.size a ≤ S24x16x256x128.size a) ∧
  (∀ a, (k0_off56 arg25) a + S1x1x256x128.size a ≤ S24x16x256x128.size a) ∧
  (∀ a, (k0_off57 arg25) a + S1x1x256x128.size a ≤ S24x16x256x128.size a) ∧
  (∀ a, (k0_off58 arg25) a + S1x1x256x128.size a ≤ S24x16x256x128.size a) ∧
  (∀ a, (k0_off59 arg25) a + S1x1x256x128.size a ≤ S24x16x256x128.size a) ∧
  (∀ a, (k0_off60 arg25) a + S1x1x256x128.size a ≤ S24x16x256x128.size a)
theorem k0_off40_inb : ∀ (v2354 : BitVec 32) (k0_t5 : Fin (k0_t5_loop v2354).trips) (arg25 : BitVec 32) (k0_hw9 : k0_chk9 v2354 k0_t5 arg25), ∀ a, (k0_off40 arg25) a + S1.size a ≤ S24.size a := fun v2354 k0_t5 arg25 k0_hw9 => k0_hw9.1
theorem k0_sz11_squeezes : ∀ (v2354 : BitVec 32) (k0_t5 : Fin (k0_t5_loop v2354).trips) (arg25 : BitVec 32) (k0_hw9 : k0_chk9 v2354 k0_t5 arg25), (⟨4, (k0_off41 v2354 k0_t5 arg25).2⟩ : Shape).Squeezes ⟨3, k0_sz11 v2354 k0_t5⟩ := fun v2354 k0_t5 arg25 k0_hw9 => k0_hw9.2.1
theorem k0_off43_inb : ∀ (v2354 : BitVec 32) (k0_t5 : Fin (k0_t5_loop v2354).trips) (arg25 : BitVec 32) (k0_hw9 : k0_chk9 v2354 k0_t5 arg25), ∀ a, (k0_off43 arg25) a + S1x1x256x128.size a ≤ S24x16x256x128.size a := fun v2354 k0_t5 arg25 k0_hw9 => k0_hw9.2.2.1
theorem k0_off44_inb : ∀ (v2354 : BitVec 32) (k0_t5 : Fin (k0_t5_loop v2354).trips) (arg25 : BitVec 32) (k0_hw9 : k0_chk9 v2354 k0_t5 arg25), ∀ a, (k0_off44 arg25) a + S1x1x256x128.size a ≤ S24x16x256x128.size a := fun v2354 k0_t5 arg25 k0_hw9 => k0_hw9.2.2.2.1
theorem k0_off47_inb : ∀ (v2354 : BitVec 32) (k0_t5 : Fin (k0_t5_loop v2354).trips) (arg25 : BitVec 32) (k0_hw9 : k0_chk9 v2354 k0_t5 arg25), ∀ a, (k0_off47 arg25) a + S1x1x256x128.size a ≤ S24x16x256x128.size a := fun v2354 k0_t5 arg25 k0_hw9 => k0_hw9.2.2.2.2.1
theorem k0_off48_inb : ∀ (v2354 : BitVec 32) (k0_t5 : Fin (k0_t5_loop v2354).trips) (arg25 : BitVec 32) (k0_hw9 : k0_chk9 v2354 k0_t5 arg25), ∀ a, (k0_off48 arg25) a + S1x1x256x128.size a ≤ S24x16x256x128.size a := fun v2354 k0_t5 arg25 k0_hw9 => k0_hw9.2.2.2.2.2.1
theorem k0_off49_inb : ∀ (v2354 : BitVec 32) (k0_t5 : Fin (k0_t5_loop v2354).trips) (arg25 : BitVec 32) (k0_hw9 : k0_chk9 v2354 k0_t5 arg25), ∀ a, (k0_off49 arg25) a + S1x1x256x128.size a ≤ S24x16x256x128.size a := fun v2354 k0_t5 arg25 k0_hw9 => k0_hw9.2.2.2.2.2.2.1
theorem k0_off50_inb : ∀ (v2354 : BitVec 32) (k0_t5 : Fin (k0_t5_loop v2354).trips) (arg25 : BitVec 32) (k0_hw9 : k0_chk9 v2354 k0_t5 arg25), ∀ a, (k0_off50 arg25) a + S1x1x256x128.size a ≤ S24x16x256x128.size a := fun v2354 k0_t5 arg25 k0_hw9 => k0_hw9.2.2.2.2.2.2.2.1
theorem k0_off51_inb : ∀ (v2354 : BitVec 32) (k0_t5 : Fin (k0_t5_loop v2354).trips) (arg25 : BitVec 32) (k0_hw9 : k0_chk9 v2354 k0_t5 arg25), ∀ a, (k0_off51 arg25) a + S1x1x256x128.size a ≤ S24x16x256x128.size a := fun v2354 k0_t5 arg25 k0_hw9 => k0_hw9.2.2.2.2.2.2.2.2.1
theorem k0_off52_inb : ∀ (v2354 : BitVec 32) (k0_t5 : Fin (k0_t5_loop v2354).trips) (arg25 : BitVec 32) (k0_hw9 : k0_chk9 v2354 k0_t5 arg25), ∀ a, (k0_off52 arg25) a + S1x1x256x128.size a ≤ S24x16x256x128.size a := fun v2354 k0_t5 arg25 k0_hw9 => k0_hw9.2.2.2.2.2.2.2.2.2.1
theorem k0_off53_inb : ∀ (v2354 : BitVec 32) (k0_t5 : Fin (k0_t5_loop v2354).trips) (arg25 : BitVec 32) (k0_hw9 : k0_chk9 v2354 k0_t5 arg25), ∀ a, (k0_off53 arg25) a + S1x1x256x128.size a ≤ S24x16x256x128.size a := fun v2354 k0_t5 arg25 k0_hw9 => k0_hw9.2.2.2.2.2.2.2.2.2.2.1
theorem k0_off54_inb : ∀ (v2354 : BitVec 32) (k0_t5 : Fin (k0_t5_loop v2354).trips) (arg25 : BitVec 32) (k0_hw9 : k0_chk9 v2354 k0_t5 arg25), ∀ a, (k0_off54 arg25) a + S1x1x256x128.size a ≤ S24x16x256x128.size a := fun v2354 k0_t5 arg25 k0_hw9 => k0_hw9.2.2.2.2.2.2.2.2.2.2.2.1
theorem k0_off55_inb : ∀ (v2354 : BitVec 32) (k0_t5 : Fin (k0_t5_loop v2354).trips) (arg25 : BitVec 32) (k0_hw9 : k0_chk9 v2354 k0_t5 arg25), ∀ a, (k0_off55 arg25) a + S1x1x256x128.size a ≤ S24x16x256x128.size a := fun v2354 k0_t5 arg25 k0_hw9 => k0_hw9.2.2.2.2.2.2.2.2.2.2.2.2.1
theorem k0_off56_inb : ∀ (v2354 : BitVec 32) (k0_t5 : Fin (k0_t5_loop v2354).trips) (arg25 : BitVec 32) (k0_hw9 : k0_chk9 v2354 k0_t5 arg25), ∀ a, (k0_off56 arg25) a + S1x1x256x128.size a ≤ S24x16x256x128.size a := fun v2354 k0_t5 arg25 k0_hw9 => k0_hw9.2.2.2.2.2.2.2.2.2.2.2.2.2.1
theorem k0_off57_inb : ∀ (v2354 : BitVec 32) (k0_t5 : Fin (k0_t5_loop v2354).trips) (arg25 : BitVec 32) (k0_hw9 : k0_chk9 v2354 k0_t5 arg25), ∀ a, (k0_off57 arg25) a + S1x1x256x128.size a ≤ S24x16x256x128.size a := fun v2354 k0_t5 arg25 k0_hw9 => k0_hw9.2.2.2.2.2.2.2.2.2.2.2.2.2.2.1
theorem k0_off58_inb : ∀ (v2354 : BitVec 32) (k0_t5 : Fin (k0_t5_loop v2354).trips) (arg25 : BitVec 32) (k0_hw9 : k0_chk9 v2354 k0_t5 arg25), ∀ a, (k0_off58 arg25) a + S1x1x256x128.size a ≤ S24x16x256x128.size a := fun v2354 k0_t5 arg25 k0_hw9 => k0_hw9.2.2.2.2.2.2.2.2.2.2.2.2.2.2.2.1
theorem k0_off59_inb : ∀ (v2354 : BitVec 32) (k0_t5 : Fin (k0_t5_loop v2354).trips) (arg25 : BitVec 32) (k0_hw9 : k0_chk9 v2354 k0_t5 arg25), ∀ a, (k0_off59 arg25) a + S1x1x256x128.size a ≤ S24x16x256x128.size a := fun v2354 k0_t5 arg25 k0_hw9 => k0_hw9.2.2.2.2.2.2.2.2.2.2.2.2.2.2.2.2.1
theorem k0_off60_inb : ∀ (v2354 : BitVec 32) (k0_t5 : Fin (k0_t5_loop v2354).trips) (arg25 : BitVec 32) (k0_hw9 : k0_chk9 v2354 k0_t5 arg25), ∀ a, (k0_off60 arg25) a + S1x1x256x128.size a ≤ S24x16x256x128.size a := fun v2354 k0_t5 arg25 k0_hw9 => k0_hw9.2.2.2.2.2.2.2.2.2.2.2.2.2.2.2.2.2

def k0_off61 (arg21 : BitVec 32) : Fin 1 → Nat :=
  let v3565 : Index := Scalar.indexCast arg21
  ![v3565.toNat]
def k0_cond7 (arg21 : BitVec 32) : BitVec 1 :=
  let c64_i32_2283 : BitVec 32 := 64#32
  let v3557 : BitVec 1 := Scalar.cmpi .slt arg21 c64_i32_2283
  let v3558 : BitVec 32 := Scalar.extui v3557
  let c0_i32_2284 : BitVec 32 := 0#32
  let v3559 : BitVec 1 := Scalar.cmpi .ne v3558 c0_i32_2284
  v3559

def k0_chk10 (arg21 : BitVec 32) : Prop :=
  (∀ (k0_h7 : k0_cond7 arg21 = 1#1), ∀ a, (k0_off61 arg21) a + S1.size a ≤ S64.size a)
theorem k0_off61_inb : ∀ (arg21 : BitVec 32) (k0_hw10 : k0_chk10 arg21), ∀ (k0_h7 : k0_cond7 arg21 = 1#1), ∀ a, (k0_off61 arg21) a + S1.size a ≤ S64.size a := fun arg21 k0_hw10 k0_h7 => k0_hw10 k0_h7

def k0_off62 (arg24 : BitVec 32) : Fin 1 → Nat :=
  ![arg24.toNat]
def k0_cond8 (arg22 : BitVec 32) : BitVec 1 :=
  let c0_i32_2299 : BitVec 32 := 0#32
  let v3588 : BitVec 1 := Scalar.cmpi .eq arg22 c0_i32_2299
  let v3589 : BitVec 32 := Scalar.extui v3588
  let c0_i32_2300 : BitVec 32 := 0#32
  let v3590 : BitVec 1 := Scalar.cmpi .ne v3589 c0_i32_2300
  v3590

def k0_off63 (arg23 : BitVec 32) (arg24 : BitVec 32) (v3566 : BitVec 32) : (Fin 4 → Nat) × (Fin 4 → Nat) :=
  let c0_i32_2315 : BitVec 32 := 0#32
  let c0_i32_2316 : BitVec 32 := 0#32
  let c0_i32_2317 : BitVec 32 := 0#32
  let c63_i32_2289 : BitVec 32 := 63#32
  let v3567 : BitVec 32 := Scalar.addi v3566 c63_i32_2289
  let c0_i32_2291 : BitVec 32 := 0#32
  let v3569 : BitVec 1 := Scalar.cmpi .sgt v3567 c0_i32_2291
  let v3570 : BitVec 32 := Scalar.extui v3569
  let c0_i32_2292 : BitVec 32 := 0#32
  let v3571 : BitVec 1 := Scalar.cmpi .slt v3567 c0_i32_2292
  let v3572 : BitVec 32 := Scalar.extui v3571
  let v3573 : BitVec 32 := Scalar.subi v3570 v3572
  let c64_i32_2290 : BitVec 32 := 64#32
  let c0_i32_2293 : BitVec 32 := 0#32
  let v3574 : BitVec 1 := Scalar.cmpi .sgt c64_i32_2290 c0_i32_2293
  let v3575 : BitVec 32 := Scalar.extui v3574
  let c0_i32_2294 : BitVec 32 := 0#32
  let v3576 : BitVec 1 := Scalar.cmpi .slt c64_i32_2290 c0_i32_2294
  let v3577 : BitVec 32 := Scalar.extui v3576
  let v3578 : BitVec 32 := Scalar.subi v3575 v3577
  let v3579 : BitVec 1 := Scalar.cmpi .ne v3573 v3578
  let v3580 : BitVec 32 := Scalar.remsi v3567 c64_i32_2290
  let c0_i32_2295 : BitVec 32 := 0#32
  let v3581 : BitVec 1 := Scalar.cmpi .ne v3580 c0_i32_2295
  let v3582 : BitVec 1 := Scalar.andi v3579 v3581
  let v3568 : BitVec 32 := Scalar.divsi v3567 c64_i32_2290
  let c1_i32_2296 : BitVec 32 := 1#32
  let v3583 : BitVec 32 := Scalar.subi v3568 c1_i32_2296
  let v3584 : BitVec 32 := Scalar.select v3582 v3583 v3568
  let c16_i32_2297 : BitVec 32 := 16#32
  let v3585 : BitVec 32 := Scalar.muli arg23 c16_i32_2297
  let v3586 : BitVec 32 := Scalar.subi v3584 v3585
  let c16_i32_2298 : BitVec 32 := 16#32
  let v3587 : BitVec 32 := Scalar.minsi v3586 c16_i32_2298
  ⟨![arg24.toNat, 0, 0, 0], ![1, v3587.toNat, 256, 128]⟩

def k0_sz13 (arg23 : BitVec 32) (v3566 : BitVec 32) : Fin 3 → Nat :=
  let c63_i32_2289 : BitVec 32 := 63#32
  let v3567 : BitVec 32 := Scalar.addi v3566 c63_i32_2289
  let c0_i32_2291 : BitVec 32 := 0#32
  let v3569 : BitVec 1 := Scalar.cmpi .sgt v3567 c0_i32_2291
  let v3570 : BitVec 32 := Scalar.extui v3569
  let c0_i32_2292 : BitVec 32 := 0#32
  let v3571 : BitVec 1 := Scalar.cmpi .slt v3567 c0_i32_2292
  let v3572 : BitVec 32 := Scalar.extui v3571
  let v3573 : BitVec 32 := Scalar.subi v3570 v3572
  let c64_i32_2290 : BitVec 32 := 64#32
  let c0_i32_2293 : BitVec 32 := 0#32
  let v3574 : BitVec 1 := Scalar.cmpi .sgt c64_i32_2290 c0_i32_2293
  let v3575 : BitVec 32 := Scalar.extui v3574
  let c0_i32_2294 : BitVec 32 := 0#32
  let v3576 : BitVec 1 := Scalar.cmpi .slt c64_i32_2290 c0_i32_2294
  let v3577 : BitVec 32 := Scalar.extui v3576
  let v3578 : BitVec 32 := Scalar.subi v3575 v3577
  let v3579 : BitVec 1 := Scalar.cmpi .ne v3573 v3578
  let v3580 : BitVec 32 := Scalar.remsi v3567 c64_i32_2290
  let c0_i32_2295 : BitVec 32 := 0#32
  let v3581 : BitVec 1 := Scalar.cmpi .ne v3580 c0_i32_2295
  let v3582 : BitVec 1 := Scalar.andi v3579 v3581
  let v3568 : BitVec 32 := Scalar.divsi v3567 c64_i32_2290
  let c1_i32_2296 : BitVec 32 := 1#32
  let v3583 : BitVec 32 := Scalar.subi v3568 c1_i32_2296
  let v3584 : BitVec 32 := Scalar.select v3582 v3583 v3568
  let c16_i32_2297 : BitVec 32 := 16#32
  let v3585 : BitVec 32 := Scalar.muli arg23 c16_i32_2297
  let v3586 : BitVec 32 := Scalar.subi v3584 v3585
  let c16_i32_2298 : BitVec 32 := 16#32
  let v3587 : BitVec 32 := Scalar.minsi v3586 c16_i32_2298
  ![v3587.toNat, 256, 128]
def k0_off64 (arg21 : BitVec 32) (arg23 : BitVec 32) (v3566 : BitVec 32) : (Fin 4 → Nat) × (Fin 4 → Nat) :=
  let c16_i32_2314 : BitVec 32 := 16#32
  let v3609 : BitVec 32 := Scalar.muli arg23 c16_i32_2314
  let c0_i32_2318 : BitVec 32 := 0#32
  let c0_i32_2319 : BitVec 32 := 0#32
  let c63_i32_2289 : BitVec 32 := 63#32
  let v3567 : BitVec 32 := Scalar.addi v3566 c63_i32_2289
  let c0_i32_2291 : BitVec 32 := 0#32
  let v3569 : BitVec 1 := Scalar.cmpi .sgt v3567 c0_i32_2291
  let v3570 : BitVec 32 := Scalar.extui v3569
  let c0_i32_2292 : BitVec 32 := 0#32
  let v3571 : BitVec 1 := Scalar.cmpi .slt v3567 c0_i32_2292
  let v3572 : BitVec 32 := Scalar.extui v3571
  let v3573 : BitVec 32 := Scalar.subi v3570 v3572
  let c64_i32_2290 : BitVec 32 := 64#32
  let c0_i32_2293 : BitVec 32 := 0#32
  let v3574 : BitVec 1 := Scalar.cmpi .sgt c64_i32_2290 c0_i32_2293
  let v3575 : BitVec 32 := Scalar.extui v3574
  let c0_i32_2294 : BitVec 32 := 0#32
  let v3576 : BitVec 1 := Scalar.cmpi .slt c64_i32_2290 c0_i32_2294
  let v3577 : BitVec 32 := Scalar.extui v3576
  let v3578 : BitVec 32 := Scalar.subi v3575 v3577
  let v3579 : BitVec 1 := Scalar.cmpi .ne v3573 v3578
  let v3580 : BitVec 32 := Scalar.remsi v3567 c64_i32_2290
  let c0_i32_2295 : BitVec 32 := 0#32
  let v3581 : BitVec 1 := Scalar.cmpi .ne v3580 c0_i32_2295
  let v3582 : BitVec 1 := Scalar.andi v3579 v3581
  let v3568 : BitVec 32 := Scalar.divsi v3567 c64_i32_2290
  let c1_i32_2296 : BitVec 32 := 1#32
  let v3583 : BitVec 32 := Scalar.subi v3568 c1_i32_2296
  let v3584 : BitVec 32 := Scalar.select v3582 v3583 v3568
  let c16_i32_2297 : BitVec 32 := 16#32
  let v3585 : BitVec 32 := Scalar.muli arg23 c16_i32_2297
  let v3586 : BitVec 32 := Scalar.subi v3584 v3585
  let c16_i32_2298 : BitVec 32 := 16#32
  let v3587 : BitVec 32 := Scalar.minsi v3586 c16_i32_2298
  ⟨![arg21.toNat, v3609.toNat, 0, 0], ![1, v3587.toNat, 256, 128]⟩
def k0_sz14 (arg23 : BitVec 32) (v3566 : BitVec 32) : Fin 3 → Nat :=
  let c63_i32_2289 : BitVec 32 := 63#32
  let v3567 : BitVec 32 := Scalar.addi v3566 c63_i32_2289
  let c0_i32_2291 : BitVec 32 := 0#32
  let v3569 : BitVec 1 := Scalar.cmpi .sgt v3567 c0_i32_2291
  let v3570 : BitVec 32 := Scalar.extui v3569
  let c0_i32_2292 : BitVec 32 := 0#32
  let v3571 : BitVec 1 := Scalar.cmpi .slt v3567 c0_i32_2292
  let v3572 : BitVec 32 := Scalar.extui v3571
  let v3573 : BitVec 32 := Scalar.subi v3570 v3572
  let c64_i32_2290 : BitVec 32 := 64#32
  let c0_i32_2293 : BitVec 32 := 0#32
  let v3574 : BitVec 1 := Scalar.cmpi .sgt c64_i32_2290 c0_i32_2293
  let v3575 : BitVec 32 := Scalar.extui v3574
  let c0_i32_2294 : BitVec 32 := 0#32
  let v3576 : BitVec 1 := Scalar.cmpi .slt c64_i32_2290 c0_i32_2294
  let v3577 : BitVec 32 := Scalar.extui v3576
  let v3578 : BitVec 32 := Scalar.subi v3575 v3577
  let v3579 : BitVec 1 := Scalar.cmpi .ne v3573 v3578
  let v3580 : BitVec 32 := Scalar.remsi v3567 c64_i32_2290
  let c0_i32_2295 : BitVec 32 := 0#32
  let v3581 : BitVec 1 := Scalar.cmpi .ne v3580 c0_i32_2295
  let v3582 : BitVec 1 := Scalar.andi v3579 v3581
  let v3568 : BitVec 32 := Scalar.divsi v3567 c64_i32_2290
  let c1_i32_2296 : BitVec 32 := 1#32
  let v3583 : BitVec 32 := Scalar.subi v3568 c1_i32_2296
  let v3584 : BitVec 32 := Scalar.select v3582 v3583 v3568
  let c16_i32_2297 : BitVec 32 := 16#32
  let v3585 : BitVec 32 := Scalar.muli arg23 c16_i32_2297
  let v3586 : BitVec 32 := Scalar.subi v3584 v3585
  let c16_i32_2298 : BitVec 32 := 16#32
  let v3587 : BitVec 32 := Scalar.minsi v3586 c16_i32_2298
  ![v3587.toNat, 256, 128]
def k0_off65 (arg24 : BitVec 32) : Fin 1 → Nat :=
  ![arg24.toNat]
def k0_cond9 (arg22 : BitVec 32) : BitVec 1 :=
  let c1_i32_2301 : BitVec 32 := 1#32
  let v3591 : BitVec 1 := Scalar.cmpi .eq arg22 c1_i32_2301
  let v3592 : BitVec 32 := Scalar.extui v3591
  let c0_i32_2302 : BitVec 32 := 0#32
  let v3593 : BitVec 1 := Scalar.cmpi .ne v3592 c0_i32_2302
  v3593

def k0_chk11 (arg21 : BitVec 32) (arg22 : BitVec 32) (arg24 : BitVec 32) : Prop :=
  (∀ (k0_h7 : k0_cond7 arg21 = 1#1), ∀ (k0_h8 : k0_cond8 arg22 = 1#1), ∀ a, (k0_off62 arg24) a + S1.size a ≤ S24.size a) ∧
  (∀ (k0_h7 : k0_cond7 arg21 = 1#1), ∀ (k0_h9 : k0_cond9 arg22 = 1#1), ∀ a, (k0_off65 arg24) a + S1.size a ≤ S24.size a)
theorem k0_off62_inb : ∀ (arg21 : BitVec 32) (arg22 : BitVec 32) (arg24 : BitVec 32) (k0_hw11 : k0_chk11 arg21 arg22 arg24), ∀ (k0_h7 : k0_cond7 arg21 = 1#1), ∀ (k0_h8 : k0_cond8 arg22 = 1#1), ∀ a, (k0_off62 arg24) a + S1.size a ≤ S24.size a := fun arg21 arg22 arg24 k0_hw11 k0_h7 k0_h8 => k0_hw11.1 k0_h7 k0_h8
theorem k0_off65_inb : ∀ (arg21 : BitVec 32) (arg22 : BitVec 32) (arg24 : BitVec 32) (k0_hw11 : k0_chk11 arg21 arg22 arg24), ∀ (k0_h7 : k0_cond7 arg21 = 1#1), ∀ (k0_h9 : k0_cond9 arg22 = 1#1), ∀ a, (k0_off65 arg24) a + S1.size a ≤ S24.size a := fun arg21 arg22 arg24 k0_hw11 k0_h7 k0_h9 => k0_hw11.2 k0_h7 k0_h9

def k0_off66 (arg23 : BitVec 32) (arg24 : BitVec 32) (v3566 : BitVec 32) : (Fin 4 → Nat) × (Fin 4 → Nat) :=
  let c0_i32_2315 : BitVec 32 := 0#32
  let c0_i32_2316 : BitVec 32 := 0#32
  let c0_i32_2317 : BitVec 32 := 0#32
  let c63_i32_2289 : BitVec 32 := 63#32
  let v3567 : BitVec 32 := Scalar.addi v3566 c63_i32_2289
  let c0_i32_2291 : BitVec 32 := 0#32
  let v3569 : BitVec 1 := Scalar.cmpi .sgt v3567 c0_i32_2291
  let v3570 : BitVec 32 := Scalar.extui v3569
  let c0_i32_2292 : BitVec 32 := 0#32
  let v3571 : BitVec 1 := Scalar.cmpi .slt v3567 c0_i32_2292
  let v3572 : BitVec 32 := Scalar.extui v3571
  let v3573 : BitVec 32 := Scalar.subi v3570 v3572
  let c64_i32_2290 : BitVec 32 := 64#32
  let c0_i32_2293 : BitVec 32 := 0#32
  let v3574 : BitVec 1 := Scalar.cmpi .sgt c64_i32_2290 c0_i32_2293
  let v3575 : BitVec 32 := Scalar.extui v3574
  let c0_i32_2294 : BitVec 32 := 0#32
  let v3576 : BitVec 1 := Scalar.cmpi .slt c64_i32_2290 c0_i32_2294
  let v3577 : BitVec 32 := Scalar.extui v3576
  let v3578 : BitVec 32 := Scalar.subi v3575 v3577
  let v3579 : BitVec 1 := Scalar.cmpi .ne v3573 v3578
  let v3580 : BitVec 32 := Scalar.remsi v3567 c64_i32_2290
  let c0_i32_2295 : BitVec 32 := 0#32
  let v3581 : BitVec 1 := Scalar.cmpi .ne v3580 c0_i32_2295
  let v3582 : BitVec 1 := Scalar.andi v3579 v3581
  let v3568 : BitVec 32 := Scalar.divsi v3567 c64_i32_2290
  let c1_i32_2296 : BitVec 32 := 1#32
  let v3583 : BitVec 32 := Scalar.subi v3568 c1_i32_2296
  let v3584 : BitVec 32 := Scalar.select v3582 v3583 v3568
  let c16_i32_2297 : BitVec 32 := 16#32
  let v3585 : BitVec 32 := Scalar.muli arg23 c16_i32_2297
  let v3586 : BitVec 32 := Scalar.subi v3584 v3585
  let c16_i32_2298 : BitVec 32 := 16#32
  let v3587 : BitVec 32 := Scalar.minsi v3586 c16_i32_2298
  ⟨![arg24.toNat, 0, 0, 0], ![1, v3587.toNat, 256, 128]⟩
def k0_sz15 (arg23 : BitVec 32) (v3566 : BitVec 32) : Fin 3 → Nat :=
  let c63_i32_2289 : BitVec 32 := 63#32
  let v3567 : BitVec 32 := Scalar.addi v3566 c63_i32_2289
  let c0_i32_2291 : BitVec 32 := 0#32
  let v3569 : BitVec 1 := Scalar.cmpi .sgt v3567 c0_i32_2291
  let v3570 : BitVec 32 := Scalar.extui v3569
  let c0_i32_2292 : BitVec 32 := 0#32
  let v3571 : BitVec 1 := Scalar.cmpi .slt v3567 c0_i32_2292
  let v3572 : BitVec 32 := Scalar.extui v3571
  let v3573 : BitVec 32 := Scalar.subi v3570 v3572
  let c64_i32_2290 : BitVec 32 := 64#32
  let c0_i32_2293 : BitVec 32 := 0#32
  let v3574 : BitVec 1 := Scalar.cmpi .sgt c64_i32_2290 c0_i32_2293
  let v3575 : BitVec 32 := Scalar.extui v3574
  let c0_i32_2294 : BitVec 32 := 0#32
  let v3576 : BitVec 1 := Scalar.cmpi .slt c64_i32_2290 c0_i32_2294
  let v3577 : BitVec 32 := Scalar.extui v3576
  let v3578 : BitVec 32 := Scalar.subi v3575 v3577
  let v3579 : BitVec 1 := Scalar.cmpi .ne v3573 v3578
  let v3580 : BitVec 32 := Scalar.remsi v3567 c64_i32_2290
  let c0_i32_2295 : BitVec 32 := 0#32
  let v3581 : BitVec 1 := Scalar.cmpi .ne v3580 c0_i32_2295
  let v3582 : BitVec 1 := Scalar.andi v3579 v3581
  let v3568 : BitVec 32 := Scalar.divsi v3567 c64_i32_2290
  let c1_i32_2296 : BitVec 32 := 1#32
  let v3583 : BitVec 32 := Scalar.subi v3568 c1_i32_2296
  let v3584 : BitVec 32 := Scalar.select v3582 v3583 v3568
  let c16_i32_2297 : BitVec 32 := 16#32
  let v3585 : BitVec 32 := Scalar.muli arg23 c16_i32_2297
  let v3586 : BitVec 32 := Scalar.subi v3584 v3585
  let c16_i32_2298 : BitVec 32 := 16#32
  let v3587 : BitVec 32 := Scalar.minsi v3586 c16_i32_2298
  ![v3587.toNat, 256, 128]
def k0_off67 (arg21 : BitVec 32) (arg23 : BitVec 32) (v3566 : BitVec 32) : (Fin 4 → Nat) × (Fin 4 → Nat) :=
  let c16_i32_2314 : BitVec 32 := 16#32
  let v3609 : BitVec 32 := Scalar.muli arg23 c16_i32_2314
  let c0_i32_2318 : BitVec 32 := 0#32
  let c0_i32_2319 : BitVec 32 := 0#32
  let c63_i32_2289 : BitVec 32 := 63#32
  let v3567 : BitVec 32 := Scalar.addi v3566 c63_i32_2289
  let c0_i32_2291 : BitVec 32 := 0#32
  let v3569 : BitVec 1 := Scalar.cmpi .sgt v3567 c0_i32_2291
  let v3570 : BitVec 32 := Scalar.extui v3569
  let c0_i32_2292 : BitVec 32 := 0#32
  let v3571 : BitVec 1 := Scalar.cmpi .slt v3567 c0_i32_2292
  let v3572 : BitVec 32 := Scalar.extui v3571
  let v3573 : BitVec 32 := Scalar.subi v3570 v3572
  let c64_i32_2290 : BitVec 32 := 64#32
  let c0_i32_2293 : BitVec 32 := 0#32
  let v3574 : BitVec 1 := Scalar.cmpi .sgt c64_i32_2290 c0_i32_2293
  let v3575 : BitVec 32 := Scalar.extui v3574
  let c0_i32_2294 : BitVec 32 := 0#32
  let v3576 : BitVec 1 := Scalar.cmpi .slt c64_i32_2290 c0_i32_2294
  let v3577 : BitVec 32 := Scalar.extui v3576
  let v3578 : BitVec 32 := Scalar.subi v3575 v3577
  let v3579 : BitVec 1 := Scalar.cmpi .ne v3573 v3578
  let v3580 : BitVec 32 := Scalar.remsi v3567 c64_i32_2290
  let c0_i32_2295 : BitVec 32 := 0#32
  let v3581 : BitVec 1 := Scalar.cmpi .ne v3580 c0_i32_2295
  let v3582 : BitVec 1 := Scalar.andi v3579 v3581
  let v3568 : BitVec 32 := Scalar.divsi v3567 c64_i32_2290
  let c1_i32_2296 : BitVec 32 := 1#32
  let v3583 : BitVec 32 := Scalar.subi v3568 c1_i32_2296
  let v3584 : BitVec 32 := Scalar.select v3582 v3583 v3568
  let c16_i32_2297 : BitVec 32 := 16#32
  let v3585 : BitVec 32 := Scalar.muli arg23 c16_i32_2297
  let v3586 : BitVec 32 := Scalar.subi v3584 v3585
  let c16_i32_2298 : BitVec 32 := 16#32
  let v3587 : BitVec 32 := Scalar.minsi v3586 c16_i32_2298
  ⟨![arg21.toNat, v3609.toNat, 0, 0], ![1, v3587.toNat, 256, 128]⟩
def k0_sz16 (arg23 : BitVec 32) (v3566 : BitVec 32) : Fin 3 → Nat :=
  let c63_i32_2289 : BitVec 32 := 63#32
  let v3567 : BitVec 32 := Scalar.addi v3566 c63_i32_2289
  let c0_i32_2291 : BitVec 32 := 0#32
  let v3569 : BitVec 1 := Scalar.cmpi .sgt v3567 c0_i32_2291
  let v3570 : BitVec 32 := Scalar.extui v3569
  let c0_i32_2292 : BitVec 32 := 0#32
  let v3571 : BitVec 1 := Scalar.cmpi .slt v3567 c0_i32_2292
  let v3572 : BitVec 32 := Scalar.extui v3571
  let v3573 : BitVec 32 := Scalar.subi v3570 v3572
  let c64_i32_2290 : BitVec 32 := 64#32
  let c0_i32_2293 : BitVec 32 := 0#32
  let v3574 : BitVec 1 := Scalar.cmpi .sgt c64_i32_2290 c0_i32_2293
  let v3575 : BitVec 32 := Scalar.extui v3574
  let c0_i32_2294 : BitVec 32 := 0#32
  let v3576 : BitVec 1 := Scalar.cmpi .slt c64_i32_2290 c0_i32_2294
  let v3577 : BitVec 32 := Scalar.extui v3576
  let v3578 : BitVec 32 := Scalar.subi v3575 v3577
  let v3579 : BitVec 1 := Scalar.cmpi .ne v3573 v3578
  let v3580 : BitVec 32 := Scalar.remsi v3567 c64_i32_2290
  let c0_i32_2295 : BitVec 32 := 0#32
  let v3581 : BitVec 1 := Scalar.cmpi .ne v3580 c0_i32_2295
  let v3582 : BitVec 1 := Scalar.andi v3579 v3581
  let v3568 : BitVec 32 := Scalar.divsi v3567 c64_i32_2290
  let c1_i32_2296 : BitVec 32 := 1#32
  let v3583 : BitVec 32 := Scalar.subi v3568 c1_i32_2296
  let v3584 : BitVec 32 := Scalar.select v3582 v3583 v3568
  let c16_i32_2297 : BitVec 32 := 16#32
  let v3585 : BitVec 32 := Scalar.muli arg23 c16_i32_2297
  let v3586 : BitVec 32 := Scalar.subi v3584 v3585
  let c16_i32_2298 : BitVec 32 := 16#32
  let v3587 : BitVec 32 := Scalar.minsi v3586 c16_i32_2298
  ![v3587.toNat, 256, 128]

def k0_chk12 (arg21 : BitVec 32) (arg22 : BitVec 32) (arg23 : BitVec 32) (arg24 : BitVec 32) (v3566 : BitVec 32) : Prop :=
  (∀ (k0_h7 : k0_cond7 arg21 = 1#1), ∀ (k0_h8 : k0_cond8 arg22 = 1#1), ∀ a, (k0_off63 arg23 arg24 v3566).2 a = 0 ∨ (k0_off63 arg23 arg24 v3566).1 a + (k0_off63 arg23 arg24 v3566).2 a ≤ S24x16x256x128.size a) ∧
  (∀ (k0_h7 : k0_cond7 arg21 = 1#1), ∀ (k0_h8 : k0_cond8 arg22 = 1#1), (⟨4, (k0_off63 arg23 arg24 v3566).2⟩ : Shape).Squeezes ⟨3, k0_sz13 arg23 v3566⟩) ∧
  (∀ (k0_h7 : k0_cond7 arg21 = 1#1), ∀ (k0_h8 : k0_cond8 arg22 = 1#1), ∀ a, (k0_off64 arg21 arg23 v3566).2 a = 0 ∨ (k0_off64 arg21 arg23 v3566).1 a + (k0_off64 arg21 arg23 v3566).2 a ≤ S64x128x256x128.size a) ∧
  (∀ (k0_h7 : k0_cond7 arg21 = 1#1), ∀ (k0_h8 : k0_cond8 arg22 = 1#1), (⟨4, (k0_off64 arg21 arg23 v3566).2⟩ : Shape).Squeezes ⟨3, k0_sz14 arg23 v3566⟩) ∧
  (∀ (k0_h7 : k0_cond7 arg21 = 1#1), ∀ (k0_h8 : k0_cond8 arg22 = 1#1), ∀ (hinb : ∀ a, (k0_off64 arg21 arg23 v3566).2 a = 0 ∨ (k0_off64 arg21 arg23 v3566).1 a + (k0_off64 arg21 arg23 v3566).2 a ≤ S64x128x256x128.size a), (Rect.unitDyn (s := S64x128x256x128) (k0_off64 arg21 arg23 v3566).1 (k0_off64 arg21 arg23 v3566).2 hinb).WholeWords (EltTy.packing .fp8e4m3)) ∧
  (∀ (k0_h7 : k0_cond7 arg21 = 1#1), ∀ (k0_h8 : k0_cond8 arg22 = 1#1), ∀ (hinb : ∀ a, (k0_off63 arg23 arg24 v3566).2 a = 0 ∨ (k0_off63 arg23 arg24 v3566).1 a + (k0_off63 arg23 arg24 v3566).2 a ≤ S24x16x256x128.size a), (Rect.unitDyn (s := S24x16x256x128) (k0_off63 arg23 arg24 v3566).1 (k0_off63 arg23 arg24 v3566).2 hinb).WholeWords (EltTy.packing .fp8e4m3)) ∧
  (∀ (k0_h7 : k0_cond7 arg21 = 1#1), ∀ (k0_h9 : k0_cond9 arg22 = 1#1), ∀ a, (k0_off66 arg23 arg24 v3566).2 a = 0 ∨ (k0_off66 arg23 arg24 v3566).1 a + (k0_off66 arg23 arg24 v3566).2 a ≤ S24x16x256x128.size a) ∧
  (∀ (k0_h7 : k0_cond7 arg21 = 1#1), ∀ (k0_h9 : k0_cond9 arg22 = 1#1), (⟨4, (k0_off66 arg23 arg24 v3566).2⟩ : Shape).Squeezes ⟨3, k0_sz15 arg23 v3566⟩) ∧
  (∀ (k0_h7 : k0_cond7 arg21 = 1#1), ∀ (k0_h9 : k0_cond9 arg22 = 1#1), ∀ a, (k0_off67 arg21 arg23 v3566).2 a = 0 ∨ (k0_off67 arg21 arg23 v3566).1 a + (k0_off67 arg21 arg23 v3566).2 a ≤ S64x128x256x128.size a) ∧
  (∀ (k0_h7 : k0_cond7 arg21 = 1#1), ∀ (k0_h9 : k0_cond9 arg22 = 1#1), (⟨4, (k0_off67 arg21 arg23 v3566).2⟩ : Shape).Squeezes ⟨3, k0_sz16 arg23 v3566⟩) ∧
  (∀ (k0_h7 : k0_cond7 arg21 = 1#1), ∀ (k0_h9 : k0_cond9 arg22 = 1#1), ∀ (hinb : ∀ a, (k0_off67 arg21 arg23 v3566).2 a = 0 ∨ (k0_off67 arg21 arg23 v3566).1 a + (k0_off67 arg21 arg23 v3566).2 a ≤ S64x128x256x128.size a), (Rect.unitDyn (s := S64x128x256x128) (k0_off67 arg21 arg23 v3566).1 (k0_off67 arg21 arg23 v3566).2 hinb).WholeWords (EltTy.packing .fp8e4m3)) ∧
  (∀ (k0_h7 : k0_cond7 arg21 = 1#1), ∀ (k0_h9 : k0_cond9 arg22 = 1#1), ∀ (hinb : ∀ a, (k0_off66 arg23 arg24 v3566).2 a = 0 ∨ (k0_off66 arg23 arg24 v3566).1 a + (k0_off66 arg23 arg24 v3566).2 a ≤ S24x16x256x128.size a), (Rect.unitDyn (s := S24x16x256x128) (k0_off66 arg23 arg24 v3566).1 (k0_off66 arg23 arg24 v3566).2 hinb).WholeWords (EltTy.packing .fp8e4m3))
theorem k0_off63_inb : ∀ (arg21 : BitVec 32) (arg22 : BitVec 32) (arg23 : BitVec 32) (arg24 : BitVec 32) (v3566 : BitVec 32) (k0_hw12 : k0_chk12 arg21 arg22 arg23 arg24 v3566), ∀ (k0_h7 : k0_cond7 arg21 = 1#1), ∀ (k0_h8 : k0_cond8 arg22 = 1#1), ∀ a, (k0_off63 arg23 arg24 v3566).2 a = 0 ∨ (k0_off63 arg23 arg24 v3566).1 a + (k0_off63 arg23 arg24 v3566).2 a ≤ S24x16x256x128.size a := fun arg21 arg22 arg23 arg24 v3566 k0_hw12 k0_h7 k0_h8 => k0_hw12.1 k0_h7 k0_h8
theorem k0_sz13_squeezes : ∀ (arg21 : BitVec 32) (arg22 : BitVec 32) (arg23 : BitVec 32) (arg24 : BitVec 32) (v3566 : BitVec 32) (k0_hw12 : k0_chk12 arg21 arg22 arg23 arg24 v3566), ∀ (k0_h7 : k0_cond7 arg21 = 1#1), ∀ (k0_h8 : k0_cond8 arg22 = 1#1), (⟨4, (k0_off63 arg23 arg24 v3566).2⟩ : Shape).Squeezes ⟨3, k0_sz13 arg23 v3566⟩ := fun arg21 arg22 arg23 arg24 v3566 k0_hw12 k0_h7 k0_h8 => k0_hw12.2.1 k0_h7 k0_h8
theorem k0_off64_inb : ∀ (arg21 : BitVec 32) (arg22 : BitVec 32) (arg23 : BitVec 32) (arg24 : BitVec 32) (v3566 : BitVec 32) (k0_hw12 : k0_chk12 arg21 arg22 arg23 arg24 v3566), ∀ (k0_h7 : k0_cond7 arg21 = 1#1), ∀ (k0_h8 : k0_cond8 arg22 = 1#1), ∀ a, (k0_off64 arg21 arg23 v3566).2 a = 0 ∨ (k0_off64 arg21 arg23 v3566).1 a + (k0_off64 arg21 arg23 v3566).2 a ≤ S64x128x256x128.size a := fun arg21 arg22 arg23 arg24 v3566 k0_hw12 k0_h7 k0_h8 => k0_hw12.2.2.1 k0_h7 k0_h8
theorem k0_sz14_squeezes : ∀ (arg21 : BitVec 32) (arg22 : BitVec 32) (arg23 : BitVec 32) (arg24 : BitVec 32) (v3566 : BitVec 32) (k0_hw12 : k0_chk12 arg21 arg22 arg23 arg24 v3566), ∀ (k0_h7 : k0_cond7 arg21 = 1#1), ∀ (k0_h8 : k0_cond8 arg22 = 1#1), (⟨4, (k0_off64 arg21 arg23 v3566).2⟩ : Shape).Squeezes ⟨3, k0_sz14 arg23 v3566⟩ := fun arg21 arg22 arg23 arg24 v3566 k0_hw12 k0_h7 k0_h8 => k0_hw12.2.2.2.1 k0_h7 k0_h8
theorem k0_off64_wordsfp8e4m3 : ∀ (arg21 : BitVec 32) (arg22 : BitVec 32) (arg23 : BitVec 32) (arg24 : BitVec 32) (v3566 : BitVec 32) (k0_hw12 : k0_chk12 arg21 arg22 arg23 arg24 v3566), ∀ (k0_h7 : k0_cond7 arg21 = 1#1), ∀ (k0_h8 : k0_cond8 arg22 = 1#1), (Rect.unitDyn (s := S64x128x256x128) (k0_off64 arg21 arg23 v3566).1 (k0_off64 arg21 arg23 v3566).2 (k0_off64_inb arg21 arg22 arg23 arg24 v3566 k0_hw12 k0_h7 k0_h8)).WholeWords (EltTy.packing .fp8e4m3) := fun arg21 arg22 arg23 arg24 v3566 k0_hw12 k0_h7 k0_h8 => k0_hw12.2.2.2.2.1 k0_h7 k0_h8 (k0_off64_inb arg21 arg22 arg23 arg24 v3566 k0_hw12 k0_h7 k0_h8)
theorem k0_off63_wordsfp8e4m3 : ∀ (arg21 : BitVec 32) (arg22 : BitVec 32) (arg23 : BitVec 32) (arg24 : BitVec 32) (v3566 : BitVec 32) (k0_hw12 : k0_chk12 arg21 arg22 arg23 arg24 v3566), ∀ (k0_h7 : k0_cond7 arg21 = 1#1), ∀ (k0_h8 : k0_cond8 arg22 = 1#1), (Rect.unitDyn (s := S24x16x256x128) (k0_off63 arg23 arg24 v3566).1 (k0_off63 arg23 arg24 v3566).2 (k0_off63_inb arg21 arg22 arg23 arg24 v3566 k0_hw12 k0_h7 k0_h8)).WholeWords (EltTy.packing .fp8e4m3) := fun arg21 arg22 arg23 arg24 v3566 k0_hw12 k0_h7 k0_h8 => k0_hw12.2.2.2.2.2.1 k0_h7 k0_h8 (k0_off63_inb arg21 arg22 arg23 arg24 v3566 k0_hw12 k0_h7 k0_h8)
theorem k0_off66_inb : ∀ (arg21 : BitVec 32) (arg22 : BitVec 32) (arg23 : BitVec 32) (arg24 : BitVec 32) (v3566 : BitVec 32) (k0_hw12 : k0_chk12 arg21 arg22 arg23 arg24 v3566), ∀ (k0_h7 : k0_cond7 arg21 = 1#1), ∀ (k0_h9 : k0_cond9 arg22 = 1#1), ∀ a, (k0_off66 arg23 arg24 v3566).2 a = 0 ∨ (k0_off66 arg23 arg24 v3566).1 a + (k0_off66 arg23 arg24 v3566).2 a ≤ S24x16x256x128.size a := fun arg21 arg22 arg23 arg24 v3566 k0_hw12 k0_h7 k0_h9 => k0_hw12.2.2.2.2.2.2.1 k0_h7 k0_h9
theorem k0_sz15_squeezes : ∀ (arg21 : BitVec 32) (arg22 : BitVec 32) (arg23 : BitVec 32) (arg24 : BitVec 32) (v3566 : BitVec 32) (k0_hw12 : k0_chk12 arg21 arg22 arg23 arg24 v3566), ∀ (k0_h7 : k0_cond7 arg21 = 1#1), ∀ (k0_h9 : k0_cond9 arg22 = 1#1), (⟨4, (k0_off66 arg23 arg24 v3566).2⟩ : Shape).Squeezes ⟨3, k0_sz15 arg23 v3566⟩ := fun arg21 arg22 arg23 arg24 v3566 k0_hw12 k0_h7 k0_h9 => k0_hw12.2.2.2.2.2.2.2.1 k0_h7 k0_h9
theorem k0_off67_inb : ∀ (arg21 : BitVec 32) (arg22 : BitVec 32) (arg23 : BitVec 32) (arg24 : BitVec 32) (v3566 : BitVec 32) (k0_hw12 : k0_chk12 arg21 arg22 arg23 arg24 v3566), ∀ (k0_h7 : k0_cond7 arg21 = 1#1), ∀ (k0_h9 : k0_cond9 arg22 = 1#1), ∀ a, (k0_off67 arg21 arg23 v3566).2 a = 0 ∨ (k0_off67 arg21 arg23 v3566).1 a + (k0_off67 arg21 arg23 v3566).2 a ≤ S64x128x256x128.size a := fun arg21 arg22 arg23 arg24 v3566 k0_hw12 k0_h7 k0_h9 => k0_hw12.2.2.2.2.2.2.2.2.1 k0_h7 k0_h9
theorem k0_sz16_squeezes : ∀ (arg21 : BitVec 32) (arg22 : BitVec 32) (arg23 : BitVec 32) (arg24 : BitVec 32) (v3566 : BitVec 32) (k0_hw12 : k0_chk12 arg21 arg22 arg23 arg24 v3566), ∀ (k0_h7 : k0_cond7 arg21 = 1#1), ∀ (k0_h9 : k0_cond9 arg22 = 1#1), (⟨4, (k0_off67 arg21 arg23 v3566).2⟩ : Shape).Squeezes ⟨3, k0_sz16 arg23 v3566⟩ := fun arg21 arg22 arg23 arg24 v3566 k0_hw12 k0_h7 k0_h9 => k0_hw12.2.2.2.2.2.2.2.2.2.1 k0_h7 k0_h9
theorem k0_off67_wordsfp8e4m3 : ∀ (arg21 : BitVec 32) (arg22 : BitVec 32) (arg23 : BitVec 32) (arg24 : BitVec 32) (v3566 : BitVec 32) (k0_hw12 : k0_chk12 arg21 arg22 arg23 arg24 v3566), ∀ (k0_h7 : k0_cond7 arg21 = 1#1), ∀ (k0_h9 : k0_cond9 arg22 = 1#1), (Rect.unitDyn (s := S64x128x256x128) (k0_off67 arg21 arg23 v3566).1 (k0_off67 arg21 arg23 v3566).2 (k0_off67_inb arg21 arg22 arg23 arg24 v3566 k0_hw12 k0_h7 k0_h9)).WholeWords (EltTy.packing .fp8e4m3) := fun arg21 arg22 arg23 arg24 v3566 k0_hw12 k0_h7 k0_h9 => k0_hw12.2.2.2.2.2.2.2.2.2.2.1 k0_h7 k0_h9 (k0_off67_inb arg21 arg22 arg23 arg24 v3566 k0_hw12 k0_h7 k0_h9)
theorem k0_off66_wordsfp8e4m3 : ∀ (arg21 : BitVec 32) (arg22 : BitVec 32) (arg23 : BitVec 32) (arg24 : BitVec 32) (v3566 : BitVec 32) (k0_hw12 : k0_chk12 arg21 arg22 arg23 arg24 v3566), ∀ (k0_h7 : k0_cond7 arg21 = 1#1), ∀ (k0_h9 : k0_cond9 arg22 = 1#1), (Rect.unitDyn (s := S24x16x256x128) (k0_off66 arg23 arg24 v3566).1 (k0_off66 arg23 arg24 v3566).2 (k0_off66_inb arg21 arg22 arg23 arg24 v3566 k0_hw12 k0_h7 k0_h9)).WholeWords (EltTy.packing .fp8e4m3) := fun arg21 arg22 arg23 arg24 v3566 k0_hw12 k0_h7 k0_h9 => k0_hw12.2.2.2.2.2.2.2.2.2.2.2 k0_h7 k0_h9 (k0_off66_inb arg21 arg22 arg23 arg24 v3566 k0_hw12 k0_h7 k0_h9)

@[reducible] def k0_t6_loop (v2354 : BitVec 32) : Scf.Loop 32 :=
  let c0_i32_1824 : BitVec 32 := 0#32
  let c63_i32 : BitVec 32 := 63#32
  let v2355 : BitVec 32 := Scalar.addi v2354 c63_i32
  let c0_i32_1789 : BitVec 32 := 0#32
  let v2357 : BitVec 1 := Scalar.cmpi .sgt v2355 c0_i32_1789
  let v2358 : BitVec 32 := Scalar.extui v2357
  let c0_i32_1790 : BitVec 32 := 0#32
  let v2359 : BitVec 1 := Scalar.cmpi .slt v2355 c0_i32_1790
  let v2360 : BitVec 32 := Scalar.extui v2359
  let v2361 : BitVec 32 := Scalar.subi v2358 v2360
  let c64_i32_1788 : BitVec 32 := 64#32
  let c0_i32_1791 : BitVec 32 := 0#32
  let v2362 : BitVec 1 := Scalar.cmpi .sgt c64_i32_1788 c0_i32_1791
  let v2363 : BitVec 32 := Scalar.extui v2362
  let c0_i32_1792 : BitVec 32 := 0#32
  let v2364 : BitVec 1 := Scalar.cmpi .slt c64_i32_1788 c0_i32_1792
  let v2365 : BitVec 32 := Scalar.extui v2364
  let v2366 : BitVec 32 := Scalar.subi v2363 v2365
  let v2367 : BitVec 1 := Scalar.cmpi .ne v2361 v2366
  let v2368 : BitVec 32 := Scalar.remsi v2355 c64_i32_1788
  let c0_i32_1793 : BitVec 32 := 0#32
  let v2369 : BitVec 1 := Scalar.cmpi .ne v2368 c0_i32_1793
  let v2370 : BitVec 1 := Scalar.andi v2367 v2369
  let v2356 : BitVec 32 := Scalar.divsi v2355 c64_i32_1788
  let c1_i32_1794 : BitVec 32 := 1#32
  let v2371 : BitVec 32 := Scalar.subi v2356 c1_i32_1794
  let v2372 : BitVec 32 := Scalar.select v2370 v2371 v2356
  let c16_i32 : BitVec 32 := 16#32
  let v2373 : BitVec 32 := Scalar.addi v2372 c16_i32
  let c1_i32_1795 : BitVec 32 := 1#32
  let v2374 : BitVec 32 := Scalar.subi v2373 c1_i32_1795
  let c0_i32_1797 : BitVec 32 := 0#32
  let v2376 : BitVec 1 := Scalar.cmpi .sgt v2374 c0_i32_1797
  let v2377 : BitVec 32 := Scalar.extui v2376
  let c0_i32_1798 : BitVec 32 := 0#32
  let v2378 : BitVec 1 := Scalar.cmpi .slt v2374 c0_i32_1798
  let v2379 : BitVec 32 := Scalar.extui v2378
  let v2380 : BitVec 32 := Scalar.subi v2377 v2379
  let c16_i32_1796 : BitVec 32 := 16#32
  let c0_i32_1799 : BitVec 32 := 0#32
  let v2381 : BitVec 1 := Scalar.cmpi .sgt c16_i32_1796 c0_i32_1799
  let v2382 : BitVec 32 := Scalar.extui v2381
  let c0_i32_1800 : BitVec 32 := 0#32
  let v2383 : BitVec 1 := Scalar.cmpi .slt c16_i32_1796 c0_i32_1800
  let v2384 : BitVec 32 := Scalar.extui v2383
  let v2385 : BitVec 32 := Scalar.subi v2382 v2384
  let v2386 : BitVec 1 := Scalar.cmpi .ne v2380 v2385
  let v2387 : BitVec 32 := Scalar.remsi v2374 c16_i32_1796
  let c0_i32_1801 : BitVec 32 := 0#32
  let v2388 : BitVec 1 := Scalar.cmpi .ne v2387 c0_i32_1801
  let v2389 : BitVec 1 := Scalar.andi v2386 v2388
  let v2375 : BitVec 32 := Scalar.divsi v2374 c16_i32_1796
  let c1_i32_1802 : BitVec 32 := 1#32
  let v2390 : BitVec 32 := Scalar.subi v2375 c1_i32_1802
  let v2391 : BitVec 32 := Scalar.select v2389 v2390 v2375
  let c4_i32_1822 : BitVec 32 := 4#32
  let v2437 : BitVec 32 := Scalar.muli v2391 c4_i32_1822
  let v2439 : BitVec 32 := Scalar.subi v2437 c0_i32_1824
  let c1_i32_1825 : BitVec 32 := 1#32
  let v2441 : BitVec 32 := Scalar.divsi v2439 c1_i32_1825
  let v2442 : BitVec 32 := Scalar.muli v2441 c1_i32_1825
  let v2443 : BitVec 32 := Scalar.addi c0_i32_1824 v2442
  let c1_i32_1826 : BitVec 32 := 1#32
  ⟨c0_i32_1824, v2443, c1_i32_1826⟩
def k0_off68 (v2354 : BitVec 32) (k0_t6 : Fin (k0_t6_loop v2354).trips) (c0_i32_1842 : BitVec 32) : Fin 3 → Nat :=
  let c0_i32_1824 : BitVec 32 := 0#32
  let c1_i32_1826 : BitVec 32 := 1#32
  let arg20 : BitVec 32 := Scf.iv c0_i32_1824 c1_i32_1826 k0_t6
  let c8_i32_1841 : BitVec 32 := 8#32
  let v2475 : BitVec 32 := Scalar.muli arg20 c8_i32_1841
  let v2476 : BitVec 32 := Scalar.addi v2475 c0_i32_1842
  let v2477 : Index := Scalar.indexCast v2476
  let c0_1843 : Index := 0#32
  let c0_1844 : Index := 0#32
  ![v2477.toNat, 0, 0]
@[reducible] def k0_t7_loop (v2354 : BitVec 32) : Scf.Loop 32 :=
  let c0_i32_1824 : BitVec 32 := 0#32
  let c63_i32 : BitVec 32 := 63#32
  let v2355 : BitVec 32 := Scalar.addi v2354 c63_i32
  let c0_i32_1789 : BitVec 32 := 0#32
  let v2357 : BitVec 1 := Scalar.cmpi .sgt v2355 c0_i32_1789
  let v2358 : BitVec 32 := Scalar.extui v2357
  let c0_i32_1790 : BitVec 32 := 0#32
  let v2359 : BitVec 1 := Scalar.cmpi .slt v2355 c0_i32_1790
  let v2360 : BitVec 32 := Scalar.extui v2359
  let v2361 : BitVec 32 := Scalar.subi v2358 v2360
  let c64_i32_1788 : BitVec 32 := 64#32
  let c0_i32_1791 : BitVec 32 := 0#32
  let v2362 : BitVec 1 := Scalar.cmpi .sgt c64_i32_1788 c0_i32_1791
  let v2363 : BitVec 32 := Scalar.extui v2362
  let c0_i32_1792 : BitVec 32 := 0#32
  let v2364 : BitVec 1 := Scalar.cmpi .slt c64_i32_1788 c0_i32_1792
  let v2365 : BitVec 32 := Scalar.extui v2364
  let v2366 : BitVec 32 := Scalar.subi v2363 v2365
  let v2367 : BitVec 1 := Scalar.cmpi .ne v2361 v2366
  let v2368 : BitVec 32 := Scalar.remsi v2355 c64_i32_1788
  let c0_i32_1793 : BitVec 32 := 0#32
  let v2369 : BitVec 1 := Scalar.cmpi .ne v2368 c0_i32_1793
  let v2370 : BitVec 1 := Scalar.andi v2367 v2369
  let v2356 : BitVec 32 := Scalar.divsi v2355 c64_i32_1788
  let c1_i32_1794 : BitVec 32 := 1#32
  let v2371 : BitVec 32 := Scalar.subi v2356 c1_i32_1794
  let v2372 : BitVec 32 := Scalar.select v2370 v2371 v2356
  let c16_i32 : BitVec 32 := 16#32
  let v2373 : BitVec 32 := Scalar.addi v2372 c16_i32
  let c1_i32_1795 : BitVec 32 := 1#32
  let v2374 : BitVec 32 := Scalar.subi v2373 c1_i32_1795
  let c0_i32_1797 : BitVec 32 := 0#32
  let v2376 : BitVec 1 := Scalar.cmpi .sgt v2374 c0_i32_1797
  let v2377 : BitVec 32 := Scalar.extui v2376
  let c0_i32_1798 : BitVec 32 := 0#32
  let v2378 : BitVec 1 := Scalar.cmpi .slt v2374 c0_i32_1798
  let v2379 : BitVec 32 := Scalar.extui v2378
  let v2380 : BitVec 32 := Scalar.subi v2377 v2379
  let c16_i32_1796 : BitVec 32 := 16#32
  let c0_i32_1799 : BitVec 32 := 0#32
  let v2381 : BitVec 1 := Scalar.cmpi .sgt c16_i32_1796 c0_i32_1799
  let v2382 : BitVec 32 := Scalar.extui v2381
  let c0_i32_1800 : BitVec 32 := 0#32
  let v2383 : BitVec 1 := Scalar.cmpi .slt c16_i32_1796 c0_i32_1800
  let v2384 : BitVec 32 := Scalar.extui v2383
  let v2385 : BitVec 32 := Scalar.subi v2382 v2384
  let v2386 : BitVec 1 := Scalar.cmpi .ne v2380 v2385
  let v2387 : BitVec 32 := Scalar.remsi v2374 c16_i32_1796
  let c0_i32_1801 : BitVec 32 := 0#32
  let v2388 : BitVec 1 := Scalar.cmpi .ne v2387 c0_i32_1801
  let v2389 : BitVec 1 := Scalar.andi v2386 v2388
  let v2375 : BitVec 32 := Scalar.divsi v2374 c16_i32_1796
  let c1_i32_1802 : BitVec 32 := 1#32
  let v2390 : BitVec 32 := Scalar.subi v2375 c1_i32_1802
  let v2391 : BitVec 32 := Scalar.select v2389 v2390 v2375
  let c4_i32_1822 : BitVec 32 := 4#32
  let v2437 : BitVec 32 := Scalar.muli v2391 c4_i32_1822
  let v2439 : BitVec 32 := Scalar.subi v2437 c0_i32_1824
  let c1_i32_1825 : BitVec 32 := 1#32
  let v2441 : BitVec 32 := Scalar.divsi v2439 c1_i32_1825
  let v2442 : BitVec 32 := Scalar.muli v2441 c1_i32_1825
  let v2443 : BitVec 32 := Scalar.addi c0_i32_1824 v2442
  let v2440 : BitVec 32 := Scalar.addi c0_i32_1824 v2439
  let c1_i32_1827 : BitVec 32 := 1#32
  ⟨v2443, v2440, c1_i32_1827⟩
def k0_off69 (v2354 : BitVec 32) (k0_t7 : Fin (k0_t7_loop v2354).trips) (c0_i32_1842 : BitVec 32) : Fin 3 → Nat :=
  let c0_i32_1824 : BitVec 32 := 0#32
  let c63_i32 : BitVec 32 := 63#32
  let v2355 : BitVec 32 := Scalar.addi v2354 c63_i32
  let c0_i32_1789 : BitVec 32 := 0#32
  let v2357 : BitVec 1 := Scalar.cmpi .sgt v2355 c0_i32_1789
  let v2358 : BitVec 32 := Scalar.extui v2357
  let c0_i32_1790 : BitVec 32 := 0#32
  let v2359 : BitVec 1 := Scalar.cmpi .slt v2355 c0_i32_1790
  let v2360 : BitVec 32 := Scalar.extui v2359
  let v2361 : BitVec 32 := Scalar.subi v2358 v2360
  let c64_i32_1788 : BitVec 32 := 64#32
  let c0_i32_1791 : BitVec 32 := 0#32
  let v2362 : BitVec 1 := Scalar.cmpi .sgt c64_i32_1788 c0_i32_1791
  let v2363 : BitVec 32 := Scalar.extui v2362
  let c0_i32_1792 : BitVec 32 := 0#32
  let v2364 : BitVec 1 := Scalar.cmpi .slt c64_i32_1788 c0_i32_1792
  let v2365 : BitVec 32 := Scalar.extui v2364
  let v2366 : BitVec 32 := Scalar.subi v2363 v2365
  let v2367 : BitVec 1 := Scalar.cmpi .ne v2361 v2366
  let v2368 : BitVec 32 := Scalar.remsi v2355 c64_i32_1788
  let c0_i32_1793 : BitVec 32 := 0#32
  let v2369 : BitVec 1 := Scalar.cmpi .ne v2368 c0_i32_1793
  let v2370 : BitVec 1 := Scalar.andi v2367 v2369
  let v2356 : BitVec 32 := Scalar.divsi v2355 c64_i32_1788
  let c1_i32_1794 : BitVec 32 := 1#32
  let v2371 : BitVec 32 := Scalar.subi v2356 c1_i32_1794
  let v2372 : BitVec 32 := Scalar.select v2370 v2371 v2356
  let c16_i32 : BitVec 32 := 16#32
  let v2373 : BitVec 32 := Scalar.addi v2372 c16_i32
  let c1_i32_1795 : BitVec 32 := 1#32
  let v2374 : BitVec 32 := Scalar.subi v2373 c1_i32_1795
  let c0_i32_1797 : BitVec 32 := 0#32
  let v2376 : BitVec 1 := Scalar.cmpi .sgt v2374 c0_i32_1797
  let v2377 : BitVec 32 := Scalar.extui v2376
  let c0_i32_1798 : BitVec 32 := 0#32
  let v2378 : BitVec 1 := Scalar.cmpi .slt v2374 c0_i32_1798
  let v2379 : BitVec 32 := Scalar.extui v2378
  let v2380 : BitVec 32 := Scalar.subi v2377 v2379
  let c16_i32_1796 : BitVec 32 := 16#32
  let c0_i32_1799 : BitVec 32 := 0#32
  let v2381 : BitVec 1 := Scalar.cmpi .sgt c16_i32_1796 c0_i32_1799
  let v2382 : BitVec 32 := Scalar.extui v2381
  let c0_i32_1800 : BitVec 32 := 0#32
  let v2383 : BitVec 1 := Scalar.cmpi .slt c16_i32_1796 c0_i32_1800
  let v2384 : BitVec 32 := Scalar.extui v2383
  let v2385 : BitVec 32 := Scalar.subi v2382 v2384
  let v2386 : BitVec 1 := Scalar.cmpi .ne v2380 v2385
  let v2387 : BitVec 32 := Scalar.remsi v2374 c16_i32_1796
  let c0_i32_1801 : BitVec 32 := 0#32
  let v2388 : BitVec 1 := Scalar.cmpi .ne v2387 c0_i32_1801
  let v2389 : BitVec 1 := Scalar.andi v2386 v2388
  let v2375 : BitVec 32 := Scalar.divsi v2374 c16_i32_1796
  let c1_i32_1802 : BitVec 32 := 1#32
  let v2390 : BitVec 32 := Scalar.subi v2375 c1_i32_1802
  let v2391 : BitVec 32 := Scalar.select v2389 v2390 v2375
  let c4_i32_1822 : BitVec 32 := 4#32
  let v2437 : BitVec 32 := Scalar.muli v2391 c4_i32_1822
  let v2439 : BitVec 32 := Scalar.subi v2437 c0_i32_1824
  let c1_i32_1825 : BitVec 32 := 1#32
  let v2441 : BitVec 32 := Scalar.divsi v2439 c1_i32_1825
  let v2442 : BitVec 32 := Scalar.muli v2441 c1_i32_1825
  let v2443 : BitVec 32 := Scalar.addi c0_i32_1824 v2442
  let c1_i32_1827 : BitVec 32 := 1#32
  let arg20 : BitVec 32 := Scf.iv v2443 c1_i32_1827 k0_t7
  let c8_i32_1841 : BitVec 32 := 8#32
  let v2475 : BitVec 32 := Scalar.muli arg20 c8_i32_1841
  let v2476 : BitVec 32 := Scalar.addi v2475 c0_i32_1842
  let v2477 : Index := Scalar.indexCast v2476
  let c0_1843 : Index := 0#32
  let c0_1844 : Index := 0#32
  ![v2477.toNat, 0, 0]
@[reducible] def k0_t8_loop (v2354 : BitVec 32) : Scf.Loop 32 :=
  let c0_i32_1835 : BitVec 32 := 0#32
  let c63_i32 : BitVec 32 := 63#32
  let v2355 : BitVec 32 := Scalar.addi v2354 c63_i32
  let c0_i32_1789 : BitVec 32 := 0#32
  let v2357 : BitVec 1 := Scalar.cmpi .sgt v2355 c0_i32_1789
  let v2358 : BitVec 32 := Scalar.extui v2357
  let c0_i32_1790 : BitVec 32 := 0#32
  let v2359 : BitVec 1 := Scalar.cmpi .slt v2355 c0_i32_1790
  let v2360 : BitVec 32 := Scalar.extui v2359
  let v2361 : BitVec 32 := Scalar.subi v2358 v2360
  let c64_i32_1788 : BitVec 32 := 64#32
  let c0_i32_1791 : BitVec 32 := 0#32
  let v2362 : BitVec 1 := Scalar.cmpi .sgt c64_i32_1788 c0_i32_1791
  let v2363 : BitVec 32 := Scalar.extui v2362
  let c0_i32_1792 : BitVec 32 := 0#32
  let v2364 : BitVec 1 := Scalar.cmpi .slt c64_i32_1788 c0_i32_1792
  let v2365 : BitVec 32 := Scalar.extui v2364
  let v2366 : BitVec 32 := Scalar.subi v2363 v2365
  let v2367 : BitVec 1 := Scalar.cmpi .ne v2361 v2366
  let v2368 : BitVec 32 := Scalar.remsi v2355 c64_i32_1788
  let c0_i32_1793 : BitVec 32 := 0#32
  let v2369 : BitVec 1 := Scalar.cmpi .ne v2368 c0_i32_1793
  let v2370 : BitVec 1 := Scalar.andi v2367 v2369
  let v2356 : BitVec 32 := Scalar.divsi v2355 c64_i32_1788
  let c1_i32_1794 : BitVec 32 := 1#32
  let v2371 : BitVec 32 := Scalar.subi v2356 c1_i32_1794
  let v2372 : BitVec 32 := Scalar.select v2370 v2371 v2356
  let c16_i32 : BitVec 32 := 16#32
  let v2373 : BitVec 32 := Scalar.addi v2372 c16_i32
  let c1_i32_1795 : BitVec 32 := 1#32
  let v2374 : BitVec 32 := Scalar.subi v2373 c1_i32_1795
  let c0_i32_1797 : BitVec 32 := 0#32
  let v2376 : BitVec 1 := Scalar.cmpi .sgt v2374 c0_i32_1797
  let v2377 : BitVec 32 := Scalar.extui v2376
  let c0_i32_1798 : BitVec 32 := 0#32
  let v2378 : BitVec 1 := Scalar.cmpi .slt v2374 c0_i32_1798
  let v2379 : BitVec 32 := Scalar.extui v2378
  let v2380 : BitVec 32 := Scalar.subi v2377 v2379
  let c16_i32_1796 : BitVec 32 := 16#32
  let c0_i32_1799 : BitVec 32 := 0#32
  let v2381 : BitVec 1 := Scalar.cmpi .sgt c16_i32_1796 c0_i32_1799
  let v2382 : BitVec 32 := Scalar.extui v2381
  let c0_i32_1800 : BitVec 32 := 0#32
  let v2383 : BitVec 1 := Scalar.cmpi .slt c16_i32_1796 c0_i32_1800
  let v2384 : BitVec 32 := Scalar.extui v2383
  let v2385 : BitVec 32 := Scalar.subi v2382 v2384
  let v2386 : BitVec 1 := Scalar.cmpi .ne v2380 v2385
  let v2387 : BitVec 32 := Scalar.remsi v2374 c16_i32_1796
  let c0_i32_1801 : BitVec 32 := 0#32
  let v2388 : BitVec 1 := Scalar.cmpi .ne v2387 c0_i32_1801
  let v2389 : BitVec 1 := Scalar.andi v2386 v2388
  let v2375 : BitVec 32 := Scalar.divsi v2374 c16_i32_1796
  let c1_i32_1802 : BitVec 32 := 1#32
  let v2390 : BitVec 32 := Scalar.subi v2375 c1_i32_1802
  let v2391 : BitVec 32 := Scalar.select v2389 v2390 v2375
  let v2459 : BitVec 32 := Scalar.subi v2391 c0_i32_1835
  let c1_i32_1836 : BitVec 32 := 1#32
  let v2461 : BitVec 32 := Scalar.divsi v2459 c1_i32_1836
  let v2462 : BitVec 32 := Scalar.muli v2461 c1_i32_1836
  let v2463 : BitVec 32 := Scalar.addi c0_i32_1835 v2462
  let c1_i32_1837 : BitVec 32 := 1#32
  ⟨c0_i32_1835, v2463, c1_i32_1837⟩
def k0_off70 (arg25 : BitVec 32) : Fin 1 → Nat :=
  ![arg25.toNat]

def k0_off71 (v2354 : BitVec 32) (k0_t8 : Fin (k0_t8_loop v2354).trips) (arg25 : BitVec 32) : (Fin 4 → Nat) × (Fin 4 → Nat) :=
  let c0_i32_1844 : BitVec 32 := 0#32
  let c0_i32_1845 : BitVec 32 := 0#32
  let c0_i32_1846 : BitVec 32 := 0#32
  let c63_i32 : BitVec 32 := 63#32
  let v2355 : BitVec 32 := Scalar.addi v2354 c63_i32
  let c0_i32_1789 : BitVec 32 := 0#32
  let v2357 : BitVec 1 := Scalar.cmpi .sgt v2355 c0_i32_1789
  let v2358 : BitVec 32 := Scalar.extui v2357
  let c0_i32_1790 : BitVec 32 := 0#32
  let v2359 : BitVec 1 := Scalar.cmpi .slt v2355 c0_i32_1790
  let v2360 : BitVec 32 := Scalar.extui v2359
  let v2361 : BitVec 32 := Scalar.subi v2358 v2360
  let c64_i32_1788 : BitVec 32 := 64#32
  let c0_i32_1791 : BitVec 32 := 0#32
  let v2362 : BitVec 1 := Scalar.cmpi .sgt c64_i32_1788 c0_i32_1791
  let v2363 : BitVec 32 := Scalar.extui v2362
  let c0_i32_1792 : BitVec 32 := 0#32
  let v2364 : BitVec 1 := Scalar.cmpi .slt c64_i32_1788 c0_i32_1792
  let v2365 : BitVec 32 := Scalar.extui v2364
  let v2366 : BitVec 32 := Scalar.subi v2363 v2365
  let v2367 : BitVec 1 := Scalar.cmpi .ne v2361 v2366
  let v2368 : BitVec 32 := Scalar.remsi v2355 c64_i32_1788
  let c0_i32_1793 : BitVec 32 := 0#32
  let v2369 : BitVec 1 := Scalar.cmpi .ne v2368 c0_i32_1793
  let v2370 : BitVec 1 := Scalar.andi v2367 v2369
  let v2356 : BitVec 32 := Scalar.divsi v2355 c64_i32_1788
  let c1_i32_1794 : BitVec 32 := 1#32
  let v2371 : BitVec 32 := Scalar.subi v2356 c1_i32_1794
  let v2372 : BitVec 32 := Scalar.select v2370 v2371 v2356
  let c0_i32_1835 : BitVec 32 := 0#32
  let c1_i32_1837 : BitVec 32 := 1#32
  let arg20 : BitVec 32 := Scf.iv c0_i32_1835 c1_i32_1837 k0_t8
  let c16_i32_1841 : BitVec 32 := 16#32
  let v2475 : BitVec 32 := Scalar.muli arg20 c16_i32_1841
  let v2476 : BitVec 32 := Scalar.subi v2372 v2475
  let c16_i32_1842 : BitVec 32 := 16#32
  let v2477 : BitVec 32 := Scalar.minsi v2476 c16_i32_1842
  ⟨![arg25.toNat, 0, 0, 0], ![1, v2477.toNat, 256, 128]⟩

def k0_sz17 (v2354 : BitVec 32) (k0_t8 : Fin (k0_t8_loop v2354).trips) : Fin 3 → Nat :=
  let c63_i32 : BitVec 32 := 63#32
  let v2355 : BitVec 32 := Scalar.addi v2354 c63_i32
  let c0_i32_1789 : BitVec 32 := 0#32
  let v2357 : BitVec 1 := Scalar.cmpi .sgt v2355 c0_i32_1789
  let v2358 : BitVec 32 := Scalar.extui v2357
  let c0_i32_1790 : BitVec 32 := 0#32
  let v2359 : BitVec 1 := Scalar.cmpi .slt v2355 c0_i32_1790
  let v2360 : BitVec 32 := Scalar.extui v2359
  let v2361 : BitVec 32 := Scalar.subi v2358 v2360
  let c64_i32_1788 : BitVec 32 := 64#32
  let c0_i32_1791 : BitVec 32 := 0#32
  let v2362 : BitVec 1 := Scalar.cmpi .sgt c64_i32_1788 c0_i32_1791
  let v2363 : BitVec 32 := Scalar.extui v2362
  let c0_i32_1792 : BitVec 32 := 0#32
  let v2364 : BitVec 1 := Scalar.cmpi .slt c64_i32_1788 c0_i32_1792
  let v2365 : BitVec 32 := Scalar.extui v2364
  let v2366 : BitVec 32 := Scalar.subi v2363 v2365
  let v2367 : BitVec 1 := Scalar.cmpi .ne v2361 v2366
  let v2368 : BitVec 32 := Scalar.remsi v2355 c64_i32_1788
  let c0_i32_1793 : BitVec 32 := 0#32
  let v2369 : BitVec 1 := Scalar.cmpi .ne v2368 c0_i32_1793
  let v2370 : BitVec 1 := Scalar.andi v2367 v2369
  let v2356 : BitVec 32 := Scalar.divsi v2355 c64_i32_1788
  let c1_i32_1794 : BitVec 32 := 1#32
  let v2371 : BitVec 32 := Scalar.subi v2356 c1_i32_1794
  let v2372 : BitVec 32 := Scalar.select v2370 v2371 v2356
  let c0_i32_1835 : BitVec 32 := 0#32
  let c1_i32_1837 : BitVec 32 := 1#32
  let arg20 : BitVec 32 := Scf.iv c0_i32_1835 c1_i32_1837 k0_t8
  let c16_i32_1841 : BitVec 32 := 16#32
  let v2475 : BitVec 32 := Scalar.muli arg20 c16_i32_1841
  let v2476 : BitVec 32 := Scalar.subi v2372 v2475
  let c16_i32_1842 : BitVec 32 := 16#32
  let v2477 : BitVec 32 := Scalar.minsi v2476 c16_i32_1842
  ![v2477.toNat, 256, 128]
def k0_off72 (k0_t3 : Fin k0_t3_loop.trips) (v2354 : BitVec 32) (k0_t8 : Fin (k0_t8_loop v2354).trips) : (Fin 4 → Nat) × (Fin 4 → Nat) :=
  let c0_i32_761 : BitVec 32 := 0#32
  let c1_i32_762 : BitVec 32 := 1#32
  let arg14 : BitVec 32 := Scf.iv c0_i32_761 c1_i32_762 k0_t3
  let c0_i32_1835 : BitVec 32 := 0#32
  let c1_i32_1837 : BitVec 32 := 1#32
  let arg20 : BitVec 32 := Scf.iv c0_i32_1835 c1_i32_1837 k0_t8
  let c16_i32_1843 : BitVec 32 := 16#32
  let v2478 : BitVec 32 := Scalar.muli arg20 c16_i32_1843
  let c0_i32_1847 : BitVec 32 := 0#32
  let c0_i32_1848 : BitVec 32 := 0#32
  let c63_i32 : BitVec 32 := 63#32
  let v2355 : BitVec 32 := Scalar.addi v2354 c63_i32
  let c0_i32_1789 : BitVec 32 := 0#32
  let v2357 : BitVec 1 := Scalar.cmpi .sgt v2355 c0_i32_1789
  let v2358 : BitVec 32 := Scalar.extui v2357
  let c0_i32_1790 : BitVec 32 := 0#32
  let v2359 : BitVec 1 := Scalar.cmpi .slt v2355 c0_i32_1790
  let v2360 : BitVec 32 := Scalar.extui v2359
  let v2361 : BitVec 32 := Scalar.subi v2358 v2360
  let c64_i32_1788 : BitVec 32 := 64#32
  let c0_i32_1791 : BitVec 32 := 0#32
  let v2362 : BitVec 1 := Scalar.cmpi .sgt c64_i32_1788 c0_i32_1791
  let v2363 : BitVec 32 := Scalar.extui v2362
  let c0_i32_1792 : BitVec 32 := 0#32
  let v2364 : BitVec 1 := Scalar.cmpi .slt c64_i32_1788 c0_i32_1792
  let v2365 : BitVec 32 := Scalar.extui v2364
  let v2366 : BitVec 32 := Scalar.subi v2363 v2365
  let v2367 : BitVec 1 := Scalar.cmpi .ne v2361 v2366
  let v2368 : BitVec 32 := Scalar.remsi v2355 c64_i32_1788
  let c0_i32_1793 : BitVec 32 := 0#32
  let v2369 : BitVec 1 := Scalar.cmpi .ne v2368 c0_i32_1793
  let v2370 : BitVec 1 := Scalar.andi v2367 v2369
  let v2356 : BitVec 32 := Scalar.divsi v2355 c64_i32_1788
  let c1_i32_1794 : BitVec 32 := 1#32
  let v2371 : BitVec 32 := Scalar.subi v2356 c1_i32_1794
  let v2372 : BitVec 32 := Scalar.select v2370 v2371 v2356
  let c16_i32_1841 : BitVec 32 := 16#32
  let v2475 : BitVec 32 := Scalar.muli arg20 c16_i32_1841
  let v2476 : BitVec 32 := Scalar.subi v2372 v2475
  let c16_i32_1842 : BitVec 32 := 16#32
  let v2477 : BitVec 32 := Scalar.minsi v2476 c16_i32_1842
  ⟨![arg14.toNat, v2478.toNat, 0, 0], ![1, v2477.toNat, 256, 128]⟩

def k0_sz18 (v2354 : BitVec 32) (k0_t8 : Fin (k0_t8_loop v2354).trips) : Fin 3 → Nat :=
  let c63_i32 : BitVec 32 := 63#32
  let v2355 : BitVec 32 := Scalar.addi v2354 c63_i32
  let c0_i32_1789 : BitVec 32 := 0#32
  let v2357 : BitVec 1 := Scalar.cmpi .sgt v2355 c0_i32_1789
  let v2358 : BitVec 32 := Scalar.extui v2357
  let c0_i32_1790 : BitVec 32 := 0#32
  let v2359 : BitVec 1 := Scalar.cmpi .slt v2355 c0_i32_1790
  let v2360 : BitVec 32 := Scalar.extui v2359
  let v2361 : BitVec 32 := Scalar.subi v2358 v2360
  let c64_i32_1788 : BitVec 32 := 64#32
  let c0_i32_1791 : BitVec 32 := 0#32
  let v2362 : BitVec 1 := Scalar.cmpi .sgt c64_i32_1788 c0_i32_1791
  let v2363 : BitVec 32 := Scalar.extui v2362
  let c0_i32_1792 : BitVec 32 := 0#32
  let v2364 : BitVec 1 := Scalar.cmpi .slt c64_i32_1788 c0_i32_1792
  let v2365 : BitVec 32 := Scalar.extui v2364
  let v2366 : BitVec 32 := Scalar.subi v2363 v2365
  let v2367 : BitVec 1 := Scalar.cmpi .ne v2361 v2366
  let v2368 : BitVec 32 := Scalar.remsi v2355 c64_i32_1788
  let c0_i32_1793 : BitVec 32 := 0#32
  let v2369 : BitVec 1 := Scalar.cmpi .ne v2368 c0_i32_1793
  let v2370 : BitVec 1 := Scalar.andi v2367 v2369
  let v2356 : BitVec 32 := Scalar.divsi v2355 c64_i32_1788
  let c1_i32_1794 : BitVec 32 := 1#32
  let v2371 : BitVec 32 := Scalar.subi v2356 c1_i32_1794
  let v2372 : BitVec 32 := Scalar.select v2370 v2371 v2356
  let c0_i32_1835 : BitVec 32 := 0#32
  let c1_i32_1837 : BitVec 32 := 1#32
  let arg20 : BitVec 32 := Scf.iv c0_i32_1835 c1_i32_1837 k0_t8
  let c16_i32_1841 : BitVec 32 := 16#32
  let v2475 : BitVec 32 := Scalar.muli arg20 c16_i32_1841
  let v2476 : BitVec 32 := Scalar.subi v2372 v2475
  let c16_i32_1842 : BitVec 32 := 16#32
  let v2477 : BitVec 32 := Scalar.minsi v2476 c16_i32_1842
  ![v2477.toNat, 256, 128]
def k0_off73 (arg25 : BitVec 32) : Fin 4 → Nat :=
  let v2485 : Index := Scalar.indexCast arg25
  let c0_1849 : Index := 0#32
  let c0_1850 : Index := 0#32
  let c0_1851 : Index := 0#32
  ![v2485.toNat, 0, 0, 0]
def k0_off74 (arg25 : BitVec 32) : Fin 4 → Nat :=
  let v2488 : Index := Scalar.indexCast arg25
  let c1_1852 : Index := 1#32
  let c0_1853 : Index := 0#32
  let c0_1854 : Index := 0#32
  ![v2488.toNat, 1, 0, 0]
def k0_off75 (v2354 : BitVec 32) (k0_t8 : Fin (k0_t8_loop v2354).trips) (c0_i32_1856 : BitVec 32) (c0_i32_1857 : BitVec 32) : Fin 2 → Nat :=
  let c0_i32_1835 : BitVec 32 := 0#32
  let c1_i32_1837 : BitVec 32 := 1#32
  let arg20 : BitVec 32 := Scf.iv c0_i32_1835 c1_i32_1837 k0_t8
  let c16_i32_1855 : BitVec 32 := 16#32
  let v2492 : BitVec 32 := Scalar.muli arg20 c16_i32_1855
  let v2493 : BitVec 32 := Scalar.addi v2492 c0_i32_1856
  let v2494 : BitVec 32 := Scalar.addi v2493 c0_i32_1857
  let v2495 : Index := Scalar.indexCast v2494
  let c0_1858 : Index := 0#32
  ![v2495.toNat, 0]
def k0_off76 (v2354 : BitVec 32) (k0_t8 : Fin (k0_t8_loop v2354).trips) (c0_i32_1856 : BitVec 32) (c0_i32_1857 : BitVec 32) (c0_i32_1859 : BitVec 32) : Fin 3 → Nat :=
  let c0_i32_1835 : BitVec 32 := 0#32
  let c1_i32_1837 : BitVec 32 := 1#32
  let arg20 : BitVec 32 := Scf.iv c0_i32_1835 c1_i32_1837 k0_t8
  let c16_i32_1855 : BitVec 32 := 16#32
  let v2492 : BitVec 32 := Scalar.muli arg20 c16_i32_1855
  let v2493 : BitVec 32 := Scalar.addi v2492 c0_i32_1856
  let v2494 : BitVec 32 := Scalar.addi v2493 c0_i32_1857
  let c2_i32 : BitVec 32 := 2#32
  let v2497 : BitVec 32 := Scalar.muli v2494 c2_i32
  let v2498 : BitVec 32 := Scalar.addi v2497 c0_i32_1859
  let v2499 : Index := Scalar.indexCast v2498
  let c0_1860 : Index := 0#32
  let c0_1861 : Index := 0#32
  ![v2499.toNat, 0, 0]
def k0_off77 (arg25 : BitVec 32) : Fin 4 → Nat :=
  let v2608 : Index := Scalar.indexCast arg25
  let c2_1910 : Index := 2#32
  let c0_1911 : Index := 0#32
  let c0_1912 : Index := 0#32
  ![v2608.toNat, 2, 0, 0]
def k0_off78 (arg25 : BitVec 32) : Fin 4 → Nat :=
  let v2611 : Index := Scalar.indexCast arg25
  let c3_1913 : Index := 3#32
  let c0_1914 : Index := 0#32
  let c0_1915 : Index := 0#32
  ![v2611.toNat, 3, 0, 0]
def k0_off79 (arg25 : BitVec 32) : Fin 4 → Nat :=
  let v2731 : Index := Scalar.indexCast arg25
  let c4_1973 : Index := 4#32
  let c0_1974 : Index := 0#32
  let c0_1975 : Index := 0#32
  ![v2731.toNat, 4, 0, 0]
def k0_off80 (arg25 : BitVec 32) : Fin 4 → Nat :=
  let v2734 : Index := Scalar.indexCast arg25
  let c5_1976 : Index := 5#32
  let c0_1977 : Index := 0#32
  let c0_1978 : Index := 0#32
  ![v2734.toNat, 5, 0, 0]
def k0_off81 (arg25 : BitVec 32) : Fin 4 → Nat :=
  let v2854 : Index := Scalar.indexCast arg25
  let c6_2036 : Index := 6#32
  let c0_2037 : Index := 0#32
  let c0_2038 : Index := 0#32
  ![v2854.toNat, 6, 0, 0]
def k0_off82 (arg25 : BitVec 32) : Fin 4 → Nat :=
  let v2857 : Index := Scalar.indexCast arg25
  let c7_2039 : Index := 7#32
  let c0_2040 : Index := 0#32
  let c0_2041 : Index := 0#32
  ![v2857.toNat, 7, 0, 0]
def k0_off83 (arg25 : BitVec 32) : Fin 4 → Nat :=
  let v2977 : Index := Scalar.indexCast arg25
  let c8_2098 : Index := 8#32
  let c0_2099 : Index := 0#32
  let c0_2100 : Index := 0#32
  ![v2977.toNat, 8, 0, 0]
def k0_off84 (arg25 : BitVec 32) : Fin 4 → Nat :=
  let v2980 : Index := Scalar.indexCast arg25
  let c9_2101 : Index := 9#32
  let c0_2102 : Index := 0#32
  let c0_2103 : Index := 0#32
  ![v2980.toNat, 9, 0, 0]
def k0_off85 (arg25 : BitVec 32) : Fin 4 → Nat :=
  let v3100 : Index := Scalar.indexCast arg25
  let c10_2161 : Index := 10#32
  let c0_2162 : Index := 0#32
  let c0_2163 : Index := 0#32
  ![v3100.toNat, 10, 0, 0]
def k0_off86 (arg25 : BitVec 32) : Fin 4 → Nat :=
  let v3103 : Index := Scalar.indexCast arg25
  let c11_2164 : Index := 11#32
  let c0_2165 : Index := 0#32
  let c0_2166 : Index := 0#32
  ![v3103.toNat, 11, 0, 0]
def k0_off87 (arg25 : BitVec 32) : Fin 4 → Nat :=
  let v3223 : Index := Scalar.indexCast arg25
  let c12_2223 : Index := 12#32
  let c0_2224 : Index := 0#32
  let c0_2225 : Index := 0#32
  ![v3223.toNat, 12, 0, 0]
def k0_off88 (arg25 : BitVec 32) : Fin 4 → Nat :=
  let v3226 : Index := Scalar.indexCast arg25
  let c13_2226 : Index := 13#32
  let c0_2227 : Index := 0#32
  let c0_2228 : Index := 0#32
  ![v3226.toNat, 13, 0, 0]
def k0_off89 (arg25 : BitVec 32) : Fin 4 → Nat :=
  let v3346 : Index := Scalar.indexCast arg25
  let c14_2285 : Index := 14#32
  let c0_2286 : Index := 0#32
  let c0_2287 : Index := 0#32
  ![v3346.toNat, 14, 0, 0]
def k0_off90 (arg25 : BitVec 32) : Fin 4 → Nat :=
  let v3349 : Index := Scalar.indexCast arg25
  let c15_2288 : Index := 15#32
  let c0_2289 : Index := 0#32
  let c0_2290 : Index := 0#32
  ![v3349.toNat, 15, 0, 0]

def k0_chk13 (v2354 : BitVec 32) (k0_t8 : Fin (k0_t8_loop v2354).trips) (arg25 : BitVec 32) : Prop :=
  (∀ a, (k0_off70 arg25) a + S1.size a ≤ S24.size a) ∧
  ((⟨4, (k0_off71 v2354 k0_t8 arg25).2⟩ : Shape).Squeezes ⟨3, k0_sz17 v2354 k0_t8⟩) ∧
  (∀ a, (k0_off73 arg25) a + S1x1x256x128.size a ≤ S24x16x256x128.size a) ∧
  (∀ a, (k0_off74 arg25) a + S1x1x256x128.size a ≤ S24x16x256x128.size a) ∧
  (∀ a, (k0_off77 arg25) a + S1x1x256x128.size a ≤ S24x16x256x128.size a) ∧
  (∀ a, (k0_off78 arg25) a + S1x1x256x128.size a ≤ S24x16x256x128.size a) ∧
  (∀ a, (k0_off79 arg25) a + S1x1x256x128.size a ≤ S24x16x256x128.size a) ∧
  (∀ a, (k0_off80 arg25) a + S1x1x256x128.size a ≤ S24x16x256x128.size a) ∧
  (∀ a, (k0_off81 arg25) a + S1x1x256x128.size a ≤ S24x16x256x128.size a) ∧
  (∀ a, (k0_off82 arg25) a + S1x1x256x128.size a ≤ S24x16x256x128.size a) ∧
  (∀ a, (k0_off83 arg25) a + S1x1x256x128.size a ≤ S24x16x256x128.size a) ∧
  (∀ a, (k0_off84 arg25) a + S1x1x256x128.size a ≤ S24x16x256x128.size a) ∧
  (∀ a, (k0_off85 arg25) a + S1x1x256x128.size a ≤ S24x16x256x128.size a) ∧
  (∀ a, (k0_off86 arg25) a + S1x1x256x128.size a ≤ S24x16x256x128.size a) ∧
  (∀ a, (k0_off87 arg25) a + S1x1x256x128.size a ≤ S24x16x256x128.size a) ∧
  (∀ a, (k0_off88 arg25) a + S1x1x256x128.size a ≤ S24x16x256x128.size a) ∧
  (∀ a, (k0_off89 arg25) a + S1x1x256x128.size a ≤ S24x16x256x128.size a) ∧
  (∀ a, (k0_off90 arg25) a + S1x1x256x128.size a ≤ S24x16x256x128.size a)
theorem k0_off70_inb : ∀ (v2354 : BitVec 32) (k0_t8 : Fin (k0_t8_loop v2354).trips) (arg25 : BitVec 32) (k0_hw13 : k0_chk13 v2354 k0_t8 arg25), ∀ a, (k0_off70 arg25) a + S1.size a ≤ S24.size a := fun v2354 k0_t8 arg25 k0_hw13 => k0_hw13.1
theorem k0_sz17_squeezes : ∀ (v2354 : BitVec 32) (k0_t8 : Fin (k0_t8_loop v2354).trips) (arg25 : BitVec 32) (k0_hw13 : k0_chk13 v2354 k0_t8 arg25), (⟨4, (k0_off71 v2354 k0_t8 arg25).2⟩ : Shape).Squeezes ⟨3, k0_sz17 v2354 k0_t8⟩ := fun v2354 k0_t8 arg25 k0_hw13 => k0_hw13.2.1
theorem k0_off73_inb : ∀ (v2354 : BitVec 32) (k0_t8 : Fin (k0_t8_loop v2354).trips) (arg25 : BitVec 32) (k0_hw13 : k0_chk13 v2354 k0_t8 arg25), ∀ a, (k0_off73 arg25) a + S1x1x256x128.size a ≤ S24x16x256x128.size a := fun v2354 k0_t8 arg25 k0_hw13 => k0_hw13.2.2.1
theorem k0_off74_inb : ∀ (v2354 : BitVec 32) (k0_t8 : Fin (k0_t8_loop v2354).trips) (arg25 : BitVec 32) (k0_hw13 : k0_chk13 v2354 k0_t8 arg25), ∀ a, (k0_off74 arg25) a + S1x1x256x128.size a ≤ S24x16x256x128.size a := fun v2354 k0_t8 arg25 k0_hw13 => k0_hw13.2.2.2.1
theorem k0_off77_inb : ∀ (v2354 : BitVec 32) (k0_t8 : Fin (k0_t8_loop v2354).trips) (arg25 : BitVec 32) (k0_hw13 : k0_chk13 v2354 k0_t8 arg25), ∀ a, (k0_off77 arg25) a + S1x1x256x128.size a ≤ S24x16x256x128.size a := fun v2354 k0_t8 arg25 k0_hw13 => k0_hw13.2.2.2.2.1
theorem k0_off78_inb : ∀ (v2354 : BitVec 32) (k0_t8 : Fin (k0_t8_loop v2354).trips) (arg25 : BitVec 32) (k0_hw13 : k0_chk13 v2354 k0_t8 arg25), ∀ a, (k0_off78 arg25) a + S1x1x256x128.size a ≤ S24x16x256x128.size a := fun v2354 k0_t8 arg25 k0_hw13 => k0_hw13.2.2.2.2.2.1
theorem k0_off79_inb : ∀ (v2354 : BitVec 32) (k0_t8 : Fin (k0_t8_loop v2354).trips) (arg25 : BitVec 32) (k0_hw13 : k0_chk13 v2354 k0_t8 arg25), ∀ a, (k0_off79 arg25) a + S1x1x256x128.size a ≤ S24x16x256x128.size a := fun v2354 k0_t8 arg25 k0_hw13 => k0_hw13.2.2.2.2.2.2.1
theorem k0_off80_inb : ∀ (v2354 : BitVec 32) (k0_t8 : Fin (k0_t8_loop v2354).trips) (arg25 : BitVec 32) (k0_hw13 : k0_chk13 v2354 k0_t8 arg25), ∀ a, (k0_off80 arg25) a + S1x1x256x128.size a ≤ S24x16x256x128.size a := fun v2354 k0_t8 arg25 k0_hw13 => k0_hw13.2.2.2.2.2.2.2.1
theorem k0_off81_inb : ∀ (v2354 : BitVec 32) (k0_t8 : Fin (k0_t8_loop v2354).trips) (arg25 : BitVec 32) (k0_hw13 : k0_chk13 v2354 k0_t8 arg25), ∀ a, (k0_off81 arg25) a + S1x1x256x128.size a ≤ S24x16x256x128.size a := fun v2354 k0_t8 arg25 k0_hw13 => k0_hw13.2.2.2.2.2.2.2.2.1
theorem k0_off82_inb : ∀ (v2354 : BitVec 32) (k0_t8 : Fin (k0_t8_loop v2354).trips) (arg25 : BitVec 32) (k0_hw13 : k0_chk13 v2354 k0_t8 arg25), ∀ a, (k0_off82 arg25) a + S1x1x256x128.size a ≤ S24x16x256x128.size a := fun v2354 k0_t8 arg25 k0_hw13 => k0_hw13.2.2.2.2.2.2.2.2.2.1
theorem k0_off83_inb : ∀ (v2354 : BitVec 32) (k0_t8 : Fin (k0_t8_loop v2354).trips) (arg25 : BitVec 32) (k0_hw13 : k0_chk13 v2354 k0_t8 arg25), ∀ a, (k0_off83 arg25) a + S1x1x256x128.size a ≤ S24x16x256x128.size a := fun v2354 k0_t8 arg25 k0_hw13 => k0_hw13.2.2.2.2.2.2.2.2.2.2.1
theorem k0_off84_inb : ∀ (v2354 : BitVec 32) (k0_t8 : Fin (k0_t8_loop v2354).trips) (arg25 : BitVec 32) (k0_hw13 : k0_chk13 v2354 k0_t8 arg25), ∀ a, (k0_off84 arg25) a + S1x1x256x128.size a ≤ S24x16x256x128.size a := fun v2354 k0_t8 arg25 k0_hw13 => k0_hw13.2.2.2.2.2.2.2.2.2.2.2.1
theorem k0_off85_inb : ∀ (v2354 : BitVec 32) (k0_t8 : Fin (k0_t8_loop v2354).trips) (arg25 : BitVec 32) (k0_hw13 : k0_chk13 v2354 k0_t8 arg25), ∀ a, (k0_off85 arg25) a + S1x1x256x128.size a ≤ S24x16x256x128.size a := fun v2354 k0_t8 arg25 k0_hw13 => k0_hw13.2.2.2.2.2.2.2.2.2.2.2.2.1
theorem k0_off86_inb : ∀ (v2354 : BitVec 32) (k0_t8 : Fin (k0_t8_loop v2354).trips) (arg25 : BitVec 32) (k0_hw13 : k0_chk13 v2354 k0_t8 arg25), ∀ a, (k0_off86 arg25) a + S1x1x256x128.size a ≤ S24x16x256x128.size a := fun v2354 k0_t8 arg25 k0_hw13 => k0_hw13.2.2.2.2.2.2.2.2.2.2.2.2.2.1
theorem k0_off87_inb : ∀ (v2354 : BitVec 32) (k0_t8 : Fin (k0_t8_loop v2354).trips) (arg25 : BitVec 32) (k0_hw13 : k0_chk13 v2354 k0_t8 arg25), ∀ a, (k0_off87 arg25) a + S1x1x256x128.size a ≤ S24x16x256x128.size a := fun v2354 k0_t8 arg25 k0_hw13 => k0_hw13.2.2.2.2.2.2.2.2.2.2.2.2.2.2.1
theorem k0_off88_inb : ∀ (v2354 : BitVec 32) (k0_t8 : Fin (k0_t8_loop v2354).trips) (arg25 : BitVec 32) (k0_hw13 : k0_chk13 v2354 k0_t8 arg25), ∀ a, (k0_off88 arg25) a + S1x1x256x128.size a ≤ S24x16x256x128.size a := fun v2354 k0_t8 arg25 k0_hw13 => k0_hw13.2.2.2.2.2.2.2.2.2.2.2.2.2.2.2.1
theorem k0_off89_inb : ∀ (v2354 : BitVec 32) (k0_t8 : Fin (k0_t8_loop v2354).trips) (arg25 : BitVec 32) (k0_hw13 : k0_chk13 v2354 k0_t8 arg25), ∀ a, (k0_off89 arg25) a + S1x1x256x128.size a ≤ S24x16x256x128.size a := fun v2354 k0_t8 arg25 k0_hw13 => k0_hw13.2.2.2.2.2.2.2.2.2.2.2.2.2.2.2.2.1
theorem k0_off90_inb : ∀ (v2354 : BitVec 32) (k0_t8 : Fin (k0_t8_loop v2354).trips) (arg25 : BitVec 32) (k0_hw13 : k0_chk13 v2354 k0_t8 arg25), ∀ a, (k0_off90 arg25) a + S1x1x256x128.size a ≤ S24x16x256x128.size a := fun v2354 k0_t8 arg25 k0_hw13 => k0_hw13.2.2.2.2.2.2.2.2.2.2.2.2.2.2.2.2.2

def k0_off91 (arg21 : BitVec 32) : Fin 1 → Nat :=
  let v3477 : Index := Scalar.indexCast arg21
  ![v3477.toNat]
def k0_cond10 (arg21 : BitVec 32) : BitVec 1 :=
  let c64_i32_2347 : BitVec 32 := 64#32
  let v3469 : BitVec 1 := Scalar.cmpi .slt arg21 c64_i32_2347
  let v3470 : BitVec 32 := Scalar.extui v3469
  let c0_i32_2348 : BitVec 32 := 0#32
  let v3471 : BitVec 1 := Scalar.cmpi .ne v3470 c0_i32_2348
  v3471

def k0_chk14 (arg21 : BitVec 32) : Prop :=
  (∀ (k0_h10 : k0_cond10 arg21 = 1#1), ∀ a, (k0_off91 arg21) a + S1.size a ≤ S64.size a)
theorem k0_off91_inb : ∀ (arg21 : BitVec 32) (k0_hw14 : k0_chk14 arg21), ∀ (k0_h10 : k0_cond10 arg21 = 1#1), ∀ a, (k0_off91 arg21) a + S1.size a ≤ S64.size a := fun arg21 k0_hw14 k0_h10 => k0_hw14 k0_h10

def k0_off92 (arg24 : BitVec 32) : Fin 1 → Nat :=
  ![arg24.toNat]
def k0_cond11 (arg22 : BitVec 32) : BitVec 1 :=
  let c0_i32_2363 : BitVec 32 := 0#32
  let v3500 : BitVec 1 := Scalar.cmpi .eq arg22 c0_i32_2363
  let v3501 : BitVec 32 := Scalar.extui v3500
  let c0_i32_2364 : BitVec 32 := 0#32
  let v3502 : BitVec 1 := Scalar.cmpi .ne v3501 c0_i32_2364
  v3502

def k0_off93 (arg23 : BitVec 32) (arg24 : BitVec 32) (v3478 : BitVec 32) : (Fin 4 → Nat) × (Fin 4 → Nat) :=
  let c0_i32_2379 : BitVec 32 := 0#32
  let c0_i32_2380 : BitVec 32 := 0#32
  let c0_i32_2381 : BitVec 32 := 0#32
  let c63_i32_2353 : BitVec 32 := 63#32
  let v3479 : BitVec 32 := Scalar.addi v3478 c63_i32_2353
  let c0_i32_2355 : BitVec 32 := 0#32
  let v3481 : BitVec 1 := Scalar.cmpi .sgt v3479 c0_i32_2355
  let v3482 : BitVec 32 := Scalar.extui v3481
  let c0_i32_2356 : BitVec 32 := 0#32
  let v3483 : BitVec 1 := Scalar.cmpi .slt v3479 c0_i32_2356
  let v3484 : BitVec 32 := Scalar.extui v3483
  let v3485 : BitVec 32 := Scalar.subi v3482 v3484
  let c64_i32_2354 : BitVec 32 := 64#32
  let c0_i32_2357 : BitVec 32 := 0#32
  let v3486 : BitVec 1 := Scalar.cmpi .sgt c64_i32_2354 c0_i32_2357
  let v3487 : BitVec 32 := Scalar.extui v3486
  let c0_i32_2358 : BitVec 32 := 0#32
  let v3488 : BitVec 1 := Scalar.cmpi .slt c64_i32_2354 c0_i32_2358
  let v3489 : BitVec 32 := Scalar.extui v3488
  let v3490 : BitVec 32 := Scalar.subi v3487 v3489
  let v3491 : BitVec 1 := Scalar.cmpi .ne v3485 v3490
  let v3492 : BitVec 32 := Scalar.remsi v3479 c64_i32_2354
  let c0_i32_2359 : BitVec 32 := 0#32
  let v3493 : BitVec 1 := Scalar.cmpi .ne v3492 c0_i32_2359
  let v3494 : BitVec 1 := Scalar.andi v3491 v3493
  let v3480 : BitVec 32 := Scalar.divsi v3479 c64_i32_2354
  let c1_i32_2360 : BitVec 32 := 1#32
  let v3495 : BitVec 32 := Scalar.subi v3480 c1_i32_2360
  let v3496 : BitVec 32 := Scalar.select v3494 v3495 v3480
  let c16_i32_2361 : BitVec 32 := 16#32
  let v3497 : BitVec 32 := Scalar.muli arg23 c16_i32_2361
  let v3498 : BitVec 32 := Scalar.subi v3496 v3497
  let c16_i32_2362 : BitVec 32 := 16#32
  let v3499 : BitVec 32 := Scalar.minsi v3498 c16_i32_2362
  ⟨![arg24.toNat, 0, 0, 0], ![1, v3499.toNat, 256, 128]⟩

def k0_sz19 (arg23 : BitVec 32) (v3478 : BitVec 32) : Fin 3 → Nat :=
  let c63_i32_2353 : BitVec 32 := 63#32
  let v3479 : BitVec 32 := Scalar.addi v3478 c63_i32_2353
  let c0_i32_2355 : BitVec 32 := 0#32
  let v3481 : BitVec 1 := Scalar.cmpi .sgt v3479 c0_i32_2355
  let v3482 : BitVec 32 := Scalar.extui v3481
  let c0_i32_2356 : BitVec 32 := 0#32
  let v3483 : BitVec 1 := Scalar.cmpi .slt v3479 c0_i32_2356
  let v3484 : BitVec 32 := Scalar.extui v3483
  let v3485 : BitVec 32 := Scalar.subi v3482 v3484
  let c64_i32_2354 : BitVec 32 := 64#32
  let c0_i32_2357 : BitVec 32 := 0#32
  let v3486 : BitVec 1 := Scalar.cmpi .sgt c64_i32_2354 c0_i32_2357
  let v3487 : BitVec 32 := Scalar.extui v3486
  let c0_i32_2358 : BitVec 32 := 0#32
  let v3488 : BitVec 1 := Scalar.cmpi .slt c64_i32_2354 c0_i32_2358
  let v3489 : BitVec 32 := Scalar.extui v3488
  let v3490 : BitVec 32 := Scalar.subi v3487 v3489
  let v3491 : BitVec 1 := Scalar.cmpi .ne v3485 v3490
  let v3492 : BitVec 32 := Scalar.remsi v3479 c64_i32_2354
  let c0_i32_2359 : BitVec 32 := 0#32
  let v3493 : BitVec 1 := Scalar.cmpi .ne v3492 c0_i32_2359
  let v3494 : BitVec 1 := Scalar.andi v3491 v3493
  let v3480 : BitVec 32 := Scalar.divsi v3479 c64_i32_2354
  let c1_i32_2360 : BitVec 32 := 1#32
  let v3495 : BitVec 32 := Scalar.subi v3480 c1_i32_2360
  let v3496 : BitVec 32 := Scalar.select v3494 v3495 v3480
  let c16_i32_2361 : BitVec 32 := 16#32
  let v3497 : BitVec 32 := Scalar.muli arg23 c16_i32_2361
  let v3498 : BitVec 32 := Scalar.subi v3496 v3497
  let c16_i32_2362 : BitVec 32 := 16#32
  let v3499 : BitVec 32 := Scalar.minsi v3498 c16_i32_2362
  ![v3499.toNat, 256, 128]
def k0_off94 (arg21 : BitVec 32) (arg23 : BitVec 32) (v3478 : BitVec 32) : (Fin 4 → Nat) × (Fin 4 → Nat) :=
  let c16_i32_2378 : BitVec 32 := 16#32
  let v3521 : BitVec 32 := Scalar.muli arg23 c16_i32_2378
  let c0_i32_2382 : BitVec 32 := 0#32
  let c0_i32_2383 : BitVec 32 := 0#32
  let c63_i32_2353 : BitVec 32 := 63#32
  let v3479 : BitVec 32 := Scalar.addi v3478 c63_i32_2353
  let c0_i32_2355 : BitVec 32 := 0#32
  let v3481 : BitVec 1 := Scalar.cmpi .sgt v3479 c0_i32_2355
  let v3482 : BitVec 32 := Scalar.extui v3481
  let c0_i32_2356 : BitVec 32 := 0#32
  let v3483 : BitVec 1 := Scalar.cmpi .slt v3479 c0_i32_2356
  let v3484 : BitVec 32 := Scalar.extui v3483
  let v3485 : BitVec 32 := Scalar.subi v3482 v3484
  let c64_i32_2354 : BitVec 32 := 64#32
  let c0_i32_2357 : BitVec 32 := 0#32
  let v3486 : BitVec 1 := Scalar.cmpi .sgt c64_i32_2354 c0_i32_2357
  let v3487 : BitVec 32 := Scalar.extui v3486
  let c0_i32_2358 : BitVec 32 := 0#32
  let v3488 : BitVec 1 := Scalar.cmpi .slt c64_i32_2354 c0_i32_2358
  let v3489 : BitVec 32 := Scalar.extui v3488
  let v3490 : BitVec 32 := Scalar.subi v3487 v3489
  let v3491 : BitVec 1 := Scalar.cmpi .ne v3485 v3490
  let v3492 : BitVec 32 := Scalar.remsi v3479 c64_i32_2354
  let c0_i32_2359 : BitVec 32 := 0#32
  let v3493 : BitVec 1 := Scalar.cmpi .ne v3492 c0_i32_2359
  let v3494 : BitVec 1 := Scalar.andi v3491 v3493
  let v3480 : BitVec 32 := Scalar.divsi v3479 c64_i32_2354
  let c1_i32_2360 : BitVec 32 := 1#32
  let v3495 : BitVec 32 := Scalar.subi v3480 c1_i32_2360
  let v3496 : BitVec 32 := Scalar.select v3494 v3495 v3480
  let c16_i32_2361 : BitVec 32 := 16#32
  let v3497 : BitVec 32 := Scalar.muli arg23 c16_i32_2361
  let v3498 : BitVec 32 := Scalar.subi v3496 v3497
  let c16_i32_2362 : BitVec 32 := 16#32
  let v3499 : BitVec 32 := Scalar.minsi v3498 c16_i32_2362
  ⟨![arg21.toNat, v3521.toNat, 0, 0], ![1, v3499.toNat, 256, 128]⟩
def k0_sz20 (arg23 : BitVec 32) (v3478 : BitVec 32) : Fin 3 → Nat :=
  let c63_i32_2353 : BitVec 32 := 63#32
  let v3479 : BitVec 32 := Scalar.addi v3478 c63_i32_2353
  let c0_i32_2355 : BitVec 32 := 0#32
  let v3481 : BitVec 1 := Scalar.cmpi .sgt v3479 c0_i32_2355
  let v3482 : BitVec 32 := Scalar.extui v3481
  let c0_i32_2356 : BitVec 32 := 0#32
  let v3483 : BitVec 1 := Scalar.cmpi .slt v3479 c0_i32_2356
  let v3484 : BitVec 32 := Scalar.extui v3483
  let v3485 : BitVec 32 := Scalar.subi v3482 v3484
  let c64_i32_2354 : BitVec 32 := 64#32
  let c0_i32_2357 : BitVec 32 := 0#32
  let v3486 : BitVec 1 := Scalar.cmpi .sgt c64_i32_2354 c0_i32_2357
  let v3487 : BitVec 32 := Scalar.extui v3486
  let c0_i32_2358 : BitVec 32 := 0#32
  let v3488 : BitVec 1 := Scalar.cmpi .slt c64_i32_2354 c0_i32_2358
  let v3489 : BitVec 32 := Scalar.extui v3488
  let v3490 : BitVec 32 := Scalar.subi v3487 v3489
  let v3491 : BitVec 1 := Scalar.cmpi .ne v3485 v3490
  let v3492 : BitVec 32 := Scalar.remsi v3479 c64_i32_2354
  let c0_i32_2359 : BitVec 32 := 0#32
  let v3493 : BitVec 1 := Scalar.cmpi .ne v3492 c0_i32_2359
  let v3494 : BitVec 1 := Scalar.andi v3491 v3493
  let v3480 : BitVec 32 := Scalar.divsi v3479 c64_i32_2354
  let c1_i32_2360 : BitVec 32 := 1#32
  let v3495 : BitVec 32 := Scalar.subi v3480 c1_i32_2360
  let v3496 : BitVec 32 := Scalar.select v3494 v3495 v3480
  let c16_i32_2361 : BitVec 32 := 16#32
  let v3497 : BitVec 32 := Scalar.muli arg23 c16_i32_2361
  let v3498 : BitVec 32 := Scalar.subi v3496 v3497
  let c16_i32_2362 : BitVec 32 := 16#32
  let v3499 : BitVec 32 := Scalar.minsi v3498 c16_i32_2362
  ![v3499.toNat, 256, 128]
def k0_off95 (arg24 : BitVec 32) : Fin 1 → Nat :=
  ![arg24.toNat]
def k0_cond12 (arg22 : BitVec 32) : BitVec 1 :=
  let c1_i32_2365 : BitVec 32 := 1#32
  let v3503 : BitVec 1 := Scalar.cmpi .eq arg22 c1_i32_2365
  let v3504 : BitVec 32 := Scalar.extui v3503
  let c0_i32_2366 : BitVec 32 := 0#32
  let v3505 : BitVec 1 := Scalar.cmpi .ne v3504 c0_i32_2366
  v3505

def k0_chk15 (arg21 : BitVec 32) (arg22 : BitVec 32) (arg24 : BitVec 32) : Prop :=
  (∀ (k0_h10 : k0_cond10 arg21 = 1#1), ∀ (k0_h11 : k0_cond11 arg22 = 1#1), ∀ a, (k0_off92 arg24) a + S1.size a ≤ S24.size a) ∧
  (∀ (k0_h10 : k0_cond10 arg21 = 1#1), ∀ (k0_h12 : k0_cond12 arg22 = 1#1), ∀ a, (k0_off95 arg24) a + S1.size a ≤ S24.size a)
theorem k0_off92_inb : ∀ (arg21 : BitVec 32) (arg22 : BitVec 32) (arg24 : BitVec 32) (k0_hw15 : k0_chk15 arg21 arg22 arg24), ∀ (k0_h10 : k0_cond10 arg21 = 1#1), ∀ (k0_h11 : k0_cond11 arg22 = 1#1), ∀ a, (k0_off92 arg24) a + S1.size a ≤ S24.size a := fun arg21 arg22 arg24 k0_hw15 k0_h10 k0_h11 => k0_hw15.1 k0_h10 k0_h11
theorem k0_off95_inb : ∀ (arg21 : BitVec 32) (arg22 : BitVec 32) (arg24 : BitVec 32) (k0_hw15 : k0_chk15 arg21 arg22 arg24), ∀ (k0_h10 : k0_cond10 arg21 = 1#1), ∀ (k0_h12 : k0_cond12 arg22 = 1#1), ∀ a, (k0_off95 arg24) a + S1.size a ≤ S24.size a := fun arg21 arg22 arg24 k0_hw15 k0_h10 k0_h12 => k0_hw15.2 k0_h10 k0_h12

def k0_off96 (arg23 : BitVec 32) (arg24 : BitVec 32) (v3478 : BitVec 32) : (Fin 4 → Nat) × (Fin 4 → Nat) :=
  let c0_i32_2379 : BitVec 32 := 0#32
  let c0_i32_2380 : BitVec 32 := 0#32
  let c0_i32_2381 : BitVec 32 := 0#32
  let c63_i32_2353 : BitVec 32 := 63#32
  let v3479 : BitVec 32 := Scalar.addi v3478 c63_i32_2353
  let c0_i32_2355 : BitVec 32 := 0#32
  let v3481 : BitVec 1 := Scalar.cmpi .sgt v3479 c0_i32_2355
  let v3482 : BitVec 32 := Scalar.extui v3481
  let c0_i32_2356 : BitVec 32 := 0#32
  let v3483 : BitVec 1 := Scalar.cmpi .slt v3479 c0_i32_2356
  let v3484 : BitVec 32 := Scalar.extui v3483
  let v3485 : BitVec 32 := Scalar.subi v3482 v3484
  let c64_i32_2354 : BitVec 32 := 64#32
  let c0_i32_2357 : BitVec 32 := 0#32
  let v3486 : BitVec 1 := Scalar.cmpi .sgt c64_i32_2354 c0_i32_2357
  let v3487 : BitVec 32 := Scalar.extui v3486
  let c0_i32_2358 : BitVec 32 := 0#32
  let v3488 : BitVec 1 := Scalar.cmpi .slt c64_i32_2354 c0_i32_2358
  let v3489 : BitVec 32 := Scalar.extui v3488
  let v3490 : BitVec 32 := Scalar.subi v3487 v3489
  let v3491 : BitVec 1 := Scalar.cmpi .ne v3485 v3490
  let v3492 : BitVec 32 := Scalar.remsi v3479 c64_i32_2354
  let c0_i32_2359 : BitVec 32 := 0#32
  let v3493 : BitVec 1 := Scalar.cmpi .ne v3492 c0_i32_2359
  let v3494 : BitVec 1 := Scalar.andi v3491 v3493
  let v3480 : BitVec 32 := Scalar.divsi v3479 c64_i32_2354
  let c1_i32_2360 : BitVec 32 := 1#32
  let v3495 : BitVec 32 := Scalar.subi v3480 c1_i32_2360
  let v3496 : BitVec 32 := Scalar.select v3494 v3495 v3480
  let c16_i32_2361 : BitVec 32 := 16#32
  let v3497 : BitVec 32 := Scalar.muli arg23 c16_i32_2361
  let v3498 : BitVec 32 := Scalar.subi v3496 v3497
  let c16_i32_2362 : BitVec 32 := 16#32
  let v3499 : BitVec 32 := Scalar.minsi v3498 c16_i32_2362
  ⟨![arg24.toNat, 0, 0, 0], ![1, v3499.toNat, 256, 128]⟩
def k0_sz21 (arg23 : BitVec 32) (v3478 : BitVec 32) : Fin 3 → Nat :=
  let c63_i32_2353 : BitVec 32 := 63#32
  let v3479 : BitVec 32 := Scalar.addi v3478 c63_i32_2353
  let c0_i32_2355 : BitVec 32 := 0#32
  let v3481 : BitVec 1 := Scalar.cmpi .sgt v3479 c0_i32_2355
  let v3482 : BitVec 32 := Scalar.extui v3481
  let c0_i32_2356 : BitVec 32 := 0#32
  let v3483 : BitVec 1 := Scalar.cmpi .slt v3479 c0_i32_2356
  let v3484 : BitVec 32 := Scalar.extui v3483
  let v3485 : BitVec 32 := Scalar.subi v3482 v3484
  let c64_i32_2354 : BitVec 32 := 64#32
  let c0_i32_2357 : BitVec 32 := 0#32
  let v3486 : BitVec 1 := Scalar.cmpi .sgt c64_i32_2354 c0_i32_2357
  let v3487 : BitVec 32 := Scalar.extui v3486
  let c0_i32_2358 : BitVec 32 := 0#32
  let v3488 : BitVec 1 := Scalar.cmpi .slt c64_i32_2354 c0_i32_2358
  let v3489 : BitVec 32 := Scalar.extui v3488
  let v3490 : BitVec 32 := Scalar.subi v3487 v3489
  let v3491 : BitVec 1 := Scalar.cmpi .ne v3485 v3490
  let v3492 : BitVec 32 := Scalar.remsi v3479 c64_i32_2354
  let c0_i32_2359 : BitVec 32 := 0#32
  let v3493 : BitVec 1 := Scalar.cmpi .ne v3492 c0_i32_2359
  let v3494 : BitVec 1 := Scalar.andi v3491 v3493
  let v3480 : BitVec 32 := Scalar.divsi v3479 c64_i32_2354
  let c1_i32_2360 : BitVec 32 := 1#32
  let v3495 : BitVec 32 := Scalar.subi v3480 c1_i32_2360
  let v3496 : BitVec 32 := Scalar.select v3494 v3495 v3480
  let c16_i32_2361 : BitVec 32 := 16#32
  let v3497 : BitVec 32 := Scalar.muli arg23 c16_i32_2361
  let v3498 : BitVec 32 := Scalar.subi v3496 v3497
  let c16_i32_2362 : BitVec 32 := 16#32
  let v3499 : BitVec 32 := Scalar.minsi v3498 c16_i32_2362
  ![v3499.toNat, 256, 128]
def k0_off97 (arg21 : BitVec 32) (arg23 : BitVec 32) (v3478 : BitVec 32) : (Fin 4 → Nat) × (Fin 4 → Nat) :=
  let c16_i32_2378 : BitVec 32 := 16#32
  let v3521 : BitVec 32 := Scalar.muli arg23 c16_i32_2378
  let c0_i32_2382 : BitVec 32 := 0#32
  let c0_i32_2383 : BitVec 32 := 0#32
  let c63_i32_2353 : BitVec 32 := 63#32
  let v3479 : BitVec 32 := Scalar.addi v3478 c63_i32_2353
  let c0_i32_2355 : BitVec 32 := 0#32
  let v3481 : BitVec 1 := Scalar.cmpi .sgt v3479 c0_i32_2355
  let v3482 : BitVec 32 := Scalar.extui v3481
  let c0_i32_2356 : BitVec 32 := 0#32
  let v3483 : BitVec 1 := Scalar.cmpi .slt v3479 c0_i32_2356
  let v3484 : BitVec 32 := Scalar.extui v3483
  let v3485 : BitVec 32 := Scalar.subi v3482 v3484
  let c64_i32_2354 : BitVec 32 := 64#32
  let c0_i32_2357 : BitVec 32 := 0#32
  let v3486 : BitVec 1 := Scalar.cmpi .sgt c64_i32_2354 c0_i32_2357
  let v3487 : BitVec 32 := Scalar.extui v3486
  let c0_i32_2358 : BitVec 32 := 0#32
  let v3488 : BitVec 1 := Scalar.cmpi .slt c64_i32_2354 c0_i32_2358
  let v3489 : BitVec 32 := Scalar.extui v3488
  let v3490 : BitVec 32 := Scalar.subi v3487 v3489
  let v3491 : BitVec 1 := Scalar.cmpi .ne v3485 v3490
  let v3492 : BitVec 32 := Scalar.remsi v3479 c64_i32_2354
  let c0_i32_2359 : BitVec 32 := 0#32
  let v3493 : BitVec 1 := Scalar.cmpi .ne v3492 c0_i32_2359
  let v3494 : BitVec 1 := Scalar.andi v3491 v3493
  let v3480 : BitVec 32 := Scalar.divsi v3479 c64_i32_2354
  let c1_i32_2360 : BitVec 32 := 1#32
  let v3495 : BitVec 32 := Scalar.subi v3480 c1_i32_2360
  let v3496 : BitVec 32 := Scalar.select v3494 v3495 v3480
  let c16_i32_2361 : BitVec 32 := 16#32
  let v3497 : BitVec 32 := Scalar.muli arg23 c16_i32_2361
  let v3498 : BitVec 32 := Scalar.subi v3496 v3497
  let c16_i32_2362 : BitVec 32 := 16#32
  let v3499 : BitVec 32 := Scalar.minsi v3498 c16_i32_2362
  ⟨![arg21.toNat, v3521.toNat, 0, 0], ![1, v3499.toNat, 256, 128]⟩
def k0_sz22 (arg23 : BitVec 32) (v3478 : BitVec 32) : Fin 3 → Nat :=
  let c63_i32_2353 : BitVec 32 := 63#32
  let v3479 : BitVec 32 := Scalar.addi v3478 c63_i32_2353
  let c0_i32_2355 : BitVec 32 := 0#32
  let v3481 : BitVec 1 := Scalar.cmpi .sgt v3479 c0_i32_2355
  let v3482 : BitVec 32 := Scalar.extui v3481
  let c0_i32_2356 : BitVec 32 := 0#32
  let v3483 : BitVec 1 := Scalar.cmpi .slt v3479 c0_i32_2356
  let v3484 : BitVec 32 := Scalar.extui v3483
  let v3485 : BitVec 32 := Scalar.subi v3482 v3484
  let c64_i32_2354 : BitVec 32 := 64#32
  let c0_i32_2357 : BitVec 32 := 0#32
  let v3486 : BitVec 1 := Scalar.cmpi .sgt c64_i32_2354 c0_i32_2357
  let v3487 : BitVec 32 := Scalar.extui v3486
  let c0_i32_2358 : BitVec 32 := 0#32
  let v3488 : BitVec 1 := Scalar.cmpi .slt c64_i32_2354 c0_i32_2358
  let v3489 : BitVec 32 := Scalar.extui v3488
  let v3490 : BitVec 32 := Scalar.subi v3487 v3489
  let v3491 : BitVec 1 := Scalar.cmpi .ne v3485 v3490
  let v3492 : BitVec 32 := Scalar.remsi v3479 c64_i32_2354
  let c0_i32_2359 : BitVec 32 := 0#32
  let v3493 : BitVec 1 := Scalar.cmpi .ne v3492 c0_i32_2359
  let v3494 : BitVec 1 := Scalar.andi v3491 v3493
  let v3480 : BitVec 32 := Scalar.divsi v3479 c64_i32_2354
  let c1_i32_2360 : BitVec 32 := 1#32
  let v3495 : BitVec 32 := Scalar.subi v3480 c1_i32_2360
  let v3496 : BitVec 32 := Scalar.select v3494 v3495 v3480
  let c16_i32_2361 : BitVec 32 := 16#32
  let v3497 : BitVec 32 := Scalar.muli arg23 c16_i32_2361
  let v3498 : BitVec 32 := Scalar.subi v3496 v3497
  let c16_i32_2362 : BitVec 32 := 16#32
  let v3499 : BitVec 32 := Scalar.minsi v3498 c16_i32_2362
  ![v3499.toNat, 256, 128]

def k0_chk16 (arg21 : BitVec 32) (arg22 : BitVec 32) (arg23 : BitVec 32) (arg24 : BitVec 32) (v3478 : BitVec 32) : Prop :=
  (∀ (k0_h10 : k0_cond10 arg21 = 1#1), ∀ (k0_h11 : k0_cond11 arg22 = 1#1), ∀ a, (k0_off93 arg23 arg24 v3478).2 a = 0 ∨ (k0_off93 arg23 arg24 v3478).1 a + (k0_off93 arg23 arg24 v3478).2 a ≤ S24x16x256x128.size a) ∧
  (∀ (k0_h10 : k0_cond10 arg21 = 1#1), ∀ (k0_h11 : k0_cond11 arg22 = 1#1), (⟨4, (k0_off93 arg23 arg24 v3478).2⟩ : Shape).Squeezes ⟨3, k0_sz19 arg23 v3478⟩) ∧
  (∀ (k0_h10 : k0_cond10 arg21 = 1#1), ∀ (k0_h11 : k0_cond11 arg22 = 1#1), ∀ a, (k0_off94 arg21 arg23 v3478).2 a = 0 ∨ (k0_off94 arg21 arg23 v3478).1 a + (k0_off94 arg21 arg23 v3478).2 a ≤ S64x128x256x128.size a) ∧
  (∀ (k0_h10 : k0_cond10 arg21 = 1#1), ∀ (k0_h11 : k0_cond11 arg22 = 1#1), (⟨4, (k0_off94 arg21 arg23 v3478).2⟩ : Shape).Squeezes ⟨3, k0_sz20 arg23 v3478⟩) ∧
  (∀ (k0_h10 : k0_cond10 arg21 = 1#1), ∀ (k0_h11 : k0_cond11 arg22 = 1#1), ∀ (hinb : ∀ a, (k0_off94 arg21 arg23 v3478).2 a = 0 ∨ (k0_off94 arg21 arg23 v3478).1 a + (k0_off94 arg21 arg23 v3478).2 a ≤ S64x128x256x128.size a), (Rect.unitDyn (s := S64x128x256x128) (k0_off94 arg21 arg23 v3478).1 (k0_off94 arg21 arg23 v3478).2 hinb).WholeWords (EltTy.packing .fp8e4m3)) ∧
  (∀ (k0_h10 : k0_cond10 arg21 = 1#1), ∀ (k0_h11 : k0_cond11 arg22 = 1#1), ∀ (hinb : ∀ a, (k0_off93 arg23 arg24 v3478).2 a = 0 ∨ (k0_off93 arg23 arg24 v3478).1 a + (k0_off93 arg23 arg24 v3478).2 a ≤ S24x16x256x128.size a), (Rect.unitDyn (s := S24x16x256x128) (k0_off93 arg23 arg24 v3478).1 (k0_off93 arg23 arg24 v3478).2 hinb).WholeWords (EltTy.packing .fp8e4m3)) ∧
  (∀ (k0_h10 : k0_cond10 arg21 = 1#1), ∀ (k0_h12 : k0_cond12 arg22 = 1#1), ∀ a, (k0_off96 arg23 arg24 v3478).2 a = 0 ∨ (k0_off96 arg23 arg24 v3478).1 a + (k0_off96 arg23 arg24 v3478).2 a ≤ S24x16x256x128.size a) ∧
  (∀ (k0_h10 : k0_cond10 arg21 = 1#1), ∀ (k0_h12 : k0_cond12 arg22 = 1#1), (⟨4, (k0_off96 arg23 arg24 v3478).2⟩ : Shape).Squeezes ⟨3, k0_sz21 arg23 v3478⟩) ∧
  (∀ (k0_h10 : k0_cond10 arg21 = 1#1), ∀ (k0_h12 : k0_cond12 arg22 = 1#1), ∀ a, (k0_off97 arg21 arg23 v3478).2 a = 0 ∨ (k0_off97 arg21 arg23 v3478).1 a + (k0_off97 arg21 arg23 v3478).2 a ≤ S64x128x256x128.size a) ∧
  (∀ (k0_h10 : k0_cond10 arg21 = 1#1), ∀ (k0_h12 : k0_cond12 arg22 = 1#1), (⟨4, (k0_off97 arg21 arg23 v3478).2⟩ : Shape).Squeezes ⟨3, k0_sz22 arg23 v3478⟩) ∧
  (∀ (k0_h10 : k0_cond10 arg21 = 1#1), ∀ (k0_h12 : k0_cond12 arg22 = 1#1), ∀ (hinb : ∀ a, (k0_off97 arg21 arg23 v3478).2 a = 0 ∨ (k0_off97 arg21 arg23 v3478).1 a + (k0_off97 arg21 arg23 v3478).2 a ≤ S64x128x256x128.size a), (Rect.unitDyn (s := S64x128x256x128) (k0_off97 arg21 arg23 v3478).1 (k0_off97 arg21 arg23 v3478).2 hinb).WholeWords (EltTy.packing .fp8e4m3)) ∧
  (∀ (k0_h10 : k0_cond10 arg21 = 1#1), ∀ (k0_h12 : k0_cond12 arg22 = 1#1), ∀ (hinb : ∀ a, (k0_off96 arg23 arg24 v3478).2 a = 0 ∨ (k0_off96 arg23 arg24 v3478).1 a + (k0_off96 arg23 arg24 v3478).2 a ≤ S24x16x256x128.size a), (Rect.unitDyn (s := S24x16x256x128) (k0_off96 arg23 arg24 v3478).1 (k0_off96 arg23 arg24 v3478).2 hinb).WholeWords (EltTy.packing .fp8e4m3))
theorem k0_off93_inb : ∀ (arg21 : BitVec 32) (arg22 : BitVec 32) (arg23 : BitVec 32) (arg24 : BitVec 32) (v3478 : BitVec 32) (k0_hw16 : k0_chk16 arg21 arg22 arg23 arg24 v3478), ∀ (k0_h10 : k0_cond10 arg21 = 1#1), ∀ (k0_h11 : k0_cond11 arg22 = 1#1), ∀ a, (k0_off93 arg23 arg24 v3478).2 a = 0 ∨ (k0_off93 arg23 arg24 v3478).1 a + (k0_off93 arg23 arg24 v3478).2 a ≤ S24x16x256x128.size a := fun arg21 arg22 arg23 arg24 v3478 k0_hw16 k0_h10 k0_h11 => k0_hw16.1 k0_h10 k0_h11
theorem k0_sz19_squeezes : ∀ (arg21 : BitVec 32) (arg22 : BitVec 32) (arg23 : BitVec 32) (arg24 : BitVec 32) (v3478 : BitVec 32) (k0_hw16 : k0_chk16 arg21 arg22 arg23 arg24 v3478), ∀ (k0_h10 : k0_cond10 arg21 = 1#1), ∀ (k0_h11 : k0_cond11 arg22 = 1#1), (⟨4, (k0_off93 arg23 arg24 v3478).2⟩ : Shape).Squeezes ⟨3, k0_sz19 arg23 v3478⟩ := fun arg21 arg22 arg23 arg24 v3478 k0_hw16 k0_h10 k0_h11 => k0_hw16.2.1 k0_h10 k0_h11
theorem k0_off94_inb : ∀ (arg21 : BitVec 32) (arg22 : BitVec 32) (arg23 : BitVec 32) (arg24 : BitVec 32) (v3478 : BitVec 32) (k0_hw16 : k0_chk16 arg21 arg22 arg23 arg24 v3478), ∀ (k0_h10 : k0_cond10 arg21 = 1#1), ∀ (k0_h11 : k0_cond11 arg22 = 1#1), ∀ a, (k0_off94 arg21 arg23 v3478).2 a = 0 ∨ (k0_off94 arg21 arg23 v3478).1 a + (k0_off94 arg21 arg23 v3478).2 a ≤ S64x128x256x128.size a := fun arg21 arg22 arg23 arg24 v3478 k0_hw16 k0_h10 k0_h11 => k0_hw16.2.2.1 k0_h10 k0_h11
theorem k0_sz20_squeezes : ∀ (arg21 : BitVec 32) (arg22 : BitVec 32) (arg23 : BitVec 32) (arg24 : BitVec 32) (v3478 : BitVec 32) (k0_hw16 : k0_chk16 arg21 arg22 arg23 arg24 v3478), ∀ (k0_h10 : k0_cond10 arg21 = 1#1), ∀ (k0_h11 : k0_cond11 arg22 = 1#1), (⟨4, (k0_off94 arg21 arg23 v3478).2⟩ : Shape).Squeezes ⟨3, k0_sz20 arg23 v3478⟩ := fun arg21 arg22 arg23 arg24 v3478 k0_hw16 k0_h10 k0_h11 => k0_hw16.2.2.2.1 k0_h10 k0_h11
theorem k0_off94_wordsfp8e4m3 : ∀ (arg21 : BitVec 32) (arg22 : BitVec 32) (arg23 : BitVec 32) (arg24 : BitVec 32) (v3478 : BitVec 32) (k0_hw16 : k0_chk16 arg21 arg22 arg23 arg24 v3478), ∀ (k0_h10 : k0_cond10 arg21 = 1#1), ∀ (k0_h11 : k0_cond11 arg22 = 1#1), (Rect.unitDyn (s := S64x128x256x128) (k0_off94 arg21 arg23 v3478).1 (k0_off94 arg21 arg23 v3478).2 (k0_off94_inb arg21 arg22 arg23 arg24 v3478 k0_hw16 k0_h10 k0_h11)).WholeWords (EltTy.packing .fp8e4m3) := fun arg21 arg22 arg23 arg24 v3478 k0_hw16 k0_h10 k0_h11 => k0_hw16.2.2.2.2.1 k0_h10 k0_h11 (k0_off94_inb arg21 arg22 arg23 arg24 v3478 k0_hw16 k0_h10 k0_h11)
theorem k0_off93_wordsfp8e4m3 : ∀ (arg21 : BitVec 32) (arg22 : BitVec 32) (arg23 : BitVec 32) (arg24 : BitVec 32) (v3478 : BitVec 32) (k0_hw16 : k0_chk16 arg21 arg22 arg23 arg24 v3478), ∀ (k0_h10 : k0_cond10 arg21 = 1#1), ∀ (k0_h11 : k0_cond11 arg22 = 1#1), (Rect.unitDyn (s := S24x16x256x128) (k0_off93 arg23 arg24 v3478).1 (k0_off93 arg23 arg24 v3478).2 (k0_off93_inb arg21 arg22 arg23 arg24 v3478 k0_hw16 k0_h10 k0_h11)).WholeWords (EltTy.packing .fp8e4m3) := fun arg21 arg22 arg23 arg24 v3478 k0_hw16 k0_h10 k0_h11 => k0_hw16.2.2.2.2.2.1 k0_h10 k0_h11 (k0_off93_inb arg21 arg22 arg23 arg24 v3478 k0_hw16 k0_h10 k0_h11)
theorem k0_off96_inb : ∀ (arg21 : BitVec 32) (arg22 : BitVec 32) (arg23 : BitVec 32) (arg24 : BitVec 32) (v3478 : BitVec 32) (k0_hw16 : k0_chk16 arg21 arg22 arg23 arg24 v3478), ∀ (k0_h10 : k0_cond10 arg21 = 1#1), ∀ (k0_h12 : k0_cond12 arg22 = 1#1), ∀ a, (k0_off96 arg23 arg24 v3478).2 a = 0 ∨ (k0_off96 arg23 arg24 v3478).1 a + (k0_off96 arg23 arg24 v3478).2 a ≤ S24x16x256x128.size a := fun arg21 arg22 arg23 arg24 v3478 k0_hw16 k0_h10 k0_h12 => k0_hw16.2.2.2.2.2.2.1 k0_h10 k0_h12
theorem k0_sz21_squeezes : ∀ (arg21 : BitVec 32) (arg22 : BitVec 32) (arg23 : BitVec 32) (arg24 : BitVec 32) (v3478 : BitVec 32) (k0_hw16 : k0_chk16 arg21 arg22 arg23 arg24 v3478), ∀ (k0_h10 : k0_cond10 arg21 = 1#1), ∀ (k0_h12 : k0_cond12 arg22 = 1#1), (⟨4, (k0_off96 arg23 arg24 v3478).2⟩ : Shape).Squeezes ⟨3, k0_sz21 arg23 v3478⟩ := fun arg21 arg22 arg23 arg24 v3478 k0_hw16 k0_h10 k0_h12 => k0_hw16.2.2.2.2.2.2.2.1 k0_h10 k0_h12
theorem k0_off97_inb : ∀ (arg21 : BitVec 32) (arg22 : BitVec 32) (arg23 : BitVec 32) (arg24 : BitVec 32) (v3478 : BitVec 32) (k0_hw16 : k0_chk16 arg21 arg22 arg23 arg24 v3478), ∀ (k0_h10 : k0_cond10 arg21 = 1#1), ∀ (k0_h12 : k0_cond12 arg22 = 1#1), ∀ a, (k0_off97 arg21 arg23 v3478).2 a = 0 ∨ (k0_off97 arg21 arg23 v3478).1 a + (k0_off97 arg21 arg23 v3478).2 a ≤ S64x128x256x128.size a := fun arg21 arg22 arg23 arg24 v3478 k0_hw16 k0_h10 k0_h12 => k0_hw16.2.2.2.2.2.2.2.2.1 k0_h10 k0_h12
theorem k0_sz22_squeezes : ∀ (arg21 : BitVec 32) (arg22 : BitVec 32) (arg23 : BitVec 32) (arg24 : BitVec 32) (v3478 : BitVec 32) (k0_hw16 : k0_chk16 arg21 arg22 arg23 arg24 v3478), ∀ (k0_h10 : k0_cond10 arg21 = 1#1), ∀ (k0_h12 : k0_cond12 arg22 = 1#1), (⟨4, (k0_off97 arg21 arg23 v3478).2⟩ : Shape).Squeezes ⟨3, k0_sz22 arg23 v3478⟩ := fun arg21 arg22 arg23 arg24 v3478 k0_hw16 k0_h10 k0_h12 => k0_hw16.2.2.2.2.2.2.2.2.2.1 k0_h10 k0_h12
theorem k0_off97_wordsfp8e4m3 : ∀ (arg21 : BitVec 32) (arg22 : BitVec 32) (arg23 : BitVec 32) (arg24 : BitVec 32) (v3478 : BitVec 32) (k0_hw16 : k0_chk16 arg21 arg22 arg23 arg24 v3478), ∀ (k0_h10 : k0_cond10 arg21 = 1#1), ∀ (k0_h12 : k0_cond12 arg22 = 1#1), (Rect.unitDyn (s := S64x128x256x128) (k0_off97 arg21 arg23 v3478).1 (k0_off97 arg21 arg23 v3478).2 (k0_off97_inb arg21 arg22 arg23 arg24 v3478 k0_hw16 k0_h10 k0_h12)).WholeWords (EltTy.packing .fp8e4m3) := fun arg21 arg22 arg23 arg24 v3478 k0_hw16 k0_h10 k0_h12 => k0_hw16.2.2.2.2.2.2.2.2.2.2.1 k0_h10 k0_h12 (k0_off97_inb arg21 arg22 arg23 arg24 v3478 k0_hw16 k0_h10 k0_h12)
theorem k0_off96_wordsfp8e4m3 : ∀ (arg21 : BitVec 32) (arg22 : BitVec 32) (arg23 : BitVec 32) (arg24 : BitVec 32) (v3478 : BitVec 32) (k0_hw16 : k0_chk16 arg21 arg22 arg23 arg24 v3478), ∀ (k0_h10 : k0_cond10 arg21 = 1#1), ∀ (k0_h12 : k0_cond12 arg22 = 1#1), (Rect.unitDyn (s := S24x16x256x128) (k0_off96 arg23 arg24 v3478).1 (k0_off96 arg23 arg24 v3478).2 (k0_off96_inb arg21 arg22 arg23 arg24 v3478 k0_hw16 k0_h10 k0_h12)).WholeWords (EltTy.packing .fp8e4m3) := fun arg21 arg22 arg23 arg24 v3478 k0_hw16 k0_h10 k0_h12 => k0_hw16.2.2.2.2.2.2.2.2.2.2.2 k0_h10 k0_h12 (k0_off96_inb arg21 arg22 arg23 arg24 v3478 k0_hw16 k0_h10 k0_h12)

@[reducible] def k0_t9_loop (v2354 : BitVec 32) : Scf.Loop 32 :=
  let c0_i32_1835 : BitVec 32 := 0#32
  let c63_i32 : BitVec 32 := 63#32
  let v2355 : BitVec 32 := Scalar.addi v2354 c63_i32
  let c0_i32_1789 : BitVec 32 := 0#32
  let v2357 : BitVec 1 := Scalar.cmpi .sgt v2355 c0_i32_1789
  let v2358 : BitVec 32 := Scalar.extui v2357
  let c0_i32_1790 : BitVec 32 := 0#32
  let v2359 : BitVec 1 := Scalar.cmpi .slt v2355 c0_i32_1790
  let v2360 : BitVec 32 := Scalar.extui v2359
  let v2361 : BitVec 32 := Scalar.subi v2358 v2360
  let c64_i32_1788 : BitVec 32 := 64#32
  let c0_i32_1791 : BitVec 32 := 0#32
  let v2362 : BitVec 1 := Scalar.cmpi .sgt c64_i32_1788 c0_i32_1791
  let v2363 : BitVec 32 := Scalar.extui v2362
  let c0_i32_1792 : BitVec 32 := 0#32
  let v2364 : BitVec 1 := Scalar.cmpi .slt c64_i32_1788 c0_i32_1792
  let v2365 : BitVec 32 := Scalar.extui v2364
  let v2366 : BitVec 32 := Scalar.subi v2363 v2365
  let v2367 : BitVec 1 := Scalar.cmpi .ne v2361 v2366
  let v2368 : BitVec 32 := Scalar.remsi v2355 c64_i32_1788
  let c0_i32_1793 : BitVec 32 := 0#32
  let v2369 : BitVec 1 := Scalar.cmpi .ne v2368 c0_i32_1793
  let v2370 : BitVec 1 := Scalar.andi v2367 v2369
  let v2356 : BitVec 32 := Scalar.divsi v2355 c64_i32_1788
  let c1_i32_1794 : BitVec 32 := 1#32
  let v2371 : BitVec 32 := Scalar.subi v2356 c1_i32_1794
  let v2372 : BitVec 32 := Scalar.select v2370 v2371 v2356
  let c16_i32 : BitVec 32 := 16#32
  let v2373 : BitVec 32 := Scalar.addi v2372 c16_i32
  let c1_i32_1795 : BitVec 32 := 1#32
  let v2374 : BitVec 32 := Scalar.subi v2373 c1_i32_1795
  let c0_i32_1797 : BitVec 32 := 0#32
  let v2376 : BitVec 1 := Scalar.cmpi .sgt v2374 c0_i32_1797
  let v2377 : BitVec 32 := Scalar.extui v2376
  let c0_i32_1798 : BitVec 32 := 0#32
  let v2378 : BitVec 1 := Scalar.cmpi .slt v2374 c0_i32_1798
  let v2379 : BitVec 32 := Scalar.extui v2378
  let v2380 : BitVec 32 := Scalar.subi v2377 v2379
  let c16_i32_1796 : BitVec 32 := 16#32
  let c0_i32_1799 : BitVec 32 := 0#32
  let v2381 : BitVec 1 := Scalar.cmpi .sgt c16_i32_1796 c0_i32_1799
  let v2382 : BitVec 32 := Scalar.extui v2381
  let c0_i32_1800 : BitVec 32 := 0#32
  let v2383 : BitVec 1 := Scalar.cmpi .slt c16_i32_1796 c0_i32_1800
  let v2384 : BitVec 32 := Scalar.extui v2383
  let v2385 : BitVec 32 := Scalar.subi v2382 v2384
  let v2386 : BitVec 1 := Scalar.cmpi .ne v2380 v2385
  let v2387 : BitVec 32 := Scalar.remsi v2374 c16_i32_1796
  let c0_i32_1801 : BitVec 32 := 0#32
  let v2388 : BitVec 1 := Scalar.cmpi .ne v2387 c0_i32_1801
  let v2389 : BitVec 1 := Scalar.andi v2386 v2388
  let v2375 : BitVec 32 := Scalar.divsi v2374 c16_i32_1796
  let c1_i32_1802 : BitVec 32 := 1#32
  let v2390 : BitVec 32 := Scalar.subi v2375 c1_i32_1802
  let v2391 : BitVec 32 := Scalar.select v2389 v2390 v2375
  let v2459 : BitVec 32 := Scalar.subi v2391 c0_i32_1835
  let c1_i32_1836 : BitVec 32 := 1#32
  let v2461 : BitVec 32 := Scalar.divsi v2459 c1_i32_1836
  let v2462 : BitVec 32 := Scalar.muli v2461 c1_i32_1836
  let v2463 : BitVec 32 := Scalar.addi c0_i32_1835 v2462
  let v2460 : BitVec 32 := Scalar.addi c0_i32_1835 v2459
  let c1_i32_1838 : BitVec 32 := 1#32
  ⟨v2463, v2460, c1_i32_1838⟩
def k0_off98 (arg25 : BitVec 32) : Fin 1 → Nat :=
  ![arg25.toNat]

def k0_off99 (v2354 : BitVec 32) (k0_t9 : Fin (k0_t9_loop v2354).trips) (arg25 : BitVec 32) : (Fin 4 → Nat) × (Fin 4 → Nat) :=
  let c0_i32_1844 : BitVec 32 := 0#32
  let c0_i32_1845 : BitVec 32 := 0#32
  let c0_i32_1846 : BitVec 32 := 0#32
  let c63_i32 : BitVec 32 := 63#32
  let v2355 : BitVec 32 := Scalar.addi v2354 c63_i32
  let c0_i32_1789 : BitVec 32 := 0#32
  let v2357 : BitVec 1 := Scalar.cmpi .sgt v2355 c0_i32_1789
  let v2358 : BitVec 32 := Scalar.extui v2357
  let c0_i32_1790 : BitVec 32 := 0#32
  let v2359 : BitVec 1 := Scalar.cmpi .slt v2355 c0_i32_1790
  let v2360 : BitVec 32 := Scalar.extui v2359
  let v2361 : BitVec 32 := Scalar.subi v2358 v2360
  let c64_i32_1788 : BitVec 32 := 64#32
  let c0_i32_1791 : BitVec 32 := 0#32
  let v2362 : BitVec 1 := Scalar.cmpi .sgt c64_i32_1788 c0_i32_1791
  let v2363 : BitVec 32 := Scalar.extui v2362
  let c0_i32_1792 : BitVec 32 := 0#32
  let v2364 : BitVec 1 := Scalar.cmpi .slt c64_i32_1788 c0_i32_1792
  let v2365 : BitVec 32 := Scalar.extui v2364
  let v2366 : BitVec 32 := Scalar.subi v2363 v2365
  let v2367 : BitVec 1 := Scalar.cmpi .ne v2361 v2366
  let v2368 : BitVec 32 := Scalar.remsi v2355 c64_i32_1788
  let c0_i32_1793 : BitVec 32 := 0#32
  let v2369 : BitVec 1 := Scalar.cmpi .ne v2368 c0_i32_1793
  let v2370 : BitVec 1 := Scalar.andi v2367 v2369
  let v2356 : BitVec 32 := Scalar.divsi v2355 c64_i32_1788
  let c1_i32_1794 : BitVec 32 := 1#32
  let v2371 : BitVec 32 := Scalar.subi v2356 c1_i32_1794
  let v2372 : BitVec 32 := Scalar.select v2370 v2371 v2356
  let c0_i32_1835 : BitVec 32 := 0#32
  let c16_i32 : BitVec 32 := 16#32
  let v2373 : BitVec 32 := Scalar.addi v2372 c16_i32
  let c1_i32_1795 : BitVec 32 := 1#32
  let v2374 : BitVec 32 := Scalar.subi v2373 c1_i32_1795
  let c0_i32_1797 : BitVec 32 := 0#32
  let v2376 : BitVec 1 := Scalar.cmpi .sgt v2374 c0_i32_1797
  let v2377 : BitVec 32 := Scalar.extui v2376
  let c0_i32_1798 : BitVec 32 := 0#32
  let v2378 : BitVec 1 := Scalar.cmpi .slt v2374 c0_i32_1798
  let v2379 : BitVec 32 := Scalar.extui v2378
  let v2380 : BitVec 32 := Scalar.subi v2377 v2379
  let c16_i32_1796 : BitVec 32 := 16#32
  let c0_i32_1799 : BitVec 32 := 0#32
  let v2381 : BitVec 1 := Scalar.cmpi .sgt c16_i32_1796 c0_i32_1799
  let v2382 : BitVec 32 := Scalar.extui v2381
  let c0_i32_1800 : BitVec 32 := 0#32
  let v2383 : BitVec 1 := Scalar.cmpi .slt c16_i32_1796 c0_i32_1800
  let v2384 : BitVec 32 := Scalar.extui v2383
  let v2385 : BitVec 32 := Scalar.subi v2382 v2384
  let v2386 : BitVec 1 := Scalar.cmpi .ne v2380 v2385
  let v2387 : BitVec 32 := Scalar.remsi v2374 c16_i32_1796
  let c0_i32_1801 : BitVec 32 := 0#32
  let v2388 : BitVec 1 := Scalar.cmpi .ne v2387 c0_i32_1801
  let v2389 : BitVec 1 := Scalar.andi v2386 v2388
  let v2375 : BitVec 32 := Scalar.divsi v2374 c16_i32_1796
  let c1_i32_1802 : BitVec 32 := 1#32
  let v2390 : BitVec 32 := Scalar.subi v2375 c1_i32_1802
  let v2391 : BitVec 32 := Scalar.select v2389 v2390 v2375
  let v2459 : BitVec 32 := Scalar.subi v2391 c0_i32_1835
  let c1_i32_1836 : BitVec 32 := 1#32
  let v2461 : BitVec 32 := Scalar.divsi v2459 c1_i32_1836
  let v2462 : BitVec 32 := Scalar.muli v2461 c1_i32_1836
  let v2463 : BitVec 32 := Scalar.addi c0_i32_1835 v2462
  let c1_i32_1838 : BitVec 32 := 1#32
  let arg20 : BitVec 32 := Scf.iv v2463 c1_i32_1838 k0_t9
  let c16_i32_1841 : BitVec 32 := 16#32
  let v2475 : BitVec 32 := Scalar.muli arg20 c16_i32_1841
  let v2476 : BitVec 32 := Scalar.subi v2372 v2475
  let c16_i32_1842 : BitVec 32 := 16#32
  let v2477 : BitVec 32 := Scalar.minsi v2476 c16_i32_1842
  ⟨![arg25.toNat, 0, 0, 0], ![1, v2477.toNat, 256, 128]⟩

def k0_sz23 (v2354 : BitVec 32) (k0_t9 : Fin (k0_t9_loop v2354).trips) : Fin 3 → Nat :=
  let c63_i32 : BitVec 32 := 63#32
  let v2355 : BitVec 32 := Scalar.addi v2354 c63_i32
  let c0_i32_1789 : BitVec 32 := 0#32
  let v2357 : BitVec 1 := Scalar.cmpi .sgt v2355 c0_i32_1789
  let v2358 : BitVec 32 := Scalar.extui v2357
  let c0_i32_1790 : BitVec 32 := 0#32
  let v2359 : BitVec 1 := Scalar.cmpi .slt v2355 c0_i32_1790
  let v2360 : BitVec 32 := Scalar.extui v2359
  let v2361 : BitVec 32 := Scalar.subi v2358 v2360
  let c64_i32_1788 : BitVec 32 := 64#32
  let c0_i32_1791 : BitVec 32 := 0#32
  let v2362 : BitVec 1 := Scalar.cmpi .sgt c64_i32_1788 c0_i32_1791
  let v2363 : BitVec 32 := Scalar.extui v2362
  let c0_i32_1792 : BitVec 32 := 0#32
  let v2364 : BitVec 1 := Scalar.cmpi .slt c64_i32_1788 c0_i32_1792
  let v2365 : BitVec 32 := Scalar.extui v2364
  let v2366 : BitVec 32 := Scalar.subi v2363 v2365
  let v2367 : BitVec 1 := Scalar.cmpi .ne v2361 v2366
  let v2368 : BitVec 32 := Scalar.remsi v2355 c64_i32_1788
  let c0_i32_1793 : BitVec 32 := 0#32
  let v2369 : BitVec 1 := Scalar.cmpi .ne v2368 c0_i32_1793
  let v2370 : BitVec 1 := Scalar.andi v2367 v2369
  let v2356 : BitVec 32 := Scalar.divsi v2355 c64_i32_1788
  let c1_i32_1794 : BitVec 32 := 1#32
  let v2371 : BitVec 32 := Scalar.subi v2356 c1_i32_1794
  let v2372 : BitVec 32 := Scalar.select v2370 v2371 v2356
  let c0_i32_1835 : BitVec 32 := 0#32
  let c16_i32 : BitVec 32 := 16#32
  let v2373 : BitVec 32 := Scalar.addi v2372 c16_i32
  let c1_i32_1795 : BitVec 32 := 1#32
  let v2374 : BitVec 32 := Scalar.subi v2373 c1_i32_1795
  let c0_i32_1797 : BitVec 32 := 0#32
  let v2376 : BitVec 1 := Scalar.cmpi .sgt v2374 c0_i32_1797
  let v2377 : BitVec 32 := Scalar.extui v2376
  let c0_i32_1798 : BitVec 32 := 0#32
  let v2378 : BitVec 1 := Scalar.cmpi .slt v2374 c0_i32_1798
  let v2379 : BitVec 32 := Scalar.extui v2378
  let v2380 : BitVec 32 := Scalar.subi v2377 v2379
  let c16_i32_1796 : BitVec 32 := 16#32
  let c0_i32_1799 : BitVec 32 := 0#32
  let v2381 : BitVec 1 := Scalar.cmpi .sgt c16_i32_1796 c0_i32_1799
  let v2382 : BitVec 32 := Scalar.extui v2381
  let c0_i32_1800 : BitVec 32 := 0#32
  let v2383 : BitVec 1 := Scalar.cmpi .slt c16_i32_1796 c0_i32_1800
  let v2384 : BitVec 32 := Scalar.extui v2383
  let v2385 : BitVec 32 := Scalar.subi v2382 v2384
  let v2386 : BitVec 1 := Scalar.cmpi .ne v2380 v2385
  let v2387 : BitVec 32 := Scalar.remsi v2374 c16_i32_1796
  let c0_i32_1801 : BitVec 32 := 0#32
  let v2388 : BitVec 1 := Scalar.cmpi .ne v2387 c0_i32_1801
  let v2389 : BitVec 1 := Scalar.andi v2386 v2388
  let v2375 : BitVec 32 := Scalar.divsi v2374 c16_i32_1796
  let c1_i32_1802 : BitVec 32 := 1#32
  let v2390 : BitVec 32 := Scalar.subi v2375 c1_i32_1802
  let v2391 : BitVec 32 := Scalar.select v2389 v2390 v2375
  let v2459 : BitVec 32 := Scalar.subi v2391 c0_i32_1835
  let c1_i32_1836 : BitVec 32 := 1#32
  let v2461 : BitVec 32 := Scalar.divsi v2459 c1_i32_1836
  let v2462 : BitVec 32 := Scalar.muli v2461 c1_i32_1836
  let v2463 : BitVec 32 := Scalar.addi c0_i32_1835 v2462
  let c1_i32_1838 : BitVec 32 := 1#32
  let arg20 : BitVec 32 := Scf.iv v2463 c1_i32_1838 k0_t9
  let c16_i32_1841 : BitVec 32 := 16#32
  let v2475 : BitVec 32 := Scalar.muli arg20 c16_i32_1841
  let v2476 : BitVec 32 := Scalar.subi v2372 v2475
  let c16_i32_1842 : BitVec 32 := 16#32
  let v2477 : BitVec 32 := Scalar.minsi v2476 c16_i32_1842
  ![v2477.toNat, 256, 128]
def k0_off100 (k0_t3 : Fin k0_t3_loop.trips) (v2354 : BitVec 32) (k0_t9 : Fin (k0_t9_loop v2354).trips) : (Fin 4 → Nat) × (Fin 4 → Nat) :=
  let c0_i32_761 : BitVec 32 := 0#32
  let c1_i32_762 : BitVec 32 := 1#32
  let arg14 : BitVec 32 := Scf.iv c0_i32_761 c1_i32_762 k0_t3
  let c0_i32_1835 : BitVec 32 := 0#32
  let c63_i32 : BitVec 32 := 63#32
  let v2355 : BitVec 32 := Scalar.addi v2354 c63_i32
  let c0_i32_1789 : BitVec 32 := 0#32
  let v2357 : BitVec 1 := Scalar.cmpi .sgt v2355 c0_i32_1789
  let v2358 : BitVec 32 := Scalar.extui v2357
  let c0_i32_1790 : BitVec 32 := 0#32
  let v2359 : BitVec 1 := Scalar.cmpi .slt v2355 c0_i32_1790
  let v2360 : BitVec 32 := Scalar.extui v2359
  let v2361 : BitVec 32 := Scalar.subi v2358 v2360
  let c64_i32_1788 : BitVec 32 := 64#32
  let c0_i32_1791 : BitVec 32 := 0#32
  let v2362 : BitVec 1 := Scalar.cmpi .sgt c64_i32_1788 c0_i32_1791
  let v2363 : BitVec 32 := Scalar.extui v2362
  let c0_i32_1792 : BitVec 32 := 0#32
  let v2364 : BitVec 1 := Scalar.cmpi .slt c64_i32_1788 c0_i32_1792
  let v2365 : BitVec 32 := Scalar.extui v2364
  let v2366 : BitVec 32 := Scalar.subi v2363 v2365
  let v2367 : BitVec 1 := Scalar.cmpi .ne v2361 v2366
  let v2368 : BitVec 32 := Scalar.remsi v2355 c64_i32_1788
  let c0_i32_1793 : BitVec 32 := 0#32
  let v2369 : BitVec 1 := Scalar.cmpi .ne v2368 c0_i32_1793
  let v2370 : BitVec 1 := Scalar.andi v2367 v2369
  let v2356 : BitVec 32 := Scalar.divsi v2355 c64_i32_1788
  let c1_i32_1794 : BitVec 32 := 1#32
  let v2371 : BitVec 32 := Scalar.subi v2356 c1_i32_1794
  let v2372 : BitVec 32 := Scalar.select v2370 v2371 v2356
  let c16_i32 : BitVec 32 := 16#32
  let v2373 : BitVec 32 := Scalar.addi v2372 c16_i32
  let c1_i32_1795 : BitVec 32 := 1#32
  let v2374 : BitVec 32 := Scalar.subi v2373 c1_i32_1795
  let c0_i32_1797 : BitVec 32 := 0#32
  let v2376 : BitVec 1 := Scalar.cmpi .sgt v2374 c0_i32_1797
  let v2377 : BitVec 32 := Scalar.extui v2376
  let c0_i32_1798 : BitVec 32 := 0#32
  let v2378 : BitVec 1 := Scalar.cmpi .slt v2374 c0_i32_1798
  let v2379 : BitVec 32 := Scalar.extui v2378
  let v2380 : BitVec 32 := Scalar.subi v2377 v2379
  let c16_i32_1796 : BitVec 32 := 16#32
  let c0_i32_1799 : BitVec 32 := 0#32
  let v2381 : BitVec 1 := Scalar.cmpi .sgt c16_i32_1796 c0_i32_1799
  let v2382 : BitVec 32 := Scalar.extui v2381
  let c0_i32_1800 : BitVec 32 := 0#32
  let v2383 : BitVec 1 := Scalar.cmpi .slt c16_i32_1796 c0_i32_1800
  let v2384 : BitVec 32 := Scalar.extui v2383
  let v2385 : BitVec 32 := Scalar.subi v2382 v2384
  let v2386 : BitVec 1 := Scalar.cmpi .ne v2380 v2385
  let v2387 : BitVec 32 := Scalar.remsi v2374 c16_i32_1796
  let c0_i32_1801 : BitVec 32 := 0#32
  let v2388 : BitVec 1 := Scalar.cmpi .ne v2387 c0_i32_1801
  let v2389 : BitVec 1 := Scalar.andi v2386 v2388
  let v2375 : BitVec 32 := Scalar.divsi v2374 c16_i32_1796
  let c1_i32_1802 : BitVec 32 := 1#32
  let v2390 : BitVec 32 := Scalar.subi v2375 c1_i32_1802
  let v2391 : BitVec 32 := Scalar.select v2389 v2390 v2375
  let v2459 : BitVec 32 := Scalar.subi v2391 c0_i32_1835
  let c1_i32_1836 : BitVec 32 := 1#32
  let v2461 : BitVec 32 := Scalar.divsi v2459 c1_i32_1836
  let v2462 : BitVec 32 := Scalar.muli v2461 c1_i32_1836
  let v2463 : BitVec 32 := Scalar.addi c0_i32_1835 v2462
  let c1_i32_1838 : BitVec 32 := 1#32
  let arg20 : BitVec 32 := Scf.iv v2463 c1_i32_1838 k0_t9
  let c16_i32_1843 : BitVec 32 := 16#32
  let v2478 : BitVec 32 := Scalar.muli arg20 c16_i32_1843
  let c0_i32_1847 : BitVec 32 := 0#32
  let c0_i32_1848 : BitVec 32 := 0#32
  let c16_i32_1841 : BitVec 32 := 16#32
  let v2475 : BitVec 32 := Scalar.muli arg20 c16_i32_1841
  let v2476 : BitVec 32 := Scalar.subi v2372 v2475
  let c16_i32_1842 : BitVec 32 := 16#32
  let v2477 : BitVec 32 := Scalar.minsi v2476 c16_i32_1842
  ⟨![arg14.toNat, v2478.toNat, 0, 0], ![1, v2477.toNat, 256, 128]⟩

def k0_sz24 (v2354 : BitVec 32) (k0_t9 : Fin (k0_t9_loop v2354).trips) : Fin 3 → Nat :=
  let c63_i32 : BitVec 32 := 63#32
  let v2355 : BitVec 32 := Scalar.addi v2354 c63_i32
  let c0_i32_1789 : BitVec 32 := 0#32
  let v2357 : BitVec 1 := Scalar.cmpi .sgt v2355 c0_i32_1789
  let v2358 : BitVec 32 := Scalar.extui v2357
  let c0_i32_1790 : BitVec 32 := 0#32
  let v2359 : BitVec 1 := Scalar.cmpi .slt v2355 c0_i32_1790
  let v2360 : BitVec 32 := Scalar.extui v2359
  let v2361 : BitVec 32 := Scalar.subi v2358 v2360
  let c64_i32_1788 : BitVec 32 := 64#32
  let c0_i32_1791 : BitVec 32 := 0#32
  let v2362 : BitVec 1 := Scalar.cmpi .sgt c64_i32_1788 c0_i32_1791
  let v2363 : BitVec 32 := Scalar.extui v2362
  let c0_i32_1792 : BitVec 32 := 0#32
  let v2364 : BitVec 1 := Scalar.cmpi .slt c64_i32_1788 c0_i32_1792
  let v2365 : BitVec 32 := Scalar.extui v2364
  let v2366 : BitVec 32 := Scalar.subi v2363 v2365
  let v2367 : BitVec 1 := Scalar.cmpi .ne v2361 v2366
  let v2368 : BitVec 32 := Scalar.remsi v2355 c64_i32_1788
  let c0_i32_1793 : BitVec 32 := 0#32
  let v2369 : BitVec 1 := Scalar.cmpi .ne v2368 c0_i32_1793
  let v2370 : BitVec 1 := Scalar.andi v2367 v2369
  let v2356 : BitVec 32 := Scalar.divsi v2355 c64_i32_1788
  let c1_i32_1794 : BitVec 32 := 1#32
  let v2371 : BitVec 32 := Scalar.subi v2356 c1_i32_1794
  let v2372 : BitVec 32 := Scalar.select v2370 v2371 v2356
  let c0_i32_1835 : BitVec 32 := 0#32
  let c16_i32 : BitVec 32 := 16#32
  let v2373 : BitVec 32 := Scalar.addi v2372 c16_i32
  let c1_i32_1795 : BitVec 32 := 1#32
  let v2374 : BitVec 32 := Scalar.subi v2373 c1_i32_1795
  let c0_i32_1797 : BitVec 32 := 0#32
  let v2376 : BitVec 1 := Scalar.cmpi .sgt v2374 c0_i32_1797
  let v2377 : BitVec 32 := Scalar.extui v2376
  let c0_i32_1798 : BitVec 32 := 0#32
  let v2378 : BitVec 1 := Scalar.cmpi .slt v2374 c0_i32_1798
  let v2379 : BitVec 32 := Scalar.extui v2378
  let v2380 : BitVec 32 := Scalar.subi v2377 v2379
  let c16_i32_1796 : BitVec 32 := 16#32
  let c0_i32_1799 : BitVec 32 := 0#32
  let v2381 : BitVec 1 := Scalar.cmpi .sgt c16_i32_1796 c0_i32_1799
  let v2382 : BitVec 32 := Scalar.extui v2381
  let c0_i32_1800 : BitVec 32 := 0#32
  let v2383 : BitVec 1 := Scalar.cmpi .slt c16_i32_1796 c0_i32_1800
  let v2384 : BitVec 32 := Scalar.extui v2383
  let v2385 : BitVec 32 := Scalar.subi v2382 v2384
  let v2386 : BitVec 1 := Scalar.cmpi .ne v2380 v2385
  let v2387 : BitVec 32 := Scalar.remsi v2374 c16_i32_1796
  let c0_i32_1801 : BitVec 32 := 0#32
  let v2388 : BitVec 1 := Scalar.cmpi .ne v2387 c0_i32_1801
  let v2389 : BitVec 1 := Scalar.andi v2386 v2388
  let v2375 : BitVec 32 := Scalar.divsi v2374 c16_i32_1796
  let c1_i32_1802 : BitVec 32 := 1#32
  let v2390 : BitVec 32 := Scalar.subi v2375 c1_i32_1802
  let v2391 : BitVec 32 := Scalar.select v2389 v2390 v2375
  let v2459 : BitVec 32 := Scalar.subi v2391 c0_i32_1835
  let c1_i32_1836 : BitVec 32 := 1#32
  let v2461 : BitVec 32 := Scalar.divsi v2459 c1_i32_1836
  let v2462 : BitVec 32 := Scalar.muli v2461 c1_i32_1836
  let v2463 : BitVec 32 := Scalar.addi c0_i32_1835 v2462
  let c1_i32_1838 : BitVec 32 := 1#32
  let arg20 : BitVec 32 := Scf.iv v2463 c1_i32_1838 k0_t9
  let c16_i32_1841 : BitVec 32 := 16#32
  let v2475 : BitVec 32 := Scalar.muli arg20 c16_i32_1841
  let v2476 : BitVec 32 := Scalar.subi v2372 v2475
  let c16_i32_1842 : BitVec 32 := 16#32
  let v2477 : BitVec 32 := Scalar.minsi v2476 c16_i32_1842
  ![v2477.toNat, 256, 128]
def k0_off101 (arg25 : BitVec 32) : Fin 4 → Nat :=
  let v2485 : Index := Scalar.indexCast arg25
  let c0_1849 : Index := 0#32
  let c0_1850 : Index := 0#32
  let c0_1851 : Index := 0#32
  ![v2485.toNat, 0, 0, 0]
def k0_off102 (arg25 : BitVec 32) : Fin 4 → Nat :=
  let v2488 : Index := Scalar.indexCast arg25
  let c1_1852 : Index := 1#32
  let c0_1853 : Index := 0#32
  let c0_1854 : Index := 0#32
  ![v2488.toNat, 1, 0, 0]
def k0_off103 (v2354 : BitVec 32) (k0_t9 : Fin (k0_t9_loop v2354).trips) (c0_i32_1856 : BitVec 32) (c0_i32_1857 : BitVec 32) : Fin 2 → Nat :=
  let c0_i32_1835 : BitVec 32 := 0#32
  let c63_i32 : BitVec 32 := 63#32
  let v2355 : BitVec 32 := Scalar.addi v2354 c63_i32
  let c0_i32_1789 : BitVec 32 := 0#32
  let v2357 : BitVec 1 := Scalar.cmpi .sgt v2355 c0_i32_1789
  let v2358 : BitVec 32 := Scalar.extui v2357
  let c0_i32_1790 : BitVec 32 := 0#32
  let v2359 : BitVec 1 := Scalar.cmpi .slt v2355 c0_i32_1790
  let v2360 : BitVec 32 := Scalar.extui v2359
  let v2361 : BitVec 32 := Scalar.subi v2358 v2360
  let c64_i32_1788 : BitVec 32 := 64#32
  let c0_i32_1791 : BitVec 32 := 0#32
  let v2362 : BitVec 1 := Scalar.cmpi .sgt c64_i32_1788 c0_i32_1791
  let v2363 : BitVec 32 := Scalar.extui v2362
  let c0_i32_1792 : BitVec 32 := 0#32
  let v2364 : BitVec 1 := Scalar.cmpi .slt c64_i32_1788 c0_i32_1792
  let v2365 : BitVec 32 := Scalar.extui v2364
  let v2366 : BitVec 32 := Scalar.subi v2363 v2365
  let v2367 : BitVec 1 := Scalar.cmpi .ne v2361 v2366
  let v2368 : BitVec 32 := Scalar.remsi v2355 c64_i32_1788
  let c0_i32_1793 : BitVec 32 := 0#32
  let v2369 : BitVec 1 := Scalar.cmpi .ne v2368 c0_i32_1793
  let v2370 : BitVec 1 := Scalar.andi v2367 v2369
  let v2356 : BitVec 32 := Scalar.divsi v2355 c64_i32_1788
  let c1_i32_1794 : BitVec 32 := 1#32
  let v2371 : BitVec 32 := Scalar.subi v2356 c1_i32_1794
  let v2372 : BitVec 32 := Scalar.select v2370 v2371 v2356
  let c16_i32 : BitVec 32 := 16#32
  let v2373 : BitVec 32 := Scalar.addi v2372 c16_i32
  let c1_i32_1795 : BitVec 32 := 1#32
  let v2374 : BitVec 32 := Scalar.subi v2373 c1_i32_1795
  let c0_i32_1797 : BitVec 32 := 0#32
  let v2376 : BitVec 1 := Scalar.cmpi .sgt v2374 c0_i32_1797
  let v2377 : BitVec 32 := Scalar.extui v2376
  let c0_i32_1798 : BitVec 32 := 0#32
  let v2378 : BitVec 1 := Scalar.cmpi .slt v2374 c0_i32_1798
  let v2379 : BitVec 32 := Scalar.extui v2378
  let v2380 : BitVec 32 := Scalar.subi v2377 v2379
  let c16_i32_1796 : BitVec 32 := 16#32
  let c0_i32_1799 : BitVec 32 := 0#32
  let v2381 : BitVec 1 := Scalar.cmpi .sgt c16_i32_1796 c0_i32_1799
  let v2382 : BitVec 32 := Scalar.extui v2381
  let c0_i32_1800 : BitVec 32 := 0#32
  let v2383 : BitVec 1 := Scalar.cmpi .slt c16_i32_1796 c0_i32_1800
  let v2384 : BitVec 32 := Scalar.extui v2383
  let v2385 : BitVec 32 := Scalar.subi v2382 v2384
  let v2386 : BitVec 1 := Scalar.cmpi .ne v2380 v2385
  let v2387 : BitVec 32 := Scalar.remsi v2374 c16_i32_1796
  let c0_i32_1801 : BitVec 32 := 0#32
  let v2388 : BitVec 1 := Scalar.cmpi .ne v2387 c0_i32_1801
  let v2389 : BitVec 1 := Scalar.andi v2386 v2388
  let v2375 : BitVec 32 := Scalar.divsi v2374 c16_i32_1796
  let c1_i32_1802 : BitVec 32 := 1#32
  let v2390 : BitVec 32 := Scalar.subi v2375 c1_i32_1802
  let v2391 : BitVec 32 := Scalar.select v2389 v2390 v2375
  let v2459 : BitVec 32 := Scalar.subi v2391 c0_i32_1835
  let c1_i32_1836 : BitVec 32 := 1#32
  let v2461 : BitVec 32 := Scalar.divsi v2459 c1_i32_1836
  let v2462 : BitVec 32 := Scalar.muli v2461 c1_i32_1836
  let v2463 : BitVec 32 := Scalar.addi c0_i32_1835 v2462
  let c1_i32_1838 : BitVec 32 := 1#32
  let arg20 : BitVec 32 := Scf.iv v2463 c1_i32_1838 k0_t9
  let c16_i32_1855 : BitVec 32 := 16#32
  let v2492 : BitVec 32 := Scalar.muli arg20 c16_i32_1855
  let v2493 : BitVec 32 := Scalar.addi v2492 c0_i32_1856
  let v2494 : BitVec 32 := Scalar.addi v2493 c0_i32_1857
  let v2495 : Index := Scalar.indexCast v2494
  let c0_1858 : Index := 0#32
  ![v2495.toNat, 0]
def k0_off104 (v2354 : BitVec 32) (k0_t9 : Fin (k0_t9_loop v2354).trips) (c0_i32_1856 : BitVec 32) (c0_i32_1857 : BitVec 32) (c0_i32_1859 : BitVec 32) : Fin 3 → Nat :=
  let c0_i32_1835 : BitVec 32 := 0#32
  let c63_i32 : BitVec 32 := 63#32
  let v2355 : BitVec 32 := Scalar.addi v2354 c63_i32
  let c0_i32_1789 : BitVec 32 := 0#32
  let v2357 : BitVec 1 := Scalar.cmpi .sgt v2355 c0_i32_1789
  let v2358 : BitVec 32 := Scalar.extui v2357
  let c0_i32_1790 : BitVec 32 := 0#32
  let v2359 : BitVec 1 := Scalar.cmpi .slt v2355 c0_i32_1790
  let v2360 : BitVec 32 := Scalar.extui v2359
  let v2361 : BitVec 32 := Scalar.subi v2358 v2360
  let c64_i32_1788 : BitVec 32 := 64#32
  let c0_i32_1791 : BitVec 32 := 0#32
  let v2362 : BitVec 1 := Scalar.cmpi .sgt c64_i32_1788 c0_i32_1791
  let v2363 : BitVec 32 := Scalar.extui v2362
  let c0_i32_1792 : BitVec 32 := 0#32
  let v2364 : BitVec 1 := Scalar.cmpi .slt c64_i32_1788 c0_i32_1792
  let v2365 : BitVec 32 := Scalar.extui v2364
  let v2366 : BitVec 32 := Scalar.subi v2363 v2365
  let v2367 : BitVec 1 := Scalar.cmpi .ne v2361 v2366
  let v2368 : BitVec 32 := Scalar.remsi v2355 c64_i32_1788
  let c0_i32_1793 : BitVec 32 := 0#32
  let v2369 : BitVec 1 := Scalar.cmpi .ne v2368 c0_i32_1793
  let v2370 : BitVec 1 := Scalar.andi v2367 v2369
  let v2356 : BitVec 32 := Scalar.divsi v2355 c64_i32_1788
  let c1_i32_1794 : BitVec 32 := 1#32
  let v2371 : BitVec 32 := Scalar.subi v2356 c1_i32_1794
  let v2372 : BitVec 32 := Scalar.select v2370 v2371 v2356
  let c16_i32 : BitVec 32 := 16#32
  let v2373 : BitVec 32 := Scalar.addi v2372 c16_i32
  let c1_i32_1795 : BitVec 32 := 1#32
  let v2374 : BitVec 32 := Scalar.subi v2373 c1_i32_1795
  let c0_i32_1797 : BitVec 32 := 0#32
  let v2376 : BitVec 1 := Scalar.cmpi .sgt v2374 c0_i32_1797
  let v2377 : BitVec 32 := Scalar.extui v2376
  let c0_i32_1798 : BitVec 32 := 0#32
  let v2378 : BitVec 1 := Scalar.cmpi .slt v2374 c0_i32_1798
  let v2379 : BitVec 32 := Scalar.extui v2378
  let v2380 : BitVec 32 := Scalar.subi v2377 v2379
  let c16_i32_1796 : BitVec 32 := 16#32
  let c0_i32_1799 : BitVec 32 := 0#32
  let v2381 : BitVec 1 := Scalar.cmpi .sgt c16_i32_1796 c0_i32_1799
  let v2382 : BitVec 32 := Scalar.extui v2381
  let c0_i32_1800 : BitVec 32 := 0#32
  let v2383 : BitVec 1 := Scalar.cmpi .slt c16_i32_1796 c0_i32_1800
  let v2384 : BitVec 32 := Scalar.extui v2383
  let v2385 : BitVec 32 := Scalar.subi v2382 v2384
  let v2386 : BitVec 1 := Scalar.cmpi .ne v2380 v2385
  let v2387 : BitVec 32 := Scalar.remsi v2374 c16_i32_1796
  let c0_i32_1801 : BitVec 32 := 0#32
  let v2388 : BitVec 1 := Scalar.cmpi .ne v2387 c0_i32_1801
  let v2389 : BitVec 1 := Scalar.andi v2386 v2388
  let v2375 : BitVec 32 := Scalar.divsi v2374 c16_i32_1796
  let c1_i32_1802 : BitVec 32 := 1#32
  let v2390 : BitVec 32 := Scalar.subi v2375 c1_i32_1802
  let v2391 : BitVec 32 := Scalar.select v2389 v2390 v2375
  let v2459 : BitVec 32 := Scalar.subi v2391 c0_i32_1835
  let c1_i32_1836 : BitVec 32 := 1#32
  let v2461 : BitVec 32 := Scalar.divsi v2459 c1_i32_1836
  let v2462 : BitVec 32 := Scalar.muli v2461 c1_i32_1836
  let v2463 : BitVec 32 := Scalar.addi c0_i32_1835 v2462
  let c1_i32_1838 : BitVec 32 := 1#32
  let arg20 : BitVec 32 := Scf.iv v2463 c1_i32_1838 k0_t9
  let c16_i32_1855 : BitVec 32 := 16#32
  let v2492 : BitVec 32 := Scalar.muli arg20 c16_i32_1855
  let v2493 : BitVec 32 := Scalar.addi v2492 c0_i32_1856
  let v2494 : BitVec 32 := Scalar.addi v2493 c0_i32_1857
  let c2_i32 : BitVec 32 := 2#32
  let v2497 : BitVec 32 := Scalar.muli v2494 c2_i32
  let v2498 : BitVec 32 := Scalar.addi v2497 c0_i32_1859
  let v2499 : Index := Scalar.indexCast v2498
  let c0_1860 : Index := 0#32
  let c0_1861 : Index := 0#32
  ![v2499.toNat, 0, 0]

def k0_chk4 (k0_t3 : Fin k0_t3_loop.trips) (v2354 : BitVec 32) : Prop :=
  ((k0_t4_loop v2354).OK) ∧
  (∀ k0_t4 : Fin (k0_t4_loop v2354).trips, (⟨4, (k0_off14 k0_t3 v2354 k0_t4).2⟩ : Shape).Squeezes ⟨3, k0_sz6 v2354 k0_t4⟩) ∧
  (∀ k0_t4 : Fin (k0_t4_loop v2354).trips, ∀ (r₁ : Fin 8) (r₂ : Fin 2), ∀ a, (k0_off17 v2354 k0_t4 (BitVec.ofNat 32 (2 * r₁.val)) (BitVec.ofNat 32 r₂.val)) a + S1x128.size a ≤ S128x128.size a) ∧
  (∀ k0_t4 : Fin (k0_t4_loop v2354).trips, ∀ (r₁ : Fin 8) (r₂ : Fin 2) (r₃ : Fin 2), ∀ a, (k0_off18 v2354 k0_t4 (BitVec.ofNat 32 (2 * r₁.val)) (BitVec.ofNat 32 r₂.val) (BitVec.ofNat 32 r₃.val)) a + S1x8x128.size a ≤ S256x8x128.size a) ∧
  ((k0_t5_loop v2354).OK) ∧
  (∀ k0_t5 : Fin (k0_t5_loop v2354).trips, (⟨4, (k0_off42 k0_t3 v2354 k0_t5).2⟩ : Shape).Squeezes ⟨3, k0_sz12 v2354 k0_t5⟩) ∧
  (∀ k0_t5 : Fin (k0_t5_loop v2354).trips, ∀ (r₁ : Fin 8) (r₂ : Fin 2), ∀ a, (k0_off45 v2354 k0_t5 (BitVec.ofNat 32 (2 * r₁.val)) (BitVec.ofNat 32 r₂.val)) a + S1x128.size a ≤ S128x128.size a) ∧
  (∀ k0_t5 : Fin (k0_t5_loop v2354).trips, ∀ (r₁ : Fin 8) (r₂ : Fin 2) (r₃ : Fin 2), ∀ a, (k0_off46 v2354 k0_t5 (BitVec.ofNat 32 (2 * r₁.val)) (BitVec.ofNat 32 r₂.val) (BitVec.ofNat 32 r₃.val)) a + S1x8x128.size a ≤ S256x8x128.size a) ∧
  ((k0_t6_loop v2354).OK) ∧
  (∀ k0_t6 : Fin (k0_t6_loop v2354).trips, ∀ (r : Fin 8), ∀ a, (k0_off68 v2354 k0_t6 (BitVec.ofNat 32 r.val)) a + S1x8x128.size a ≤ S256x8x128.size a) ∧
  ((k0_t7_loop v2354).OK) ∧
  (∀ k0_t7 : Fin (k0_t7_loop v2354).trips, ∀ (r : Fin 8), ∀ a, (k0_off69 v2354 k0_t7 (BitVec.ofNat 32 r.val)) a + S1x8x128.size a ≤ S256x8x128.size a) ∧
  ((k0_t8_loop v2354).OK) ∧
  (∀ k0_t8 : Fin (k0_t8_loop v2354).trips, (⟨4, (k0_off72 k0_t3 v2354 k0_t8).2⟩ : Shape).Squeezes ⟨3, k0_sz18 v2354 k0_t8⟩) ∧
  (∀ k0_t8 : Fin (k0_t8_loop v2354).trips, ∀ (r₁ : Fin 8) (r₂ : Fin 2), ∀ a, (k0_off75 v2354 k0_t8 (BitVec.ofNat 32 (2 * r₁.val)) (BitVec.ofNat 32 r₂.val)) a + S1x128.size a ≤ S128x128.size a) ∧
  (∀ k0_t8 : Fin (k0_t8_loop v2354).trips, ∀ (r₁ : Fin 8) (r₂ : Fin 2) (r₃ : Fin 2), ∀ a, (k0_off76 v2354 k0_t8 (BitVec.ofNat 32 (2 * r₁.val)) (BitVec.ofNat 32 r₂.val) (BitVec.ofNat 32 r₃.val)) a + S1x8x128.size a ≤ S256x8x128.size a) ∧
  ((k0_t9_loop v2354).OK) ∧
  (∀ k0_t9 : Fin (k0_t9_loop v2354).trips, (⟨4, (k0_off100 k0_t3 v2354 k0_t9).2⟩ : Shape).Squeezes ⟨3, k0_sz24 v2354 k0_t9⟩) ∧
  (∀ k0_t9 : Fin (k0_t9_loop v2354).trips, ∀ (r₁ : Fin 8) (r₂ : Fin 2), ∀ a, (k0_off103 v2354 k0_t9 (BitVec.ofNat 32 (2 * r₁.val)) (BitVec.ofNat 32 r₂.val)) a + S1x128.size a ≤ S128x128.size a) ∧
  (∀ k0_t9 : Fin (k0_t9_loop v2354).trips, ∀ (r₁ : Fin 8) (r₂ : Fin 2) (r₃ : Fin 2), ∀ a, (k0_off104 v2354 k0_t9 (BitVec.ofNat 32 (2 * r₁.val)) (BitVec.ofNat 32 r₂.val) (BitVec.ofNat 32 r₃.val)) a + S1x8x128.size a ≤ S256x8x128.size a)
theorem k0_t4_ok : ∀ (k0_t3 : Fin k0_t3_loop.trips) (v2354 : BitVec 32) (k0_hw4 : k0_chk4 k0_t3 v2354), (k0_t4_loop v2354).OK := fun k0_t3 v2354 k0_hw4 => k0_hw4.1
theorem k0_sz6_squeezes : ∀ (k0_t3 : Fin k0_t3_loop.trips) (v2354 : BitVec 32) (k0_hw4 : k0_chk4 k0_t3 v2354) (k0_t4 : Fin (k0_t4_loop v2354).trips), (⟨4, (k0_off14 k0_t3 v2354 k0_t4).2⟩ : Shape).Squeezes ⟨3, k0_sz6 v2354 k0_t4⟩ := fun k0_t3 v2354 k0_hw4 k0_t4 => k0_hw4.2.1 k0_t4
theorem k0_off17_inb : ∀ (k0_t3 : Fin k0_t3_loop.trips) (v2354 : BitVec 32) (k0_hw4 : k0_chk4 k0_t3 v2354) (k0_t4 : Fin (k0_t4_loop v2354).trips), ∀ (r₁ : Fin 8) (r₂ : Fin 2), ∀ a, (k0_off17 v2354 k0_t4 (BitVec.ofNat 32 (2 * r₁.val)) (BitVec.ofNat 32 r₂.val)) a + S1x128.size a ≤ S128x128.size a := fun k0_t3 v2354 k0_hw4 k0_t4 r₁ r₂ => k0_hw4.2.2.1 k0_t4 r₁ r₂
theorem k0_off18_inb : ∀ (k0_t3 : Fin k0_t3_loop.trips) (v2354 : BitVec 32) (k0_hw4 : k0_chk4 k0_t3 v2354) (k0_t4 : Fin (k0_t4_loop v2354).trips), ∀ (r₁ : Fin 8) (r₂ : Fin 2) (r₃ : Fin 2), ∀ a, (k0_off18 v2354 k0_t4 (BitVec.ofNat 32 (2 * r₁.val)) (BitVec.ofNat 32 r₂.val) (BitVec.ofNat 32 r₃.val)) a + S1x8x128.size a ≤ S256x8x128.size a := fun k0_t3 v2354 k0_hw4 k0_t4 r₁ r₂ r₃ => k0_hw4.2.2.2.1 k0_t4 r₁ r₂ r₃
theorem k0_t5_ok : ∀ (k0_t3 : Fin k0_t3_loop.trips) (v2354 : BitVec 32) (k0_hw4 : k0_chk4 k0_t3 v2354), (k0_t5_loop v2354).OK := fun k0_t3 v2354 k0_hw4 => k0_hw4.2.2.2.2.1
theorem k0_sz12_squeezes : ∀ (k0_t3 : Fin k0_t3_loop.trips) (v2354 : BitVec 32) (k0_hw4 : k0_chk4 k0_t3 v2354) (k0_t5 : Fin (k0_t5_loop v2354).trips), (⟨4, (k0_off42 k0_t3 v2354 k0_t5).2⟩ : Shape).Squeezes ⟨3, k0_sz12 v2354 k0_t5⟩ := fun k0_t3 v2354 k0_hw4 k0_t5 => k0_hw4.2.2.2.2.2.1 k0_t5
theorem k0_off45_inb : ∀ (k0_t3 : Fin k0_t3_loop.trips) (v2354 : BitVec 32) (k0_hw4 : k0_chk4 k0_t3 v2354) (k0_t5 : Fin (k0_t5_loop v2354).trips), ∀ (r₁ : Fin 8) (r₂ : Fin 2), ∀ a, (k0_off45 v2354 k0_t5 (BitVec.ofNat 32 (2 * r₁.val)) (BitVec.ofNat 32 r₂.val)) a + S1x128.size a ≤ S128x128.size a := fun k0_t3 v2354 k0_hw4 k0_t5 r₁ r₂ => k0_hw4.2.2.2.2.2.2.1 k0_t5 r₁ r₂
theorem k0_off46_inb : ∀ (k0_t3 : Fin k0_t3_loop.trips) (v2354 : BitVec 32) (k0_hw4 : k0_chk4 k0_t3 v2354) (k0_t5 : Fin (k0_t5_loop v2354).trips), ∀ (r₁ : Fin 8) (r₂ : Fin 2) (r₃ : Fin 2), ∀ a, (k0_off46 v2354 k0_t5 (BitVec.ofNat 32 (2 * r₁.val)) (BitVec.ofNat 32 r₂.val) (BitVec.ofNat 32 r₃.val)) a + S1x8x128.size a ≤ S256x8x128.size a := fun k0_t3 v2354 k0_hw4 k0_t5 r₁ r₂ r₃ => k0_hw4.2.2.2.2.2.2.2.1 k0_t5 r₁ r₂ r₃
theorem k0_t6_ok : ∀ (k0_t3 : Fin k0_t3_loop.trips) (v2354 : BitVec 32) (k0_hw4 : k0_chk4 k0_t3 v2354), (k0_t6_loop v2354).OK := fun k0_t3 v2354 k0_hw4 => k0_hw4.2.2.2.2.2.2.2.2.1
theorem k0_off68_inb : ∀ (k0_t3 : Fin k0_t3_loop.trips) (v2354 : BitVec 32) (k0_hw4 : k0_chk4 k0_t3 v2354) (k0_t6 : Fin (k0_t6_loop v2354).trips), ∀ (r : Fin 8), ∀ a, (k0_off68 v2354 k0_t6 (BitVec.ofNat 32 r.val)) a + S1x8x128.size a ≤ S256x8x128.size a := fun k0_t3 v2354 k0_hw4 k0_t6 r => k0_hw4.2.2.2.2.2.2.2.2.2.1 k0_t6 r
theorem k0_t7_ok : ∀ (k0_t3 : Fin k0_t3_loop.trips) (v2354 : BitVec 32) (k0_hw4 : k0_chk4 k0_t3 v2354), (k0_t7_loop v2354).OK := fun k0_t3 v2354 k0_hw4 => k0_hw4.2.2.2.2.2.2.2.2.2.2.1
theorem k0_off69_inb : ∀ (k0_t3 : Fin k0_t3_loop.trips) (v2354 : BitVec 32) (k0_hw4 : k0_chk4 k0_t3 v2354) (k0_t7 : Fin (k0_t7_loop v2354).trips), ∀ (r : Fin 8), ∀ a, (k0_off69 v2354 k0_t7 (BitVec.ofNat 32 r.val)) a + S1x8x128.size a ≤ S256x8x128.size a := fun k0_t3 v2354 k0_hw4 k0_t7 r => k0_hw4.2.2.2.2.2.2.2.2.2.2.2.1 k0_t7 r
theorem k0_t8_ok : ∀ (k0_t3 : Fin k0_t3_loop.trips) (v2354 : BitVec 32) (k0_hw4 : k0_chk4 k0_t3 v2354), (k0_t8_loop v2354).OK := fun k0_t3 v2354 k0_hw4 => k0_hw4.2.2.2.2.2.2.2.2.2.2.2.2.1
theorem k0_sz18_squeezes : ∀ (k0_t3 : Fin k0_t3_loop.trips) (v2354 : BitVec 32) (k0_hw4 : k0_chk4 k0_t3 v2354) (k0_t8 : Fin (k0_t8_loop v2354).trips), (⟨4, (k0_off72 k0_t3 v2354 k0_t8).2⟩ : Shape).Squeezes ⟨3, k0_sz18 v2354 k0_t8⟩ := fun k0_t3 v2354 k0_hw4 k0_t8 => k0_hw4.2.2.2.2.2.2.2.2.2.2.2.2.2.1 k0_t8
theorem k0_off75_inb : ∀ (k0_t3 : Fin k0_t3_loop.trips) (v2354 : BitVec 32) (k0_hw4 : k0_chk4 k0_t3 v2354) (k0_t8 : Fin (k0_t8_loop v2354).trips), ∀ (r₁ : Fin 8) (r₂ : Fin 2), ∀ a, (k0_off75 v2354 k0_t8 (BitVec.ofNat 32 (2 * r₁.val)) (BitVec.ofNat 32 r₂.val)) a + S1x128.size a ≤ S128x128.size a := fun k0_t3 v2354 k0_hw4 k0_t8 r₁ r₂ => k0_hw4.2.2.2.2.2.2.2.2.2.2.2.2.2.2.1 k0_t8 r₁ r₂
theorem k0_off76_inb : ∀ (k0_t3 : Fin k0_t3_loop.trips) (v2354 : BitVec 32) (k0_hw4 : k0_chk4 k0_t3 v2354) (k0_t8 : Fin (k0_t8_loop v2354).trips), ∀ (r₁ : Fin 8) (r₂ : Fin 2) (r₃ : Fin 2), ∀ a, (k0_off76 v2354 k0_t8 (BitVec.ofNat 32 (2 * r₁.val)) (BitVec.ofNat 32 r₂.val) (BitVec.ofNat 32 r₃.val)) a + S1x8x128.size a ≤ S256x8x128.size a := fun k0_t3 v2354 k0_hw4 k0_t8 r₁ r₂ r₃ => k0_hw4.2.2.2.2.2.2.2.2.2.2.2.2.2.2.2.1 k0_t8 r₁ r₂ r₃
theorem k0_t9_ok : ∀ (k0_t3 : Fin k0_t3_loop.trips) (v2354 : BitVec 32) (k0_hw4 : k0_chk4 k0_t3 v2354), (k0_t9_loop v2354).OK := fun k0_t3 v2354 k0_hw4 => k0_hw4.2.2.2.2.2.2.2.2.2.2.2.2.2.2.2.2.1
theorem k0_sz24_squeezes : ∀ (k0_t3 : Fin k0_t3_loop.trips) (v2354 : BitVec 32) (k0_hw4 : k0_chk4 k0_t3 v2354) (k0_t9 : Fin (k0_t9_loop v2354).trips), (⟨4, (k0_off100 k0_t3 v2354 k0_t9).2⟩ : Shape).Squeezes ⟨3, k0_sz24 v2354 k0_t9⟩ := fun k0_t3 v2354 k0_hw4 k0_t9 => k0_hw4.2.2.2.2.2.2.2.2.2.2.2.2.2.2.2.2.2.1 k0_t9
theorem k0_off103_inb : ∀ (k0_t3 : Fin k0_t3_loop.trips) (v2354 : BitVec 32) (k0_hw4 : k0_chk4 k0_t3 v2354) (k0_t9 : Fin (k0_t9_loop v2354).trips), ∀ (r₁ : Fin 8) (r₂ : Fin 2), ∀ a, (k0_off103 v2354 k0_t9 (BitVec.ofNat 32 (2 * r₁.val)) (BitVec.ofNat 32 r₂.val)) a + S1x128.size a ≤ S128x128.size a := fun k0_t3 v2354 k0_hw4 k0_t9 r₁ r₂ => k0_hw4.2.2.2.2.2.2.2.2.2.2.2.2.2.2.2.2.2.2.1 k0_t9 r₁ r₂
theorem k0_off104_inb : ∀ (k0_t3 : Fin k0_t3_loop.trips) (v2354 : BitVec 32) (k0_hw4 : k0_chk4 k0_t3 v2354) (k0_t9 : Fin (k0_t9_loop v2354).trips), ∀ (r₁ : Fin 8) (r₂ : Fin 2) (r₃ : Fin 2), ∀ a, (k0_off104 v2354 k0_t9 (BitVec.ofNat 32 (2 * r₁.val)) (BitVec.ofNat 32 r₂.val) (BitVec.ofNat 32 r₃.val)) a + S1x8x128.size a ≤ S256x8x128.size a := fun k0_t3 v2354 k0_hw4 k0_t9 r₁ r₂ r₃ => k0_hw4.2.2.2.2.2.2.2.2.2.2.2.2.2.2.2.2.2.2.2 k0_t9 r₁ r₂ r₃

def k0_off105 (arg25 : BitVec 32) : Fin 4 → Nat :=
  let v2608 : Index := Scalar.indexCast arg25
  let c2_1910 : Index := 2#32
  let c0_1911 : Index := 0#32
  let c0_1912 : Index := 0#32
  ![v2608.toNat, 2, 0, 0]
def k0_off106 (arg25 : BitVec 32) : Fin 4 → Nat :=
  let v2611 : Index := Scalar.indexCast arg25
  let c3_1913 : Index := 3#32
  let c0_1914 : Index := 0#32
  let c0_1915 : Index := 0#32
  ![v2611.toNat, 3, 0, 0]
def k0_off107 (arg25 : BitVec 32) : Fin 4 → Nat :=
  let v2731 : Index := Scalar.indexCast arg25
  let c4_1973 : Index := 4#32
  let c0_1974 : Index := 0#32
  let c0_1975 : Index := 0#32
  ![v2731.toNat, 4, 0, 0]
def k0_off108 (arg25 : BitVec 32) : Fin 4 → Nat :=
  let v2734 : Index := Scalar.indexCast arg25
  let c5_1976 : Index := 5#32
  let c0_1977 : Index := 0#32
  let c0_1978 : Index := 0#32
  ![v2734.toNat, 5, 0, 0]
def k0_off109 (arg25 : BitVec 32) : Fin 4 → Nat :=
  let v2854 : Index := Scalar.indexCast arg25
  let c6_2036 : Index := 6#32
  let c0_2037 : Index := 0#32
  let c0_2038 : Index := 0#32
  ![v2854.toNat, 6, 0, 0]
def k0_off110 (arg25 : BitVec 32) : Fin 4 → Nat :=
  let v2857 : Index := Scalar.indexCast arg25
  let c7_2039 : Index := 7#32
  let c0_2040 : Index := 0#32
  let c0_2041 : Index := 0#32
  ![v2857.toNat, 7, 0, 0]
def k0_off111 (arg25 : BitVec 32) : Fin 4 → Nat :=
  let v2977 : Index := Scalar.indexCast arg25
  let c8_2098 : Index := 8#32
  let c0_2099 : Index := 0#32
  let c0_2100 : Index := 0#32
  ![v2977.toNat, 8, 0, 0]
def k0_off112 (arg25 : BitVec 32) : Fin 4 → Nat :=
  let v2980 : Index := Scalar.indexCast arg25
  let c9_2101 : Index := 9#32
  let c0_2102 : Index := 0#32
  let c0_2103 : Index := 0#32
  ![v2980.toNat, 9, 0, 0]
def k0_off113 (arg25 : BitVec 32) : Fin 4 → Nat :=
  let v3100 : Index := Scalar.indexCast arg25
  let c10_2161 : Index := 10#32
  let c0_2162 : Index := 0#32
  let c0_2163 : Index := 0#32
  ![v3100.toNat, 10, 0, 0]
def k0_off114 (arg25 : BitVec 32) : Fin 4 → Nat :=
  let v3103 : Index := Scalar.indexCast arg25
  let c11_2164 : Index := 11#32
  let c0_2165 : Index := 0#32
  let c0_2166 : Index := 0#32
  ![v3103.toNat, 11, 0, 0]
def k0_off115 (arg25 : BitVec 32) : Fin 4 → Nat :=
  let v3223 : Index := Scalar.indexCast arg25
  let c12_2223 : Index := 12#32
  let c0_2224 : Index := 0#32
  let c0_2225 : Index := 0#32
  ![v3223.toNat, 12, 0, 0]
def k0_off116 (arg25 : BitVec 32) : Fin 4 → Nat :=
  let v3226 : Index := Scalar.indexCast arg25
  let c13_2226 : Index := 13#32
  let c0_2227 : Index := 0#32
  let c0_2228 : Index := 0#32
  ![v3226.toNat, 13, 0, 0]
def k0_off117 (arg25 : BitVec 32) : Fin 4 → Nat :=
  let v3346 : Index := Scalar.indexCast arg25
  let c14_2285 : Index := 14#32
  let c0_2286 : Index := 0#32
  let c0_2287 : Index := 0#32
  ![v3346.toNat, 14, 0, 0]
def k0_off118 (arg25 : BitVec 32) : Fin 4 → Nat :=
  let v3349 : Index := Scalar.indexCast arg25
  let c15_2288 : Index := 15#32
  let c0_2289 : Index := 0#32
  let c0_2290 : Index := 0#32
  ![v3349.toNat, 15, 0, 0]

def k0_chk17 (v2354 : BitVec 32) (k0_t9 : Fin (k0_t9_loop v2354).trips) (arg25 : BitVec 32) : Prop :=
  (∀ a, (k0_off98 arg25) a + S1.size a ≤ S24.size a) ∧
  ((⟨4, (k0_off99 v2354 k0_t9 arg25).2⟩ : Shape).Squeezes ⟨3, k0_sz23 v2354 k0_t9⟩) ∧
  (∀ a, (k0_off101 arg25) a + S1x1x256x128.size a ≤ S24x16x256x128.size a) ∧
  (∀ a, (k0_off102 arg25) a + S1x1x256x128.size a ≤ S24x16x256x128.size a) ∧
  (∀ a, (k0_off105 arg25) a + S1x1x256x128.size a ≤ S24x16x256x128.size a) ∧
  (∀ a, (k0_off106 arg25) a + S1x1x256x128.size a ≤ S24x16x256x128.size a) ∧
  (∀ a, (k0_off107 arg25) a + S1x1x256x128.size a ≤ S24x16x256x128.size a) ∧
  (∀ a, (k0_off108 arg25) a + S1x1x256x128.size a ≤ S24x16x256x128.size a) ∧
  (∀ a, (k0_off109 arg25) a + S1x1x256x128.size a ≤ S24x16x256x128.size a) ∧
  (∀ a, (k0_off110 arg25) a + S1x1x256x128.size a ≤ S24x16x256x128.size a) ∧
  (∀ a, (k0_off111 arg25) a + S1x1x256x128.size a ≤ S24x16x256x128.size a) ∧
  (∀ a, (k0_off112 arg25) a + S1x1x256x128.size a ≤ S24x16x256x128.size a) ∧
  (∀ a, (k0_off113 arg25) a + S1x1x256x128.size a ≤ S24x16x256x128.size a) ∧
  (∀ a, (k0_off114 arg25) a + S1x1x256x128.size a ≤ S24x16x256x128.size a) ∧
  (∀ a, (k0_off115 arg25) a + S1x1x256x128.size a ≤ S24x16x256x128.size a) ∧
  (∀ a, (k0_off116 arg25) a + S1x1x256x128.size a ≤ S24x16x256x128.size a) ∧
  (∀ a, (k0_off117 arg25) a + S1x1x256x128.size a ≤ S24x16x256x128.size a) ∧
  (∀ a, (k0_off118 arg25) a + S1x1x256x128.size a ≤ S24x16x256x128.size a)
theorem k0_off98_inb : ∀ (v2354 : BitVec 32) (k0_t9 : Fin (k0_t9_loop v2354).trips) (arg25 : BitVec 32) (k0_hw17 : k0_chk17 v2354 k0_t9 arg25), ∀ a, (k0_off98 arg25) a + S1.size a ≤ S24.size a := fun v2354 k0_t9 arg25 k0_hw17 => k0_hw17.1
theorem k0_sz23_squeezes : ∀ (v2354 : BitVec 32) (k0_t9 : Fin (k0_t9_loop v2354).trips) (arg25 : BitVec 32) (k0_hw17 : k0_chk17 v2354 k0_t9 arg25), (⟨4, (k0_off99 v2354 k0_t9 arg25).2⟩ : Shape).Squeezes ⟨3, k0_sz23 v2354 k0_t9⟩ := fun v2354 k0_t9 arg25 k0_hw17 => k0_hw17.2.1
theorem k0_off101_inb : ∀ (v2354 : BitVec 32) (k0_t9 : Fin (k0_t9_loop v2354).trips) (arg25 : BitVec 32) (k0_hw17 : k0_chk17 v2354 k0_t9 arg25), ∀ a, (k0_off101 arg25) a + S1x1x256x128.size a ≤ S24x16x256x128.size a := fun v2354 k0_t9 arg25 k0_hw17 => k0_hw17.2.2.1
theorem k0_off102_inb : ∀ (v2354 : BitVec 32) (k0_t9 : Fin (k0_t9_loop v2354).trips) (arg25 : BitVec 32) (k0_hw17 : k0_chk17 v2354 k0_t9 arg25), ∀ a, (k0_off102 arg25) a + S1x1x256x128.size a ≤ S24x16x256x128.size a := fun v2354 k0_t9 arg25 k0_hw17 => k0_hw17.2.2.2.1
theorem k0_off105_inb : ∀ (v2354 : BitVec 32) (k0_t9 : Fin (k0_t9_loop v2354).trips) (arg25 : BitVec 32) (k0_hw17 : k0_chk17 v2354 k0_t9 arg25), ∀ a, (k0_off105 arg25) a + S1x1x256x128.size a ≤ S24x16x256x128.size a := fun v2354 k0_t9 arg25 k0_hw17 => k0_hw17.2.2.2.2.1
theorem k0_off106_inb : ∀ (v2354 : BitVec 32) (k0_t9 : Fin (k0_t9_loop v2354).trips) (arg25 : BitVec 32) (k0_hw17 : k0_chk17 v2354 k0_t9 arg25), ∀ a, (k0_off106 arg25) a + S1x1x256x128.size a ≤ S24x16x256x128.size a := fun v2354 k0_t9 arg25 k0_hw17 => k0_hw17.2.2.2.2.2.1
theorem k0_off107_inb : ∀ (v2354 : BitVec 32) (k0_t9 : Fin (k0_t9_loop v2354).trips) (arg25 : BitVec 32) (k0_hw17 : k0_chk17 v2354 k0_t9 arg25), ∀ a, (k0_off107 arg25) a + S1x1x256x128.size a ≤ S24x16x256x128.size a := fun v2354 k0_t9 arg25 k0_hw17 => k0_hw17.2.2.2.2.2.2.1
theorem k0_off108_inb : ∀ (v2354 : BitVec 32) (k0_t9 : Fin (k0_t9_loop v2354).trips) (arg25 : BitVec 32) (k0_hw17 : k0_chk17 v2354 k0_t9 arg25), ∀ a, (k0_off108 arg25) a + S1x1x256x128.size a ≤ S24x16x256x128.size a := fun v2354 k0_t9 arg25 k0_hw17 => k0_hw17.2.2.2.2.2.2.2.1
theorem k0_off109_inb : ∀ (v2354 : BitVec 32) (k0_t9 : Fin (k0_t9_loop v2354).trips) (arg25 : BitVec 32) (k0_hw17 : k0_chk17 v2354 k0_t9 arg25), ∀ a, (k0_off109 arg25) a + S1x1x256x128.size a ≤ S24x16x256x128.size a := fun v2354 k0_t9 arg25 k0_hw17 => k0_hw17.2.2.2.2.2.2.2.2.1
theorem k0_off110_inb : ∀ (v2354 : BitVec 32) (k0_t9 : Fin (k0_t9_loop v2354).trips) (arg25 : BitVec 32) (k0_hw17 : k0_chk17 v2354 k0_t9 arg25), ∀ a, (k0_off110 arg25) a + S1x1x256x128.size a ≤ S24x16x256x128.size a := fun v2354 k0_t9 arg25 k0_hw17 => k0_hw17.2.2.2.2.2.2.2.2.2.1
theorem k0_off111_inb : ∀ (v2354 : BitVec 32) (k0_t9 : Fin (k0_t9_loop v2354).trips) (arg25 : BitVec 32) (k0_hw17 : k0_chk17 v2354 k0_t9 arg25), ∀ a, (k0_off111 arg25) a + S1x1x256x128.size a ≤ S24x16x256x128.size a := fun v2354 k0_t9 arg25 k0_hw17 => k0_hw17.2.2.2.2.2.2.2.2.2.2.1
theorem k0_off112_inb : ∀ (v2354 : BitVec 32) (k0_t9 : Fin (k0_t9_loop v2354).trips) (arg25 : BitVec 32) (k0_hw17 : k0_chk17 v2354 k0_t9 arg25), ∀ a, (k0_off112 arg25) a + S1x1x256x128.size a ≤ S24x16x256x128.size a := fun v2354 k0_t9 arg25 k0_hw17 => k0_hw17.2.2.2.2.2.2.2.2.2.2.2.1
theorem k0_off113_inb : ∀ (v2354 : BitVec 32) (k0_t9 : Fin (k0_t9_loop v2354).trips) (arg25 : BitVec 32) (k0_hw17 : k0_chk17 v2354 k0_t9 arg25), ∀ a, (k0_off113 arg25) a + S1x1x256x128.size a ≤ S24x16x256x128.size a := fun v2354 k0_t9 arg25 k0_hw17 => k0_hw17.2.2.2.2.2.2.2.2.2.2.2.2.1
theorem k0_off114_inb : ∀ (v2354 : BitVec 32) (k0_t9 : Fin (k0_t9_loop v2354).trips) (arg25 : BitVec 32) (k0_hw17 : k0_chk17 v2354 k0_t9 arg25), ∀ a, (k0_off114 arg25) a + S1x1x256x128.size a ≤ S24x16x256x128.size a := fun v2354 k0_t9 arg25 k0_hw17 => k0_hw17.2.2.2.2.2.2.2.2.2.2.2.2.2.1
theorem k0_off115_inb : ∀ (v2354 : BitVec 32) (k0_t9 : Fin (k0_t9_loop v2354).trips) (arg25 : BitVec 32) (k0_hw17 : k0_chk17 v2354 k0_t9 arg25), ∀ a, (k0_off115 arg25) a + S1x1x256x128.size a ≤ S24x16x256x128.size a := fun v2354 k0_t9 arg25 k0_hw17 => k0_hw17.2.2.2.2.2.2.2.2.2.2.2.2.2.2.1
theorem k0_off116_inb : ∀ (v2354 : BitVec 32) (k0_t9 : Fin (k0_t9_loop v2354).trips) (arg25 : BitVec 32) (k0_hw17 : k0_chk17 v2354 k0_t9 arg25), ∀ a, (k0_off116 arg25) a + S1x1x256x128.size a ≤ S24x16x256x128.size a := fun v2354 k0_t9 arg25 k0_hw17 => k0_hw17.2.2.2.2.2.2.2.2.2.2.2.2.2.2.2.1
theorem k0_off117_inb : ∀ (v2354 : BitVec 32) (k0_t9 : Fin (k0_t9_loop v2354).trips) (arg25 : BitVec 32) (k0_hw17 : k0_chk17 v2354 k0_t9 arg25), ∀ a, (k0_off117 arg25) a + S1x1x256x128.size a ≤ S24x16x256x128.size a := fun v2354 k0_t9 arg25 k0_hw17 => k0_hw17.2.2.2.2.2.2.2.2.2.2.2.2.2.2.2.2.1
theorem k0_off118_inb : ∀ (v2354 : BitVec 32) (k0_t9 : Fin (k0_t9_loop v2354).trips) (arg25 : BitVec 32) (k0_hw17 : k0_chk17 v2354 k0_t9 arg25), ∀ a, (k0_off118 arg25) a + S1x1x256x128.size a ≤ S24x16x256x128.size a := fun v2354 k0_t9 arg25 k0_hw17 => k0_hw17.2.2.2.2.2.2.2.2.2.2.2.2.2.2.2.2.2

def k0_off119 (arg21 : BitVec 32) : Fin 1 → Nat :=
  let v3477 : Index := Scalar.indexCast arg21
  ![v3477.toNat]
def k0_cond13 (arg21 : BitVec 32) : BitVec 1 :=
  let c64_i32_2347 : BitVec 32 := 64#32
  let v3469 : BitVec 1 := Scalar.cmpi .slt arg21 c64_i32_2347
  let v3470 : BitVec 32 := Scalar.extui v3469
  let c0_i32_2348 : BitVec 32 := 0#32
  let v3471 : BitVec 1 := Scalar.cmpi .ne v3470 c0_i32_2348
  v3471

def k0_chk18 (arg21 : BitVec 32) : Prop :=
  (∀ (k0_h13 : k0_cond13 arg21 = 1#1), ∀ a, (k0_off119 arg21) a + S1.size a ≤ S64.size a)
theorem k0_off119_inb : ∀ (arg21 : BitVec 32) (k0_hw18 : k0_chk18 arg21), ∀ (k0_h13 : k0_cond13 arg21 = 1#1), ∀ a, (k0_off119 arg21) a + S1.size a ≤ S64.size a := fun arg21 k0_hw18 k0_h13 => k0_hw18 k0_h13

def k0_off120 (arg24 : BitVec 32) : Fin 1 → Nat :=
  ![arg24.toNat]
def k0_cond14 (arg22 : BitVec 32) : BitVec 1 :=
  let c0_i32_2363 : BitVec 32 := 0#32
  let v3500 : BitVec 1 := Scalar.cmpi .eq arg22 c0_i32_2363
  let v3501 : BitVec 32 := Scalar.extui v3500
  let c0_i32_2364 : BitVec 32 := 0#32
  let v3502 : BitVec 1 := Scalar.cmpi .ne v3501 c0_i32_2364
  v3502

def k0_off121 (arg23 : BitVec 32) (arg24 : BitVec 32) (v3478 : BitVec 32) : (Fin 4 → Nat) × (Fin 4 → Nat) :=
  let c0_i32_2379 : BitVec 32 := 0#32
  let c0_i32_2380 : BitVec 32 := 0#32
  let c0_i32_2381 : BitVec 32 := 0#32
  let c63_i32_2353 : BitVec 32 := 63#32
  let v3479 : BitVec 32 := Scalar.addi v3478 c63_i32_2353
  let c0_i32_2355 : BitVec 32 := 0#32
  let v3481 : BitVec 1 := Scalar.cmpi .sgt v3479 c0_i32_2355
  let v3482 : BitVec 32 := Scalar.extui v3481
  let c0_i32_2356 : BitVec 32 := 0#32
  let v3483 : BitVec 1 := Scalar.cmpi .slt v3479 c0_i32_2356
  let v3484 : BitVec 32 := Scalar.extui v3483
  let v3485 : BitVec 32 := Scalar.subi v3482 v3484
  let c64_i32_2354 : BitVec 32 := 64#32
  let c0_i32_2357 : BitVec 32 := 0#32
  let v3486 : BitVec 1 := Scalar.cmpi .sgt c64_i32_2354 c0_i32_2357
  let v3487 : BitVec 32 := Scalar.extui v3486
  let c0_i32_2358 : BitVec 32 := 0#32
  let v3488 : BitVec 1 := Scalar.cmpi .slt c64_i32_2354 c0_i32_2358
  let v3489 : BitVec 32 := Scalar.extui v3488
  let v3490 : BitVec 32 := Scalar.subi v3487 v3489
  let v3491 : BitVec 1 := Scalar.cmpi .ne v3485 v3490
  let v3492 : BitVec 32 := Scalar.remsi v3479 c64_i32_2354
  let c0_i32_2359 : BitVec 32 := 0#32
  let v3493 : BitVec 1 := Scalar.cmpi .ne v3492 c0_i32_2359
  let v3494 : BitVec 1 := Scalar.andi v3491 v3493
  let v3480 : BitVec 32 := Scalar.divsi v3479 c64_i32_2354
  let c1_i32_2360 : BitVec 32 := 1#32
  let v3495 : BitVec 32 := Scalar.subi v3480 c1_i32_2360
  let v3496 : BitVec 32 := Scalar.select v3494 v3495 v3480
  let c16_i32_2361 : BitVec 32 := 16#32
  let v3497 : BitVec 32 := Scalar.muli arg23 c16_i32_2361
  let v3498 : BitVec 32 := Scalar.subi v3496 v3497
  let c16_i32_2362 : BitVec 32 := 16#32
  let v3499 : BitVec 32 := Scalar.minsi v3498 c16_i32_2362
  ⟨![arg24.toNat, 0, 0, 0], ![1, v3499.toNat, 256, 128]⟩

def k0_sz25 (arg23 : BitVec 32) (v3478 : BitVec 32) : Fin 3 → Nat :=
  let c63_i32_2353 : BitVec 32 := 63#32
  let v3479 : BitVec 32 := Scalar.addi v3478 c63_i32_2353
  let c0_i32_2355 : BitVec 32 := 0#32
  let v3481 : BitVec 1 := Scalar.cmpi .sgt v3479 c0_i32_2355
  let v3482 : BitVec 32 := Scalar.extui v3481
  let c0_i32_2356 : BitVec 32 := 0#32
  let v3483 : BitVec 1 := Scalar.cmpi .slt v3479 c0_i32_2356
  let v3484 : BitVec 32 := Scalar.extui v3483
  let v3485 : BitVec 32 := Scalar.subi v3482 v3484
  let c64_i32_2354 : BitVec 32 := 64#32
  let c0_i32_2357 : BitVec 32 := 0#32
  let v3486 : BitVec 1 := Scalar.cmpi .sgt c64_i32_2354 c0_i32_2357
  let v3487 : BitVec 32 := Scalar.extui v3486
  let c0_i32_2358 : BitVec 32 := 0#32
  let v3488 : BitVec 1 := Scalar.cmpi .slt c64_i32_2354 c0_i32_2358
  let v3489 : BitVec 32 := Scalar.extui v3488
  let v3490 : BitVec 32 := Scalar.subi v3487 v3489
  let v3491 : BitVec 1 := Scalar.cmpi .ne v3485 v3490
  let v3492 : BitVec 32 := Scalar.remsi v3479 c64_i32_2354
  let c0_i32_2359 : BitVec 32 := 0#32
  let v3493 : BitVec 1 := Scalar.cmpi .ne v3492 c0_i32_2359
  let v3494 : BitVec 1 := Scalar.andi v3491 v3493
  let v3480 : BitVec 32 := Scalar.divsi v3479 c64_i32_2354
  let c1_i32_2360 : BitVec 32 := 1#32
  let v3495 : BitVec 32 := Scalar.subi v3480 c1_i32_2360
  let v3496 : BitVec 32 := Scalar.select v3494 v3495 v3480
  let c16_i32_2361 : BitVec 32 := 16#32
  let v3497 : BitVec 32 := Scalar.muli arg23 c16_i32_2361
  let v3498 : BitVec 32 := Scalar.subi v3496 v3497
  let c16_i32_2362 : BitVec 32 := 16#32
  let v3499 : BitVec 32 := Scalar.minsi v3498 c16_i32_2362
  ![v3499.toNat, 256, 128]
def k0_off122 (arg21 : BitVec 32) (arg23 : BitVec 32) (v3478 : BitVec 32) : (Fin 4 → Nat) × (Fin 4 → Nat) :=
  let c16_i32_2378 : BitVec 32 := 16#32
  let v3521 : BitVec 32 := Scalar.muli arg23 c16_i32_2378
  let c0_i32_2382 : BitVec 32 := 0#32
  let c0_i32_2383 : BitVec 32 := 0#32
  let c63_i32_2353 : BitVec 32 := 63#32
  let v3479 : BitVec 32 := Scalar.addi v3478 c63_i32_2353
  let c0_i32_2355 : BitVec 32 := 0#32
  let v3481 : BitVec 1 := Scalar.cmpi .sgt v3479 c0_i32_2355
  let v3482 : BitVec 32 := Scalar.extui v3481
  let c0_i32_2356 : BitVec 32 := 0#32
  let v3483 : BitVec 1 := Scalar.cmpi .slt v3479 c0_i32_2356
  let v3484 : BitVec 32 := Scalar.extui v3483
  let v3485 : BitVec 32 := Scalar.subi v3482 v3484
  let c64_i32_2354 : BitVec 32 := 64#32
  let c0_i32_2357 : BitVec 32 := 0#32
  let v3486 : BitVec 1 := Scalar.cmpi .sgt c64_i32_2354 c0_i32_2357
  let v3487 : BitVec 32 := Scalar.extui v3486
  let c0_i32_2358 : BitVec 32 := 0#32
  let v3488 : BitVec 1 := Scalar.cmpi .slt c64_i32_2354 c0_i32_2358
  let v3489 : BitVec 32 := Scalar.extui v3488
  let v3490 : BitVec 32 := Scalar.subi v3487 v3489
  let v3491 : BitVec 1 := Scalar.cmpi .ne v3485 v3490
  let v3492 : BitVec 32 := Scalar.remsi v3479 c64_i32_2354
  let c0_i32_2359 : BitVec 32 := 0#32
  let v3493 : BitVec 1 := Scalar.cmpi .ne v3492 c0_i32_2359
  let v3494 : BitVec 1 := Scalar.andi v3491 v3493
  let v3480 : BitVec 32 := Scalar.divsi v3479 c64_i32_2354
  let c1_i32_2360 : BitVec 32 := 1#32
  let v3495 : BitVec 32 := Scalar.subi v3480 c1_i32_2360
  let v3496 : BitVec 32 := Scalar.select v3494 v3495 v3480
  let c16_i32_2361 : BitVec 32 := 16#32
  let v3497 : BitVec 32 := Scalar.muli arg23 c16_i32_2361
  let v3498 : BitVec 32 := Scalar.subi v3496 v3497
  let c16_i32_2362 : BitVec 32 := 16#32
  let v3499 : BitVec 32 := Scalar.minsi v3498 c16_i32_2362
  ⟨![arg21.toNat, v3521.toNat, 0, 0], ![1, v3499.toNat, 256, 128]⟩
def k0_sz26 (arg23 : BitVec 32) (v3478 : BitVec 32) : Fin 3 → Nat :=
  let c63_i32_2353 : BitVec 32 := 63#32
  let v3479 : BitVec 32 := Scalar.addi v3478 c63_i32_2353
  let c0_i32_2355 : BitVec 32 := 0#32
  let v3481 : BitVec 1 := Scalar.cmpi .sgt v3479 c0_i32_2355
  let v3482 : BitVec 32 := Scalar.extui v3481
  let c0_i32_2356 : BitVec 32 := 0#32
  let v3483 : BitVec 1 := Scalar.cmpi .slt v3479 c0_i32_2356
  let v3484 : BitVec 32 := Scalar.extui v3483
  let v3485 : BitVec 32 := Scalar.subi v3482 v3484
  let c64_i32_2354 : BitVec 32 := 64#32
  let c0_i32_2357 : BitVec 32 := 0#32
  let v3486 : BitVec 1 := Scalar.cmpi .sgt c64_i32_2354 c0_i32_2357
  let v3487 : BitVec 32 := Scalar.extui v3486
  let c0_i32_2358 : BitVec 32 := 0#32
  let v3488 : BitVec 1 := Scalar.cmpi .slt c64_i32_2354 c0_i32_2358
  let v3489 : BitVec 32 := Scalar.extui v3488
  let v3490 : BitVec 32 := Scalar.subi v3487 v3489
  let v3491 : BitVec 1 := Scalar.cmpi .ne v3485 v3490
  let v3492 : BitVec 32 := Scalar.remsi v3479 c64_i32_2354
  let c0_i32_2359 : BitVec 32 := 0#32
  let v3493 : BitVec 1 := Scalar.cmpi .ne v3492 c0_i32_2359
  let v3494 : BitVec 1 := Scalar.andi v3491 v3493
  let v3480 : BitVec 32 := Scalar.divsi v3479 c64_i32_2354
  let c1_i32_2360 : BitVec 32 := 1#32
  let v3495 : BitVec 32 := Scalar.subi v3480 c1_i32_2360
  let v3496 : BitVec 32 := Scalar.select v3494 v3495 v3480
  let c16_i32_2361 : BitVec 32 := 16#32
  let v3497 : BitVec 32 := Scalar.muli arg23 c16_i32_2361
  let v3498 : BitVec 32 := Scalar.subi v3496 v3497
  let c16_i32_2362 : BitVec 32 := 16#32
  let v3499 : BitVec 32 := Scalar.minsi v3498 c16_i32_2362
  ![v3499.toNat, 256, 128]
def k0_off123 (arg24 : BitVec 32) : Fin 1 → Nat :=
  ![arg24.toNat]
def k0_cond15 (arg22 : BitVec 32) : BitVec 1 :=
  let c1_i32_2365 : BitVec 32 := 1#32
  let v3503 : BitVec 1 := Scalar.cmpi .eq arg22 c1_i32_2365
  let v3504 : BitVec 32 := Scalar.extui v3503
  let c0_i32_2366 : BitVec 32 := 0#32
  let v3505 : BitVec 1 := Scalar.cmpi .ne v3504 c0_i32_2366
  v3505

def k0_chk19 (arg21 : BitVec 32) (arg22 : BitVec 32) (arg24 : BitVec 32) : Prop :=
  (∀ (k0_h13 : k0_cond13 arg21 = 1#1), ∀ (k0_h14 : k0_cond14 arg22 = 1#1), ∀ a, (k0_off120 arg24) a + S1.size a ≤ S24.size a) ∧
  (∀ (k0_h13 : k0_cond13 arg21 = 1#1), ∀ (k0_h15 : k0_cond15 arg22 = 1#1), ∀ a, (k0_off123 arg24) a + S1.size a ≤ S24.size a)
theorem k0_off120_inb : ∀ (arg21 : BitVec 32) (arg22 : BitVec 32) (arg24 : BitVec 32) (k0_hw19 : k0_chk19 arg21 arg22 arg24), ∀ (k0_h13 : k0_cond13 arg21 = 1#1), ∀ (k0_h14 : k0_cond14 arg22 = 1#1), ∀ a, (k0_off120 arg24) a + S1.size a ≤ S24.size a := fun arg21 arg22 arg24 k0_hw19 k0_h13 k0_h14 => k0_hw19.1 k0_h13 k0_h14
theorem k0_off123_inb : ∀ (arg21 : BitVec 32) (arg22 : BitVec 32) (arg24 : BitVec 32) (k0_hw19 : k0_chk19 arg21 arg22 arg24), ∀ (k0_h13 : k0_cond13 arg21 = 1#1), ∀ (k0_h15 : k0_cond15 arg22 = 1#1), ∀ a, (k0_off123 arg24) a + S1.size a ≤ S24.size a := fun arg21 arg22 arg24 k0_hw19 k0_h13 k0_h15 => k0_hw19.2 k0_h13 k0_h15

def k0_off124 (arg23 : BitVec 32) (arg24 : BitVec 32) (v3478 : BitVec 32) : (Fin 4 → Nat) × (Fin 4 → Nat) :=
  let c0_i32_2379 : BitVec 32 := 0#32
  let c0_i32_2380 : BitVec 32 := 0#32
  let c0_i32_2381 : BitVec 32 := 0#32
  let c63_i32_2353 : BitVec 32 := 63#32
  let v3479 : BitVec 32 := Scalar.addi v3478 c63_i32_2353
  let c0_i32_2355 : BitVec 32 := 0#32
  let v3481 : BitVec 1 := Scalar.cmpi .sgt v3479 c0_i32_2355
  let v3482 : BitVec 32 := Scalar.extui v3481
  let c0_i32_2356 : BitVec 32 := 0#32
  let v3483 : BitVec 1 := Scalar.cmpi .slt v3479 c0_i32_2356
  let v3484 : BitVec 32 := Scalar.extui v3483
  let v3485 : BitVec 32 := Scalar.subi v3482 v3484
  let c64_i32_2354 : BitVec 32 := 64#32
  let c0_i32_2357 : BitVec 32 := 0#32
  let v3486 : BitVec 1 := Scalar.cmpi .sgt c64_i32_2354 c0_i32_2357
  let v3487 : BitVec 32 := Scalar.extui v3486
  let c0_i32_2358 : BitVec 32 := 0#32
  let v3488 : BitVec 1 := Scalar.cmpi .slt c64_i32_2354 c0_i32_2358
  let v3489 : BitVec 32 := Scalar.extui v3488
  let v3490 : BitVec 32 := Scalar.subi v3487 v3489
  let v3491 : BitVec 1 := Scalar.cmpi .ne v3485 v3490
  let v3492 : BitVec 32 := Scalar.remsi v3479 c64_i32_2354
  let c0_i32_2359 : BitVec 32 := 0#32
  let v3493 : BitVec 1 := Scalar.cmpi .ne v3492 c0_i32_2359
  let v3494 : BitVec 1 := Scalar.andi v3491 v3493
  let v3480 : BitVec 32 := Scalar.divsi v3479 c64_i32_2354
  let c1_i32_2360 : BitVec 32 := 1#32
  let v3495 : BitVec 32 := Scalar.subi v3480 c1_i32_2360
  let v3496 : BitVec 32 := Scalar.select v3494 v3495 v3480
  let c16_i32_2361 : BitVec 32 := 16#32
  let v3497 : BitVec 32 := Scalar.muli arg23 c16_i32_2361
  let v3498 : BitVec 32 := Scalar.subi v3496 v3497
  let c16_i32_2362 : BitVec 32 := 16#32
  let v3499 : BitVec 32 := Scalar.minsi v3498 c16_i32_2362
  ⟨![arg24.toNat, 0, 0, 0], ![1, v3499.toNat, 256, 128]⟩
def k0_sz27 (arg23 : BitVec 32) (v3478 : BitVec 32) : Fin 3 → Nat :=
  let c63_i32_2353 : BitVec 32 := 63#32
  let v3479 : BitVec 32 := Scalar.addi v3478 c63_i32_2353
  let c0_i32_2355 : BitVec 32 := 0#32
  let v3481 : BitVec 1 := Scalar.cmpi .sgt v3479 c0_i32_2355
  let v3482 : BitVec 32 := Scalar.extui v3481
  let c0_i32_2356 : BitVec 32 := 0#32
  let v3483 : BitVec 1 := Scalar.cmpi .slt v3479 c0_i32_2356
  let v3484 : BitVec 32 := Scalar.extui v3483
  let v3485 : BitVec 32 := Scalar.subi v3482 v3484
  let c64_i32_2354 : BitVec 32 := 64#32
  let c0_i32_2357 : BitVec 32 := 0#32
  let v3486 : BitVec 1 := Scalar.cmpi .sgt c64_i32_2354 c0_i32_2357
  let v3487 : BitVec 32 := Scalar.extui v3486
  let c0_i32_2358 : BitVec 32 := 0#32
  let v3488 : BitVec 1 := Scalar.cmpi .slt c64_i32_2354 c0_i32_2358
  let v3489 : BitVec 32 := Scalar.extui v3488
  let v3490 : BitVec 32 := Scalar.subi v3487 v3489
  let v3491 : BitVec 1 := Scalar.cmpi .ne v3485 v3490
  let v3492 : BitVec 32 := Scalar.remsi v3479 c64_i32_2354
  let c0_i32_2359 : BitVec 32 := 0#32
  let v3493 : BitVec 1 := Scalar.cmpi .ne v3492 c0_i32_2359
  let v3494 : BitVec 1 := Scalar.andi v3491 v3493
  let v3480 : BitVec 32 := Scalar.divsi v3479 c64_i32_2354
  let c1_i32_2360 : BitVec 32 := 1#32
  let v3495 : BitVec 32 := Scalar.subi v3480 c1_i32_2360
  let v3496 : BitVec 32 := Scalar.select v3494 v3495 v3480
  let c16_i32_2361 : BitVec 32 := 16#32
  let v3497 : BitVec 32 := Scalar.muli arg23 c16_i32_2361
  let v3498 : BitVec 32 := Scalar.subi v3496 v3497
  let c16_i32_2362 : BitVec 32 := 16#32
  let v3499 : BitVec 32 := Scalar.minsi v3498 c16_i32_2362
  ![v3499.toNat, 256, 128]
def k0_off125 (arg21 : BitVec 32) (arg23 : BitVec 32) (v3478 : BitVec 32) : (Fin 4 → Nat) × (Fin 4 → Nat) :=
  let c16_i32_2378 : BitVec 32 := 16#32
  let v3521 : BitVec 32 := Scalar.muli arg23 c16_i32_2378
  let c0_i32_2382 : BitVec 32 := 0#32
  let c0_i32_2383 : BitVec 32 := 0#32
  let c63_i32_2353 : BitVec 32 := 63#32
  let v3479 : BitVec 32 := Scalar.addi v3478 c63_i32_2353
  let c0_i32_2355 : BitVec 32 := 0#32
  let v3481 : BitVec 1 := Scalar.cmpi .sgt v3479 c0_i32_2355
  let v3482 : BitVec 32 := Scalar.extui v3481
  let c0_i32_2356 : BitVec 32 := 0#32
  let v3483 : BitVec 1 := Scalar.cmpi .slt v3479 c0_i32_2356
  let v3484 : BitVec 32 := Scalar.extui v3483
  let v3485 : BitVec 32 := Scalar.subi v3482 v3484
  let c64_i32_2354 : BitVec 32 := 64#32
  let c0_i32_2357 : BitVec 32 := 0#32
  let v3486 : BitVec 1 := Scalar.cmpi .sgt c64_i32_2354 c0_i32_2357
  let v3487 : BitVec 32 := Scalar.extui v3486
  let c0_i32_2358 : BitVec 32 := 0#32
  let v3488 : BitVec 1 := Scalar.cmpi .slt c64_i32_2354 c0_i32_2358
  let v3489 : BitVec 32 := Scalar.extui v3488
  let v3490 : BitVec 32 := Scalar.subi v3487 v3489
  let v3491 : BitVec 1 := Scalar.cmpi .ne v3485 v3490
  let v3492 : BitVec 32 := Scalar.remsi v3479 c64_i32_2354
  let c0_i32_2359 : BitVec 32 := 0#32
  let v3493 : BitVec 1 := Scalar.cmpi .ne v3492 c0_i32_2359
  let v3494 : BitVec 1 := Scalar.andi v3491 v3493
  let v3480 : BitVec 32 := Scalar.divsi v3479 c64_i32_2354
  let c1_i32_2360 : BitVec 32 := 1#32
  let v3495 : BitVec 32 := Scalar.subi v3480 c1_i32_2360
  let v3496 : BitVec 32 := Scalar.select v3494 v3495 v3480
  let c16_i32_2361 : BitVec 32 := 16#32
  let v3497 : BitVec 32 := Scalar.muli arg23 c16_i32_2361
  let v3498 : BitVec 32 := Scalar.subi v3496 v3497
  let c16_i32_2362 : BitVec 32 := 16#32
  let v3499 : BitVec 32 := Scalar.minsi v3498 c16_i32_2362
  ⟨![arg21.toNat, v3521.toNat, 0, 0], ![1, v3499.toNat, 256, 128]⟩
def k0_sz28 (arg23 : BitVec 32) (v3478 : BitVec 32) : Fin 3 → Nat :=
  let c63_i32_2353 : BitVec 32 := 63#32
  let v3479 : BitVec 32 := Scalar.addi v3478 c63_i32_2353
  let c0_i32_2355 : BitVec 32 := 0#32
  let v3481 : BitVec 1 := Scalar.cmpi .sgt v3479 c0_i32_2355
  let v3482 : BitVec 32 := Scalar.extui v3481
  let c0_i32_2356 : BitVec 32 := 0#32
  let v3483 : BitVec 1 := Scalar.cmpi .slt v3479 c0_i32_2356
  let v3484 : BitVec 32 := Scalar.extui v3483
  let v3485 : BitVec 32 := Scalar.subi v3482 v3484
  let c64_i32_2354 : BitVec 32 := 64#32
  let c0_i32_2357 : BitVec 32 := 0#32
  let v3486 : BitVec 1 := Scalar.cmpi .sgt c64_i32_2354 c0_i32_2357
  let v3487 : BitVec 32 := Scalar.extui v3486
  let c0_i32_2358 : BitVec 32 := 0#32
  let v3488 : BitVec 1 := Scalar.cmpi .slt c64_i32_2354 c0_i32_2358
  let v3489 : BitVec 32 := Scalar.extui v3488
  let v3490 : BitVec 32 := Scalar.subi v3487 v3489
  let v3491 : BitVec 1 := Scalar.cmpi .ne v3485 v3490
  let v3492 : BitVec 32 := Scalar.remsi v3479 c64_i32_2354
  let c0_i32_2359 : BitVec 32 := 0#32
  let v3493 : BitVec 1 := Scalar.cmpi .ne v3492 c0_i32_2359
  let v3494 : BitVec 1 := Scalar.andi v3491 v3493
  let v3480 : BitVec 32 := Scalar.divsi v3479 c64_i32_2354
  let c1_i32_2360 : BitVec 32 := 1#32
  let v3495 : BitVec 32 := Scalar.subi v3480 c1_i32_2360
  let v3496 : BitVec 32 := Scalar.select v3494 v3495 v3480
  let c16_i32_2361 : BitVec 32 := 16#32
  let v3497 : BitVec 32 := Scalar.muli arg23 c16_i32_2361
  let v3498 : BitVec 32 := Scalar.subi v3496 v3497
  let c16_i32_2362 : BitVec 32 := 16#32
  let v3499 : BitVec 32 := Scalar.minsi v3498 c16_i32_2362
  ![v3499.toNat, 256, 128]

def k0_chk20 (arg21 : BitVec 32) (arg22 : BitVec 32) (arg23 : BitVec 32) (arg24 : BitVec 32) (v3478 : BitVec 32) : Prop :=
  (∀ (k0_h13 : k0_cond13 arg21 = 1#1), ∀ (k0_h14 : k0_cond14 arg22 = 1#1), ∀ a, (k0_off121 arg23 arg24 v3478).2 a = 0 ∨ (k0_off121 arg23 arg24 v3478).1 a + (k0_off121 arg23 arg24 v3478).2 a ≤ S24x16x256x128.size a) ∧
  (∀ (k0_h13 : k0_cond13 arg21 = 1#1), ∀ (k0_h14 : k0_cond14 arg22 = 1#1), (⟨4, (k0_off121 arg23 arg24 v3478).2⟩ : Shape).Squeezes ⟨3, k0_sz25 arg23 v3478⟩) ∧
  (∀ (k0_h13 : k0_cond13 arg21 = 1#1), ∀ (k0_h14 : k0_cond14 arg22 = 1#1), ∀ a, (k0_off122 arg21 arg23 v3478).2 a = 0 ∨ (k0_off122 arg21 arg23 v3478).1 a + (k0_off122 arg21 arg23 v3478).2 a ≤ S64x128x256x128.size a) ∧
  (∀ (k0_h13 : k0_cond13 arg21 = 1#1), ∀ (k0_h14 : k0_cond14 arg22 = 1#1), (⟨4, (k0_off122 arg21 arg23 v3478).2⟩ : Shape).Squeezes ⟨3, k0_sz26 arg23 v3478⟩) ∧
  (∀ (k0_h13 : k0_cond13 arg21 = 1#1), ∀ (k0_h14 : k0_cond14 arg22 = 1#1), ∀ (hinb : ∀ a, (k0_off122 arg21 arg23 v3478).2 a = 0 ∨ (k0_off122 arg21 arg23 v3478).1 a + (k0_off122 arg21 arg23 v3478).2 a ≤ S64x128x256x128.size a), (Rect.unitDyn (s := S64x128x256x128) (k0_off122 arg21 arg23 v3478).1 (k0_off122 arg21 arg23 v3478).2 hinb).WholeWords (EltTy.packing .fp8e4m3)) ∧
  (∀ (k0_h13 : k0_cond13 arg21 = 1#1), ∀ (k0_h14 : k0_cond14 arg22 = 1#1), ∀ (hinb : ∀ a, (k0_off121 arg23 arg24 v3478).2 a = 0 ∨ (k0_off121 arg23 arg24 v3478).1 a + (k0_off121 arg23 arg24 v3478).2 a ≤ S24x16x256x128.size a), (Rect.unitDyn (s := S24x16x256x128) (k0_off121 arg23 arg24 v3478).1 (k0_off121 arg23 arg24 v3478).2 hinb).WholeWords (EltTy.packing .fp8e4m3)) ∧
  (∀ (k0_h13 : k0_cond13 arg21 = 1#1), ∀ (k0_h15 : k0_cond15 arg22 = 1#1), ∀ a, (k0_off124 arg23 arg24 v3478).2 a = 0 ∨ (k0_off124 arg23 arg24 v3478).1 a + (k0_off124 arg23 arg24 v3478).2 a ≤ S24x16x256x128.size a) ∧
  (∀ (k0_h13 : k0_cond13 arg21 = 1#1), ∀ (k0_h15 : k0_cond15 arg22 = 1#1), (⟨4, (k0_off124 arg23 arg24 v3478).2⟩ : Shape).Squeezes ⟨3, k0_sz27 arg23 v3478⟩) ∧
  (∀ (k0_h13 : k0_cond13 arg21 = 1#1), ∀ (k0_h15 : k0_cond15 arg22 = 1#1), ∀ a, (k0_off125 arg21 arg23 v3478).2 a = 0 ∨ (k0_off125 arg21 arg23 v3478).1 a + (k0_off125 arg21 arg23 v3478).2 a ≤ S64x128x256x128.size a) ∧
  (∀ (k0_h13 : k0_cond13 arg21 = 1#1), ∀ (k0_h15 : k0_cond15 arg22 = 1#1), (⟨4, (k0_off125 arg21 arg23 v3478).2⟩ : Shape).Squeezes ⟨3, k0_sz28 arg23 v3478⟩) ∧
  (∀ (k0_h13 : k0_cond13 arg21 = 1#1), ∀ (k0_h15 : k0_cond15 arg22 = 1#1), ∀ (hinb : ∀ a, (k0_off125 arg21 arg23 v3478).2 a = 0 ∨ (k0_off125 arg21 arg23 v3478).1 a + (k0_off125 arg21 arg23 v3478).2 a ≤ S64x128x256x128.size a), (Rect.unitDyn (s := S64x128x256x128) (k0_off125 arg21 arg23 v3478).1 (k0_off125 arg21 arg23 v3478).2 hinb).WholeWords (EltTy.packing .fp8e4m3)) ∧
  (∀ (k0_h13 : k0_cond13 arg21 = 1#1), ∀ (k0_h15 : k0_cond15 arg22 = 1#1), ∀ (hinb : ∀ a, (k0_off124 arg23 arg24 v3478).2 a = 0 ∨ (k0_off124 arg23 arg24 v3478).1 a + (k0_off124 arg23 arg24 v3478).2 a ≤ S24x16x256x128.size a), (Rect.unitDyn (s := S24x16x256x128) (k0_off124 arg23 arg24 v3478).1 (k0_off124 arg23 arg24 v3478).2 hinb).WholeWords (EltTy.packing .fp8e4m3))
theorem k0_off121_inb : ∀ (arg21 : BitVec 32) (arg22 : BitVec 32) (arg23 : BitVec 32) (arg24 : BitVec 32) (v3478 : BitVec 32) (k0_hw20 : k0_chk20 arg21 arg22 arg23 arg24 v3478), ∀ (k0_h13 : k0_cond13 arg21 = 1#1), ∀ (k0_h14 : k0_cond14 arg22 = 1#1), ∀ a, (k0_off121 arg23 arg24 v3478).2 a = 0 ∨ (k0_off121 arg23 arg24 v3478).1 a + (k0_off121 arg23 arg24 v3478).2 a ≤ S24x16x256x128.size a := fun arg21 arg22 arg23 arg24 v3478 k0_hw20 k0_h13 k0_h14 => k0_hw20.1 k0_h13 k0_h14
theorem k0_sz25_squeezes : ∀ (arg21 : BitVec 32) (arg22 : BitVec 32) (arg23 : BitVec 32) (arg24 : BitVec 32) (v3478 : BitVec 32) (k0_hw20 : k0_chk20 arg21 arg22 arg23 arg24 v3478), ∀ (k0_h13 : k0_cond13 arg21 = 1#1), ∀ (k0_h14 : k0_cond14 arg22 = 1#1), (⟨4, (k0_off121 arg23 arg24 v3478).2⟩ : Shape).Squeezes ⟨3, k0_sz25 arg23 v3478⟩ := fun arg21 arg22 arg23 arg24 v3478 k0_hw20 k0_h13 k0_h14 => k0_hw20.2.1 k0_h13 k0_h14
theorem k0_off122_inb : ∀ (arg21 : BitVec 32) (arg22 : BitVec 32) (arg23 : BitVec 32) (arg24 : BitVec 32) (v3478 : BitVec 32) (k0_hw20 : k0_chk20 arg21 arg22 arg23 arg24 v3478), ∀ (k0_h13 : k0_cond13 arg21 = 1#1), ∀ (k0_h14 : k0_cond14 arg22 = 1#1), ∀ a, (k0_off122 arg21 arg23 v3478).2 a = 0 ∨ (k0_off122 arg21 arg23 v3478).1 a + (k0_off122 arg21 arg23 v3478).2 a ≤ S64x128x256x128.size a := fun arg21 arg22 arg23 arg24 v3478 k0_hw20 k0_h13 k0_h14 => k0_hw20.2.2.1 k0_h13 k0_h14
theorem k0_sz26_squeezes : ∀ (arg21 : BitVec 32) (arg22 : BitVec 32) (arg23 : BitVec 32) (arg24 : BitVec 32) (v3478 : BitVec 32) (k0_hw20 : k0_chk20 arg21 arg22 arg23 arg24 v3478), ∀ (k0_h13 : k0_cond13 arg21 = 1#1), ∀ (k0_h14 : k0_cond14 arg22 = 1#1), (⟨4, (k0_off122 arg21 arg23 v3478).2⟩ : Shape).Squeezes ⟨3, k0_sz26 arg23 v3478⟩ := fun arg21 arg22 arg23 arg24 v3478 k0_hw20 k0_h13 k0_h14 => k0_hw20.2.2.2.1 k0_h13 k0_h14
theorem k0_off122_wordsfp8e4m3 : ∀ (arg21 : BitVec 32) (arg22 : BitVec 32) (arg23 : BitVec 32) (arg24 : BitVec 32) (v3478 : BitVec 32) (k0_hw20 : k0_chk20 arg21 arg22 arg23 arg24 v3478), ∀ (k0_h13 : k0_cond13 arg21 = 1#1), ∀ (k0_h14 : k0_cond14 arg22 = 1#1), (Rect.unitDyn (s := S64x128x256x128) (k0_off122 arg21 arg23 v3478).1 (k0_off122 arg21 arg23 v3478).2 (k0_off122_inb arg21 arg22 arg23 arg24 v3478 k0_hw20 k0_h13 k0_h14)).WholeWords (EltTy.packing .fp8e4m3) := fun arg21 arg22 arg23 arg24 v3478 k0_hw20 k0_h13 k0_h14 => k0_hw20.2.2.2.2.1 k0_h13 k0_h14 (k0_off122_inb arg21 arg22 arg23 arg24 v3478 k0_hw20 k0_h13 k0_h14)
theorem k0_off121_wordsfp8e4m3 : ∀ (arg21 : BitVec 32) (arg22 : BitVec 32) (arg23 : BitVec 32) (arg24 : BitVec 32) (v3478 : BitVec 32) (k0_hw20 : k0_chk20 arg21 arg22 arg23 arg24 v3478), ∀ (k0_h13 : k0_cond13 arg21 = 1#1), ∀ (k0_h14 : k0_cond14 arg22 = 1#1), (Rect.unitDyn (s := S24x16x256x128) (k0_off121 arg23 arg24 v3478).1 (k0_off121 arg23 arg24 v3478).2 (k0_off121_inb arg21 arg22 arg23 arg24 v3478 k0_hw20 k0_h13 k0_h14)).WholeWords (EltTy.packing .fp8e4m3) := fun arg21 arg22 arg23 arg24 v3478 k0_hw20 k0_h13 k0_h14 => k0_hw20.2.2.2.2.2.1 k0_h13 k0_h14 (k0_off121_inb arg21 arg22 arg23 arg24 v3478 k0_hw20 k0_h13 k0_h14)
theorem k0_off124_inb : ∀ (arg21 : BitVec 32) (arg22 : BitVec 32) (arg23 : BitVec 32) (arg24 : BitVec 32) (v3478 : BitVec 32) (k0_hw20 : k0_chk20 arg21 arg22 arg23 arg24 v3478), ∀ (k0_h13 : k0_cond13 arg21 = 1#1), ∀ (k0_h15 : k0_cond15 arg22 = 1#1), ∀ a, (k0_off124 arg23 arg24 v3478).2 a = 0 ∨ (k0_off124 arg23 arg24 v3478).1 a + (k0_off124 arg23 arg24 v3478).2 a ≤ S24x16x256x128.size a := fun arg21 arg22 arg23 arg24 v3478 k0_hw20 k0_h13 k0_h15 => k0_hw20.2.2.2.2.2.2.1 k0_h13 k0_h15
theorem k0_sz27_squeezes : ∀ (arg21 : BitVec 32) (arg22 : BitVec 32) (arg23 : BitVec 32) (arg24 : BitVec 32) (v3478 : BitVec 32) (k0_hw20 : k0_chk20 arg21 arg22 arg23 arg24 v3478), ∀ (k0_h13 : k0_cond13 arg21 = 1#1), ∀ (k0_h15 : k0_cond15 arg22 = 1#1), (⟨4, (k0_off124 arg23 arg24 v3478).2⟩ : Shape).Squeezes ⟨3, k0_sz27 arg23 v3478⟩ := fun arg21 arg22 arg23 arg24 v3478 k0_hw20 k0_h13 k0_h15 => k0_hw20.2.2.2.2.2.2.2.1 k0_h13 k0_h15
theorem k0_off125_inb : ∀ (arg21 : BitVec 32) (arg22 : BitVec 32) (arg23 : BitVec 32) (arg24 : BitVec 32) (v3478 : BitVec 32) (k0_hw20 : k0_chk20 arg21 arg22 arg23 arg24 v3478), ∀ (k0_h13 : k0_cond13 arg21 = 1#1), ∀ (k0_h15 : k0_cond15 arg22 = 1#1), ∀ a, (k0_off125 arg21 arg23 v3478).2 a = 0 ∨ (k0_off125 arg21 arg23 v3478).1 a + (k0_off125 arg21 arg23 v3478).2 a ≤ S64x128x256x128.size a := fun arg21 arg22 arg23 arg24 v3478 k0_hw20 k0_h13 k0_h15 => k0_hw20.2.2.2.2.2.2.2.2.1 k0_h13 k0_h15
theorem k0_sz28_squeezes : ∀ (arg21 : BitVec 32) (arg22 : BitVec 32) (arg23 : BitVec 32) (arg24 : BitVec 32) (v3478 : BitVec 32) (k0_hw20 : k0_chk20 arg21 arg22 arg23 arg24 v3478), ∀ (k0_h13 : k0_cond13 arg21 = 1#1), ∀ (k0_h15 : k0_cond15 arg22 = 1#1), (⟨4, (k0_off125 arg21 arg23 v3478).2⟩ : Shape).Squeezes ⟨3, k0_sz28 arg23 v3478⟩ := fun arg21 arg22 arg23 arg24 v3478 k0_hw20 k0_h13 k0_h15 => k0_hw20.2.2.2.2.2.2.2.2.2.1 k0_h13 k0_h15
theorem k0_off125_wordsfp8e4m3 : ∀ (arg21 : BitVec 32) (arg22 : BitVec 32) (arg23 : BitVec 32) (arg24 : BitVec 32) (v3478 : BitVec 32) (k0_hw20 : k0_chk20 arg21 arg22 arg23 arg24 v3478), ∀ (k0_h13 : k0_cond13 arg21 = 1#1), ∀ (k0_h15 : k0_cond15 arg22 = 1#1), (Rect.unitDyn (s := S64x128x256x128) (k0_off125 arg21 arg23 v3478).1 (k0_off125 arg21 arg23 v3478).2 (k0_off125_inb arg21 arg22 arg23 arg24 v3478 k0_hw20 k0_h13 k0_h15)).WholeWords (EltTy.packing .fp8e4m3) := fun arg21 arg22 arg23 arg24 v3478 k0_hw20 k0_h13 k0_h15 => k0_hw20.2.2.2.2.2.2.2.2.2.2.1 k0_h13 k0_h15 (k0_off125_inb arg21 arg22 arg23 arg24 v3478 k0_hw20 k0_h13 k0_h15)
theorem k0_off124_wordsfp8e4m3 : ∀ (arg21 : BitVec 32) (arg22 : BitVec 32) (arg23 : BitVec 32) (arg24 : BitVec 32) (v3478 : BitVec 32) (k0_hw20 : k0_chk20 arg21 arg22 arg23 arg24 v3478), ∀ (k0_h13 : k0_cond13 arg21 = 1#1), ∀ (k0_h15 : k0_cond15 arg22 = 1#1), (Rect.unitDyn (s := S24x16x256x128) (k0_off124 arg23 arg24 v3478).1 (k0_off124 arg23 arg24 v3478).2 (k0_off124_inb arg21 arg22 arg23 arg24 v3478 k0_hw20 k0_h13 k0_h15)).WholeWords (EltTy.packing .fp8e4m3) := fun arg21 arg22 arg23 arg24 v3478 k0_hw20 k0_h13 k0_h15 => k0_hw20.2.2.2.2.2.2.2.2.2.2.2 k0_h13 k0_h15 (k0_off124_inb arg21 arg22 arg23 arg24 v3478 k0_hw20 k0_h13 k0_h15)

def k0_mult2 (k0_t3 : Fin k0_t3_loop.trips) : BitVec 32 :=
  let c0_i32_761 : BitVec 32 := 0#32
  let c1_i32_762 : BitVec 32 := 1#32
  let arg14 : BitVec 32 := Scf.iv c0_i32_761 c1_i32_762 k0_t3
  let c32_i32_1839 : BitVec 32 := 32#32
  let v2469 : BitVec 32 := Scalar.muli arg14 c32_i32_1839
  v2469
def k0_off126 (k0_t3 : Fin k0_t3_loop.trips) : Fin 2 → Nat :=
  let c0_i32_761 : BitVec 32 := 0#32
  let c1_i32_762 : BitVec 32 := 1#32
  let arg14 : BitVec 32 := Scf.iv c0_i32_761 c1_i32_762 k0_t3
  let c32_i32_1839 : BitVec 32 := 32#32
  let v2469 : BitVec 32 := Scalar.muli arg14 c32_i32_1839
  let v2470 : BitVec 32 := v2469
  let v2471 : Index := Scalar.indexCast v2470
  let c0_1840 : Index := 0#32
  ![v2471.toNat, 0]
abbrev stage0_0 : Fin 1 → Memref sig .tc .smem S64 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64x4x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S64x4x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S64x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S64x1x4096 : Shape := ⟨3, ![64, 1, 4096]⟩
abbrev S64x8192x4x128 : Shape := ⟨4, ![64, 8192, 4, 128]⟩
abbrev S64x128x4 : Shape := ⟨3, ![64, 128, 4]⟩
abbrev S64 : Shape := ⟨1, ![64]⟩
abbrev S64x1x4x8x128 : Shape := ⟨5, ![64, 1, 4, 8, 128]⟩
abbrev S64x4x8192x1x8 : Shape := ⟨5, ![64, 4, 8192, 1, 8]⟩
abbrev S64x4x8x1x8192 : Shape := ⟨5, ![64, 4, 8, 1, 8192]⟩
abbrev S64x128x64x4 : Shape := ⟨4, ![64, 128, 64, 4]⟩
abbrev S64x8192x4 : Shape := ⟨3, ![64, 8192, 4]⟩
abbrev S64x4x8192 : Shape := ⟨3, ![64, 4, 8192]⟩
abbrev S64x4x1x1x8192 : Shape := ⟨5, ![64, 4, 1, 1, 8192]⟩
abbrev S_ : Shape := ⟨0, ![]⟩
abbrev S8192 : Shape := ⟨1, ![8192]⟩
abbrev S1x8192 : Shape := ⟨2, ![1, 8192]⟩
abbrev S64x1 : Shape := ⟨2, ![64, 1]⟩
abbrev S64x8192 : Shape := ⟨2, ![64, 8192]⟩
abbrev S64x1x1x1x8192 : Shape := ⟨5, ![64, 1, 1, 1, 8192]⟩
abbrev S64x4x8x1 : Shape := ⟨4, ![64, 4, 8, 1]⟩
abbrev S64x4x8x1x1 : Shape := ⟨5, ![64, 4, 8, 1, 1]⟩
abbrev S64x4x128x8x1 : Shape := ⟨5, ![64, 4, 128, 8, 1]⟩

abbrev nBuf : Space → Nat
  | .hbm => 57
  | .vmem => 4
  | .smem => 0
  | _ => 0

abbrev bufTy : (tb : Table) → Fin (tcTables nBuf tb) → BufTy
  | .hbm, ⟨0, _⟩ => ⟨S64x1x4096, .bf16⟩
  | .hbm, ⟨1, _⟩ => ⟨S64x8192x4x128, .fp8e4m3⟩
  | .hbm, ⟨2, _⟩ => ⟨S64x128x4, .f32⟩
  | .hbm, ⟨3, _⟩ => ⟨S64x8192x4x128, .fp8e4m3⟩
  | .hbm, ⟨4, _⟩ => ⟨S64x128x4, .f32⟩
  | .hbm, ⟨5, _⟩ => ⟨S64, .i32⟩
  | .hbm, ⟨6, _⟩ => ⟨S64x8192x4x128, .bf16⟩
  | .hbm, ⟨7, _⟩ => ⟨S64x8192x4x128, .bf16⟩
  | .hbm, ⟨8, _⟩ => ⟨S64x1x4x8x128, .bf16⟩
  | .hbm, ⟨9, _⟩ => ⟨S64x4x8192x1x8, .f32⟩
  | .hbm, ⟨10, _⟩ => ⟨S64x4x8x1x8192, .f32⟩
  | .hbm, ⟨11, _⟩ => ⟨S64x128x64x4, .f32⟩
  | .hbm, ⟨12, _⟩ => ⟨S64x8192x4, .f32⟩
  | .hbm, ⟨13, _⟩ => ⟨S64x4x8192, .f32⟩
  | .hbm, ⟨14, _⟩ => ⟨S64x4x1x1x8192, .f32⟩
  | .hbm, ⟨15, _⟩ => ⟨S64x4x8x1x8192, .f32⟩
  | .hbm, ⟨16, _⟩ => ⟨S64x4x8x1x8192, .f32⟩
  | .hbm, ⟨17, _⟩ => ⟨S_, .f32⟩
  | .hbm, ⟨18, _⟩ => ⟨S64x4x8x1x8192, .f32⟩
  | .hbm, ⟨19, _⟩ => ⟨S64x4x8x1x8192, .f32⟩
  | .hbm, ⟨20, _⟩ => ⟨S8192, .i32⟩
  | .hbm, ⟨21, _⟩ => ⟨S1x8192, .i32⟩
  | .hbm, ⟨22, _⟩ => ⟨S64x1, .i32⟩
  | .hbm, ⟨23, _⟩ => ⟨S64x8192, .i32⟩
  | .hbm, ⟨24, _⟩ => ⟨S64x8192, .i32⟩
  | .hbm, ⟨25, _⟩ => ⟨S64x8192, .i1⟩
  | .hbm, ⟨26, _⟩ => ⟨S64x1x1x1x8192, .i1⟩
  | .hbm, ⟨27, _⟩ => ⟨S_, .f32⟩
  | .hbm, ⟨28, _⟩ => ⟨S_, .f32⟩
  | .hbm, ⟨29, _⟩ => ⟨S64x4x8x1x8192, .i1⟩
  | .hbm, ⟨30, _⟩ => ⟨S64x4x8x1x8192, .f32⟩
  | .hbm, ⟨31, _⟩ => ⟨S64x4x8x1x8192, .f32⟩
  | .hbm, ⟨32, _⟩ => ⟨S_, .f32⟩
  | .hbm, ⟨33, _⟩ => ⟨S64x4x8x1, .f32⟩
  | .hbm, ⟨34, _⟩ => ⟨S64x4x8x1x1, .f32⟩
  | .hbm, ⟨35, _⟩ => ⟨S64x4x8x1x8192, .f32⟩
  | .hbm, ⟨36, _⟩ => ⟨S64x4x8x1x8192, .f32⟩
  | .hbm, ⟨37, _⟩ => ⟨S64x4x8x1x8192, .f32⟩
  | .hbm, ⟨38, _⟩ => ⟨S_, .f32⟩
  | .hbm, ⟨39, _⟩ => ⟨S64x4x8x1, .f32⟩
  | .hbm, ⟨40, _⟩ => ⟨S64x4x8x1x1, .f32⟩
  | .hbm, ⟨41, _⟩ => ⟨S_, .f32⟩
  | .hbm, ⟨42, _⟩ => ⟨S64x4x8x1x1, .f32⟩
  | .hbm, ⟨43, _⟩ => ⟨S64x4x8x1x1, .f32⟩
  | .hbm, ⟨44, _⟩ => ⟨S64x4x8x1x8192, .f32⟩
  | .hbm, ⟨45, _⟩ => ⟨S64x4x8x1x8192, .f32⟩
  | .hbm, ⟨46, _⟩ => ⟨S64x128x64x4, .f32⟩
  | .hbm, ⟨47, _⟩ => ⟨S64x8192x4, .f32⟩
  | .hbm, ⟨48, _⟩ => ⟨S64x4x8192, .f32⟩
  | .hbm, ⟨49, _⟩ => ⟨S64x4x1x1x8192, .f32⟩
  | .hbm, ⟨50, _⟩ => ⟨S64x4x8x1x8192, .f32⟩
  | .hbm, ⟨51, _⟩ => ⟨S64x4x8x1x8192, .f32⟩
  | .hbm, ⟨52, _⟩ => ⟨S64x4x8x1x8192, .bf16⟩
  | .hbm, ⟨53, _⟩ => ⟨S64x4x128x8x1, .f32⟩
  | .hbm, ⟨54, _⟩ => ⟨S64x1x4x8x128, .f32⟩
  | .hbm, ⟨55, _⟩ => ⟨S64x1x4096, .f32⟩
  | .hbm, ⟨56, _⟩ => ⟨S64x1x4096, .bf16⟩
  | .local _ .vmem, ⟨0, _⟩ => ⟨S64x8192x4x128, .fp8e4m3⟩
  | .local _ .vmem, ⟨1, _⟩ => ⟨S64x8192x4x128, .fp8e4m3⟩
  | .local _ .vmem, ⟨2, _⟩ => ⟨S64x8192x4x128, .bf16⟩
  | .local _ .vmem, ⟨3, _⟩ => ⟨S64x8192x4x128, .bf16⟩
  | _, _ => ⟨S64x1x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_0 : Ref sig .tc := ⟨.hbm, 27, rfl⟩
abbrev main_call0_v0 : Ref sig .tc := ⟨.hbm, 28, rfl⟩
abbrev main_call0_v1 : Ref sig .tc := ⟨.hbm, 29, rfl⟩
abbrev main_call0_v2 : Ref sig .tc := ⟨.hbm, 30, rfl⟩
abbrev main_v19 : Ref sig .tc := ⟨.hbm, 31, rfl⟩
abbrev main_cst_1 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_2 : Ref sig .tc := ⟨.hbm, 38, rfl⟩
abbrev main_v25 : Ref sig .tc := ⟨.hbm, 39, rfl⟩
abbrev main_v26 : Ref sig .tc := ⟨.hbm, 40, rfl⟩
abbrev main_cst_3 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S64x8192x4x128 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x8192x4x128 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64x8192x4x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S64x8192x4x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Proof.Kernel.Prog.lean ====
/- The kernel function as a structured program: the transfers' issue, a tile and a trip of the score
   loop, of the exponential loop and of the value loop, one sequence, the fill of the query rows, the
   copy of the output rows, and the whole, each equal to the printed function by unfolding. -/
module

public import proofs.«01_k».proof.Proof.Gen.Kernel.Skeleton

@[expose] public section

set_option maxRecDepth 65536

noncomputable section

namespace Cert.Proof.Kernel

open Cert.Kernel Cert.Kernel.Gen
open Idealize.ShloMosaic Idealize.SL.Sem

variable {F : FTy → Type} [FloatOps F]

/-- The kernel's operands and scratch buffers, each with the fact that it is a whole buffer, and the
   ring's semaphores. -/
structure Bufs where
  arg0 : Memref sig .tc .smem S64 .i32
  harg0 : arg0.IsWhole
  arg1 : Memref sig .tc .vmem S64x4096 .bf16
  harg1 : arg1.IsWhole
  arg2 : Memref sig .tc .hbm S64x128x256x128 .fp8e4m3
  harg2 : arg2.IsWhole
  arg3 : Memref sig .tc .vmem S64x4x128 .f32
  harg3 : arg3.IsWhole
  arg4 : Memref sig .tc .hbm S64x128x256x128 .fp8e4m3
  harg4 : arg4.IsWhole
  arg5 : Memref sig .tc .vmem S64x4x128 .f32
  harg5 : arg5.IsWhole
  arg6 : Memref sig .tc .vmem S64x4096 .bf16
  harg6 : arg6.IsWhole
  arg7 : Memref sig .tc .vmem S24x16x256x128 .fp8e4m3
  harg7 : arg7.IsWhole
  arg8 : Memref sig .tc .vmem S2048x128 .f32
  harg8 : arg8.IsWhole
  arg9 : Memref sig .tc .vmem S2048x128 .f32
  harg9 : arg9.IsWhole
  arg10 : Memref sig .tc .vmem S256x8x128 .f32
  harg10 : arg10.IsWhole
  arg11 : Memref sig .tc .vmem S128x128 .f32
  harg11 : arg11.IsWhole
  arg12 : Memref sig .tc .vmem S128x128 .f32
  harg12 : arg12.IsWhole
  arg13 : DmaSems sig S24

variable (B : Bufs)

/-- The slot after `slot`, round the ring of twenty-four. -/
def slotNext (slot : BitVec 32) : BitVec 32 :=
  Scalar.select (Scalar.cmpi .eq (Scalar.addi slot 1#32) 24#32) 0#32 (Scalar.addi slot 1#32)

/-- One issue: the next chunk transfer starts if a sequence is left, and the state moves on. -/
def issue (b k c sl : BitVec 32) (hw2 : k0_chk2 b k sl) (hw1 : k0_chk1 b) :
    Prog (TpuEff nD τ sig (Elt F) Λ₀ .tc) (BitVec 32 × BitVec 32 × BitVec 32 × BitVec 32) :=
  if h1 : k0_cond1 b = 1#1 then do
    let ⟨last, c', k', w⟩ : Σ' (_ : BitVec 1) (_ : BitVec 32) (_ : BitVec 32), BitVec 1 ←
      k0_part1 B.arg0 B.harg0 B.arg1 B.harg1 B.arg2 B.harg2 B.arg3 B.harg3 B.arg4 B.harg4 B.arg5 B.harg5 B.arg6 B.harg6 B.arg7 B.harg7 B.arg8 B.harg8 B.arg9 B.harg9 B.arg10 B.harg10 B.arg11 B.harg11 B.arg12 B.harg12 B.arg13 b k c sl hw2 hw1 h1
    pure (Scalar.select (Scalar.andi last w) (Scalar.addi b 1#32) b, k', c', slotNext sl)
  else do
    pure (b, k, c, sl)

/-- The issue of the score loop. -/
def issueK (b k c sl : BitVec 32) (hw2 : k0_chk7 b k sl) (hw1 : k0_chk6 b) :
    Prog (TpuEff nD τ sig (Elt F) Λ₀ .tc) (BitVec 32 × BitVec 32 × BitVec 32 × BitVec 32) :=
  if h1 : k0_cond4 b = 1#1 then do
    let ⟨last, c', k', w⟩ : Σ' (_ : BitVec 1) (_ : BitVec 32) (_ : BitVec 32), BitVec 1 ←
      k0_part2 B.arg0 B.harg0 B.arg1 B.harg1 B.arg2 B.harg2 B.arg3 B.harg3 B.arg4 B.harg4 B.arg5 B.harg5 B.arg6 B.harg6 B.arg7 B.harg7 B.arg8 B.harg8 B.arg9 B.harg9 B.arg10 B.harg10 B.arg11 B.harg11 B.arg12 B.harg12 B.arg13 b k c sl hw2 hw1 h1
    pure (Scalar.select (Scalar.andi last w) (Scalar.addi b 1#32) b, k', c', slotNext sl)
  else do
    pure (b, k, c, sl)

/-- The issue of the value loop. -/
def issueV (b k c sl : BitVec 32) (hw2 : k0_chk15 b k sl) (hw1 : k0_chk14 b) :
    Prog (TpuEff nD τ sig (Elt F) Λ₀ .tc) (BitVec 32 × BitVec 32 × BitVec 32 × BitVec 32) :=
  if h1 : k0_cond10 b = 1#1 then do
    let ⟨last, c', k', w⟩ : Σ' (_ : BitVec 1) (_ : BitVec 32) (_ : BitVec 32), BitVec 1 ←
      k0_part62 B.arg0 B.harg0 B.arg1 B.harg1 B.arg2 B.harg2 B.arg3 B.harg3 B.arg4 B.harg4 B.arg5 B.harg5 B.arg6 B.harg6 B.arg7 B.harg7 B.arg8 B.harg8 B.arg9 B.harg9 B.arg10 B.harg10 B.arg11 B.harg11 B.arg12 B.harg12 B.arg13 b k c sl hw2 hw1 h1
    pure (Scalar.select (Scalar.andi last w) (Scalar.addi b 1#32) b, k', c', slotNext sl)
  else do
    pure (b, k, c, sl)

set_option maxHeartbeats 0 in
/-- The score loop issues as the first loop does. -/
theorem issueK_eq (b k c sl : BitVec 32) (hw2 : k0_chk2 b k sl) (hw1 : k0_chk1 b) :
    issueK (F := F) B b k c sl hw2 hw1 = issue (F := F) B b k c sl hw2 hw1 := by
  rfl

set_option maxHeartbeats 0 in
/-- The value loop issues as the first loop does. -/
theorem issueV_eq (b k c sl : BitVec 32) (hw2 : k0_chk2 b k sl) (hw1 : k0_chk1 b) :
    issueV (F := F) B b k c sl hw2 hw1 = issue (F := F) B b k c sl hw2 hw1 := by
  rfl

/-- One of four vectors, picked lane by lane by the head. -/
def sel4 (v16 : IVec S8x128 32) (a b c d : FVec F S8x128 .f32) : FVec F S8x128 .f32 :=
  select (cmpi .eq v16 (broadcast S8x128 3#32)) d
    (select (cmpi .eq v16 (broadcast S8x128 2#32)) c
      (select (cmpi .eq v16 (broadcast S8x128 1#32)) b a))

/-- A scaled and masked score vector. -/
def scoreVec (v16 v41 : IVec S8x128 32) (len blk j32 : BitVec 32) (sc : Vec F S1x128 .f32)
    (a b c d : FVec F S8x128 .f32) : FVec F S8x128 .f32 :=
  select (cmpi .slt v41 (broadcast S8x128
      (Scalar.subi len (Scalar.addi (Scalar.muli blk 64#32) j32))))
    (mulf (sel4 v16 a b c d) (broadcastTo S8x128 sc broadcasts_S1x128_S8x128))
    (broadcast S8x128 (Scalar.ofBits .f32 0xFF800000#32))

/-- The scores of block 0 of a tile, token half 0. -/
def score00 (v16 v41 : IVec S8x128 32) (len blk : BitVec 32) (s : FVec F S64x256 .f32)
    (sc : Vec F S1x128 .f32) : FVec F S8x128 .f32 :=
  scoreVec v16 v41 len (Scalar.addi blk 0#32) 0#32 sc
      (extractStridedSlice S8x128 ![0, 0] s slices_S64x256_o0_0_S8x128)
      (extractStridedSlice S8x128 ![8, 0] s slices_S64x256_o8_0_S8x128)
      (extractStridedSlice S8x128 ![16, 0] s slices_S64x256_o16_0_S8x128)
      (extractStridedSlice S8x128 ![24, 0] s slices_S64x256_o24_0_S8x128)

/-- The scores of block 0 of a tile, token half 1. -/
def score01 (v16 v41 : IVec S8x128 32) (len blk : BitVec 32) (s : FVec F S64x256 .f32)
    (sc : Vec F S1x128 .f32) : FVec F S8x128 .f32 :=
  scoreVec v16 v41 len (Scalar.addi blk 0#32) 32#32 sc
      (extractStridedSlice S8x128 ![0, 128] s slices_S64x256_o0_128_S8x128)
      (extractStridedSlice S8x128 ![8, 128] s slices_S64x256_o8_128_S8x128)
      (extractStridedSlice S8x128 ![16, 128] s slices_S64x256_o16_128_S8x128)
      (extractStridedSlice S8x128 ![24, 128] s slices_S64x256_o24_128_S8x128)

/-- The scores of block 1 of a tile, token half 0. -/
def score10 (v16 v41 : IVec S8x128 32) (len blk : BitVec 32) (s : FVec F S64x256 .f32)
    (sc : Vec F S1x128 .f32) : FVec F S8x128 .f32 :=
  scoreVec v16 v41 len (Scalar.addi blk 1#32) 0#32 sc
      (extractStridedSlice S8x128 ![32, 0] s slices_S64x256_o32_0_S8x128)
      (extractStridedSlice S8x128 ![40, 0] s slices_S64x256_o40_0_S8x128)
      (extractStridedSlice S8x128 ![48, 0] s slices_S64x256_o48_0_S8x128)
      (extractStridedSlice S8x128 ![56, 0] s slices_S64x256_o56_0_S8x128)

/-- The scores of block 1 of a tile, token half 1. -/
def score11 (v16 v41 : IVec S8x128 32) (len blk : BitVec 32) (s : FVec F S64x256 .f32)
    (sc : Vec F S1x128 .f32) : FVec F S8x128 .f32 :=
  scoreVec v16 v41 len (Scalar.addi blk 1#32) 32#32 sc
      (extractStridedSlice S8x128 ![32, 128] s slices_S64x256_o32_128_S8x128)
      (extractStridedSlice S8x128 ![40, 128] s slices_S64x256_o40_128_S8x128)
      (extractStridedSlice S8x128 ![48, 128] s slices_S64x256_o48_128_S8x128)
      (extractStridedSlice S8x128 ![56, 128] s slices_S64x256_o56_128_S8x128)

/-- One tile of the score loop: two blocks of keys against the queries, four score vectors stored. -/
def tileK (v16 v41 : IVec S8x128 32) (t3 : Fin k0_t3_loop.trips) (len v2354 : Elt F .i32)
    (hw4 : k0_chk4 t3 v2354) (qq : FVec F S64x256 .bf16) (t4 : Fin (k0_t4_loop v2354).trips) (r : Fin 8)
    (oA : Fin 4 → Nat) (hA : ∀ a, oA a + S1x1x256x128.size a ≤ S24x16x256x128.size a)
    (oB : Fin 4 → Nat) (hB : ∀ a, oB a + S1x1x256x128.size a ≤ S24x16x256x128.size a)
    (m : FVec F S8x128 .f32) :
    Prog (TpuEff nD τ sig (Elt F) Λ₀ .tc) (FVec F S8x128 .f32) := do
  let blk : BitVec 32 := Scalar.addi (Scalar.muli (Scf.iv 0#32 1#32 t4) 16#32) (BitVec.ofNat 32 (2 * r.val))
  let kA : Vec F S1x1x256x128 .fp8e4m3 ← Prog.lift (.load B.arg7 (Rect.unit (s := S24x16x256x128) oA
    S1x1x256x128.size hA).toLoadRect (View.loadsAt_vmem h_S1x1x256x128))
  let kB : Vec F S1x1x256x128 .fp8e4m3 ← Prog.lift (.load B.arg7 (Rect.unit (s := S24x16x256x128) oB
    S1x1x256x128.size hB).toLoadRect (View.loadsAt_vmem h_S1x1x256x128))
  let s : FVec F S64x256 .f32 := k0_pay4 qq kA kB
  let sc0 : Vec F S1x128 .f32 ← Prog.lift (.load B.arg11 (Rect.unit (s := S128x128)
    (k0_off17 v2354 t4 (BitVec.ofNat 32 (2 * r.val)) 0#32) S1x128.size
    (k0_off17_inb t3 v2354 hw4 t4 r 0)).toLoadRect (View.loadsAt_vmem h_S1x128))
  let _ : Vec F S1x8x128 .f32 ← Prog.lift (.load B.arg10 (Rect.unit (s := S256x8x128)
    (k0_off18 v2354 t4 (BitVec.ofNat 32 (2 * r.val)) 0#32 0#32) S1x8x128.size
    (k0_off18_inb t3 v2354 hw4 t4 r 0 0)).toLoadRect
    (View.loadsAt_vmem h_S1x8x128))
  Prog.lift (.store B.arg10 (Rect.unit (s := S256x8x128)
    (k0_off18 v2354 t4 (BitVec.ofNat 32 (2 * r.val)) 0#32 0#32) S1x8x128.size
    (k0_off18_inb t3 v2354 hw4 t4 r 0 0))
    (shapeCast S1x8x128 (score00 v16 v41 len blk s sc0) shapeCasts_S8x128_S1x8x128) Finset.univ
    (View.stores_vmem_bits_univ h_S1x8x128 rfl) (.inl rfl))
  let _ : Vec F S1x8x128 .f32 ← Prog.lift (.load B.arg10 (Rect.unit (s := S256x8x128)
    (k0_off18 v2354 t4 (BitVec.ofNat 32 (2 * r.val)) 0#32 1#32) S1x8x128.size
    (k0_off18_inb t3 v2354 hw4 t4 r 0 1)).toLoadRect
    (View.loadsAt_vmem h_S1x8x128))
  Prog.lift (.store B.arg10 (Rect.unit (s := S256x8x128)
    (k0_off18 v2354 t4 (BitVec.ofNat 32 (2 * r.val)) 0#32 1#32) S1x8x128.size
    (k0_off18_inb t3 v2354 hw4 t4 r 0 1))
    (shapeCast S1x8x128 (score01 v16 v41 len blk s sc0) shapeCasts_S8x128_S1x8x128) Finset.univ
    (View.stores_vmem_bits_univ h_S1x8x128 rfl) (.inl rfl))
  let sc1 : Vec F S1x128 .f32 ← Prog.lift (.load B.arg11 (Rect.unit (s := S128x128)
    (k0_off17 v2354 t4 (BitVec.ofNat 32 (2 * r.val)) 1#32) S1x128.size
    (k0_off17_inb t3 v2354 hw4 t4 r 1)).toLoadRect (View.loadsAt_vmem h_S1x128))
  let _ : Vec F S1x8x128 .f32 ← Prog.lift (.load B.arg10 (Rect.unit (s := S256x8x128)
    (k0_off18 v2354 t4 (BitVec.ofNat 32 (2 * r.val)) 1#32 0#32) S1x8x128.size
    (k0_off18_inb t3 v2354 hw4 t4 r 1 0)).toLoadRect
    (View.loadsAt_vmem h_S1x8x128))
  Prog.lift (.store B.arg10 (Rect.unit (s := S256x8x128)
    (k0_off18 v2354 t4 (BitVec.ofNat 32 (2 * r.val)) 1#32 0#32) S1x8x128.size
    (k0_off18_inb t3 v2354 hw4 t4 r 1 0))
    (shapeCast S1x8x128 (score10 v16 v41 len blk s sc1) shapeCasts_S8x128_S1x8x128) Finset.univ
    (View.stores_vmem_bits_univ h_S1x8x128 rfl) (.inl rfl))
  let _ : Vec F S1x8x128 .f32 ← Prog.lift (.load B.arg10 (Rect.unit (s := S256x8x128)
    (k0_off18 v2354 t4 (BitVec.ofNat 32 (2 * r.val)) 1#32 1#32) S1x8x128.size
    (k0_off18_inb t3 v2354 hw4 t4 r 1 1)).toLoadRect
    (View.loadsAt_vmem h_S1x8x128))
  Prog.lift (.store B.arg10 (Rect.unit (s := S256x8x128)
    (k0_off18 v2354 t4 (BitVec.ofNat 32 (2 * r.val)) 1#32 1#32) S1x8x128.size
    (k0_off18_inb t3 v2354 hw4 t4 r 1 1))
    (shapeCast S1x8x128 (score11 v16 v41 len blk s sc1) shapeCasts_S8x128_S1x8x128) Finset.univ
    (View.stores_vmem_bits_univ h_S1x8x128 rfl) (.inl rfl))
  pure (maximumf (maximumf (maximumf (maximumf m (score00 v16 v41 len blk s sc0)) (score01 v16 v41 len blk s sc0)) (score10 v16 v41 len blk s sc1)) (score11 v16 v41 len blk s sc1))

/-- One trip of the score loop: the wait, eight tiles, one issue. -/
def kTrip (v16 v41 : IVec S8x128 32) (t3 : Fin k0_t3_loop.trips) (len v2354 : Elt F .i32)
    (hw4 : k0_chk4 t3 v2354) (qq : FVec F S64x256 .bf16) :
    Fin (k0_t4_loop v2354).trips → BitVec 32 × BitVec 32 × BitVec 32 × BitVec 32 × BitVec 32 × FVec F S8x128 .f32 →
    Prog (TpuEff nD τ sig (Elt F) Λ₀ .tc) (BitVec 32 × BitVec 32 × BitVec 32 × BitVec 32 × BitVec 32 × FVec F S8x128 .f32) :=
  fun t4 (b, k, c, sl, slot, m) => do
    have hw7 : k0_chk7 b k sl := (← Prog.lift (TpuEff.assume (k0_chk7 b k sl) (k0_chk7.dec b k sl))).down
    have hw6 : k0_chk6 b := (← Prog.lift (TpuEff.assume (k0_chk6 b) (k0_chk6.dec b))).down
    have hw5 : k0_chk5 v2354 t4 slot :=
      (← Prog.lift (TpuEff.assume (k0_chk5 v2354 t4 slot) (k0_chk5.dec v2354 t4 slot))).down
    Prog.lift (.waitDma ((B.arg13.slice (Rect.unit (s := S24) (k0_off12 slot) S1.size
      (k0_off12_inb v2354 t4 slot hw5))).squeeze S_ squeezes_S1_S_).sem B.arg7.view.ref
      (⟨3, k0_sz5 v2354 t4⟩ : Shape) .fp8e4m3 (Or.inl rfl))
    let m0 ← tileK B v16 v41 t3 len v2354 hw4 qq t4 0 (k0_off15 slot) (k0_off15_inb v2354 t4 slot hw5)
      (k0_off16 slot) (k0_off16_inb v2354 t4 slot hw5) m
    let m1 ← tileK B v16 v41 t3 len v2354 hw4 qq t4 1 (k0_off19 slot) (k0_off19_inb v2354 t4 slot hw5)
      (k0_off20 slot) (k0_off20_inb v2354 t4 slot hw5) m0
    let m2 ← tileK B v16 v41 t3 len v2354 hw4 qq t4 2 (k0_off21 slot) (k0_off21_inb v2354 t4 slot hw5)
      (k0_off22 slot) (k0_off22_inb v2354 t4 slot hw5) m1
    let m3 ← tileK B v16 v41 t3 len v2354 hw4 qq t4 3 (k0_off23 slot) (k0_off23_inb v2354 t4 slot hw5)
      (k0_off24 slot) (k0_off24_inb v2354 t4 slot hw5) m2
    let m4 ← tileK B v16 v41 t3 len v2354 hw4 qq t4 4 (k0_off25 slot) (k0_off25_inb v2354 t4 slot hw5)
      (k0_off26 slot) (k0_off26_inb v2354 t4 slot hw5) m3
    let m5 ← tileK B v16 v41 t3 len v2354 hw4 qq t4 5 (k0_off27 slot) (k0_off27_inb v2354 t4 slot hw5)
      (k0_off28 slot) (k0_off28_inb v2354 t4 slot hw5) m4
    let m6 ← tileK B v16 v41 t3 len v2354 hw4 qq t4 6 (k0_off29 slot) (k0_off29_inb v2354 t4 slot hw5)
      (k0_off30 slot) (k0_off30_inb v2354 t4 slot hw5) m5
    let m7 ← tileK B v16 v41 t3 len v2354 hw4 qq t4 7 (k0_off31 slot) (k0_off31_inb v2354 t4 slot hw5)
      (k0_off32 slot) (k0_off32_inb v2354 t4 slot hw5) m6
    let (b', k', c', sl') : BitVec 32 × BitVec 32 × BitVec 32 × BitVec 32 ← issueK B b k c sl hw7 hw6
    pure (b', k', c', sl', slotNext slot, m7)

set_option maxHeartbeats 0 in
theorem kTrip_eq (v16 v41 : IVec S8x128 32) (t3 : Fin k0_t3_loop.trips)
    (b k c sl slot x : BitVec 32) (len v2354 : Elt F .i32)
    (hw4 : k0_chk4 t3 v2354) (y z : BitVec 32) (q : Vec F S32x128 .f32)
    (t4 : Fin (k0_t4_loop v2354).trips) (b1 k1 c1 sl1 slot1 : BitVec 32) (m : FVec F S8x128 .f32) :
    k0_t4_body (F := F) B.arg0 B.harg0 B.arg1 B.harg1 B.arg2 B.harg2 B.arg3 B.harg3 B.arg4 B.harg4 B.arg5 B.harg5 B.arg6 B.harg6 B.arg7 B.harg7 B.arg8 B.harg8 B.arg9 B.harg9 B.arg10 B.harg10 B.arg11 B.harg11 B.arg12 B.harg12 B.arg13
      v16 v41 t3 b k c sl slot x len v2354 hw4 y z q t4 (b1, k1, c1, sl1, slot1, m)
      = kTrip B v16 v41 t3 len v2354 hw4 (k0_pay450 q) t4 (b1, k1, c1, sl1, slot1, m) := by
  repeat refine congrArg (Prog.op _) (funext fun x0 => ?_)
  by_cases h : k0_cond4 b1 = 1#1
  · refine (dif_pos h).trans ?_
    refine Eq.trans ?_ (congrArg (fun z => Prog.bind z _)
      (dif_pos h : issueK B b1 k1 c1 sl1 _ _ = _)).symm
    refine Eq.trans ?_ (Prog.bind_assoc _ _ _).symm
    refine congrArg (Prog.bind _) (funext fun x => ?_)
    obtain ⟨x1, x2, x3, x4⟩ := x
    rfl
  · refine (dif_neg h).trans ?_
    refine Eq.trans ?_ (congrArg (fun z => Prog.bind z _)
      (dif_neg h : issueK B b1 k1 c1 sl1 _ _ = _)).symm
    rfl

/-- One row of exponentials. -/
def expRow (mx : FVec F S8x128 .f32) (x : Vec F S1x8x128 .f32) : FVec F S8x128 .f32 :=
  exp (subf (shapeCast S8x128 x shapeCasts_S1x8x128_S8x128) mx)

/-- One step of the exponential loop: a row of scores becomes a row of exponentials, summed up. -/
def expStep (t3 : Fin k0_t3_loop.trips) (v2354 : Elt F .i32) (hw4 : k0_chk4 t3 v2354)
    (mx : FVec F S8x128 .f32) (t6 : Fin (k0_t6_loop v2354).trips) (r : Fin 8) (l : FVec F S8x128 .f32) :
    Prog (TpuEff nD τ sig (Elt F) Λ₀ .tc) (FVec F S8x128 .f32) := do
  let x : Vec F S1x8x128 .f32 ← Prog.lift (.load B.arg10 (Rect.unit (s := S256x8x128)
    (k0_off68 v2354 t6 (BitVec.ofNat 32 r.val)) S1x8x128.size (k0_off68_inb t3 v2354 hw4 t6 r)).toLoadRect
    (View.loadsAt_vmem h_S1x8x128))
  let _ : Vec F S1x8x128 .f32 ← Prog.lift (.load B.arg10 (Rect.unit (s := S256x8x128)
    (k0_off68 v2354 t6 (BitVec.ofNat 32 r.val)) S1x8x128.size (k0_off68_inb t3 v2354 hw4 t6 r)).toLoadRect
    (View.loadsAt_vmem h_S1x8x128))
  Prog.lift (.store B.arg10 (Rect.unit (s := S256x8x128)
    (k0_off68 v2354 t6 (BitVec.ofNat 32 r.val)) S1x8x128.size (k0_off68_inb t3 v2354 hw4 t6 r))
    (shapeCast S1x8x128 (expRow mx x) shapeCasts_S8x128_S1x8x128) Finset.univ
    (View.stores_vmem_bits_univ h_S1x8x128 rfl) (.inl rfl))
  pure (addf l (expRow mx x))

/-- One trip of the exponential loop: eight rows. -/
def expTrip (t3 : Fin k0_t3_loop.trips) (v2354 : Elt F .i32) (hw4 : k0_chk4 t3 v2354)
    (mx : FVec F S8x128 .f32) (t6 : Fin (k0_t6_loop v2354).trips) (l : FVec F S8x128 .f32) :
    Prog (TpuEff nD τ sig (Elt F) Λ₀ .tc) (FVec F S8x128 .f32) := do
  let l0 ← expStep B t3 v2354 hw4 mx t6 0 l
  let l1 ← expStep B t3 v2354 hw4 mx t6 1 l0
  let l2 ← expStep B t3 v2354 hw4 mx t6 2 l1
  let l3 ← expStep B t3 v2354 hw4 mx t6 3 l2
  let l4 ← expStep B t3 v2354 hw4 mx t6 4 l3
  let l5 ← expStep B t3 v2354 hw4 mx t6 5 l4
  let l6 ← expStep B t3 v2354 hw4 mx t6 6 l5
  let l7 ← expStep B t3 v2354 hw4 mx t6 7 l6
  pure l7

set_option maxHeartbeats 0 in
theorem expTrip_eq (v16 : IVec S8x128 32) (t3 : Fin k0_t3_loop.trips) (x : BitVec 32) (v2354 : Elt F .i32)
    (hw4 : k0_chk4 t3 v2354) (y z b k c sl slot : BitVec 32) (m : FVec F S8x128 .f32)
    (t6 : Fin (k0_t6_loop v2354).trips) (l : FVec F S8x128 .f32) :
    k0_t6_body (F := F) B.arg0 B.harg0 B.arg1 B.harg1 B.arg2 B.harg2 B.arg3 B.harg3 B.arg4 B.harg4 B.arg5 B.harg5 B.arg6 B.harg6 B.arg7 B.harg7 B.arg8 B.harg8 B.arg9 B.harg9 B.arg10 B.harg10 B.arg11 B.harg11 B.arg12 B.harg12 B.arg13
      v16 t3 x v2354 hw4 y z b k c sl slot m t6 l
      = expTrip B t3 v2354 hw4 (k0_pay459 m) t6 l := by
  repeat refine congrArg (Prog.op _) (funext fun x0 => ?_)
  rfl

/-- The weights of one row of exponentials: normalised and scaled. -/
def weight (inv : FVec F S8x128 .f32) (sc : Vec F S1x128 .f32) (e : Vec F S1x8x128 .f32) :
    FVec F S8x128 .f32 :=
  mulf (mulf (shapeCast S8x128 e shapeCasts_S1x8x128_S8x128) inv)
    (broadcastTo S8x128 sc broadcasts_S1x128_S8x128)

/-- The lanes of one head, the others zero. -/
def headOf (v16 : IVec S8x128 32) (h : BitVec 32) (p : FVec F S8x128 .f32) : FVec F S8x128 .f32 :=
  select (cmpi .eq v16 (broadcast S8x128 h)) p (broadcast S8x128 (Scalar.ofBits .f32 0x00000000#32))

/-- A row of weights spread over the four heads. -/
def spread (v16 : IVec S8x128 32) (p : FVec F S8x128 .f32) : FVec F S32x128 .f32 :=
  concatenate S32x128 0 [⟨S8x128, headOf v16 0#32 p⟩, ⟨S8x128, headOf v16 1#32 p⟩,
    ⟨S8x128, headOf v16 2#32 p⟩, ⟨S8x128, headOf v16 3#32 p⟩]
    concatenates_S8x128_S8x128_S8x128_S8x128_S32x128_d0

/-- The left operand of a tile's product with the values. -/
def lhsOf (v16 : IVec S8x128 32) (inv : FVec F S8x128 .f32)
    (sc0 : Vec F S1x128 .f32) (e00 e01 : Vec F S1x8x128 .f32)
    (sc1 : Vec F S1x128 .f32) (e10 e11 : Vec F S1x8x128 .f32) : FVec F S64x256 .bf16 :=
  truncf .bf16 (concatenate S64x256 0
    [⟨S32x256, concatenate S32x256 1 [⟨S32x128, spread v16 (weight inv sc0 e00)⟩,
      ⟨S32x128, spread v16 (weight inv sc0 e01)⟩] concatenates_S32x128_S32x128_S32x256_d1⟩,
     ⟨S32x256, concatenate S32x256 1 [⟨S32x128, spread v16 (weight inv sc1 e10)⟩,
      ⟨S32x128, spread v16 (weight inv sc1 e11)⟩] concatenates_S32x128_S32x128_S32x256_d1⟩]
    concatenates_S32x256_S32x256_S64x256_d0) bitsLt_bf16_f32

/-- The accumulator after one tile of the value loop. -/
def accStep (v16 : IVec S8x128 32) (inv : FVec F S8x128 .f32) (acc : FVec F S64x256 .f32)
    (kA kB : Vec F S1x1x256x128 .fp8e4m3)
    (sc0 : Vec F S1x128 .f32) (e00 e01 : Vec F S1x8x128 .f32)
    (sc1 : Vec F S1x128 .f32) (e10 e11 : Vec F S1x8x128 .f32) : FVec F S64x256 .f32 :=
  addf acc (matmul dot_S64x256_S256x256_S64x256_1_0_0_1_n_n none (lhsOf v16 inv sc0 e00 e01 sc1 e10 e11)
    (k0_pay292 kA kB) (constant S64x256 .f32 0x00000000#32))

/-- One tile of the value loop. -/
def tileV (v16 : IVec S8x128 32) (t3 : Fin k0_t3_loop.trips) (v2354 : Elt F .i32)
    (hw4 : k0_chk4 t3 v2354) (inv : FVec F S8x128 .f32) (t8 : Fin (k0_t8_loop v2354).trips) (r : Fin 8)
    (oA : Fin 4 → Nat) (hA : ∀ a, oA a + S1x1x256x128.size a ≤ S24x16x256x128.size a)
    (oB : Fin 4 → Nat) (hB : ∀ a, oB a + S1x1x256x128.size a ≤ S24x16x256x128.size a)
    (acc : FVec F S64x256 .f32) :
    Prog (TpuEff nD τ sig (Elt F) Λ₀ .tc) (FVec F S64x256 .f32) := do
  let kA : Vec F S1x1x256x128 .fp8e4m3 ← Prog.lift (.load B.arg7 (Rect.unit (s := S24x16x256x128) oA
    S1x1x256x128.size hA).toLoadRect (View.loadsAt_vmem h_S1x1x256x128))
  let kB : Vec F S1x1x256x128 .fp8e4m3 ← Prog.lift (.load B.arg7 (Rect.unit (s := S24x16x256x128) oB
    S1x1x256x128.size hB).toLoadRect (View.loadsAt_vmem h_S1x1x256x128))
  let sc0 : Vec F S1x128 .f32 ← Prog.lift (.load B.arg12 (Rect.unit (s := S128x128)
    (k0_off75 v2354 t8 (BitVec.ofNat 32 (2 * r.val)) 0#32) S1x128.size
    (k0_off75_inb t3 v2354 hw4 t8 r 0)).toLoadRect (View.loadsAt_vmem h_S1x128))
  let e00 : Vec F S1x8x128 .f32 ← Prog.lift (.load B.arg10 (Rect.unit (s := S256x8x128)
    (k0_off76 v2354 t8 (BitVec.ofNat 32 (2 * r.val)) 0#32 0#32) S1x8x128.size
    (k0_off76_inb t3 v2354 hw4 t8 r 0 0)).toLoadRect (View.loadsAt_vmem h_S1x8x128))
  let e01 : Vec F S1x8x128 .f32 ← Prog.lift (.load B.arg10 (Rect.unit (s := S256x8x128)
    (k0_off76 v2354 t8 (BitVec.ofNat 32 (2 * r.val)) 0#32 1#32) S1x8x128.size
    (k0_off76_inb t3 v2354 hw4 t8 r 0 1)).toLoadRect (View.loadsAt_vmem h_S1x8x128))
  let sc1 : Vec F S1x128 .f32 ← Prog.lift (.load B.arg12 (Rect.unit (s := S128x128)
    (k0_off75 v2354 t8 (BitVec.ofNat 32 (2 * r.val)) 1#32) S1x128.size
    (k0_off75_inb t3 v2354 hw4 t8 r 1)).toLoadRect (View.loadsAt_vmem h_S1x128))
  let e10 : Vec F S1x8x128 .f32 ← Prog.lift (.load B.arg10 (Rect.unit (s := S256x8x128)
    (k0_off76 v2354 t8 (BitVec.ofNat 32 (2 * r.val)) 1#32 0#32) S1x8x128.size
    (k0_off76_inb t3 v2354 hw4 t8 r 1 0)).toLoadRect (View.loadsAt_vmem h_S1x8x128))
  let e11 : Vec F S1x8x128 .f32 ← Prog.lift (.load B.arg10 (Rect.unit (s := S256x8x128)
    (k0_off76 v2354 t8 (BitVec.ofNat 32 (2 * r.val)) 1#32 1#32) S1x8x128.size
    (k0_off76_inb t3 v2354 hw4 t8 r 1 1)).toLoadRect (View.loadsAt_vmem h_S1x8x128))
  pure (accStep v16 inv acc kA kB sc0 e00 e01 sc1 e10 e11)

/-- One trip of the value loop: the wait, eight tiles, one issue. -/
def vTrip (v16 : IVec S8x128 32) (t3 : Fin k0_t3_loop.trips) (v2354 : Elt F .i32)
    (hw4 : k0_chk4 t3 v2354) (inv : FVec F S8x128 .f32) :
    Fin (k0_t8_loop v2354).trips → BitVec 32 × BitVec 32 × BitVec 32 × BitVec 32 × BitVec 32 × FVec F S64x256 .f32 →
    Prog (TpuEff nD τ sig (Elt F) Λ₀ .tc) (BitVec 32 × BitVec 32 × BitVec 32 × BitVec 32 × BitVec 32 × FVec F S64x256 .f32) :=
  fun t8 (b, k, c, sl, slot, a) => do
    have hw7 : k0_chk15 b k sl := (← Prog.lift (TpuEff.assume (k0_chk15 b k sl) (k0_chk15.dec b k sl))).down
    have hw6 : k0_chk14 b := (← Prog.lift (TpuEff.assume (k0_chk14 b) (k0_chk14.dec b))).down
    have hw5 : k0_chk13 v2354 t8 slot :=
      (← Prog.lift (TpuEff.assume (k0_chk13 v2354 t8 slot) (k0_chk13.dec v2354 t8 slot))).down
    Prog.lift (.waitDma ((B.arg13.slice (Rect.unit (s := S24) (k0_off70 slot) S1.size
      (k0_off70_inb v2354 t8 slot hw5))).squeeze S_ squeezes_S1_S_).sem B.arg7.view.ref
      (⟨3, k0_sz17 v2354 t8⟩ : Shape) .fp8e4m3 (Or.inl rfl))
    let a0 ← tileV B v16 t3 v2354 hw4 inv t8 0 (k0_off73 slot) (k0_off73_inb v2354 t8 slot hw5)
      (k0_off74 slot) (k0_off74_inb v2354 t8 slot hw5) a
    let a1 ← tileV B v16 t3 v2354 hw4 inv t8 1 (k0_off77 slot) (k0_off77_inb v2354 t8 slot hw5)
      (k0_off78 slot) (k0_off78_inb v2354 t8 slot hw5) a0
    let a2 ← tileV B v16 t3 v2354 hw4 inv t8 2 (k0_off79 slot) (k0_off79_inb v2354 t8 slot hw5)
      (k0_off80 slot) (k0_off80_inb v2354 t8 slot hw5) a1
    let a3 ← tileV B v16 t3 v2354 hw4 inv t8 3 (k0_off81 slot) (k0_off81_inb v2354 t8 slot hw5)
      (k0_off82 slot) (k0_off82_inb v2354 t8 slot hw5) a2
    let a4 ← tileV B v16 t3 v2354 hw4 inv t8 4 (k0_off83 slot) (k0_off83_inb v2354 t8 slot hw5)
      (k0_off84 slot) (k0_off84_inb v2354 t8 slot hw5) a3
    let a5 ← tileV B v16 t3 v2354 hw4 inv t8 5 (k0_off85 slot) (k0_off85_inb v2354 t8 slot hw5)
      (k0_off86 slot) (k0_off86_inb v2354 t8 slot hw5) a4
    let a6 ← tileV B v16 t3 v2354 hw4 inv t8 6 (k0_off87 slot) (k0_off87_inb v2354 t8 slot hw5)
      (k0_off88 slot) (k0_off88_inb v2354 t8 slot hw5) a5
    let a7 ← tileV B v16 t3 v2354 hw4 inv t8 7 (k0_off89 slot) (k0_off89_inb v2354 t8 slot hw5)
      (k0_off90 slot) (k0_off90_inb v2354 t8 slot hw5) a6
    let (b', k', c', sl') : BitVec 32 × BitVec 32 × BitVec 32 × BitVec 32 ← issueV B b k c sl hw7 hw6
    pure (b', k', c', sl', slotNext slot, a7)

set_option maxHeartbeats 0 in
theorem vTrip_eq (v16 : IVec S8x128 32) (t3 : Fin k0_t3_loop.trips)
    (b k c sl slot x : BitVec 32) (v2354 : Elt F .i32)
    (hw4 : k0_chk4 t3 v2354) (y z : BitVec 32) (m l : FVec F S8x128 .f32)
    (t8 : Fin (k0_t8_loop v2354).trips) (b1 k1 c1 sl1 slot1 : BitVec 32) (a : FVec F S64x256 .f32) :
    k0_t8_body (F := F) B.arg0 B.harg0 B.arg1 B.harg1 B.arg2 B.harg2 B.arg3 B.harg3 B.arg4 B.harg4 B.arg5 B.harg5 B.arg6 B.harg6 B.arg7 B.harg7 B.arg8 B.harg8 B.arg9 B.harg9 B.arg10 B.harg10 B.arg11 B.harg11 B.arg12 B.harg12 B.arg13
      v16 t3 x v2354 hw4 y z b k c sl slot m l t8 (b1, k1, c1, sl1, slot1, a)
      = vTrip B v16 t3 v2354 hw4 (k0_pay465 l) t8 (b1, k1, c1, sl1, slot1, a) := by
  repeat refine congrArg (Prog.op _) (funext fun x0 => ?_)
  by_cases h : k0_cond10 b1 = 1#1
  · refine (dif_pos h).trans ?_
    refine Eq.trans ?_ (congrArg (fun z => Prog.bind z _)
      (dif_pos h : issueV B b1 k1 c1 sl1 _ _ = _)).symm
    refine Eq.trans ?_ (Prog.bind_assoc _ _ _).symm
    refine congrArg (Prog.bind _) (funext fun x => ?_)
    obtain ⟨x1, x2, x3, x4⟩ := x
    rfl
  · refine (dif_neg h).trans ?_
    refine Eq.trans ?_ (congrArg (fun z => Prog.bind z _)
      (dif_neg h : issueV B b1 k1 c1 sl1 _ _ = _)).symm
    rfl

end Cert.Proof.Kernel
-- ==== Proof.Kernel.Words.lean ====
/- The words the kernel computes: block and chunk counts of a sequence, the rows of a chunk, the loops'
   trips and the offsets, in closed form for a length between 1 and 8192; and from these the side
   conditions the kernel assumes of its words. -/
module

public import proofs.«01_k».proof.Proof.Kernel.Prog
public import Idealize.ShloMosaic.Lib.LoopRemainder
public import Idealize.ShloMosaic.Lib.PairWhole

@[expose] public section

set_option maxRecDepth 65536

noncomputable section

namespace Cert.Proof.Kernel

open Cert.Kernel Cert.Kernel.Gen
open Idealize.ShloMosaic Idealize.SL.Sem

/-- The length of a sequence is in range. -/
def InLen (L : BitVec 32) : Prop := 1 ≤ L.toNat ∧ L.toNat ≤ 8192

/-- Floor division of a word by `d` as the kernel computes it. -/
def floorDivW (x d : BitVec 32) : BitVec 32 :=
  Scalar.select
    (Scalar.andi
      (Scalar.cmpi .ne
        (Scalar.subi (Scalar.extui (Scalar.cmpi .sgt x 0#32)) (Scalar.extui (Scalar.cmpi .slt x 0#32)))
        (Scalar.subi (Scalar.extui (Scalar.cmpi .sgt d 0#32)) (Scalar.extui (Scalar.cmpi .slt d 0#32))))
      (Scalar.cmpi .ne (Scalar.remsi x d) 0#32))
    (Scalar.subi (Scalar.divsi x d) 1#32) (Scalar.divsi x d)

/-- The blocks of a sequence, as a word. -/
def nbW (L : BitVec 32) : BitVec 32 := floorDivW (Scalar.addi L 63#32) 64#32
/-- The chunks of a sequence, as a word, from its blocks. -/
def ncW (nb : BitVec 32) : BitVec 32 := floorDivW (Scalar.subi (Scalar.addi nb 16#32) 1#32) 16#32
/-- The rows of chunk `c`, as a word. -/
def nW (nb c : BitVec 32) : BitVec 32 := Scalar.minsi (Scalar.subi nb (Scalar.muli c 16#32)) 16#32

/-- The blocks of a sequence of length `l`. -/
def nbN (l : ℕ) : ℕ := (l + 63) / 64
/-- The chunks of a sequence of length `l`. -/
def ncN (l : ℕ) : ℕ := (nbN l + 15) / 16
/-- The rows of chunk `c` of a sequence of length `l`. -/
def nN (l c : ℕ) : ℕ := min (nbN l - 16 * c) 16

theorem nbW_all : ∀ l : Fin 8193, 1 ≤ l.val → nbW (BitVec.ofNat 32 l.val) = BitVec.ofNat 32 ((l.val + 63) / 64) := by
  decide +kernel

theorem ncW_all : ∀ n : Fin 129, ncW (BitVec.ofNat 32 n.val) = BitVec.ofNat 32 ((n.val + 15) / 16) := by
  decide +kernel

theorem nW_all : ∀ n : Fin 129, ∀ c : Fin 8, 16 * c.val < n.val →
    (nW (BitVec.ofNat 32 n.val) (BitVec.ofNat 32 c.val)).toNat = min (n.val - 16 * c.val) 16 := by
  decide +kernel

theorem ofNat_of_toNat {w : BitVec 32} {n : ℕ} (h : w.toNat = n) : w = BitVec.ofNat 32 n := by
  subst h; simp

theorem nbW_eq {L : BitVec 32} (h : InLen L) : nbW L = BitVec.ofNat 32 (nbN L.toNat) := by
  have := nbW_all ⟨L.toNat, by have := h.2; omega⟩ h.1
  simpa [nbN] using this

theorem nbN_pos {l : ℕ} (h : 1 ≤ l) : 1 ≤ nbN l := by unfold nbN; omega
theorem nbN_le {l : ℕ} (h : l ≤ 8192) : nbN l ≤ 128 := by unfold nbN; omega
theorem ncN_pos {l : ℕ} (h : 1 ≤ l) : 1 ≤ ncN l := by unfold ncN nbN; omega
theorem ncN_le {l : ℕ} (h : l ≤ 8192) : ncN l ≤ 8 := by unfold ncN nbN; omega
theorem lt_nbN_of_lt_ncN {l c : ℕ} (h : c < ncN l) : 16 * c < nbN l := by unfold ncN at h; omega

theorem ncW_eq {L : BitVec 32} (h : InLen L) : ncW (nbW L) = BitVec.ofNat 32 (ncN L.toNat) := by
  rw [nbW_eq h]
  exact ncW_all ⟨nbN L.toNat, by have := nbN_le h.2; omega⟩

theorem nW_eq {L c : BitVec 32} (h : InLen L) (hc : c.toNat < ncN L.toNat) :
    (nW (nbW L) c).toNat = nN L.toNat c.toNat := by
  rw [nbW_eq h]
  have h1 := ncN_le h.2
  have := nW_all ⟨nbN L.toNat, by have := nbN_le h.2; omega⟩ ⟨c.toNat, by omega⟩ (lt_nbN_of_lt_ncN hc)
  simpa [nN] using this

theorem nN_pos {l c : ℕ} (h : c < ncN l) : 1 ≤ nN l c := by
  have := lt_nbN_of_lt_ncN h; unfold nN; omega
theorem nN_le (l c : ℕ) : nN l c ≤ 16 := by unfold nN; omega
theorem nN_add_le {l c : ℕ} (h : l ≤ 8192) (hc : c < ncN l) : 16 * c + nN l c ≤ 128 := by
  have := nbN_le h; have := lt_nbN_of_lt_ncN hc; unfold nN; omega

/-! ### The loops -/

theorem t4_loop_eq (L : BitVec 32) : k0_t4_loop L = ⟨0#32, Scalar.addi 0#32 (Scalar.muli (Scalar.divsi (Scalar.subi (ncW (nbW L)) 0#32) 1#32) 1#32), 1#32⟩ := rfl
theorem t8_loop_eq (L : BitVec 32) : k0_t8_loop L = ⟨0#32, Scalar.addi 0#32 (Scalar.muli (Scalar.divsi (Scalar.subi (ncW (nbW L)) 0#32) 1#32) 1#32), 1#32⟩ := rfl
theorem t6_loop_eq (L : BitVec 32) : k0_t6_loop L = ⟨0#32, Scalar.addi 0#32 (Scalar.muli (Scalar.divsi (Scalar.subi (Scalar.muli (ncW (nbW L)) 4#32) 0#32) 1#32) 1#32), 1#32⟩ := rfl

theorem upto_all : ∀ n : Fin 33, Scf.trips 0#32 (Scalar.addi 0#32 (Scalar.muli (Scalar.divsi (Scalar.subi (BitVec.ofNat 32 n.val) 0#32) 1#32) 1#32)) 1#32 = n.val
    ∧ Scf.OK 0#32 (Scalar.addi 0#32 (Scalar.muli (Scalar.divsi (Scalar.subi (BitVec.ofNat 32 n.val) 0#32) 1#32) 1#32)) 1#32
    ∧ Scf.OK (Scalar.addi 0#32 (Scalar.muli (Scalar.divsi (Scalar.subi (BitVec.ofNat 32 n.val) 0#32) 1#32) 1#32)) (Scalar.addi 0#32 (Scalar.subi (BitVec.ofNat 32 n.val) 0#32)) 1#32 := by
  decide +kernel

theorem mul4_all : ∀ n : Fin 9, Scalar.muli (BitVec.ofNat 32 n.val) 4#32 = BitVec.ofNat 32 (n.val * 4) := by
  decide +kernel

theorem t4_trips {L : BitVec 32} (h : InLen L) : (k0_t4_loop L).trips = ncN L.toNat := by
  show Scf.trips (k0_t4_loop L).lb (k0_t4_loop L).ub (k0_t4_loop L).st = _
  rw [t4_loop_eq, ncW_eq h]
  exact (upto_all ⟨ncN L.toNat, by have := ncN_le h.2; omega⟩).1
theorem t8_trips {L : BitVec 32} (h : InLen L) : (k0_t8_loop L).trips = ncN L.toNat := t4_trips h
theorem t6_trips {L : BitVec 32} (h : InLen L) : (k0_t6_loop L).trips = ncN L.toNat * 4 := by
  show Scf.trips (k0_t6_loop L).lb (k0_t6_loop L).ub (k0_t6_loop L).st = _
  rw [t6_loop_eq, ncW_eq h, mul4_all ⟨ncN L.toNat, by have := ncN_le h.2; omega⟩]
  exact (upto_all ⟨ncN L.toNat * 4, by have := ncN_le h.2; omega⟩).1
theorem t5_trips (L : BitVec 32) : (k0_t5_loop L).trips = 0 := Scf.rem_trips 0#32 (Scalar.subi (ncW (nbW L)) 0#32)
theorem t7_trips (L : BitVec 32) : (k0_t7_loop L).trips = 0 := Scf.rem_trips 0#32 (Scalar.subi (Scalar.muli (ncW (nbW L)) 4#32) 0#32)
theorem t9_trips (L : BitVec 32) : (k0_t9_loop L).trips = 0 := Scf.rem_trips 0#32 (Scalar.subi (ncW (nbW L)) 0#32)

theorem t4_ok {L : BitVec 32} (h : InLen L) : (k0_t4_loop L).OK := by
  show Scf.OK (k0_t4_loop L).lb (k0_t4_loop L).ub (k0_t4_loop L).st
  rw [t4_loop_eq, ncW_eq h]
  exact (upto_all ⟨ncN L.toNat, by have := ncN_le h.2; omega⟩).2.1
theorem t6_ok {L : BitVec 32} (h : InLen L) : (k0_t6_loop L).OK := by
  show Scf.OK (k0_t6_loop L).lb (k0_t6_loop L).ub (k0_t6_loop L).st
  rw [t6_loop_eq, ncW_eq h, mul4_all ⟨ncN L.toNat, by have := ncN_le h.2; omega⟩]
  exact (upto_all ⟨ncN L.toNat * 4, by have := ncN_le h.2; omega⟩).2.1
theorem t5_ok {L : BitVec 32} (h : InLen L) : (k0_t5_loop L).OK := by
  show Scf.OK (Scalar.addi 0#32 (Scalar.muli (Scalar.divsi (Scalar.subi (ncW (nbW L)) 0#32) 1#32) 1#32)) (Scalar.addi 0#32 (Scalar.subi (ncW (nbW L)) 0#32)) 1#32
  rw [ncW_eq h]
  exact (upto_all ⟨ncN L.toNat, by have := ncN_le h.2; omega⟩).2.2
theorem t7_ok {L : BitVec 32} (h : InLen L) : (k0_t7_loop L).OK := by
  show Scf.OK (Scalar.addi 0#32 (Scalar.muli (Scalar.divsi (Scalar.subi (Scalar.muli (ncW (nbW L)) 4#32) 0#32) 1#32) 1#32)) (Scalar.addi 0#32 (Scalar.subi (Scalar.muli (ncW (nbW L)) 4#32) 0#32)) 1#32
  rw [ncW_eq h, mul4_all ⟨ncN L.toNat, by have := ncN_le h.2; omega⟩]
  exact (upto_all ⟨ncN L.toNat * 4, by have := ncN_le h.2; omega⟩).2.2

/-! ### Offsets -/

theorem iv_toNat (k : ℕ) (h : k < 4294967296) : (Scf.iv 0#32 1#32 k).toNat = k := by
  simp [Scf.iv, Nat.mod_eq_of_lt h]

/-- The block `16 c + 2 r + i` as the kernel computes it. -/
theorem blk_all : ∀ (c : Fin 8) (r : Fin 8) (i : Fin 2),
    (Scalar.addi (Scalar.addi (Scalar.muli (Scf.iv 0#32 1#32 c.val) 16#32) (BitVec.ofNat 32 (2 * r.val))) (BitVec.ofNat 32 i.val))
      = BitVec.ofNat 32 (16 * c.val + 2 * r.val + i.val) := by decide +kernel

theorem row_all : ∀ (c : Fin 128) (j : Fin 2),
    (Scalar.addi (Scalar.muli (BitVec.ofNat 32 c.val) 2#32) (BitVec.ofNat 32 j.val)).toNat = 2 * c.val + j.val := by decide +kernel

theorem erow_all : ∀ (i : Fin 32) (r : Fin 8),
    (Scalar.addi (Scalar.muli (Scf.iv 0#32 1#32 i.val) 8#32) (BitVec.ofNat 32 r.val)).toNat = 8 * i.val + r.val := by decide +kernel

theorem lt8_of_t4 {L : BitVec 32} (h : InLen L) (t : Fin (k0_t4_loop L).trips) : t.val < 8 := by
  have := lt_of_lt_of_eq t.isLt (t4_trips h); have := ncN_le h.2; omega
theorem lt8_of_t8 {L : BitVec 32} (h : InLen L) (t : Fin (k0_t8_loop L).trips) : t.val < 8 := lt8_of_t4 h t
theorem lt32_of_t6 {L : BitVec 32} (h : InLen L) (t : Fin (k0_t6_loop L).trips) : t.val < 32 := by
  have := lt_of_lt_of_eq t.isLt (t6_trips h); have := ncN_le h.2; omega

theorem off17_eq {L : BitVec 32} (h : InLen L) (t : Fin (k0_t4_loop L).trips) (r : Fin 8) (i : Fin 2) :
    k0_off17 L t (BitVec.ofNat 32 (2 * r.val)) (BitVec.ofNat 32 i.val) = ![16 * t.val + 2 * r.val + i.val, 0] := by
  have h8 := lt8_of_t4 h t
  have := blk_all ⟨t.val, h8⟩ r i
  show ![(Scalar.addi (Scalar.addi (Scalar.muli (Scf.iv 0#32 1#32 t.val) 16#32) (BitVec.ofNat 32 (2 * r.val))) (BitVec.ofNat 32 i.val)).toNat, 0] = _
  rw [this]; simp only [BitVec.toNat_ofNat]
  rw [Nat.mod_eq_of_lt (by omega)]

theorem off18_eq {L : BitVec 32} (h : InLen L) (t : Fin (k0_t4_loop L).trips) (r : Fin 8) (i j : Fin 2) :
    k0_off18 L t (BitVec.ofNat 32 (2 * r.val)) (BitVec.ofNat 32 i.val) (BitVec.ofNat 32 j.val)
      = ![2 * (16 * t.val + 2 * r.val + i.val) + j.val, 0, 0] := by
  have h8 := lt8_of_t4 h t
  have := blk_all ⟨t.val, h8⟩ r i
  show ![(Scalar.addi (Scalar.muli (Scalar.addi (Scalar.addi (Scalar.muli (Scf.iv 0#32 1#32 t.val) 16#32) (BitVec.ofNat 32 (2 * r.val))) (BitVec.ofNat 32 i.val)) 2#32) (BitVec.ofNat 32 j.val)).toNat, 0, 0] = _
  rw [this, row_all ⟨16 * t.val + 2 * r.val + i.val, by omega⟩ j]

theorem off75_eq {L : BitVec 32} (h : InLen L) (t : Fin (k0_t8_loop L).trips) (r : Fin 8) (i : Fin 2) :
    k0_off75 L t (BitVec.ofNat 32 (2 * r.val)) (BitVec.ofNat 32 i.val) = ![16 * t.val + 2 * r.val + i.val, 0] :=
  off17_eq h t r i

theorem off76_eq {L : BitVec 32} (h : InLen L) (t : Fin (k0_t8_loop L).trips) (r : Fin 8) (i j : Fin 2) :
    k0_off76 L t (BitVec.ofNat 32 (2 * r.val)) (BitVec.ofNat 32 i.val) (BitVec.ofNat 32 j.val)
      = ![2 * (16 * t.val + 2 * r.val + i.val) + j.val, 0, 0] := off18_eq h t r i j

theorem off68_eq {L : BitVec 32} (h : InLen L) (t : Fin (k0_t6_loop L).trips) (r : Fin 8) :
    k0_off68 L t (BitVec.ofNat 32 r.val) = ![8 * t.val + r.val, 0, 0] := by
  have h8 := lt32_of_t6 h t
  show ![(Scalar.addi (Scalar.muli (Scf.iv 0#32 1#32 t.val) 8#32) (BitVec.ofNat 32 r.val)).toNat, 0, 0] = _
  rw [erow_all ⟨t.val, h8⟩ r]

theorem iv32_all : ∀ t : Fin 64, (Scalar.muli (Scf.iv 0#32 1#32 t.val) 32#32).toNat = 32 * t.val := by decide +kernel
theorem iv_all : ∀ t : Fin 64, (Scf.iv 0#32 1#32 t.val).toNat = t.val := by decide +kernel

theorem lt64_of_t3 (t : Fin k0_t3_loop.trips) : t.val < 64 :=
  lt_of_lt_of_eq t.isLt (by decide +kernel : k0_t3_loop.trips = 64)
theorem lt24_of_t1 (t : Fin k0_t1_loop.trips) : t.val < 24 :=
  lt_of_lt_of_eq t.isLt (by decide +kernel : k0_t1_loop.trips = 24)

theorem off10_eq (t : Fin k0_t3_loop.trips) : k0_off10 t = ![32 * t.val, 0] := by
  show ![(Scalar.muli (Scf.iv 0#32 1#32 t.val) 32#32).toNat, 0] = _
  rw [iv32_all ⟨t.val, lt64_of_t3 t⟩]
theorem off126_eq (t : Fin k0_t3_loop.trips) : k0_off126 t = ![32 * t.val, 0] := off10_eq t
theorem off11_eq (t : Fin k0_t3_loop.trips) : k0_off11 t = ![t.val, 0, 0] := by
  show ![(Scf.iv 0#32 1#32 t.val).toNat, 0, 0] = _
  rw [iv_all ⟨t.val, lt64_of_t3 t⟩]
theorem off9_eq (t : Fin k0_t3_loop.trips) : k0_off9 t = ![t.val] := by
  show ![(Scf.iv 0#32 1#32 t.val).toNat] = _
  rw [iv_all ⟨t.val, lt64_of_t3 t⟩]
theorem off1_eq (t : Fin k0_t1_loop.trips) : k0_off1 t = ![t.val, 0, 0, 0] := by
  show ![(Scf.iv 0#32 1#32 t.val).toNat, 0, 0, 0] = _
  rw [iv_all ⟨t.val, by have := lt24_of_t1 t; omega⟩]

theorem cond1_iff {b : BitVec 32} (h : b.toNat ≤ 64) : k0_cond1 b = 1#1 ↔ b.toNat < 64 := by
  have : ∀ n : Fin 65, k0_cond1 (BitVec.ofNat 32 n.val) = 1#1 ↔ n.val < 64 := by decide +kernel
  have := this ⟨b.toNat, by omega⟩
  simpa using this

/-! ### The side conditions -/

theorem squeezes_chunk (n : ℕ) : (⟨4, ![1, n, 256, 128]⟩ : Shape).Squeezes ⟨3, ![n, 256, 128]⟩ := by
  simp [Shape.Squeezes, Shape.dropsOnes, List.ofFn_succ]

theorem chk1_of {b : BitVec 32} (h : b.toNat ≤ 64) : k0_chk1 b := by
  intro h1 a
  have := (cond1_iff h).mp h1
  fin_cases a
  show b.toNat + 1 ≤ 64
  omega

theorem inb_slot {sl : BitVec 32} (h : sl.toNat < 24) : ∀ a, (![sl.toNat] : Fin 1 → ℕ) a + S1.size a ≤ S24.size a := by
  intro a; fin_cases a; show sl.toNat + 1 ≤ 24; omega

theorem chk2_of {b k sl : BitVec 32} (h : sl.toNat < 24) : k0_chk2 b k sl :=
  ⟨fun _ _ => inb_slot h, fun _ _ => inb_slot h⟩

theorem inb_ring {sl : BitVec 32} (h : sl.toNat < 24) {n : ℕ} (hn : n ≤ 16) :
    ∀ a, (![1, n, 256, 128] : Fin 4 → ℕ) a = 0 ∨ (![sl.toNat, 0, 0, 0] : Fin 4 → ℕ) a + (![1, n, 256, 128] : Fin 4 → ℕ) a ≤ S24x16x256x128.size a := by
  intro a
  fin_cases a
  · right; show sl.toNat + 1 ≤ 24; omega
  · right; show 0 + n ≤ 16; omega
  · right; show 0 + 256 ≤ 256; omega
  · right; show 0 + 128 ≤ 128; omega

theorem inb_hbm {b o n : ℕ} (hb : b < 64) (hn : o + n ≤ 128) :
    ∀ a, (![1, n, 256, 128] : Fin 4 → ℕ) a = 0 ∨ (![b, o, 0, 0] : Fin 4 → ℕ) a + (![1, n, 256, 128] : Fin 4 → ℕ) a ≤ S64x128x256x128.size a := by
  intro a
  fin_cases a
  · right; show b + 1 ≤ 64; omega
  · right; show o + n ≤ 128; omega
  · right; show 0 + 256 ≤ 256; omega
  · right; show 0 + 128 ≤ 128; omega

theorem c16_all : ∀ c : Fin 8, (Scalar.muli (BitVec.ofNat 32 c.val) 16#32).toNat = 16 * c.val := by decide +kernel

theorem c16_eq {c : BitVec 32} (h : c.toNat < 8) : (Scalar.muli c 16#32).toNat = 16 * c.toNat := by
  have := c16_all ⟨c.toNat, h⟩
  simpa using this

theorem off4_eq (c sl L : BitVec 32) : k0_off4 c sl L = ⟨![sl.toNat, 0, 0, 0], ![1, (nW (nbW L) c).toNat, 256, 128]⟩ := rfl
theorem off7_eq (c sl L : BitVec 32) : k0_off7 c sl L = ⟨![sl.toNat, 0, 0, 0], ![1, (nW (nbW L) c).toNat, 256, 128]⟩ := rfl
theorem off5_eq (b c L : BitVec 32) : k0_off5 b c L = ⟨![b.toNat, (Scalar.muli c 16#32).toNat, 0, 0], ![1, (nW (nbW L) c).toNat, 256, 128]⟩ := rfl
theorem off8_eq (b c L : BitVec 32) : k0_off8 b c L = ⟨![b.toNat, (Scalar.muli c 16#32).toNat, 0, 0], ![1, (nW (nbW L) c).toNat, 256, 128]⟩ := rfl
theorem sz1_eq (c L : BitVec 32) : k0_sz1 c L = ![(nW (nbW L) c).toNat, 256, 128] := rfl

theorem chk3_of {b k c sl L : BitVec 32} (hb : b.toNat < 64) (h : sl.toNat < 24) (hL : InLen L)
    (hc : c.toNat < ncN L.toNat) : k0_chk3 b k c sl L := by
  have hn := nW_eq hL hc
  have h8 : c.toNat < 8 := by have := ncN_le hL.2; omega
  have hR : ∀ a, (![1, (nW (nbW L) c).toNat, 256, 128] : Fin 4 → ℕ) a = 0 ∨ (![sl.toNat, 0, 0, 0] : Fin 4 → ℕ) a + (![1, (nW (nbW L) c).toNat, 256, 128] : Fin 4 → ℕ) a ≤ S24x16x256x128.size a :=
    inb_ring h (by rw [hn]; exact nN_le _ _)
  have hH : ∀ a, (![1, (nW (nbW L) c).toNat, 256, 128] : Fin 4 → ℕ) a = 0 ∨ (![b.toNat, (Scalar.muli c 16#32).toNat, 0, 0] : Fin 4 → ℕ) a + (![1, (nW (nbW L) c).toNat, 256, 128] : Fin 4 → ℕ) a ≤ S64x128x256x128.size a :=
    inb_hbm hb (by rw [hn, c16_eq h8]; exact nN_add_le hL.2 hc)
  have h2 : 2 ≤ S24x16x256x128.rank := by decide
  exact ⟨fun _ _ => hR, fun _ _ => squeezes_chunk _, fun _ _ => hH, fun _ _ => squeezes_chunk _,
    fun _ _ _ => .inr ⟨h2, rfl, rfl, rfl⟩, fun _ _ _ => .inr ⟨h2, rfl, rfl, rfl⟩,
    fun _ _ => hR, fun _ _ => squeezes_chunk _, fun _ _ => hH, fun _ _ => squeezes_chunk _,
    fun _ _ _ => .inr ⟨h2, rfl, rfl, rfl⟩, fun _ _ _ => .inr ⟨h2, rfl, rfl, rfl⟩⟩

theorem chk6_of {b : BitVec 32} (h : b.toNat ≤ 64) : k0_chk6 b := chk1_of h
theorem chk7_of {b k sl : BitVec 32} (h : sl.toNat < 24) : k0_chk7 b k sl := chk2_of h
theorem chk14_of {b : BitVec 32} (h : b.toNat ≤ 64) : k0_chk14 b := chk1_of h
theorem chk15_of {b k sl : BitVec 32} (h : sl.toNat < 24) : k0_chk15 b k sl := chk2_of h

theorem inb_tile {sl : BitVec 32} (h : sl.toNat < 24) (k : ℕ) (hk : k < 16) :
    ∀ a, (![sl.toNat, k, 0, 0] : Fin 4 → ℕ) a + S1x1x256x128.size a ≤ S24x16x256x128.size a := by
  intro a
  fin_cases a
  · show sl.toNat + 1 ≤ 24; omega
  · show k + 1 ≤ 16; omega
  · show 0 + 256 ≤ 256; omega
  · show 0 + 128 ≤ 128; omega

theorem chk5_of {L : BitVec 32} (t : Fin (k0_t4_loop L).trips) {sl : BitVec 32} (h : sl.toNat < 24) : k0_chk5 L t sl :=
  ⟨inb_slot h, squeezes_chunk _, inb_tile h 0 (by omega), inb_tile h 1 (by omega), inb_tile h 2 (by omega), inb_tile h 3 (by omega), inb_tile h 4 (by omega), inb_tile h 5 (by omega), inb_tile h 6 (by omega), inb_tile h 7 (by omega), inb_tile h 8 (by omega), inb_tile h 9 (by omega), inb_tile h 10 (by omega), inb_tile h 11 (by omega), inb_tile h 12 (by omega), inb_tile h 13 (by omega), inb_tile h 14 (by omega), inb_tile h 15 (by omega)⟩

theorem chk13_of {L : BitVec 32} (t : Fin (k0_t8_loop L).trips) {sl : BitVec 32} (h : sl.toNat < 24) : k0_chk13 L t sl :=
  ⟨inb_slot h, squeezes_chunk _, inb_tile h 0 (by omega), inb_tile h 1 (by omega), inb_tile h 2 (by omega), inb_tile h 3 (by omega), inb_tile h 4 (by omega), inb_tile h 5 (by omega), inb_tile h 6 (by omega), inb_tile h 7 (by omega), inb_tile h 8 (by omega), inb_tile h 9 (by omega), inb_tile h 10 (by omega), inb_tile h 11 (by omega), inb_tile h 12 (by omega), inb_tile h 13 (by omega), inb_tile h 14 (by omega), inb_tile h 15 (by omega)⟩

theorem inb_row2 {o : ℕ} (h : o < 128) : ∀ a, (![o, 0] : Fin 2 → ℕ) a + S1x128.size a ≤ S128x128.size a := by
  intro a; fin_cases a
  · show o + 1 ≤ 128; omega
  · show 0 + 128 ≤ 128; omega
theorem inb_row3 {o : ℕ} (h : o < 256) : ∀ a, (![o, 0, 0] : Fin 3 → ℕ) a + S1x8x128.size a ≤ S256x8x128.size a := by
  intro a; fin_cases a
  · show o + 1 ≤ 256; omega
  · show 0 + 8 ≤ 8; omega
  · show 0 + 128 ≤ 128; omega

theorem chk4_of (t3 : Fin k0_t3_loop.trips) {L : BitVec 32} (h : InLen L) : k0_chk4 t3 L := by
  refine ⟨t4_ok h, fun t => squeezes_chunk _, fun t r i => ?_, fun t r i j => ?_, t5_ok h,
    fun t => squeezes_chunk _, fun t => ?_, fun t => ?_, t6_ok h, fun t r => ?_, t7_ok h, fun t => ?_,
    t4_ok h, fun t => squeezes_chunk _, fun t r i => ?_, fun t r i j => ?_, t5_ok h, fun t => squeezes_chunk _,
    fun t => ?_, fun t => ?_⟩
  · rw [off17_eq h]; have := lt8_of_t4 h t; exact inb_row2 (by omega)
  · rw [off18_eq h]; have := lt8_of_t4 h t; exact inb_row3 (by omega)
  · exact (Nat.not_lt_zero _ (lt_of_lt_of_eq t.isLt (t5_trips L))).elim
  · exact (Nat.not_lt_zero _ (lt_of_lt_of_eq t.isLt (t5_trips L))).elim
  · rw [off68_eq h]; have := lt32_of_t6 h t; exact inb_row3 (by omega)
  · exact (Nat.not_lt_zero _ (lt_of_lt_of_eq t.isLt (t7_trips L))).elim
  · rw [off75_eq h]; have := lt8_of_t8 h t; exact inb_row2 (by omega)
  · rw [off76_eq h]; have := lt8_of_t8 h t; exact inb_row3 (by omega)
  · exact (Nat.not_lt_zero _ (lt_of_lt_of_eq t.isLt (t9_trips L))).elim
  · exact (Nat.not_lt_zero _ (lt_of_lt_of_eq t.isLt (t9_trips L))).elim

end Cert.Proof.Kernel
-- ==== Proof.KernelIdeal.Prog.lean ====
/- The kernel function as a structured program: the transfers' issue, a tile and a trip of the score
   loop, of the exponential loop and of the value loop, one sequence, the fill of the query rows, the
   copy of the output rows, and the whole, each equal to the printed function by unfolding. -/
module

public import proofs.«01_k».proof.Proof.Gen.KernelIdeal.Skeleton

@[expose] public section

set_option maxRecDepth 65536

noncomputable section

namespace Cert.Proof.KernelIdeal

open Cert.KernelIdeal Cert.KernelIdeal.Gen
open Idealize.ShloMosaic Idealize.SL.Sem

variable {F : FTy → Type} [FloatOps F]

/-- The kernel's operands and scratch buffers, each with the fact that it is a whole buffer, and the
   ring's semaphores. -/
structure Bufs where
  arg0 : Memref sig .tc .smem S64 .i32
  harg0 : arg0.IsWhole
  arg1 : Memref sig .tc .vmem S64x4096 .bf16
  harg1 : arg1.IsWhole
  arg2 : Memref sig .tc .hbm S64x128x256x128 .fp8e4m3
  harg2 : arg2.IsWhole
  arg3 : Memref sig .tc .vmem S64x4x128 .f32
  harg3 : arg3.IsWhole
  arg4 : Memref sig .tc .hbm S64x128x256x128 .fp8e4m3
  harg4 : arg4.IsWhole
  arg5 : Memref sig .tc .vmem S64x4x128 .f32
  harg5 : arg5.IsWhole
  arg6 : Memref sig .tc .vmem S64x4096 .bf16
  harg6 : arg6.IsWhole
  arg7 : Memref sig .tc .vmem S24x16x256x128 .fp8e4m3
  harg7 : arg7.IsWhole
  arg8 : Memref sig .tc .vmem S2048x128 .f32
  harg8 : arg8.IsWhole
  arg9 : Memref sig .tc .vmem S2048x128 .f32
  harg9 : arg9.IsWhole
  arg10 : Memref sig .tc .vmem S256x8x128 .f32
  harg10 : arg10.IsWhole
  arg11 : Memref sig .tc .vmem S128x128 .f32
  harg11 : arg11.IsWhole
  arg12 : Memref sig .tc .vmem S128x128 .f32
  harg12 : arg12.IsWhole
  arg13 : DmaSems sig S24

variable (B : Bufs)

/-- The slot after `slot`, round the ring of twenty-four. -/
def slotNext (slot : BitVec 32) : BitVec 32 :=
  Scalar.select (Scalar.cmpi .eq (Scalar.addi slot 1#32) 24#32) 0#32 (Scalar.addi slot 1#32)

/-- One issue: the next chunk transfer starts if a sequence is left, and the state moves on. -/
def issue (b k c sl : BitVec 32) (hw2 : k0_chk2 b k sl) (hw1 : k0_chk1 b) :
    Prog (TpuEff nD τ sig (Elt F) Λ₀ .tc) (BitVec 32 × BitVec 32 × BitVec 32 × BitVec 32) :=
  if h1 : k0_cond1 b = 1#1 then do
    let ⟨last, c', k', w⟩ : Σ' (_ : BitVec 1) (_ : BitVec 32) (_ : BitVec 32), BitVec 1 ←
      k0_part1 B.arg0 B.harg0 B.arg1 B.harg1 B.arg2 B.harg2 B.arg3 B.harg3 B.arg4 B.harg4 B.arg5 B.harg5 B.arg6 B.harg6 B.arg7 B.harg7 B.arg8 B.harg8 B.arg9 B.harg9 B.arg10 B.harg10 B.arg11 B.harg11 B.arg12 B.harg12 B.arg13 b k c sl hw2 hw1 h1
    pure (Scalar.select (Scalar.andi last w) (Scalar.addi b 1#32) b, k', c', slotNext sl)
  else do
    pure (b, k, c, sl)

/-- The issue of the score loop. -/
def issueK (b k c sl : BitVec 32) (hw2 : k0_chk7 b k sl) (hw1 : k0_chk6 b) :
    Prog (TpuEff nD τ sig (Elt F) Λ₀ .tc) (BitVec 32 × BitVec 32 × BitVec 32 × BitVec 32) :=
  if h1 : k0_cond4 b = 1#1 then do
    let ⟨last, c', k', w⟩ : Σ' (_ : BitVec 1) (_ : BitVec 32) (_ : BitVec 32), BitVec 1 ←
      k0_part2 B.arg0 B.harg0 B.arg1 B.harg1 B.arg2 B.harg2 B.arg3 B.harg3 B.arg4 B.harg4 B.arg5 B.harg5 B.arg6 B.harg6 B.arg7 B.harg7 B.arg8 B.harg8 B.arg9 B.harg9 B.arg10 B.harg10 B.arg11 B.harg11 B.arg12 B.harg12 B.arg13 b k c sl hw2 hw1 h1
    pure (Scalar.select (Scalar.andi last w) (Scalar.addi b 1#32) b, k', c', slotNext sl)
  else do
    pure (b, k, c, sl)

/-- The issue of the value loop. -/
def issueV (b k c sl : BitVec 32) (hw2 : k0_chk15 b k sl) (hw1 : k0_chk14 b) :
    Prog (TpuEff nD τ sig (Elt F) Λ₀ .tc) (BitVec 32 × BitVec 32 × BitVec 32 × BitVec 32) :=
  if h1 : k0_cond10 b = 1#1 then do
    let ⟨last, c', k', w⟩ : Σ' (_ : BitVec 1) (_ : BitVec 32) (_ : BitVec 32), BitVec 1 ←
      k0_part62 B.arg0 B.harg0 B.arg1 B.harg1 B.arg2 B.harg2 B.arg3 B.harg3 B.arg4 B.harg4 B.arg5 B.harg5 B.arg6 B.harg6 B.arg7 B.harg7 B.arg8 B.harg8 B.arg9 B.harg9 B.arg10 B.harg10 B.arg11 B.harg11 B.arg12 B.harg12 B.arg13 b k c sl hw2 hw1 h1
    pure (Scalar.select (Scalar.andi last w) (Scalar.addi b 1#32) b, k', c', slotNext sl)
  else do
    pure (b, k, c, sl)

set_option maxHeartbeats 0 in
/-- The score loop issues as the first loop does. -/
theorem issueK_eq (b k c sl : BitVec 32) (hw2 : k0_chk2 b k sl) (hw1 : k0_chk1 b) :
    issueK (F := F) B b k c sl hw2 hw1 = issue (F := F) B b k c sl hw2 hw1 := by
  rfl

set_option maxHeartbeats 0 in
/-- The value loop issues as the first loop does. -/
theorem issueV_eq (b k c sl : BitVec 32) (hw2 : k0_chk2 b k sl) (hw1 : k0_chk1 b) :
    issueV (F := F) B b k c sl hw2 hw1 = issue (F := F) B b k c sl hw2 hw1 := by
  rfl

/-- One of four vectors, picked lane by lane by the head. -/
def sel4 (v16 : IVec S8x128 32) (a b c d : FVec F S8x128 .f32) : FVec F S8x128 .f32 :=
  select (cmpi .eq v16 (broadcast S8x128 3#32)) d
    (select (cmpi .eq v16 (broadcast S8x128 2#32)) c
      (select (cmpi .eq v16 (broadcast S8x128 1#32)) b a))

/-- A scaled and masked score vector. -/
def scoreVec (v16 v41 : IVec S8x128 32) (len blk j32 : BitVec 32) (sc : Vec F S1x128 .f32)
    (a b c d : FVec F S8x128 .f32) : FVec F S8x128 .f32 :=
  select (cmpi .slt v41 (broadcast S8x128
      (Scalar.subi len (Scalar.addi (Scalar.muli blk 64#32) j32))))
    (mulf (sel4 v16 a b c d) (broadcastTo S8x128 sc broadcasts_S1x128_S8x128))
    (broadcast S8x128 (Scalar.ofBits .f32 0xFF800000#32))

/-- The scores of block 0 of a tile, token half 0. -/
def score00 (v16 v41 : IVec S8x128 32) (len blk : BitVec 32) (s : FVec F S64x256 .f32)
    (sc : Vec F S1x128 .f32) : FVec F S8x128 .f32 :=
  scoreVec v16 v41 len (Scalar.addi blk 0#32) 0#32 sc
      (extractStridedSlice S8x128 ![0, 0] s slices_S64x256_o0_0_S8x128)
      (extractStridedSlice S8x128 ![8, 0] s slices_S64x256_o8_0_S8x128)
      (extractStridedSlice S8x128 ![16, 0] s slices_S64x256_o16_0_S8x128)
      (extractStridedSlice S8x128 ![24, 0] s slices_S64x256_o24_0_S8x128)

/-- The scores of block 0 of a tile, token half 1. -/
def score01 (v16 v41 : IVec S8x128 32) (len blk : BitVec 32) (s : FVec F S64x256 .f32)
    (sc : Vec F S1x128 .f32) : FVec F S8x128 .f32 :=
  scoreVec v16 v41 len (Scalar.addi blk 0#32) 32#32 sc
      (extractStridedSlice S8x128 ![0, 128] s slices_S64x256_o0_128_S8x128)
      (extractStridedSlice S8x128 ![8, 128] s slices_S64x256_o8_128_S8x128)
      (extractStridedSlice S8x128 ![16, 128] s slices_S64x256_o16_128_S8x128)
      (extractStridedSlice S8x128 ![24, 128] s slices_S64x256_o24_128_S8x128)

/-- The scores of block 1 of a tile, token half 0. -/
def score10 (v16 v41 : IVec S8x128 32) (len blk : BitVec 32) (s : FVec F S64x256 .f32)
    (sc : Vec F S1x128 .f32) : FVec F S8x128 .f32 :=
  scoreVec v16 v41 len (Scalar.addi blk 1#32) 0#32 sc
      (extractStridedSlice S8x128 ![32, 0] s slices_S64x256_o32_0_S8x128)
      (extractStridedSlice S8x128 ![40, 0] s slices_S64x256_o40_0_S8x128)
      (extractStridedSlice S8x128 ![48, 0] s slices_S64x256_o48_0_S8x128)
      (extractStridedSlice S8x128 ![56, 0] s slices_S64x256_o56_0_S8x128)

/-- The scores of block 1 of a tile, token half 1. -/
def score11 (v16 v41 : IVec S8x128 32) (len blk : BitVec 32) (s : FVec F S64x256 .f32)
    (sc : Vec F S1x128 .f32) : FVec F S8x128 .f32 :=
  scoreVec v16 v41 len (Scalar.addi blk 1#32) 32#32 sc
      (extractStridedSlice S8x128 ![32, 128] s slices_S64x256_o32_128_S8x128)
      (extractStridedSlice S8x128 ![40, 128] s slices_S64x256_o40_128_S8x128)
      (extractStridedSlice S8x128 ![48, 128] s slices_S64x256_o48_128_S8x128)
      (extractStridedSlice S8x128 ![56, 128] s slices_S64x256_o56_128_S8x128)

/-- One tile of the score loop: two blocks of keys against the queries, four score vectors stored. -/
def tileK (v16 v41 : IVec S8x128 32) (t3 : Fin k0_t3_loop.trips) (len v2354 : Elt F .i32)
    (hw4 : k0_chk4 t3 v2354) (qq : FVec F S64x256 .bf16) (t4 : Fin (k0_t4_loop v2354).trips) (r : Fin 8)
    (oA : Fin 4 → Nat) (hA : ∀ a, oA a + S1x1x256x128.size a ≤ S24x16x256x128.size a)
    (oB : Fin 4 → Nat) (hB : ∀ a, oB a + S1x1x256x128.size a ≤ S24x16x256x128.size a)
    (m : FVec F S8x128 .f32) :
    Prog (TpuEff nD τ sig (Elt F) Λ₀ .tc) (FVec F S8x128 .f32) := do
  let blk : BitVec 32 := Scalar.addi (Scalar.muli (Scf.iv 0#32 1#32 t4) 16#32) (BitVec.ofNat 32 (2 * r.val))
  let kA : Vec F S1x1x256x128 .fp8e4m3 ← Prog.lift (.load B.arg7 (Rect.unit (s := S24x16x256x128) oA
    S1x1x256x128.size hA).toLoadRect (View.loadsAt_vmem h_S1x1x256x128))
  let kB : Vec F S1x1x256x128 .fp8e4m3 ← Prog.lift (.load B.arg7 (Rect.unit (s := S24x16x256x128) oB
    S1x1x256x128.size hB).toLoadRect (View.loadsAt_vmem h_S1x1x256x128))
  let s : FVec F S64x256 .f32 := k0_pay4 qq kA kB
  let sc0 : Vec F S1x128 .f32 ← Prog.lift (.load B.arg11 (Rect.unit (s := S128x128)
    (k0_off17 v2354 t4 (BitVec.ofNat 32 (2 * r.val)) 0#32) S1x128.size
    (k0_off17_inb t3 v2354 hw4 t4 r 0)).toLoadRect (View.loadsAt_vmem h_S1x128))
  let _ : Vec F S1x8x128 .f32 ← Prog.lift (.load B.arg10 (Rect.unit (s := S256x8x128)
    (k0_off18 v2354 t4 (BitVec.ofNat 32 (2 * r.val)) 0#32 0#32) S1x8x128.size
    (k0_off18_inb t3 v2354 hw4 t4 r 0 0)).toLoadRect
    (View.loadsAt_vmem h_S1x8x128))
  Prog.lift (.store B.arg10 (Rect.unit (s := S256x8x128)
    (k0_off18 v2354 t4 (BitVec.ofNat 32 (2 * r.val)) 0#32 0#32) S1x8x128.size
    (k0_off18_inb t3 v2354 hw4 t4 r 0 0))
    (shapeCast S1x8x128 (score00 v16 v41 len blk s sc0) shapeCasts_S8x128_S1x8x128) Finset.univ
    (View.stores_vmem_bits_univ h_S1x8x128 rfl) (.inl rfl))
  let _ : Vec F S1x8x128 .f32 ← Prog.lift (.load B.arg10 (Rect.unit (s := S256x8x128)
    (k0_off18 v2354 t4 (BitVec.ofNat 32 (2 * r.val)) 0#32 1#32) S1x8x128.size
    (k0_off18_inb t3 v2354 hw4 t4 r 0 1)).toLoadRect
    (View.loadsAt_vmem h_S1x8x128))
  Prog.lift (.store B.arg10 (Rect.unit (s := S256x8x128)
    (k0_off18 v2354 t4 (BitVec.ofNat 32 (2 * r.val)) 0#32 1#32) S1x8x128.size
    (k0_off18_inb t3 v2354 hw4 t4 r 0 1))
    (shapeCast S1x8x128 (score01 v16 v41 len blk s sc0) shapeCasts_S8x128_S1x8x128) Finset.univ
    (View.stores_vmem_bits_univ h_S1x8x128 rfl) (.inl rfl))
  let sc1 : Vec F S1x128 .f32 ← Prog.lift (.load B.arg11 (Rect.unit (s := S128x128)
    (k0_off17 v2354 t4 (BitVec.ofNat 32 (2 * r.val)) 1#32) S1x128.size
    (k0_off17_inb t3 v2354 hw4 t4 r 1)).toLoadRect (View.loadsAt_vmem h_S1x128))
  let _ : Vec F S1x8x128 .f32 ← Prog.lift (.load B.arg10 (Rect.unit (s := S256x8x128)
    (k0_off18 v2354 t4 (BitVec.ofNat 32 (2 * r.val)) 1#32 0#32) S1x8x128.size
    (k0_off18_inb t3 v2354 hw4 t4 r 1 0)).toLoadRect
    (View.loadsAt_vmem h_S1x8x128))
  Prog.lift (.store B.arg10 (Rect.unit (s := S256x8x128)
    (k0_off18 v2354 t4 (BitVec.ofNat 32 (2 * r.val)) 1#32 0#32) S1x8x128.size
    (k0_off18_inb t3 v2354 hw4 t4 r 1 0))
    (shapeCast S1x8x128 (score10 v16 v41 len blk s sc1) shapeCasts_S8x128_S1x8x128) Finset.univ
    (View.stores_vmem_bits_univ h_S1x8x128 rfl) (.inl rfl))
  let _ : Vec F S1x8x128 .f32 ← Prog.lift (.load B.arg10 (Rect.unit (s := S256x8x128)
    (k0_off18 v2354 t4 (BitVec.ofNat 32 (2 * r.val)) 1#32 1#32) S1x8x128.size
    (k0_off18_inb t3 v2354 hw4 t4 r 1 1)).toLoadRect
    (View.loadsAt_vmem h_S1x8x128))
  Prog.lift (.store B.arg10 (Rect.unit (s := S256x8x128)
    (k0_off18 v2354 t4 (BitVec.ofNat 32 (2 * r.val)) 1#32 1#32) S1x8x128.size
    (k0_off18_inb t3 v2354 hw4 t4 r 1 1))
    (shapeCast S1x8x128 (score11 v16 v41 len blk s sc1) shapeCasts_S8x128_S1x8x128) Finset.univ
    (View.stores_vmem_bits_univ h_S1x8x128 rfl) (.inl rfl))
  pure (maximumf (maximumf (maximumf (maximumf m (score00 v16 v41 len blk s sc0)) (score01 v16 v41 len blk s sc0)) (score10 v16 v41 len blk s sc1)) (score11 v16 v41 len blk s sc1))

/-- One trip of the score loop: the wait, eight tiles, one issue. -/
def kTrip (v16 v41 : IVec S8x128 32) (t3 : Fin k0_t3_loop.trips) (len v2354 : Elt F .i32)
    (hw4 : k0_chk4 t3 v2354) (qq : FVec F S64x256 .bf16) :
    Fin (k0_t4_loop v2354).trips → BitVec 32 × BitVec 32 × BitVec 32 × BitVec 32 × BitVec 32 × FVec F S8x128 .f32 →
    Prog (TpuEff nD τ sig (Elt F) Λ₀ .tc) (BitVec 32 × BitVec 32 × BitVec 32 × BitVec 32 × BitVec 32 × FVec F S8x128 .f32) :=
  fun t4 (b, k, c, sl, slot, m) => do
    have hw7 : k0_chk7 b k sl := (← Prog.lift (TpuEff.assume (k0_chk7 b k sl) (k0_chk7.dec b k sl))).down
    have hw6 : k0_chk6 b := (← Prog.lift (TpuEff.assume (k0_chk6 b) (k0_chk6.dec b))).down
    have hw5 : k0_chk5 v2354 t4 slot :=
      (← Prog.lift (TpuEff.assume (k0_chk5 v2354 t4 slot) (k0_chk5.dec v2354 t4 slot))).down
    Prog.lift (.waitDma ((B.arg13.slice (Rect.unit (s := S24) (k0_off12 slot) S1.size
      (k0_off12_inb v2354 t4 slot hw5))).squeeze S_ squeezes_S1_S_).sem B.arg7.view.ref
      (⟨3, k0_sz5 v2354 t4⟩ : Shape) .fp8e4m3 (Or.inl rfl))
    let m0 ← tileK B v16 v41 t3 len v2354 hw4 qq t4 0 (k0_off15 slot) (k0_off15_inb v2354 t4 slot hw5)
      (k0_off16 slot) (k0_off16_inb v2354 t4 slot hw5) m
    let m1 ← tileK B v16 v41 t3 len v2354 hw4 qq t4 1 (k0_off19 slot) (k0_off19_inb v2354 t4 slot hw5)
      (k0_off20 slot) (k0_off20_inb v2354 t4 slot hw5) m0
    let m2 ← tileK B v16 v41 t3 len v2354 hw4 qq t4 2 (k0_off21 slot) (k0_off21_inb v2354 t4 slot hw5)
      (k0_off22 slot) (k0_off22_inb v2354 t4 slot hw5) m1
    let m3 ← tileK B v16 v41 t3 len v2354 hw4 qq t4 3 (k0_off23 slot) (k0_off23_inb v2354 t4 slot hw5)
      (k0_off24 slot) (k0_off24_inb v2354 t4 slot hw5) m2
    let m4 ← tileK B v16 v41 t3 len v2354 hw4 qq t4 4 (k0_off25 slot) (k0_off25_inb v2354 t4 slot hw5)
      (k0_off26 slot) (k0_off26_inb v2354 t4 slot hw5) m3
    let m5 ← tileK B v16 v41 t3 len v2354 hw4 qq t4 5 (k0_off27 slot) (k0_off27_inb v2354 t4 slot hw5)
      (k0_off28 slot) (k0_off28_inb v2354 t4 slot hw5) m4
    let m6 ← tileK B v16 v41 t3 len v2354 hw4 qq t4 6 (k0_off29 slot) (k0_off29_inb v2354 t4 slot hw5)
      (k0_off30 slot) (k0_off30_inb v2354 t4 slot hw5) m5
    let m7 ← tileK B v16 v41 t3 len v2354 hw4 qq t4 7 (k0_off31 slot) (k0_off31_inb v2354 t4 slot hw5)
      (k0_off32 slot) (k0_off32_inb v2354 t4 slot hw5) m6
    let (b', k', c', sl') : BitVec 32 × BitVec 32 × BitVec 32 × BitVec 32 ← issueK B b k c sl hw7 hw6
    pure (b', k', c', sl', slotNext slot, m7)

set_option maxHeartbeats 0 in
theorem kTrip_eq (v16 v41 : IVec S8x128 32) (t3 : Fin k0_t3_loop.trips)
    (b k c sl slot x : BitVec 32) (len v2354 : Elt F .i32)
    (hw4 : k0_chk4 t3 v2354) (y z : BitVec 32) (q : Vec F S32x128 .f32)
    (t4 : Fin (k0_t4_loop v2354).trips) (b1 k1 c1 sl1 slot1 : BitVec 32) (m : FVec F S8x128 .f32) :
    k0_t4_body (F := F) B.arg0 B.harg0 B.arg1 B.harg1 B.arg2 B.harg2 B.arg3 B.harg3 B.arg4 B.harg4 B.arg5 B.harg5 B.arg6 B.harg6 B.arg7 B.harg7 B.arg8 B.harg8 B.arg9 B.harg9 B.arg10 B.harg10 B.arg11 B.harg11 B.arg12 B.harg12 B.arg13
      v16 v41 t3 b k c sl slot x len v2354 hw4 y z q t4 (b1, k1, c1, sl1, slot1, m)
      = kTrip B v16 v41 t3 len v2354 hw4 (k0_pay450 q) t4 (b1, k1, c1, sl1, slot1, m) := by
  repeat refine congrArg (Prog.op _) (funext fun x0 => ?_)
  by_cases h : k0_cond4 b1 = 1#1
  · refine (dif_pos h).trans ?_
    refine Eq.trans ?_ (congrArg (fun z => Prog.bind z _)
      (dif_pos h : issueK B b1 k1 c1 sl1 _ _ = _)).symm
    refine Eq.trans ?_ (Prog.bind_assoc _ _ _).symm
    refine congrArg (Prog.bind _) (funext fun x => ?_)
    obtain ⟨x1, x2, x3, x4⟩ := x
    rfl
  · refine (dif_neg h).trans ?_
    refine Eq.trans ?_ (congrArg (fun z => Prog.bind z _)
      (dif_neg h : issueK B b1 k1 c1 sl1 _ _ = _)).symm
    rfl

/-- One row of exponentials. -/
def expRow (mx : FVec F S8x128 .f32) (x : Vec F S1x8x128 .f32) : FVec F S8x128 .f32 :=
  exp (subf (shapeCast S8x128 x shapeCasts_S1x8x128_S8x128) mx)

/-- One step of the exponential loop: a row of scores becomes a row of exponentials, summed up. -/
def expStep (t3 : Fin k0_t3_loop.trips) (v2354 : Elt F .i32) (hw4 : k0_chk4 t3 v2354)
    (mx : FVec F S8x128 .f32) (t6 : Fin (k0_t6_loop v2354).trips) (r : Fin 8) (l : FVec F S8x128 .f32) :
    Prog (TpuEff nD τ sig (Elt F) Λ₀ .tc) (FVec F S8x128 .f32) := do
  let x : Vec F S1x8x128 .f32 ← Prog.lift (.load B.arg10 (Rect.unit (s := S256x8x128)
    (k0_off68 v2354 t6 (BitVec.ofNat 32 r.val)) S1x8x128.size (k0_off68_inb t3 v2354 hw4 t6 r)).toLoadRect
    (View.loadsAt_vmem h_S1x8x128))
  let _ : Vec F S1x8x128 .f32 ← Prog.lift (.load B.arg10 (Rect.unit (s := S256x8x128)
    (k0_off68 v2354 t6 (BitVec.ofNat 32 r.val)) S1x8x128.size (k0_off68_inb t3 v2354 hw4 t6 r)).toLoadRect
    (View.loadsAt_vmem h_S1x8x128))
  Prog.lift (.store B.arg10 (Rect.unit (s := S256x8x128)
    (k0_off68 v2354 t6 (BitVec.ofNat 32 r.val)) S1x8x128.size (k0_off68_inb t3 v2354 hw4 t6 r))
    (shapeCast S1x8x128 (expRow mx x) shapeCasts_S8x128_S1x8x128) Finset.univ
    (View.stores_vmem_bits_univ h_S1x8x128 rfl) (.inl rfl))
  pure (addf l (expRow mx x))

/-- One trip of the exponential loop: eight rows. -/
def expTrip (t3 : Fin k0_t3_loop.trips) (v2354 : Elt F .i32) (hw4 : k0_chk4 t3 v2354)
    (mx : FVec F S8x128 .f32) (t6 : Fin (k0_t6_loop v2354).trips) (l : FVec F S8x128 .f32) :
    Prog (TpuEff nD τ sig (Elt F) Λ₀ .tc) (FVec F S8x128 .f32) := do
  let l0 ← expStep B t3 v2354 hw4 mx t6 0 l
  let l1 ← expStep B t3 v2354 hw4 mx t6 1 l0
  let l2 ← expStep B t3 v2354 hw4 mx t6 2 l1
  let l3 ← expStep B t3 v2354 hw4 mx t6 3 l2
  let l4 ← expStep B t3 v2354 hw4 mx t6 4 l3
  let l5 ← expStep B t3 v2354 hw4 mx t6 5 l4
  let l6 ← expStep B t3 v2354 hw4 mx t6 6 l5
  let l7 ← expStep B t3 v2354 hw4 mx t6 7 l6
  pure l7

set_option maxHeartbeats 0 in
theorem expTrip_eq (v16 : IVec S8x128 32) (t3 : Fin k0_t3_loop.trips) (x : BitVec 32) (v2354 : Elt F .i32)
    (hw4 : k0_chk4 t3 v2354) (y z b k c sl slot : BitVec 32) (m : FVec F S8x128 .f32)
    (t6 : Fin (k0_t6_loop v2354).trips) (l : FVec F S8x128 .f32) :
    k0_t6_body (F := F) B.arg0 B.harg0 B.arg1 B.harg1 B.arg2 B.harg2 B.arg3 B.harg3 B.arg4 B.harg4 B.arg5 B.harg5 B.arg6 B.harg6 B.arg7 B.harg7 B.arg8 B.harg8 B.arg9 B.harg9 B.arg10 B.harg10 B.arg11 B.harg11 B.arg12 B.harg12 B.arg13
      v16 t3 x v2354 hw4 y z b k c sl slot m t6 l
      = expTrip B t3 v2354 hw4 (k0_pay459 m) t6 l := by
  repeat refine congrArg (Prog.op _) (funext fun x0 => ?_)
  rfl

/-- The weights of one row of exponentials: normalised and scaled. -/
def weight (inv : FVec F S8x128 .f32) (sc : Vec F S1x128 .f32) (e : Vec F S1x8x128 .f32) :
    FVec F S8x128 .f32 :=
  mulf (mulf (shapeCast S8x128 e shapeCasts_S1x8x128_S8x128) inv)
    (broadcastTo S8x128 sc broadcasts_S1x128_S8x128)

/-- The lanes of one head, the others zero. -/
def headOf (v16 : IVec S8x128 32) (h : BitVec 32) (p : FVec F S8x128 .f32) : FVec F S8x128 .f32 :=
  select (cmpi .eq v16 (broadcast S8x128 h)) p (broadcast S8x128 (Scalar.ofBits .f32 0x00000000#32))

/-- A row of weights spread over the four heads. -/
def spread (v16 : IVec S8x128 32) (p : FVec F S8x128 .f32) : FVec F S32x128 .f32 :=
  concatenate S32x128 0 [⟨S8x128, headOf v16 0#32 p⟩, ⟨S8x128, headOf v16 1#32 p⟩,
    ⟨S8x128, headOf v16 2#32 p⟩, ⟨S8x128, headOf v16 3#32 p⟩]
    concatenates_S8x128_S8x128_S8x128_S8x128_S32x128_d0

/-- The left operand of a tile's product with the values. -/
def lhsOf (v16 : IVec S8x128 32) (inv : FVec F S8x128 .f32)
    (sc0 : Vec F S1x128 .f32) (e00 e01 : Vec F S1x8x128 .f32)
    (sc1 : Vec F S1x128 .f32) (e10 e11 : Vec F S1x8x128 .f32) : FVec F S64x256 .bf16 :=
  truncf .bf16 (concatenate S64x256 0
    [⟨S32x256, concatenate S32x256 1 [⟨S32x128, spread v16 (weight inv sc0 e00)⟩,
      ⟨S32x128, spread v16 (weight inv sc0 e01)⟩] concatenates_S32x128_S32x128_S32x256_d1⟩,
     ⟨S32x256, concatenate S32x256 1 [⟨S32x128, spread v16 (weight inv sc1 e10)⟩,
      ⟨S32x128, spread v16 (weight inv sc1 e11)⟩] concatenates_S32x128_S32x128_S32x256_d1⟩]
    concatenates_S32x256_S32x256_S64x256_d0) bitsLt_bf16_f32

/-- The accumulator after one tile of the value loop. -/
def accStep (v16 : IVec S8x128 32) (inv : FVec F S8x128 .f32) (acc : FVec F S64x256 .f32)
    (kA kB : Vec F S1x1x256x128 .fp8e4m3)
    (sc0 : Vec F S1x128 .f32) (e00 e01 : Vec F S1x8x128 .f32)
    (sc1 : Vec F S1x128 .f32) (e10 e11 : Vec F S1x8x128 .f32) : FVec F S64x256 .f32 :=
  addf acc (matmul dot_S64x256_S256x256_S64x256_1_0_0_1_n_n none (lhsOf v16 inv sc0 e00 e01 sc1 e10 e11)
    (k0_pay292 kA kB) (constant S64x256 .f32 0x00000000#32))

/-- One tile of the value loop. -/
def tileV (v16 : IVec S8x128 32) (t3 : Fin k0_t3_loop.trips) (v2354 : Elt F .i32)
    (hw4 : k0_chk4 t3 v2354) (inv : FVec F S8x128 .f32) (t8 : Fin (k0_t8_loop v2354).trips) (r : Fin 8)
    (oA : Fin 4 → Nat) (hA : ∀ a, oA a + S1x1x256x128.size a ≤ S24x16x256x128.size a)
    (oB : Fin 4 → Nat) (hB : ∀ a, oB a + S1x1x256x128.size a ≤ S24x16x256x128.size a)
    (acc : FVec F S64x256 .f32) :
    Prog (TpuEff nD τ sig (Elt F) Λ₀ .tc) (FVec F S64x256 .f32) := do
  let kA : Vec F S1x1x256x128 .fp8e4m3 ← Prog.lift (.load B.arg7 (Rect.unit (s := S24x16x256x128) oA
    S1x1x256x128.size hA).toLoadRect (View.loadsAt_vmem h_S1x1x256x128))
  let kB : Vec F S1x1x256x128 .fp8e4m3 ← Prog.lift (.load B.arg7 (Rect.unit (s := S24x16x256x128) oB
    S1x1x256x128.size hB).toLoadRect (View.loadsAt_vmem h_S1x1x256x128))
  let sc0 : Vec F S1x128 .f32 ← Prog.lift (.load B.arg12 (Rect.unit (s := S128x128)
    (k0_off75 v2354 t8 (BitVec.ofNat 32 (2 * r.val)) 0#32) S1x128.size
    (k0_off75_inb t3 v2354 hw4 t8 r 0)).toLoadRect (View.loadsAt_vmem h_S1x128))
  let e00 : Vec F S1x8x128 .f32 ← Prog.lift (.load B.arg10 (Rect.unit (s := S256x8x128)
    (k0_off76 v2354 t8 (BitVec.ofNat 32 (2 * r.val)) 0#32 0#32) S1x8x128.size
    (k0_off76_inb t3 v2354 hw4 t8 r 0 0)).toLoadRect (View.loadsAt_vmem h_S1x8x128))
  let e01 : Vec F S1x8x128 .f32 ← Prog.lift (.load B.arg10 (Rect.unit (s := S256x8x128)
    (k0_off76 v2354 t8 (BitVec.ofNat 32 (2 * r.val)) 0#32 1#32) S1x8x128.size
    (k0_off76_inb t3 v2354 hw4 t8 r 0 1)).toLoadRect (View.loadsAt_vmem h_S1x8x128))
  let sc1 : Vec F S1x128 .f32 ← Prog.lift (.load B.arg12 (Rect.unit (s := S128x128)
    (k0_off75 v2354 t8 (BitVec.ofNat 32 (2 * r.val)) 1#32) S1x128.size
    (k0_off75_inb t3 v2354 hw4 t8 r 1)).toLoadRect (View.loadsAt_vmem h_S1x128))
  let e10 : Vec F S1x8x128 .f32 ← Prog.lift (.load B.arg10 (Rect.unit (s := S256x8x128)
    (k0_off76 v2354 t8 (BitVec.ofNat 32 (2 * r.val)) 1#32 0#32) S1x8x128.size
    (k0_off76_inb t3 v2354 hw4 t8 r 1 0)).toLoadRect (View.loadsAt_vmem h_S1x8x128))
  let e11 : Vec F S1x8x128 .f32 ← Prog.lift (.load B.arg10 (Rect.unit (s := S256x8x128)
    (k0_off76 v2354 t8 (BitVec.ofNat 32 (2 * r.val)) 1#32 1#32) S1x8x128.size
    (k0_off76_inb t3 v2354 hw4 t8 r 1 1)).toLoadRect (View.loadsAt_vmem h_S1x8x128))
  pure (accStep v16 inv acc kA kB sc0 e00 e01 sc1 e10 e11)

/-- One trip of the value loop: the wait, eight tiles, one issue. -/
def vTrip (v16 : IVec S8x128 32) (t3 : Fin k0_t3_loop.trips) (v2354 : Elt F .i32)
    (hw4 : k0_chk4 t3 v2354) (inv : FVec F S8x128 .f32) :
    Fin (k0_t8_loop v2354).trips → BitVec 32 × BitVec 32 × BitVec 32 × BitVec 32 × BitVec 32 × FVec F S64x256 .f32 →
    Prog (TpuEff nD τ sig (Elt F) Λ₀ .tc) (BitVec 32 × BitVec 32 × BitVec 32 × BitVec 32 × BitVec 32 × FVec F S64x256 .f32) :=
  fun t8 (b, k, c, sl, slot, a) => do
    have hw7 : k0_chk15 b k sl := (← Prog.lift (TpuEff.assume (k0_chk15 b k sl) (k0_chk15.dec b k sl))).down
    have hw6 : k0_chk14 b := (← Prog.lift (TpuEff.assume (k0_chk14 b) (k0_chk14.dec b))).down
    have hw5 : k0_chk13 v2354 t8 slot :=
      (← Prog.lift (TpuEff.assume (k0_chk13 v2354 t8 slot) (k0_chk13.dec v2354 t8 slot))).down
    Prog.lift (.waitDma ((B.arg13.slice (Rect.unit (s := S24) (k0_off70 slot) S1.size
      (k0_off70_inb v2354 t8 slot hw5))).squeeze S_ squeezes_S1_S_).sem B.arg7.view.ref
      (⟨3, k0_sz17 v2354 t8⟩ : Shape) .fp8e4m3 (Or.inl rfl))
    let a0 ← tileV B v16 t3 v2354 hw4 inv t8 0 (k0_off73 slot) (k0_off73_inb v2354 t8 slot hw5)
      (k0_off74 slot) (k0_off74_inb v2354 t8 slot hw5) a
    let a1 ← tileV B v16 t3 v2354 hw4 inv t8 1 (k0_off77 slot) (k0_off77_inb v2354 t8 slot hw5)
      (k0_off78 slot) (k0_off78_inb v2354 t8 slot hw5) a0
    let a2 ← tileV B v16 t3 v2354 hw4 inv t8 2 (k0_off79 slot) (k0_off79_inb v2354 t8 slot hw5)
      (k0_off80 slot) (k0_off80_inb v2354 t8 slot hw5) a1
    let a3 ← tileV B v16 t3 v2354 hw4 inv t8 3 (k0_off81 slot) (k0_off81_inb v2354 t8 slot hw5)
      (k0_off82 slot) (k0_off82_inb v2354 t8 slot hw5) a2
    let a4 ← tileV B v16 t3 v2354 hw4 inv t8 4 (k0_off83 slot) (k0_off83_inb v2354 t8 slot hw5)
      (k0_off84 slot) (k0_off84_inb v2354 t8 slot hw5) a3
    let a5 ← tileV B v16 t3 v2354 hw4 inv t8 5 (k0_off85 slot) (k0_off85_inb v2354 t8 slot hw5)
      (k0_off86 slot) (k0_off86_inb v2354 t8 slot hw5) a4
    let a6 ← tileV B v16 t3 v2354 hw4 inv t8 6 (k0_off87 slot) (k0_off87_inb v2354 t8 slot hw5)
      (k0_off88 slot) (k0_off88_inb v2354 t8 slot hw5) a5
    let a7 ← tileV B v16 t3 v2354 hw4 inv t8 7 (k0_off89 slot) (k0_off89_inb v2354 t8 slot hw5)
      (k0_off90 slot) (k0_off90_inb v2354 t8 slot hw5) a6
    let (b', k', c', sl') : BitVec 32 × BitVec 32 × BitVec 32 × BitVec 32 ← issueV B b k c sl hw7 hw6
    pure (b', k', c', sl', slotNext slot, a7)

set_option maxHeartbeats 0 in
theorem vTrip_eq (v16 : IVec S8x128 32) (t3 : Fin k0_t3_loop.trips)
    (b k c sl slot x : BitVec 32) (v2354 : Elt F .i32)
    (hw4 : k0_chk4 t3 v2354) (y z : BitVec 32) (m l : FVec F S8x128 .f32)
    (t8 : Fin (k0_t8_loop v2354).trips) (b1 k1 c1 sl1 slot1 : BitVec 32) (a : FVec F S64x256 .f32) :
    k0_t8_body (F := F) B.arg0 B.harg0 B.arg1 B.harg1 B.arg2 B.harg2 B.arg3 B.harg3 B.arg4 B.harg4 B.arg5 B.harg5 B.arg6 B.harg6 B.arg7 B.harg7 B.arg8 B.harg8 B.arg9 B.harg9 B.arg10 B.harg10 B.arg11 B.harg11 B.arg12 B.harg12 B.arg13
      v16 t3 x v2354 hw4 y z b k c sl slot m l t8 (b1, k1, c1, sl1, slot1, a)
      = vTrip B v16 t3 v2354 hw4 (k0_pay465 l) t8 (b1, k1, c1, sl1, slot1, a) := by
  repeat refine congrArg (Prog.op _) (funext fun x0 => ?_)
  by_cases h : k0_cond10 b1 = 1#1
  · refine (dif_pos h).trans ?_
    refine Eq.trans ?_ (congrArg (fun z => Prog.bind z _)
      (dif_pos h : issueV B b1 k1 c1 sl1 _ _ = _)).symm
    refine Eq.trans ?_ (Prog.bind_assoc _ _ _).symm
    refine congrArg (Prog.bind _) (funext fun x => ?_)
    obtain ⟨x1, x2, x3, x4⟩ := x
    rfl
  · refine (dif_neg h).trans ?_
    refine Eq.trans ?_ (congrArg (fun z => Prog.bind z _)
      (dif_neg h : issueV B b1 k1 c1 sl1 _ _ = _)).symm
    rfl

end Cert.Proof.KernelIdeal
-- ==== Proof.KernelIdeal.Words.lean ====
/- The words the kernel computes: block and chunk counts of a sequence, the rows of a chunk, the loops'
   trips and the offsets, in closed form for a length between 1 and 8192; and from these the side
   conditions the kernel assumes of its words. -/
module

public import proofs.«01_k».proof.Proof.KernelIdeal.Prog
public import Idealize.ShloMosaic.Lib.LoopRemainder
public import Idealize.ShloMosaic.Lib.PairWhole

@[expose] public section

set_option maxRecDepth 65536

noncomputable section

namespace Cert.Proof.KernelIdeal

open Cert.KernelIdeal Cert.KernelIdeal.Gen
open Idealize.ShloMosaic Idealize.SL.Sem

/-- The length of a sequence is in range. -/
def InLen (L : BitVec 32) : Prop := 1 ≤ L.toNat ∧ L.toNat ≤ 8192

/-- Floor division of a word by `d` as the kernel computes it. -/
def floorDivW (x d : BitVec 32) : BitVec 32 :=
  Scalar.select
    (Scalar.andi
      (Scalar.cmpi .ne
        (Scalar.subi (Scalar.extui (Scalar.cmpi .sgt x 0#32)) (Scalar.extui (Scalar.cmpi .slt x 0#32)))
        (Scalar.subi (Scalar.extui (Scalar.cmpi .sgt d 0#32)) (Scalar.extui (Scalar.cmpi .slt d 0#32))))
      (Scalar.cmpi .ne (Scalar.remsi x d) 0#32))
    (Scalar.subi (Scalar.divsi x d) 1#32) (Scalar.divsi x d)

/-- The blocks of a sequence, as a word. -/
def nbW (L : BitVec 32) : BitVec 32 := floorDivW (Scalar.addi L 63#32) 64#32
/-- The chunks of a sequence, as a word, from its blocks. -/
def ncW (nb : BitVec 32) : BitVec 32 := floorDivW (Scalar.subi (Scalar.addi nb 16#32) 1#32) 16#32
/-- The rows of chunk `c`, as a word. -/
def nW (nb c : BitVec 32) : BitVec 32 := Scalar.minsi (Scalar.subi nb (Scalar.muli c 16#32)) 16#32

/-- The blocks of a sequence of length `l`. -/
def nbN (l : ℕ) : ℕ := (l + 63) / 64
/-- The chunks of a sequence of length `l`. -/
def ncN (l : ℕ) : ℕ := (nbN l + 15) / 16
/-- The rows of chunk `c` of a sequence of length `l`. -/
def nN (l c : ℕ) : ℕ := min (nbN l - 16 * c) 16

theorem nbW_all : ∀ l : Fin 8193, 1 ≤ l.val → nbW (BitVec.ofNat 32 l.val) = BitVec.ofNat 32 ((l.val + 63) / 64) := by
  decide +kernel

theorem ncW_all : ∀ n : Fin 129, ncW (BitVec.ofNat 32 n.val) = BitVec.ofNat 32 ((n.val + 15) / 16) := by
  decide +kernel

theorem nW_all : ∀ n : Fin 129, ∀ c : Fin 8, 16 * c.val < n.val →
    (nW (BitVec.ofNat 32 n.val) (BitVec.ofNat 32 c.val)).toNat = min (n.val - 16 * c.val) 16 := by
  decide +kernel

theorem ofNat_of_toNat {w : BitVec 32} {n : ℕ} (h : w.toNat = n) : w = BitVec.ofNat 32 n := by
  subst h; simp

theorem nbW_eq {L : BitVec 32} (h : InLen L) : nbW L = BitVec.ofNat 32 (nbN L.toNat) := by
  have := nbW_all ⟨L.toNat, by have := h.2; omega⟩ h.1
  simpa [nbN] using this

theorem nbN_pos {l : ℕ} (h : 1 ≤ l) : 1 ≤ nbN l := by unfold nbN; omega
theorem nbN_le {l : ℕ} (h : l ≤ 8192) : nbN l ≤ 128 := by unfold nbN; omega
theorem ncN_pos {l : ℕ} (h : 1 ≤ l) : 1 ≤ ncN l := by unfold ncN nbN; omega
theorem ncN_le {l : ℕ} (h : l ≤ 8192) : ncN l ≤ 8 := by unfold ncN nbN; omega
theorem lt_nbN_of_lt_ncN {l c : ℕ} (h : c < ncN l) : 16 * c < nbN l := by unfold ncN at h; omega

theorem ncW_eq {L : BitVec 32} (h : InLen L) : ncW (nbW L) = BitVec.ofNat 32 (ncN L.toNat) := by
  rw [nbW_eq h]
  exact ncW_all ⟨nbN L.toNat, by have := nbN_le h.2; omega⟩

theorem nW_eq {L c : BitVec 32} (h : InLen L) (hc : c.toNat < ncN L.toNat) :
    (nW (nbW L) c).toNat = nN L.toNat c.toNat := by
  rw [nbW_eq h]
  have h1 := ncN_le h.2
  have := nW_all ⟨nbN L.toNat, by have := nbN_le h.2; omega⟩ ⟨c.toNat, by omega⟩ (lt_nbN_of_lt_ncN hc)
  simpa [nN] using this

theorem nN_pos {l c : ℕ} (h : c < ncN l) : 1 ≤ nN l c := by
  have := lt_nbN_of_lt_ncN h; unfold nN; omega
theorem nN_le (l c : ℕ) : nN l c ≤ 16 := by unfold nN; omega
theorem nN_add_le {l c : ℕ} (h : l ≤ 8192) (hc : c < ncN l) : 16 * c + nN l c ≤ 128 := by
  have := nbN_le h; have := lt_nbN_of_lt_ncN hc; unfold nN; omega

/-! ### The loops -/

theorem t4_loop_eq (L : BitVec 32) : k0_t4_loop L = ⟨0#32, Scalar.addi 0#32 (Scalar.muli (Scalar.divsi (Scalar.subi (ncW (nbW L)) 0#32) 1#32) 1#32), 1#32⟩ := rfl
theorem t8_loop_eq (L : BitVec 32) : k0_t8_loop L = ⟨0#32, Scalar.addi 0#32 (Scalar.muli (Scalar.divsi (Scalar.subi (ncW (nbW L)) 0#32) 1#32) 1#32), 1#32⟩ := rfl
theorem t6_loop_eq (L : BitVec 32) : k0_t6_loop L = ⟨0#32, Scalar.addi 0#32 (Scalar.muli (Scalar.divsi (Scalar.subi (Scalar.muli (ncW (nbW L)) 4#32) 0#32) 1#32) 1#32), 1#32⟩ := rfl

theorem upto_all : ∀ n : Fin 33, Scf.trips 0#32 (Scalar.addi 0#32 (Scalar.muli (Scalar.divsi (Scalar.subi (BitVec.ofNat 32 n.val) 0#32) 1#32) 1#32)) 1#32 = n.val
    ∧ Scf.OK 0#32 (Scalar.addi 0#32 (Scalar.muli (Scalar.divsi (Scalar.subi (BitVec.ofNat 32 n.val) 0#32) 1#32) 1#32)) 1#32
    ∧ Scf.OK (Scalar.addi 0#32 (Scalar.muli (Scalar.divsi (Scalar.subi (BitVec.ofNat 32 n.val) 0#32) 1#32) 1#32)) (Scalar.addi 0#32 (Scalar.subi (BitVec.ofNat 32 n.val) 0#32)) 1#32 := by
  decide +kernel

theorem mul4_all : ∀ n : Fin 9, Scalar.muli (BitVec.ofNat 32 n.val) 4#32 = BitVec.ofNat 32 (n.val * 4) := by
  decide +kernel

theorem t4_trips {L : BitVec 32} (h : InLen L) : (k0_t4_loop L).trips = ncN L.toNat := by
  show Scf.trips (k0_t4_loop L).lb (k0_t4_loop L).ub (k0_t4_loop L).st = _
  rw [t4_loop_eq, ncW_eq h]
  exact (upto_all ⟨ncN L.toNat, by have := ncN_le h.2; omega⟩).1
theorem t8_trips {L : BitVec 32} (h : InLen L) : (k0_t8_loop L).trips = ncN L.toNat := t4_trips h
theorem t6_trips {L : BitVec 32} (h : InLen L) : (k0_t6_loop L).trips = ncN L.toNat * 4 := by
  show Scf.trips (k0_t6_loop L).lb (k0_t6_loop L).ub (k0_t6_loop L).st = _
  rw [t6_loop_eq, ncW_eq h, mul4_all ⟨ncN L.toNat, by have := ncN_le h.2; omega⟩]
  exact (upto_all ⟨ncN L.toNat * 4, by have := ncN_le h.2; omega⟩).1
theorem t5_trips (L : BitVec 32) : (k0_t5_loop L).trips = 0 := Scf.rem_trips 0#32 (Scalar.subi (ncW (nbW L)) 0#32)
theorem t7_trips (L : BitVec 32) : (k0_t7_loop L).trips = 0 := Scf.rem_trips 0#32 (Scalar.subi (Scalar.muli (ncW (nbW L)) 4#32) 0#32)
theorem t9_trips (L : BitVec 32) : (k0_t9_loop L).trips = 0 := Scf.rem_trips 0#32 (Scalar.subi (ncW (nbW L)) 0#32)

theorem t4_ok {L : BitVec 32} (h : InLen L) : (k0_t4_loop L).OK := by
  show Scf.OK (k0_t4_loop L).lb (k0_t4_loop L).ub (k0_t4_loop L).st
  rw [t4_loop_eq, ncW_eq h]
  exact (upto_all ⟨ncN L.toNat, by have := ncN_le h.2; omega⟩).2.1
theorem t6_ok {L : BitVec 32} (h : InLen L) : (k0_t6_loop L).OK := by
  show Scf.OK (k0_t6_loop L).lb (k0_t6_loop L).ub (k0_t6_loop L).st
  rw [t6_loop_eq, ncW_eq h, mul4_all ⟨ncN L.toNat, by have := ncN_le h.2; omega⟩]
  exact (upto_all ⟨ncN L.toNat * 4, by have := ncN_le h.2; omega⟩).2.1
theorem t5_ok {L : BitVec 32} (h : InLen L) : (k0_t5_loop L).OK := by
  show Scf.OK (Scalar.addi 0#32 (Scalar.muli (Scalar.divsi (Scalar.subi (ncW (nbW L)) 0#32) 1#32) 1#32)) (Scalar.addi 0#32 (Scalar.subi (ncW (nbW L)) 0#32)) 1#32
  rw [ncW_eq h]
  exact (upto_all ⟨ncN L.toNat, by have := ncN_le h.2; omega⟩).2.2
theorem t7_ok {L : BitVec 32} (h : InLen L) : (k0_t7_loop L).OK := by
  show Scf.OK (Scalar.addi 0#32 (Scalar.muli (Scalar.divsi (Scalar.subi (Scalar.muli (ncW (nbW L)) 4#32) 0#32) 1#32) 1#32)) (Scalar.addi 0#32 (Scalar.subi (Scalar.muli (ncW (nbW L)) 4#32) 0#32)) 1#32
  rw [ncW_eq h, mul4_all ⟨ncN L.toNat, by have := ncN_le h.2; omega⟩]
  exact (upto_all ⟨ncN L.toNat * 4, by have := ncN_le h.2; omega⟩).2.2

/-! ### Offsets -/

theorem iv_toNat (k : ℕ) (h : k < 4294967296) : (Scf.iv 0#32 1#32 k).toNat = k := by
  simp [Scf.iv, Nat.mod_eq_of_lt h]

/-- The block `16 c + 2 r + i` as the kernel computes it. -/
theorem blk_all : ∀ (c : Fin 8) (r : Fin 8) (i : Fin 2),
    (Scalar.addi (Scalar.addi (Scalar.muli (Scf.iv 0#32 1#32 c.val) 16#32) (BitVec.ofNat 32 (2 * r.val))) (BitVec.ofNat 32 i.val))
      = BitVec.ofNat 32 (16 * c.val + 2 * r.val + i.val) := by decide +kernel

theorem row_all : ∀ (c : Fin 128) (j : Fin 2),
    (Scalar.addi (Scalar.muli (BitVec.ofNat 32 c.val) 2#32) (BitVec.ofNat 32 j.val)).toNat = 2 * c.val + j.val := by decide +kernel

theorem erow_all : ∀ (i : Fin 32) (r : Fin 8),
    (Scalar.addi (Scalar.muli (Scf.iv 0#32 1#32 i.val) 8#32) (BitVec.ofNat 32 r.val)).toNat = 8 * i.val + r.val := by decide +kernel

theorem lt8_of_t4 {L : BitVec 32} (h : InLen L) (t : Fin (k0_t4_loop L).trips) : t.val < 8 := by
  have := lt_of_lt_of_eq t.isLt (t4_trips h); have := ncN_le h.2; omega
theorem lt8_of_t8 {L : BitVec 32} (h : InLen L) (t : Fin (k0_t8_loop L).trips) : t.val < 8 := lt8_of_t4 h t
theorem lt32_of_t6 {L : BitVec 32} (h : InLen L) (t : Fin (k0_t6_loop L).trips) : t.val < 32 := by
  have := lt_of_lt_of_eq t.isLt (t6_trips h); have := ncN_le h.2; omega

theorem off17_eq {L : BitVec 32} (h : InLen L) (t : Fin (k0_t4_loop L).trips) (r : Fin 8) (i : Fin 2) :
    k0_off17 L t (BitVec.ofNat 32 (2 * r.val)) (BitVec.ofNat 32 i.val) = ![16 * t.val + 2 * r.val + i.val, 0] := by
  have h8 := lt8_of_t4 h t
  have := blk_all ⟨t.val, h8⟩ r i
  show ![(Scalar.addi (Scalar.addi (Scalar.muli (Scf.iv 0#32 1#32 t.val) 16#32) (BitVec.ofNat 32 (2 * r.val))) (BitVec.ofNat 32 i.val)).toNat, 0] = _
  rw [this]; simp only [BitVec.toNat_ofNat]
  rw [Nat.mod_eq_of_lt (by omega)]

theorem off18_eq {L : BitVec 32} (h : InLen L) (t : Fin (k0_t4_loop L).trips) (r : Fin 8) (i j : Fin 2) :
    k0_off18 L t (BitVec.ofNat 32 (2 * r.val)) (BitVec.ofNat 32 i.val) (BitVec.ofNat 32 j.val)
      = ![2 * (16 * t.val + 2 * r.val + i.val) + j.val, 0, 0] := by
  have h8 := lt8_of_t4 h t
  have := blk_all ⟨t.val, h8⟩ r i
  show ![(Scalar.addi (Scalar.muli (Scalar.addi (Scalar.addi (Scalar.muli (Scf.iv 0#32 1#32 t.val) 16#32) (BitVec.ofNat 32 (2 * r.val))) (BitVec.ofNat 32 i.val)) 2#32) (BitVec.ofNat 32 j.val)).toNat, 0, 0] = _
  rw [this, row_all ⟨16 * t.val + 2 * r.val + i.val, by omega⟩ j]

theorem off75_eq {L : BitVec 32} (h : InLen L) (t : Fin (k0_t8_loop L).trips) (r : Fin 8) (i : Fin 2) :
    k0_off75 L t (BitVec.ofNat 32 (2 * r.val)) (BitVec.ofNat 32 i.val) = ![16 * t.val + 2 * r.val + i.val, 0] :=
  off17_eq h t r i

theorem off76_eq {L : BitVec 32} (h : InLen L) (t : Fin (k0_t8_loop L).trips) (r : Fin 8) (i j : Fin 2) :
    k0_off76 L t (BitVec.ofNat 32 (2 * r.val)) (BitVec.ofNat 32 i.val) (BitVec.ofNat 32 j.val)
      = ![2 * (16 * t.val + 2 * r.val + i.val) + j.val, 0, 0] := off18_eq h t r i j

theorem off68_eq {L : BitVec 32} (h : InLen L) (t : Fin (k0_t6_loop L).trips) (r : Fin 8) :
    k0_off68 L t (BitVec.ofNat 32 r.val) = ![8 * t.val + r.val, 0, 0] := by
  have h8 := lt32_of_t6 h t
  show ![(Scalar.addi (Scalar.muli (Scf.iv 0#32 1#32 t.val) 8#32) (BitVec.ofNat 32 r.val)).toNat, 0, 0] = _
  rw [erow_all ⟨t.val, h8⟩ r]

theorem iv32_all : ∀ t : Fin 64, (Scalar.muli (Scf.iv 0#32 1#32 t.val) 32#32).toNat = 32 * t.val := by decide +kernel
theorem iv_all : ∀ t : Fin 64, (Scf.iv 0#32 1#32 t.val).toNat = t.val := by decide +kernel

theorem lt64_of_t3 (t : Fin k0_t3_loop.trips) : t.val < 64 :=
  lt_of_lt_of_eq t.isLt (by decide +kernel : k0_t3_loop.trips = 64)
theorem lt24_of_t1 (t : Fin k0_t1_loop.trips) : t.val < 24 :=
  lt_of_lt_of_eq t.isLt (by decide +kernel : k0_t1_loop.trips = 24)

theorem off10_eq (t : Fin k0_t3_loop.trips) : k0_off10 t = ![32 * t.val, 0] := by
  show ![(Scalar.muli (Scf.iv 0#32 1#32 t.val) 32#32).toNat, 0] = _
  rw [iv32_all ⟨t.val, lt64_of_t3 t⟩]
theorem off126_eq (t : Fin k0_t3_loop.trips) : k0_off126 t = ![32 * t.val, 0] := off10_eq t
theorem off11_eq (t : Fin k0_t3_loop.trips) : k0_off11 t = ![t.val, 0, 0] := by
  show ![(Scf.iv 0#32 1#32 t.val).toNat, 0, 0] = _
  rw [iv_all ⟨t.val, lt64_of_t3 t⟩]
theorem off9_eq (t : Fin k0_t3_loop.trips) : k0_off9 t = ![t.val] := by
  show ![(Scf.iv 0#32 1#32 t.val).toNat] = _
  rw [iv_all ⟨t.val, lt64_of_t3 t⟩]
theorem off1_eq (t : Fin k0_t1_loop.trips) : k0_off1 t = ![t.val, 0, 0, 0] := by
  show ![(Scf.iv 0#32 1#32 t.val).toNat, 0, 0, 0] = _
  rw [iv_all ⟨t.val, by have := lt24_of_t1 t; omega⟩]

theorem cond1_iff {b : BitVec 32} (h : b.toNat ≤ 64) : k0_cond1 b = 1#1 ↔ b.toNat < 64 := by
  have : ∀ n : Fin 65, k0_cond1 (BitVec.ofNat 32 n.val) = 1#1 ↔ n.val < 64 := by decide +kernel
  have := this ⟨b.toNat, by omega⟩
  simpa using this

/-! ### The side conditions -/

theorem squeezes_chunk (n : ℕ) : (⟨4, ![1, n, 256, 128]⟩ : Shape).Squeezes ⟨3, ![n, 256, 128]⟩ := by
  simp [Shape.Squeezes, Shape.dropsOnes, List.ofFn_succ]

theorem chk1_of {b : BitVec 32} (h : b.toNat ≤ 64) : k0_chk1 b := by
  intro h1 a
  have := (cond1_iff h).mp h1
  fin_cases a
  show b.toNat + 1 ≤ 64
  omega

theorem inb_slot {sl : BitVec 32} (h : sl.toNat < 24) : ∀ a, (![sl.toNat] : Fin 1 → ℕ) a + S1.size a ≤ S24.size a := by
  intro a; fin_cases a; show sl.toNat + 1 ≤ 24; omega

theorem chk2_of {b k sl : BitVec 32} (h : sl.toNat < 24) : k0_chk2 b k sl :=
  ⟨fun _ _ => inb_slot h, fun _ _ => inb_slot h⟩

theorem inb_ring {sl : BitVec 32} (h : sl.toNat < 24) {n : ℕ} (hn : n ≤ 16) :
    ∀ a, (![1, n, 256, 128] : Fin 4 → ℕ) a = 0 ∨ (![sl.toNat, 0, 0, 0] : Fin 4 → ℕ) a + (![1, n, 256, 128] : Fin 4 → ℕ) a ≤ S24x16x256x128.size a := by
  intro a
  fin_cases a
  · right; show sl.toNat + 1 ≤ 24; omega
  · right; show 0 + n ≤ 16; omega
  · right; show 0 + 256 ≤ 256; omega
  · right; show 0 + 128 ≤ 128; omega

theorem inb_hbm {b o n : ℕ} (hb : b < 64) (hn : o + n ≤ 128) :
    ∀ a, (![1, n, 256, 128] : Fin 4 → ℕ) a = 0 ∨ (![b, o, 0, 0] : Fin 4 → ℕ) a + (![1, n, 256, 128] : Fin 4 → ℕ) a ≤ S64x128x256x128.size a := by
  intro a
  fin_cases a
  · right; show b + 1 ≤ 64; omega
  · right; show o + n ≤ 128; omega
  · right; show 0 + 256 ≤ 256; omega
  · right; show 0 + 128 ≤ 128; omega

theorem c16_all : ∀ c : Fin 8, (Scalar.muli (BitVec.ofNat 32 c.val) 16#32).toNat = 16 * c.val := by decide +kernel

theorem c16_eq {c : BitVec 32} (h : c.toNat < 8) : (Scalar.muli c 16#32).toNat = 16 * c.toNat := by
  have := c16_all ⟨c.toNat, h⟩
  simpa using this

theorem off4_eq (c sl L : BitVec 32) : k0_off4 c sl L = ⟨![sl.toNat, 0, 0, 0], ![1, (nW (nbW L) c).toNat, 256, 128]⟩ := rfl
theorem off7_eq (c sl L : BitVec 32) : k0_off7 c sl L = ⟨![sl.toNat, 0, 0, 0], ![1, (nW (nbW L) c).toNat, 256, 128]⟩ := rfl
theorem off5_eq (b c L : BitVec 32) : k0_off5 b c L = ⟨![b.toNat, (Scalar.muli c 16#32).toNat, 0, 0], ![1, (nW (nbW L) c).toNat, 256, 128]⟩ := rfl
theorem off8_eq (b c L : BitVec 32) : k0_off8 b c L = ⟨![b.toNat, (Scalar.muli c 16#32).toNat, 0, 0], ![1, (nW (nbW L) c).toNat, 256, 128]⟩ := rfl
theorem sz1_eq (c L : BitVec 32) : k0_sz1 c L = ![(nW (nbW L) c).toNat, 256, 128] := rfl

theorem chk3_of {b k c sl L : BitVec 32} (hb : b.toNat < 64) (h : sl.toNat < 24) (hL : InLen L)
    (hc : c.toNat < ncN L.toNat) : k0_chk3 b k c sl L := by
  have hn := nW_eq hL hc
  have h8 : c.toNat < 8 := by have := ncN_le hL.2; omega
  have hR : ∀ a, (![1, (nW (nbW L) c).toNat, 256, 128] : Fin 4 → ℕ) a = 0 ∨ (![sl.toNat, 0, 0, 0] : Fin 4 → ℕ) a + (![1, (nW (nbW L) c).toNat, 256, 128] : Fin 4 → ℕ) a ≤ S24x16x256x128.size a :=
    inb_ring h (by rw [hn]; exact nN_le _ _)
  have hH : ∀ a, (![1, (nW (nbW L) c).toNat, 256, 128] : Fin 4 → ℕ) a = 0 ∨ (![b.toNat, (Scalar.muli c 16#32).toNat, 0, 0] : Fin 4 → ℕ) a + (![1, (nW (nbW L) c).toNat, 256, 128] : Fin 4 → ℕ) a ≤ S64x128x256x128.size a :=
    inb_hbm hb (by rw [hn, c16_eq h8]; exact nN_add_le hL.2 hc)
  have h2 : 2 ≤ S24x16x256x128.rank := by decide
  exact ⟨fun _ _ => hR, fun _ _ => squeezes_chunk _, fun _ _ => hH, fun _ _ => squeezes_chunk _,
    fun _ _ _ => .inr ⟨h2, rfl, rfl, rfl⟩, fun _ _ _ => .inr ⟨h2, rfl, rfl, rfl⟩,
    fun _ _ => hR, fun _ _ => squeezes_chunk _, fun _ _ => hH, fun _ _ => squeezes_chunk _,
    fun _ _ _ => .inr ⟨h2, rfl, rfl, rfl⟩, fun _ _ _ => .inr ⟨h2, rfl, rfl, rfl⟩⟩

theorem chk6_of {b : BitVec 32} (h : b.toNat ≤ 64) : k0_chk6 b := chk1_of h
theorem chk7_of {b k sl : BitVec 32} (h : sl.toNat < 24) : k0_chk7 b k sl := chk2_of h
theorem chk14_of {b : BitVec 32} (h : b.toNat ≤ 64) : k0_chk14 b := chk1_of h
theorem chk15_of {b k sl : BitVec 32} (h : sl.toNat < 24) : k0_chk15 b k sl := chk2_of h

theorem inb_tile {sl : BitVec 32} (h : sl.toNat < 24) (k : ℕ) (hk : k < 16) :
    ∀ a, (![sl.toNat, k, 0, 0] : Fin 4 → ℕ) a + S1x1x256x128.size a ≤ S24x16x256x128.size a := by
  intro a
  fin_cases a
  · show sl.toNat + 1 ≤ 24; omega
  · show k + 1 ≤ 16; omega
  · show 0 + 256 ≤ 256; omega
  · show 0 + 128 ≤ 128; omega

theorem chk5_of {L : BitVec 32} (t : Fin (k0_t4_loop L).trips) {sl : BitVec 32} (h : sl.toNat < 24) : k0_chk5 L t sl :=
  ⟨inb_slot h, squeezes_chunk _, inb_tile h 0 (by omega), inb_tile h 1 (by omega), inb_tile h 2 (by omega), inb_tile h 3 (by omega), inb_tile h 4 (by omega), inb_tile h 5 (by omega), inb_tile h 6 (by omega), inb_tile h 7 (by omega), inb_tile h 8 (by omega), inb_tile h 9 (by omega), inb_tile h 10 (by omega), inb_tile h 11 (by omega), inb_tile h 12 (by omega), inb_tile h 13 (by omega), inb_tile h 14 (by omega), inb_tile h 15 (by omega)⟩

theorem chk13_of {L : BitVec 32} (t : Fin (k0_t8_loop L).trips) {sl : BitVec 32} (h : sl.toNat < 24) : k0_chk13 L t sl :=
  ⟨inb_slot h, squeezes_chunk _, inb_tile h 0 (by omega), inb_tile h 1 (by omega), inb_tile h 2 (by omega), inb_tile h 3 (by omega), inb_tile h 4 (by omega), inb_tile h 5 (by omega), inb_tile h 6 (by omega), inb_tile h 7 (by omega), inb_tile h 8 (by omega), inb_tile h 9 (by omega), inb_tile h 10 (by omega), inb_tile h 11 (by omega), inb_tile h 12 (by omega), inb_tile h 13 (by omega), inb_tile h 14 (by omega), inb_tile h 15 (by omega)⟩

theorem inb_row2 {o : ℕ} (h : o < 128) : ∀ a, (![o, 0] : Fin 2 → ℕ) a + S1x128.size a ≤ S128x128.size a := by
  intro a; fin_cases a
  · show o + 1 ≤ 128; omega
  · show 0 + 128 ≤ 128; omega
theorem inb_row3 {o : ℕ} (h : o < 256) : ∀ a, (![o, 0, 0] : Fin 3 → ℕ) a + S1x8x128.size a ≤ S256x8x128.size a := by
  intro a; fin_cases a
  · show o + 1 ≤ 256; omega
  · show 0 + 8 ≤ 8; omega
  · show 0 + 128 ≤ 128; omega

theorem chk4_of (t3 : Fin k0_t3_loop.trips) {L : BitVec 32} (h : InLen L) : k0_chk4 t3 L := by
  refine ⟨t4_ok h, fun t => squeezes_chunk _, fun t r i => ?_, fun t r i j => ?_, t5_ok h,
    fun t => squeezes_chunk _, fun t => ?_, fun t => ?_, t6_ok h, fun t r => ?_, t7_ok h, fun t => ?_,
    t4_ok h, fun t => squeezes_chunk _, fun t r i => ?_, fun t r i j => ?_, t5_ok h, fun t => squeezes_chunk _,
    fun t => ?_, fun t => ?_⟩
  · rw [off17_eq h]; have := lt8_of_t4 h t; exact inb_row2 (by omega)
  · rw [off18_eq h]; have := lt8_of_t4 h t; exact inb_row3 (by omega)
  · exact (Nat.not_lt_zero _ (lt_of_lt_of_eq t.isLt (t5_trips L))).elim
  · exact (Nat.not_lt_zero _ (lt_of_lt_of_eq t.isLt (t5_trips L))).elim
  · rw [off68_eq h]; have := lt32_of_t6 h t; exact inb_row3 (by omega)
  · exact (Nat.not_lt_zero _ (lt_of_lt_of_eq t.isLt (t7_trips L))).elim
  · rw [off75_eq h]; have := lt8_of_t8 h t; exact inb_row2 (by omega)
  · rw [off76_eq h]; have := lt8_of_t8 h t; exact inb_row3 (by omega)
  · exact (Nat.not_lt_zero _ (lt_of_lt_of_eq t.isLt (t9_trips L))).elim
  · exact (Nat.not_lt_zero _ (lt_of_lt_of_eq t.isLt (t9_trips L))).elim

end Cert.Proof.KernelIdeal
-- ==== Proof.Lens.lean ====
/- What the precondition on the lengths says of each length. -/
module

public import proofs.«01_k».proof.Defs
public import proofs.«01_k».proof.Proof.Gen.Pre_lengths
public import proofs.«01_k».proof.Proof.Kernel.Words
public import proofs.«01_k».proof.Proof.KernelIdeal.Words

@[expose] public section

noncomputable section

namespace Cert.Proof

open Idealize.ShloMosaic Cert.Pre_lengths

variable {F : FTy → Type} [FloatOps F]

/-- A word that is at least one and at most 8192 as a signed number is so as an unsigned one. -/
theorem word_range (L : BitVec 32)
    (h : IntOp.andi (IntOp.cmpi .sge L 1#32) (IntOp.cmpi .sle L 8192#32) = 1#1) : 1 ≤ L.toNat ∧ L.toNat ≤ 8192 := by
  have hL := L.isLt
  simp only [IntOp.andi, IntOp.cmpi] at h
  by_cases h1 : (1#32).sle L = true
  · by_cases h2 : L.sle 8192#32 = true
    · rw [BitVec.sle_iff_toInt_le] at h1 h2
      have e1 : (1#32 : BitVec 32).toInt = 1 := by decide
      have e2 : (8192#32 : BitVec 32).toInt = 8192 := by decide
      rw [e1] at h1
      rw [e2] at h2
      rw [BitVec.toInt_eq_toNat_cond] at h1 h2
      split at h1 <;> omega
    · rw [Bool.not_eq_true] at h2; rw [h1, h2] at h; exact absurd h (by decide)
  · rw [Bool.not_eq_true] at h1; rw [h1] at h
    cases h3 : L.sle 8192#32 <;> rw [h3] at h <;> exact absurd h (by decide)

theorem lens_range (a0 : FVec F S64x1x4096 .bf16) (a1 : FVec F S64x8192x4x128 .fp8e4m3) (a2 : FVec F S64x128x4 .f32)
    (a3 : FVec F S64x8192x4x128 .fp8e4m3) (a4 : FVec F S64x128x4 .f32) (a5 : IVec S64 32)
    (h : Cert.Pre_lengths.fn (F := F) a0 a1 a2 a3 a4 a5 = fun _ => 1#1) (i : S64.Idx) :
    1 ≤ (a5 i).toNat ∧ (a5 i).toNat ≤ 8192 :=
  word_range _ (congrFun h i)

theorem lens_inLen (a0 : FVec F S64x1x4096 .bf16) (a1 : FVec F S64x8192x4x128 .fp8e4m3) (a2 : FVec F S64x128x4 .f32)
    (a3 : FVec F S64x8192x4x128 .fp8e4m3) (a4 : FVec F S64x128x4 .f32) (a5 : IVec S64 32)
    (h : Cert.Pre_lengths.fn (F := F) a0 a1 a2 a3 a4 a5 = fun _ => 1#1) (i : S64.Idx) : Kernel.InLen (a5 i) :=
  lens_range a0 a1 a2 a3 a4 a5 h i

theorem lens_inLenIdeal (a0 : FVec F S64x1x4096 .bf16) (a1 : FVec F S64x8192x4x128 .fp8e4m3) (a2 : FVec F S64x128x4 .f32)
    (a3 : FVec F S64x8192x4x128 .fp8e4m3) (a4 : FVec F S64x128x4 .f32) (a5 : IVec S64 32)
    (h : Cert.Pre_lengths.fn (F := F) a0 a1 a2 a3 a4 a5 = fun _ => 1#1) (i : S64.Idx) : KernelIdeal.InLen (a5 i) :=
  lens_range a0 a1 a2 a3 a4 a5 h i

end Cert.Proof
-- ==== Proof.Kernel.Whole.lean ====
/- The whole kernel function as a structured program: the ring cleared, the first transfers issued, the
   query rows filled in, the sequences one after another, and the output rows copied out. -/
module

public import proofs.«01_k».proof.Proof.Kernel.Words

@[expose] public section

set_option maxRecDepth 65536
set_option pp.maxSteps 250

noncomputable section

namespace Cert.Proof.Kernel

open Cert.Kernel Cert.Kernel.Gen
open Idealize.ShloMosaic Idealize.SL.Sem

variable {F : FTy → Type} [FloatOps F] (B : Bufs)

/-- Three binds nested to the left, nested to the right. -/
theorem bind_assoc3 {α β γ δ : Type} (p : Prog (TpuEff nD τ sig (Elt F) Λ₀ .tc) α)
    (f : α → Prog (TpuEff nD τ sig (Elt F) Λ₀ .tc) β) (g : β → Prog (TpuEff nD τ sig (Elt F) Λ₀ .tc) γ)
    (h : γ → Prog (TpuEff nD τ sig (Elt F) Λ₀ .tc) δ) :
    p >>= f >>= g >>= h = p >>= fun a => f a >>= g >>= h := by
  rw [Prog.bind_assoc, Prog.bind_assoc]
  exact congrArg (Prog.bind p) (funext fun a => (Prog.bind_assoc _ _ _).symm)

/-- A counted loop without trips returns what it was given. -/
theorem loop_zero {α : Type} {w : ℕ} (l : Scf.Loop w) (hok : l.OK) (h : l.trips = 0) (init : α)
    (body : Fin l.trips → α → Prog (TpuEff nD τ sig (Elt F) Λ₀ .tc) α) :
    Scf.Loop.for l hok init body = pure init := by
  have hl : List.finRange l.trips = [] := List.length_eq_zero_iff.1 (by simpa using h)
  show Scf.for l.lb l.ub l.st hok init body = _
  rw [Scf.for_eq]
  unfold Scf.forFrom
  simp [hl]

/-- The work on one sequence after its length is read. -/
def seqRest (v16 v41 : IVec S8x128 32) (t3 : Fin k0_t3_loop.trips) (len v2354 : Elt F .i32)
    (hw4 : k0_chk4 t3 v2354) :
    BitVec 32 × BitVec 32 × BitVec 32 × BitVec 32 × BitVec 32 →
    Prog (TpuEff nD τ sig (Elt F) Λ₀ .tc) (BitVec 32 × BitVec 32 × BitVec 32 × BitVec 32 × BitVec 32) :=
  fun (b, k, c, sl, slot) => do
    let q : Vec F S32x128 .f32 ← Prog.lift (.load B.arg8 (Rect.unit (s := S2048x128) (k0_off10 t3)
      S32x128.size (k0_off10_inb t3)).toLoadRect (View.loadsAt_vmem h_S32x128))
    let s : Vec F S1x4x128 .f32 ← Prog.lift (.load B.arg3 (Rect.unit (s := S64x4x128) (k0_off11 t3)
      S1x4x128.size (k0_off11_inb t3)).toLoadRect (View.loadsAt_vmem h_S1x4x128))
    let _ : Vec F S128x128 .f32 ← Prog.lift (.load B.arg11 (Rect.unit (s := S128x128) ![0, 0]
      S128x128.size inb_S128x128_S128x128_0_0).toLoadRect (View.loadsAt_vmem h_S128x128))
    Prog.lift (.store B.arg11 (Rect.unit (s := S128x128) ![0, 0] S128x128.size
      inb_S128x128_S128x128_0_0) (k0_pay451 s) Finset.univ
      (View.stores_vmem_bits_univ h_S128x128 rfl) (.inl rfl))
    let s' : Vec F S1x4x128 .f32 ← Prog.lift (.load B.arg5 (Rect.unit (s := S64x4x128) (k0_off11 t3)
      S1x4x128.size (k0_off11_inb t3)).toLoadRect (View.loadsAt_vmem h_S1x4x128))
    let _ : Vec F S128x128 .f32 ← Prog.lift (.load B.arg12 (Rect.unit (s := S128x128) ![0, 0]
      S128x128.size inb_S128x128_S128x128_0_0).toLoadRect (View.loadsAt_vmem h_S128x128))
    Prog.lift (.store B.arg12 (Rect.unit (s := S128x128) ![0, 0] S128x128.size
      inb_S128x128_S128x128_0_0) (k0_pay452 s') Finset.univ
      (View.stores_vmem_bits_univ h_S128x128 rfl) (.inl rfl))
    let (b1, k1, c1, sl1, slot1, m) ← Scf.Loop.for (k0_t4_loop v2354) (k0_t4_ok t3 v2354 hw4)
      (b, k, c, sl, slot, k0_pay453 (F := F)) (kTrip B v16 v41 t3 len v2354 hw4 (k0_pay450 q))
    let l : FVec F S8x128 .f32 ← Scf.Loop.for (k0_t6_loop v2354) (k0_t6_ok t3 v2354 hw4)
      (k0_pay460 (F := F)) (expTrip B t3 v2354 hw4 (k0_pay459 (k0_pay458 m)))
    let (b2, k2, c2, sl2, slot2, acc) ← Scf.Loop.for (k0_t8_loop v2354) (k0_t8_ok t3 v2354 hw4)
      (b1, k1, c1, sl1, slot1, k0_pay466 (F := F)) (vTrip B v16 t3 v2354 hw4 (k0_pay465 l))
    let _ : Vec F S32x128 .f32 ← Prog.lift (.load B.arg9 (Rect.unit (s := S2048x128) (k0_off126 t3)
      S32x128.size (k0_off126_inb t3)).toLoadRect (View.loadsAt_vmem h_S32x128))
    Prog.lift (.store B.arg9 (Rect.unit (s := S2048x128) (k0_off126 t3) S32x128.size
      (k0_off126_inb t3)) (k0_pay755 (k0_pay469 acc)) Finset.univ
      (View.stores_vmem_bits_univ h_S32x128 rfl) (.inl rfl))
    pure (b2, k2, c2, sl2, slot2)

/-- The same work as printed. -/
def seqTail (v16 v41 : IVec S8x128 32) (t3 : Fin k0_t3_loop.trips) (len v2354 : Elt F .i32)
    (hw4 : k0_chk4 t3 v2354) (a14 x y : BitVec 32) :
    BitVec 32 × BitVec 32 × BitVec 32 × BitVec 32 × BitVec 32 →
    Prog (TpuEff nD τ sig (Elt F) Λ₀ .tc) (BitVec 32 × BitVec 32 × BitVec 32 × BitVec 32 × BitVec 32) :=
  fun (b, k, c, sl, slot) => do
    let ⟨b1, k1, c1, sl1, slot1, m⟩ ← k0_part115 (F := F) B.arg0 B.harg0 B.arg1 B.harg1 B.arg2 B.harg2 B.arg3 B.harg3 B.arg4 B.harg4 B.arg5 B.harg5 B.arg6 B.harg6 B.arg7 B.harg7 B.arg8 B.harg8 B.arg9 B.harg9 B.arg10 B.harg10 B.arg11 B.harg11 B.arg12 B.harg12 B.arg13
      v16 v41 t3 b k c sl slot a14 len v2354 hw4 x y
    let ⟨b2, k2, c2, sl2, slot2, acc, _⟩ ← k0_part116 (F := F) B.arg0 B.harg0 B.arg1 B.harg1 B.arg2 B.harg2 B.arg3 B.harg3 B.arg4 B.harg4 B.arg5 B.harg5 B.arg6 B.harg6 B.arg7 B.harg7 B.arg8 B.harg8 B.arg9 B.harg9 B.arg10 B.harg10 B.arg11 B.harg11 B.arg12 B.harg12 B.arg13
      v16 t3 a14 v2354 hw4 x y b1 k1 c1 sl1 slot1 m
    let _ : Vec F S32x128 .f32 ← Prog.lift (.load B.arg9 (Rect.unit (s := S2048x128) (k0_off126 t3)
      S32x128.size (k0_off126_inb t3)).toLoadRect (View.loadsAt_vmem h_S32x128))
    Prog.lift (.store B.arg9 (Rect.unit (s := S2048x128) (k0_off126 t3) S32x128.size
      (k0_off126_inb t3)) (k0_pay755 acc) Finset.univ
      (View.stores_vmem_bits_univ h_S32x128 rfl) (.inl rfl))
    pure (b2, k2, c2, sl2, slot2)

set_option maxHeartbeats 0 in
theorem seqTail_eq (v16 v41 : IVec S8x128 32) (t3 : Fin k0_t3_loop.trips) (len v2354 : Elt F .i32)
    (hw4 : k0_chk4 t3 v2354) (a14 x y b k c sl slot : BitVec 32) :
    seqTail B v16 v41 t3 len v2354 hw4 a14 x y (b, k, c, sl, slot)
      = seqRest B v16 v41 t3 len v2354 hw4 (b, k, c, sl, slot) := by
  unfold seqTail
  simp only [k0_part115_eq_skeleton, k0_part116_eq_skeleton]
  repeat refine congrArg (Prog.op _) (funext fun x0 => ?_)
  refine Eq.trans (Prog.bind_assoc (Scf.Loop.for (k0_t4_loop v2354) (k0_t4_ok t3 v2354 hw4)
    (b, k, c, sl, slot, k0_pay453 (F := F)) _) _ _) ?_
  refine congr (congrArg Prog.bind (congrArg (Scf.Loop.for (k0_t4_loop v2354) _ _) ?_)) (funext fun s1 => ?_)
  · funext t4 s
    obtain ⟨b1, k1, c1, sl1, slot1, m⟩ := s
    exact kTrip_eq B ..
  obtain ⟨b1, k1, c1, sl1, slot1, m⟩ := s1
  refine Eq.trans (Prog.bind_assoc _ _ _) ?_
  refine Eq.trans (congrArg (fun z => Prog.bind z _) (loop_zero _ _ (t5_trips v2354) _ _)) ?_
  refine Eq.trans (Prog.bind_assoc _ _ _) ?_
  refine congr (congrArg Prog.bind (congrArg (Scf.Loop.for (k0_t6_loop v2354) _ _) ?_)) (funext fun l => ?_)
  · funext t6 s
    exact expTrip_eq B ..
  refine Eq.trans (Prog.bind_assoc _ _ _) ?_
  refine Eq.trans (congrArg (fun z => Prog.bind z _) (loop_zero _ _ (t7_trips v2354) _ _)) ?_
  refine Eq.trans (Prog.bind_assoc _ _ _) ?_
  refine congr (congrArg Prog.bind (congrArg (Scf.Loop.for (k0_t8_loop v2354) _ _) ?_)) (funext fun s1 => ?_)
  · funext t8 s
    obtain ⟨b1, k1, c1, sl1, slot1, m⟩ := s
    exact vTrip_eq B ..
  obtain ⟨b2, k2, c2, sl2, slot2, acc⟩ := s1
  refine Eq.trans (Prog.bind_assoc _ _ _) ?_
  refine Eq.trans (congrArg (fun z => Prog.bind z _) (loop_zero _ _ (t9_trips v2354) _ _)) ?_
  rfl

/-- One sequence: its length is read, and the work done. -/
def seqS (v16 v41 : IVec S8x128 32) :
    Fin k0_t3_loop.trips → BitVec 32 × BitVec 32 × BitVec 32 × BitVec 32 × BitVec 32 →
    Prog (TpuEff nD τ sig (Elt F) Λ₀ .tc) (BitVec 32 × BitVec 32 × BitVec 32 × BitVec 32 × BitVec 32) :=
  fun t3 s => do
    let len : Elt F .i32 ← smemLoad B.arg0 (Rect.unit (s := S64) (k0_off9 t3) S1.size (k0_off9_inb t3))
      numel1_S1 rfl
    let v2354 : Elt F .i32 ← smemLoad B.arg0 (Rect.unit (s := S64) (k0_off9 t3) S1.size (k0_off9_inb t3))
      numel1_S1 rfl
    have hw4 : k0_chk4 t3 v2354 :=
      (← Prog.lift (TpuEff.assume (k0_chk4 t3 v2354) (k0_chk4.dec t3 v2354))).down
    seqRest B v16 v41 t3 len v2354 hw4 s

set_option maxHeartbeats 0 in
theorem seqS_eq (v16 v41 : IVec S8x128 32) (a b c d : BitVec 32) (v : FVec F S8x128 .f32)
    (t3 : Fin k0_t3_loop.trips) (s : BitVec 32 × BitVec 32 × BitVec 32 × BitVec 32 × BitVec 32) :
    k0_t3_body (F := F) B.arg0 B.harg0 B.arg1 B.harg1 B.arg2 B.harg2 B.arg3 B.harg3 B.arg4 B.harg4 B.arg5 B.harg5 B.arg6 B.harg6 B.arg7 B.harg7 B.arg8 B.harg8 B.arg9 B.harg9 B.arg10 B.harg10 B.arg11 B.harg11 B.arg12 B.harg12 B.arg13
      v16 v41 a b c d v t3 s = seqS B v16 v41 t3 s := by
  obtain ⟨b1, k1, c1, sl1, slot1⟩ := s
  refine congrArg (Prog.op _) (funext fun len => ?_)
  refine congrArg (Prog.op _) (funext fun len2 => ?_)
  refine congrArg (Prog.op _) (funext fun hw4 => ?_)
  exact seqTail_eq B v16 v41 t3 _ _ hw4.down (Scf.iv 0#32 1#32 t3) (nbW _) (ncW (nbW _)) b1 k1 c1 sl1 slot1

/-- Rows of the block of query rows or output rows number `i`. -/
theorem inb_x {i : ℕ} (h : i < 256) :
    ∀ a, (![8 * (i / 32), 128 * (i % 32)] : Fin 2 → ℕ) a + S8x128.size a ≤ S64x4096.size a := by
  intro a
  fin_cases a
  · show 8 * (i / 32) + 8 ≤ 64
    omega
  · show 128 * (i % 32) + 128 ≤ 4096
    omega

/-- The strided rows of the block number `i`. -/
theorem inb_q {i : ℕ} (h : i < 256) :
    ∀ a, S8x128.size a = 0 ∨ (![256 * (i / 32) + i % 32, 0] : Fin 2 → ℕ) a + (![32, 1] : Fin 2 → ℕ) a * (S8x128.size a - 1)
      < S2048x128.size a := by
  intro a
  right
  fin_cases a
  · show 256 * (i / 32) + i % 32 + 32 * (8 - 1) < 2048
    omega
  · show 0 + 1 * (128 - 1) < 128
    omega

/-- The strided rows of the block number `i`. -/
def rowsQ (i : ℕ) (h : i < 256) : LoadRect S2048x128 :=
  ⟨![256 * (i / 32) + i % 32, 0], S8x128.size, ![32, 1], inb_q h⟩

/-- One step of the fill: a block of query rows is widened and spread over its strided rows. -/
def fillStep (i : ℕ) (h : i < 256) : Prog (TpuEff nD τ sig (Elt F) Λ₀ .tc) PUnit := do
  let x : Vec F S8x128 .bf16 ← Prog.lift (.load B.arg1 (Rect.unit (s := S64x4096)
    ![8 * (i / 32), 128 * (i % 32)] S8x128.size (inb_x h)).toLoadRect (View.loadsAt_vmem h_S8x128))
  let _ : Vec F S8x128 .f32 ← Prog.lift (.load B.arg8 (rowsQ i h) (View.loadsAt_vmem h_S8x128))
  Prog.lift (.store B.arg8 ⟨rowsQ i h, spos_32_1⟩ (k0_pay473 x) Finset.univ
    (View.stores_vmem_bits_univ h_S8x128 rfl) (.inl rfl))

/-- The fill of the query rows from block `i` on. -/
def fills : (n i : ℕ) → i + n ≤ 256 → Prog (TpuEff nD τ sig (Elt F) Λ₀ .tc) PUnit
  | 0, _, _ => pure ⟨⟩
  | n + 1, i, h => fillStep B i (by omega) >>= fun _ => fills n (i + 1) (by omega)

/-- A block of output rows starts at an even row. -/
theorem packed_o {i : ℕ} (h : i < 256) :
    Rect.PackedRows (EltTy.packing .bf16) (Rect.unit (s := S64x4096)
      ![8 * (i / 32), 128 * (i % 32)] S8x128.size (inb_x h)) := by
  refine Or.inr ⟨by decide, rfl, Or.inl ⟨?_, ?_⟩⟩
  · show 2 ∣ 8 * (i / 32)
    omega
  · show 2 ∣ 8
    decide

/-- One step of the copy out: the strided rows of a block are rounded and stored. -/
def outStep (i : ℕ) (h : i < 256) : Prog (TpuEff nD τ sig (Elt F) Λ₀ .tc) PUnit := do
  let x : Vec F S8x128 .f32 ← Prog.lift (.load B.arg9 (rowsQ i h) (View.loadsAt_vmem h_S8x128))
  let _ : Vec F S8x128 .bf16 ← Prog.lift (.load B.arg6 (Rect.unit (s := S64x4096)
    ![8 * (i / 32), 128 * (i % 32)] S8x128.size (inb_x h)).toLoadRect (View.loadsAt_vmem h_S8x128))
  Prog.lift (.store B.arg6 (Rect.unit (s := S64x4096) ![8 * (i / 32), 128 * (i % 32)] S8x128.size (inb_x h))
    (k0_pay1 x) Finset.univ
    (View.stores_vmem h_S8x128 (B.harg6.storeExact_slice rfl _ (packed_o h)) (fun _ => rfl)) (.inl rfl))

/-- The copy out of the output rows from block `i` on. -/
def outs : (n i : ℕ) → i + n ≤ 256 → Prog (TpuEff nD τ sig (Elt F) Λ₀ .tc) PUnit
  | 0, _, _ => pure ⟨⟩
  | n + 1, i, h => outStep B i (by omega) >>= fun _ => outs n (i + 1) (by omega)

/-- One trip of the loop that clears the ring. -/
def clearS (t1 : Fin k0_t1_loop.trips) (_ : Unit) : Prog (TpuEff nD τ sig (Elt F) Λ₀ .tc) Unit := do
  let _ : Vec F S1x16x256x128 .fp8e4m3 ← Prog.lift (.load B.arg7 (Rect.unit (s := S24x16x256x128)
    (k0_off1 t1) S1x16x256x128.size (k0_off1_inb t1)).toLoadRect (View.loadsAt_vmem h_S1x16x256x128))
  Prog.lift (.store B.arg7 (Rect.unit (s := S24x16x256x128) (k0_off1 t1) S1x16x256x128.size (k0_off1_inb t1))
    (k0_pay472 (F := F)) Finset.univ (View.stores_vmem h_S1x16x256x128
      (B.harg7.storeExact_slice rfl _ (k0_off1_packedfp8e4m3 t1)) (fun _ => rfl)) (.inl rfl))

/-- One trip of the loop that issues the first transfers. -/
def initS (_ : Fin k0_t2_loop.trips) :
    BitVec 32 × BitVec 32 × BitVec 32 × BitVec 32 →
    Prog (TpuEff nD τ sig (Elt F) Λ₀ .tc) (BitVec 32 × BitVec 32 × BitVec 32 × BitVec 32) :=
  fun (b, k, c, sl) => do
    have hw2 : k0_chk2 b k sl := (← Prog.lift (TpuEff.assume (k0_chk2 b k sl) (k0_chk2.dec b k sl))).down
    have hw1 : k0_chk1 b := (← Prog.lift (TpuEff.assume (k0_chk1 b) (k0_chk1.dec b))).down
    issue B b k c sl hw2 hw1

/-- The query rows filled in, the sequences, the output rows copied out. -/
def wholeTail (L : BitVec 32 × BitVec 32 × BitVec 32 × BitVec 32 × BitVec 32 →
      Prog (TpuEff nD τ sig (Elt F) Λ₀ .tc) (BitVec 32 × BitVec 32 × BitVec 32 × BitVec 32 × BitVec 32))
    (s : BitVec 32 × BitVec 32 × BitVec 32 × BitVec 32 × BitVec 32) :
    Prog (TpuEff nD τ sig (Elt F) Λ₀ .tc) PUnit := do
  fills B 256 0 (by omega)
  let _ ← L s
  outs B 256 0 (by omega)

/-- The whole kernel function. -/
def wholeS : Prog (TpuEff nD τ sig (Elt F) Λ₀ .tc) PUnit := do
  Scf.Loop.for k0_t1_loop k0_t1_ok ⟨⟩ (clearS B)
  let (b, k, c, sl) ← Scf.Loop.for k0_t2_loop k0_t2_ok (0#32, 0#32, 0#32, 0#32) (initS B)
  wholeTail B (fun s => Scf.Loop.for k0_t3_loop k0_t3_ok s (seqS B k0_pay470 k0_pay471)) (b, k, c, sl, 0#32)

set_option maxHeartbeats 0 in
theorem initS_eq (t2 : Fin k0_t2_loop.trips) (b k c sl : BitVec 32) :
    k0_t2_body (F := F) B.arg0 B.harg0 B.arg1 B.harg1 B.arg2 B.harg2 B.arg3 B.harg3 B.arg4 B.harg4 B.arg5 B.harg5 B.arg6 B.harg6 B.arg7 B.harg7 B.arg8 B.harg8 B.arg9 B.harg9 B.arg10 B.harg10 B.arg11 B.harg11 B.arg12 B.harg12 B.arg13
      t2 (b, k, c, sl) = initS B t2 (b, k, c, sl) := by
  refine congrArg (Prog.op _) (funext fun hw2 => ?_)
  refine congrArg (Prog.op _) (funext fun hw1 => ?_)
  by_cases h : k0_cond1 b = 1#1
  · refine (dif_pos h).trans ?_
    refine Eq.trans ?_ (dif_pos h : issue B b k c sl _ _ = _).symm
    refine congrArg (Prog.bind _) (funext fun x => ?_)
    obtain ⟨x1, x2, x3, x4⟩ := x
    rfl
  · refine (dif_neg h).trans ?_
    refine Eq.trans ?_ (dif_neg h : issue B b k c sl _ _ = _).symm
    rfl

/-- The last query rows, the sequences, and the first output rows. -/
def midS (L : BitVec 32 × BitVec 32 × BitVec 32 × BitVec 32 × BitVec 32 →
      Prog (TpuEff nD τ sig (Elt F) Λ₀ .tc) (BitVec 32 × BitVec 32 × BitVec 32 × BitVec 32 × BitVec 32))
    (s : BitVec 32 × BitVec 32 × BitVec 32 × BitVec 32 × BitVec 32) (v : FVec F S8x128 .f32) :
    Prog (TpuEff nD τ sig (Elt F) Λ₀ .tc) (FVec F S8x128 .bf16) := do
  let _ : Vec F S8x128 .f32 ← Prog.lift (.load B.arg8 (rowsQ 255 (by omega)) (View.loadsAt_vmem h_S8x128))
  Prog.lift (.store B.arg8 ⟨rowsQ 255 (by omega), spos_32_1⟩ (k0_pay754 v) Finset.univ
    (View.stores_vmem_bits_univ h_S8x128 rfl) (.inl rfl))
  let _ ← L s
  outStep B 0 (by omega)
  outStep B 1 (by omega)
  outStep B 2 (by omega)
  outStep B 3 (by omega)
  outStep B 4 (by omega)
  let x : Vec F S8x128 .f32 ← Prog.lift (.load B.arg9 (rowsQ 5 (by omega)) (View.loadsAt_vmem h_S8x128))
  let _ : Vec F S8x128 .bf16 ← Prog.lift (.load B.arg6 (Rect.unit (s := S64x4096)
    ![8 * (5 / 32), 128 * (5 % 32)] S8x128.size (inb_x (i := 5) (by omega))).toLoadRect (View.loadsAt_vmem h_S8x128))
  pure (k0_pay1 x)

set_option maxHeartbeats 0 in
theorem midS_eq (v16 v41 : IVec S8x128 32) (a b c d : BitVec 32) (v : FVec F S8x128 .f32) :
    k0_part165 (F := F) B.arg0 B.harg0 B.arg1 B.harg1 B.arg2 B.harg2 B.arg3 B.harg3 B.arg4 B.harg4 B.arg5 B.harg5 B.arg6 B.harg6 B.arg7 B.harg7 B.arg8 B.harg8 B.arg9 B.harg9 B.arg10 B.harg10 B.arg11 B.harg11 B.arg12 B.harg12 B.arg13
      v16 v41 a b c d v
      = midS B (fun s => Scf.Loop.for k0_t3_loop k0_t3_ok s (seqS B v16 v41)) (a, b, c, d, 0#32) v := by
  have hb : k0_t3_body (F := F) B.arg0 B.harg0 B.arg1 B.harg1 B.arg2 B.harg2 B.arg3 B.harg3 B.arg4 B.harg4 B.arg5 B.harg5 B.arg6 B.harg6 B.arg7 B.harg7 B.arg8 B.harg8 B.arg9 B.harg9 B.arg10 B.harg10 B.arg11 B.harg11 B.arg12 B.harg12 B.arg13
      v16 v41 a b c d v = seqS (F := F) B v16 v41 :=
    funext fun t3 => funext fun s => seqS_eq B v16 v41 a b c d v t3 s
  rw [k0_part165_eq_skeleton]
  unfold k0_part165_skel midS
  rw [hb]
  dsimp only
  generalize Scf.Loop.for k0_t3_loop k0_t3_ok (a, b, c, d, 0#32) (seqS (F := F) B v16 v41) = L
  refine congrArg (Prog.op _) (funext fun x0 => ?_)
  refine congrArg (Prog.op _) (funext fun x0 => ?_)
  refine congrArg (Prog.bind L) (funext fun s => ?_)
  obtain ⟨s1, s2, s3, s4, s5⟩ := s
  rfl

set_option maxHeartbeats 0 in
/-- The printed kernel function is the structured one. -/
theorem whole_eq :
    cc0_cross_attn_decode (F := F) B.arg0 B.harg0 B.arg1 B.harg1 B.arg2 B.harg2 B.arg3 B.harg3 B.arg4 B.harg4 B.arg5 B.harg5 B.arg6 B.harg6 B.arg7 B.harg7 B.arg8 B.harg8 B.arg9 B.harg9 B.arg10 B.harg10 B.arg11 B.harg11 B.arg12 B.harg12 B.arg13
      = wholeS B := by
  rw [cc0_cross_attn_decode_eq_skeleton]
  unfold cc0_cross_attn_decode_skel
  refine Eq.trans (Prog.bind_assoc (k0_part117 (F := F) B.arg0 B.harg0 B.arg1 B.harg1 B.arg2 B.harg2 B.arg3 B.harg3 B.arg4 B.harg4 B.arg5 B.harg5 B.arg6 B.harg6 B.arg7 B.harg7 B.arg8 B.harg8 B.arg9 B.harg9 B.arg10 B.harg10 B.arg11 B.harg11 B.arg12 B.harg12 B.arg13) _ _) ?_
  rw [k0_part117_eq_skeleton]
  refine Eq.trans (Prog.bind_assoc _ _ _) ?_
  refine congr (congrArg Prog.bind (congrArg (Scf.Loop.for k0_t1_loop _ _) ?_)) (funext fun s1 => ?_)
  · rfl
  refine Eq.trans (Prog.bind_assoc (k0_part118 (F := F) B.arg0 B.harg0 B.arg1 B.harg1 B.arg2 B.harg2 B.arg3 B.harg3 B.arg4 B.harg4 B.arg5 B.harg5 B.arg6 B.harg6 B.arg7 B.harg7 B.arg8 B.harg8 B.arg9 B.harg9 B.arg10 B.harg10 B.arg11 B.harg11 B.arg12 B.harg12 B.arg13) _ _) ?_
  rw [k0_part118_eq_skeleton]
  refine Eq.trans (Prog.bind_assoc _ _ _) ?_
  refine congr (congrArg Prog.bind (congrArg (Scf.Loop.for k0_t2_loop _ _) ?_)) (funext fun s1 => ?_)
  · funext t2 s
    obtain ⟨b, k, c, sl⟩ := s
    exact initS_eq B ..
  obtain ⟨b, k, c, sl⟩ := s1
  simp only [midS_eq]
  unfold wholeTail
  generalize (fun s => Scf.Loop.for k0_t3_loop k0_t3_ok s (seqS B (F := F) k0_pay470 k0_pay471)) = L
  iterate 768 refine congrArg (Prog.op _) (funext fun x0 => ?_)
  refine Eq.trans (bind_assoc3 (L (b, k, c, sl, 0#32)) _ _ _) ?_
  refine congrArg (Prog.bind (L (b, k, c, sl, 0#32))) (funext fun s => ?_)
  iterate 768 refine congrArg (Prog.op _) (funext fun x0 => ?_)
  rfl

end Cert.Proof.Kernel
-- ==== Proof.Rules.lean ====
/- Ownership of part of a memref, read in the memref's own coordinates, and the rules of the loads, the
   stores and the word loads over it. -/
module

public import Idealize.ShloMosaic.Lib.Pipeline.FrameBody
public import Idealize.ShloMosaic.Lib.Ring
public import Idealize.ShloMosaic.Lib.Tactic
public import Idealize.ShloMosaic.Lib.WordCmp
public import Idealize.ShloMosaic.Lib.ViewIndex

@[expose] public section

noncomputable section

namespace Cert.Proof.Rules

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Ix : Type} [DecidableEq Ix]
variable {Val : EltTy → Type} {Name : Type} [DecidableEq Name]
variable {U : Type} [URA U] {Lvl : Type} [Preorder Lvl] {Λ : Labels}

local notation "𝕄" => MT nD τ sig Ix Val Name U Lvl

/-- The elements of a memref under the indices `S`, at share `q`, reading `X` there. -/
def holds (c : Thread nD τ) {sp : Space} {s : Shape} {e : EltTy} (m : Memref sig c.2.kind sp s e)
    (S : Finset s.Idx) (q : PosShare TreeShare) (X : s.Idx → Val e) : sProp 𝕄 :=
  iprop(∃ f, ⌜∀ i ∈ S, m.view.read Val f i = X i⌝ ∗ (m.view.loc c ↦[m.view.setOn S]{q} f))

section
variable (c : Thread nD τ) {sp : Space} {s : Shape} {e : EltTy} (m : Memref sig c.2.kind sp s e)

/-- What is read matters under the indices held only. -/
theorem holds_congr {S : Finset s.Idx} {q : PosShare TreeShare} {X Y : s.Idx → Val e}
    (h : ∀ i ∈ S, X i = Y i) : (holds c m S q X : sProp 𝕄) ⊢ holds c m S q Y := by
  unfold holds
  iintro ⟨%f, %hf, H⟩
  iexists f
  isplitr
  · ipureintro; exact fun i hi => (hf i hi).trans (h i hi)
  · iexact H

/-- Owning a memref is holding all of it. -/
theorem holds_univ (q : PosShare TreeShare) (X : s.Idx → Val e) :
    (holds c m Finset.univ q X : sProp 𝕄) = owns c m q X := by
  unfold holds owns
  refine congrArg _ (funext fun f => ?_)
  rw [View.setOn_univ]
  refine congrArg (fun p : Prop => iprop(⌜p⌝ ∗ (m.view.loc c ↦[m.view.set]{q} f))) (propext ?_)
  exact ⟨fun h => funext fun i => h i (Finset.mem_univ i), fun h i _ => congrFun h i⟩

theorem setOn_union (S T : Finset s.Idx) : m.view.setOn (S ∪ T) = m.view.setOn S ∪ m.view.setOn T := by
  unfold View.setOn; rw [Finset.map_union]

theorem setOn_disjoint {S T : Finset s.Idx} (h : Disjoint S T) :
    Disjoint (m.view.setOn S) (m.view.setOn T) := by
  unfold View.setOn; exact (Finset.disjoint_map _).mpr h

/-- Disjoint parts are held apart, -/
theorem holds_split {S T : Finset s.Idx} (hd : Disjoint S T) (q : PosShare TreeShare) (X : s.Idx → Val e) :
    (holds c m (S ∪ T) q X : sProp 𝕄) ⊢ iprop(holds c m S q X ∗ holds c m T q X) := by
  unfold holds
  iintro ⟨%f, %hf, H⟩
  rw [setOn_union]
  ihave H' := (show (m.view.loc c ↦[m.view.setOn S ∪ m.view.setOn T]{q} f : sProp 𝕄)
      ⊢ iprop((m.view.loc c ↦[m.view.setOn S]{q} f) ∗ (m.view.loc c ↦[m.view.setOn T]{q} f)) from
    (pointsTo_union (setOn_disjoint c m hd)).1) $$ H
  icases H' with ⟨H1, H2⟩
  isplitl [H1]
  · iexists f
    isplitr
    · ipureintro; exact fun i hi => hf i (Finset.mem_union_left _ hi)
    · iexact H1
  · iexists f
    isplitr
    · ipureintro; exact fun i hi => hf i (Finset.mem_union_right _ hi)
    · iexact H2

/-- and together. -/
theorem holds_join {S T : Finset s.Idx} (hd : Disjoint S T) (q : PosShare TreeShare) (X : s.Idx → Val e) :
    iprop(holds c m S q X ∗ holds c m T q X) ⊢ (holds c m (S ∪ T) q X : sProp 𝕄) := by
  unfold holds
  iintro ⟨⟨%f, %hf, H1⟩, ⟨%g, %hg, H2⟩⟩
  iexists (m.view.setOn T).piecewise g f
  isplitr
  · ipureintro
    intro i hi
    rw [View.read_apply]
    by_cases h2 : i ∈ T
    · rw [Finset.piecewise_eq_of_mem _ _ _ (m.view.mem_setOn.mpr h2), ← hg i h2, View.read_apply]
    · rw [Finset.piecewise_eq_of_notMem _ _ _ (fun h => h2 (m.view.mem_setOn.mp h)),
        ← hf i ((Finset.mem_union.mp hi).resolve_right h2), View.read_apply]
  · rw [setOn_union]
    iapply (pointsTo_join (setOn_disjoint c m hd))
    isplitl [H1] <;> iassumption

end

section
variable {defs : Defs nD τ sig Val Λ} (𝒱 : Variants) (c : Thread nD τ)
variable (bd : Option 𝒱.V) (E : Set Name)
variable {s : Shape} {e : EltTy} {α : Type} {Q : α → sProp (MT nD τ sig Ix Val Name U Lvl)}

/-- A load from a part held: the payload is what the part reads. -/
theorem wp_load_holds {cs : CoreSpace} {m : Memref sig c.2.kind cs s e} {r : LoadRect s}
    {hl : m.view.LoadsAt r} {k : (r.shape.Idx → Val e) → Prog (TpuEff nD τ sig Val Λ c.2) α}
    {S : Finset s.Idx} {q : PosShare TreeShare} {X : s.Idx → Val e} (hS : r.set ⊆ S) :
    (holds c m S q X : sProp 𝕄)
      ⊢ iprop((holds c m S q X -∗ wp frame (wpE defs 𝒱 c bd) E (k (fun j => X (r.idx j))) Q)
        -∗ wp frame (wpE defs 𝒱 c bd) E (.op (.load m r hl) k) Q) := by
  unfold holds
  iintro ⟨%f, %hf, H⟩ Hk
  have hsub : m.view.setOn r.set ⊆ m.view.setOn S := Finset.map_subset_map.mpr hS
  iapply (wp_load 𝒱 c bd E (hl := hl) (k := k) (hS := hsub)) $$ H
  iintro H
  have e1 : m.view.readAt Val r f = fun j => X (r.idx j) :=
    funext fun j => by rw [View.readAt_apply]; exact hf _ (hS (r.idx_mem j))
  rw [e1]
  iapply Hk
  iexists f
  isplitr
  · ipureintro; exact hf
  · iexact H

/-- A store into a part held in full: the payload lies over what was there. -/
theorem wp_store_holds {cs : CoreSpace} {m : Memref sig c.2.kind cs s e} {r : Rect s}
    {w : r.shape.Idx → Val e} {hx : (m.access r).Stores Finset.univ}
    {hm : Finset.univ = Finset.univ ∨ ∀ a, r.stride a = 1}
    {k : PUnit → Prog (TpuEff nD τ sig Val Λ c.2) α} {S : Finset s.Idx} {X : s.Idx → Val e}
    (hS : r.set ⊆ S) :
    (holds c m S fullShare X : sProp 𝕄)
      ⊢ iprop((holds c m S fullShare (r.overlay X w) -∗ wp frame (wpE defs 𝒱 c bd) E (k ⟨⟩) Q)
        -∗ wp frame (wpE defs 𝒱 c bd) E (.op (.store m r w Finset.univ hx hm) k) Q) := by
  unfold holds
  iintro ⟨%f, %hf, H⟩ Hk
  have hsub : (m.access r).setOn Finset.univ ⊆ m.view.setOn S := by
    rw [View.setOn_univ, View.set_slice]; exact Finset.map_subset_map.mpr hS
  iapply (wp_store 𝒱 c bd E (hx := hx) (hm := hm) (k := k) (hS := hsub)) $$ H
  iintro H
  iapply Hk
  iexists (m.access r).write Val f w Finset.univ
  isplitr
  · ipureintro
    intro i hi
    by_cases hr : i ∈ r.set
    · obtain ⟨j, rfl⟩ := r.exists_idx_of_mem hr
      change _ = r.overlay X w (r.emb j)
      rw [Rect.overlay_emb]
      exact View.read_write_of_mem (v := m.access r) f w (Finset.mem_univ j)
    · rw [Rect.overlay_of_not_mem _ _ _ hr, ← hf i hi, View.read_apply, View.read_apply,
        View.write_of_not_mem]
      rw [View.setOn_univ, View.set_slice, Finset.mem_map' m.view.emb]; exact hr
  · iexact H

/-- A word load from a part held. -/
theorem wp_smemLoad_holds {m : Memref sig c.2.kind .smem s e} {r : Rect s} {hw : (m.access r).Loads}
    {x : r.shape.Idx} {k : Val e → Prog (TpuEff nD τ sig Val Λ c.2) α}
    {S : Finset s.Idx} {q : PosShare TreeShare} {X : s.Idx → Val e} (hS : r.set ⊆ S) :
    (holds c m S q X : sProp 𝕄)
      ⊢ iprop((holds c m S q X -∗ wp frame (wpE defs 𝒱 c bd) E (k (X (r.emb x))) Q)
        -∗ wp frame (wpE defs 𝒱 c bd) E (smemLoadElt m r hw x k) Q) := by
  unfold holds
  iintro ⟨%f, %hf, H⟩ Hk
  have hsub : (m.access r).set ⊆ m.view.setOn S := by
    rw [View.set_slice]; exact Finset.map_subset_map.mpr hS
  iapply (wp_smemLoadElt 𝒱 c bd E (hw := hw) (k := k) (hS := hsub)) $$ H
  iintro H
  have e1 : (m.access r).read Val f x = X (r.emb x) :=
    hf _ (hS (by rw [← r.map_emb_univ]; exact Finset.mem_map_of_mem _ (Finset.mem_univ x)))
  rw [e1]
  iapply Hk
  iexists f
  isplitr
  · ipureintro; exact hf
  · iexact H

/-- A word load from a part held, before the rest of a program. -/
theorem wp_smemLoad_bind {m : Memref sig c.2.kind .smem s e} {r : Rect s} {h1 : r.shape.numel = 1} {hp : e.packing = 1}
    {k : Val e → Prog (TpuEff nD τ sig Val Λ c.2) α}
    {S : Finset s.Idx} {q : PosShare TreeShare} {X : s.Idx → Val e} (hS : r.set ⊆ S) {w : Val e}
    (hw : X (r.emb (Shape.Idx.first (h1.symm ▸ Nat.one_pos))) = w) :
    (holds c m S q X : sProp 𝕄)
      ⊢ iprop((holds c m S q X -∗ wp frame (wpE defs 𝒱 c bd) E (k w) Q)
        -∗ wp frame (wpE defs 𝒱 c bd) E (smemLoad m r h1 hp >>= k) Q) := by
  subst hw
  exact wp_smemLoad_holds (hw := View.loads_smem_one hp h1) (k := k) 𝒱 c bd E hS

/-- A side condition that holds, before the rest of a program. -/
theorem wp_assume_bind {P : Prop} {d : Decidable P} {k : PLift P → Prog (TpuEff nD τ sig Val Λ c.2) α} (h : P) :
    (wp frame (wpE defs 𝒱 c bd) E (k ⟨h⟩) Q : sProp 𝕄) ⊢ wp frame (wpE defs 𝒱 c bd) E (Prog.lift (TpuEff.assume P d) >>= k) Q :=
  wp_assume 𝒱 c bd E h

/-- A load from a part held, before the rest of a program; `w` names the payload. -/
theorem wp_load_bind {cs : CoreSpace} {m : Memref sig c.2.kind cs s e} {r : LoadRect s}
    {hl : m.view.LoadsAt r} {k : (r.shape.Idx → Val e) → Prog (TpuEff nD τ sig Val Λ c.2) α}
    {S : Finset s.Idx} {q : PosShare TreeShare} {X : s.Idx → Val e} (hS : r.set ⊆ S)
    {w : r.shape.Idx → Val e} (hw : (fun j => X (r.idx j)) = w) :
    (holds c m S q X : sProp 𝕄)
      ⊢ iprop((holds c m S q X -∗ wp frame (wpE defs 𝒱 c bd) E (k w) Q)
        -∗ wp frame (wpE defs 𝒱 c bd) E (Prog.lift (.load m r hl) >>= k) Q) := by
  subst hw
  exact wp_load_holds (k := k) 𝒱 c bd E hS

/-- A store into a part held in full, before the rest of a program; `Y` names what is held after. -/
theorem wp_store_bind {cs : CoreSpace} {m : Memref sig c.2.kind cs s e} {r : Rect s}
    {w : r.shape.Idx → Val e} {hx : (m.access r).Stores Finset.univ}
    {hm : Finset.univ = Finset.univ ∨ ∀ a, r.stride a = 1}
    {k : PUnit → Prog (TpuEff nD τ sig Val Λ c.2) α} {S : Finset s.Idx} {X Y : s.Idx → Val e}
    (hS : r.set ⊆ S) (hY : ∀ i ∈ S, r.overlay X w i = Y i) :
    (holds c m S fullShare X : sProp 𝕄)
      ⊢ iprop((holds c m S fullShare Y -∗ wp frame (wpE defs 𝒱 c bd) E (k ⟨⟩) Q)
        -∗ wp frame (wpE defs 𝒱 c bd) E (Prog.lift (.store m r w Finset.univ hx hm) >>= k) Q) := by
  iintro H Hk
  iapply (wp_store_holds (k := k) 𝒱 c bd E hS) $$ H
  iintro H
  iapply Hk
  iapply (holds_congr c m hY)
  iexact H

end

end Cert.Proof.Rules
-- ==== Proof.Sched.lean ====
/- The order of the chunk transfers: which sequence, which cache and which chunk the transfer number `n`
   brings, as the kernel steps from one to the next, and where each transfer stands in that order. -/
module

public import Idealize.ShloMosaic.Lib.WordCmp

@[expose] public section

namespace Cert.Proof.Sched

/-- A transfer: the sequence, the cache (0 keys, 1 values) and the chunk. -/
abbrev St := ℕ × ℕ × ℕ

variable (NC : ℕ → ℕ)

/-- The transfer after `s`. -/
def nxt (s : St) : St :=
  if s.1 < 64 then
    if s.2.2 + 1 = NC s.1 then (if s.2.1 = 1 then s.1 + 1 else s.1, 1 - s.2.1, 0)
    else (s.1, s.2.1, s.2.2 + 1)
  else s

/-- The transfer number `n`. -/
def st : ℕ → St
  | 0 => (0, 0, 0)
  | n + 1 => nxt NC (st n)

/-- The number of the first transfer of sequence `b`. -/
def start : ℕ → ℕ
  | 0 => 0
  | b + 1 => start b + 2 * NC b

variable {NC}

theorem st_chunk {n b k : ℕ} (hb : b < 64) (h : st NC n = (b, k, 0)) :
    ∀ c, c < NC b → st NC (n + c) = (b, k, c)
  | 0, _ => h
  | c + 1, hc => by
    have ih := st_chunk hb h c (by omega)
    show nxt NC (st NC (n + c)) = _
    rw [ih]
    have h1 : ¬ (c + 1 = NC b) := by omega
    simp [nxt, hb, h1]

theorem st_last {n b k : ℕ} (hb : b < 64) (hN : 1 ≤ NC b) (h : st NC n = (b, k, 0)) :
    st NC (n + NC b) = (if k = 1 then b + 1 else b, 1 - k, 0) := by
  obtain ⟨m, hm⟩ : ∃ m, NC b = m + 1 := ⟨NC b - 1, by omega⟩
  have h1 := st_chunk hb h m (by omega)
  rw [hm]
  show nxt NC (st NC (n + m)) = _
  rw [h1]
  simp [nxt, hb, hm]

theorem st_start (hN : ∀ b < 64, 1 ≤ NC b) : ∀ b ≤ 64, st NC (start NC b) = (b, 0, 0)
  | 0, _ => rfl
  | b + 1, hb => by
    have ih := st_start hN b (by omega)
    have h1 := st_last (by omega) (hN b (by omega)) ih
    have h2 := st_last (by omega) (hN b (by omega)) h1
    show st NC (start NC b + 2 * NC b) = _
    rw [show start NC b + 2 * NC b = start NC b + NC b + NC b by omega, h2]
    rfl

/-- Where the chunk `c` of the cache `k` of sequence `b` stands. -/
theorem st_at (hN : ∀ b < 64, 1 ≤ NC b) {b c : ℕ} (hb : b < 64) (hc : c < NC b) :
    st NC (start NC b + c) = (b, 0, c) ∧ st NC (start NC b + NC b + c) = (b, 1, c) := by
  have h0 := st_start hN b (by omega)
  exact ⟨st_chunk hb h0 c hc, st_chunk hb (st_last hb (hN b hb) h0) c hc⟩

/-- Every transfer is one of a sequence's, or past the end. -/
theorem st_ok (hN : ∀ b < 64, 1 ≤ NC b) : ∀ n, (st NC n).1 ≤ 64 ∧ (st NC n).2.1 < 2 ∧
    ((st NC n).1 < 64 → (st NC n).2.2 < NC (st NC n).1)
  | 0 => ⟨Nat.zero_le _, Nat.zero_lt_two, fun _ => hN 0 (by omega)⟩
  | n + 1 => by
    obtain ⟨h1, h2, h3⟩ := st_ok hN n
    show (nxt NC (st NC n)).1 ≤ 64 ∧ (nxt NC (st NC n)).2.1 < 2 ∧
      ((nxt NC (st NC n)).1 < 64 → (nxt NC (st NC n)).2.2 < NC (nxt NC (st NC n)).1)
    generalize st NC n = s at h1 h2 h3 ⊢
    obtain ⟨b, k, c⟩ := s
    simp only [nxt]
    dsimp only at h1 h2 h3
    split_ifs with ha hb hk
    · exact ⟨by dsimp only; omega, by dsimp only; omega, fun h => by dsimp only at h ⊢; exact hN _ h⟩
    · exact ⟨by dsimp only; omega, by dsimp only; omega, fun h => by dsimp only at h ⊢; exact hN _ h⟩
    · refine ⟨by dsimp only; omega, by dsimp only; omega, fun h => ?_⟩
      have := h3 ha
      dsimp only
      omega
    · exact ⟨h1, h2, h3⟩

end Cert.Proof.Sched
-- ==== Proof.Kernel.Ring.lean ====
/- The ring of twenty-four chunk slots: what each transfer brings, what a slot holds, and the rule of one
   transfer into a slot. -/
module

public import proofs.«01_k».proof.Proof.Kernel.Whole
public import proofs.«01_k».proof.Proof.Rules
public import proofs.«01_k».proof.Proof.Sched
public import Idealize.ShloMosaic.Lib.Transfers
public import Idealize.ShloMosaic.Lib.ShareLeaves

@[expose] public section

set_option maxRecDepth 65536

noncomputable section

namespace Cert.Proof.Kernel

open Cert.Kernel Cert.Kernel.Gen Cert.Proof.Rules Cert.Proof.Sched
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-! ### Contents -/

/-- The contents of a slot: sixteen blocks of keys or values. -/
abbrev Tile (F : FTy → Type) := Fin 16 → Fin 256 → Fin 128 → Elt F .fp8e4m3

/-- An index of a cache. -/
def idx4 (a : Fin 64) (b : Fin 128) (x : Fin 256) (y : Fin 128) : S64x128x256x128.Idx
  | 0 => a
  | 1 => b
  | 2 => x
  | 3 => y

/-- Block `row` of sequence `b` of a cache. -/
def rowAt (C : S64x128x256x128.Idx → Elt F .fp8e4m3) (b row : ℕ) (x : Fin 256) (y : Fin 128) : Elt F .fp8e4m3 :=
  C (idx4 (Fin.ofNat 64 b) (Fin.ofNat 128 row) x y)

/-- The slot after the rows of a chunk are laid over it. -/
def laid (C : S64x128x256x128.Idx → Elt F .fp8e4m3) (b c n : ℕ) (T : Tile F) : Tile F :=
  fun r x y => if r.val < n then rowAt C b (16 * c + r.val) x y else T r x y

/-- What the kernel reads: the lengths and the two caches. -/
structure Ins (F : FTy → Type) where
  len : S64.Idx → Elt F .i32
  K : S64x128x256x128.Idx → Elt F .fp8e4m3
  V : S64x128x256x128.Idx → Elt F .fp8e4m3

/-- The index of the length of sequence `b`. -/
def idx1 (b : ℕ) : S64.Idx
  | 0 => Fin.ofNat 64 b

variable (I : Ins F)

/-- The length of sequence `b`. -/
def Ins.L (b : ℕ) : BitVec 32 := I.len (idx1 b)
/-- The chunks of sequence `b`. -/
def Ins.NC (b : ℕ) : ℕ := ncN (I.L b).toNat
/-- The transfer number `j`. -/
def Ins.st (j : ℕ) : St := Sched.st I.NC j
/-- The lengths are in range. -/
def Ins.Ok : Prop := ∀ i, InLen (I.len i)

theorem Ins.Ok.NC_pos {I : Ins F} (h : I.Ok) : ∀ b < 64, 1 ≤ I.NC b := fun b _ => ncN_pos (h _).1

/-- A slot after the transfer number `j` on top of what it held. -/
def Ins.land (j : ℕ) (T : Tile F) : Tile F :=
  if (I.st j).1 < 64 then
    laid (if (I.st j).2.1 = 0 then I.K else I.V) (I.st j).1 (I.st j).2.2
      (nN (I.L (I.st j).1).toNat (I.st j).2.2) T
  else T

/-- A cleared slot. -/
def zeroTile : Tile F := fun r x y => k0_pay472 (F := F) fun | 0 => ⟨0, Nat.one_pos⟩ | 1 => r | 2 => x | 3 => y

/-- What slot `s` holds before its use number `k`. -/
def Ins.before (s : ℕ) : ℕ → Tile F
  | 0 => zeroTile
  | k + 1 => I.land (24 * k + s) (Ins.before s k)

/-- What its slot holds before the transfer number `j`, -/
def Ins.ringBefore (j : ℕ) : Tile F := I.before (j % 24) (j / 24)
/-- and after it. -/
def Ins.ringVal (j : ℕ) : Tile F := I.land j (I.ringBefore j)

theorem Ins.ringBefore_add (j : ℕ) : I.ringBefore (j + 24) = I.ringVal j := by
  unfold Ins.ringBefore Ins.ringVal
  rw [show (j + 24) % 24 = j % 24 by omega, show (j + 24) / 24 = j / 24 + 1 by omega]
  show I.land (24 * (j / 24) + j % 24) _ = _
  rw [Nat.div_add_mod]
  rfl

/-! ### Slots -/

variable (B : Bufs) (c : Dev nD)

/-- The indices of slot `s`. -/
def slotSet (s : ℕ) : Finset S24x16x256x128.Idx := Finset.univ.filter fun i => (i 0).val = s

/-- A tile at an index of the ring. -/
def atIdx (T : Tile F) (i : S24x16x256x128.Idx) : Elt F .fp8e4m3 := T (i 1) (i 2) (i 3)

/-- Slot `s` held, with the contents `T`. -/
def slotHolds (s : ℕ) (T : Tile F) : sProp 𝕄 :=
  holds (c : Thread nD τ) B.arg7 (slotSet s) fullShare (atIdx T)

/-- The transfers' semaphore of slot `s`. -/
def semAt (s : ℕ) (h : s < 24) : DmaSem sig :=
  ((B.arg13.slice (Rect.unit (s := S24) ![s] S1.size (by
    intro a; fin_cases a; show s + 1 ≤ 24; omega))).squeeze S_ squeezes_S1_S_).sem

/-- The rectangle of the first `n` rows of slot `s`. -/
abbrev ringRect (s n : ℕ) (h : ∀ a, (![1, n, 256, 128] : Fin 4 → ℕ) a = 0 ∨
    (![s, 0, 0, 0] : Fin 4 → ℕ) a + (![1, n, 256, 128] : Fin 4 → ℕ) a ≤ S24x16x256x128.size a) : Rect S24x16x256x128 :=
  Rect.unitDyn (s := S24x16x256x128) ![s, 0, 0, 0] ![1, n, 256, 128] h

/-- The rectangle of `n` rows of a sequence of a cache from row `o` on. -/
abbrev hbmRect (b o n : ℕ) (h : ∀ a, (![1, n, 256, 128] : Fin 4 → ℕ) a = 0 ∨
    (![b, o, 0, 0] : Fin 4 → ℕ) a + (![1, n, 256, 128] : Fin 4 → ℕ) a ≤ S64x128x256x128.size a) : Rect S64x128x256x128 :=
  Rect.unitDyn (s := S64x128x256x128) ![b, o, 0, 0] ![1, n, 256, 128] h

/-- What a chunk's transfer credits. -/
def credit (n : ℕ) : ℕ := B.arg7.view.ref.dmaCredit (⟨3, ![n, 256, 128]⟩ : Shape) .fp8e4m3

/-- What is written under the rectangle of a slot and what is not. -/
theorem landed_read (f : (B.arg7.view).ty.Contents (Elt F)) (M : Memref sig .tc .hbm S64x128x256x128 .fp8e4m3)
    (g : (M.view).ty.Contents (Elt F)) {s b cc n : ℕ} (hR) (hH) (hq : (⟨4, ![1, n, 256, 128]⟩ : Shape).Squeezes ⟨3, ![n, 256, 128]⟩)
    (T : Tile F) (C : S64x128x256x128.Idx → Elt F .fp8e4m3)
    (hT : ∀ i ∈ slotSet s, B.arg7.view.read (Elt F) f i = atIdx T i)
    (hC : ∀ i, M.view.read (Elt F) g i = C i) (hb : b < 64) (hcc : 16 * cc + n ≤ 128) :
    ∀ i ∈ slotSet s, B.arg7.view.read (Elt F)
      ((((B.arg7.slice (ringRect s n hR) (fun _ => rfl)).squeeze (⟨3, ![n, 256, 128]⟩ : Shape) hq).view).write (Elt F) f
        ((((M.slice (hbmRect b (16 * cc) n hH) (fun _ => rfl)).squeeze (⟨3, ![n, 256, 128]⟩ : Shape) hq).view).read (Elt F) g)
        Finset.univ) i = atIdx (laid C b cc n T) i := by
  intro i hi
  have hi0 : (i 0).val = s := (Finset.mem_filter.mp hi).2
  by_cases hn : (i 1).val < n
  · have hmem : i ∈ (ringRect s n hR).set := by
      rw [Rect.mem_set_unitDyn]
      intro a
      fin_cases a
      · show s ≤ (i 0).val ∧ (i 0).val < s + 1
        omega
      · show 0 ≤ (i 1).val ∧ (i 1).val < 0 + n
        omega
      · show 0 ≤ (i 2).val ∧ (i 2).val < 0 + 256
        exact ⟨Nat.zero_le _, by have := (i 2).isLt; change (i 2).val < 256 at this; omega⟩
      · show 0 ≤ (i 3).val ∧ (i 3).val < 0 + 128
        exact ⟨Nat.zero_le _, by have := (i 3).isLt; change (i 3).val < 128 at this; omega⟩
    obtain ⟨j, hj⟩ := (ringRect s n hR).exists_idx_of_mem hmem
    have hj' : (ringRect s n hR).emb j = i := hj
    let y := (Shape.reshapeEquiv hq.numel_eq).symm j
    have hy : Shape.reshapeEquiv hq.numel_eq y = j := Equiv.apply_symm_apply _ _
    have he : B.arg7.view.emb i = (((B.arg7.slice (ringRect s n hR) (fun _ => rfl)).squeeze (⟨3, ![n, 256, 128]⟩ : Shape) hq).view).emb y := by
      rw [← hj', ← hy]; rfl
    rw [View.read_apply, he]
    refine (View.read_write_of_mem (v := ((B.arg7.slice (ringRect s n hR) (fun _ => rfl)).squeeze (⟨3, ![n, 256, 128]⟩ : Shape) hq).view)
      f _ (Finset.mem_univ y)).trans ?_
    have h2 : (((M.slice (hbmRect b (16 * cc) n hH) (fun _ => rfl)).squeeze (⟨3, ![n, 256, 128]⟩ : Shape) hq).view).read (Elt F) g y
        = M.view.read (Elt F) g ((hbmRect b (16 * cc) n hH).emb j) := by
      rw [← hy]; rfl
    rw [h2, hC]
    unfold atIdx laid rowAt
    rw [if_pos hn]
    refine congrArg C (funext fun a => Fin.ext ?_)
    have h0 : (j 0).val = 0 := by have := (j 0).isLt; change (j 0).val < 1 at this; omega
    have hv : ∀ a, (i a).val = (![s, 0, 0, 0] : Fin 4 → ℕ) a + 1 * (j a).val := fun a => by rw [← hj]; rfl
    fin_cases a
    · show b + 1 * (j 0).val = b % 64
      omega
    · have := hv 1
      change (i 1).val = 0 + 1 * (j 1).val at this
      show 16 * cc + 1 * (j 1).val = (16 * cc + (i 1).val) % 128
      omega
    · have := hv 2
      change (i 2).val = 0 + 1 * (j 2).val at this
      show 0 + 1 * (j 2).val = (i 2).val
      omega
    · have := hv 3
      change (i 3).val = 0 + 1 * (j 3).val at this
      show 0 + 1 * (j 3).val = (i 3).val
      omega
  · have hnm : i ∉ (ringRect s n hR).set := by
      rw [Rect.mem_set_unitDyn]
      intro h
      have := (h 1).2
      change (i 1).val < 0 + n at this
      omega
    rw [View.read_apply, View.write_of_not_mem]
    · rw [← View.read_apply, hT i hi]
      unfold atIdx laid
      rw [if_neg hn]
    · rw [View.setOn_univ]
      show _ ∉ ((B.arg7.view.slice (ringRect s n hR)).reshape _ _).set
      rw [View.set_reshape, View.set_slice, Finset.mem_map' B.arg7.view.emb]
      exact hnm

end Cert.Proof.Kernel
-- ==== Proof.Kernel.Spec.lean ====
/- What the kernel computes, as a function of its inputs: the query rows, the scores and their running
   maximum, the exponentials and their running sum, the accumulated products with the values, and the
   output. Nothing here depends on the element operations: they stay the kernel's own. -/
module

public import proofs.«01_k».proof.Proof.Kernel.Ring

@[expose] public section

set_option maxRecDepth 65536

noncomputable section

namespace Cert.Proof.Kernel

open Cert.Kernel Cert.Kernel.Gen Cert.Proof.Rules Cert.Proof.Sched
open Idealize.ShloMosaic

variable {F : FTy → Type} [FloatOps F]

/-- An index of a two-dimensional array, each coordinate reduced into range. -/
def ix2 {n m : ℕ} [NeZero n] [NeZero m] (a b : ℕ) : (⟨2, ![n, m]⟩ : Shape).Idx
  | 0 => Fin.ofNat n a
  | 1 => Fin.ofNat m b

/-- An index of a three-dimensional array, each coordinate reduced into range. -/
def ix3 {n m l : ℕ} [NeZero n] [NeZero m] [NeZero l] (a b c : ℕ) : (⟨3, ![n, m, l]⟩ : Shape).Idx
  | 0 => Fin.ofNat n a
  | 1 => Fin.ofNat m b
  | 2 => Fin.ofNat l c

/-- The inputs other than the lengths and the caches: the queries and the two scales. -/
structure Arr (F : FTy → Type) where
  x : S64x4096.Idx → Elt F .bf16
  ks : S64x4x128.Idx → Elt F .f32
  vs : S64x4x128.Idx → Elt F .f32

variable (I : Ins F) (A : Arr F)

/-- The block number `i` of the queries: eight sequences, one head. -/
def xBlk (i : ℕ) : Vec F S8x128 .bf16 := fun j => A.x (ix2 (8 * (i / 32) + (j 0).val) (128 * (i % 32) + (j 1).val))

/-- The queries, widened, row by row: sequence and head. -/
def qArr (p : S2048x128.Idx) : Elt F .f32 :=
  k0_pay473 (xBlk A (32 * ((p 0).val / 256) + (p 0).val % 32)) (ix2 ((p 0).val % 256 / 32) (p 1).val)

/-- The query rows of sequence `b`. -/
def qRows (b : ℕ) : Vec F S32x128 .f32 := fun j => qArr A (ix2 (32 * b + (j 0).val) (j 1).val)

/-- The scale rows of sequence `b`. -/
def ksRow (b : ℕ) : Vec F S1x4x128 .f32 := fun j => A.ks (ix3 b (j 1).val (j 2).val)
def vsRow (b : ℕ) : Vec F S1x4x128 .f32 := fun j => A.vs (ix3 b (j 1).val (j 2).val)

/-- Row `n` of a scale table. -/
def rowOf (S : S128x128.Idx → Elt F .f32) (n : ℕ) : Vec F S1x128 .f32 := fun j => S (ix2 n (j 1).val)

/-- Block `row` of a slot. -/
def tileRow (T : Tile F) (row : ℕ) : Vec F S1x1x256x128 .fp8e4m3 := fun j => T (Fin.ofNat 16 row) (j 2) (j 3)

/-- The blocks word of a tile. -/
def blkW (t : ℕ) : BitVec 32 := Scalar.addi (Scalar.muli (Scf.iv 0#32 1#32 (t / 8)) 16#32) (BitVec.ofNat 32 (2 * (t % 8)))

/-- The raw products of tile `t` of sequence `b`. -/
def prodK (b t : ℕ) : FVec F S64x256 .f32 :=
  k0_pay4 (k0_pay450 (qRows A b)) (tileRow (I.ringVal (start I.NC b + t / 8)) (2 * (t % 8)))
    (tileRow (I.ringVal (start I.NC b + t / 8)) (2 * (t % 8) + 1))

/-- Score vector `ij` of tile `t`. -/
def scoreV (b t : ℕ) : ℕ → FVec F S8x128 .f32
  | 0 => score00 k0_pay470 k0_pay471 (I.L b) (blkW t) (prodK I A b t) (rowOf (k0_pay451 (ksRow A b)) (2 * t))
  | 1 => score01 k0_pay470 k0_pay471 (I.L b) (blkW t) (prodK I A b t) (rowOf (k0_pay451 (ksRow A b)) (2 * t))
  | 2 => score10 k0_pay470 k0_pay471 (I.L b) (blkW t) (prodK I A b t) (rowOf (k0_pay451 (ksRow A b)) (2 * t + 1))
  | _ => score11 k0_pay470 k0_pay471 (I.L b) (blkW t) (prodK I A b t) (rowOf (k0_pay451 (ksRow A b)) (2 * t + 1))

/-- The stored row number `n` of the scores. -/
def scoreR (b n : ℕ) : Vec F S1x8x128 .f32 :=
  shapeCast S1x8x128 (scoreV I A b (n / 4) (n % 4)) shapeCasts_S8x128_S1x8x128

/-- The running maximum after `t` tiles. -/
def mAt (b : ℕ) : ℕ → FVec F S8x128 .f32
  | 0 => k0_pay453
  | t + 1 => maximumf (maximumf (maximumf (maximumf (mAt b t) (scoreV I A b t 0)) (scoreV I A b t 1))
      (scoreV I A b t 2)) (scoreV I A b t 3)

/-- The maximum of a sequence, on every lane of its head. -/
def mxOf (b : ℕ) : FVec F S8x128 .f32 := k0_pay459 (k0_pay458 (mAt I A b (8 * I.NC b)))

/-- The exponentials of row `n`, -/
def expV (b n : ℕ) : FVec F S8x128 .f32 := expRow (mxOf I A b) (scoreR I A b n)
/-- as stored. -/
def expR (b n : ℕ) : Vec F S1x8x128 .f32 := shapeCast S1x8x128 (expV I A b n) shapeCasts_S8x128_S1x8x128

/-- The running sum of the exponentials after `n` rows. -/
def lAt (b : ℕ) : ℕ → FVec F S8x128 .f32
  | 0 => k0_pay460
  | n + 1 => addf (lAt b n) (expV I A b n)

/-- The reciprocal of the sum. -/
def invOf (b : ℕ) : FVec F S8x128 .f32 := k0_pay465 (lAt I A b (32 * I.NC b))

/-- The accumulator after `t` tiles. -/
def accAt (b : ℕ) : ℕ → FVec F S64x256 .f32
  | 0 => k0_pay466
  | t + 1 => accStep k0_pay470 (invOf I A b) (accAt b t)
      (tileRow (I.ringVal (start I.NC b + I.NC b + t / 8)) (2 * (t % 8)))
      (tileRow (I.ringVal (start I.NC b + I.NC b + t / 8)) (2 * (t % 8) + 1))
      (rowOf (k0_pay452 (vsRow A b)) (2 * t)) (expR I A b (4 * t)) (expR I A b (4 * t + 1))
      (rowOf (k0_pay452 (vsRow A b)) (2 * t + 1)) (expR I A b (4 * t + 2)) (expR I A b (4 * t + 3))

/-- The output rows of sequence `b`. -/
def outRows (b : ℕ) : Vec F S32x128 .f32 := k0_pay755 (k0_pay469 (accAt I A b (8 * I.NC b)))

/-- All output rows. -/
def oArr (p : S2048x128.Idx) : Elt F .f32 := outRows I A ((p 0).val / 32) (ix2 ((p 0).val % 32) (p 1).val)

/-- The block number `i` of the output. -/
def oBlk (i : ℕ) : Vec F S8x128 .f32 := fun j => oArr I A (ix2 (256 * (i / 32) + i % 32 + 32 * (j 0).val) (j 1).val)

/-- The kernel's result. -/
def kernelOut (p : S64x4096.Idx) : Elt F .bf16 :=
  k0_pay1 (oBlk I A (32 * ((p 0).val / 8) + (p 1).val / 128)) (ix2 ((p 0).val % 8) ((p 1).val % 128))

end Cert.Proof.Kernel
-- ==== Proof.Kernel.Issue.lean ====
/- One issue: the next chunk's transfer starts into its slot, and the producer's words move on. -/
module

public import proofs.«01_k».proof.Proof.Kernel.Ring

@[expose] public section

set_option maxRecDepth 65536
set_option pp.maxSteps 250

noncomputable section

namespace Cert.Proof.Kernel

open Cert.Kernel Cert.Kernel.Gen Cert.Proof.Rules Cert.Proof.Sched
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

variable (I : Ins F) (B : Bufs) (c : Dev nD)

/-- A transfer of a chunk under way into slot `s`, which delivers `R` at the wait. -/
def Fly (s : ℕ) (hs : s < 24) (n : ℕ) (R : sProp 𝕄) : sProp 𝕄 :=
  iprop(∃ D : sProp 𝕄, Transfers.Flight (countersEmb (U := Pipeline.UD sig nD τ)) (c : Thread nD τ)
    (.dma (semAt B s hs)) () (credit B n) D ∗ (D -∗ R))

/-- One transfer: the slot, its counter and a share of the cache go under way. -/
theorem dma_step (M : Memref sig .tc .hbm S64x128x256x128 .fp8e4m3) {q : PosShare TreeShare}
    {C : S64x128x256x128.Idx → Elt F .fp8e4m3} {s b o n cc : ℕ} (hs : s < 24) {hR} {hH}
    {hq hq' : (⟨4, ![1, n, 256, 128]⟩ : Shape).Squeezes ⟨3, ![n, 256, 128]⟩} (ho : o = 16 * cc)
    (hn : 1 ≤ n) (hb : b < 64) (hcc : 16 * cc + n ≤ 128) {T : Tile F}
    {hsrc : (((M.slice (hbmRect b o n hH) (fun _ => rfl)).squeeze (⟨3, ![n, 256, 128]⟩ : Shape) hq).view).WordExact}
    {hdst : (((B.arg7.slice (ringRect s n hR) (fun _ => rfl)).squeeze (⟨3, ![n, 256, 128]⟩ : Shape) hq').view).WordExact}
    {hsem} {α : Type} {k : PUnit → Prog (TpuEff nD τ sig (Elt F) Λ₀ .tc) α} {Q : α → sProp (MT nD τ sig Unit (Elt F) ℕ (Pipeline.UD sig nD τ) ℕ)} :
    iprop(slotHolds B c s T ∗ semVal ((c : Thread nD τ), .dma (semAt B s hs)) 0 ∗ holds (c : Thread nD τ) M Finset.univ q C)
      ⊢ iprop((Fly B c s hs n iprop(slotHolds B c s (laid C b cc n T) ∗ holds (c : Thread nD τ) M Finset.univ q C)
          -∗ wp frame (wpE (defs₀ (F := F)) Variants.none (c : Thread nD τ) none) Set.univ (k ⟨⟩) Q)
        -∗ wp frame (wpE (defs₀ (F := F)) Variants.none (c : Thread nD τ) none) Set.univ
          (.op (.enqueueDma ((M.slice (hbmRect b o n hH) (fun _ => rfl)).squeeze (⟨3, ![n, 256, 128]⟩ : Shape) hq)
            (.here ((B.arg7.slice (ringRect s n hR) (fun _ => rfl)).squeeze (⟨3, ![n, 256, 128]⟩ : Shape) hq'))
            (.dma (semAt B s hs)) hsrc hdst hsem) k) Q) := by
  subst ho
  unfold slotHolds
  unfold holds
  iintro ⟨⟨%fd, %hfd, Hd⟩, Hv, ⟨%fs, %hfs, Hs⟩⟩ Hk
  have hsub : (((M.slice (hbmRect b (16 * cc) n hH) (fun _ => rfl)).squeeze (⟨3, ![n, 256, 128]⟩ : Shape) hq).view).set ⊆ M.view.setOn Finset.univ := by
    rw [View.setOn_univ]
    show ((M.view.slice (hbmRect b (16 * cc) n hH)).reshape _ _).set ⊆ _
    rw [View.set_reshape, View.set_slice]
    exact Finset.map_subset_map.mpr (Finset.subset_univ _)
  ihave Hs' := (show (M.view.loc (c : Thread nD τ) ↦[M.view.setOn Finset.univ]{q} fs : sProp 𝕄) ⊢ _ from
    (pointsTo_split_subset hsub).1) $$ Hs
  icases Hs' with ⟨Hs, Hrest⟩
  have hSd : (((B.arg7.slice (ringRect s n hR) (fun _ => rfl)).squeeze (⟨3, ![n, 256, 128]⟩ : Shape) hq').view).set ⊆ B.arg7.view.setOn (slotSet s) := by
    show ((B.arg7.view.slice (ringRect s n hR)).reshape _ _).set ⊆ _
    rw [View.set_reshape, View.set_slice]
    refine Finset.map_subset_map.mpr fun i hi => Finset.mem_filter.mpr ⟨Finset.mem_univ _, ?_⟩
    have h0 := (Rect.mem_set_unitDyn.mp hi) 0
    change s ≤ (i 0).val ∧ (i 0).val < s + 1 at h0
    omega
  have hN : (((B.arg7.slice (ringRect s n hR) (fun _ => rfl)).squeeze (⟨3, ![n, 256, 128]⟩ : Shape) hq').view).amount (.dma (semAt B s hs)) = credit B n := rfl
  have hN0 : 0 < credit B n := by
    rw [← hN]
    refine View.dmaCredit_pos (v := ((B.arg7.slice (ringRect s n hR) (fun _ => rfl)).squeeze (⟨3, ![n, 256, 128]⟩ : Shape) hq').view) ?_
    simp [Shape.numel, Fin.prod_univ_succ]
    omega
  iapply (Transfers.wp_dmaLocal (countersEmb (U := Pipeline.UD sig nD τ)) Variants.none (c : Thread nD τ) none () (credit B n) hN hN0 hSd) $$ [Hs Hd Hv]
  · isplitl [Hs]; · iexact Hs
    isplitl [Hd]; · iexact Hd
    iexact Hv
  iintro HF
  iapply Hk
  unfold Fly
  iexists _
  isplitl [HF]
  · iexact HF
  iintro ⟨Hd, Hs⟩
  isplitl [Hd]
  · iexists _
    isplitr
    · ipureintro
      exact landed_read B fd M fs hR hH hq T C hfd (fun i => hfs i (Finset.mem_univ i)) hb hcc
    · iexact Hd
  · iexists fs
    isplitr
    · ipureintro; exact hfs
    · iapply (show iprop((M.view.loc (c : Thread nD τ) ↦[_]{q} fs) ∗ (M.view.loc (c : Thread nD τ) ↦[_]{q} fs)) ⊢ (M.view.loc (c : Thread nD τ) ↦[M.view.setOn Finset.univ]{q} fs : sProp 𝕄) from
        (pointsTo_split_subset hsub).2)
      isplitl [Hs] <;> iassumption

/-! ### The issue as operations -/

theorem issue_key (b cw sl : BitVec 32) (hw2 : k0_chk2 b 0#32 sl) (hw1 : k0_chk1 b) (h1 : k0_cond1 b = 1#1) :
    issue (F := F) B b 0#32 cw sl hw2 hw1 = (do
      let L : Elt F .i32 ← smemLoad B.arg0 (Rect.unit (s := S64) (k0_off2 b) S1.size (k0_off2_inb b hw1 h1)) numel1_S1 rfl
      have hw : (k0_chk3 b 0#32 cw sl L) := (← Prog.lift (TpuEff.assume (k0_chk3 b 0#32 cw sl L) (k0_chk3.dec b 0#32 cw sl L))).down
      Prog.lift (.enqueueDma ((B.arg2.slice (Rect.unitDyn (s := S64x128x256x128) (k0_off5 b cw L).1 (k0_off5 b cw L).2 (k0_off5_inb b 0#32 cw sl L hw h1 rfl)) (fun _ => rfl)).squeeze (⟨3, k0_sz2 cw L⟩ : Shape) (k0_sz2_squeezes b 0#32 cw sl L hw h1 rfl))
        (.here ((B.arg7.slice (Rect.unitDyn (s := S24x16x256x128) (k0_off4 cw sl L).1 (k0_off4 cw sl L).2 (k0_off4_inb b 0#32 cw sl L hw h1 rfl)) (fun _ => rfl)).squeeze (⟨3, k0_sz1 cw L⟩ : Shape) (k0_sz1_squeezes b 0#32 cw sl L hw h1 rfl)))
        (.dma ((B.arg13.slice (Rect.unit (s := S24) (k0_off3 sl) S1.size (k0_off3_inb b 0#32 sl hw2 h1 rfl))).squeeze S_ squeezes_S1_S_).sem)
        ((B.harg2.wordExact_slice rfl _ (k0_off5_wordsfp8e4m3 b 0#32 cw sl L hw h1 rfl)).reshape _ _)
        ((B.harg7.wordExact_slice rfl _ (k0_off4_wordsfp8e4m3 b 0#32 cw sl L hw h1 rfl)).reshape _ _) ⟨Or.inl rfl, trivial⟩)
      let last := Scalar.cmpi .sge (Scalar.muli (Scalar.addi cw 1#32) 16#32) (nbW L)
      pure (Scalar.select (Scalar.andi last 0#1) (Scalar.addi b 1#32) b, Scalar.select last 1#32 0#32,
          Scalar.select last 0#32 (Scalar.addi cw 1#32), slotNext sl)) := by
  unfold issue
  rw [dif_pos h1, k0_part1_eq_skeleton]
  unfold k0_part1_skel
  refine congrArg (Prog.op _) (funext fun L => ?_)
  refine congrArg (Prog.op _) (funext fun hw => ?_)
  rfl

theorem issue_val (b cw sl : BitVec 32) (hw2 : k0_chk2 b 1#32 sl) (hw1 : k0_chk1 b) (h1 : k0_cond1 b = 1#1) :
    issue (F := F) B b 1#32 cw sl hw2 hw1 = (do
      let L : Elt F .i32 ← smemLoad B.arg0 (Rect.unit (s := S64) (k0_off2 b) S1.size (k0_off2_inb b hw1 h1)) numel1_S1 rfl
      have hw : (k0_chk3 b 1#32 cw sl L) := (← Prog.lift (TpuEff.assume (k0_chk3 b 1#32 cw sl L) (k0_chk3.dec b 1#32 cw sl L))).down
      Prog.lift (.enqueueDma ((B.arg4.slice (Rect.unitDyn (s := S64x128x256x128) (k0_off8 b cw L).1 (k0_off8 b cw L).2 (k0_off8_inb b 1#32 cw sl L hw h1 rfl)) (fun _ => rfl)).squeeze (⟨3, k0_sz4 cw L⟩ : Shape) (k0_sz4_squeezes b 1#32 cw sl L hw h1 rfl))
        (.here ((B.arg7.slice (Rect.unitDyn (s := S24x16x256x128) (k0_off7 cw sl L).1 (k0_off7 cw sl L).2 (k0_off7_inb b 1#32 cw sl L hw h1 rfl)) (fun _ => rfl)).squeeze (⟨3, k0_sz3 cw L⟩ : Shape) (k0_sz3_squeezes b 1#32 cw sl L hw h1 rfl)))
        (.dma ((B.arg13.slice (Rect.unit (s := S24) (k0_off6 sl) S1.size (k0_off6_inb b 1#32 sl hw2 h1 rfl))).squeeze S_ squeezes_S1_S_).sem)
        ((B.harg4.wordExact_slice rfl _ (k0_off8_wordsfp8e4m3 b 1#32 cw sl L hw h1 rfl)).reshape _ _)
        ((B.harg7.wordExact_slice rfl _ (k0_off7_wordsfp8e4m3 b 1#32 cw sl L hw h1 rfl)).reshape _ _) ⟨Or.inl rfl, trivial⟩)
      let last := Scalar.cmpi .sge (Scalar.muli (Scalar.addi cw 1#32) 16#32) (nbW L)
      pure (Scalar.select (Scalar.andi last 1#1) (Scalar.addi b 1#32) b, Scalar.select last 0#32 1#32,
          Scalar.select last 0#32 (Scalar.addi cw 1#32), slotNext sl)) := by
  unfold issue
  rw [dif_pos h1, k0_part1_eq_skeleton]
  unfold k0_part1_skel
  refine congrArg (Prog.op _) (funext fun L => ?_)
  refine congrArg (Prog.op _) (funext fun hw => ?_)
  rfl

theorem issue_done (b k cw sl : BitVec 32) (hw2 : k0_chk2 b k sl) (hw1 : k0_chk1 b) (h1 : ¬ k0_cond1 b = 1#1) :
    issue (F := F) B b k cw sl hw2 hw1 = .ret (b, k, cw, sl) := by
  unfold issue
  rw [dif_neg h1]
  rfl

/-! ### The words of the producer -/

/-- The words stand for the transfer number `j`, and the slot word for its slot. -/
structure Words (j : ℕ) (b k cw sl : BitVec 32) : Prop where
  b : b.toNat = (I.st j).1
  k : k.toNat = (I.st j).2.1
  c : cw.toNat = (I.st j).2.2
  lt : sl.toNat < 24
  sl : (I.st j).1 < 64 → sl.toNat = j % 24

theorem slotNext_all : ∀ s : Fin 24, (slotNext (BitVec.ofNat 32 s.val)).toNat = (s.val + 1) % 24 := by decide +kernel

theorem slotNext_eq {sl : BitVec 32} (h : sl.toNat < 24) : (slotNext sl).toNat = (sl.toNat + 1) % 24 := by
  have := slotNext_all ⟨sl.toNat, h⟩
  simpa using this

theorem last_all : ∀ n : Fin 129, ∀ c : Fin 8, c.val < (n.val + 15) / 16 →
    Scalar.cmpi .sge (Scalar.muli (Scalar.addi (BitVec.ofNat 32 c.val) 1#32) 16#32) (BitVec.ofNat 32 n.val)
      = if c.val + 1 = (n.val + 15) / 16 then 1#1 else 0#1 := by decide +kernel

theorem last_eq {L cw : BitVec 32} (h : InLen L) (hc : cw.toNat < ncN L.toNat) :
    Scalar.cmpi .sge (Scalar.muli (Scalar.addi cw 1#32) 16#32) (nbW L) = if cw.toNat + 1 = ncN L.toNat then 1#1 else 0#1 := by
  rw [nbW_eq h]
  have h8 := ncN_le h.2
  have := last_all ⟨nbN L.toNat, by have := nbN_le h.2; omega⟩ ⟨cw.toNat, by omega⟩ hc
  dsimp only at this
  rw [BitVec.ofNat_toNat, BitVec.setWidth_eq] at this
  exact this

theorem st_ok' (hI : I.Ok) (j : ℕ) : (I.st j).1 ≤ 64 ∧ (I.st j).2.1 < 2 ∧
    ((I.st j).1 < 64 → (I.st j).2.2 < ncN (I.L (I.st j).1).toNat) := st_ok hI.NC_pos j

theorem words_next (hI : I.Ok) {j : ℕ} {b k cw sl : BitVec 32} (h : Words I j b k cw sl) (hb : (I.st j).1 < 64)
    {b' k' cw' : BitVec 32}
    (hb' : b'.toNat = if cw.toNat + 1 = ncN (I.L (I.st j).1).toNat then (if (I.st j).2.1 = 1 then (I.st j).1 + 1 else (I.st j).1) else (I.st j).1)
    (hk' : k'.toNat = if cw.toNat + 1 = ncN (I.L (I.st j).1).toNat then 1 - (I.st j).2.1 else (I.st j).2.1)
    (hc' : cw'.toNat = if cw.toNat + 1 = ncN (I.L (I.st j).1).toNat then 0 else cw.toNat + 1) :
    Words I (j + 1) b' k' cw' (slotNext sl) := by
  have e : I.st (j + 1) = nxt I.NC (I.st j) := rfl
  have hs := h.sl hb
  rw [h.c] at hb' hk' hc'
  have e2 : I.st (j + 1) = (if (I.st j).2.2 + 1 = ncN (I.L (I.st j).1).toNat then (if (I.st j).2.1 = 1 then (I.st j).1 + 1 else (I.st j).1, 1 - (I.st j).2.1, 0)
      else ((I.st j).1, (I.st j).2.1, (I.st j).2.2 + 1)) := by
    rw [e]; unfold nxt; rw [if_pos hb]; rfl
  have hsn := slotNext_eq h.lt
  refine ⟨?_, ?_, ?_, by omega, fun _ => by omega⟩
  · rw [hb', e2]; split <;> rfl
  · rw [hk', e2]; split <;> rfl
  · rw [hc', e2]; split <;> rfl

theorem words_done (hI : I.Ok) {j : ℕ} {b k cw sl : BitVec 32} (h : Words I j b k cw sl) (hb : ¬ (I.st j).1 < 64) :
    Words I (j + 1) b k cw sl := by
  have e : I.st (j + 1) = I.st j := by
    show nxt I.NC (I.st j) = _
    unfold nxt; rw [if_neg hb]
  exact ⟨by rw [e]; exact h.b, by rw [e]; exact h.k, by rw [e]; exact h.c, h.lt, fun hl => absurd (e ▸ hl) hb⟩

/-! ### The resources of a slot -/

theorem slotlt (j : ℕ) : j % 24 < 24 := Nat.mod_lt j (by omega)

/-- The share of a cache set aside for slot `s`. -/
def lf (s : ℕ) : PosShare TreeShare := ShareLeaves.leaf 5 fullShare (Fin.ofNat (2 ^ 5) s)

theorem semAt_congr {s s' : ℕ} (e : s = s') (h : s < 24) (h' : s' < 24) : semAt B s h = semAt B s' h' := by
  subst e; rfl

/-- A slot at rest: its contents, its counter at zero and its shares of the caches. -/
def Res (s : ℕ) (hs : s < 24) (T : Tile F) : sProp 𝕄 :=
  iprop(slotHolds B c s T ∗ semVal ((c : Thread nD τ), .dma (semAt B s hs)) 0
    ∗ holds (c : Thread nD τ) B.arg2 Finset.univ (lf s) I.K ∗ holds (c : Thread nD τ) B.arg4 Finset.univ (lf s) I.V)

/-- What a wait for the transfer into slot `s` brings, apart from the counter. -/
def Back (s : ℕ) (T : Tile F) : sProp 𝕄 :=
  iprop(slotHolds B c s T
    ∗ holds (c : Thread nD τ) B.arg2 Finset.univ (lf s) I.K ∗ holds (c : Thread nD τ) B.arg4 Finset.univ (lf s) I.V)

/-- The slot of transfer `j` after its issue: under way, or at rest when no sequence was left. -/
def SlotR (j : ℕ) : sProp 𝕄 :=
  if (I.st j).1 < 64 then
    Fly B c (j % 24) (slotlt j) (nN (I.L (I.st j).1).toNat (I.st j).2.2) (Back I B c (j % 24) (I.ringVal j))
  else Res I B c (j % 24) (slotlt j) (I.ringBefore j)

theorem Fly_mono {s : ℕ} {hs : s < 24} {n : ℕ} {R R' : sProp 𝕄} :
    iprop(Fly B c s hs n R ∗ (R -∗ R')) ⊢ (Fly B c s hs n R' : sProp 𝕄) := by
  unfold Fly
  iintro ⟨⟨%D, HF, HD⟩, H⟩
  iexists D
  isplitl [HF]; · iexact HF
  iintro Hd
  iapply H
  iapply HD
  iexact Hd

theorem add1_all : ∀ n : Fin 64, (Scalar.addi (BitVec.ofNat 32 n.val) 1#32).toNat = n.val + 1 := by decide +kernel
theorem add1' {w : BitVec 32} (h : w.toNat < 64) : (Scalar.addi w 1#32).toNat = w.toNat + 1 := by
  have := add1_all ⟨w.toNat, h⟩
  dsimp only at this
  rwa [BitVec.ofNat_toNat, BitVec.setWidth_eq] at this
theorem add1 {w : BitVec 32} (h : w.toNat < 8) : (Scalar.addi w 1#32).toNat = w.toNat + 1 := add1' (by omega)

/-- One issue. -/
theorem wp_issue (hI : I.Ok) {j : ℕ} {b k cw sl : BitVec 32} (h : Words I j b k cw sl) (hw2) (hw1) :
    iprop(holds (c : Thread nD τ) B.arg0 Finset.univ fullShare I.len ∗ Res I B c (j % 24) (slotlt j) (I.ringBefore j))
      ⊢ wp frame (wpE (defs₀ (F := F)) Variants.none (c : Thread nD τ) none) Set.univ (issue (F := F) B b k cw sl hw2 hw1)
          (fun r => iprop(⌜Words I (j + 1) r.1 r.2.1 r.2.2.1 r.2.2.2⌝
            ∗ holds (c : Thread nD τ) B.arg0 Finset.univ fullShare I.len ∗ SlotR I B c j)) := by
  obtain ⟨hb64, hk2, hcn⟩ := st_ok' I hI j
  by_cases hb : (I.st j).1 < 64
  · have h1 : k0_cond1 b = 1#1 := (cond1_iff (by rw [h.b]; exact hb64)).mpr (by rw [h.b]; exact hb)
    have hc := hcn hb
    have hs := h.sl hb
    have hLx : I.len ((Rect.unit (s := S64) (k0_off2 b) S1.size (k0_off2_inb b hw1 h1)).emb (Shape.Idx.first (numel1_S1.symm ▸ Nat.one_pos))) = I.L (I.st j).1 := by
      refine congrArg I.len (funext fun a => Fin.ext ?_)
      fin_cases a
      show b.toNat + 1 * 0 = (I.st j).1 % 64
      rw [h.b]; omega
    have hL : InLen (I.L (I.st j).1) := hI _
    have hlast := last_eq (cw := cw) hL (by rw [h.c]; exact hc)
    have hn := nW_eq (c := cw) hL (by rw [h.c]; exact hc)
    have h8 : cw.toNat < 8 := by have := ncN_le hL.2; rw [h.c]; omega
    have hcc := nN_add_le hL.2 hc
    have hn1 := nN_pos hc
    unfold SlotR
    rw [if_pos hb]
    unfold Res
    have hw3 : ∀ k', k0_chk3 b k' cw sl (I.L (I.st j).1) := fun k' => chk3_of (by rw [h.b]; exact hb) h.lt hL (by rw [h.c]; exact hc)
    have h8' : 16 * cw.toNat + (nW (nbW (I.L (I.st j).1)) cw).toNat ≤ 128 := by rw [hn, h.c]; exact hcc
    have hval : I.ringVal j = laid (if (I.st j).2.1 = 0 then I.K else I.V) b.toNat cw.toNat (nW (nbW (I.L (I.st j).1)) cw).toNat (I.ringBefore j) := by
      rw [hn, h.b, h.c]; unfold Ins.ringVal Ins.land; rw [if_pos hb]
    have hnn : nN (I.L (I.st j).1).toNat (I.st j).2.2 = (nW (nbW (I.L (I.st j).1)) cw).toNat := by rw [hn, h.c]
    rw [hnn]
    generalize hg : I.ringVal j = Tv at hval ⊢
    clear hg
    generalize I.ringBefore j = T at hval ⊢
    generalize hg2 : slotlt j = hjs
    clear hg2
    generalize hjj : j % 24 = s at hs hjs ⊢
    subst hs
    have hk : k = 0#32 ∨ k = 1#32 := by
      have := h.k
      rcases Nat.lt_succ_iff_lt_or_eq.mp hk2 with h0 | h0
      · left; apply BitVec.eq_of_toNat_eq; rw [this]; simp; omega
      · right; apply BitVec.eq_of_toNat_eq; rw [this, h0]; rfl
    rcases hk with rfl | rfl
    · have hk0 : (I.st j).2.1 = 0 := h.k.symm
      rw [if_pos hk0] at hval
      rw [issue_key B b cw sl hw2 hw1 h1]
      iintro ⟨H0, Hsl, Hv, HK, HV⟩
      iapply (wp_smemLoad_bind Variants.none (c : Thread nD τ) none Set.univ (Finset.subset_univ _) hLx) $$ H0
      iintro H0
      iapply (wp_assume_bind Variants.none (c : Thread nD τ) none Set.univ (hw3 _))
      iapply (dma_step B c B.arg2 hjs (c16_eq h8) (by rw [hn, h.c]; exact hn1) (by rw [h.b]; exact hb) h8') $$ [Hsl Hv HK]
      · isplitl [Hsl]; · iexact Hsl
        isplitl [Hv]; · iexact Hv
        iexact HK
      iintro HF
      iapply (le_wp_ret _ _ _ _ _)
      isplitr
      · ipureintro
        refine words_next I hI h hb ?_ ?_ ?_
        · dsimp only; rw [hlast, hk0]; split
          · exact h.b
          · exact h.b
        · dsimp only; rw [hlast, hk0]; split <;> rfl
        · dsimp only; rw [hlast]; split
          · rfl
          · exact add1 h8
      isplitl [H0]; · iexact H0
      iapply Fly_mono
      isplitl [HF]; · iexact HF
      iintro ⟨H1, H2⟩
      unfold Back
      rw [hval]
      isplitl [H1]; · iexact H1
      isplitl [H2]; · iexact H2
      iexact HV
    · have hk0 : (I.st j).2.1 = 1 := h.k.symm
      rw [if_neg (by omega)] at hval
      rw [issue_val B b cw sl hw2 hw1 h1]
      iintro ⟨H0, Hsl, Hv, HK, HV⟩
      iapply (wp_smemLoad_bind Variants.none (c : Thread nD τ) none Set.univ (Finset.subset_univ _) hLx) $$ H0
      iintro H0
      iapply (wp_assume_bind Variants.none (c : Thread nD τ) none Set.univ (hw3 _))
      iapply (dma_step B c B.arg4 hjs (c16_eq h8) (by rw [hn, h.c]; exact hn1) (by rw [h.b]; exact hb) h8') $$ [Hsl Hv HV]
      · isplitl [Hsl]; · iexact Hsl
        isplitl [Hv]; · iexact Hv
        iexact HV
      iintro HF
      iapply (le_wp_ret _ _ _ _ _)
      isplitr
      · ipureintro
        refine words_next I hI h hb ?_ ?_ ?_
        · dsimp only; rw [hlast, hk0]; split
          · rw [← h.b]; exact add1' (by rw [h.b]; exact hb)
          · exact h.b
        · dsimp only; rw [hlast, hk0]; split <;> rfl
        · dsimp only; rw [hlast]; split
          · rfl
          · exact add1 h8
      isplitl [H0]; · iexact H0
      iapply Fly_mono
      isplitl [HF]; · iexact HF
      iintro ⟨H1, H2⟩
      unfold Back
      rw [hval]
      isplitl [H1]; · iexact H1
      isplitl [HK]; · iexact HK
      iexact H2
  · have h1 : ¬ k0_cond1 b = 1#1 := fun e => hb (by have := (cond1_iff (by rw [h.b]; exact hb64)).mp e; rw [h.b] at this; exact this)
    rw [issue_done B b k cw sl hw2 hw1 h1]
    unfold SlotR
    rw [if_neg hb]
    iintro ⟨H1, H2⟩
    iapply (le_wp_ret _ _ _ _ _)
    isplitr
    · ipureintro; exact words_done I hI h hb
    isplitl [H1] <;> iassumption

end Cert.Proof.Kernel
-- ==== Proof.Kernel.Tiles.lean ====
/- The rows of the score buffer, and one tile of the score loop, one row of the exponential loop and one
   tile of the value loop. -/
module

public import proofs.«01_k».proof.Proof.Kernel.Spec
public import proofs.«01_k».proof.Proof.Kernel.Issue

@[expose] public section

set_option maxRecDepth 65536
set_option pp.maxSteps 250

noncomputable section

namespace Cert.Proof.Kernel

open Cert.Kernel Cert.Kernel.Gen Cert.Proof.Rules Cert.Proof.Sched
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

variable (I : Ins F) (A : Arr F) (B : Bufs) (c : Dev nD)

/-! ### Rows of the score buffer -/

/-- An index inside a row. -/
def inRow (i : S256x8x128.Idx) : S1x8x128.Idx
  | 0 => ⟨0, Nat.one_pos⟩
  | 1 => i 1
  | 2 => i 2

/-- The score buffer held whole, its first `M` rows reading `G`. -/
def Rows (G : ℕ → Vec F S1x8x128 .f32) (M : ℕ) : sProp 𝕄 :=
  iprop(∃ X : S256x8x128.Idx → Elt F .f32, ⌜∀ i, (i 0).val < M → X i = G (i 0).val (inRow i)⌝
    ∗ holds (c : Thread nD τ) B.arg10 Finset.univ fullShare X)

theorem Rows_congr {G G' : ℕ → Vec F S1x8x128 .f32} {M M' : ℕ} (hM : M' ≤ M) (h : ∀ n < M', G' n = G n) :
    (Rows B c G M : sProp 𝕄) ⊢ Rows B c G' M' := by
  unfold Rows
  iintro ⟨%X, %hX, H⟩
  iexists X
  isplitr
  · ipureintro; intro i hi; rw [h _ hi]; exact hX i (by omega)
  · iexact H

section
variable {α : Type} {Q : α → sProp (MT nD τ sig Unit (Elt F) ℕ (Pipeline.UD sig nD τ) ℕ)}

theorem wp_row_peek {r : Rect S256x8x128} {hl} {k : (r.toLoadRect.shape.Idx → Elt F .f32) → Prog (TpuEff nD τ sig (Elt F) Λ₀ .tc) α}
    {G : ℕ → Vec F S1x8x128 .f32} {M : ℕ} :
    (Rows B c G M : sProp 𝕄)
      ⊢ iprop((∀ x, Rows B c G M -∗ wp frame (wpE (defs₀ (F := F)) Variants.none (c : Thread nD τ) none) Set.univ (k x) Q)
        -∗ wp frame (wpE (defs₀ (F := F)) Variants.none (c : Thread nD τ) none) Set.univ
          (Prog.lift (.load B.arg10 r.toLoadRect hl) >>= k) Q) := by
  unfold Rows
  iintro ⟨%X, %hX, H⟩ Hk
  iapply (wp_load_bind Variants.none (c : Thread nD τ) none Set.univ (Finset.subset_univ _) rfl) $$ H
  iintro H
  iapply Hk
  iexists X
  isplitr
  · ipureintro; exact hX
  · iexact H

theorem wp_row_load {n : ℕ} {off : Fin 3 → ℕ} {hi} (ho : off = ![n, 0, 0]) {hl}
    {k : ((Rect.unit (s := S256x8x128) off S1x8x128.size hi).toLoadRect.shape.Idx → Elt F .f32) → Prog (TpuEff nD τ sig (Elt F) Λ₀ .tc) α}
    {G : ℕ → Vec F S1x8x128 .f32} {M : ℕ} (hn : n < M) :
    (Rows B c G M : sProp 𝕄)
      ⊢ iprop((Rows B c G M -∗ wp frame (wpE (defs₀ (F := F)) Variants.none (c : Thread nD τ) none) Set.univ (k (G n)) Q)
        -∗ wp frame (wpE (defs₀ (F := F)) Variants.none (c : Thread nD τ) none) Set.univ
          (Prog.lift (.load B.arg10 (Rect.unit (s := S256x8x128) off S1x8x128.size hi).toLoadRect hl) >>= k) Q) := by
  subst ho
  unfold Rows
  iintro ⟨%X, %hX, H⟩ Hk
  have hw : (fun j => X ((Rect.unit (s := S256x8x128) ![n, 0, 0] S1x8x128.size hi).toLoadRect.idx j)) = G n := by
    funext j
    have h0 : (j 0).val = 0 := by have := (j 0).isLt; change (j 0).val < 1 at this; omega
    have e0 : ((Rect.unit (s := S256x8x128) ![n, 0, 0] S1x8x128.size hi).toLoadRect.idx j 0).val = n := by
      show n + 1 * (j 0).val = n
      omega
    rw [hX _ (by rw [e0]; exact hn), e0]
    refine congrArg (G n) (funext fun a => Fin.ext ?_)
    fin_cases a
    · show 0 = (j 0).val
      omega
    · show 0 + 1 * (j 1).val = (j 1).val
      omega
    · show 0 + 1 * (j 2).val = (j 2).val
      omega
  iapply (wp_load_bind Variants.none (c : Thread nD τ) none Set.univ (Finset.subset_univ _) hw) $$ H
  iintro H
  iapply Hk
  iexists X
  isplitr
  · ipureintro; exact hX
  · iexact H

theorem wp_row_store {n : ℕ} {off : Fin 3 → ℕ} {hi} (ho : off = ![n, 0, 0]) {w : Vec F S1x8x128 .f32} {hx} {hm}
    {k : PUnit → Prog (TpuEff nD τ sig (Elt F) Λ₀ .tc) α}
    {G G' : ℕ → Vec F S1x8x128 .f32} {M M' : ℕ} (hG : ∀ k < M', k ≠ n → k < M ∧ G' k = G k) (hw : G' n = w) :
    (Rows B c G M : sProp 𝕄)
      ⊢ iprop((Rows B c G' M' -∗ wp frame (wpE (defs₀ (F := F)) Variants.none (c : Thread nD τ) none) Set.univ (k ⟨⟩) Q)
        -∗ wp frame (wpE (defs₀ (F := F)) Variants.none (c : Thread nD τ) none) Set.univ
          (Prog.lift (.store B.arg10 (Rect.unit (s := S256x8x128) off S1x8x128.size hi) w Finset.univ hx hm) >>= k) Q) := by
  subst ho
  unfold Rows
  iintro ⟨%X, %hX, H⟩ Hk
  iapply (wp_store_bind (Y := (Rect.unit (s := S256x8x128) ![n, 0, 0] S1x8x128.size hi).overlay X w) Variants.none (c : Thread nD τ) none Set.univ (Finset.subset_univ _) (fun _ _ => rfl)) $$ H
  iintro H
  iapply Hk
  iexists _
  isplitr
  rotate_left
  · iexact H
  ipureintro
  intro i hi'
  by_cases hin : (i 0).val = n
  · have hmem : i ∈ (Rect.unit (s := S256x8x128) ![n, 0, 0] S1x8x128.size hi).set := by
      rw [Rect.mem_set_unit]
      intro a
      fin_cases a
      · show n ≤ (i 0).val ∧ (i 0).val < n + 1
        omega
      · exact ⟨Nat.zero_le _, by have := (i 1).isLt; change (i 1).val < 8 at this; show (i 1).val < 0 + 8; omega⟩
      · exact ⟨Nat.zero_le _, by have := (i 2).isLt; change (i 2).val < 128 at this; show (i 2).val < 0 + 128; omega⟩
    obtain ⟨j, hj⟩ := (Rect.unit (s := S256x8x128) ![n, 0, 0] S1x8x128.size hi).exists_idx_of_mem hmem
    have hj' : (Rect.unit (s := S256x8x128) ![n, 0, 0] S1x8x128.size hi).emb j = i := hj
    rw [hin, hw, ← hj', Rect.overlay_emb]
    refine congrArg w (funext fun a => Fin.ext ?_)
    fin_cases a
    · have := (j 0).isLt
      change (j 0).val < 1 at this
      show (j 0).val = 0
      omega
    · show (j 1).val = 0 + 1 * (j 1).val
      omega
    · show (j 2).val = 0 + 1 * (j 2).val
      omega
  · rw [Rect.overlay_of_not_mem]
    · obtain ⟨h1, h2⟩ := hG _ hi' hin
      rw [h2]; exact hX i h1
    · rw [Rect.mem_set_unit]
      intro h
      have := h 0
      change n ≤ (i 0).val ∧ (i 0).val < n + 1 at this
      omega

/-- A load of a block of a slot. -/
theorem wp_tile_load {s r : ℕ} {off : Fin 4 → ℕ} {hi} (ho : off = ![s, r, 0, 0]) (hr : r < 16) {hl}
    {k : ((Rect.unit (s := S24x16x256x128) off S1x1x256x128.size hi).toLoadRect.shape.Idx → Elt F .fp8e4m3) → Prog (TpuEff nD τ sig (Elt F) Λ₀ .tc) α}
    {T : Tile F} :
    (slotHolds B c s T : sProp 𝕄)
      ⊢ iprop((slotHolds B c s T -∗ wp frame (wpE (defs₀ (F := F)) Variants.none (c : Thread nD τ) none) Set.univ (k (tileRow T r)) Q)
        -∗ wp frame (wpE (defs₀ (F := F)) Variants.none (c : Thread nD τ) none) Set.univ
          (Prog.lift (.load B.arg7 (Rect.unit (s := S24x16x256x128) off S1x1x256x128.size hi).toLoadRect hl) >>= k) Q) := by
  subst ho
  unfold slotHolds
  have hS : (Rect.unit (s := S24x16x256x128) ![s, r, 0, 0] S1x1x256x128.size hi).toLoadRect.set ⊆ slotSet s := by
    intro i hi'
    have h0 := (Rect.mem_set_unit.mp (show i ∈ (Rect.unit (s := S24x16x256x128) ![s, r, 0, 0] S1x1x256x128.size hi).set from hi')) 0
    change s ≤ (i 0).val ∧ (i 0).val < s + 1 at h0
    exact Finset.mem_filter.mpr ⟨Finset.mem_univ _, by omega⟩
  have hw : (fun j => atIdx T ((Rect.unit (s := S24x16x256x128) ![s, r, 0, 0] S1x1x256x128.size hi).toLoadRect.idx j)) = tileRow T r := by
    funext j
    unfold atIdx tileRow
    have h1 : (j 1).val = 0 := by have := (j 1).isLt; change (j 1).val < 1 at this; omega
    have e1 : (Rect.unit (s := S24x16x256x128) ![s, r, 0, 0] S1x1x256x128.size hi).toLoadRect.idx j 1 = Fin.ofNat 16 r := by
      refine Fin.ext ?_
      show r + 1 * (j 1).val = r % 16
      omega
    have e2 : (Rect.unit (s := S24x16x256x128) ![s, r, 0, 0] S1x1x256x128.size hi).toLoadRect.idx j 2 = j 2 := by
      refine Fin.ext ?_
      show 0 + 1 * (j 2).val = (j 2).val
      omega
    have e3 : (Rect.unit (s := S24x16x256x128) ![s, r, 0, 0] S1x1x256x128.size hi).toLoadRect.idx j 3 = j 3 := by
      refine Fin.ext ?_
      show 0 + 1 * (j 3).val = (j 3).val
      omega
    rw [e1, e2, e3]
  iintro H Hk
  iapply (wp_load_bind Variants.none (c : Thread nD τ) none Set.univ hS hw) $$ H
  iexact Hk

/-- A load of a row of a scale table. -/
theorem wp_scale_load {M : Memref sig .tc .vmem S128x128 .f32} {n : ℕ} {off : Fin 2 → ℕ} {hi} (ho : off = ![n, 0]) (hn : n < 128) {hl}
    {k : ((Rect.unit (s := S128x128) off S1x128.size hi).toLoadRect.shape.Idx → Elt F .f32) → Prog (TpuEff nD τ sig (Elt F) Λ₀ .tc) α}
    {S : S128x128.Idx → Elt F .f32} :
    (holds (c : Thread nD τ) M Finset.univ fullShare S : sProp 𝕄)
      ⊢ iprop((holds (c : Thread nD τ) M Finset.univ fullShare S -∗ wp frame (wpE (defs₀ (F := F)) Variants.none (c : Thread nD τ) none) Set.univ (k (rowOf S n)) Q)
        -∗ wp frame (wpE (defs₀ (F := F)) Variants.none (c : Thread nD τ) none) Set.univ
          (Prog.lift (.load M (Rect.unit (s := S128x128) off S1x128.size hi).toLoadRect hl) >>= k) Q) := by
  subst ho
  have hw : (fun j => S ((Rect.unit (s := S128x128) ![n, 0] S1x128.size hi).toLoadRect.idx j)) = rowOf S n := by
    funext j
    unfold rowOf
    have h0 : (j 0).val = 0 := by have := (j 0).isLt; change (j 0).val < 1 at this; omega
    have h1 : (j 1).val < 128 := (j 1).isLt
    refine congrArg S (funext fun a => Fin.ext ?_)
    fin_cases a
    · show n + 1 * (j 0).val = n % 128
      omega
    · show 0 + 1 * (j 1).val = (j 1).val % 128
      omega
  iintro H Hk
  iapply (wp_load_bind Variants.none (c : Thread nD τ) none Set.univ (Finset.subset_univ _) hw) $$ H
  iexact Hk

/-! ### One tile of the score loop -/

/-- One tile of the score loop. -/
theorem wp_tileK {t3 : Fin k0_t3_loop.trips} {len v : Elt F .i32} {hw4 : k0_chk4 t3 v} {b : ℕ} (hlen : len = I.L b)
    (hv : InLen v) {t4 : Fin (k0_t4_loop v).trips} {r : Fin 8} {s : ℕ} {oA oB : Fin 4 → ℕ} {hA hB}
    (hoA : oA = ![s, 2 * r.val, 0, 0]) (hoB : oB = ![s, 2 * r.val + 1, 0, 0]) {t : ℕ} (ht : t = 8 * t4.val + r.val)
    {m : FVec F S8x128 .f32} (hm : m = mAt I A b t) {T : Tile F} (hT : T = I.ringVal (start I.NC b + t / 8))
    {k : FVec F S8x128 .f32 → Prog (TpuEff nD τ sig (Elt F) Λ₀ .tc) α} :
    iprop(slotHolds B c s T ∗ holds (c : Thread nD τ) B.arg11 Finset.univ fullShare (k0_pay451 (ksRow A b)) ∗ Rows B c (scoreR I A b) (4 * t))
      ⊢ iprop((iprop(slotHolds B c s T ∗ holds (c : Thread nD τ) B.arg11 Finset.univ fullShare (k0_pay451 (ksRow A b)) ∗ Rows B c (scoreR I A b) (4 * (t + 1)))
          -∗ wp frame (wpE (defs₀ (F := F)) Variants.none (c : Thread nD τ) none) Set.univ (k (mAt I A b (t + 1))) Q)
        -∗ wp frame (wpE (defs₀ (F := F)) Variants.none (c : Thread nD τ) none) Set.univ
          (tileK (F := F) B k0_pay470 k0_pay471 t3 len v hw4 (k0_pay450 (qRows A b)) t4 r oA hA oB hB m >>= k) Q) := by
  have h8 := lt8_of_t4 hv t4
  have hr := r.isLt
  have hd : t / 8 = t4.val := by omega
  have hmod : t % 8 = r.val := by omega
  have hblk : Scalar.addi (Scalar.muli (Scf.iv 0#32 1#32 t4.val) 16#32) (BitVec.ofNat 32 (2 * r.val)) = blkW t := by
    unfold blkW; rw [hd, hmod]
  have hs : k0_pay4 (k0_pay450 (qRows A b)) (tileRow T (2 * r.val)) (tileRow T (2 * r.val + 1)) = prodK I A b t := by
    unfold prodK; rw [hT, hmod]
  have e0 : scoreR I A b (4 * t) = shapeCast S1x8x128 (scoreV I A b t 0) shapeCasts_S8x128_S1x8x128 := by
    unfold scoreR; rw [show 4 * t / 4 = t by omega, show 4 * t % 4 = 0 by omega]
  have e1 : scoreR I A b (4 * t + 1) = shapeCast S1x8x128 (scoreV I A b t 1) shapeCasts_S8x128_S1x8x128 := by
    unfold scoreR; rw [show (4 * t + 1) / 4 = t by omega, show (4 * t + 1) % 4 = 1 by omega]
  have e2 : scoreR I A b (4 * t + 2) = shapeCast S1x8x128 (scoreV I A b t 2) shapeCasts_S8x128_S1x8x128 := by
    unfold scoreR; rw [show (4 * t + 2) / 4 = t by omega, show (4 * t + 2) % 4 = 2 by omega]
  have e3 : scoreR I A b (4 * t + 3) = shapeCast S1x8x128 (scoreV I A b t 3) shapeCasts_S8x128_S1x8x128 := by
    unfold scoreR; rw [show (4 * t + 3) / 4 = t by omega, show (4 * t + 3) % 4 = 3 by omega]
  have o0 := (off18_eq hv t4 r 0 0).trans (show _ = ![4 * t, 0, 0] by congr 1; show 2 * (16 * t4.val + 2 * r.val + 0) + 0 = _; omega)
  have o1 := (off18_eq hv t4 r 0 1).trans (show _ = ![4 * t + 1, 0, 0] by congr 1; show 2 * (16 * t4.val + 2 * r.val + 0) + 1 = _; omega)
  have o2 := (off18_eq hv t4 r 1 0).trans (show _ = ![4 * t + 2, 0, 0] by congr 1; show 2 * (16 * t4.val + 2 * r.val + 1) + 0 = _; omega)
  have o3 := (off18_eq hv t4 r 1 1).trans (show _ = ![4 * t + 3, 0, 0] by congr 1; show 2 * (16 * t4.val + 2 * r.val + 1) + 1 = _; omega)
  have q0 := (off17_eq hv t4 r 0).trans (show _ = ![2 * t, 0] by congr 1; show 16 * t4.val + 2 * r.val + 0 = _; omega)
  have q1 := (off17_eq hv t4 r 1).trans (show _ = ![2 * t + 1, 0] by congr 1; show 16 * t4.val + 2 * r.val + 1 = _; omega)
  subst hlen
  subst hm
  rw [wp_bind]
  unfold tileK
  dsimp only
  rw [hblk]
  iintro ⟨Hs, Hk, HR⟩ Hc
  iapply (wp_tile_load B c hoA (by omega)) $$ Hs
  iintro Hs
  iapply (wp_tile_load B c hoB (by omega)) $$ Hs
  iintro Hs
  rw [hs]
  iapply (wp_scale_load c q0 (by omega)) $$ Hk
  iintro Hk
  iapply (wp_row_peek B c) $$ HR
  iintro %_x HR
  iapply (wp_row_store B c (G := scoreR I A b) (G' := scoreR I A b) (M' := 4 * t + 1) o0 (fun k h1 h2 => ⟨by omega, rfl⟩) e0) $$ HR
  iintro HR
  iapply (wp_row_peek B c) $$ HR
  iintro %_x HR
  iapply (wp_row_store B c (G := scoreR I A b) (G' := scoreR I A b) (M' := 4 * t + 2) o1 (fun k h1 h2 => ⟨by omega, rfl⟩) e1) $$ HR
  iintro HR
  iapply (wp_scale_load c q1 (by omega)) $$ Hk
  iintro Hk
  iapply (wp_row_peek B c) $$ HR
  iintro %_x HR
  iapply (wp_row_store B c (G := scoreR I A b) (G' := scoreR I A b) (M' := 4 * t + 3) o2 (fun k h1 h2 => ⟨by omega, rfl⟩) e2) $$ HR
  iintro HR
  iapply (wp_row_peek B c) $$ HR
  iintro %_x HR
  iapply (wp_row_store B c (G := scoreR I A b) (G' := scoreR I A b) (M' := 4 * (t + 1)) o3 (fun k h1 h2 => ⟨by omega, rfl⟩) e3) $$ HR
  iintro HR
  iapply (le_wp_ret _ _ _ _ _)
  iapply Hc
  isplitl [Hs]; · iexact Hs
  isplitl [Hk]; · iexact Hk
  iexact HR

/-! ### One row of the exponential loop -/

/-- Exponentials in the first `N` rows, scores after. -/
def mixR (b N : ℕ) (n : ℕ) : Vec F S1x8x128 .f32 := if n < N then expR I A b n else scoreR I A b n

theorem wp_expStep {t3 : Fin k0_t3_loop.trips} {v : Elt F .i32} {hw4 : k0_chk4 t3 v} {b : ℕ}
    (hv : InLen v) {t6 : Fin (k0_t6_loop v).trips} {r : Fin 8} {n : ℕ} (hn : n = 8 * t6.val + r.val)
    {M : ℕ} (hM : n < M) {l : FVec F S8x128 .f32} (hl : l = lAt I A b n)
    {k : FVec F S8x128 .f32 → Prog (TpuEff nD τ sig (Elt F) Λ₀ .tc) α} :
    (Rows B c (mixR I A b n) M : sProp 𝕄)
      ⊢ iprop((Rows B c (mixR I A b (n + 1)) M
          -∗ wp frame (wpE (defs₀ (F := F)) Variants.none (c : Thread nD τ) none) Set.univ (k (lAt I A b (n + 1))) Q)
        -∗ wp frame (wpE (defs₀ (F := F)) Variants.none (c : Thread nD τ) none) Set.univ
          (expStep (F := F) B t3 v hw4 (mxOf I A b) t6 r l >>= k) Q) := by
  have o0 := (off68_eq hv t6 r).trans (show _ = ![n, 0, 0] by rw [hn])
  have hx : mixR I A b n n = scoreR I A b n := by unfold mixR; rw [if_neg (by omega)]
  subst hl
  rw [wp_bind]
  unfold expStep
  iintro HR Hc
  iapply (wp_row_load B c o0 hM) $$ HR
  iintro HR
  rw [hx]
  iapply (wp_row_peek B c) $$ HR
  iintro %_x HR
  iapply (wp_row_store B c (G := mixR I A b n) (G' := mixR I A b (n + 1)) (M' := M) o0 (fun k h1 h2 => ⟨h1, by
    unfold mixR
    by_cases h : k < n
    · rw [if_pos h, if_pos (by omega)]
    · rw [if_neg h, if_neg (by omega)]⟩) (show mixR I A b (n + 1) n = expR I A b n by unfold mixR; rw [if_pos (by omega)])) $$ HR
  iintro HR
  iapply (le_wp_ret _ _ _ _ _)
  iapply Hc
  iexact HR

/-! ### One tile of the value loop -/

theorem wp_tileV {t3 : Fin k0_t3_loop.trips} {v : Elt F .i32} {hw4 : k0_chk4 t3 v} {b : ℕ}
    (hv : InLen v) {t8 : Fin (k0_t8_loop v).trips} {r : Fin 8} {s : ℕ} {oA oB : Fin 4 → ℕ} {hA hB}
    (hoA : oA = ![s, 2 * r.val, 0, 0]) (hoB : oB = ![s, 2 * r.val + 1, 0, 0]) {t : ℕ} (ht : t = 8 * t8.val + r.val)
    {a : FVec F S64x256 .f32} (ha : a = accAt I A b t) {T : Tile F} (hT : T = I.ringVal (start I.NC b + I.NC b + t / 8))
    {M : ℕ} (hM : 4 * t + 4 ≤ M)
    {k : FVec F S64x256 .f32 → Prog (TpuEff nD τ sig (Elt F) Λ₀ .tc) α} :
    iprop(slotHolds B c s T ∗ holds (c : Thread nD τ) B.arg12 Finset.univ fullShare (k0_pay452 (vsRow A b)) ∗ Rows B c (expR I A b) M)
      ⊢ iprop((iprop(slotHolds B c s T ∗ holds (c : Thread nD τ) B.arg12 Finset.univ fullShare (k0_pay452 (vsRow A b)) ∗ Rows B c (expR I A b) M)
          -∗ wp frame (wpE (defs₀ (F := F)) Variants.none (c : Thread nD τ) none) Set.univ (k (accAt I A b (t + 1))) Q)
        -∗ wp frame (wpE (defs₀ (F := F)) Variants.none (c : Thread nD τ) none) Set.univ
          (tileV (F := F) B k0_pay470 t3 v hw4 (invOf I A b) t8 r oA hA oB hB a >>= k) Q) := by
  have h8 := lt8_of_t8 hv t8
  have hr := r.isLt
  have hmod : t % 8 = r.val := by omega
  have o0 := (off76_eq hv t8 r 0 0).trans (show _ = ![4 * t, 0, 0] by congr 1; show 2 * (16 * t8.val + 2 * r.val + 0) + 0 = _; omega)
  have o1 := (off76_eq hv t8 r 0 1).trans (show _ = ![4 * t + 1, 0, 0] by congr 1; show 2 * (16 * t8.val + 2 * r.val + 0) + 1 = _; omega)
  have o2 := (off76_eq hv t8 r 1 0).trans (show _ = ![4 * t + 2, 0, 0] by congr 1; show 2 * (16 * t8.val + 2 * r.val + 1) + 0 = _; omega)
  have o3 := (off76_eq hv t8 r 1 1).trans (show _ = ![4 * t + 3, 0, 0] by congr 1; show 2 * (16 * t8.val + 2 * r.val + 1) + 1 = _; omega)
  have q0 := (off75_eq hv t8 r 0).trans (show _ = ![2 * t, 0] by congr 1; show 16 * t8.val + 2 * r.val + 0 = _; omega)
  have q1 := (off75_eq hv t8 r 1).trans (show _ = ![2 * t + 1, 0] by congr 1; show 16 * t8.val + 2 * r.val + 1 = _; omega)
  have hacc : accAt I A b (t + 1) = accStep k0_pay470 (invOf I A b) (accAt I A b t) (tileRow T (2 * r.val)) (tileRow T (2 * r.val + 1))
      (rowOf (k0_pay452 (vsRow A b)) (2 * t)) (expR I A b (4 * t)) (expR I A b (4 * t + 1))
      (rowOf (k0_pay452 (vsRow A b)) (2 * t + 1)) (expR I A b (4 * t + 2)) (expR I A b (4 * t + 3)) := by
    rw [hT, ← hmod]; rfl
  rw [hacc]
  subst ha
  rw [wp_bind]
  unfold tileV
  iintro ⟨Hs, Hk, HR⟩ Hc
  iapply (wp_tile_load B c hoA (by omega)) $$ Hs
  iintro Hs
  iapply (wp_tile_load B c hoB (by omega)) $$ Hs
  iintro Hs
  iapply (wp_scale_load c q0 (by omega)) $$ Hk
  iintro Hk
  iapply (wp_row_load B c o0 (by omega)) $$ HR
  iintro HR
  iapply (wp_row_load B c o1 (by omega)) $$ HR
  iintro HR
  iapply (wp_scale_load c q1 (by omega)) $$ Hk
  iintro Hk
  iapply (wp_row_load B c o2 (by omega)) $$ HR
  iintro HR
  iapply (wp_row_load B c o3 (by omega)) $$ HR
  iintro HR
  iapply (le_wp_ret _ _ _ _ _)
  iapply Hc
  isplitl [Hs]; · iexact Hs
  isplitl [Hk]; · iexact Hk
  iexact HR

end

end Cert.Proof.Kernel
-- ==== Proof.Kernel.Trips.lean ====
/- The ring as one resource, the wait for a chunk, and the trips of the score loop, of the exponential loop
   and of the value loop. -/
module

public import proofs.«01_k».proof.Proof.Kernel.Tiles

@[expose] public section

set_option maxRecDepth 65536
set_option pp.maxSteps 250

noncomputable section

namespace Cert.Proof.Kernel

open Cert.Kernel Cert.Kernel.Gen Cert.Proof.Rules Cert.Proof.Sched
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

variable (I : Ins F) (A : Arr F) (B : Bufs) (c : Dev nD)

/-! ### The ring -/

/-- A separating product over one more index. -/
theorem bs_insert {s : Finset ℕ} {i : ℕ} (hi : i ∉ s) (Φ : ℕ → sProp (MT nD τ sig Unit (Elt F) ℕ (Pipeline.UD sig nD τ) ℕ)) :
    (bigSep (insert i s) Φ) = iprop(Φ i ∗ bigSep s Φ) := bigSep_insert hi

/-- The slot of transfer `j`, before its issue. -/
def ResB (j : ℕ) : sProp 𝕄 := Res I B c (j % 24) (slotlt j) (I.ringBefore j)

/-- The ring when the transfers from `g` up to `p` are issued and not yet waited for. -/
def Slots (g p : ℕ) : sProp 𝕄 :=
  iprop(bigSep (Finset.Ico g p) (SlotR I B c) ∗ bigSep (Finset.Ico p (g + 24)) (ResB I B c))

theorem Res_cast {s s' : ℕ} (h : s = s') (hs : s < 24) (hs' : s' < 24) (T : Tile F) :
    (Res I B c s hs T : sProp 𝕄) = Res I B c s' hs' T := by
  subst h; rfl

theorem Slots_take {g p : ℕ} (h : g < p) (hp : p ≤ g + 24) :
    (Slots I B c g p : sProp 𝕄) ⊢ iprop(SlotR I B c g ∗ (Res I B c (g % 24) (slotlt g) (I.ringVal g) -∗ Slots I B c (g + 1) p)) := by
  unfold Slots
  have e1 : Finset.Ico g p = insert g (Finset.Ico (g + 1) p) := by
    ext x; simp only [Finset.mem_insert, Finset.mem_Ico]; omega
  have e2 : Finset.Ico p (g + 1 + 24) = insert (g + 24) (Finset.Ico p (g + 24)) := by
    ext x; simp only [Finset.mem_insert, Finset.mem_Ico]; omega
  have e3 : (ResB I B c (g + 24) : sProp 𝕄) = Res I B c (g % 24) (slotlt g) (I.ringVal g) := by
    unfold ResB
    rw [I.ringBefore_add]
    exact Res_cast I B c (by omega) _ _ _
  rw [e1, e2, bs_insert (by simp), bs_insert (by simp), e3]
  iintro ⟨⟨H1, H2⟩, H3⟩
  isplitl [H1]; · iexact H1
  iintro H
  isplitl [H2]; · iexact H2
  isplitl [H]; · iexact H
  iexact H3

theorem Slots_put {g p : ℕ} (hp : p < g + 24) (hg : g ≤ p) :
    (Slots I B c g p : sProp 𝕄) ⊢ iprop(ResB I B c p ∗ (SlotR I B c p -∗ Slots I B c g (p + 1))) := by
  unfold Slots
  have e1 : Finset.Ico p (g + 24) = insert p (Finset.Ico (p + 1) (g + 24)) := by
    ext x; simp only [Finset.mem_insert, Finset.mem_Ico]; omega
  have e2 : Finset.Ico g (p + 1) = insert p (Finset.Ico g p) := by
    ext x; simp only [Finset.mem_insert, Finset.mem_Ico]; omega
  rw [e1, e2, bs_insert (by simp), bs_insert (by simp)]
  iintro ⟨H1, H2, H3⟩
  isplitl [H2]; · iexact H2
  iintro H
  isplitr [H3]
  · isplitl [H]; · iexact H
    iexact H1
  iexact H3

/-- What the core is owed credit for; nothing. -/
def Owes : sProp 𝕄 := iprop(∃ W : Waits sig Unit, owes (c : Thread nD τ) 0 W)

/-- The wait for a transfer under way. -/
theorem wp_wait {s : ℕ} {hs : s < 24} {n : ℕ} {R : sProp (MT nD τ sig Unit (Elt F) ℕ (Pipeline.UD sig nD τ) ℕ)} {hk}
    {α : Type} {Q : α → sProp (MT nD τ sig Unit (Elt F) ℕ (Pipeline.UD sig nD τ) ℕ)}
    {k : PUnit → Prog (TpuEff nD τ sig (Elt F) Λ₀ .tc) α} :
    iprop(Fly B c s hs n R ∗ Owes c)
      ⊢ iprop((iprop(R ∗ semVal ((c : Thread nD τ), .dma (semAt B s hs)) 0 ∗ Owes c)
          -∗ wp frame (wpE (defs₀ (F := F)) Variants.none (c : Thread nD τ) none) Set.univ (k ⟨⟩) Q)
        -∗ wp frame (wpE (defs₀ (F := F)) Variants.none (c : Thread nD τ) none) Set.univ
          (Prog.lift (.waitDma (semAt B s hs) B.arg7.view.ref (⟨3, ![n, 256, 128]⟩ : Shape) .fp8e4m3 hk) >>= k) Q) := by
  unfold Fly Owes
  iintro ⟨⟨%D, HF, HD⟩, ⟨%W, HO⟩⟩ Hk
  iapply (Transfers.wp_waitLocalSized (k := k) (countersEmb (U := Pipeline.UD sig nD τ)) Variants.none (c : Thread nD τ) none () (N := credit B n) rfl) $$ [HF HO]
  · isplitl [HF]; · iexact HF
    iexact HO
  iintro ⟨Hd, Hv, HO⟩
  iapply Hk
  isplitl [Hd HD]
  · iapply HD; iexact Hd
  isplitl [Hv]; · iexact Hv
  iexists _
  iexact HO

/-! ### The score loop -/

/-- The producer's words and the consumer's slot word. -/
structure WordsC (g : ℕ) (b k cw sl slot : BitVec 32) : Prop where
  w : Words I (g + 24) b k cw sl
  s : slot.toNat = g % 24

/-- Before trip `t` of the score loop of sequence `b`. -/
def kInv (b t : ℕ) (acc : BitVec 32 × BitVec 32 × BitVec 32 × BitVec 32 × BitVec 32 × FVec F S8x128 .f32) : sProp 𝕄 :=
  iprop(⌜WordsC I (start I.NC b + t) acc.1 acc.2.1 acc.2.2.1 acc.2.2.2.1 acc.2.2.2.2.1 ∧ acc.2.2.2.2.2 = mAt I A b (8 * t)⌝
    ∗ holds (c : Thread nD τ) B.arg0 Finset.univ fullShare I.len
    ∗ Slots I B c (start I.NC b + t) (start I.NC b + t + 24)
    ∗ holds (c : Thread nD τ) B.arg11 Finset.univ fullShare (k0_pay451 (ksRow A b))
    ∗ Rows B c (scoreR I A b) (32 * t) ∗ Owes c)

theorem slot_next {g : ℕ} {slot : BitVec 32} (h : slot.toNat = g % 24) : (slotNext slot).toNat = (g + 1) % 24 := by
  rw [slotNext_eq (by omega), h]; omega

theorem live_key (hI : I.Ok) {b t : ℕ} (hb : b < 64) (ht : t < I.NC b) :
    I.st (start I.NC b + t) = (b, 0, t) ∧ I.st (start I.NC b + I.NC b + t) = (b, 1, t) :=
  st_at hI.NC_pos hb ht

/-- The words of a live transfer are known at its slot. -/
theorem SlotR_live {j b k t : ℕ} (h : I.st j = (b, k, t)) (hb : b < 64) (T : Tile F) (hT : I.ringVal j = T) :
    (SlotR I B c j : sProp 𝕄) = Fly B c (j % 24) (slotlt j) (nN (I.L b).toNat t) (Back I B c (j % 24) T) := by
  subst hT
  unfold SlotR
  rw [h, if_pos hb]

theorem Fly_cast {s s' : ℕ} (h : s = s') (hs : s < 24) (hs' : s' < 24) {n n' : ℕ} (hn : n = n') (T : Tile F) :
    (Fly B c s hs n (Back I B c s T) : sProp 𝕄) = Fly B c s' hs' n' (Back I B c s' T) := by
  subst h; subst hn; rfl

theorem nWiv_all : ∀ n : Fin 129, ∀ t : Fin 8, 16 * t.val < n.val →
    (nW (BitVec.ofNat 32 n.val) (Scf.iv 0#32 1#32 t.val)).toNat = min (n.val - 16 * t.val) 16 := by decide +kernel

theorem nW_iv {L : BitVec 32} (h : InLen L) {t : ℕ} (ht : t < ncN L.toNat) :
    (nW (nbW L) (Scf.iv 0#32 1#32 t)).toNat = nN L.toNat t := by
  have h8 := ncN_le h.2
  have e := iv_toNat t (by omega)
  rw [nW_eq h (by rw [e]; exact ht), e]

set_option maxHeartbeats 2000000 in
/-- One trip of the score loop. -/
theorem kTrip_step (hI : I.Ok) {b : ℕ} (hb : b < 64) {t3 : Fin k0_t3_loop.trips} {hw4 : k0_chk4 t3 (I.L b)}
    (t4 : Fin (k0_t4_loop (I.L b)).trips)
    (acc : BitVec 32 × BitVec 32 × BitVec 32 × BitVec 32 × BitVec 32 × FVec F S8x128 .f32) :
    (kInv I A B c b t4.val acc : sProp 𝕄)
      ⊢ wp frame (wpE (defs₀ (F := F)) Variants.none (c : Thread nD τ) none) Set.univ
          (kTrip (F := F) B k0_pay470 k0_pay471 t3 (I.L b) (I.L b) hw4 (k0_pay450 (qRows A b)) t4 acc)
          (kInv I A B c b (t4.val + 1)) := by
  obtain ⟨bw, kw, cw, sl, slot, m⟩ := acc
  have hL : InLen (I.L b) := hI _
  have ht : t4.val < I.NC b := lt_of_lt_of_eq t4.isLt (t4_trips hL)
  have h8 := lt8_of_t4 hL t4
  obtain ⟨hst, -⟩ := live_key I hI hb ht
  unfold kInv
  dsimp only
  generalize hg : start I.NC b + t4.val = g at hst ⊢
  have hg1 : start I.NC b + (t4.val + 1) = g + 1 := by omega
  rw [hg1]
  iintro ⟨%hw, H0, HS, HK, HR, HO⟩
  obtain ⟨⟨hW, hs⟩, hm⟩ := hw
  have hslt : slot.toNat < 24 := by omega
  have hb64 : bw.toNat ≤ 64 := by rw [hW.b]; exact (st_ok' I hI _).1
  unfold kTrip
  dsimp only
  iapply (wp_assume_bind Variants.none (c : Thread nD τ) none Set.univ (chk7_of hW.lt))
  iapply (wp_assume_bind Variants.none (c : Thread nD τ) none Set.univ (chk6_of hb64))
  iapply (wp_assume_bind Variants.none (c : Thread nD τ) none Set.univ (chk5_of t4 hslt))
  ihave HS' := (Slots_take I B c (g := g) (p := g + 24) (by omega) (by omega)) $$ HS
  icases HS' with ⟨Hg, HS⟩
  ihave Hg := (Entails.of_eq ((SlotR_live I B c hst hb _ rfl).trans
    (Fly_cast I B c hs.symm (slotlt g) hslt (nW_iv hL ht).symm _))) $$ Hg
  iapply (wp_wait B c (hs := hslt)) $$ [Hg HO]
  · isplitl [Hg]; · iexact Hg
    iexact HO
  unfold Back
  iintro ⟨⟨Hsl, HbK, HbV⟩, Hv, HO⟩
  have tk : ∀ r, r < 8 → I.ringVal g = I.ringVal (start I.NC b + (8 * t4.val + r) / 8) := fun r hr => by
    rw [show (8 * t4.val + r) / 8 = t4.val by omega, hg]
  iapply (wp_tileK I A B c rfl hL (s := slot.toNat) rfl rfl (t := 8 * t4.val) rfl hm (tk 0 (by omega))) $$ [Hsl HK HR]
  · isplitl [Hsl]; · iexact Hsl
    isplitl [HK]; · iexact HK
    iapply (Rows_congr B c (by omega) (fun _ _ => rfl)) $$ HR
  iintro H
  iapply (wp_tileK I A B c rfl hL (s := slot.toNat) rfl rfl (t := 8 * t4.val + 1) rfl rfl (tk 1 (by omega))) $$ H
  iintro H
  iapply (wp_tileK I A B c rfl hL (s := slot.toNat) rfl rfl (t := 8 * t4.val + 2) rfl rfl (tk 2 (by omega))) $$ H
  iintro H
  iapply (wp_tileK I A B c rfl hL (s := slot.toNat) rfl rfl (t := 8 * t4.val + 3) rfl rfl (tk 3 (by omega))) $$ H
  iintro H
  iapply (wp_tileK I A B c rfl hL (s := slot.toNat) rfl rfl (t := 8 * t4.val + 4) rfl rfl (tk 4 (by omega))) $$ H
  iintro H
  iapply (wp_tileK I A B c rfl hL (s := slot.toNat) rfl rfl (t := 8 * t4.val + 5) rfl rfl (tk 5 (by omega))) $$ H
  iintro H
  iapply (wp_tileK I A B c rfl hL (s := slot.toNat) rfl rfl (t := 8 * t4.val + 6) rfl rfl (tk 6 (by omega))) $$ H
  iintro H
  iapply (wp_tileK I A B c rfl hL (s := slot.toNat) rfl rfl (t := 8 * t4.val + 7) rfl rfl (tk 7 (by omega))) $$ H
  iintro ⟨Hsl, HK, HR⟩
  ihave HS := HS $$ [Hsl Hv HbK HbV]
  · iapply (Entails.of_eq (Res_cast I B c hs hslt (slotlt g) _))
    unfold Res
    isplitl [Hsl]; · iexact Hsl
    isplitl [Hv]; · iexact Hv
    isplitl [HbK]; · iexact HbK
    iexact HbV
  ihave HS' := (Slots_put I B c (g := g + 1) (p := g + 24) (by omega) (by omega)) $$ HS
  icases HS' with ⟨Hp, HS⟩
  rw [issueK_eq B bw kw cw sl (chk2_of hW.lt) (chk1_of hb64), wp_bind]
  unfold ResB
  ihave Hw := (wp_issue I B c hI hW (chk2_of hW.lt) (chk1_of hb64)) $$ [H0 Hp]
  · isplitl [H0]; · iexact H0
    iexact Hp
  iapply (wp_wand _ _ _) $$ Hw
  iintro %r ⟨%hr, H0, HSr⟩
  obtain ⟨b', k', c', sl'⟩ := r
  iapply (le_wp_ret _ _ _ _ _)
  dsimp only
  isplitr
  · ipureintro
    exact ⟨⟨hr, slot_next hs⟩, rfl⟩
  isplitl [H0]; · iexact H0
  isplitl [HS HSr]
  · iapply HS; iexact HSr
  isplitl [HK]; · iexact HK
  isplitl [HR]
  · iapply (Rows_congr B c (by omega) (fun _ _ => rfl)) $$ HR
  iexact HO

/-! ### The exponential loop -/

/-- Before trip `t` of the exponential loop of sequence `b`. -/
def eInv (b t : ℕ) (l : FVec F S8x128 .f32) : sProp 𝕄 :=
  iprop(⌜l = lAt I A b (8 * t)⌝ ∗ Rows B c (mixR I A b (8 * t)) (32 * I.NC b))

/-- One trip of the exponential loop. -/
theorem expTrip_step (hI : I.Ok) {b : ℕ} (hb : b < 64) {t3 : Fin k0_t3_loop.trips} {hw4 : k0_chk4 t3 (I.L b)}
    (t6 : Fin (k0_t6_loop (I.L b)).trips) (l : FVec F S8x128 .f32) :
    (eInv I A B c b t6.val l : sProp 𝕄)
      ⊢ wp frame (wpE (defs₀ (F := F)) Variants.none (c : Thread nD τ) none) Set.univ
          (expTrip (F := F) B t3 (I.L b) hw4 (mxOf I A b) t6 l) (eInv I A B c b (t6.val + 1)) := by
  have hL : InLen (I.L b) := hI _
  have ht : t6.val < I.NC b * 4 := lt_of_lt_of_eq t6.isLt (t6_trips hL)
  unfold eInv
  iintro ⟨%hl, HR⟩
  unfold expTrip
  iapply (wp_expStep I A B c (t3 := t3) (hw4 := hw4) hL (n := 8 * t6.val) rfl (by omega) hl) $$ HR
  iintro HR
  iapply (wp_expStep I A B c (t3 := t3) (hw4 := hw4) hL (n := 8 * t6.val + 1) rfl (by omega) rfl) $$ HR
  iintro HR
  iapply (wp_expStep I A B c (t3 := t3) (hw4 := hw4) hL (n := 8 * t6.val + 2) rfl (by omega) rfl) $$ HR
  iintro HR
  iapply (wp_expStep I A B c (t3 := t3) (hw4 := hw4) hL (n := 8 * t6.val + 3) rfl (by omega) rfl) $$ HR
  iintro HR
  iapply (wp_expStep I A B c (t3 := t3) (hw4 := hw4) hL (n := 8 * t6.val + 4) rfl (by omega) rfl) $$ HR
  iintro HR
  iapply (wp_expStep I A B c (t3 := t3) (hw4 := hw4) hL (n := 8 * t6.val + 5) rfl (by omega) rfl) $$ HR
  iintro HR
  iapply (wp_expStep I A B c (t3 := t3) (hw4 := hw4) hL (n := 8 * t6.val + 6) rfl (by omega) rfl) $$ HR
  iintro HR
  iapply (wp_expStep I A B c (t3 := t3) (hw4 := hw4) hL (n := 8 * t6.val + 7) rfl (by omega) rfl) $$ HR
  iintro HR
  iapply (le_wp_ret _ _ _ _ _)
  isplitr
  · ipureintro; rfl
  iexact HR

/-! ### The value loop -/

/-- Before trip `t` of the value loop of sequence `b`. -/
def vInv (b t : ℕ) (acc : BitVec 32 × BitVec 32 × BitVec 32 × BitVec 32 × BitVec 32 × FVec F S64x256 .f32) : sProp 𝕄 :=
  iprop(⌜WordsC I (start I.NC b + I.NC b + t) acc.1 acc.2.1 acc.2.2.1 acc.2.2.2.1 acc.2.2.2.2.1 ∧ acc.2.2.2.2.2 = accAt I A b (8 * t)⌝
    ∗ holds (c : Thread nD τ) B.arg0 Finset.univ fullShare I.len
    ∗ Slots I B c (start I.NC b + I.NC b + t) (start I.NC b + I.NC b + t + 24)
    ∗ holds (c : Thread nD τ) B.arg12 Finset.univ fullShare (k0_pay452 (vsRow A b))
    ∗ Rows B c (expR I A b) (32 * I.NC b) ∗ Owes c)

set_option maxHeartbeats 2000000 in
/-- One trip of the value loop. -/
theorem vTrip_step (hI : I.Ok) {b : ℕ} (hb : b < 64) {t3 : Fin k0_t3_loop.trips} {hw4 : k0_chk4 t3 (I.L b)}
    (t8 : Fin (k0_t8_loop (I.L b)).trips)
    (acc : BitVec 32 × BitVec 32 × BitVec 32 × BitVec 32 × BitVec 32 × FVec F S64x256 .f32) :
    (vInv I A B c b t8.val acc : sProp 𝕄)
      ⊢ wp frame (wpE (defs₀ (F := F)) Variants.none (c : Thread nD τ) none) Set.univ
          (vTrip (F := F) B k0_pay470 t3 (I.L b) hw4 (invOf I A b) t8 acc)
          (vInv I A B c b (t8.val + 1)) := by
  obtain ⟨bw, kw, cw, sl, slot, m⟩ := acc
  have hL : InLen (I.L b) := hI _
  have ht : t8.val < I.NC b := lt_of_lt_of_eq t8.isLt (t8_trips hL)
  have h8 := lt8_of_t8 hL t8
  obtain ⟨-, hst⟩ := live_key I hI hb ht
  unfold vInv
  dsimp only
  generalize hg : start I.NC b + I.NC b + t8.val = g at hst ⊢
  have hg1 : start I.NC b + I.NC b + (t8.val + 1) = g + 1 := by omega
  rw [hg1]
  iintro ⟨%hw, H0, HS, HK, HR, HO⟩
  obtain ⟨⟨hW, hs⟩, hm⟩ := hw
  have hslt : slot.toNat < 24 := by omega
  have hb64 : bw.toNat ≤ 64 := by rw [hW.b]; exact (st_ok' I hI _).1
  unfold vTrip
  dsimp only
  iapply (wp_assume_bind Variants.none (c : Thread nD τ) none Set.univ (chk15_of hW.lt))
  iapply (wp_assume_bind Variants.none (c : Thread nD τ) none Set.univ (chk14_of hb64))
  iapply (wp_assume_bind Variants.none (c : Thread nD τ) none Set.univ (chk13_of t8 hslt))
  ihave HS' := (Slots_take I B c (g := g) (p := g + 24) (by omega) (by omega)) $$ HS
  icases HS' with ⟨Hg, HS⟩
  ihave Hg := (Entails.of_eq ((SlotR_live I B c hst hb _ rfl).trans
    (Fly_cast I B c hs.symm (slotlt g) hslt (nW_iv hL ht).symm _))) $$ Hg
  iapply (wp_wait B c (hs := hslt)) $$ [Hg HO]
  · isplitl [Hg]; · iexact Hg
    iexact HO
  unfold Back
  iintro ⟨⟨Hsl, HbK, HbV⟩, Hv, HO⟩
  have tk : ∀ r, r < 8 → I.ringVal g = I.ringVal (start I.NC b + I.NC b + (8 * t8.val + r) / 8) := fun r hr => by
    rw [show (8 * t8.val + r) / 8 = t8.val by omega, hg]
  iapply (wp_tileV I A B c hL (s := slot.toNat) rfl rfl (t := 8 * t8.val) rfl hm (tk 0 (by omega)) (M := 32 * I.NC b) (by omega)) $$ [Hsl HK HR]
  · isplitl [Hsl]; · iexact Hsl
    isplitl [HK]; · iexact HK
    iexact HR
  iintro H
  iapply (wp_tileV I A B c hL (s := slot.toNat) rfl rfl (t := 8 * t8.val + 1) rfl rfl (tk 1 (by omega)) (M := 32 * I.NC b) (by omega)) $$ H
  iintro H
  iapply (wp_tileV I A B c hL (s := slot.toNat) rfl rfl (t := 8 * t8.val + 2) rfl rfl (tk 2 (by omega)) (M := 32 * I.NC b) (by omega)) $$ H
  iintro H
  iapply (wp_tileV I A B c hL (s := slot.toNat) rfl rfl (t := 8 * t8.val + 3) rfl rfl (tk 3 (by omega)) (M := 32 * I.NC b) (by omega)) $$ H
  iintro H
  iapply (wp_tileV I A B c hL (s := slot.toNat) rfl rfl (t := 8 * t8.val + 4) rfl rfl (tk 4 (by omega)) (M := 32 * I.NC b) (by omega)) $$ H
  iintro H
  iapply (wp_tileV I A B c hL (s := slot.toNat) rfl rfl (t := 8 * t8.val + 5) rfl rfl (tk 5 (by omega)) (M := 32 * I.NC b) (by omega)) $$ H
  iintro H
  iapply (wp_tileV I A B c hL (s := slot.toNat) rfl rfl (t := 8 * t8.val + 6) rfl rfl (tk 6 (by omega)) (M := 32 * I.NC b) (by omega)) $$ H
  iintro H
  iapply (wp_tileV I A B c hL (s := slot.toNat) rfl rfl (t := 8 * t8.val + 7) rfl rfl (tk 7 (by omega)) (M := 32 * I.NC b) (by omega)) $$ H
  iintro ⟨Hsl, HK, HR⟩
  ihave HS := HS $$ [Hsl Hv HbK HbV]
  · iapply (Entails.of_eq (Res_cast I B c hs hslt (slotlt g) _))
    unfold Res
    isplitl [Hsl]; · iexact Hsl
    isplitl [Hv]; · iexact Hv
    isplitl [HbK]; · iexact HbK
    iexact HbV
  ihave HS' := (Slots_put I B c (g := g + 1) (p := g + 24) (by omega) (by omega)) $$ HS
  icases HS' with ⟨Hp, HS⟩
  rw [issueV_eq B bw kw cw sl (chk2_of hW.lt) (chk1_of hb64), wp_bind]
  unfold ResB
  ihave Hw := (wp_issue I B c hI hW (chk2_of hW.lt) (chk1_of hb64)) $$ [H0 Hp]
  · isplitl [H0]; · iexact H0
    iexact Hp
  iapply (wp_wand _ _ _) $$ Hw
  iintro %r ⟨%hr, H0, HSr⟩
  obtain ⟨b', k', c', sl'⟩ := r
  iapply (le_wp_ret _ _ _ _ _)
  dsimp only
  isplitr
  · ipureintro
    exact ⟨⟨hr, slot_next hs⟩, rfl⟩
  isplitl [H0]; · iexact H0
  isplitl [HS HSr]
  · iapply HS; iexact HSr
  isplitl [HK]; · iexact HK
  isplitl [HR]
  · iexact HR
  iexact HO

end Cert.Proof.Kernel
-- ==== Proof.Kernel.Seq.lean ====
/- The work on one sequence: the scale tables are laid out, the three loops run, the output rows are
   stored. -/
module

public import proofs.«01_k».proof.Proof.Kernel.Trips

@[expose] public section

set_option maxRecDepth 65536
set_option pp.maxSteps 250

noncomputable section

namespace Cert.Proof.Kernel

open Cert.Kernel Cert.Kernel.Gen Cert.Proof.Rules Cert.Proof.Sched
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

variable (I : Ins F) (A : Arr F) (B : Bufs) (c : Dev nD)

/-- A counted loop, by an invariant, before the rest of a program. -/
theorem wp_loop {w : ℕ} (l : Scf.Loop w) (hok : l.OK) {σ : Type} (init : σ)
    (body : Fin l.trips → σ → Prog (TpuEff nD τ sig (Elt F) Λ₀ .tc) σ)
    (inv : ℕ → σ → sProp (MT nD τ sig Unit (Elt F) ℕ (Pipeline.UD sig nD τ) ℕ))
    (step : ∀ (k : Fin l.trips) (acc : σ), inv k acc
      ⊢ wp frame (wpE (defs₀ (F := F)) Variants.none (c : Thread nD τ) none) Set.univ (body k acc) (inv (k.val + 1)))
    {n : ℕ} (hn : l.trips = n)
    {β : Type} {kk : σ → Prog (TpuEff nD τ sig (Elt F) Λ₀ .tc) β} {Q : β → sProp (MT nD τ sig Unit (Elt F) ℕ (Pipeline.UD sig nD τ) ℕ)} :
    inv 0 init ⊢ iprop((∀ acc, inv n acc -∗ wp frame (wpE (defs₀ (F := F)) Variants.none (c : Thread nD τ) none) Set.univ (kk acc) Q)
      -∗ wp frame (wpE (defs₀ (F := F)) Variants.none (c : Thread nD τ) none) Set.univ (Scf.Loop.for l hok init body >>= kk) Q) := by
  subst hn
  exact Scf.wp_for_bind frame (wpE (defs₀ (F := F)) Variants.none (c : Thread nD τ) none) Set.univ l.lb l.ub l.st hok init body inv step

/-- A buffer held whole, reading whatever. -/
def Any {s : Shape} {e : EltTy} (M : Memref sig .tc .vmem s e) : sProp 𝕄 :=
  iprop(∃ X : s.Idx → Elt F e, holds (c : Thread nD τ) M Finset.univ fullShare X)

/-- A part of a buffer reading `G`, the buffer held whole. -/
def Upto {s : Shape} {e : EltTy} (M : Memref sig .tc .vmem s e) (P : s.Idx → Prop) (G : s.Idx → Elt F e) : sProp 𝕄 :=
  iprop(∃ X : s.Idx → Elt F e, ⌜∀ i, P i → X i = G i⌝ ∗ holds (c : Thread nD τ) M Finset.univ fullShare X)

/-- Between two sequences. -/
def sInv (b : ℕ) (acc : BitVec 32 × BitVec 32 × BitVec 32 × BitVec 32 × BitVec 32) : sProp 𝕄 :=
  iprop(⌜WordsC I (start I.NC b) acc.1 acc.2.1 acc.2.2.1 acc.2.2.2.1 acc.2.2.2.2⌝
    ∗ holds (c : Thread nD τ) B.arg0 Finset.univ fullShare I.len
    ∗ Slots I B c (start I.NC b) (start I.NC b + 24)
    ∗ holds (c : Thread nD τ) B.arg8 Finset.univ fullShare (qArr A)
    ∗ holds (c : Thread nD τ) B.arg3 Finset.univ fullShare A.ks
    ∗ holds (c : Thread nD τ) B.arg5 Finset.univ fullShare A.vs
    ∗ Upto c B.arg9 (fun p => (p 0).val < 32 * b) (oArr I A)
    ∗ Any c B.arg10 ∗ Any c B.arg11 ∗ Any c B.arg12 ∗ Owes c)

theorem overlay_whole {X w : S128x128.Idx → Elt F .f32} :
    ∀ i ∈ (Finset.univ : Finset S128x128.Idx), (Rect.unit (s := S128x128) ![0, 0] S128x128.size inb_S128x128_S128x128_0_0).overlay X w i = w i := by
  intro i _
  have e : (Rect.unit (s := S128x128) ![0, 0] S128x128.size inb_S128x128_S128x128_0_0).emb i = i := by
    funext a
    refine Fin.ext ?_
    fin_cases a
    · show 0 + 1 * (i 0).val = (i 0).val
      omega
    · show 0 + 1 * (i 1).val = (i 1).val
      omega
  conv_lhs => rw [← e]
  exact Rect.overlay_emb ..

theorem Any_Rows (G : ℕ → Vec F S1x8x128 .f32) : (Any c B.arg10 : sProp 𝕄) ⊢ Rows B c G 0 := by
  unfold Any Rows
  iintro ⟨%X, H⟩
  iexists X
  isplitr
  · ipureintro; intro i hi; omega
  · iexact H

theorem Rows_Any (G : ℕ → Vec F S1x8x128 .f32) (M : ℕ) : (Rows B c G M : sProp 𝕄) ⊢ Any c B.arg10 := by
  unfold Any Rows
  iintro ⟨%X, %hX, H⟩
  iexists X
  iexact H

theorem holds_Any {s : Shape} {e : EltTy} (M : Memref sig .tc .vmem s e) (X : s.Idx → Elt F e) :
    (holds (c : Thread nD τ) M Finset.univ fullShare X : sProp 𝕄) ⊢ Any c M := by
  unfold Any
  iintro H
  iexists X
  iexact H

set_option maxHeartbeats 2000000 in
/-- The work on one sequence. -/
theorem seqRest_step (hI : I.Ok) (t3 : Fin k0_t3_loop.trips) (hw4 : k0_chk4 t3 (I.L t3.val))
    (acc : BitVec 32 × BitVec 32 × BitVec 32 × BitVec 32 × BitVec 32) :
    (sInv I A B c t3.val acc : sProp 𝕄)
      ⊢ wp frame (wpE (defs₀ (F := F)) Variants.none (c : Thread nD τ) none) Set.univ
          (seqRest (F := F) B k0_pay470 k0_pay471 t3 (I.L t3.val) (I.L t3.val) hw4 acc) (sInv I A B c (t3.val + 1)) := by
  obtain ⟨bw, kw, cw, sl, slot⟩ := acc
  have hb := lt64_of_t3 t3
  generalize hbe : t3.val = b at hb hw4 ⊢
  have hL : InLen (I.L b) := hI _
  have hq : (fun j => qArr A ((Rect.unit (s := S2048x128) (k0_off10 t3) S32x128.size (k0_off10_inb t3)).toLoadRect.idx j)) = qRows A b := by
    funext j
    refine congrArg (qArr A) (funext fun a => Fin.ext ?_)
    have h0 : (j 0).val < 32 := (j 0).isLt
    have h1 : (j 1).val < 128 := (j 1).isLt
    have o := off10_eq t3
    fin_cases a
    · show k0_off10 t3 0 + 1 * (j 0).val = (32 * b + (j 0).val) % 2048
      have oo : k0_off10 t3 0 = 32 * t3.val := congrFun o 0
      rw [oo]; omega
    · show k0_off10 t3 1 + 1 * (j 1).val = (j 1).val % 128
      have oo : k0_off10 t3 1 = 0 := congrFun o 1
      rw [oo]; omega
  have h3 : ∀ (S : S64x4x128.Idx → Elt F .f32), (fun j => S ((Rect.unit (s := S64x4x128) (k0_off11 t3) S1x4x128.size (k0_off11_inb t3)).toLoadRect.idx j))
      = fun j : S1x4x128.Idx => S (ix3 b (j 1).val (j 2).val) := by
    intro S
    funext j
    refine congrArg S (funext fun a => Fin.ext ?_)
    have h0 : (j 0).val < 1 := (j 0).isLt
    have h1 : (j 1).val < 4 := (j 1).isLt
    have h2 : (j 2).val < 128 := (j 2).isLt
    have o := off11_eq t3
    fin_cases a
    · show k0_off11 t3 0 + 1 * (j 0).val = b % 64
      have oo : k0_off11 t3 0 = t3.val := congrFun o 0
      rw [oo]; omega
    · show k0_off11 t3 1 + 1 * (j 1).val = (j 1).val % 4
      have oo : k0_off11 t3 1 = 0 := congrFun o 1
      rw [oo]; omega
    · show k0_off11 t3 2 + 1 * (j 2).val = (j 2).val % 128
      have oo : k0_off11 t3 2 = 0 := congrFun o 2
      rw [oo]; omega
  have hst : start I.NC (b + 1) = start I.NC b + I.NC b + I.NC b := by
    show start I.NC b + 2 * I.NC b = _; omega
  unfold sInv Any
  dsimp only
  rw [hst]
  iintro ⟨%hw, H0, HS, H8, H3, H5, H9, H10, ⟨%X11, H11⟩, ⟨%X12, H12⟩, HO⟩
  unfold seqRest
  dsimp only
  iapply (wp_load_bind Variants.none (c : Thread nD τ) none Set.univ (Finset.subset_univ _) hq) $$ H8
  iintro H8
  iapply (wp_load_bind Variants.none (c : Thread nD τ) none Set.univ (Finset.subset_univ _) (h3 A.ks)) $$ H3
  iintro H3
  iapply (wp_load_bind Variants.none (c : Thread nD τ) none Set.univ (Finset.subset_univ _) rfl) $$ H11
  iintro H11
  iapply (wp_store_bind Variants.none (c : Thread nD τ) none Set.univ (Finset.subset_univ _) overlay_whole) $$ H11
  iintro H11
  iapply (wp_load_bind Variants.none (c : Thread nD τ) none Set.univ (Finset.subset_univ _) (h3 A.vs)) $$ H5
  iintro H5
  iapply (wp_load_bind Variants.none (c : Thread nD τ) none Set.univ (Finset.subset_univ _) rfl) $$ H12
  iintro H12
  iapply (wp_store_bind Variants.none (c : Thread nD τ) none Set.univ (Finset.subset_univ _) overlay_whole) $$ H12
  iintro H12
  iapply (wp_loop c _ _ _ _ (kInv I A B c b) (fun t acc => kTrip_step I A B c hI hb t acc) (n := I.NC b) (t4_trips hL)) $$ [H0 HS H11 H10 HO]
  · unfold kInv
    isplitr
    · ipureintro; exact ⟨hw, rfl⟩
    isplitl [H0]; · iexact H0
    isplitl [HS]; · iexact HS
    isplitl [H11]; · iexact H11
    isplitl [H10]
    · iapply (Any_Rows B c); unfold Any; iexact H10
    iexact HO
  unfold kInv
  iintro %acc ⟨%hw, H0, HS, H11, H10, HO⟩
  obtain ⟨bw1, kw1, cw1, sl1, slot1, m⟩ := acc
  obtain ⟨hw, hm⟩ := hw
  dsimp only at hw hm ⊢
  subst hm
  iapply (wp_loop c _ _ _ _ (eInv I A B c b) (fun t acc => expTrip_step I A B c hI hb t acc) (n := I.NC b * 4) (t6_trips hL)) $$ [H10]
  · unfold eInv
    isplitr
    · ipureintro; rfl
    iapply (Rows_congr B c (G := scoreR I A b) (G' := mixR I A b (8 * 0)) (M := 32 * I.NC b) (M' := 32 * I.NC b) (le_refl _) (fun n hn => by unfold mixR; rw [if_neg (by omega)])) $$ H10
  unfold eInv
  iintro %l ⟨%hl, H10⟩
  have hl' : l = lAt I A b (32 * I.NC b) := by
    rw [hl]; congr 1; omega
  subst hl'
  iapply (wp_loop c _ _ _ _ (vInv I A B c b) (fun t acc => vTrip_step I A B c hI hb t acc) (n := I.NC b) (t8_trips hL)) $$ [H0 HS H12 H10 HO]
  · unfold vInv
    isplitr
    · ipureintro; exact ⟨hw, rfl⟩
    isplitl [H0]; · iexact H0
    isplitl [HS]; · iexact HS
    isplitl [H12]; · iexact H12
    isplitl [H10]
    · iapply (Rows_congr B c (G := mixR I A b (8 * (I.NC b * 4))) (G' := expR I A b) (M := 32 * I.NC b) (M' := 32 * I.NC b) (le_refl _) (fun n hn => by
        unfold mixR; rw [if_pos (show n < 8 * (I.NC b * 4) by omega)])) $$ H10
    iexact HO
  unfold vInv
  iintro %acc ⟨%hw, H0, HS, H12, H10, HO⟩
  obtain ⟨bw2, kw2, cw2, sl2, slot2, a⟩ := acc
  obtain ⟨hw, ha⟩ := hw
  dsimp only at hw ha ⊢
  subst ha
  unfold Upto
  icases H9 with ⟨%X9, %hX9, H9⟩
  iapply (wp_load_bind Variants.none (c : Thread nD τ) none Set.univ (Finset.subset_univ _) rfl) $$ H9
  iintro H9
  iapply (wp_store_bind (Y := (Rect.unit (s := S2048x128) (k0_off126 t3) S32x128.size (k0_off126_inb t3)).overlay X9 (outRows I A b))
    Variants.none (c : Thread nD τ) none Set.univ (Finset.subset_univ _) (fun _ _ => rfl)) $$ H9
  iintro H9
  iapply (le_wp_ret _ _ _ _ _)
  dsimp only
  isplitr
  · ipureintro; exact hw
  isplitl [H0]; · iexact H0
  isplitl [HS]; · iexact HS
  isplitl [H8]; · iexact H8
  isplitl [H3]; · iexact H3
  isplitl [H5]; · iexact H5
  isplitl [H9]
  · iexists _
    isplitr
    rotate_left
    · iexact H9
    ipureintro
    intro p hp
    have o := off126_eq t3
    have hp1 : (p 1).val < 128 := (p 1).isLt
    by_cases hin : 32 * b ≤ (p 0).val
    · have e : (Rect.unit (s := S2048x128) (k0_off126 t3) S32x128.size (k0_off126_inb t3)).emb (ix2 ((p 0).val % 32) (p 1).val) = p := by
        funext a
        refine Fin.ext ?_
        fin_cases a
        · show k0_off126 t3 0 + 1 * ((p 0).val % 32 % 32) = (p 0).val
          have oo : k0_off126 t3 0 = 32 * t3.val := congrFun o 0
          rw [oo]; omega
        · show k0_off126 t3 1 + 1 * ((p 1).val % 128) = (p 1).val
          have oo : k0_off126 t3 1 = 0 := congrFun o 1
          rw [oo]; omega
      conv_lhs => rw [← e]
      rw [Rect.overlay_emb]
      unfold oArr
      rw [show (p 0).val / 32 = b by omega]
    · rw [Rect.overlay_of_not_mem]
      · exact hX9 p (by omega)
      · rw [Rect.mem_set_unit]
        intro h
        have := (h 0).1
        rw [o] at this
        change 32 * t3.val ≤ (p 0).val at this
        omega
  isplitl [H10]
  · ihave H := (Rows_Any B c _ _) $$ H10
    unfold Any; iexact H
  isplitl [H11]
  · iexists _; iexact H11
  isplitl [H12]
  · iexists _; iexact H12
  iexact HO

/-- One sequence. -/
theorem seqS_step (hI : I.Ok) (t3 : Fin k0_t3_loop.trips)
    (acc : BitVec 32 × BitVec 32 × BitVec 32 × BitVec 32 × BitVec 32) :
    (sInv I A B c t3.val acc : sProp 𝕄)
      ⊢ wp frame (wpE (defs₀ (F := F)) Variants.none (c : Thread nD τ) none) Set.univ
          (seqS (F := F) B k0_pay470 k0_pay471 t3 acc) (sInv I A B c (t3.val + 1)) := by
  have hb := lt64_of_t3 t3
  have hx : I.len ((Rect.unit (s := S64) (k0_off9 t3) S1.size (k0_off9_inb t3)).emb (Shape.Idx.first (numel1_S1.symm ▸ Nat.one_pos))) = I.L t3.val := by
    refine congrArg I.len (funext fun a => Fin.ext ?_)
    have o := off9_eq t3
    fin_cases a
    show k0_off9 t3 0 + 1 * 0 = t3.val % 64
    have oo : k0_off9 t3 0 = t3.val := congrFun o 0
    rw [oo]; omega
  have hL : InLen (I.L t3.val) := hI _
  iintro H
  unfold sInv
  icases H with ⟨%hw, H0, H⟩
  unfold seqS
  iapply (wp_smemLoad_bind Variants.none (c : Thread nD τ) none Set.univ (Finset.subset_univ _) hx) $$ H0
  iintro H0
  iapply (wp_smemLoad_bind Variants.none (c : Thread nD τ) none Set.univ (Finset.subset_univ _) hx) $$ H0
  iintro H0
  iapply (wp_assume_bind Variants.none (c : Thread nD τ) none Set.univ (chk4_of t3 hL))
  iapply (seqRest_step I A B c hI t3 (chk4_of t3 hL) acc)
  unfold sInv
  isplitr
  · ipureintro; exact hw
  isplitl [H0]; · iexact H0
  iexact H

end Cert.Proof.Kernel
-- ==== Proof.Kernel.RingEnds.lean ====
/- The ring before the first transfer and after the last one: the slot buffer, the counters and the two
   caches, taken apart slot by slot and put together again. -/
module

public import proofs.«01_k».proof.Proof.Kernel.Seq

@[expose] public section

set_option maxRecDepth 65536
set_option pp.maxSteps 250

noncomputable section

namespace Cert.Proof.Kernel

open Cert.Kernel Cert.Kernel.Gen Cert.Proof.Rules Cert.Proof.Sched
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

variable (I : Ins F) (B : Bufs) (c : Dev nD)

/-- A family over the range of one more number. -/
theorem bs_succ (n : ℕ) (Φ : ℕ → sProp (MT nD τ sig Unit (Elt F) ℕ (Pipeline.UD sig nD τ) ℕ)) :
    bigSep (Finset.range (n + 1)) Φ = iprop(Φ n ∗ bigSep (Finset.range n) Φ) := by
  rw [Finset.range_add_one]; exact bs_insert (by simp) Φ

theorem bs_sep (s : Finset ℕ) (Φ Ψ : ℕ → sProp (MT nD τ sig Unit (Elt F) ℕ (Pipeline.UD sig nD τ) ℕ)) :
    bigSep s (fun i => iprop(Φ i ∗ Ψ i)) = iprop(bigSep s Φ ∗ bigSep s Ψ) := bigSep_sep s Φ Ψ

theorem bs_mono {s : Finset ℕ} {Φ Ψ : ℕ → sProp (MT nD τ sig Unit (Elt F) ℕ (Pipeline.UD sig nD τ) ℕ)}
    (h : ∀ i ∈ s, Φ i ⊢ Ψ i) : bigSep s Φ ⊢ bigSep s Ψ := bigSep_mono h

/-- Twenty-four consecutive numbers meet each remainder once. -/
theorem bs_cycle (P : ℕ → sProp (MT nD τ sig Unit (Elt F) ℕ (Pipeline.UD sig nD τ) ℕ)) :
    ∀ g, bigSep (Finset.Ico g (g + 24)) (fun j => P (j % 24)) = bigSep (Finset.range 24) P
  | 0 => by
    rw [show Finset.Ico 0 (0 + 24) = Finset.range 24 by ext x; simp]
    exact bigSep_congr fun i hi => by rw [Nat.mod_eq_of_lt (Finset.mem_range.mp hi)]
  | g + 1 => by
    have e1 : Finset.Ico g (g + 24) = insert g (Finset.Ico (g + 1) (g + 24)) := by
      ext x; simp only [Finset.mem_insert, Finset.mem_Ico]; omega
    have e2 : Finset.Ico (g + 1) (g + 1 + 24) = insert (g + 24) (Finset.Ico (g + 1) (g + 24)) := by
      ext x; simp only [Finset.mem_insert, Finset.mem_Ico]; omega
    rw [← bs_cycle P g, e1, e2, bs_insert (by simp), bs_insert (by simp), Nat.add_mod_right]

/-! ## The slot buffer -/

/-- The slots under `n`. -/
def slotsTo (n : ℕ) : Finset S24x16x256x128.Idx := Finset.univ.filter fun i => (i 0).val < n

theorem slotsTo_succ (n : ℕ) : slotsTo (n + 1) = slotSet n ∪ slotsTo n := by
  ext i; simp only [slotsTo, slotSet, Finset.mem_union, Finset.mem_filter, Finset.mem_univ, true_and]; omega

theorem slotsTo_disj (n : ℕ) : Disjoint (slotSet n) (slotsTo n) := by
  rw [Finset.disjoint_left]
  intro i; simp only [slotsTo, slotSet, Finset.mem_filter, Finset.mem_univ, true_and]; omega

theorem slotsTo_all : slotsTo 24 = Finset.univ := by
  ext i; simp only [slotsTo, Finset.mem_filter, Finset.mem_univ, true_and, iff_true]
  exact (i 0).isLt

theorem slots_apart (X : S24x16x256x128.Idx → Elt F .fp8e4m3) :
    ∀ n, (holds (c : Thread nD τ) B.arg7 (slotsTo n) fullShare X : sProp 𝕄)
      ⊢ bigSep (Finset.range n) (fun s => holds (c : Thread nD τ) B.arg7 (slotSet s) fullShare X)
  | 0 => by
    rw [Finset.range_zero, bigSep_empty]
    iintro H
    iempintro
  | n + 1 => by
    rw [slotsTo_succ, bs_succ]
    iintro H
    ihave H' := (holds_split (c : Thread nD τ) B.arg7 (slotsTo_disj n) fullShare X) $$ H
    icases H' with ⟨H1, H2⟩
    isplitl [H1]; · iexact H1
    iapply (slots_apart X n); iexact H2

theorem slots_together :
    ∀ n, bigSep (Finset.range (n + 1)) (fun s => iprop(∃ T, slotHolds B c s T))
      ⊢ (iprop(∃ X, holds (c : Thread nD τ) B.arg7 (slotsTo (n + 1)) fullShare X) : sProp 𝕄)
  | 0 => by
    rw [bs_succ]
    iintro ⟨⟨%T, H1⟩, -⟩
    iexists atIdx T
    rw [show slotsTo (0 + 1) = slotSet 0 by ext i; simp [slotsTo, slotSet]]
    unfold slotHolds
    iexact H1
  | n + 1 => by
    rw [slotsTo_succ (n + 1), bs_succ (n + 1)]
    iintro ⟨⟨%T, H1⟩, H2⟩
    ihave H' := (slots_together n) $$ H2
    icases H' with ⟨%X, H2⟩
    unfold slotHolds
    iexists fun i => if (i 0).val = n + 1 then atIdx T i else X i
    iapply (holds_join (c : Thread nD τ) B.arg7 (slotsTo_disj (n + 1)) fullShare _)
    isplitl [H1]
    · iapply (holds_congr (c : Thread nD τ) B.arg7 (X := atIdx T) fun i hi => by
        rw [if_pos ((Finset.mem_filter.mp hi).2)]) $$ H1
    · iapply (holds_congr (c : Thread nD τ) B.arg7 (X := X) fun i hi => by
        rw [if_neg (by have := (Finset.mem_filter.mp hi).2; omega)]) $$ H2

/-! ## A cache, share by share -/

section
variable (M : Memref sig .tc .hbm S64x128x256x128 .fp8e4m3)

/-- The contents of a cache's buffer are what is read of it. -/
theorem holds_fix {q : PosShare TreeShare} {C : S64x128x256x128.Idx → Elt F .fp8e4m3} {f₀ : M.view.ty.Contents (Elt F)}
    (h₀ : ∀ i, M.view.read (Elt F) f₀ i = C i) :
    (holds (c : Thread nD τ) M Finset.univ q C : sProp 𝕄) ⊢ (M.view.loc (c : Thread nD τ) ↦[M.view.setOn Finset.univ]{q} f₀) := by
  unfold holds
  iintro ⟨%f, %hf, H⟩
  ihave H' := (Entails.of_eq (pointsTo_congr (g := f₀) (fun x hx => by
    obtain ⟨i, hi, rfl⟩ := Finset.mem_map.mp hx
    have := (hf i hi).trans (h₀ i).symm
    rw [View.read_apply, View.read_apply] at this
    exact (cast_bijective _).1 this))) $$ H
  iexact H'

theorem holds_of_fix {q : PosShare TreeShare} {C : S64x128x256x128.Idx → Elt F .fp8e4m3} {f₀ : M.view.ty.Contents (Elt F)}
    (h₀ : ∀ i, M.view.read (Elt F) f₀ i = C i) :
    (M.view.loc (c : Thread nD τ) ↦[M.view.setOn Finset.univ]{q} f₀) ⊢ (holds (c : Thread nD τ) M Finset.univ q C : sProp 𝕄) := by
  unfold holds
  iintro H
  iexists f₀
  isplitr
  · ipureintro; exact fun i _ => h₀ i
  · iexact H

theorem leaves_eq (f₀ : M.view.ty.Contents (Elt F)) :
    (M.view.loc (c : Thread nD τ) ↦[M.view.setOn Finset.univ]{fullShare} f₀ : sProp 𝕄)
      = bigSep (Finset.range 32) fun s => (M.view.loc (c : Thread nD τ) ↦[M.view.setOn Finset.univ]{lf s} f₀) := by
  rw [ShareLeaves.pointsTo_leaves _ _ 5 fullShare]
  refine Ring.bigSep_fin_eq_range 32 _ _ fun t h => ?_
  unfold lf
  rw [show (Fin.ofNat (2 ^ 5) t) = (⟨t, h⟩ : Fin (2 ^ 5)) from Fin.ext (Nat.mod_eq_of_lt h)]

/-- A cache held whole is held by thirty-two shares, which make it whole again. -/
theorem leaves_apart (C : S64x128x256x128.Idx → Elt F .fp8e4m3) :
    (holds (c : Thread nD τ) M Finset.univ fullShare C : sProp 𝕄)
      ⊢ iprop(bigSep (Finset.range 32) (fun s => holds (c : Thread nD τ) M Finset.univ (lf s) C)
        ∗ (bigSep (Finset.range 32) (fun s => holds (c : Thread nD τ) M Finset.univ (lf s) C)
          -∗ holds (c : Thread nD τ) M Finset.univ fullShare C)) := by
  conv_lhs => unfold holds
  iintro ⟨%f, %hf, H⟩
  have h₀ : ∀ i, M.view.read (Elt F) f i = C i := fun i => hf i (Finset.mem_univ i)
  isplitl [H]
  · ihave H' := (Entails.of_eq (leaves_eq c M f)) $$ H
    iapply (bs_mono (fun s _ => holds_of_fix c M (q := lf s) h₀)) $$ H'
  iintro H
  iapply (holds_of_fix c M h₀)
  iapply (Entails.of_eq (leaves_eq c M f).symm)
  iapply (bs_mono (fun s _ => holds_fix c M (q := lf s) h₀)) $$ H
end

/-! ## The ring -/

/-- The counter of a slot, at rest. -/
def semV (s : ℕ) : sProp 𝕄 := if h : s < 24 then semVal ((c : Thread nD τ), .dma (semAt B s h)) 0 else iprop(emp)

/-- Everything of a slot. -/
def Part (s : ℕ) (T : Tile F) : sProp 𝕄 :=
  iprop(slotHolds B c s T ∗ semV B c s
    ∗ holds (c : Thread nD τ) B.arg2 Finset.univ (lf s) I.K ∗ holds (c : Thread nD τ) B.arg4 Finset.univ (lf s) I.V)

theorem Part_eq {s : ℕ} (h : s < 24) (T : Tile F) : (Part I B c s T : sProp 𝕄) = Res I B c s h T := by
  unfold Part Res semV; rw [dif_pos h]

theorem ring_start : bigSep (Finset.range 24) (fun s => Part I B c s zeroTile) ⊢ (Slots I B c 0 0 : sProp 𝕄) := by
  unfold Slots
  rw [Finset.Ico_self, bigSep_empty, show Finset.Ico 0 (0 + 24) = Finset.range 24 by ext x; simp]
  iintro H
  isplitr
  · iempintro
  iapply (bs_mono (fun s hs => Entails.of_eq (by
    have hs' := Finset.mem_range.mp hs
    rw [Part_eq I B c hs']
    unfold ResB
    have e : I.ringBefore s = zeroTile := by
      unfold Ins.ringBefore
      rw [show s / 24 = 0 by omega]
      rfl
    rw [e]
    exact Res_cast I B c (by omega) _ _ _))) $$ H

theorem st_dead (hI : I.Ok) : ∀ k, (I.st (start I.NC 64 + k)).1 = 64
  | 0 => congrArg Prod.fst (st_start hI.NC_pos 64 (by omega))
  | k + 1 => by
    have ih := st_dead hI k
    show (nxt I.NC (I.st (start I.NC 64 + k))).1 = 64
    unfold nxt
    rw [if_neg (by omega)]; exact ih

theorem ring_end (hI : I.Ok) : (Slots I B c (start I.NC 64) (start I.NC 64 + 24) : sProp 𝕄)
    ⊢ bigSep (Finset.range 24) (fun s => iprop(∃ T, Part I B c s T)) := by
  unfold Slots
  rw [Finset.Ico_self, bigSep_empty, ← bs_cycle _ (start I.NC 64)]
  iintro ⟨H, -⟩
  iapply (bs_mono (fun j hj => by
    obtain ⟨k, rfl⟩ : ∃ k, j = start I.NC 64 + k := ⟨j - start I.NC 64, by have := (Finset.mem_Ico.mp hj).1; omega⟩
    unfold SlotR
    rw [if_neg (by rw [st_dead I hI k]; omega), ← Part_eq I B c]
    iintro H
    iexists _
    iexact H)) $$ H

/-- The ring made out of the slot buffer, the counters and the caches. -/
theorem ring_make :
    iprop(holds (c : Thread nD τ) B.arg7 Finset.univ fullShare (atIdx zeroTile)
      ∗ bigSep (Finset.range 24) (semV B c)
      ∗ holds (c : Thread nD τ) B.arg2 Finset.univ fullShare I.K ∗ holds (c : Thread nD τ) B.arg4 Finset.univ fullShare I.V)
    ⊢ (iprop(Slots I B c 0 0 ∗ (bigSep (Finset.range 24) (fun s => iprop(∃ T, Part I B c s T)) -∗
        iprop((∃ X, holds (c : Thread nD τ) B.arg7 Finset.univ fullShare X) ∗ bigSep (Finset.range 24) (semV B c)
          ∗ holds (c : Thread nD τ) B.arg2 Finset.univ fullShare I.K ∗ holds (c : Thread nD τ) B.arg4 Finset.univ fullShare I.V))) : sProp 𝕄) := by
  have hu : ∀ Φ : ℕ → sProp (MT nD τ sig Unit (Elt F) ℕ (Pipeline.UD sig nD τ) ℕ), bigSep (Finset.range 32) Φ = iprop(bigSep (Finset.range 24) Φ ∗ bigSep (Finset.Ico 24 32) Φ) := by
    intro Φ
    rw [show Finset.range 32 = Finset.range 24 ∪ Finset.Ico 24 32 by ext x; simp; omega]
    exact bigSep_union (by rw [Finset.disjoint_left]; intro x; simp; omega)
  iintro ⟨H7, Hs, H2, H4⟩
  ihave H7 := (slots_apart B c (atIdx zeroTile) 24) $$ [H7]
  · rw [slotsTo_all]; iexact H7
  ihave H2 := (leaves_apart c B.arg2 I.K) $$ H2
  ihave H4 := (leaves_apart c B.arg4 I.V) $$ H4
  icases H2 with ⟨H2, H2k⟩
  icases H4 with ⟨H4, H4k⟩
  ihave H2 := (Entails.of_eq (hu _)) $$ H2
  ihave H4 := (Entails.of_eq (hu _)) $$ H4
  icases H2 with ⟨H2, H2r⟩
  icases H4 with ⟨H4, H4r⟩
  isplitl [H7 Hs H2 H4]
  · iapply (ring_start I B c)
    unfold Part
    iapply (Entails.of_eq (bs_sep _ _ _).symm)
    isplitl [H7]
    · unfold slotHolds; iexact H7
    iapply (Entails.of_eq (bs_sep _ _ _).symm)
    isplitl [Hs]; · iexact Hs
    iapply (Entails.of_eq (bs_sep _ _ _).symm)
    isplitl [H2]; · iexact H2
    iexact H4
  iintro H
  ihave H := (show bigSep (Finset.range 24) (fun s => iprop(∃ T, Part I B c s T))
      ⊢ bigSep (Finset.range 24) (fun s => iprop((∃ T, slotHolds B c s T) ∗ semV B c s
    ∗ holds (c : Thread nD τ) B.arg2 Finset.univ (lf s) I.K ∗ holds (c : Thread nD τ) B.arg4 Finset.univ (lf s) I.V)) from
    bs_mono (fun s _ => by
      unfold Part
      show iprop(∃ T, _) ⊢ iprop(_ ∗ _)
      iintro ⟨%T, H7, H⟩
      isplitl [H7]
      · iexists T; iexact H7
      iexact H)) $$ H
  ihave H := (Entails.of_eq (bs_sep _ _ _)) $$ H
  icases H with ⟨H7, H⟩
  ihave H := (Entails.of_eq (bs_sep _ _ _)) $$ H
  icases H with ⟨Hs, H⟩
  ihave H := (Entails.of_eq (bs_sep _ _ _)) $$ H
  icases H with ⟨H2, H4⟩
  isplitl [H7]
  · ihave H7 := (slots_together B c 23) $$ H7
    icases H7 with ⟨%X, H7⟩
    iexists X
    rw [slotsTo_all]
    iexact H7
  isplitl [Hs]; · iexact Hs
  isplitl [H2 H2r H2k]
  · iapply H2k
    iapply (Entails.of_eq (hu _).symm)
    isplitl [H2]; · iexact H2
    iexact H2r
  · iapply H4k
    iapply (Entails.of_eq (hu _).symm)
    isplitl [H4]; · iexact H4
    iexact H4r

end Cert.Proof.Kernel
-- ==== Proof.Kernel.Body.lean ====
/- The whole kernel function, from the buffers as found to the buffers as left. -/
module

public import proofs.«01_k».proof.Proof.Kernel.RingEnds

@[expose] public section

set_option maxRecDepth 65536
set_option pp.maxSteps 250

noncomputable section

namespace Cert.Proof.Kernel

open Cert.Kernel Cert.Kernel.Gen Cert.Proof.Rules Cert.Proof.Sched
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

variable (I : Ins F) (A : Arr F) (B : Bufs) (c : Dev nD)

/-! ## Clearing the ring -/

/-- The slots under `t` are cleared. -/
def clInv (t : ℕ) (_ : Unit) : sProp 𝕄 := Upto c B.arg7 (fun i => (i 0).val < t) (atIdx zeroTile)

theorem clear_step (t1 : Fin k0_t1_loop.trips) (u : Unit) :
    (clInv B c t1.val u : sProp 𝕄)
      ⊢ wp frame (wpE (defs₀ (F := F)) Variants.none (c : Thread nD τ) none) Set.univ
          (clearS (F := F) B t1 u) (clInv B c (t1.val + 1)) := by
  unfold clInv Upto
  iintro ⟨%X, %hX, H⟩
  unfold clearS
  iapply (wp_load_bind Variants.none (c : Thread nD τ) none Set.univ (Finset.subset_univ _) rfl) $$ H
  iintro H
  iapply (wp_store_holds (k := Prog.ret) Variants.none (c : Thread nD τ) none Set.univ (Finset.subset_univ _)) $$ H
  iintro H
  iapply (le_wp_ret _ _ _ _ _)
  iexists _
  isplitr
  rotate_left
  · iexact H
  ipureintro
  intro i hi
  have o0 : k0_off1 t1 0 = t1.val := congrFun (off1_eq t1) 0
  have o1 : k0_off1 t1 1 = 0 := congrFun (off1_eq t1) 1
  have o2 : k0_off1 t1 2 = 0 := congrFun (off1_eq t1) 2
  have o3 : k0_off1 t1 3 = 0 := congrFun (off1_eq t1) 3
  by_cases hin : (i 0).val = t1.val
  · have e : (Rect.unit (s := S24x16x256x128) (k0_off1 t1) S1x16x256x128.size (k0_off1_inb t1)).emb
        (fun | 0 => ⟨0, Nat.one_pos⟩ | 1 => i 1 | 2 => i 2 | 3 => i 3) = i := by
      funext a
      refine Fin.ext ?_
      fin_cases a
      · show k0_off1 t1 0 + 1 * 0 = (i 0).val
        rw [o0]; omega
      · show k0_off1 t1 1 + 1 * (i 1).val = (i 1).val
        rw [o1]; omega
      · show k0_off1 t1 2 + 1 * (i 2).val = (i 2).val
        rw [o2]; omega
      · show k0_off1 t1 3 + 1 * (i 3).val = (i 3).val
        rw [o3]; omega
    conv_lhs => rw [← e]
    rw [Rect.overlay_emb]
    rfl
  · rw [Rect.overlay_of_not_mem]
    · exact hX i (by omega)
    · intro h
      obtain ⟨j, hj⟩ := (Rect.unit (s := S24x16x256x128) (k0_off1 t1) S1x16x256x128.size (k0_off1_inb t1)).exists_idx_of_mem h
      apply hin
      have := (congrArg Fin.val (congrFun hj 0)).symm
      have h0 : (j 0).val < 1 := (j 0).isLt
      change (i 0).val = k0_off1 t1 0 + 1 * (j 0).val at this
      rw [o0] at this
      omega

/-! ## The first transfers -/

def iInv (j : ℕ) (acc : BitVec 32 × BitVec 32 × BitVec 32 × BitVec 32) : sProp 𝕄 :=
  iprop(⌜Words I j acc.1 acc.2.1 acc.2.2.1 acc.2.2.2⌝
    ∗ holds (c : Thread nD τ) B.arg0 Finset.univ fullShare I.len ∗ Slots I B c 0 j)

theorem init_step (hI : I.Ok) (t2 : Fin k0_t2_loop.trips) (ht : t2.val < 24) (acc : BitVec 32 × BitVec 32 × BitVec 32 × BitVec 32) :
    (iInv I B c t2.val acc : sProp 𝕄)
      ⊢ wp frame (wpE (defs₀ (F := F)) Variants.none (c : Thread nD τ) none) Set.univ
          (initS (F := F) B t2 acc) (iInv I B c (t2.val + 1)) := by
  obtain ⟨b, k, cw, sl⟩ := acc
  unfold iInv
  dsimp only
  iintro ⟨%hw, H0, HS⟩
  have hb : b.toNat ≤ 64 := by rw [hw.b]; exact (st_ok' I hI _).1
  unfold initS
  dsimp only
  iapply (wp_assume_bind Variants.none (c : Thread nD τ) none Set.univ (chk2_of hw.lt))
  iapply (wp_assume_bind Variants.none (c : Thread nD τ) none Set.univ (chk1_of hb))
  ihave HS := (Slots_put I B c (g := 0) (p := t2.val) (by omega) (Nat.zero_le _)) $$ HS
  icases HS with ⟨HR, HS⟩
  iapply (wp_wand _ _ _) $$ [H0 HR]
  · iapply (wp_issue I B c hI hw (chk2_of hw.lt) (chk1_of hb))
    isplitl [H0]; · iexact H0
    unfold ResB; iexact HR
  iintro %r ⟨%hr, H0, HR⟩
  isplitr
  · ipureintro; exact hr
  isplitl [H0]; · iexact H0
  iapply HS; iexact HR

/-! ## The query rows -/

/-- The block of a query row or an output row. -/
def blkQ (p : S2048x128.Idx) : ℕ := 32 * ((p 0).val / 256) + (p 0).val % 32

theorem rowsQ_mem {i : ℕ} (h : i < 256) (p : S2048x128.Idx) (hp : p ∈ (rowsQ i h).set) : blkQ p = i := by
  obtain ⟨j, hj⟩ := (rowsQ i h).exists_idx_of_mem hp
  have := (congrArg Fin.val (congrFun hj 0)).symm
  have h0 : (j 0).val < 8 := (j 0).isLt
  change (p 0).val = 256 * (i / 32) + i % 32 + 32 * (j 0).val at this
  unfold blkQ
  omega

theorem overlay_at {s : Shape} {α : Type} (r : Rect s) (X : s.Idx → α) (w : r.shape.Idx → α) {j : r.shape.Idx} {p : s.Idx}
    (e : r.emb j = p) : r.overlay X w p = w j := by subst e; exact Rect.overlay_emb ..

theorem overlay_off {s : Shape} {α : Type} (r : Rect s) (X : s.Idx → α) (w : r.shape.Idx → α) {p : s.Idx}
    (h : p ∉ r.set) : r.overlay X w p = X p := Rect.overlay_of_not_mem _ _ _ h

theorem fill_step {i : ℕ} (h : i < 256) :
    (iprop(holds (c : Thread nD τ) B.arg1 Finset.univ fullShare A.x ∗ Upto c B.arg8 (fun p => blkQ p < i) (qArr A)) : sProp 𝕄)
      ⊢ wp frame (wpE (defs₀ (F := F)) Variants.none (c : Thread nD τ) none) Set.univ
          (fillStep (F := F) B i h) (fun _ => iprop(holds (c : Thread nD τ) B.arg1 Finset.univ fullShare A.x
            ∗ Upto c B.arg8 (fun p => blkQ p < i + 1) (qArr A))) := by
  have hx : (fun j => A.x ((Rect.unit (s := S64x4096) ![8 * (i / 32), 128 * (i % 32)] S8x128.size (inb_x h)).toLoadRect.idx j)) = xBlk A i := by
    funext j
    refine congrArg A.x (funext fun a => Fin.ext ?_)
    have h0 : (j 0).val < 8 := (j 0).isLt
    have h1 : (j 1).val < 128 := (j 1).isLt
    fin_cases a
    · show 8 * (i / 32) + 1 * (j 0).val = (8 * (i / 32) + (j 0).val) % 64
      omega
    · show 128 * (i % 32) + 1 * (j 1).val = (128 * (i % 32) + (j 1).val) % 4096
      omega
  unfold Upto
  iintro ⟨H1, ⟨%X, %hX, H⟩⟩
  unfold fillStep
  iapply (wp_load_bind Variants.none (c : Thread nD τ) none Set.univ (Finset.subset_univ _) hx) $$ H1
  iintro H1
  iapply (wp_load_bind Variants.none (c : Thread nD τ) none Set.univ (Finset.subset_univ _) rfl) $$ H
  iintro H
  iapply (wp_store_holds (k := Prog.ret) Variants.none (c : Thread nD τ) none Set.univ (Finset.subset_univ _)) $$ H
  iintro H
  iapply (le_wp_ret _ _ _ _ _)
  isplitl [H1]; · iexact H1
  iexists _
  isplitr
  rotate_left
  · iexact H
  ipureintro
  intro p hp
  have hp0 : (p 0).val < 2048 := (p 0).isLt
  have hp1 : (p 1).val < 128 := (p 1).isLt
  by_cases hin : blkQ p = i
  · have e : (⟨rowsQ i h, spos_32_1⟩ : Rect S2048x128).emb (ix2 ((p 0).val % 256 / 32) (p 1).val) = p := by
      funext a
      refine Fin.ext ?_
      unfold blkQ at hin
      fin_cases a
      · show 256 * (i / 32) + i % 32 + 32 * ((p 0).val % 256 / 32 % 8) = (p 0).val
        omega
      · show 0 + 1 * ((p 1).val % 128) = (p 1).val
        omega
    subst hin
    exact overlay_at (⟨rowsQ (blkQ p) h, spos_32_1⟩ : Rect S2048x128) X _ e
  · exact (overlay_off (⟨rowsQ i h, spos_32_1⟩ : Rect S2048x128) X _ (fun hm => hin (rowsQ_mem h p hm))).trans (hX p (by omega))

theorem wp_fills : ∀ (n i : ℕ) (h : i + n ≤ 256),
    (iprop(holds (c : Thread nD τ) B.arg1 Finset.univ fullShare A.x ∗ Upto c B.arg8 (fun p => blkQ p < i) (qArr A)) : sProp 𝕄)
      ⊢ wp frame (wpE (defs₀ (F := F)) Variants.none (c : Thread nD τ) none) Set.univ
          (fills (F := F) B n i h) (fun _ => iprop(holds (c : Thread nD τ) B.arg1 Finset.univ fullShare A.x
            ∗ Upto c B.arg8 (fun p => blkQ p < i + n) (qArr A)))
  | 0, i, h => by
    unfold fills
    iintro H
    iapply (le_wp_ret _ _ _ _ _)
    iexact H
  | n + 1, i, h => by
    unfold fills
    rw [wp_bind]
    iintro H
    iapply (wp_wand _ _ _) $$ [H]
    · iapply (fill_step A B c (i := i) _); iexact H
    iintro %u H
    rw [show i + (n + 1) = i + 1 + n by omega]
    iapply (wp_fills n (i + 1) _)
    iexact H

/-! ## The output rows -/

/-- The block of an element of the output. -/
def blkO (p : S64x4096.Idx) : ℕ := 32 * ((p 0).val / 8) + (p 1).val / 128

theorem out_step {i : ℕ} (h : i < 256) :
    (iprop(holds (c : Thread nD τ) B.arg9 Finset.univ fullShare (oArr I A) ∗ Upto c B.arg6 (fun p => blkO p < i) (kernelOut I A)) : sProp 𝕄)
      ⊢ wp frame (wpE (defs₀ (F := F)) Variants.none (c : Thread nD τ) none) Set.univ
          (outStep (F := F) B i h) (fun _ => iprop(holds (c : Thread nD τ) B.arg9 Finset.univ fullShare (oArr I A)
            ∗ Upto c B.arg6 (fun p => blkO p < i + 1) (kernelOut I A))) := by
  have hx : (fun j => oArr I A ((rowsQ i h).idx j)) = oBlk I A i := by
    funext j
    refine congrArg (oArr I A) (funext fun a => Fin.ext ?_)
    have h0 : (j 0).val < 8 := (j 0).isLt
    have h1 : (j 1).val < 128 := (j 1).isLt
    fin_cases a
    · show 256 * (i / 32) + i % 32 + 32 * (j 0).val = (256 * (i / 32) + i % 32 + 32 * (j 0).val) % 2048
      omega
    · show 0 + 1 * (j 1).val = (j 1).val % 128
      omega
  unfold Upto
  iintro ⟨H9, ⟨%X, %hX, H⟩⟩
  unfold outStep
  iapply (wp_load_bind Variants.none (c : Thread nD τ) none Set.univ (Finset.subset_univ _) hx) $$ H9
  iintro H9
  iapply (wp_load_bind Variants.none (c : Thread nD τ) none Set.univ (Finset.subset_univ _) rfl) $$ H
  iintro H
  iapply (wp_store_holds (k := Prog.ret) Variants.none (c : Thread nD τ) none Set.univ (Finset.subset_univ _)) $$ H
  iintro H
  iapply (le_wp_ret _ _ _ _ _)
  isplitl [H9]; · iexact H9
  iexists _
  isplitr
  rotate_left
  · iexact H
  ipureintro
  intro p hp
  have hp0 : (p 0).val < 64 := (p 0).isLt
  have hp1 : (p 1).val < 4096 := (p 1).isLt
  by_cases hin : blkO p = i
  · have e : (Rect.unit (s := S64x4096) ![8 * (i / 32), 128 * (i % 32)] S8x128.size (inb_x h)).emb (ix2 ((p 0).val % 8) ((p 1).val % 128)) = p := by
      funext a
      refine Fin.ext ?_
      unfold blkO at hin
      fin_cases a
      · show 8 * (i / 32) + 1 * ((p 0).val % 8 % 8) = (p 0).val
        omega
      · show 128 * (i % 32) + 1 * ((p 1).val % 128 % 128) = (p 1).val
        omega
    conv_lhs => rw [← e]
    rw [Rect.overlay_emb]
    subst hin
    rfl
  · rw [Rect.overlay_of_not_mem]
    · exact hX p (by omega)
    · intro hm
      apply hin
      obtain ⟨j, hj⟩ := (Rect.unit (s := S64x4096) ![8 * (i / 32), 128 * (i % 32)] S8x128.size (inb_x h)).exists_idx_of_mem hm
      have e0 := (congrArg Fin.val (congrFun hj 0)).symm
      have e1 := (congrArg Fin.val (congrFun hj 1)).symm
      have h0 : (j 0).val < 8 := (j 0).isLt
      have h1 : (j 1).val < 128 := (j 1).isLt
      change (p 0).val = 8 * (i / 32) + 1 * (j 0).val at e0
      change (p 1).val = 128 * (i % 32) + 1 * (j 1).val at e1
      unfold blkO
      omega

theorem wp_outs : ∀ (n i : ℕ) (h : i + n ≤ 256),
    (iprop(holds (c : Thread nD τ) B.arg9 Finset.univ fullShare (oArr I A) ∗ Upto c B.arg6 (fun p => blkO p < i) (kernelOut I A)) : sProp 𝕄)
      ⊢ wp frame (wpE (defs₀ (F := F)) Variants.none (c : Thread nD τ) none) Set.univ
          (outs (F := F) B n i h) (fun _ => iprop(holds (c : Thread nD τ) B.arg9 Finset.univ fullShare (oArr I A)
            ∗ Upto c B.arg6 (fun p => blkO p < i + n) (kernelOut I A)))
  | 0, i, h => by
    unfold outs
    iintro H
    iapply (le_wp_ret _ _ _ _ _)
    iexact H
  | n + 1, i, h => by
    unfold outs
    rw [wp_bind]
    iintro H
    iapply (wp_wand _ _ _) $$ [H]
    · iapply (out_step I A B c (i := i) _); iexact H
    iintro %u H
    rw [show i + (n + 1) = i + 1 + n by omega]
    iapply (wp_outs n (i + 1) _)
    iexact H

/-! ## The kernel function -/

theorem t1_trips : k0_t1_loop.trips = 24 := by decide +kernel
theorem t2_trips : k0_t2_loop.trips = 24 := by decide +kernel
theorem t3_trips : k0_t3_loop.trips = 64 := by decide +kernel
theorem lt24_of_t2 (t : Fin k0_t2_loop.trips) : t.val < 24 := lt_of_lt_of_eq t.isLt t2_trips

/-- What the kernel function finds and leaves alike. -/
def Kept : sProp 𝕄 :=
  iprop(holds (c : Thread nD τ) B.arg0 Finset.univ fullShare I.len
    ∗ holds (c : Thread nD τ) B.arg1 Finset.univ fullShare A.x
    ∗ holds (c : Thread nD τ) B.arg2 Finset.univ fullShare I.K
    ∗ holds (c : Thread nD τ) B.arg3 Finset.univ fullShare A.ks
    ∗ holds (c : Thread nD τ) B.arg4 Finset.univ fullShare I.V
    ∗ holds (c : Thread nD τ) B.arg5 Finset.univ fullShare A.vs
    ∗ Any c B.arg7 ∗ Any c B.arg8 ∗ Any c B.arg9 ∗ Any c B.arg10 ∗ Any c B.arg11 ∗ Any c B.arg12
    ∗ bigSep (Finset.range 24) (semV B c) ∗ Owes c)

theorem Upto_none {s : Shape} {e : EltTy} (M : Memref sig .tc .vmem s e) (P : s.Idx → Prop) (G : s.Idx → Elt F e)
    (h : ∀ i, ¬ P i) : (Any c M : sProp 𝕄) ⊢ Upto c M P G := by
  unfold Any Upto
  iintro ⟨%X, H⟩
  iexists X
  isplitr
  · ipureintro; intro i hi; exact absurd hi (h i)
  · iexact H

theorem Upto_all {s : Shape} {e : EltTy} (M : Memref sig .tc .vmem s e) (P : s.Idx → Prop) (G : s.Idx → Elt F e)
    (h : ∀ i, P i) : (Upto c M P G : sProp 𝕄) ⊢ holds (c : Thread nD τ) M Finset.univ fullShare G := by
  unfold Upto
  iintro ⟨%X, %hX, H⟩
  iapply (holds_congr (c : Thread nD τ) M (X := X) fun i _ => hX i (h i)) $$ H

theorem words_start : Words I 0 0#32 0#32 0#32 0#32 :=
  ⟨rfl, rfl, rfl, show 0 < 24 by omega, fun _ => rfl⟩

set_option maxHeartbeats 2000000 in
/-- The kernel function leaves its output in place. -/
theorem wp_whole (hI : I.Ok) :
    (iprop(Kept I A B c ∗ Any c B.arg6) : sProp 𝕄)
      ⊢ wp frame (wpE (defs₀ (F := F)) Variants.none (c : Thread nD τ) none) Set.univ
          (wholeS (F := F) B) (fun _ => iprop(Kept I A B c ∗ holds (c : Thread nD τ) B.arg6 Finset.univ fullShare (kernelOut I A))) := by
  unfold Kept
  iintro ⟨⟨H0, H1, H2, H3, H4, H5, H7, H8, H9, H10, H11, H12, Hs, HO⟩, H6⟩
  unfold wholeS
  iapply (wp_loop c _ _ _ _ (clInv B c) (fun t u => clear_step B c t u) (n := 24) (t1_trips)) $$ [H7]
  · unfold clInv
    iapply (Upto_none c B.arg7 _ _ (fun i => Nat.not_lt_zero _)); iexact H7
  iintro %u H7
  unfold clInv
  ihave H7 := (Upto_all c B.arg7 (fun i => (i 0).val < 24) _ (fun i => (i 0).isLt)) $$ H7
  ihave HS := (ring_make I B c) $$ [H7 Hs H2 H4]
  · isplitl [H7]; · iexact H7
    isplitl [Hs]; · iexact Hs
    isplitl [H2]; · iexact H2
    iexact H4
  icases HS with ⟨HS, HE⟩
  iapply (wp_loop c _ _ _ _ (iInv I B c) (fun t acc => init_step I B c hI t (lt24_of_t2 t) acc) (n := 24) (t2_trips)) $$ [H0 HS]
  · unfold iInv
    isplitr
    · ipureintro; exact words_start I
    isplitl [H0]; · iexact H0
    iexact HS
  unfold iInv
  iintro %acc ⟨%hw, H0, HS⟩
  obtain ⟨b, k, cw, sl⟩ := acc
  dsimp only at hw ⊢
  unfold wholeTail
  rw [wp_bind]
  iapply (wp_wand _ _ _) $$ [H1 H8]
  · iapply (wp_fills A B c 256 0 _)
    isplitl [H1]; · iexact H1
    iapply (Upto_none c B.arg8 _ _ (fun i => Nat.not_lt_zero _)); iexact H8
  iintro %u2 ⟨H1, H8⟩
  ihave H8 := (Upto_all c B.arg8 _ _ (fun p => by
    have hp0 : (p 0).val < 2048 := (p 0).isLt
    unfold blkQ; omega)) $$ H8
  iapply (wp_loop c _ _ _ _ (sInv I A B c) (fun t acc => seqS_step I A B c hI t acc) (n := 64) (t3_trips)) $$ [H0 HS H8 H3 H5 H9 H10 H11 H12 HO]
  · unfold sInv
    isplitr
    · ipureintro; exact ⟨hw, rfl⟩
    isplitl [H0]; · iexact H0
    isplitl [HS]; · iexact HS
    isplitl [H8]; · iexact H8
    isplitl [H3]; · iexact H3
    isplitl [H5]; · iexact H5
    isplitl [H9]
    · iapply (Upto_none c B.arg9 _ _ (fun i => Nat.not_lt_zero _)); iexact H9
    isplitl [H10]; · iexact H10
    isplitl [H11]; · iexact H11
    isplitl [H12]; · iexact H12
    iexact HO
  unfold sInv
  iintro %acc2 ⟨%hw2, H0, HS, H8, H3, H5, H9, H10, H11, H12, HO⟩
  ihave H9 := (Upto_all c B.arg9 (fun p => (p 0).val < 32 * 64) _ (fun p => (p 0).isLt)) $$ H9
  iapply (wp_wand _ _ _) $$ [H9 H6]
  · iapply (wp_outs I A B c 256 0 _)
    isplitl [H9]; · iexact H9
    iapply (Upto_none c B.arg6 _ _ (fun i => Nat.not_lt_zero _)); iexact H6
  iintro %u3 ⟨H9, H6⟩
  ihave H6 := (Upto_all c B.arg6 _ _ (fun p => by
    have hp0 : (p 0).val < 64 := (p 0).isLt
    have hp1 : (p 1).val < 4096 := (p 1).isLt
    unfold blkO; omega)) $$ H6
  ihave HS := (ring_end I B c hI) $$ HS
  ihave HS := HE $$ HS
  icases HS with ⟨H7, Hs, H2, H4⟩
  isplitr [H6]
  · isplitl [H0]; · iexact H0
    isplitl [H1]; · iexact H1
    isplitl [H2]; · iexact H2
    isplitl [H3]; · iexact H3
    isplitl [H4]; · iexact H4
    isplitl [H5]; · iexact H5
    isplitl [H7]
    · unfold Any; iexact H7
    isplitl [H8]
    · iapply (holds_Any c); iexact H8
    isplitl [H9]
    · iapply (holds_Any c); iexact H9
    isplitl [H10]; · iexact H10
    isplitl [H11]; · iexact H11
    isplitl [H12]; · iexact H12
    isplitl [Hs]; · iexact Hs
    iexact HO
  iexact H6

end Cert.Proof.Kernel
-- ==== Proof.Kernel.Frame.lean ====
/- The run of the whole program: the host lines before the kernel, the kernel, the host line after it. The arguments
   end as launched, every counter ends at zero, and the result is what the kernel leaves. -/
module

public import proofs.«01_k».proof.Proof.Kernel.Body
public import proofs.«01_k».proof.Proof.Gen.Kernel.Launch
public import proofs.«01_k».proof.Proof.Gen.Kernel.Points
public import proofs.«01_k».proof.Proof.Gen.Kernel.Frame
public import Idealize.ShloMosaic.Lib.Pipeline.FrameBody
public import Idealize.ShloMosaic.Lib.Pipeline.FrameSuffix

@[expose] public section

set_option maxRecDepth 65536
set_option pp.maxSteps 250

noncomputable section

namespace Cert.Proof.Kernel

open Cert.Kernel Cert.Kernel.Gen Cert.Proof.Rules Cert.Proof.Sched
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The buffers the kernel function is called with. -/
def bufsAt (t : Fin cfg0.N) : Bufs where
  arg0 := win0_0.stage (cfg0.slots t 0)
  harg0 := hstage0_0 0
  arg1 := win0_1.stage (cfg0.slots t 1)
  harg1 := hstage0_1 0
  arg2 := Memref.whole main_v1
  harg2 := Memref.isWhole_whole _
  arg3 := win0_2.stage (cfg0.slots t 2)
  harg3 := hstage0_2 0
  arg4 := Memref.whole main_v3
  harg4 := Memref.isWhole_whole _
  arg5 := win0_3.stage (cfg0.slots t 3)
  harg5 := hstage0_3 0
  arg6 := win0_4.stage (cfg0.slots t 4)
  harg6 := hstage0_4 0
  arg7 := Memref.whole cc0_scratch0
  harg7 := Memref.isWhole_whole _
  arg8 := Memref.whole cc0_scratch1
  harg8 := Memref.isWhole_whole _
  arg9 := Memref.whole cc0_scratch2
  harg9 := Memref.isWhole_whole _
  arg10 := Memref.whole cc0_scratch3
  harg10 := Memref.isWhole_whole _
  arg11 := Memref.whole cc0_scratch4
  harg11 := Memref.isWhole_whole _
  arg12 := Memref.whole cc0_scratch5
  harg12 := Memref.isWhole_whole _
  arg13 := cc0_scratch6

theorem bodyAt0_eq (t : Fin cfg0.N) : bodyAt0 (F := F) t = wholeS (bufsAt t) := by
  rw [← whole_eq (F := F) (bufsAt t)]; rfl

/-! ## The counters and the operands the kernel moves itself -/

/-- The kernel's own counters, one for each slot of its ring. -/
def osem0 (j : Fin 24) : SemLoc sig := .dma (semAt (bufsAt t0_0) j.val j.isLt)

theorem ownSemFacts0 : Pipeline.OwnSemFacts spec0 osem0 := by decide +kernel

/-- The two operands left in the large memory. -/
def H0 : Finset (Ref sig .tc) := {main_v1, main_v3}

theorem H0_sub : H0 ⊆ Pipeline.restRefs sig spec0 := by decide

theorem ownSems0_range (c : Dev nD) (t : Fin cfg0.N) :
    (Pipeline.ownSems0 (Ix := Unit) (Name := ℕ) (U := Pipeline.UD sig nD τ) (Lvl := ℕ) (Val := Elt F) (τ := τ) osem0 c : sProp 𝕄)
      = bigSep (Finset.range 24) (semV (F := F) (bufsAt t) c) := by
  unfold Pipeline.ownSems0
  refine Ring.bigSep_fin_eq_range 24 _ _ (fun k hk => ?_)
  unfold semV
  rw [dif_pos hk]
  rfl

variable (m : (ℓ : Loc nD τ sig) → Buf (Elt F) ℓ) (ρ : Dev nD → PrngReg)

theorem hbm0_eq (c : Dev nD) :
    (bigSep H0 fun b => ((c.tc : Thread nD τ).loc b) ↦{fullShare} V m c b : sProp 𝕄)
      = iprop(((c.tc : Thread nD τ).loc main_v1 ↦{fullShare} V m c main_v1) ∗ ((c.tc : Thread nD τ).loc main_v3 ↦{fullShare} V m c main_v3)) := by
  rw [BI.bigSep_eq_bigSepL_of_eq [main_v1, main_v3] (by decide) (by decide)]
  rfl

/-! ## The lines round the kernel -/

theorem sfx_but : ∀ ops ∈ ([hostOps1] : List (List (HloOp τ sig (Elt F)))), ∀ op ∈ ops,
    op.bufs ⊆ Pipeline.tailRefsBut sig Pipeline.Prefetch.none spec0 H0 := by
  intro ops hops op hop
  simp only [List.mem_cons, List.mem_nil_iff, or_false] at hops
  rcases hops with rfl
  refine Pipeline.sub_tailRefsBut _ _ _ op ((List.forall_iff_forall_mem.mp hostOps1_sub) op hop) (fun k => k.elim0) ?_
  simp only [hostOps1, List.mem_cons, List.mem_nil_iff, or_false] at hop
  rcases hop with rfl
  intro b hb
  simp only [H0, Finset.mem_insert, Finset.mem_singleton] at hb
  rcases hb with rfl | rfl
  all_goals
    simp only [StableHlo.reshape_bufs, Finset.mem_insert, Finset.mem_singleton, not_or]
    exact ⟨StableHlo.devRef_ne_of_ne (by decide), StableHlo.devRef_ne_of_ne (by decide)⟩

theorem hmainD : Pipeline.HMainK (Ix := Unit) (Name := ℕ) (U := Pipeline.UD sig nD τ) (Lvl := ℕ) cfgs 0 defs₀ Variants.none m (main (F := F)) (V m)
      (fun _ => Pipeline.chain ([hostOps1].map StableHlo.seq)) :=
  Pipeline.hmain_around cfgs 0 defs₀ Variants.none m main [hostOps0] [hostOps1] (by simp only [List.Forall]; exact hostOps0_sub)
    (by simp only [List.Forall]; exact hostOps0_fresh) main_chain

/-- What neither the kernel nor the last line writes ends as the kernel found it. -/
theorem W_keep (dats : (p : Fin 1) → (c : Dev nD) → Dat τ (Elt F) Unit ℕ (Pipeline.UD sig nD τ) ℕ (cfgs p) c) (c : Dev nD)
    (b : Ref sig .tc) (h6 : b ≠ main_v6) (hw : ∀ w, Pipeline.arrRef spec0 w ≠ b) :
    Pipeline.afterTail₀ cfgs dats 0 (V0 m) [hostOps1] c b = V m c b := by
  unfold Pipeline.afterTail₀
  rw [StableHlo.after_of_forall_not_mem (b := Proc.devRef .tc b) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne h6)),
    Pipeline.withArrays_of_ne _ c (V0 m c) _ b hw]

/-! ## The kernel's data and its obligation -/

/-- The lengths and the two caches, as the kernel finds them. -/
def insAt (c : Dev nD) (t : Fin cfg0.N) : Ins F where
  len := iblk m c 0 t
  K := V m c main_v1
  V := V m c main_v3

/-- The queries and the two arrays of scales, as the kernel finds them. -/
def arrAt' (c : Dev nD) (t : Fin cfg0.N) : Arr F where
  x := iblk m c 1 t
  ks := iblk m c 2 t
  vs := iblk m c 3 t

/-- What the kernel leaves in its result's window. -/
def outAt (c : Dev nD) (t : Fin cfg0.N) : S64x4096.Idx → Elt F .bf16 := kernelOut (insAt m c t) (arrAt' m c t)

def dats (_p : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAt m c t
  Φ _ := Pipeline.ΦD osem0 spec0 H0 (V m) c
  q _ := fullShare
  owed _ := 0

theorem A_eq (c : Dev nD) (w : Fin cfg0.W) : (dats m 0 c).A w = V m c (Pipeline.arrRef spec0 w) := by
  dsimp only [dats]

theorem before_0 (c : Dev nD) (t : Fin cfg0.N) (d) : (dats m 0 c).before 0 t d = iblk m c 0 t :=
  ((dats m 0 c).before_in_eq_fetched 0 rfl (fun _ => rfl) (fun _ _ _ => rfl) (fun t => by unfold Dat.blockOf; rfl) t d).trans
    (by unfold Dat.fetched Dat.blockOf; rfl)
theorem before_1 (c : Dev nD) (t : Fin cfg0.N) (d) : (dats m 0 c).before 1 t d = iblk m c 1 t :=
  ((dats m 0 c).before_in_eq_fetched 1 rfl (fun _ => rfl) (fun _ _ _ => rfl) (fun t => by unfold Dat.blockOf; rfl) t d).trans
    (by unfold Dat.fetched Dat.blockOf; rfl)
theorem before_2 (c : Dev nD) (t : Fin cfg0.N) (d) : (dats m 0 c).before 2 t d = iblk m c 2 t :=
  ((dats m 0 c).before_in_eq_fetched 2 rfl (fun _ => rfl) (fun _ _ _ => rfl) (fun t => by unfold Dat.blockOf; rfl) t d).trans
    (by unfold Dat.fetched Dat.blockOf; rfl)
theorem before_3 (c : Dev nD) (t : Fin cfg0.N) (d) : (dats m 0 c).before 3 t d = iblk m c 3 t :=
  ((dats m 0 c).before_in_eq_fetched 3 rfl (fun _ => rfl) (fun _ _ _ => rfl) (fun t => by unfold Dat.blockOf; rfl) t d).trans
    (by unfold Dat.fetched Dat.blockOf; rfl)

/-- Every length the program is launched with is in range. -/
def LensOk : Prop := ∀ (c : Dev nD) (i : S64.Idx), InLen (m ((c : Thread nD τ).loc main_arg5) i)

theorem ins_ok (h : LensOk m) (c : Dev nD) (t : Fin cfg0.N) : (insAt m c t).Ok := by
  intro i
  have hv : ∀ j : S64.Idx, InLen (V m c main_arg5 j) := fun j => by rw [V_main_arg5]; exact h c j
  exact hv _

/-- A whole buffer at contents, read as the kernel's proof reads it. -/
theorem pt_holds (c : Dev nD) (b : Ref sig .tc) (X : b.ty.Contents (Elt F)) :
    (((c : Thread nD τ).loc b) ↦{fullShare} X : sProp 𝕄) = holds (c : Thread nD τ) (Memref.whole b) Finset.univ fullShare X := by
  rw [holds_univ, owns_whole]

theorem scr_Any (c : Dev nD) {s : Shape} {e : EltTy} (M : Memref sig .tc .vmem s e) (P : sProp 𝕄)
    (h : P = iprop(∃ X : s.Idx → Elt F e, owns (c : Thread nD τ) M fullShare X)) : P = Any c M := by
  rw [h]; unfold Any
  refine congrArg _ (funext fun X => ?_)
  rw [holds_univ]

def bodyPre (c : Dev nD) (t : Fin cfg0.N) : sProp 𝕄 :=
  iprop((dats m 0 c).Φ t.castSucc ∗ (dats m 0 c).owesAt () t.castSucc
    ∗ (∃ d, owns (c : Thread nD τ) (bufsAt t).arg0 fullShare ((dats m 0 c).before 0 t d))
    ∗ (∃ d, owns (c : Thread nD τ) (bufsAt t).arg1 fullShare ((dats m 0 c).before 1 t d))
    ∗ (∃ d, owns (c : Thread nD τ) (bufsAt t).arg3 fullShare ((dats m 0 c).before 2 t d))
    ∗ (∃ d, owns (c : Thread nD τ) (bufsAt t).arg5 fullShare ((dats m 0 c).before 3 t d))
    ∗ (∃ d, owns (c : Thread nD τ) (bufsAt t).arg6 fullShare ((dats m 0 c).before 4 t d)))
def bodyPost (c : Dev nD) (t : Fin cfg0.N) : sProp 𝕄 :=
  iprop((dats m 0 c).Φ t.succ ∗ (dats m 0 c).owesAt () t.succ
    ∗ owns (c : Thread nD τ) (bufsAt t).arg0 fullShare ((dats m 0 c).after 0 t)
    ∗ owns (c : Thread nD τ) (bufsAt t).arg1 fullShare ((dats m 0 c).after 1 t)
    ∗ owns (c : Thread nD τ) (bufsAt t).arg3 fullShare ((dats m 0 c).after 2 t)
    ∗ owns (c : Thread nD τ) (bufsAt t).arg5 fullShare ((dats m 0 c).after 3 t)
    ∗ owns (c : Thread nD τ) (bufsAt t).arg6 fullShare ((dats m 0 c).after 4 t))

theorem Phi_eq (c : Dev nD) (t : Fin cfg0.N) :
    (Pipeline.ΦD osem0 spec0 H0 (V m) c : sProp 𝕄)
      = iprop((Any c (bufsAt t).arg7 ∗ Any c (bufsAt t).arg8 ∗ Any c (bufsAt t).arg9 ∗ Any c (bufsAt t).arg10 ∗ Any c (bufsAt t).arg11 ∗ Any c (bufsAt t).arg12)
          ∗ (∃ r, prngReg c r) ∗ bigSep (Finset.range 24) (semV (F := F) (bufsAt t) c)
          ∗ holds (c : Thread nD τ) (bufsAt t).arg2 Finset.univ fullShare (insAt m c t).K
          ∗ holds (c : Thread nD τ) (bufsAt t).arg4 Finset.univ fullShare (insAt m c t).V) := by
  rw [Pipeline.ΦD_eq, scopedRest0_eq, ownSems0_range c t, hbm0_eq]
  have key : ∀ b : Ref sig .tc, (iprop(∃ f, ((c.tc : Thread nD τ).loc b) ↦{fullShare} f) : sProp 𝕄)
      = iprop(∃ X : b.ty.Contents (Elt F), holds (c : Thread nD τ) (Memref.whole b) Finset.univ fullShare X) := fun b =>
    congrArg _ (funext fun X => pt_holds c b X)
  rw [key, key, key, key, key, key]
  rw [pt_holds c main_v1, pt_holds c main_v3]
  rfl

theorem sound_body (h : LensOk m) (c : Dev nD) (t : Fin cfg0.N) :
    bodyPre m c t ⊢ wp frame (wpE (defs₀ (F := F)) Variants.none c none) Set.univ (bodyAt0 t) (fun _ => bodyPost m c t) := by
  unfold bodyPre bodyPost
  rw [bodyAt0_eq]
  rw [show (dats m 0 c).Φ t.succ = Pipeline.ΦD osem0 spec0 H0 (V m) c from rfl,
    show (dats m 0 c).Φ t.castSucc = Pipeline.ΦD osem0 spec0 H0 (V m) c from rfl, Phi_eq m c t]
  unfold Dat.owesAt Pipeline.owesWithin
  rw [show (dats m 0 c).owed t.castSucc = 0 from rfl, show (dats m 0 c).owed t.succ = 0 from rfl]
  simp only [before_0, before_1, before_2, before_3]
  rw [show (dats m 0 c).after 0 t = (insAt m c t).len from rfl, show (dats m 0 c).after 1 t = (arrAt' m c t).x from rfl,
    show (dats m 0 c).after 2 t = (arrAt' m c t).ks from rfl, show (dats m 0 c).after 3 t = (arrAt' m c t).vs from rfl,
    show (dats m 0 c).after 4 t = kernelOut (insAt m c t) (arrAt' m c t) from rfl,
    show iblk m c 0 t = (insAt m c t).len from rfl, show iblk m c 1 t = (arrAt' m c t).x from rfl,
    show iblk m c 2 t = (arrAt' m c t).ks from rfl, show iblk m c 3 t = (arrAt' m c t).vs from rfl]
  simp only [← holds_univ]
  iintro ⟨⟨⟨H7, H8, H9, H10, H11, H12⟩, Hg, Hs, H2, H4⟩, ⟨%W, -, HW⟩, ⟨%d0, H0⟩, ⟨%d1, H1⟩, ⟨%d2, H3⟩, ⟨%d3, H5⟩, ⟨%d4, H6⟩⟩
  iapply (wp_wand _ _ _) $$ [H0 H1 H2 H3 H4 H5 H6 H7 H8 H9 H10 H11 H12 Hs HW]
  · iapply (wp_whole (insAt m c t) (arrAt' m c t) (bufsAt t) c (ins_ok m h c t))
    isplitr [H6]
    · unfold Kept
      isplitl [H0]; · iexact H0
      isplitl [H1]; · iexact H1
      isplitl [H2]; · iexact H2
      isplitl [H3]; · iexact H3
      isplitl [H4]; · iexact H4
      isplitl [H5]; · iexact H5
      isplitl [H7]; · iexact H7
      isplitl [H8]; · iexact H8
      isplitl [H9]; · iexact H9
      isplitl [H10]; · iexact H10
      isplitl [H11]; · iexact H11
      isplitl [H12]; · iexact H12
      isplitl [Hs]; · iexact Hs
      unfold Owes; iexists W; iexact HW
    · unfold Any; iexists _; iexact H6
  unfold Kept Owes
  iintro %u ⟨⟨H0, H1, H2, H3, H4, H5, H7, H8, H9, H10, H11, H12, Hs, ⟨%W', HW⟩⟩, H6⟩
  isplitl [H7 H8 H9 H10 H11 H12 Hg Hs H2 H4]
  · isplitl [H7 H8 H9 H10 H11 H12]
    · isplitl [H7]; · iexact H7
      isplitl [H8]; · iexact H8
      isplitl [H9]; · iexact H9
      isplitl [H10]; · iexact H10
      isplitl [H11]; · iexact H11
      iexact H12
    isplitl [Hg]; · iexact Hg
    isplitl [Hs]; · iexact Hs
    isplitl [H2]; · iexact H2
    iexact H4
  isplitl [HW]
  · iexists W'; isplitr; · ipureintro; exact fun _ _ => Or.inl trivial
    iexact HW
  isplitl [H0]; · iexact H0
  isplitl [H1]; · iexact H1
  isplitl [H3]; · iexact H3
  isplitl [H5]; · iexact H5
  iexact H6

theorem defs₀_row (t : Fin cfg0.N) :
    defs₀ (F := F) .tc cfg0.body (cfg0.bodyArgs t (cfg0.slots t)) = bodyAt0 t := by
  unfold defs₀; rw [Defs.onTc_tc]

theorem body_obligation (h : LensOk m) (c : Dev nD) :
    BodyObligation (dats (F := F) m 0 c) (defs₀ (F := F)) Variants.none () Set.univ := fun t => by
  rw [bigSep_W0, bigSep_W0, defs₀_row]
  exact triple_restated (sound_body m h c t) rfl .rfl fun _ => .rfl

/-! ## The run and the frame -/

set_option backward.isDefEq.respectTransparency.types false in
theorem run_main (h : LensOk m) : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_dma_around (Q' := _) cfgs (dats m) (0 : Fin 1) launch0 osem0 defs₀ Variants.none ownSemFacts0 H0 H0_sub m ρ main
    (hbody := fun c => (body_obligation m h c).loose) (hshare := fun c => (dats m 0 c).share_full fun _ => rfl)
    (howed := fun _ _ => rfl) (V₀ := V0 m) (opss := [hostOps1]) (hsub := sfx_but) (hfresh := sfx_fresh) (hkeep := sfx_keeps)
    (hmain := hmainD m) (hA := A_eq m) (hin := fun _ => .rfl) (hout := fun _ => .rfl)

/-- The arguments end as launched, from the run's post. -/
theorem args_of (r : PUnit × MemSt nD τ sig (Elt F))
    (h : Pipeline.FramePost cfgs (dats m) 0 (Pipeline.afterTail₀ cfgs (dats m) 0 (V0 m) [hostOps1]) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  ⟨((h c).2 main_arg0 (Pipeline.mem_restRefs_of main_arg0 (by decide) (by decide))).trans ((W_keep m (dats m) c main_arg0 (by decide) (by decide)).trans (V_main_arg0 m c)),
   ((h c).2 main_arg1 (Pipeline.mem_restRefs_of main_arg1 (by decide) (by decide))).trans ((W_keep m (dats m) c main_arg1 (by decide) (by decide)).trans (V_main_arg1 m c)),
   ((h c).2 main_arg2 (Pipeline.mem_restRefs_of main_arg2 (by decide) (by decide))).trans ((W_keep m (dats m) c main_arg2 (by decide) (by decide)).trans (V_main_arg2 m c)),
   ((h c).2 main_arg3 (Pipeline.mem_restRefs_of main_arg3 (by decide) (by decide))).trans ((W_keep m (dats m) c main_arg3 (by decide) (by decide)).trans (V_main_arg3 m c)),
   ((h c).2 main_arg4 (Pipeline.mem_restRefs_of main_arg4 (by decide) (by decide))).trans ((W_keep m (dats m) c main_arg4 (by decide) (by decide)).trans (V_main_arg4 m c)),
   ((h c).1 0).trans (((dats m 0 c).arrAt_in 0 rfl _).trans ((A_eq m c 0).trans (V_main_arg5 m c)))⟩

/-- The frame: the program runs, its arguments end as launched, every counter ends at zero. -/
theorem frame_holds (hl : LensOk m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨args_of m r h.1, h.2⟩) (run_main m ρ hl)

end Cert.Proof.Kernel
-- ==== Proof.KernelIdeal.Whole.lean ====
/- The whole kernel function as a structured program: the ring cleared, the first transfers issued, the
   query rows filled in, the sequences one after another, and the output rows copied out. -/
module

public import proofs.«01_k».proof.Proof.KernelIdeal.Words

@[expose] public section

set_option maxRecDepth 65536
set_option pp.maxSteps 250

noncomputable section

namespace Cert.Proof.KernelIdeal

open Cert.KernelIdeal Cert.KernelIdeal.Gen
open Idealize.ShloMosaic Idealize.SL.Sem

variable {F : FTy → Type} [FloatOps F] (B : Bufs)

/-- Three binds nested to the left, nested to the right. -/
theorem bind_assoc3 {α β γ δ : Type} (p : Prog (TpuEff nD τ sig (Elt F) Λ₀ .tc) α)
    (f : α → Prog (TpuEff nD τ sig (Elt F) Λ₀ .tc) β) (g : β → Prog (TpuEff nD τ sig (Elt F) Λ₀ .tc) γ)
    (h : γ → Prog (TpuEff nD τ sig (Elt F) Λ₀ .tc) δ) :
    p >>= f >>= g >>= h = p >>= fun a => f a >>= g >>= h := by
  rw [Prog.bind_assoc, Prog.bind_assoc]
  exact congrArg (Prog.bind p) (funext fun a => (Prog.bind_assoc _ _ _).symm)

/-- A counted loop without trips returns what it was given. -/
theorem loop_zero {α : Type} {w : ℕ} (l : Scf.Loop w) (hok : l.OK) (h : l.trips = 0) (init : α)
    (body : Fin l.trips → α → Prog (TpuEff nD τ sig (Elt F) Λ₀ .tc) α) :
    Scf.Loop.for l hok init body = pure init := by
  have hl : List.finRange l.trips = [] := List.length_eq_zero_iff.1 (by simpa using h)
  show Scf.for l.lb l.ub l.st hok init body = _
  rw [Scf.for_eq]
  unfold Scf.forFrom
  simp [hl]

/-- The work on one sequence after its length is read. -/
def seqRest (v16 v41 : IVec S8x128 32) (t3 : Fin k0_t3_loop.trips) (len v2354 : Elt F .i32)
    (hw4 : k0_chk4 t3 v2354) :
    BitVec 32 × BitVec 32 × BitVec 32 × BitVec 32 × BitVec 32 →
    Prog (TpuEff nD τ sig (Elt F) Λ₀ .tc) (BitVec 32 × BitVec 32 × BitVec 32 × BitVec 32 × BitVec 32) :=
  fun (b, k, c, sl, slot) => do
    let q : Vec F S32x128 .f32 ← Prog.lift (.load B.arg8 (Rect.unit (s := S2048x128) (k0_off10 t3)
      S32x128.size (k0_off10_inb t3)).toLoadRect (View.loadsAt_vmem h_S32x128))
    let s : Vec F S1x4x128 .f32 ← Prog.lift (.load B.arg3 (Rect.unit (s := S64x4x128) (k0_off11 t3)
      S1x4x128.size (k0_off11_inb t3)).toLoadRect (View.loadsAt_vmem h_S1x4x128))
    let _ : Vec F S128x128 .f32 ← Prog.lift (.load B.arg11 (Rect.unit (s := S128x128) ![0, 0]
      S128x128.size inb_S128x128_S128x128_0_0).toLoadRect (View.loadsAt_vmem h_S128x128))
    Prog.lift (.store B.arg11 (Rect.unit (s := S128x128) ![0, 0] S128x128.size
      inb_S128x128_S128x128_0_0) (k0_pay451 s) Finset.univ
      (View.stores_vmem_bits_univ h_S128x128 rfl) (.inl rfl))
    let s' : Vec F S1x4x128 .f32 ← Prog.lift (.load B.arg5 (Rect.unit (s := S64x4x128) (k0_off11 t3)
      S1x4x128.size (k0_off11_inb t3)).toLoadRect (View.loadsAt_vmem h_S1x4x128))
    let _ : Vec F S128x128 .f32 ← Prog.lift (.load B.arg12 (Rect.unit (s := S128x128) ![0, 0]
      S128x128.size inb_S128x128_S128x128_0_0).toLoadRect (View.loadsAt_vmem h_S128x128))
    Prog.lift (.store B.arg12 (Rect.unit (s := S128x128) ![0, 0] S128x128.size
      inb_S128x128_S128x128_0_0) (k0_pay452 s') Finset.univ
      (View.stores_vmem_bits_univ h_S128x128 rfl) (.inl rfl))
    let (b1, k1, c1, sl1, slot1, m) ← Scf.Loop.for (k0_t4_loop v2354) (k0_t4_ok t3 v2354 hw4)
      (b, k, c, sl, slot, k0_pay453 (F := F)) (kTrip B v16 v41 t3 len v2354 hw4 (k0_pay450 q))
    let l : FVec F S8x128 .f32 ← Scf.Loop.for (k0_t6_loop v2354) (k0_t6_ok t3 v2354 hw4)
      (k0_pay460 (F := F)) (expTrip B t3 v2354 hw4 (k0_pay459 (k0_pay458 m)))
    let (b2, k2, c2, sl2, slot2, acc) ← Scf.Loop.for (k0_t8_loop v2354) (k0_t8_ok t3 v2354 hw4)
      (b1, k1, c1, sl1, slot1, k0_pay466 (F := F)) (vTrip B v16 t3 v2354 hw4 (k0_pay465 l))
    let _ : Vec F S32x128 .f32 ← Prog.lift (.load B.arg9 (Rect.unit (s := S2048x128) (k0_off126 t3)
      S32x128.size (k0_off126_inb t3)).toLoadRect (View.loadsAt_vmem h_S32x128))
    Prog.lift (.store B.arg9 (Rect.unit (s := S2048x128) (k0_off126 t3) S32x128.size
      (k0_off126_inb t3)) (k0_pay755 (k0_pay469 acc)) Finset.univ
      (View.stores_vmem_bits_univ h_S32x128 rfl) (.inl rfl))
    pure (b2, k2, c2, sl2, slot2)

/-- The same work as printed. -/
def seqTail (v16 v41 : IVec S8x128 32) (t3 : Fin k0_t3_loop.trips) (len v2354 : Elt F .i32)
    (hw4 : k0_chk4 t3 v2354) (a14 x y : BitVec 32) :
    BitVec 32 × BitVec 32 × BitVec 32 × BitVec 32 × BitVec 32 →
    Prog (TpuEff nD τ sig (Elt F) Λ₀ .tc) (BitVec 32 × BitVec 32 × BitVec 32 × BitVec 32 × BitVec 32) :=
  fun (b, k, c, sl, slot) => do
    let ⟨b1, k1, c1, sl1, slot1, m⟩ ← k0_part115 (F := F) B.arg0 B.harg0 B.arg1 B.harg1 B.arg2 B.harg2 B.arg3 B.harg3 B.arg4 B.harg4 B.arg5 B.harg5 B.arg6 B.harg6 B.arg7 B.harg7 B.arg8 B.harg8 B.arg9 B.harg9 B.arg10 B.harg10 B.arg11 B.harg11 B.arg12 B.harg12 B.arg13
      v16 v41 t3 b k c sl slot a14 len v2354 hw4 x y
    let ⟨b2, k2, c2, sl2, slot2, acc, _⟩ ← k0_part116 (F := F) B.arg0 B.harg0 B.arg1 B.harg1 B.arg2 B.harg2 B.arg3 B.harg3 B.arg4 B.harg4 B.arg5 B.harg5 B.arg6 B.harg6 B.arg7 B.harg7 B.arg8 B.harg8 B.arg9 B.harg9 B.arg10 B.harg10 B.arg11 B.harg11 B.arg12 B.harg12 B.arg13
      v16 t3 a14 v2354 hw4 x y b1 k1 c1 sl1 slot1 m
    let _ : Vec F S32x128 .f32 ← Prog.lift (.load B.arg9 (Rect.unit (s := S2048x128) (k0_off126 t3)
      S32x128.size (k0_off126_inb t3)).toLoadRect (View.loadsAt_vmem h_S32x128))
    Prog.lift (.store B.arg9 (Rect.unit (s := S2048x128) (k0_off126 t3) S32x128.size
      (k0_off126_inb t3)) (k0_pay755 acc) Finset.univ
      (View.stores_vmem_bits_univ h_S32x128 rfl) (.inl rfl))
    pure (b2, k2, c2, sl2, slot2)

set_option maxHeartbeats 0 in
theorem seqTail_eq (v16 v41 : IVec S8x128 32) (t3 : Fin k0_t3_loop.trips) (len v2354 : Elt F .i32)
    (hw4 : k0_chk4 t3 v2354) (a14 x y b k c sl slot : BitVec 32) :
    seqTail B v16 v41 t3 len v2354 hw4 a14 x y (b, k, c, sl, slot)
      = seqRest B v16 v41 t3 len v2354 hw4 (b, k, c, sl, slot) := by
  unfold seqTail
  simp only [k0_part115_eq_skeleton, k0_part116_eq_skeleton]
  repeat refine congrArg (Prog.op _) (funext fun x0 => ?_)
  refine Eq.trans (Prog.bind_assoc (Scf.Loop.for (k0_t4_loop v2354) (k0_t4_ok t3 v2354 hw4)
    (b, k, c, sl, slot, k0_pay453 (F := F)) _) _ _) ?_
  refine congr (congrArg Prog.bind (congrArg (Scf.Loop.for (k0_t4_loop v2354) _ _) ?_)) (funext fun s1 => ?_)
  · funext t4 s
    obtain ⟨b1, k1, c1, sl1, slot1, m⟩ := s
    exact kTrip_eq B ..
  obtain ⟨b1, k1, c1, sl1, slot1, m⟩ := s1
  refine Eq.trans (Prog.bind_assoc _ _ _) ?_
  refine Eq.trans (congrArg (fun z => Prog.bind z _) (loop_zero _ _ (t5_trips v2354) _ _)) ?_
  refine Eq.trans (Prog.bind_assoc _ _ _) ?_
  refine congr (congrArg Prog.bind (congrArg (Scf.Loop.for (k0_t6_loop v2354) _ _) ?_)) (funext fun l => ?_)
  · funext t6 s
    exact expTrip_eq B ..
  refine Eq.trans (Prog.bind_assoc _ _ _) ?_
  refine Eq.trans (congrArg (fun z => Prog.bind z _) (loop_zero _ _ (t7_trips v2354) _ _)) ?_
  refine Eq.trans (Prog.bind_assoc _ _ _) ?_
  refine congr (congrArg Prog.bind (congrArg (Scf.Loop.for (k0_t8_loop v2354) _ _) ?_)) (funext fun s1 => ?_)
  · funext t8 s
    obtain ⟨b1, k1, c1, sl1, slot1, m⟩ := s
    exact vTrip_eq B ..
  obtain ⟨b2, k2, c2, sl2, slot2, acc⟩ := s1
  refine Eq.trans (Prog.bind_assoc _ _ _) ?_
  refine Eq.trans (congrArg (fun z => Prog.bind z _) (loop_zero _ _ (t9_trips v2354) _ _)) ?_
  rfl

/-- One sequence: its length is read, and the work done. -/
def seqS (v16 v41 : IVec S8x128 32) :
    Fin k0_t3_loop.trips → BitVec 32 × BitVec 32 × BitVec 32 × BitVec 32 × BitVec 32 →
    Prog (TpuEff nD τ sig (Elt F) Λ₀ .tc) (BitVec 32 × BitVec 32 × BitVec 32 × BitVec 32 × BitVec 32) :=
  fun t3 s => do
    let len : Elt F .i32 ← smemLoad B.arg0 (Rect.unit (s := S64) (k0_off9 t3) S1.size (k0_off9_inb t3))
      numel1_S1 rfl
    let v2354 : Elt F .i32 ← smemLoad B.arg0 (Rect.unit (s := S64) (k0_off9 t3) S1.size (k0_off9_inb t3))
      numel1_S1 rfl
    have hw4 : k0_chk4 t3 v2354 :=
      (← Prog.lift (TpuEff.assume (k0_chk4 t3 v2354) (k0_chk4.dec t3 v2354))).down
    seqRest B v16 v41 t3 len v2354 hw4 s

set_option maxHeartbeats 0 in
theorem seqS_eq (v16 v41 : IVec S8x128 32) (a b c d : BitVec 32) (v : FVec F S8x128 .f32)
    (t3 : Fin k0_t3_loop.trips) (s : BitVec 32 × BitVec 32 × BitVec 32 × BitVec 32 × BitVec 32) :
    k0_t3_body (F := F) B.arg0 B.harg0 B.arg1 B.harg1 B.arg2 B.harg2 B.arg3 B.harg3 B.arg4 B.harg4 B.arg5 B.harg5 B.arg6 B.harg6 B.arg7 B.harg7 B.arg8 B.harg8 B.arg9 B.harg9 B.arg10 B.harg10 B.arg11 B.harg11 B.arg12 B.harg12 B.arg13
      v16 v41 a b c d v t3 s = seqS B v16 v41 t3 s := by
  obtain ⟨b1, k1, c1, sl1, slot1⟩ := s
  refine congrArg (Prog.op _) (funext fun len => ?_)
  refine congrArg (Prog.op _) (funext fun len2 => ?_)
  refine congrArg (Prog.op _) (funext fun hw4 => ?_)
  exact seqTail_eq B v16 v41 t3 _ _ hw4.down (Scf.iv 0#32 1#32 t3) (nbW _) (ncW (nbW _)) b1 k1 c1 sl1 slot1

/-- Rows of the block of query rows or output rows number `i`. -/
theorem inb_x {i : ℕ} (h : i < 256) :
    ∀ a, (![8 * (i / 32), 128 * (i % 32)] : Fin 2 → ℕ) a + S8x128.size a ≤ S64x4096.size a := by
  intro a
  fin_cases a
  · show 8 * (i / 32) + 8 ≤ 64
    omega
  · show 128 * (i % 32) + 128 ≤ 4096
    omega

/-- The strided rows of the block number `i`. -/
theorem inb_q {i : ℕ} (h : i < 256) :
    ∀ a, S8x128.size a = 0 ∨ (![256 * (i / 32) + i % 32, 0] : Fin 2 → ℕ) a + (![32, 1] : Fin 2 → ℕ) a * (S8x128.size a - 1)
      < S2048x128.size a := by
  intro a
  right
  fin_cases a
  · show 256 * (i / 32) + i % 32 + 32 * (8 - 1) < 2048
    omega
  · show 0 + 1 * (128 - 1) < 128
    omega

/-- The strided rows of the block number `i`. -/
def rowsQ (i : ℕ) (h : i < 256) : LoadRect S2048x128 :=
  ⟨![256 * (i / 32) + i % 32, 0], S8x128.size, ![32, 1], inb_q h⟩

/-- One step of the fill: a block of query rows is widened and spread over its strided rows. -/
def fillStep (i : ℕ) (h : i < 256) : Prog (TpuEff nD τ sig (Elt F) Λ₀ .tc) PUnit := do
  let x : Vec F S8x128 .bf16 ← Prog.lift (.load B.arg1 (Rect.unit (s := S64x4096)
    ![8 * (i / 32), 128 * (i % 32)] S8x128.size (inb_x h)).toLoadRect (View.loadsAt_vmem h_S8x128))
  let _ : Vec F S8x128 .f32 ← Prog.lift (.load B.arg8 (rowsQ i h) (View.loadsAt_vmem h_S8x128))
  Prog.lift (.store B.arg8 ⟨rowsQ i h, spos_32_1⟩ (k0_pay473 x) Finset.univ
    (View.stores_vmem_bits_univ h_S8x128 rfl) (.inl rfl))

/-- The fill of the query rows from block `i` on. -/
def fills : (n i : ℕ) → i + n ≤ 256 → Prog (TpuEff nD τ sig (Elt F) Λ₀ .tc) PUnit
  | 0, _, _ => pure ⟨⟩
  | n + 1, i, h => fillStep B i (by omega) >>= fun _ => fills n (i + 1) (by omega)

/-- A block of output rows starts at an even row. -/
theorem packed_o {i : ℕ} (h : i < 256) :
    Rect.PackedRows (EltTy.packing .bf16) (Rect.unit (s := S64x4096)
      ![8 * (i / 32), 128 * (i % 32)] S8x128.size (inb_x h)) := by
  refine Or.inr ⟨by decide, rfl, Or.inl ⟨?_, ?_⟩⟩
  · show 2 ∣ 8 * (i / 32)
    omega
  · show 2 ∣ 8
    decide

/-- One step of the copy out: the strided rows of a block are rounded and stored. -/
def outStep (i : ℕ) (h : i < 256) : Prog (TpuEff nD τ sig (Elt F) Λ₀ .tc) PUnit := do
  let x : Vec F S8x128 .f32 ← Prog.lift (.load B.arg9 (rowsQ i h) (View.loadsAt_vmem h_S8x128))
  let _ : Vec F S8x128 .bf16 ← Prog.lift (.load B.arg6 (Rect.unit (s := S64x4096)
    ![8 * (i / 32), 128 * (i % 32)] S8x128.size (inb_x h)).toLoadRect (View.loadsAt_vmem h_S8x128))
  Prog.lift (.store B.arg6 (Rect.unit (s := S64x4096) ![8 * (i / 32), 128 * (i % 32)] S8x128.size (inb_x h))
    (k0_pay1 x) Finset.univ
    (View.stores_vmem h_S8x128 (B.harg6.storeExact_slice rfl _ (packed_o h)) (fun _ => rfl)) (.inl rfl))

/-- The copy out of the output rows from block `i` on. -/
def outs : (n i : ℕ) → i + n ≤ 256 → Prog (TpuEff nD τ sig (Elt F) Λ₀ .tc) PUnit
  | 0, _, _ => pure ⟨⟩
  | n + 1, i, h => outStep B i (by omega) >>= fun _ => outs n (i + 1) (by omega)

/-- One trip of the loop that clears the ring. -/
def clearS (t1 : Fin k0_t1_loop.trips) (_ : Unit) : Prog (TpuEff nD τ sig (Elt F) Λ₀ .tc) Unit := do
  let _ : Vec F S1x16x256x128 .fp8e4m3 ← Prog.lift (.load B.arg7 (Rect.unit (s := S24x16x256x128)
    (k0_off1 t1) S1x16x256x128.size (k0_off1_inb t1)).toLoadRect (View.loadsAt_vmem h_S1x16x256x128))
  Prog.lift (.store B.arg7 (Rect.unit (s := S24x16x256x128) (k0_off1 t1) S1x16x256x128.size (k0_off1_inb t1))
    (k0_pay472 (F := F)) Finset.univ (View.stores_vmem h_S1x16x256x128
      (B.harg7.storeExact_slice rfl _ (k0_off1_packedfp8e4m3 t1)) (fun _ => rfl)) (.inl rfl))

/-- One trip of the loop that issues the first transfers. -/
def initS (_ : Fin k0_t2_loop.trips) :
    BitVec 32 × BitVec 32 × BitVec 32 × BitVec 32 →
    Prog (TpuEff nD τ sig (Elt F) Λ₀ .tc) (BitVec 32 × BitVec 32 × BitVec 32 × BitVec 32) :=
  fun (b, k, c, sl) => do
    have hw2 : k0_chk2 b k sl := (← Prog.lift (TpuEff.assume (k0_chk2 b k sl) (k0_chk2.dec b k sl))).down
    have hw1 : k0_chk1 b := (← Prog.lift (TpuEff.assume (k0_chk1 b) (k0_chk1.dec b))).down
    issue B b k c sl hw2 hw1

/-- The query rows filled in, the sequences, the output rows copied out. -/
def wholeTail (L : BitVec 32 × BitVec 32 × BitVec 32 × BitVec 32 × BitVec 32 →
      Prog (TpuEff nD τ sig (Elt F) Λ₀ .tc) (BitVec 32 × BitVec 32 × BitVec 32 × BitVec 32 × BitVec 32))
    (s : BitVec 32 × BitVec 32 × BitVec 32 × BitVec 32 × BitVec 32) :
    Prog (TpuEff nD τ sig (Elt F) Λ₀ .tc) PUnit := do
  fills B 256 0 (by omega)
  let _ ← L s
  outs B 256 0 (by omega)

/-- The whole kernel function. -/
def wholeS : Prog (TpuEff nD τ sig (Elt F) Λ₀ .tc) PUnit := do
  Scf.Loop.for k0_t1_loop k0_t1_ok ⟨⟩ (clearS B)
  let (b, k, c, sl) ← Scf.Loop.for k0_t2_loop k0_t2_ok (0#32, 0#32, 0#32, 0#32) (initS B)
  wholeTail B (fun s => Scf.Loop.for k0_t3_loop k0_t3_ok s (seqS B k0_pay470 k0_pay471)) (b, k, c, sl, 0#32)

set_option maxHeartbeats 0 in
theorem initS_eq (t2 : Fin k0_t2_loop.trips) (b k c sl : BitVec 32) :
    k0_t2_body (F := F) B.arg0 B.harg0 B.arg1 B.harg1 B.arg2 B.harg2 B.arg3 B.harg3 B.arg4 B.harg4 B.arg5 B.harg5 B.arg6 B.harg6 B.arg7 B.harg7 B.arg8 B.harg8 B.arg9 B.harg9 B.arg10 B.harg10 B.arg11 B.harg11 B.arg12 B.harg12 B.arg13
      t2 (b, k, c, sl) = initS B t2 (b, k, c, sl) := by
  refine congrArg (Prog.op _) (funext fun hw2 => ?_)
  refine congrArg (Prog.op _) (funext fun hw1 => ?_)
  by_cases h : k0_cond1 b = 1#1
  · refine (dif_pos h).trans ?_
    refine Eq.trans ?_ (dif_pos h : issue B b k c sl _ _ = _).symm
    refine congrArg (Prog.bind _) (funext fun x => ?_)
    obtain ⟨x1, x2, x3, x4⟩ := x
    rfl
  · refine (dif_neg h).trans ?_
    refine Eq.trans ?_ (dif_neg h : issue B b k c sl _ _ = _).symm
    rfl

/-- The last query rows, the sequences, and the first output rows. -/
def midS (L : BitVec 32 × BitVec 32 × BitVec 32 × BitVec 32 × BitVec 32 →
      Prog (TpuEff nD τ sig (Elt F) Λ₀ .tc) (BitVec 32 × BitVec 32 × BitVec 32 × BitVec 32 × BitVec 32))
    (s : BitVec 32 × BitVec 32 × BitVec 32 × BitVec 32 × BitVec 32) (v : FVec F S8x128 .f32) :
    Prog (TpuEff nD τ sig (Elt F) Λ₀ .tc) (FVec F S8x128 .bf16) := do
  let _ : Vec F S8x128 .f32 ← Prog.lift (.load B.arg8 (rowsQ 255 (by omega)) (View.loadsAt_vmem h_S8x128))
  Prog.lift (.store B.arg8 ⟨rowsQ 255 (by omega), spos_32_1⟩ (k0_pay754 v) Finset.univ
    (View.stores_vmem_bits_univ h_S8x128 rfl) (.inl rfl))
  let _ ← L s
  outStep B 0 (by omega)
  outStep B 1 (by omega)
  outStep B 2 (by omega)
  outStep B 3 (by omega)
  outStep B 4 (by omega)
  let x : Vec F S8x128 .f32 ← Prog.lift (.load B.arg9 (rowsQ 5 (by omega)) (View.loadsAt_vmem h_S8x128))
  let _ : Vec F S8x128 .bf16 ← Prog.lift (.load B.arg6 (Rect.unit (s := S64x4096)
    ![8 * (5 / 32), 128 * (5 % 32)] S8x128.size (inb_x (i := 5) (by omega))).toLoadRect (View.loadsAt_vmem h_S8x128))
  pure (k0_pay1 x)

set_option maxHeartbeats 0 in
theorem midS_eq (v16 v41 : IVec S8x128 32) (a b c d : BitVec 32) (v : FVec F S8x128 .f32) :
    k0_part165 (F := F) B.arg0 B.harg0 B.arg1 B.harg1 B.arg2 B.harg2 B.arg3 B.harg3 B.arg4 B.harg4 B.arg5 B.harg5 B.arg6 B.harg6 B.arg7 B.harg7 B.arg8 B.harg8 B.arg9 B.harg9 B.arg10 B.harg10 B.arg11 B.harg11 B.arg12 B.harg12 B.arg13
      v16 v41 a b c d v
      = midS B (fun s => Scf.Loop.for k0_t3_loop k0_t3_ok s (seqS B v16 v41)) (a, b, c, d, 0#32) v := by
  have hb : k0_t3_body (F := F) B.arg0 B.harg0 B.arg1 B.harg1 B.arg2 B.harg2 B.arg3 B.harg3 B.arg4 B.harg4 B.arg5 B.harg5 B.arg6 B.harg6 B.arg7 B.harg7 B.arg8 B.harg8 B.arg9 B.harg9 B.arg10 B.harg10 B.arg11 B.harg11 B.arg12 B.harg12 B.arg13
      v16 v41 a b c d v = seqS (F := F) B v16 v41 :=
    funext fun t3 => funext fun s => seqS_eq B v16 v41 a b c d v t3 s
  rw [k0_part165_eq_skeleton]
  unfold k0_part165_skel midS
  rw [hb]
  dsimp only
  generalize Scf.Loop.for k0_t3_loop k0_t3_ok (a, b, c, d, 0#32) (seqS (F := F) B v16 v41) = L
  refine congrArg (Prog.op _) (funext fun x0 => ?_)
  refine congrArg (Prog.op _) (funext fun x0 => ?_)
  refine congrArg (Prog.bind L) (funext fun s => ?_)
  obtain ⟨s1, s2, s3, s4, s5⟩ := s
  rfl

set_option maxHeartbeats 0 in
/-- The printed kernel function is the structured one. -/
theorem whole_eq :
    cc0_cross_attn_decode (F := F) B.arg0 B.harg0 B.arg1 B.harg1 B.arg2 B.harg2 B.arg3 B.harg3 B.arg4 B.harg4 B.arg5 B.harg5 B.arg6 B.harg6 B.arg7 B.harg7 B.arg8 B.harg8 B.arg9 B.harg9 B.arg10 B.harg10 B.arg11 B.harg11 B.arg12 B.harg12 B.arg13
      = wholeS B := by
  rw [cc0_cross_attn_decode_eq_skeleton]
  unfold cc0_cross_attn_decode_skel
  refine Eq.trans (Prog.bind_assoc (k0_part117 (F := F) B.arg0 B.harg0 B.arg1 B.harg1 B.arg2 B.harg2 B.arg3 B.harg3 B.arg4 B.harg4 B.arg5 B.harg5 B.arg6 B.harg6 B.arg7 B.harg7 B.arg8 B.harg8 B.arg9 B.harg9 B.arg10 B.harg10 B.arg11 B.harg11 B.arg12 B.harg12 B.arg13) _ _) ?_
  rw [k0_part117_eq_skeleton]
  refine Eq.trans (Prog.bind_assoc _ _ _) ?_
  refine congr (congrArg Prog.bind (congrArg (Scf.Loop.for k0_t1_loop _ _) ?_)) (funext fun s1 => ?_)
  · rfl
  refine Eq.trans (Prog.bind_assoc (k0_part118 (F := F) B.arg0 B.harg0 B.arg1 B.harg1 B.arg2 B.harg2 B.arg3 B.harg3 B.arg4 B.harg4 B.arg5 B.harg5 B.arg6 B.harg6 B.arg7 B.harg7 B.arg8 B.harg8 B.arg9 B.harg9 B.arg10 B.harg10 B.arg11 B.harg11 B.arg12 B.harg12 B.arg13) _ _) ?_
  rw [k0_part118_eq_skeleton]
  refine Eq.trans (Prog.bind_assoc _ _ _) ?_
  refine congr (congrArg Prog.bind (congrArg (Scf.Loop.for k0_t2_loop _ _) ?_)) (funext fun s1 => ?_)
  · funext t2 s
    obtain ⟨b, k, c, sl⟩ := s
    exact initS_eq B ..
  obtain ⟨b, k, c, sl⟩ := s1
  simp only [midS_eq]
  unfold wholeTail
  generalize (fun s => Scf.Loop.for k0_t3_loop k0_t3_ok s (seqS B (F := F) k0_pay470 k0_pay471)) = L
  iterate 768 refine congrArg (Prog.op _) (funext fun x0 => ?_)
  refine Eq.trans (bind_assoc3 (L (b, k, c, sl, 0#32)) _ _ _) ?_
  refine congrArg (Prog.bind (L (b, k, c, sl, 0#32))) (funext fun s => ?_)
  iterate 768 refine congrArg (Prog.op _) (funext fun x0 => ?_)
  rfl

end Cert.Proof.KernelIdeal
-- ==== Proof.KernelIdeal.Ring.lean ====
/- The ring of twenty-four chunk slots: what each transfer brings, what a slot holds, and the rule of one
   transfer into a slot. -/
module

public import proofs.«01_k».proof.Proof.KernelIdeal.Whole
public import proofs.«01_k».proof.Proof.Rules
public import proofs.«01_k».proof.Proof.Sched
public import Idealize.ShloMosaic.Lib.Transfers
public import Idealize.ShloMosaic.Lib.ShareLeaves

@[expose] public section

set_option maxRecDepth 65536

noncomputable section

namespace Cert.Proof.KernelIdeal

open Cert.KernelIdeal Cert.KernelIdeal.Gen Cert.Proof.Rules Cert.Proof.Sched
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-! ### Contents -/

/-- The contents of a slot: sixteen blocks of keys or values. -/
abbrev Tile (F : FTy → Type) := Fin 16 → Fin 256 → Fin 128 → Elt F .fp8e4m3

/-- An index of a cache. -/
def idx4 (a : Fin 64) (b : Fin 128) (x : Fin 256) (y : Fin 128) : S64x128x256x128.Idx
  | 0 => a
  | 1 => b
  | 2 => x
  | 3 => y

/-- Block `row` of sequence `b` of a cache. -/
def rowAt (C : S64x128x256x128.Idx → Elt F .fp8e4m3) (b row : ℕ) (x : Fin 256) (y : Fin 128) : Elt F .fp8e4m3 :=
  C (idx4 (Fin.ofNat 64 b) (Fin.ofNat 128 row) x y)

/-- The slot after the rows of a chunk are laid over it. -/
def laid (C : S64x128x256x128.Idx → Elt F .fp8e4m3) (b c n : ℕ) (T : Tile F) : Tile F :=
  fun r x y => if r.val < n then rowAt C b (16 * c + r.val) x y else T r x y

/-- What the kernel reads: the lengths and the two caches. -/
structure Ins (F : FTy → Type) where
  len : S64.Idx → Elt F .i32
  K : S64x128x256x128.Idx → Elt F .fp8e4m3
  V : S64x128x256x128.Idx → Elt F .fp8e4m3

/-- The index of the length of sequence `b`. -/
def idx1 (b : ℕ) : S64.Idx
  | 0 => Fin.ofNat 64 b

variable (I : Ins F)

/-- The length of sequence `b`. -/
def Ins.L (b : ℕ) : BitVec 32 := I.len (idx1 b)
/-- The chunks of sequence `b`. -/
def Ins.NC (b : ℕ) : ℕ := ncN (I.L b).toNat
/-- The transfer number `j`. -/
def Ins.st (j : ℕ) : St := Sched.st I.NC j
/-- The lengths are in range. -/
def Ins.Ok : Prop := ∀ i, InLen (I.len i)

theorem Ins.Ok.NC_pos {I : Ins F} (h : I.Ok) : ∀ b < 64, 1 ≤ I.NC b := fun b _ => ncN_pos (h _).1

/-- A slot after the transfer number `j` on top of what it held. -/
def Ins.land (j : ℕ) (T : Tile F) : Tile F :=
  if (I.st j).1 < 64 then
    laid (if (I.st j).2.1 = 0 then I.K else I.V) (I.st j).1 (I.st j).2.2
      (nN (I.L (I.st j).1).toNat (I.st j).2.2) T
  else T

/-- A cleared slot. -/
def zeroTile : Tile F := fun r x y => k0_pay472 (F := F) fun | 0 => ⟨0, Nat.one_pos⟩ | 1 => r | 2 => x | 3 => y

/-- What slot `s` holds before its use number `k`. -/
def Ins.before (s : ℕ) : ℕ → Tile F
  | 0 => zeroTile
  | k + 1 => I.land (24 * k + s) (Ins.before s k)

/-- What its slot holds before the transfer number `j`, -/
def Ins.ringBefore (j : ℕ) : Tile F := I.before (j % 24) (j / 24)
/-- and after it. -/
def Ins.ringVal (j : ℕ) : Tile F := I.land j (I.ringBefore j)

theorem Ins.ringBefore_add (j : ℕ) : I.ringBefore (j + 24) = I.ringVal j := by
  unfold Ins.ringBefore Ins.ringVal
  rw [show (j + 24) % 24 = j % 24 by omega, show (j + 24) / 24 = j / 24 + 1 by omega]
  show I.land (24 * (j / 24) + j % 24) _ = _
  rw [Nat.div_add_mod]
  rfl

/-! ### Slots -/

variable (B : Bufs) (c : Dev nD)

/-- The indices of slot `s`. -/
def slotSet (s : ℕ) : Finset S24x16x256x128.Idx := Finset.univ.filter fun i => (i 0).val = s

/-- A tile at an index of the ring. -/
def atIdx (T : Tile F) (i : S24x16x256x128.Idx) : Elt F .fp8e4m3 := T (i 1) (i 2) (i 3)

/-- Slot `s` held, with the contents `T`. -/
def slotHolds (s : ℕ) (T : Tile F) : sProp 𝕄 :=
  holds (c : Thread nD τ) B.arg7 (slotSet s) fullShare (atIdx T)

/-- The transfers' semaphore of slot `s`. -/
def semAt (s : ℕ) (h : s < 24) : DmaSem sig :=
  ((B.arg13.slice (Rect.unit (s := S24) ![s] S1.size (by
    intro a; fin_cases a; show s + 1 ≤ 24; omega))).squeeze S_ squeezes_S1_S_).sem

/-- The rectangle of the first `n` rows of slot `s`. -/
abbrev ringRect (s n : ℕ) (h : ∀ a, (![1, n, 256, 128] : Fin 4 → ℕ) a = 0 ∨
    (![s, 0, 0, 0] : Fin 4 → ℕ) a + (![1, n, 256, 128] : Fin 4 → ℕ) a ≤ S24x16x256x128.size a) : Rect S24x16x256x128 :=
  Rect.unitDyn (s := S24x16x256x128) ![s, 0, 0, 0] ![1, n, 256, 128] h

/-- The rectangle of `n` rows of a sequence of a cache from row `o` on. -/
abbrev hbmRect (b o n : ℕ) (h : ∀ a, (![1, n, 256, 128] : Fin 4 → ℕ) a = 0 ∨
    (![b, o, 0, 0] : Fin 4 → ℕ) a + (![1, n, 256, 128] : Fin 4 → ℕ) a ≤ S64x128x256x128.size a) : Rect S64x128x256x128 :=
  Rect.unitDyn (s := S64x128x256x128) ![b, o, 0, 0] ![1, n, 256, 128] h

/-- What a chunk's transfer credits. -/
def credit (n : ℕ) : ℕ := B.arg7.view.ref.dmaCredit (⟨3, ![n, 256, 128]⟩ : Shape) .fp8e4m3

/-- What is written under the rectangle of a slot and what is not. -/
theorem landed_read (f : (B.arg7.view).ty.Contents (Elt F)) (M : Memref sig .tc .hbm S64x128x256x128 .fp8e4m3)
    (g : (M.view).ty.Contents (Elt F)) {s b cc n : ℕ} (hR) (hH) (hq : (⟨4, ![1, n, 256, 128]⟩ : Shape).Squeezes ⟨3, ![n, 256, 128]⟩)
    (T : Tile F) (C : S64x128x256x128.Idx → Elt F .fp8e4m3)
    (hT : ∀ i ∈ slotSet s, B.arg7.view.read (Elt F) f i = atIdx T i)
    (hC : ∀ i, M.view.read (Elt F) g i = C i) (hb : b < 64) (hcc : 16 * cc + n ≤ 128) :
    ∀ i ∈ slotSet s, B.arg7.view.read (Elt F)
      ((((B.arg7.slice (ringRect s n hR) (fun _ => rfl)).squeeze (⟨3, ![n, 256, 128]⟩ : Shape) hq).view).write (Elt F) f
        ((((M.slice (hbmRect b (16 * cc) n hH) (fun _ => rfl)).squeeze (⟨3, ![n, 256, 128]⟩ : Shape) hq).view).read (Elt F) g)
        Finset.univ) i = atIdx (laid C b cc n T) i := by
  intro i hi
  have hi0 : (i 0).val = s := (Finset.mem_filter.mp hi).2
  by_cases hn : (i 1).val < n
  · have hmem : i ∈ (ringRect s n hR).set := by
      rw [Rect.mem_set_unitDyn]
      intro a
      fin_cases a
      · show s ≤ (i 0).val ∧ (i 0).val < s + 1
        omega
      · show 0 ≤ (i 1).val ∧ (i 1).val < 0 + n
        omega
      · show 0 ≤ (i 2).val ∧ (i 2).val < 0 + 256
        exact ⟨Nat.zero_le _, by have := (i 2).isLt; change (i 2).val < 256 at this; omega⟩
      · show 0 ≤ (i 3).val ∧ (i 3).val < 0 + 128
        exact ⟨Nat.zero_le _, by have := (i 3).isLt; change (i 3).val < 128 at this; omega⟩
    obtain ⟨j, hj⟩ := (ringRect s n hR).exists_idx_of_mem hmem
    have hj' : (ringRect s n hR).emb j = i := hj
    let y := (Shape.reshapeEquiv hq.numel_eq).symm j
    have hy : Shape.reshapeEquiv hq.numel_eq y = j := Equiv.apply_symm_apply _ _
    have he : B.arg7.view.emb i = (((B.arg7.slice (ringRect s n hR) (fun _ => rfl)).squeeze (⟨3, ![n, 256, 128]⟩ : Shape) hq).view).emb y := by
      rw [← hj', ← hy]; rfl
    rw [View.read_apply, he]
    refine (View.read_write_of_mem (v := ((B.arg7.slice (ringRect s n hR) (fun _ => rfl)).squeeze (⟨3, ![n, 256, 128]⟩ : Shape) hq).view)
      f _ (Finset.mem_univ y)).trans ?_
    have h2 : (((M.slice (hbmRect b (16 * cc) n hH) (fun _ => rfl)).squeeze (⟨3, ![n, 256, 128]⟩ : Shape) hq).view).read (Elt F) g y
        = M.view.read (Elt F) g ((hbmRect b (16 * cc) n hH).emb j) := by
      rw [← hy]; rfl
    rw [h2, hC]
    unfold atIdx laid rowAt
    rw [if_pos hn]
    refine congrArg C (funext fun a => Fin.ext ?_)
    have h0 : (j 0).val = 0 := by have := (j 0).isLt; change (j 0).val < 1 at this; omega
    have hv : ∀ a, (i a).val = (![s, 0, 0, 0] : Fin 4 → ℕ) a + 1 * (j a).val := fun a => by rw [← hj]; rfl
    fin_cases a
    · show b + 1 * (j 0).val = b % 64
      omega
    · have := hv 1
      change (i 1).val = 0 + 1 * (j 1).val at this
      show 16 * cc + 1 * (j 1).val = (16 * cc + (i 1).val) % 128
      omega
    · have := hv 2
      change (i 2).val = 0 + 1 * (j 2).val at this
      show 0 + 1 * (j 2).val = (i 2).val
      omega
    · have := hv 3
      change (i 3).val = 0 + 1 * (j 3).val at this
      show 0 + 1 * (j 3).val = (i 3).val
      omega
  · have hnm : i ∉ (ringRect s n hR).set := by
      rw [Rect.mem_set_unitDyn]
      intro h
      have := (h 1).2
      change (i 1).val < 0 + n at this
      omega
    rw [View.read_apply, View.write_of_not_mem]
    · rw [← View.read_apply, hT i hi]
      unfold atIdx laid
      rw [if_neg hn]
    · rw [View.setOn_univ]
      show _ ∉ ((B.arg7.view.slice (ringRect s n hR)).reshape _ _).set
      rw [View.set_reshape, View.set_slice, Finset.mem_map' B.arg7.view.emb]
      exact hnm

end Cert.Proof.KernelIdeal
-- ==== Proof.KernelIdeal.Spec.lean ====
/- What the kernel computes, as a function of its inputs: the query rows, the scores and their running
   maximum, the exponentials and their running sum, the accumulated products with the values, and the
   output. Nothing here depends on the element operations: they stay the kernel's own. -/
module

public import proofs.«01_k».proof.Proof.KernelIdeal.Ring

@[expose] public section

set_option maxRecDepth 65536

noncomputable section

namespace Cert.Proof.KernelIdeal

open Cert.KernelIdeal Cert.KernelIdeal.Gen Cert.Proof.Rules Cert.Proof.Sched
open Idealize.ShloMosaic

variable {F : FTy → Type} [FloatOps F]

/-- An index of a two-dimensional array, each coordinate reduced into range. -/
def ix2 {n m : ℕ} [NeZero n] [NeZero m] (a b : ℕ) : (⟨2, ![n, m]⟩ : Shape).Idx
  | 0 => Fin.ofNat n a
  | 1 => Fin.ofNat m b

/-- An index of a three-dimensional array, each coordinate reduced into range. -/
def ix3 {n m l : ℕ} [NeZero n] [NeZero m] [NeZero l] (a b c : ℕ) : (⟨3, ![n, m, l]⟩ : Shape).Idx
  | 0 => Fin.ofNat n a
  | 1 => Fin.ofNat m b
  | 2 => Fin.ofNat l c

/-- The inputs other than the lengths and the caches: the queries and the two scales. -/
structure Arr (F : FTy → Type) where
  x : S64x4096.Idx → Elt F .bf16
  ks : S64x4x128.Idx → Elt F .f32
  vs : S64x4x128.Idx → Elt F .f32

variable (I : Ins F) (A : Arr F)

/-- The block number `i` of the queries: eight sequences, one head. -/
def xBlk (i : ℕ) : Vec F S8x128 .bf16 := fun j => A.x (ix2 (8 * (i / 32) + (j 0).val) (128 * (i % 32) + (j 1).val))

/-- The queries, widened, row by row: sequence and head. -/
def qArr (p : S2048x128.Idx) : Elt F .f32 :=
  k0_pay473 (xBlk A (32 * ((p 0).val / 256) + (p 0).val % 32)) (ix2 ((p 0).val % 256 / 32) (p 1).val)

/-- The query rows of sequence `b`. -/
def qRows (b : ℕ) : Vec F S32x128 .f32 := fun j => qArr A (ix2 (32 * b + (j 0).val) (j 1).val)

/-- The scale rows of sequence `b`. -/
def ksRow (b : ℕ) : Vec F S1x4x128 .f32 := fun j => A.ks (ix3 b (j 1).val (j 2).val)
def vsRow (b : ℕ) : Vec F S1x4x128 .f32 := fun j => A.vs (ix3 b (j 1).val (j 2).val)

/-- Row `n` of a scale table. -/
def rowOf (S : S128x128.Idx → Elt F .f32) (n : ℕ) : Vec F S1x128 .f32 := fun j => S (ix2 n (j 1).val)

/-- Block `row` of a slot. -/
def tileRow (T : Tile F) (row : ℕ) : Vec F S1x1x256x128 .fp8e4m3 := fun j => T (Fin.ofNat 16 row) (j 2) (j 3)

/-- The blocks word of a tile. -/
def blkW (t : ℕ) : BitVec 32 := Scalar.addi (Scalar.muli (Scf.iv 0#32 1#32 (t / 8)) 16#32) (BitVec.ofNat 32 (2 * (t % 8)))

/-- The raw products of tile `t` of sequence `b`. -/
def prodK (b t : ℕ) : FVec F S64x256 .f32 :=
  k0_pay4 (k0_pay450 (qRows A b)) (tileRow (I.ringVal (start I.NC b + t / 8)) (2 * (t % 8)))
    (tileRow (I.ringVal (start I.NC b + t / 8)) (2 * (t % 8) + 1))

/-- Score vector `ij` of tile `t`. -/
def scoreV (b t : ℕ) : ℕ → FVec F S8x128 .f32
  | 0 => score00 k0_pay470 k0_pay471 (I.L b) (blkW t) (prodK I A b t) (rowOf (k0_pay451 (ksRow A b)) (2 * t))
  | 1 => score01 k0_pay470 k0_pay471 (I.L b) (blkW t) (prodK I A b t) (rowOf (k0_pay451 (ksRow A b)) (2 * t))
  | 2 => score10 k0_pay470 k0_pay471 (I.L b) (blkW t) (prodK I A b t) (rowOf (k0_pay451 (ksRow A b)) (2 * t + 1))
  | _ => score11 k0_pay470 k0_pay471 (I.L b) (blkW t) (prodK I A b t) (rowOf (k0_pay451 (ksRow A b)) (2 * t + 1))

/-- The stored row number `n` of the scores. -/
def scoreR (b n : ℕ) : Vec F S1x8x128 .f32 :=
  shapeCast S1x8x128 (scoreV I A b (n / 4) (n % 4)) shapeCasts_S8x128_S1x8x128

/-- The running maximum after `t` tiles. -/
def mAt (b : ℕ) : ℕ → FVec F S8x128 .f32
  | 0 => k0_pay453
  | t + 1 => maximumf (maximumf (maximumf (maximumf (mAt b t) (scoreV I A b t 0)) (scoreV I A b t 1))
      (scoreV I A b t 2)) (scoreV I A b t 3)

/-- The maximum of a sequence, on every lane of its head. -/
def mxOf (b : ℕ) : FVec F S8x128 .f32 := k0_pay459 (k0_pay458 (mAt I A b (8 * I.NC b)))

/-- The exponentials of row `n`, -/
def expV (b n : ℕ) : FVec F S8x128 .f32 := expRow (mxOf I A b) (scoreR I A b n)
/-- as stored. -/
def expR (b n : ℕ) : Vec F S1x8x128 .f32 := shapeCast S1x8x128 (expV I A b n) shapeCasts_S8x128_S1x8x128

/-- The running sum of the exponentials after `n` rows. -/
def lAt (b : ℕ) : ℕ → FVec F S8x128 .f32
  | 0 => k0_pay460
  | n + 1 => addf (lAt b n) (expV I A b n)

/-- The reciprocal of the sum. -/
def invOf (b : ℕ) : FVec F S8x128 .f32 := k0_pay465 (lAt I A b (32 * I.NC b))

/-- The accumulator after `t` tiles. -/
def accAt (b : ℕ) : ℕ → FVec F S64x256 .f32
  | 0 => k0_pay466
  | t + 1 => accStep k0_pay470 (invOf I A b) (accAt b t)
      (tileRow (I.ringVal (start I.NC b + I.NC b + t / 8)) (2 * (t % 8)))
      (tileRow (I.ringVal (start I.NC b + I.NC b + t / 8)) (2 * (t % 8) + 1))
      (rowOf (k0_pay452 (vsRow A b)) (2 * t)) (expR I A b (4 * t)) (expR I A b (4 * t + 1))
      (rowOf (k0_pay452 (vsRow A b)) (2 * t + 1)) (expR I A b (4 * t + 2)) (expR I A b (4 * t + 3))

/-- The output rows of sequence `b`. -/
def outRows (b : ℕ) : Vec F S32x128 .f32 := k0_pay755 (k0_pay469 (accAt I A b (8 * I.NC b)))

/-- All output rows. -/
def oArr (p : S2048x128.Idx) : Elt F .f32 := outRows I A ((p 0).val / 32) (ix2 ((p 0).val % 32) (p 1).val)

/-- The block number `i` of the output. -/
def oBlk (i : ℕ) : Vec F S8x128 .f32 := fun j => oArr I A (ix2 (256 * (i / 32) + i % 32 + 32 * (j 0).val) (j 1).val)

/-- The kernel's result. -/
def kernelOut (p : S64x4096.Idx) : Elt F .bf16 :=
  k0_pay1 (oBlk I A (32 * ((p 0).val / 8) + (p 1).val / 128)) (ix2 ((p 0).val % 8) ((p 1).val % 128))

end Cert.Proof.KernelIdeal
-- ==== Proof.KernelIdeal.Issue.lean ====
/- One issue: the next chunk's transfer starts into its slot, and the producer's words move on. -/
module

public import proofs.«01_k».proof.Proof.KernelIdeal.Ring

@[expose] public section

set_option maxRecDepth 65536
set_option pp.maxSteps 250

noncomputable section

namespace Cert.Proof.KernelIdeal

open Cert.KernelIdeal Cert.KernelIdeal.Gen Cert.Proof.Rules Cert.Proof.Sched
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

variable (I : Ins F) (B : Bufs) (c : Dev nD)

/-- A transfer of a chunk under way into slot `s`, which delivers `R` at the wait. -/
def Fly (s : ℕ) (hs : s < 24) (n : ℕ) (R : sProp 𝕄) : sProp 𝕄 :=
  iprop(∃ D : sProp 𝕄, Transfers.Flight (countersEmb (U := Pipeline.UD sig nD τ)) (c : Thread nD τ)
    (.dma (semAt B s hs)) () (credit B n) D ∗ (D -∗ R))

/-- One transfer: the slot, its counter and a share of the cache go under way. -/
theorem dma_step (M : Memref sig .tc .hbm S64x128x256x128 .fp8e4m3) {q : PosShare TreeShare}
    {C : S64x128x256x128.Idx → Elt F .fp8e4m3} {s b o n cc : ℕ} (hs : s < 24) {hR} {hH}
    {hq hq' : (⟨4, ![1, n, 256, 128]⟩ : Shape).Squeezes ⟨3, ![n, 256, 128]⟩} (ho : o = 16 * cc)
    (hn : 1 ≤ n) (hb : b < 64) (hcc : 16 * cc + n ≤ 128) {T : Tile F}
    {hsrc : (((M.slice (hbmRect b o n hH) (fun _ => rfl)).squeeze (⟨3, ![n, 256, 128]⟩ : Shape) hq).view).WordExact}
    {hdst : (((B.arg7.slice (ringRect s n hR) (fun _ => rfl)).squeeze (⟨3, ![n, 256, 128]⟩ : Shape) hq').view).WordExact}
    {hsem} {α : Type} {k : PUnit → Prog (TpuEff nD τ sig (Elt F) Λ₀ .tc) α} {Q : α → sProp (MT nD τ sig Unit (Elt F) ℕ (Pipeline.UD sig nD τ) ℕ)} :
    iprop(slotHolds B c s T ∗ semVal ((c : Thread nD τ), .dma (semAt B s hs)) 0 ∗ holds (c : Thread nD τ) M Finset.univ q C)
      ⊢ iprop((Fly B c s hs n iprop(slotHolds B c s (laid C b cc n T) ∗ holds (c : Thread nD τ) M Finset.univ q C)
          -∗ wp frame (wpE (defs₀ (F := F)) Variants.none (c : Thread nD τ) none) Set.univ (k ⟨⟩) Q)
        -∗ wp frame (wpE (defs₀ (F := F)) Variants.none (c : Thread nD τ) none) Set.univ
          (.op (.enqueueDma ((M.slice (hbmRect b o n hH) (fun _ => rfl)).squeeze (⟨3, ![n, 256, 128]⟩ : Shape) hq)
            (.here ((B.arg7.slice (ringRect s n hR) (fun _ => rfl)).squeeze (⟨3, ![n, 256, 128]⟩ : Shape) hq'))
            (.dma (semAt B s hs)) hsrc hdst hsem) k) Q) := by
  subst ho
  unfold slotHolds
  unfold holds
  iintro ⟨⟨%fd, %hfd, Hd⟩, Hv, ⟨%fs, %hfs, Hs⟩⟩ Hk
  have hsub : (((M.slice (hbmRect b (16 * cc) n hH) (fun _ => rfl)).squeeze (⟨3, ![n, 256, 128]⟩ : Shape) hq).view).set ⊆ M.view.setOn Finset.univ := by
    rw [View.setOn_univ]
    show ((M.view.slice (hbmRect b (16 * cc) n hH)).reshape _ _).set ⊆ _
    rw [View.set_reshape, View.set_slice]
    exact Finset.map_subset_map.mpr (Finset.subset_univ _)
  ihave Hs' := (show (M.view.loc (c : Thread nD τ) ↦[M.view.setOn Finset.univ]{q} fs : sProp 𝕄) ⊢ _ from
    (pointsTo_split_subset hsub).1) $$ Hs
  icases Hs' with ⟨Hs, Hrest⟩
  have hSd : (((B.arg7.slice (ringRect s n hR) (fun _ => rfl)).squeeze (⟨3, ![n, 256, 128]⟩ : Shape) hq').view).set ⊆ B.arg7.view.setOn (slotSet s) := by
    show ((B.arg7.view.slice (ringRect s n hR)).reshape _ _).set ⊆ _
    rw [View.set_reshape, View.set_slice]
    refine Finset.map_subset_map.mpr fun i hi => Finset.mem_filter.mpr ⟨Finset.mem_univ _, ?_⟩
    have h0 := (Rect.mem_set_unitDyn.mp hi) 0
    change s ≤ (i 0).val ∧ (i 0).val < s + 1 at h0
    omega
  have hN : (((B.arg7.slice (ringRect s n hR) (fun _ => rfl)).squeeze (⟨3, ![n, 256, 128]⟩ : Shape) hq').view).amount (.dma (semAt B s hs)) = credit B n := rfl
  have hN0 : 0 < credit B n := by
    rw [← hN]
    refine View.dmaCredit_pos (v := ((B.arg7.slice (ringRect s n hR) (fun _ => rfl)).squeeze (⟨3, ![n, 256, 128]⟩ : Shape) hq').view) ?_
    simp [Shape.numel, Fin.prod_univ_succ]
    omega
  iapply (Transfers.wp_dmaLocal (countersEmb (U := Pipeline.UD sig nD τ)) Variants.none (c : Thread nD τ) none () (credit B n) hN hN0 hSd) $$ [Hs Hd Hv]
  · isplitl [Hs]; · iexact Hs
    isplitl [Hd]; · iexact Hd
    iexact Hv
  iintro HF
  iapply Hk
  unfold Fly
  iexists _
  isplitl [HF]
  · iexact HF
  iintro ⟨Hd, Hs⟩
  isplitl [Hd]
  · iexists _
    isplitr
    · ipureintro
      exact landed_read B fd M fs hR hH hq T C hfd (fun i => hfs i (Finset.mem_univ i)) hb hcc
    · iexact Hd
  · iexists fs
    isplitr
    · ipureintro; exact hfs
    · iapply (show iprop((M.view.loc (c : Thread nD τ) ↦[_]{q} fs) ∗ (M.view.loc (c : Thread nD τ) ↦[_]{q} fs)) ⊢ (M.view.loc (c : Thread nD τ) ↦[M.view.setOn Finset.univ]{q} fs : sProp 𝕄) from
        (pointsTo_split_subset hsub).2)
      isplitl [Hs] <;> iassumption

/-! ### The issue as operations -/

theorem issue_key (b cw sl : BitVec 32) (hw2 : k0_chk2 b 0#32 sl) (hw1 : k0_chk1 b) (h1 : k0_cond1 b = 1#1) :
    issue (F := F) B b 0#32 cw sl hw2 hw1 = (do
      let L : Elt F .i32 ← smemLoad B.arg0 (Rect.unit (s := S64) (k0_off2 b) S1.size (k0_off2_inb b hw1 h1)) numel1_S1 rfl
      have hw : (k0_chk3 b 0#32 cw sl L) := (← Prog.lift (TpuEff.assume (k0_chk3 b 0#32 cw sl L) (k0_chk3.dec b 0#32 cw sl L))).down
      Prog.lift (.enqueueDma ((B.arg2.slice (Rect.unitDyn (s := S64x128x256x128) (k0_off5 b cw L).1 (k0_off5 b cw L).2 (k0_off5_inb b 0#32 cw sl L hw h1 rfl)) (fun _ => rfl)).squeeze (⟨3, k0_sz2 cw L⟩ : Shape) (k0_sz2_squeezes b 0#32 cw sl L hw h1 rfl))
        (.here ((B.arg7.slice (Rect.unitDyn (s := S24x16x256x128) (k0_off4 cw sl L).1 (k0_off4 cw sl L).2 (k0_off4_inb b 0#32 cw sl L hw h1 rfl)) (fun _ => rfl)).squeeze (⟨3, k0_sz1 cw L⟩ : Shape) (k0_sz1_squeezes b 0#32 cw sl L hw h1 rfl)))
        (.dma ((B.arg13.slice (Rect.unit (s := S24) (k0_off3 sl) S1.size (k0_off3_inb b 0#32 sl hw2 h1 rfl))).squeeze S_ squeezes_S1_S_).sem)
        ((B.harg2.wordExact_slice rfl _ (k0_off5_wordsfp8e4m3 b 0#32 cw sl L hw h1 rfl)).reshape _ _)
        ((B.harg7.wordExact_slice rfl _ (k0_off4_wordsfp8e4m3 b 0#32 cw sl L hw h1 rfl)).reshape _ _) ⟨Or.inl rfl, trivial⟩)
      let last := Scalar.cmpi .sge (Scalar.muli (Scalar.addi cw 1#32) 16#32) (nbW L)
      pure (Scalar.select (Scalar.andi last 0#1) (Scalar.addi b 1#32) b, Scalar.select last 1#32 0#32,
          Scalar.select last 0#32 (Scalar.addi cw 1#32), slotNext sl)) := by
  unfold issue
  rw [dif_pos h1, k0_part1_eq_skeleton]
  unfold k0_part1_skel
  refine congrArg (Prog.op _) (funext fun L => ?_)
  refine congrArg (Prog.op _) (funext fun hw => ?_)
  rfl

theorem issue_val (b cw sl : BitVec 32) (hw2 : k0_chk2 b 1#32 sl) (hw1 : k0_chk1 b) (h1 : k0_cond1 b = 1#1) :
    issue (F := F) B b 1#32 cw sl hw2 hw1 = (do
      let L : Elt F .i32 ← smemLoad B.arg0 (Rect.unit (s := S64) (k0_off2 b) S1.size (k0_off2_inb b hw1 h1)) numel1_S1 rfl
      have hw : (k0_chk3 b 1#32 cw sl L) := (← Prog.lift (TpuEff.assume (k0_chk3 b 1#32 cw sl L) (k0_chk3.dec b 1#32 cw sl L))).down
      Prog.lift (.enqueueDma ((B.arg4.slice (Rect.unitDyn (s := S64x128x256x128) (k0_off8 b cw L).1 (k0_off8 b cw L).2 (k0_off8_inb b 1#32 cw sl L hw h1 rfl)) (fun _ => rfl)).squeeze (⟨3, k0_sz4 cw L⟩ : Shape) (k0_sz4_squeezes b 1#32 cw sl L hw h1 rfl))
        (.here ((B.arg7.slice (Rect.unitDyn (s := S24x16x256x128) (k0_off7 cw sl L).1 (k0_off7 cw sl L).2 (k0_off7_inb b 1#32 cw sl L hw h1 rfl)) (fun _ => rfl)).squeeze (⟨3, k0_sz3 cw L⟩ : Shape) (k0_sz3_squeezes b 1#32 cw sl L hw h1 rfl)))
        (.dma ((B.arg13.slice (Rect.unit (s := S24) (k0_off6 sl) S1.size (k0_off6_inb b 1#32 sl hw2 h1 rfl))).squeeze S_ squeezes_S1_S_).sem)
        ((B.harg4.wordExact_slice rfl _ (k0_off8_wordsfp8e4m3 b 1#32 cw sl L hw h1 rfl)).reshape _ _)
        ((B.harg7.wordExact_slice rfl _ (k0_off7_wordsfp8e4m3 b 1#32 cw sl L hw h1 rfl)).reshape _ _) ⟨Or.inl rfl, trivial⟩)
      let last := Scalar.cmpi .sge (Scalar.muli (Scalar.addi cw 1#32) 16#32) (nbW L)
      pure (Scalar.select (Scalar.andi last 1#1) (Scalar.addi b 1#32) b, Scalar.select last 0#32 1#32,
          Scalar.select last 0#32 (Scalar.addi cw 1#32), slotNext sl)) := by
  unfold issue
  rw [dif_pos h1, k0_part1_eq_skeleton]
  unfold k0_part1_skel
  refine congrArg (Prog.op _) (funext fun L => ?_)
  refine congrArg (Prog.op _) (funext fun hw => ?_)
  rfl

theorem issue_done (b k cw sl : BitVec 32) (hw2 : k0_chk2 b k sl) (hw1 : k0_chk1 b) (h1 : ¬ k0_cond1 b = 1#1) :
    issue (F := F) B b k cw sl hw2 hw1 = .ret (b, k, cw, sl) := by
  unfold issue
  rw [dif_neg h1]
  rfl

/-! ### The words of the producer -/

/-- The words stand for the transfer number `j`, and the slot word for its slot. -/
structure Words (j : ℕ) (b k cw sl : BitVec 32) : Prop where
  b : b.toNat = (I.st j).1
  k : k.toNat = (I.st j).2.1
  c : cw.toNat = (I.st j).2.2
  lt : sl.toNat < 24
  sl : (I.st j).1 < 64 → sl.toNat = j % 24

theorem slotNext_all : ∀ s : Fin 24, (slotNext (BitVec.ofNat 32 s.val)).toNat = (s.val + 1) % 24 := by decide +kernel

theorem slotNext_eq {sl : BitVec 32} (h : sl.toNat < 24) : (slotNext sl).toNat = (sl.toNat + 1) % 24 := by
  have := slotNext_all ⟨sl.toNat, h⟩
  simpa using this

theorem last_all : ∀ n : Fin 129, ∀ c : Fin 8, c.val < (n.val + 15) / 16 →
    Scalar.cmpi .sge (Scalar.muli (Scalar.addi (BitVec.ofNat 32 c.val) 1#32) 16#32) (BitVec.ofNat 32 n.val)
      = if c.val + 1 = (n.val + 15) / 16 then 1#1 else 0#1 := by decide +kernel

theorem last_eq {L cw : BitVec 32} (h : InLen L) (hc : cw.toNat < ncN L.toNat) :
    Scalar.cmpi .sge (Scalar.muli (Scalar.addi cw 1#32) 16#32) (nbW L) = if cw.toNat + 1 = ncN L.toNat then 1#1 else 0#1 := by
  rw [nbW_eq h]
  have h8 := ncN_le h.2
  have := last_all ⟨nbN L.toNat, by have := nbN_le h.2; omega⟩ ⟨cw.toNat, by omega⟩ hc
  dsimp only at this
  rw [BitVec.ofNat_toNat, BitVec.setWidth_eq] at this
  exact this

theorem st_ok' (hI : I.Ok) (j : ℕ) : (I.st j).1 ≤ 64 ∧ (I.st j).2.1 < 2 ∧
    ((I.st j).1 < 64 → (I.st j).2.2 < ncN (I.L (I.st j).1).toNat) := st_ok hI.NC_pos j

theorem words_next (hI : I.Ok) {j : ℕ} {b k cw sl : BitVec 32} (h : Words I j b k cw sl) (hb : (I.st j).1 < 64)
    {b' k' cw' : BitVec 32}
    (hb' : b'.toNat = if cw.toNat + 1 = ncN (I.L (I.st j).1).toNat then (if (I.st j).2.1 = 1 then (I.st j).1 + 1 else (I.st j).1) else (I.st j).1)
    (hk' : k'.toNat = if cw.toNat + 1 = ncN (I.L (I.st j).1).toNat then 1 - (I.st j).2.1 else (I.st j).2.1)
    (hc' : cw'.toNat = if cw.toNat + 1 = ncN (I.L (I.st j).1).toNat then 0 else cw.toNat + 1) :
    Words I (j + 1) b' k' cw' (slotNext sl) := by
  have e : I.st (j + 1) = nxt I.NC (I.st j) := rfl
  have hs := h.sl hb
  rw [h.c] at hb' hk' hc'
  have e2 : I.st (j + 1) = (if (I.st j).2.2 + 1 = ncN (I.L (I.st j).1).toNat then (if (I.st j).2.1 = 1 then (I.st j).1 + 1 else (I.st j).1, 1 - (I.st j).2.1, 0)
      else ((I.st j).1, (I.st j).2.1, (I.st j).2.2 + 1)) := by
    rw [e]; unfold nxt; rw [if_pos hb]; rfl
  have hsn := slotNext_eq h.lt
  refine ⟨?_, ?_, ?_, by omega, fun _ => by omega⟩
  · rw [hb', e2]; split <;> rfl
  · rw [hk', e2]; split <;> rfl
  · rw [hc', e2]; split <;> rfl

theorem words_done (hI : I.Ok) {j : ℕ} {b k cw sl : BitVec 32} (h : Words I j b k cw sl) (hb : ¬ (I.st j).1 < 64) :
    Words I (j + 1) b k cw sl := by
  have e : I.st (j + 1) = I.st j := by
    show nxt I.NC (I.st j) = _
    unfold nxt; rw [if_neg hb]
  exact ⟨by rw [e]; exact h.b, by rw [e]; exact h.k, by rw [e]; exact h.c, h.lt, fun hl => absurd (e ▸ hl) hb⟩

/-! ### The resources of a slot -/

theorem slotlt (j : ℕ) : j % 24 < 24 := Nat.mod_lt j (by omega)

/-- The share of a cache set aside for slot `s`. -/
def lf (s : ℕ) : PosShare TreeShare := ShareLeaves.leaf 5 fullShare (Fin.ofNat (2 ^ 5) s)

theorem semAt_congr {s s' : ℕ} (e : s = s') (h : s < 24) (h' : s' < 24) : semAt B s h = semAt B s' h' := by
  subst e; rfl

/-- A slot at rest: its contents, its counter at zero and its shares of the caches. -/
def Res (s : ℕ) (hs : s < 24) (T : Tile F) : sProp 𝕄 :=
  iprop(slotHolds B c s T ∗ semVal ((c : Thread nD τ), .dma (semAt B s hs)) 0
    ∗ holds (c : Thread nD τ) B.arg2 Finset.univ (lf s) I.K ∗ holds (c : Thread nD τ) B.arg4 Finset.univ (lf s) I.V)

/-- What a wait for the transfer into slot `s` brings, apart from the counter. -/
def Back (s : ℕ) (T : Tile F) : sProp 𝕄 :=
  iprop(slotHolds B c s T
    ∗ holds (c : Thread nD τ) B.arg2 Finset.univ (lf s) I.K ∗ holds (c : Thread nD τ) B.arg4 Finset.univ (lf s) I.V)

/-- The slot of transfer `j` after its issue: under way, or at rest when no sequence was left. -/
def SlotR (j : ℕ) : sProp 𝕄 :=
  if (I.st j).1 < 64 then
    Fly B c (j % 24) (slotlt j) (nN (I.L (I.st j).1).toNat (I.st j).2.2) (Back I B c (j % 24) (I.ringVal j))
  else Res I B c (j % 24) (slotlt j) (I.ringBefore j)

theorem Fly_mono {s : ℕ} {hs : s < 24} {n : ℕ} {R R' : sProp 𝕄} :
    iprop(Fly B c s hs n R ∗ (R -∗ R')) ⊢ (Fly B c s hs n R' : sProp 𝕄) := by
  unfold Fly
  iintro ⟨⟨%D, HF, HD⟩, H⟩
  iexists D
  isplitl [HF]; · iexact HF
  iintro Hd
  iapply H
  iapply HD
  iexact Hd

theorem add1_all : ∀ n : Fin 64, (Scalar.addi (BitVec.ofNat 32 n.val) 1#32).toNat = n.val + 1 := by decide +kernel
theorem add1' {w : BitVec 32} (h : w.toNat < 64) : (Scalar.addi w 1#32).toNat = w.toNat + 1 := by
  have := add1_all ⟨w.toNat, h⟩
  dsimp only at this
  rwa [BitVec.ofNat_toNat, BitVec.setWidth_eq] at this
theorem add1 {w : BitVec 32} (h : w.toNat < 8) : (Scalar.addi w 1#32).toNat = w.toNat + 1 := add1' (by omega)

/-- One issue. -/
theorem wp_issue (hI : I.Ok) {j : ℕ} {b k cw sl : BitVec 32} (h : Words I j b k cw sl) (hw2) (hw1) :
    iprop(holds (c : Thread nD τ) B.arg0 Finset.univ fullShare I.len ∗ Res I B c (j % 24) (slotlt j) (I.ringBefore j))
      ⊢ wp frame (wpE (defs₀ (F := F)) Variants.none (c : Thread nD τ) none) Set.univ (issue (F := F) B b k cw sl hw2 hw1)
          (fun r => iprop(⌜Words I (j + 1) r.1 r.2.1 r.2.2.1 r.2.2.2⌝
            ∗ holds (c : Thread nD τ) B.arg0 Finset.univ fullShare I.len ∗ SlotR I B c j)) := by
  obtain ⟨hb64, hk2, hcn⟩ := st_ok' I hI j
  by_cases hb : (I.st j).1 < 64
  · have h1 : k0_cond1 b = 1#1 := (cond1_iff (by rw [h.b]; exact hb64)).mpr (by rw [h.b]; exact hb)
    have hc := hcn hb
    have hs := h.sl hb
    have hLx : I.len ((Rect.unit (s := S64) (k0_off2 b) S1.size (k0_off2_inb b hw1 h1)).emb (Shape.Idx.first (numel1_S1.symm ▸ Nat.one_pos))) = I.L (I.st j).1 := by
      refine congrArg I.len (funext fun a => Fin.ext ?_)
      fin_cases a
      show b.toNat + 1 * 0 = (I.st j).1 % 64
      rw [h.b]; omega
    have hL : InLen (I.L (I.st j).1) := hI _
    have hlast := last_eq (cw := cw) hL (by rw [h.c]; exact hc)
    have hn := nW_eq (c := cw) hL (by rw [h.c]; exact hc)
    have h8 : cw.toNat < 8 := by have := ncN_le hL.2; rw [h.c]; omega
    have hcc := nN_add_le hL.2 hc
    have hn1 := nN_pos hc
    unfold SlotR
    rw [if_pos hb]
    unfold Res
    have hw3 : ∀ k', k0_chk3 b k' cw sl (I.L (I.st j).1) := fun k' => chk3_of (by rw [h.b]; exact hb) h.lt hL (by rw [h.c]; exact hc)
    have h8' : 16 * cw.toNat + (nW (nbW (I.L (I.st j).1)) cw).toNat ≤ 128 := by rw [hn, h.c]; exact hcc
    have hval : I.ringVal j = laid (if (I.st j).2.1 = 0 then I.K else I.V) b.toNat cw.toNat (nW (nbW (I.L (I.st j).1)) cw).toNat (I.ringBefore j) := by
      rw [hn, h.b, h.c]; unfold Ins.ringVal Ins.land; rw [if_pos hb]
    have hnn : nN (I.L (I.st j).1).toNat (I.st j).2.2 = (nW (nbW (I.L (I.st j).1)) cw).toNat := by rw [hn, h.c]
    rw [hnn]
    generalize hg : I.ringVal j = Tv at hval ⊢
    clear hg
    generalize I.ringBefore j = T at hval ⊢
    generalize hg2 : slotlt j = hjs
    clear hg2
    generalize hjj : j % 24 = s at hs hjs ⊢
    subst hs
    have hk : k = 0#32 ∨ k = 1#32 := by
      have := h.k
      rcases Nat.lt_succ_iff_lt_or_eq.mp hk2 with h0 | h0
      · left; apply BitVec.eq_of_toNat_eq; rw [this]; simp; omega
      · right; apply BitVec.eq_of_toNat_eq; rw [this, h0]; rfl
    rcases hk with rfl | rfl
    · have hk0 : (I.st j).2.1 = 0 := h.k.symm
      rw [if_pos hk0] at hval
      rw [issue_key B b cw sl hw2 hw1 h1]
      iintro ⟨H0, Hsl, Hv, HK, HV⟩
      iapply (wp_smemLoad_bind Variants.none (c : Thread nD τ) none Set.univ (Finset.subset_univ _) hLx) $$ H0
      iintro H0
      iapply (wp_assume_bind Variants.none (c : Thread nD τ) none Set.univ (hw3 _))
      iapply (dma_step B c B.arg2 hjs (c16_eq h8) (by rw [hn, h.c]; exact hn1) (by rw [h.b]; exact hb) h8') $$ [Hsl Hv HK]
      · isplitl [Hsl]; · iexact Hsl
        isplitl [Hv]; · iexact Hv
        iexact HK
      iintro HF
      iapply (le_wp_ret _ _ _ _ _)
      isplitr
      · ipureintro
        refine words_next I hI h hb ?_ ?_ ?_
        · dsimp only; rw [hlast, hk0]; split
          · exact h.b
          · exact h.b
        · dsimp only; rw [hlast, hk0]; split <;> rfl
        · dsimp only; rw [hlast]; split
          · rfl
          · exact add1 h8
      isplitl [H0]; · iexact H0
      iapply Fly_mono
      isplitl [HF]; · iexact HF
      iintro ⟨H1, H2⟩
      unfold Back
      rw [hval]
      isplitl [H1]; · iexact H1
      isplitl [H2]; · iexact H2
      iexact HV
    · have hk0 : (I.st j).2.1 = 1 := h.k.symm
      rw [if_neg (by omega)] at hval
      rw [issue_val B b cw sl hw2 hw1 h1]
      iintro ⟨H0, Hsl, Hv, HK, HV⟩
      iapply (wp_smemLoad_bind Variants.none (c : Thread nD τ) none Set.univ (Finset.subset_univ _) hLx) $$ H0
      iintro H0
      iapply (wp_assume_bind Variants.none (c : Thread nD τ) none Set.univ (hw3 _))
      iapply (dma_step B c B.arg4 hjs (c16_eq h8) (by rw [hn, h.c]; exact hn1) (by rw [h.b]; exact hb) h8') $$ [Hsl Hv HV]
      · isplitl [Hsl]; · iexact Hsl
        isplitl [Hv]; · iexact Hv
        iexact HV
      iintro HF
      iapply (le_wp_ret _ _ _ _ _)
      isplitr
      · ipureintro
        refine words_next I hI h hb ?_ ?_ ?_
        · dsimp only; rw [hlast, hk0]; split
          · rw [← h.b]; exact add1' (by rw [h.b]; exact hb)
          · exact h.b
        · dsimp only; rw [hlast, hk0]; split <;> rfl
        · dsimp only; rw [hlast]; split
          · rfl
          · exact add1 h8
      isplitl [H0]; · iexact H0
      iapply Fly_mono
      isplitl [HF]; · iexact HF
      iintro ⟨H1, H2⟩
      unfold Back
      rw [hval]
      isplitl [H1]; · iexact H1
      isplitl [HK]; · iexact HK
      iexact H2
  · have h1 : ¬ k0_cond1 b = 1#1 := fun e => hb (by have := (cond1_iff (by rw [h.b]; exact hb64)).mp e; rw [h.b] at this; exact this)
    rw [issue_done B b k cw sl hw2 hw1 h1]
    unfold SlotR
    rw [if_neg hb]
    iintro ⟨H1, H2⟩
    iapply (le_wp_ret _ _ _ _ _)
    isplitr
    · ipureintro; exact words_done I hI h hb
    isplitl [H1] <;> iassumption

end Cert.Proof.KernelIdeal
-- ==== Proof.KernelIdeal.Tiles.lean ====
/- The rows of the score buffer, and one tile of the score loop, one row of the exponential loop and one
   tile of the value loop. -/
module

public import proofs.«01_k».proof.Proof.KernelIdeal.Spec
public import proofs.«01_k».proof.Proof.KernelIdeal.Issue

@[expose] public section

set_option maxRecDepth 65536
set_option pp.maxSteps 250

noncomputable section

namespace Cert.Proof.KernelIdeal

open Cert.KernelIdeal Cert.KernelIdeal.Gen Cert.Proof.Rules Cert.Proof.Sched
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

variable (I : Ins F) (A : Arr F) (B : Bufs) (c : Dev nD)

/-! ### Rows of the score buffer -/

/-- An index inside a row. -/
def inRow (i : S256x8x128.Idx) : S1x8x128.Idx
  | 0 => ⟨0, Nat.one_pos⟩
  | 1 => i 1
  | 2 => i 2

/-- The score buffer held whole, its first `M` rows reading `G`. -/
def Rows (G : ℕ → Vec F S1x8x128 .f32) (M : ℕ) : sProp 𝕄 :=
  iprop(∃ X : S256x8x128.Idx → Elt F .f32, ⌜∀ i, (i 0).val < M → X i = G (i 0).val (inRow i)⌝
    ∗ holds (c : Thread nD τ) B.arg10 Finset.univ fullShare X)

theorem Rows_congr {G G' : ℕ → Vec F S1x8x128 .f32} {M M' : ℕ} (hM : M' ≤ M) (h : ∀ n < M', G' n = G n) :
    (Rows B c G M : sProp 𝕄) ⊢ Rows B c G' M' := by
  unfold Rows
  iintro ⟨%X, %hX, H⟩
  iexists X
  isplitr
  · ipureintro; intro i hi; rw [h _ hi]; exact hX i (by omega)
  · iexact H

section
variable {α : Type} {Q : α → sProp (MT nD τ sig Unit (Elt F) ℕ (Pipeline.UD sig nD τ) ℕ)}

theorem wp_row_peek {r : Rect S256x8x128} {hl} {k : (r.toLoadRect.shape.Idx → Elt F .f32) → Prog (TpuEff nD τ sig (Elt F) Λ₀ .tc) α}
    {G : ℕ → Vec F S1x8x128 .f32} {M : ℕ} :
    (Rows B c G M : sProp 𝕄)
      ⊢ iprop((∀ x, Rows B c G M -∗ wp frame (wpE (defs₀ (F := F)) Variants.none (c : Thread nD τ) none) Set.univ (k x) Q)
        -∗ wp frame (wpE (defs₀ (F := F)) Variants.none (c : Thread nD τ) none) Set.univ
          (Prog.lift (.load B.arg10 r.toLoadRect hl) >>= k) Q) := by
  unfold Rows
  iintro ⟨%X, %hX, H⟩ Hk
  iapply (wp_load_bind Variants.none (c : Thread nD τ) none Set.univ (Finset.subset_univ _) rfl) $$ H
  iintro H
  iapply Hk
  iexists X
  isplitr
  · ipureintro; exact hX
  · iexact H

theorem wp_row_load {n : ℕ} {off : Fin 3 → ℕ} {hi} (ho : off = ![n, 0, 0]) {hl}
    {k : ((Rect.unit (s := S256x8x128) off S1x8x128.size hi).toLoadRect.shape.Idx → Elt F .f32) → Prog (TpuEff nD τ sig (Elt F) Λ₀ .tc) α}
    {G : ℕ → Vec F S1x8x128 .f32} {M : ℕ} (hn : n < M) :
    (Rows B c G M : sProp 𝕄)
      ⊢ iprop((Rows B c G M -∗ wp frame (wpE (defs₀ (F := F)) Variants.none (c : Thread nD τ) none) Set.univ (k (G n)) Q)
        -∗ wp frame (wpE (defs₀ (F := F)) Variants.none (c : Thread nD τ) none) Set.univ
          (Prog.lift (.load B.arg10 (Rect.unit (s := S256x8x128) off S1x8x128.size hi).toLoadRect hl) >>= k) Q) := by
  subst ho
  unfold Rows
  iintro ⟨%X, %hX, H⟩ Hk
  have hw : (fun j => X ((Rect.unit (s := S256x8x128) ![n, 0, 0] S1x8x128.size hi).toLoadRect.idx j)) = G n := by
    funext j
    have h0 : (j 0).val = 0 := by have := (j 0).isLt; change (j 0).val < 1 at this; omega
    have e0 : ((Rect.unit (s := S256x8x128) ![n, 0, 0] S1x8x128.size hi).toLoadRect.idx j 0).val = n := by
      show n + 1 * (j 0).val = n
      omega
    rw [hX _ (by rw [e0]; exact hn), e0]
    refine congrArg (G n) (funext fun a => Fin.ext ?_)
    fin_cases a
    · show 0 = (j 0).val
      omega
    · show 0 + 1 * (j 1).val = (j 1).val
      omega
    · show 0 + 1 * (j 2).val = (j 2).val
      omega
  iapply (wp_load_bind Variants.none (c : Thread nD τ) none Set.univ (Finset.subset_univ _) hw) $$ H
  iintro H
  iapply Hk
  iexists X
  isplitr
  · ipureintro; exact hX
  · iexact H

theorem wp_row_store {n : ℕ} {off : Fin 3 → ℕ} {hi} (ho : off = ![n, 0, 0]) {w : Vec F S1x8x128 .f32} {hx} {hm}
    {k : PUnit → Prog (TpuEff nD τ sig (Elt F) Λ₀ .tc) α}
    {G G' : ℕ → Vec F S1x8x128 .f32} {M M' : ℕ} (hG : ∀ k < M', k ≠ n → k < M ∧ G' k = G k) (hw : G' n = w) :
    (Rows B c G M : sProp 𝕄)
      ⊢ iprop((Rows B c G' M' -∗ wp frame (wpE (defs₀ (F := F)) Variants.none (c : Thread nD τ) none) Set.univ (k ⟨⟩) Q)
        -∗ wp frame (wpE (defs₀ (F := F)) Variants.none (c : Thread nD τ) none) Set.univ
          (Prog.lift (.store B.arg10 (Rect.unit (s := S256x8x128) off S1x8x128.size hi) w Finset.univ hx hm) >>= k) Q) := by
  subst ho
  unfold Rows
  iintro ⟨%X, %hX, H⟩ Hk
  iapply (wp_store_bind (Y := (Rect.unit (s := S256x8x128) ![n, 0, 0] S1x8x128.size hi).overlay X w) Variants.none (c : Thread nD τ) none Set.univ (Finset.subset_univ _) (fun _ _ => rfl)) $$ H
  iintro H
  iapply Hk
  iexists _
  isplitr
  rotate_left
  · iexact H
  ipureintro
  intro i hi'
  by_cases hin : (i 0).val = n
  · have hmem : i ∈ (Rect.unit (s := S256x8x128) ![n, 0, 0] S1x8x128.size hi).set := by
      rw [Rect.mem_set_unit]
      intro a
      fin_cases a
      · show n ≤ (i 0).val ∧ (i 0).val < n + 1
        omega
      · exact ⟨Nat.zero_le _, by have := (i 1).isLt; change (i 1).val < 8 at this; show (i 1).val < 0 + 8; omega⟩
      · exact ⟨Nat.zero_le _, by have := (i 2).isLt; change (i 2).val < 128 at this; show (i 2).val < 0 + 128; omega⟩
    obtain ⟨j, hj⟩ := (Rect.unit (s := S256x8x128) ![n, 0, 0] S1x8x128.size hi).exists_idx_of_mem hmem
    have hj' : (Rect.unit (s := S256x8x128) ![n, 0, 0] S1x8x128.size hi).emb j = i := hj
    rw [hin, hw, ← hj', Rect.overlay_emb]
    refine congrArg w (funext fun a => Fin.ext ?_)
    fin_cases a
    · have := (j 0).isLt
      change (j 0).val < 1 at this
      show (j 0).val = 0
      omega
    · show (j 1).val = 0 + 1 * (j 1).val
      omega
    · show (j 2).val = 0 + 1 * (j 2).val
      omega
  · rw [Rect.overlay_of_not_mem]
    · obtain ⟨h1, h2⟩ := hG _ hi' hin
      rw [h2]; exact hX i h1
    · rw [Rect.mem_set_unit]
      intro h
      have := h 0
      change n ≤ (i 0).val ∧ (i 0).val < n + 1 at this
      omega

/-- A load of a block of a slot. -/
theorem wp_tile_load {s r : ℕ} {off : Fin 4 → ℕ} {hi} (ho : off = ![s, r, 0, 0]) (hr : r < 16) {hl}
    {k : ((Rect.unit (s := S24x16x256x128) off S1x1x256x128.size hi).toLoadRect.shape.Idx → Elt F .fp8e4m3) → Prog (TpuEff nD τ sig (Elt F) Λ₀ .tc) α}
    {T : Tile F} :
    (slotHolds B c s T : sProp 𝕄)
      ⊢ iprop((slotHolds B c s T -∗ wp frame (wpE (defs₀ (F := F)) Variants.none (c : Thread nD τ) none) Set.univ (k (tileRow T r)) Q)
        -∗ wp frame (wpE (defs₀ (F := F)) Variants.none (c : Thread nD τ) none) Set.univ
          (Prog.lift (.load B.arg7 (Rect.unit (s := S24x16x256x128) off S1x1x256x128.size hi).toLoadRect hl) >>= k) Q) := by
  subst ho
  unfold slotHolds
  have hS : (Rect.unit (s := S24x16x256x128) ![s, r, 0, 0] S1x1x256x128.size hi).toLoadRect.set ⊆ slotSet s := by
    intro i hi'
    have h0 := (Rect.mem_set_unit.mp (show i ∈ (Rect.unit (s := S24x16x256x128) ![s, r, 0, 0] S1x1x256x128.size hi).set from hi')) 0
    change s ≤ (i 0).val ∧ (i 0).val < s + 1 at h0
    exact Finset.mem_filter.mpr ⟨Finset.mem_univ _, by omega⟩
  have hw : (fun j => atIdx T ((Rect.unit (s := S24x16x256x128) ![s, r, 0, 0] S1x1x256x128.size hi).toLoadRect.idx j)) = tileRow T r := by
    funext j
    unfold atIdx tileRow
    have h1 : (j 1).val = 0 := by have := (j 1).isLt; change (j 1).val < 1 at this; omega
    have e1 : (Rect.unit (s := S24x16x256x128) ![s, r, 0, 0] S1x1x256x128.size hi).toLoadRect.idx j 1 = Fin.ofNat 16 r := by
      refine Fin.ext ?_
      show r + 1 * (j 1).val = r % 16
      omega
    have e2 : (Rect.unit (s := S24x16x256x128) ![s, r, 0, 0] S1x1x256x128.size hi).toLoadRect.idx j 2 = j 2 := by
      refine Fin.ext ?_
      show 0 + 1 * (j 2).val = (j 2).val
      omega
    have e3 : (Rect.unit (s := S24x16x256x128) ![s, r, 0, 0] S1x1x256x128.size hi).toLoadRect.idx j 3 = j 3 := by
      refine Fin.ext ?_
      show 0 + 1 * (j 3).val = (j 3).val
      omega
    rw [e1, e2, e3]
  iintro H Hk
  iapply (wp_load_bind Variants.none (c : Thread nD τ) none Set.univ hS hw) $$ H
  iexact Hk

/-- A load of a row of a scale table. -/
theorem wp_scale_load {M : Memref sig .tc .vmem S128x128 .f32} {n : ℕ} {off : Fin 2 → ℕ} {hi} (ho : off = ![n, 0]) (hn : n < 128) {hl}
    {k : ((Rect.unit (s := S128x128) off S1x128.size hi).toLoadRect.shape.Idx → Elt F .f32) → Prog (TpuEff nD τ sig (Elt F) Λ₀ .tc) α}
    {S : S128x128.Idx → Elt F .f32} :
    (holds (c : Thread nD τ) M Finset.univ fullShare S : sProp 𝕄)
      ⊢ iprop((holds (c : Thread nD τ) M Finset.univ fullShare S -∗ wp frame (wpE (defs₀ (F := F)) Variants.none (c : Thread nD τ) none) Set.univ (k (rowOf S n)) Q)
        -∗ wp frame (wpE (defs₀ (F := F)) Variants.none (c : Thread nD τ) none) Set.univ
          (Prog.lift (.load M (Rect.unit (s := S128x128) off S1x128.size hi).toLoadRect hl) >>= k) Q) := by
  subst ho
  have hw : (fun j => S ((Rect.unit (s := S128x128) ![n, 0] S1x128.size hi).toLoadRect.idx j)) = rowOf S n := by
    funext j
    unfold rowOf
    have h0 : (j 0).val = 0 := by have := (j 0).isLt; change (j 0).val < 1 at this; omega
    have h1 : (j 1).val < 128 := (j 1).isLt
    refine congrArg S (funext fun a => Fin.ext ?_)
    fin_cases a
    · show n + 1 * (j 0).val = n % 128
      omega
    · show 0 + 1 * (j 1).val = (j 1).val % 128
      omega
  iintro H Hk
  iapply (wp_load_bind Variants.none (c : Thread nD τ) none Set.univ (Finset.subset_univ _) hw) $$ H
  iexact Hk

/-! ### One tile of the score loop -/

/-- One tile of the score loop. -/
theorem wp_tileK {t3 : Fin k0_t3_loop.trips} {len v : Elt F .i32} {hw4 : k0_chk4 t3 v} {b : ℕ} (hlen : len = I.L b)
    (hv : InLen v) {t4 : Fin (k0_t4_loop v).trips} {r : Fin 8} {s : ℕ} {oA oB : Fin 4 → ℕ} {hA hB}
    (hoA : oA = ![s, 2 * r.val, 0, 0]) (hoB : oB = ![s, 2 * r.val + 1, 0, 0]) {t : ℕ} (ht : t = 8 * t4.val + r.val)
    {m : FVec F S8x128 .f32} (hm : m = mAt I A b t) {T : Tile F} (hT : T = I.ringVal (start I.NC b + t / 8))
    {k : FVec F S8x128 .f32 → Prog (TpuEff nD τ sig (Elt F) Λ₀ .tc) α} :
    iprop(slotHolds B c s T ∗ holds (c : Thread nD τ) B.arg11 Finset.univ fullShare (k0_pay451 (ksRow A b)) ∗ Rows B c (scoreR I A b) (4 * t))
      ⊢ iprop((iprop(slotHolds B c s T ∗ holds (c : Thread nD τ) B.arg11 Finset.univ fullShare (k0_pay451 (ksRow A b)) ∗ Rows B c (scoreR I A b) (4 * (t + 1)))
          -∗ wp frame (wpE (defs₀ (F := F)) Variants.none (c : Thread nD τ) none) Set.univ (k (mAt I A b (t + 1))) Q)
        -∗ wp frame (wpE (defs₀ (F := F)) Variants.none (c : Thread nD τ) none) Set.univ
          (tileK (F := F) B k0_pay470 k0_pay471 t3 len v hw4 (k0_pay450 (qRows A b)) t4 r oA hA oB hB m >>= k) Q) := by
  have h8 := lt8_of_t4 hv t4
  have hr := r.isLt
  have hd : t / 8 = t4.val := by omega
  have hmod : t % 8 = r.val := by omega
  have hblk : Scalar.addi (Scalar.muli (Scf.iv 0#32 1#32 t4.val) 16#32) (BitVec.ofNat 32 (2 * r.val)) = blkW t := by
    unfold blkW; rw [hd, hmod]
  have hs : k0_pay4 (k0_pay450 (qRows A b)) (tileRow T (2 * r.val)) (tileRow T (2 * r.val + 1)) = prodK I A b t := by
    unfold prodK; rw [hT, hmod]
  have e0 : scoreR I A b (4 * t) = shapeCast S1x8x128 (scoreV I A b t 0) shapeCasts_S8x128_S1x8x128 := by
    unfold scoreR; rw [show 4 * t / 4 = t by omega, show 4 * t % 4 = 0 by omega]
  have e1 : scoreR I A b (4 * t + 1) = shapeCast S1x8x128 (scoreV I A b t 1) shapeCasts_S8x128_S1x8x128 := by
    unfold scoreR; rw [show (4 * t + 1) / 4 = t by omega, show (4 * t + 1) % 4 = 1 by omega]
  have e2 : scoreR I A b (4 * t + 2) = shapeCast S1x8x128 (scoreV I A b t 2) shapeCasts_S8x128_S1x8x128 := by
    unfold scoreR; rw [show (4 * t + 2) / 4 = t by omega, show (4 * t + 2) % 4 = 2 by omega]
  have e3 : scoreR I A b (4 * t + 3) = shapeCast S1x8x128 (scoreV I A b t 3) shapeCasts_S8x128_S1x8x128 := by
    unfold scoreR; rw [show (4 * t + 3) / 4 = t by omega, show (4 * t + 3) % 4 = 3 by omega]
  have o0 := (off18_eq hv t4 r 0 0).trans (show _ = ![4 * t, 0, 0] by congr 1; show 2 * (16 * t4.val + 2 * r.val + 0) + 0 = _; omega)
  have o1 := (off18_eq hv t4 r 0 1).trans (show _ = ![4 * t + 1, 0, 0] by congr 1; show 2 * (16 * t4.val + 2 * r.val + 0) + 1 = _; omega)
  have o2 := (off18_eq hv t4 r 1 0).trans (show _ = ![4 * t + 2, 0, 0] by congr 1; show 2 * (16 * t4.val + 2 * r.val + 1) + 0 = _; omega)
  have o3 := (off18_eq hv t4 r 1 1).trans (show _ = ![4 * t + 3, 0, 0] by congr 1; show 2 * (16 * t4.val + 2 * r.val + 1) + 1 = _; omega)
  have q0 := (off17_eq hv t4 r 0).trans (show _ = ![2 * t, 0] by congr 1; show 16 * t4.val + 2 * r.val + 0 = _; omega)
  have q1 := (off17_eq hv t4 r 1).trans (show _ = ![2 * t + 1, 0] by congr 1; show 16 * t4.val + 2 * r.val + 1 = _; omega)
  subst hlen
  subst hm
  rw [wp_bind]
  unfold tileK
  dsimp only
  rw [hblk]
  iintro ⟨Hs, Hk, HR⟩ Hc
  iapply (wp_tile_load B c hoA (by omega)) $$ Hs
  iintro Hs
  iapply (wp_tile_load B c hoB (by omega)) $$ Hs
  iintro Hs
  rw [hs]
  iapply (wp_scale_load c q0 (by omega)) $$ Hk
  iintro Hk
  iapply (wp_row_peek B c) $$ HR
  iintro %_x HR
  iapply (wp_row_store B c (G := scoreR I A b) (G' := scoreR I A b) (M' := 4 * t + 1) o0 (fun k h1 h2 => ⟨by omega, rfl⟩) e0) $$ HR
  iintro HR
  iapply (wp_row_peek B c) $$ HR
  iintro %_x HR
  iapply (wp_row_store B c (G := scoreR I A b) (G' := scoreR I A b) (M' := 4 * t + 2) o1 (fun k h1 h2 => ⟨by omega, rfl⟩) e1) $$ HR
  iintro HR
  iapply (wp_scale_load c q1 (by omega)) $$ Hk
  iintro Hk
  iapply (wp_row_peek B c) $$ HR
  iintro %_x HR
  iapply (wp_row_store B c (G := scoreR I A b) (G' := scoreR I A b) (M' := 4 * t + 3) o2 (fun k h1 h2 => ⟨by omega, rfl⟩) e2) $$ HR
  iintro HR
  iapply (wp_row_peek B c) $$ HR
  iintro %_x HR
  iapply (wp_row_store B c (G := scoreR I A b) (G' := scoreR I A b) (M' := 4 * (t + 1)) o3 (fun k h1 h2 => ⟨by omega, rfl⟩) e3) $$ HR
  iintro HR
  iapply (le_wp_ret _ _ _ _ _)
  iapply Hc
  isplitl [Hs]; · iexact Hs
  isplitl [Hk]; · iexact Hk
  iexact HR

/-! ### One row of the exponential loop -/

/-- Exponentials in the first `N` rows, scores after. -/
def mixR (b N : ℕ) (n : ℕ) : Vec F S1x8x128 .f32 := if n < N then expR I A b n else scoreR I A b n

theorem wp_expStep {t3 : Fin k0_t3_loop.trips} {v : Elt F .i32} {hw4 : k0_chk4 t3 v} {b : ℕ}
    (hv : InLen v) {t6 : Fin (k0_t6_loop v).trips} {r : Fin 8} {n : ℕ} (hn : n = 8 * t6.val + r.val)
    {M : ℕ} (hM : n < M) {l : FVec F S8x128 .f32} (hl : l = lAt I A b n)
    {k : FVec F S8x128 .f32 → Prog (TpuEff nD τ sig (Elt F) Λ₀ .tc) α} :
    (Rows B c (mixR I A b n) M : sProp 𝕄)
      ⊢ iprop((Rows B c (mixR I A b (n + 1)) M
          -∗ wp frame (wpE (defs₀ (F := F)) Variants.none (c : Thread nD τ) none) Set.univ (k (lAt I A b (n + 1))) Q)
        -∗ wp frame (wpE (defs₀ (F := F)) Variants.none (c : Thread nD τ) none) Set.univ
          (expStep (F := F) B t3 v hw4 (mxOf I A b) t6 r l >>= k) Q) := by
  have o0 := (off68_eq hv t6 r).trans (show _ = ![n, 0, 0] by rw [hn])
  have hx : mixR I A b n n = scoreR I A b n := by unfold mixR; rw [if_neg (by omega)]
  subst hl
  rw [wp_bind]
  unfold expStep
  iintro HR Hc
  iapply (wp_row_load B c o0 hM) $$ HR
  iintro HR
  rw [hx]
  iapply (wp_row_peek B c) $$ HR
  iintro %_x HR
  iapply (wp_row_store B c (G := mixR I A b n) (G' := mixR I A b (n + 1)) (M' := M) o0 (fun k h1 h2 => ⟨h1, by
    unfold mixR
    by_cases h : k < n
    · rw [if_pos h, if_pos (by omega)]
    · rw [if_neg h, if_neg (by omega)]⟩) (show mixR I A b (n + 1) n = expR I A b n by unfold mixR; rw [if_pos (by omega)])) $$ HR
  iintro HR
  iapply (le_wp_ret _ _ _ _ _)
  iapply Hc
  iexact HR

/-! ### One tile of the value loop -/

theorem wp_tileV {t3 : Fin k0_t3_loop.trips} {v : Elt F .i32} {hw4 : k0_chk4 t3 v} {b : ℕ}
    (hv : InLen v) {t8 : Fin (k0_t8_loop v).trips} {r : Fin 8} {s : ℕ} {oA oB : Fin 4 → ℕ} {hA hB}
    (hoA : oA = ![s, 2 * r.val, 0, 0]) (hoB : oB = ![s, 2 * r.val + 1, 0, 0]) {t : ℕ} (ht : t = 8 * t8.val + r.val)
    {a : FVec F S64x256 .f32} (ha : a = accAt I A b t) {T : Tile F} (hT : T = I.ringVal (start I.NC b + I.NC b + t / 8))
    {M : ℕ} (hM : 4 * t + 4 ≤ M)
    {k : FVec F S64x256 .f32 → Prog (TpuEff nD τ sig (Elt F) Λ₀ .tc) α} :
    iprop(slotHolds B c s T ∗ holds (c : Thread nD τ) B.arg12 Finset.univ fullShare (k0_pay452 (vsRow A b)) ∗ Rows B c (expR I A b) M)
      ⊢ iprop((iprop(slotHolds B c s T ∗ holds (c : Thread nD τ) B.arg12 Finset.univ fullShare (k0_pay452 (vsRow A b)) ∗ Rows B c (expR I A b) M)
          -∗ wp frame (wpE (defs₀ (F := F)) Variants.none (c : Thread nD τ) none) Set.univ (k (accAt I A b (t + 1))) Q)
        -∗ wp frame (wpE (defs₀ (F := F)) Variants.none (c : Thread nD τ) none) Set.univ
          (tileV (F := F) B k0_pay470 t3 v hw4 (invOf I A b) t8 r oA hA oB hB a >>= k) Q) := by
  have h8 := lt8_of_t8 hv t8
  have hr := r.isLt
  have hmod : t % 8 = r.val := by omega
  have o0 := (off76_eq hv t8 r 0 0).trans (show _ = ![4 * t, 0, 0] by congr 1; show 2 * (16 * t8.val + 2 * r.val + 0) + 0 = _; omega)
  have o1 := (off76_eq hv t8 r 0 1).trans (show _ = ![4 * t + 1, 0, 0] by congr 1; show 2 * (16 * t8.val + 2 * r.val + 0) + 1 = _; omega)
  have o2 := (off76_eq hv t8 r 1 0).trans (show _ = ![4 * t + 2, 0, 0] by congr 1; show 2 * (16 * t8.val + 2 * r.val + 1) + 0 = _; omega)
  have o3 := (off76_eq hv t8 r 1 1).trans (show _ = ![4 * t + 3, 0, 0] by congr 1; show 2 * (16 * t8.val + 2 * r.val + 1) + 1 = _; omega)
  have q0 := (off75_eq hv t8 r 0).trans (show _ = ![2 * t, 0] by congr 1; show 16 * t8.val + 2 * r.val + 0 = _; omega)
  have q1 := (off75_eq hv t8 r 1).trans (show _ = ![2 * t + 1, 0] by congr 1; show 16 * t8.val + 2 * r.val + 1 = _; omega)
  have hacc : accAt I A b (t + 1) = accStep k0_pay470 (invOf I A b) (accAt I A b t) (tileRow T (2 * r.val)) (tileRow T (2 * r.val + 1))
      (rowOf (k0_pay452 (vsRow A b)) (2 * t)) (expR I A b (4 * t)) (expR I A b (4 * t + 1))
      (rowOf (k0_pay452 (vsRow A b)) (2 * t + 1)) (expR I A b (4 * t + 2)) (expR I A b (4 * t + 3)) := by
    rw [hT, ← hmod]; rfl
  rw [hacc]
  subst ha
  rw [wp_bind]
  unfold tileV
  iintro ⟨Hs, Hk, HR⟩ Hc
  iapply (wp_tile_load B c hoA (by omega)) $$ Hs
  iintro Hs
  iapply (wp_tile_load B c hoB (by omega)) $$ Hs
  iintro Hs
  iapply (wp_scale_load c q0 (by omega)) $$ Hk
  iintro Hk
  iapply (wp_row_load B c o0 (by omega)) $$ HR
  iintro HR
  iapply (wp_row_load B c o1 (by omega)) $$ HR
  iintro HR
  iapply (wp_scale_load c q1 (by omega)) $$ Hk
  iintro Hk
  iapply (wp_row_load B c o2 (by omega)) $$ HR
  iintro HR
  iapply (wp_row_load B c o3 (by omega)) $$ HR
  iintro HR
  iapply (le_wp_ret _ _ _ _ _)
  iapply Hc
  isplitl [Hs]; · iexact Hs
  isplitl [Hk]; · iexact Hk
  iexact HR

end

end Cert.Proof.KernelIdeal
-- ==== Proof.KernelIdeal.Trips.lean ====
/- The ring as one resource, the wait for a chunk, and the trips of the score loop, of the exponential loop
   and of the value loop. -/
module

public import proofs.«01_k».proof.Proof.KernelIdeal.Tiles

@[expose] public section

set_option maxRecDepth 65536
set_option pp.maxSteps 250

noncomputable section

namespace Cert.Proof.KernelIdeal

open Cert.KernelIdeal Cert.KernelIdeal.Gen Cert.Proof.Rules Cert.Proof.Sched
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

variable (I : Ins F) (A : Arr F) (B : Bufs) (c : Dev nD)

/-! ### The ring -/

/-- A separating product over one more index. -/
theorem bs_insert {s : Finset ℕ} {i : ℕ} (hi : i ∉ s) (Φ : ℕ → sProp (MT nD τ sig Unit (Elt F) ℕ (Pipeline.UD sig nD τ) ℕ)) :
    (bigSep (insert i s) Φ) = iprop(Φ i ∗ bigSep s Φ) := bigSep_insert hi

/-- The slot of transfer `j`, before its issue. -/
def ResB (j : ℕ) : sProp 𝕄 := Res I B c (j % 24) (slotlt j) (I.ringBefore j)

/-- The ring when the transfers from `g` up to `p` are issued and not yet waited for. -/
def Slots (g p : ℕ) : sProp 𝕄 :=
  iprop(bigSep (Finset.Ico g p) (SlotR I B c) ∗ bigSep (Finset.Ico p (g + 24)) (ResB I B c))

theorem Res_cast {s s' : ℕ} (h : s = s') (hs : s < 24) (hs' : s' < 24) (T : Tile F) :
    (Res I B c s hs T : sProp 𝕄) = Res I B c s' hs' T := by
  subst h; rfl

theorem Slots_take {g p : ℕ} (h : g < p) (hp : p ≤ g + 24) :
    (Slots I B c g p : sProp 𝕄) ⊢ iprop(SlotR I B c g ∗ (Res I B c (g % 24) (slotlt g) (I.ringVal g) -∗ Slots I B c (g + 1) p)) := by
  unfold Slots
  have e1 : Finset.Ico g p = insert g (Finset.Ico (g + 1) p) := by
    ext x; simp only [Finset.mem_insert, Finset.mem_Ico]; omega
  have e2 : Finset.Ico p (g + 1 + 24) = insert (g + 24) (Finset.Ico p (g + 24)) := by
    ext x; simp only [Finset.mem_insert, Finset.mem_Ico]; omega
  have e3 : (ResB I B c (g + 24) : sProp 𝕄) = Res I B c (g % 24) (slotlt g) (I.ringVal g) := by
    unfold ResB
    rw [I.ringBefore_add]
    exact Res_cast I B c (by omega) _ _ _
  rw [e1, e2, bs_insert (by simp), bs_insert (by simp), e3]
  iintro ⟨⟨H1, H2⟩, H3⟩
  isplitl [H1]; · iexact H1
  iintro H
  isplitl [H2]; · iexact H2
  isplitl [H]; · iexact H
  iexact H3

theorem Slots_put {g p : ℕ} (hp : p < g + 24) (hg : g ≤ p) :
    (Slots I B c g p : sProp 𝕄) ⊢ iprop(ResB I B c p ∗ (SlotR I B c p -∗ Slots I B c g (p + 1))) := by
  unfold Slots
  have e1 : Finset.Ico p (g + 24) = insert p (Finset.Ico (p + 1) (g + 24)) := by
    ext x; simp only [Finset.mem_insert, Finset.mem_Ico]; omega
  have e2 : Finset.Ico g (p + 1) = insert p (Finset.Ico g p) := by
    ext x; simp only [Finset.mem_insert, Finset.mem_Ico]; omega
  rw [e1, e2, bs_insert (by simp), bs_insert (by simp)]
  iintro ⟨H1, H2, H3⟩
  isplitl [H2]; · iexact H2
  iintro H
  isplitr [H3]
  · isplitl [H]; · iexact H
    iexact H1
  iexact H3

/-- What the core is owed credit for; nothing. -/
def Owes : sProp 𝕄 := iprop(∃ W : Waits sig Unit, owes (c : Thread nD τ) 0 W)

/-- The wait for a transfer under way. -/
theorem wp_wait {s : ℕ} {hs : s < 24} {n : ℕ} {R : sProp (MT nD τ sig Unit (Elt F) ℕ (Pipeline.UD sig nD τ) ℕ)} {hk}
    {α : Type} {Q : α → sProp (MT nD τ sig Unit (Elt F) ℕ (Pipeline.UD sig nD τ) ℕ)}
    {k : PUnit → Prog (TpuEff nD τ sig (Elt F) Λ₀ .tc) α} :
    iprop(Fly B c s hs n R ∗ Owes c)
      ⊢ iprop((iprop(R ∗ semVal ((c : Thread nD τ), .dma (semAt B s hs)) 0 ∗ Owes c)
          -∗ wp frame (wpE (defs₀ (F := F)) Variants.none (c : Thread nD τ) none) Set.univ (k ⟨⟩) Q)
        -∗ wp frame (wpE (defs₀ (F := F)) Variants.none (c : Thread nD τ) none) Set.univ
          (Prog.lift (.waitDma (semAt B s hs) B.arg7.view.ref (⟨3, ![n, 256, 128]⟩ : Shape) .fp8e4m3 hk) >>= k) Q) := by
  unfold Fly Owes
  iintro ⟨⟨%D, HF, HD⟩, ⟨%W, HO⟩⟩ Hk
  iapply (Transfers.wp_waitLocalSized (k := k) (countersEmb (U := Pipeline.UD sig nD τ)) Variants.none (c : Thread nD τ) none () (N := credit B n) rfl) $$ [HF HO]
  · isplitl [HF]; · iexact HF
    iexact HO
  iintro ⟨Hd, Hv, HO⟩
  iapply Hk
  isplitl [Hd HD]
  · iapply HD; iexact Hd
  isplitl [Hv]; · iexact Hv
  iexists _
  iexact HO

/-! ### The score loop -/

/-- The producer's words and the consumer's slot word. -/
structure WordsC (g : ℕ) (b k cw sl slot : BitVec 32) : Prop where
  w : Words I (g + 24) b k cw sl
  s : slot.toNat = g % 24

/-- Before trip `t` of the score loop of sequence `b`. -/
def kInv (b t : ℕ) (acc : BitVec 32 × BitVec 32 × BitVec 32 × BitVec 32 × BitVec 32 × FVec F S8x128 .f32) : sProp 𝕄 :=
  iprop(⌜WordsC I (start I.NC b + t) acc.1 acc.2.1 acc.2.2.1 acc.2.2.2.1 acc.2.2.2.2.1 ∧ acc.2.2.2.2.2 = mAt I A b (8 * t)⌝
    ∗ holds (c : Thread nD τ) B.arg0 Finset.univ fullShare I.len
    ∗ Slots I B c (start I.NC b + t) (start I.NC b + t + 24)
    ∗ holds (c : Thread nD τ) B.arg11 Finset.univ fullShare (k0_pay451 (ksRow A b))
    ∗ Rows B c (scoreR I A b) (32 * t) ∗ Owes c)

theorem slot_next {g : ℕ} {slot : BitVec 32} (h : slot.toNat = g % 24) : (slotNext slot).toNat = (g + 1) % 24 := by
  rw [slotNext_eq (by omega), h]; omega

theorem live_key (hI : I.Ok) {b t : ℕ} (hb : b < 64) (ht : t < I.NC b) :
    I.st (start I.NC b + t) = (b, 0, t) ∧ I.st (start I.NC b + I.NC b + t) = (b, 1, t) :=
  st_at hI.NC_pos hb ht

/-- The words of a live transfer are known at its slot. -/
theorem SlotR_live {j b k t : ℕ} (h : I.st j = (b, k, t)) (hb : b < 64) (T : Tile F) (hT : I.ringVal j = T) :
    (SlotR I B c j : sProp 𝕄) = Fly B c (j % 24) (slotlt j) (nN (I.L b).toNat t) (Back I B c (j % 24) T) := by
  subst hT
  unfold SlotR
  rw [h, if_pos hb]

theorem Fly_cast {s s' : ℕ} (h : s = s') (hs : s < 24) (hs' : s' < 24) {n n' : ℕ} (hn : n = n') (T : Tile F) :
    (Fly B c s hs n (Back I B c s T) : sProp 𝕄) = Fly B c s' hs' n' (Back I B c s' T) := by
  subst h; subst hn; rfl

theorem nWiv_all : ∀ n : Fin 129, ∀ t : Fin 8, 16 * t.val < n.val →
    (nW (BitVec.ofNat 32 n.val) (Scf.iv 0#32 1#32 t.val)).toNat = min (n.val - 16 * t.val) 16 := by decide +kernel

theorem nW_iv {L : BitVec 32} (h : InLen L) {t : ℕ} (ht : t < ncN L.toNat) :
    (nW (nbW L) (Scf.iv 0#32 1#32 t)).toNat = nN L.toNat t := by
  have h8 := ncN_le h.2
  have e := iv_toNat t (by omega)
  rw [nW_eq h (by rw [e]; exact ht), e]

set_option maxHeartbeats 2000000 in
/-- One trip of the score loop. -/
theorem kTrip_step (hI : I.Ok) {b : ℕ} (hb : b < 64) {t3 : Fin k0_t3_loop.trips} {hw4 : k0_chk4 t3 (I.L b)}
    (t4 : Fin (k0_t4_loop (I.L b)).trips)
    (acc : BitVec 32 × BitVec 32 × BitVec 32 × BitVec 32 × BitVec 32 × FVec F S8x128 .f32) :
    (kInv I A B c b t4.val acc : sProp 𝕄)
      ⊢ wp frame (wpE (defs₀ (F := F)) Variants.none (c : Thread nD τ) none) Set.univ
          (kTrip (F := F) B k0_pay470 k0_pay471 t3 (I.L b) (I.L b) hw4 (k0_pay450 (qRows A b)) t4 acc)
          (kInv I A B c b (t4.val + 1)) := by
  obtain ⟨bw, kw, cw, sl, slot, m⟩ := acc
  have hL : InLen (I.L b) := hI _
  have ht : t4.val < I.NC b := lt_of_lt_of_eq t4.isLt (t4_trips hL)
  have h8 := lt8_of_t4 hL t4
  obtain ⟨hst, -⟩ := live_key I hI hb ht
  unfold kInv
  dsimp only
  generalize hg : start I.NC b + t4.val = g at hst ⊢
  have hg1 : start I.NC b + (t4.val + 1) = g + 1 := by omega
  rw [hg1]
  iintro ⟨%hw, H0, HS, HK, HR, HO⟩
  obtain ⟨⟨hW, hs⟩, hm⟩ := hw
  have hslt : slot.toNat < 24 := by omega
  have hb64 : bw.toNat ≤ 64 := by rw [hW.b]; exact (st_ok' I hI _).1
  unfold kTrip
  dsimp only
  iapply (wp_assume_bind Variants.none (c : Thread nD τ) none Set.univ (chk7_of hW.lt))
  iapply (wp_assume_bind Variants.none (c : Thread nD τ) none Set.univ (chk6_of hb64))
  iapply (wp_assume_bind Variants.none (c : Thread nD τ) none Set.univ (chk5_of t4 hslt))
  ihave HS' := (Slots_take I B c (g := g) (p := g + 24) (by omega) (by omega)) $$ HS
  icases HS' with ⟨Hg, HS⟩
  ihave Hg := (Entails.of_eq ((SlotR_live I B c hst hb _ rfl).trans
    (Fly_cast I B c hs.symm (slotlt g) hslt (nW_iv hL ht).symm _))) $$ Hg
  iapply (wp_wait B c (hs := hslt)) $$ [Hg HO]
  · isplitl [Hg]; · iexact Hg
    iexact HO
  unfold Back
  iintro ⟨⟨Hsl, HbK, HbV⟩, Hv, HO⟩
  have tk : ∀ r, r < 8 → I.ringVal g = I.ringVal (start I.NC b + (8 * t4.val + r) / 8) := fun r hr => by
    rw [show (8 * t4.val + r) / 8 = t4.val by omega, hg]
  iapply (wp_tileK I A B c rfl hL (s := slot.toNat) rfl rfl (t := 8 * t4.val) rfl hm (tk 0 (by omega))) $$ [Hsl HK HR]
  · isplitl [Hsl]; · iexact Hsl
    isplitl [HK]; · iexact HK
    iapply (Rows_congr B c (by omega) (fun _ _ => rfl)) $$ HR
  iintro H
  iapply (wp_tileK I A B c rfl hL (s := slot.toNat) rfl rfl (t := 8 * t4.val + 1) rfl rfl (tk 1 (by omega))) $$ H
  iintro H
  iapply (wp_tileK I A B c rfl hL (s := slot.toNat) rfl rfl (t := 8 * t4.val + 2) rfl rfl (tk 2 (by omega))) $$ H
  iintro H
  iapply (wp_tileK I A B c rfl hL (s := slot.toNat) rfl rfl (t := 8 * t4.val + 3) rfl rfl (tk 3 (by omega))) $$ H
  iintro H
  iapply (wp_tileK I A B c rfl hL (s := slot.toNat) rfl rfl (t := 8 * t4.val + 4) rfl rfl (tk 4 (by omega))) $$ H
  iintro H
  iapply (wp_tileK I A B c rfl hL (s := slot.toNat) rfl rfl (t := 8 * t4.val + 5) rfl rfl (tk 5 (by omega))) $$ H
  iintro H
  iapply (wp_tileK I A B c rfl hL (s := slot.toNat) rfl rfl (t := 8 * t4.val + 6) rfl rfl (tk 6 (by omega))) $$ H
  iintro H
  iapply (wp_tileK I A B c rfl hL (s := slot.toNat) rfl rfl (t := 8 * t4.val + 7) rfl rfl (tk 7 (by omega))) $$ H
  iintro ⟨Hsl, HK, HR⟩
  ihave HS := HS $$ [Hsl Hv HbK HbV]
  · iapply (Entails.of_eq (Res_cast I B c hs hslt (slotlt g) _))
    unfold Res
    isplitl [Hsl]; · iexact Hsl
    isplitl [Hv]; · iexact Hv
    isplitl [HbK]; · iexact HbK
    iexact HbV
  ihave HS' := (Slots_put I B c (g := g + 1) (p := g + 24) (by omega) (by omega)) $$ HS
  icases HS' with ⟨Hp, HS⟩
  rw [issueK_eq B bw kw cw sl (chk2_of hW.lt) (chk1_of hb64), wp_bind]
  unfold ResB
  ihave Hw := (wp_issue I B c hI hW (chk2_of hW.lt) (chk1_of hb64)) $$ [H0 Hp]
  · isplitl [H0]; · iexact H0
    iexact Hp
  iapply (wp_wand _ _ _) $$ Hw
  iintro %r ⟨%hr, H0, HSr⟩
  obtain ⟨b', k', c', sl'⟩ := r
  iapply (le_wp_ret _ _ _ _ _)
  dsimp only
  isplitr
  · ipureintro
    exact ⟨⟨hr, slot_next hs⟩, rfl⟩
  isplitl [H0]; · iexact H0
  isplitl [HS HSr]
  · iapply HS; iexact HSr
  isplitl [HK]; · iexact HK
  isplitl [HR]
  · iapply (Rows_congr B c (by omega) (fun _ _ => rfl)) $$ HR
  iexact HO

/-! ### The exponential loop -/

/-- Before trip `t` of the exponential loop of sequence `b`. -/
def eInv (b t : ℕ) (l : FVec F S8x128 .f32) : sProp 𝕄 :=
  iprop(⌜l = lAt I A b (8 * t)⌝ ∗ Rows B c (mixR I A b (8 * t)) (32 * I.NC b))

/-- One trip of the exponential loop. -/
theorem expTrip_step (hI : I.Ok) {b : ℕ} (hb : b < 64) {t3 : Fin k0_t3_loop.trips} {hw4 : k0_chk4 t3 (I.L b)}
    (t6 : Fin (k0_t6_loop (I.L b)).trips) (l : FVec F S8x128 .f32) :
    (eInv I A B c b t6.val l : sProp 𝕄)
      ⊢ wp frame (wpE (defs₀ (F := F)) Variants.none (c : Thread nD τ) none) Set.univ
          (expTrip (F := F) B t3 (I.L b) hw4 (mxOf I A b) t6 l) (eInv I A B c b (t6.val + 1)) := by
  have hL : InLen (I.L b) := hI _
  have ht : t6.val < I.NC b * 4 := lt_of_lt_of_eq t6.isLt (t6_trips hL)
  unfold eInv
  iintro ⟨%hl, HR⟩
  unfold expTrip
  iapply (wp_expStep I A B c (t3 := t3) (hw4 := hw4) hL (n := 8 * t6.val) rfl (by omega) hl) $$ HR
  iintro HR
  iapply (wp_expStep I A B c (t3 := t3) (hw4 := hw4) hL (n := 8 * t6.val + 1) rfl (by omega) rfl) $$ HR
  iintro HR
  iapply (wp_expStep I A B c (t3 := t3) (hw4 := hw4) hL (n := 8 * t6.val + 2) rfl (by omega) rfl) $$ HR
  iintro HR
  iapply (wp_expStep I A B c (t3 := t3) (hw4 := hw4) hL (n := 8 * t6.val + 3) rfl (by omega) rfl) $$ HR
  iintro HR
  iapply (wp_expStep I A B c (t3 := t3) (hw4 := hw4) hL (n := 8 * t6.val + 4) rfl (by omega) rfl) $$ HR
  iintro HR
  iapply (wp_expStep I A B c (t3 := t3) (hw4 := hw4) hL (n := 8 * t6.val + 5) rfl (by omega) rfl) $$ HR
  iintro HR
  iapply (wp_expStep I A B c (t3 := t3) (hw4 := hw4) hL (n := 8 * t6.val + 6) rfl (by omega) rfl) $$ HR
  iintro HR
  iapply (wp_expStep I A B c (t3 := t3) (hw4 := hw4) hL (n := 8 * t6.val + 7) rfl (by omega) rfl) $$ HR
  iintro HR
  iapply (le_wp_ret _ _ _ _ _)
  isplitr
  · ipureintro; rfl
  iexact HR

/-! ### The value loop -/

/-- Before trip `t` of the value loop of sequence `b`. -/
def vInv (b t : ℕ) (acc : BitVec 32 × BitVec 32 × BitVec 32 × BitVec 32 × BitVec 32 × FVec F S64x256 .f32) : sProp 𝕄 :=
  iprop(⌜WordsC I (start I.NC b + I.NC b + t) acc.1 acc.2.1 acc.2.2.1 acc.2.2.2.1 acc.2.2.2.2.1 ∧ acc.2.2.2.2.2 = accAt I A b (8 * t)⌝
    ∗ holds (c : Thread nD τ) B.arg0 Finset.univ fullShare I.len
    ∗ Slots I B c (start I.NC b + I.NC b + t) (start I.NC b + I.NC b + t + 24)
    ∗ holds (c : Thread nD τ) B.arg12 Finset.univ fullShare (k0_pay452 (vsRow A b))
    ∗ Rows B c (expR I A b) (32 * I.NC b) ∗ Owes c)

set_option maxHeartbeats 2000000 in
/-- One trip of the value loop. -/
theorem vTrip_step (hI : I.Ok) {b : ℕ} (hb : b < 64) {t3 : Fin k0_t3_loop.trips} {hw4 : k0_chk4 t3 (I.L b)}
    (t8 : Fin (k0_t8_loop (I.L b)).trips)
    (acc : BitVec 32 × BitVec 32 × BitVec 32 × BitVec 32 × BitVec 32 × FVec F S64x256 .f32) :
    (vInv I A B c b t8.val acc : sProp 𝕄)
      ⊢ wp frame (wpE (defs₀ (F := F)) Variants.none (c : Thread nD τ) none) Set.univ
          (vTrip (F := F) B k0_pay470 t3 (I.L b) hw4 (invOf I A b) t8 acc)
          (vInv I A B c b (t8.val + 1)) := by
  obtain ⟨bw, kw, cw, sl, slot, m⟩ := acc
  have hL : InLen (I.L b) := hI _
  have ht : t8.val < I.NC b := lt_of_lt_of_eq t8.isLt (t8_trips hL)
  have h8 := lt8_of_t8 hL t8
  obtain ⟨-, hst⟩ := live_key I hI hb ht
  unfold vInv
  dsimp only
  generalize hg : start I.NC b + I.NC b + t8.val = g at hst ⊢
  have hg1 : start I.NC b + I.NC b + (t8.val + 1) = g + 1 := by omega
  rw [hg1]
  iintro ⟨%hw, H0, HS, HK, HR, HO⟩
  obtain ⟨⟨hW, hs⟩, hm⟩ := hw
  have hslt : slot.toNat < 24 := by omega
  have hb64 : bw.toNat ≤ 64 := by rw [hW.b]; exact (st_ok' I hI _).1
  unfold vTrip
  dsimp only
  iapply (wp_assume_bind Variants.none (c : Thread nD τ) none Set.univ (chk15_of hW.lt))
  iapply (wp_assume_bind Variants.none (c : Thread nD τ) none Set.univ (chk14_of hb64))
  iapply (wp_assume_bind Variants.none (c : Thread nD τ) none Set.univ (chk13_of t8 hslt))
  ihave HS' := (Slots_take I B c (g := g) (p := g + 24) (by omega) (by omega)) $$ HS
  icases HS' with ⟨Hg, HS⟩
  ihave Hg := (Entails.of_eq ((SlotR_live I B c hst hb _ rfl).trans
    (Fly_cast I B c hs.symm (slotlt g) hslt (nW_iv hL ht).symm _))) $$ Hg
  iapply (wp_wait B c (hs := hslt)) $$ [Hg HO]
  · isplitl [Hg]; · iexact Hg
    iexact HO
  unfold Back
  iintro ⟨⟨Hsl, HbK, HbV⟩, Hv, HO⟩
  have tk : ∀ r, r < 8 → I.ringVal g = I.ringVal (start I.NC b + I.NC b + (8 * t8.val + r) / 8) := fun r hr => by
    rw [show (8 * t8.val + r) / 8 = t8.val by omega, hg]
  iapply (wp_tileV I A B c hL (s := slot.toNat) rfl rfl (t := 8 * t8.val) rfl hm (tk 0 (by omega)) (M := 32 * I.NC b) (by omega)) $$ [Hsl HK HR]
  · isplitl [Hsl]; · iexact Hsl
    isplitl [HK]; · iexact HK
    iexact HR
  iintro H
  iapply (wp_tileV I A B c hL (s := slot.toNat) rfl rfl (t := 8 * t8.val + 1) rfl rfl (tk 1 (by omega)) (M := 32 * I.NC b) (by omega)) $$ H
  iintro H
  iapply (wp_tileV I A B c hL (s := slot.toNat) rfl rfl (t := 8 * t8.val + 2) rfl rfl (tk 2 (by omega)) (M := 32 * I.NC b) (by omega)) $$ H
  iintro H
  iapply (wp_tileV I A B c hL (s := slot.toNat) rfl rfl (t := 8 * t8.val + 3) rfl rfl (tk 3 (by omega)) (M := 32 * I.NC b) (by omega)) $$ H
  iintro H
  iapply (wp_tileV I A B c hL (s := slot.toNat) rfl rfl (t := 8 * t8.val + 4) rfl rfl (tk 4 (by omega)) (M := 32 * I.NC b) (by omega)) $$ H
  iintro H
  iapply (wp_tileV I A B c hL (s := slot.toNat) rfl rfl (t := 8 * t8.val + 5) rfl rfl (tk 5 (by omega)) (M := 32 * I.NC b) (by omega)) $$ H
  iintro H
  iapply (wp_tileV I A B c hL (s := slot.toNat) rfl rfl (t := 8 * t8.val + 6) rfl rfl (tk 6 (by omega)) (M := 32 * I.NC b) (by omega)) $$ H
  iintro H
  iapply (wp_tileV I A B c hL (s := slot.toNat) rfl rfl (t := 8 * t8.val + 7) rfl rfl (tk 7 (by omega)) (M := 32 * I.NC b) (by omega)) $$ H
  iintro ⟨Hsl, HK, HR⟩
  ihave HS := HS $$ [Hsl Hv HbK HbV]
  · iapply (Entails.of_eq (Res_cast I B c hs hslt (slotlt g) _))
    unfold Res
    isplitl [Hsl]; · iexact Hsl
    isplitl [Hv]; · iexact Hv
    isplitl [HbK]; · iexact HbK
    iexact HbV
  ihave HS' := (Slots_put I B c (g := g + 1) (p := g + 24) (by omega) (by omega)) $$ HS
  icases HS' with ⟨Hp, HS⟩
  rw [issueV_eq B bw kw cw sl (chk2_of hW.lt) (chk1_of hb64), wp_bind]
  unfold ResB
  ihave Hw := (wp_issue I B c hI hW (chk2_of hW.lt) (chk1_of hb64)) $$ [H0 Hp]
  · isplitl [H0]; · iexact H0
    iexact Hp
  iapply (wp_wand _ _ _) $$ Hw
  iintro %r ⟨%hr, H0, HSr⟩
  obtain ⟨b', k', c', sl'⟩ := r
  iapply (le_wp_ret _ _ _ _ _)
  dsimp only
  isplitr
  · ipureintro
    exact ⟨⟨hr, slot_next hs⟩, rfl⟩
  isplitl [H0]; · iexact H0
  isplitl [HS HSr]
  · iapply HS; iexact HSr
  isplitl [HK]; · iexact HK
  isplitl [HR]
  · iexact HR
  iexact HO

end Cert.Proof.KernelIdeal
-- ==== Proof.KernelIdeal.Seq.lean ====
/- The work on one sequence: the scale tables are laid out, the three loops run, the output rows are
   stored. -/
module

public import proofs.«01_k».proof.Proof.KernelIdeal.Trips

@[expose] public section

set_option maxRecDepth 65536
set_option pp.maxSteps 250

noncomputable section

namespace Cert.Proof.KernelIdeal

open Cert.KernelIdeal Cert.KernelIdeal.Gen Cert.Proof.Rules Cert.Proof.Sched
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

variable (I : Ins F) (A : Arr F) (B : Bufs) (c : Dev nD)

/-- A counted loop, by an invariant, before the rest of a program. -/
theorem wp_loop {w : ℕ} (l : Scf.Loop w) (hok : l.OK) {σ : Type} (init : σ)
    (body : Fin l.trips → σ → Prog (TpuEff nD τ sig (Elt F) Λ₀ .tc) σ)
    (inv : ℕ → σ → sProp (MT nD τ sig Unit (Elt F) ℕ (Pipeline.UD sig nD τ) ℕ))
    (step : ∀ (k : Fin l.trips) (acc : σ), inv k acc
      ⊢ wp frame (wpE (defs₀ (F := F)) Variants.none (c : Thread nD τ) none) Set.univ (body k acc) (inv (k.val + 1)))
    {n : ℕ} (hn : l.trips = n)
    {β : Type} {kk : σ → Prog (TpuEff nD τ sig (Elt F) Λ₀ .tc) β} {Q : β → sProp (MT nD τ sig Unit (Elt F) ℕ (Pipeline.UD sig nD τ) ℕ)} :
    inv 0 init ⊢ iprop((∀ acc, inv n acc -∗ wp frame (wpE (defs₀ (F := F)) Variants.none (c : Thread nD τ) none) Set.univ (kk acc) Q)
      -∗ wp frame (wpE (defs₀ (F := F)) Variants.none (c : Thread nD τ) none) Set.univ (Scf.Loop.for l hok init body >>= kk) Q) := by
  subst hn
  exact Scf.wp_for_bind frame (wpE (defs₀ (F := F)) Variants.none (c : Thread nD τ) none) Set.univ l.lb l.ub l.st hok init body inv step

/-- A buffer held whole, reading whatever. -/
def Any {s : Shape} {e : EltTy} (M : Memref sig .tc .vmem s e) : sProp 𝕄 :=
  iprop(∃ X : s.Idx → Elt F e, holds (c : Thread nD τ) M Finset.univ fullShare X)

/-- A part of a buffer reading `G`, the buffer held whole. -/
def Upto {s : Shape} {e : EltTy} (M : Memref sig .tc .vmem s e) (P : s.Idx → Prop) (G : s.Idx → Elt F e) : sProp 𝕄 :=
  iprop(∃ X : s.Idx → Elt F e, ⌜∀ i, P i → X i = G i⌝ ∗ holds (c : Thread nD τ) M Finset.univ fullShare X)

/-- Between two sequences. -/
def sInv (b : ℕ) (acc : BitVec 32 × BitVec 32 × BitVec 32 × BitVec 32 × BitVec 32) : sProp 𝕄 :=
  iprop(⌜WordsC I (start I.NC b) acc.1 acc.2.1 acc.2.2.1 acc.2.2.2.1 acc.2.2.2.2⌝
    ∗ holds (c : Thread nD τ) B.arg0 Finset.univ fullShare I.len
    ∗ Slots I B c (start I.NC b) (start I.NC b + 24)
    ∗ holds (c : Thread nD τ) B.arg8 Finset.univ fullShare (qArr A)
    ∗ holds (c : Thread nD τ) B.arg3 Finset.univ fullShare A.ks
    ∗ holds (c : Thread nD τ) B.arg5 Finset.univ fullShare A.vs
    ∗ Upto c B.arg9 (fun p => (p 0).val < 32 * b) (oArr I A)
    ∗ Any c B.arg10 ∗ Any c B.arg11 ∗ Any c B.arg12 ∗ Owes c)

theorem overlay_whole {X w : S128x128.Idx → Elt F .f32} :
    ∀ i ∈ (Finset.univ : Finset S128x128.Idx), (Rect.unit (s := S128x128) ![0, 0] S128x128.size inb_S128x128_S128x128_0_0).overlay X w i = w i := by
  intro i _
  have e : (Rect.unit (s := S128x128) ![0, 0] S128x128.size inb_S128x128_S128x128_0_0).emb i = i := by
    funext a
    refine Fin.ext ?_
    fin_cases a
    · show 0 + 1 * (i 0).val = (i 0).val
      omega
    · show 0 + 1 * (i 1).val = (i 1).val
      omega
  conv_lhs => rw [← e]
  exact Rect.overlay_emb ..

theorem Any_Rows (G : ℕ → Vec F S1x8x128 .f32) : (Any c B.arg10 : sProp 𝕄) ⊢ Rows B c G 0 := by
  unfold Any Rows
  iintro ⟨%X, H⟩
  iexists X
  isplitr
  · ipureintro; intro i hi; omega
  · iexact H

theorem Rows_Any (G : ℕ → Vec F S1x8x128 .f32) (M : ℕ) : (Rows B c G M : sProp 𝕄) ⊢ Any c B.arg10 := by
  unfold Any Rows
  iintro ⟨%X, %hX, H⟩
  iexists X
  iexact H

theorem holds_Any {s : Shape} {e : EltTy} (M : Memref sig .tc .vmem s e) (X : s.Idx → Elt F e) :
    (holds (c : Thread nD τ) M Finset.univ fullShare X : sProp 𝕄) ⊢ Any c M := by
  unfold Any
  iintro H
  iexists X
  iexact H

set_option maxHeartbeats 2000000 in
/-- The work on one sequence. -/
theorem seqRest_step (hI : I.Ok) (t3 : Fin k0_t3_loop.trips) (hw4 : k0_chk4 t3 (I.L t3.val))
    (acc : BitVec 32 × BitVec 32 × BitVec 32 × BitVec 32 × BitVec 32) :
    (sInv I A B c t3.val acc : sProp 𝕄)
      ⊢ wp frame (wpE (defs₀ (F := F)) Variants.none (c : Thread nD τ) none) Set.univ
          (seqRest (F := F) B k0_pay470 k0_pay471 t3 (I.L t3.val) (I.L t3.val) hw4 acc) (sInv I A B c (t3.val + 1)) := by
  obtain ⟨bw, kw, cw, sl, slot⟩ := acc
  have hb := lt64_of_t3 t3
  generalize hbe : t3.val = b at hb hw4 ⊢
  have hL : InLen (I.L b) := hI _
  have hq : (fun j => qArr A ((Rect.unit (s := S2048x128) (k0_off10 t3) S32x128.size (k0_off10_inb t3)).toLoadRect.idx j)) = qRows A b := by
    funext j
    refine congrArg (qArr A) (funext fun a => Fin.ext ?_)
    have h0 : (j 0).val < 32 := (j 0).isLt
    have h1 : (j 1).val < 128 := (j 1).isLt
    have o := off10_eq t3
    fin_cases a
    · show k0_off10 t3 0 + 1 * (j 0).val = (32 * b + (j 0).val) % 2048
      have oo : k0_off10 t3 0 = 32 * t3.val := congrFun o 0
      rw [oo]; omega
    · show k0_off10 t3 1 + 1 * (j 1).val = (j 1).val % 128
      have oo : k0_off10 t3 1 = 0 := congrFun o 1
      rw [oo]; omega
  have h3 : ∀ (S : S64x4x128.Idx → Elt F .f32), (fun j => S ((Rect.unit (s := S64x4x128) (k0_off11 t3) S1x4x128.size (k0_off11_inb t3)).toLoadRect.idx j))
      = fun j : S1x4x128.Idx => S (ix3 b (j 1).val (j 2).val) := by
    intro S
    funext j
    refine congrArg S (funext fun a => Fin.ext ?_)
    have h0 : (j 0).val < 1 := (j 0).isLt
    have h1 : (j 1).val < 4 := (j 1).isLt
    have h2 : (j 2).val < 128 := (j 2).isLt
    have o := off11_eq t3
    fin_cases a
    · show k0_off11 t3 0 + 1 * (j 0).val = b % 64
      have oo : k0_off11 t3 0 = t3.val := congrFun o 0
      rw [oo]; omega
    · show k0_off11 t3 1 + 1 * (j 1).val = (j 1).val % 4
      have oo : k0_off11 t3 1 = 0 := congrFun o 1
      rw [oo]; omega
    · show k0_off11 t3 2 + 1 * (j 2).val = (j 2).val % 128
      have oo : k0_off11 t3 2 = 0 := congrFun o 2
      rw [oo]; omega
  have hst : start I.NC (b + 1) = start I.NC b + I.NC b + I.NC b := by
    show start I.NC b + 2 * I.NC b = _; omega
  unfold sInv Any
  dsimp only
  rw [hst]
  iintro ⟨%hw, H0, HS, H8, H3, H5, H9, H10, ⟨%X11, H11⟩, ⟨%X12, H12⟩, HO⟩
  unfold seqRest
  dsimp only
  iapply (wp_load_bind Variants.none (c : Thread nD τ) none Set.univ (Finset.subset_univ _) hq) $$ H8
  iintro H8
  iapply (wp_load_bind Variants.none (c : Thread nD τ) none Set.univ (Finset.subset_univ _) (h3 A.ks)) $$ H3
  iintro H3
  iapply (wp_load_bind Variants.none (c : Thread nD τ) none Set.univ (Finset.subset_univ _) rfl) $$ H11
  iintro H11
  iapply (wp_store_bind Variants.none (c : Thread nD τ) none Set.univ (Finset.subset_univ _) overlay_whole) $$ H11
  iintro H11
  iapply (wp_load_bind Variants.none (c : Thread nD τ) none Set.univ (Finset.subset_univ _) (h3 A.vs)) $$ H5
  iintro H5
  iapply (wp_load_bind Variants.none (c : Thread nD τ) none Set.univ (Finset.subset_univ _) rfl) $$ H12
  iintro H12
  iapply (wp_store_bind Variants.none (c : Thread nD τ) none Set.univ (Finset.subset_univ _) overlay_whole) $$ H12
  iintro H12
  iapply (wp_loop c _ _ _ _ (kInv I A B c b) (fun t acc => kTrip_step I A B c hI hb t acc) (n := I.NC b) (t4_trips hL)) $$ [H0 HS H11 H10 HO]
  · unfold kInv
    isplitr
    · ipureintro; exact ⟨hw, rfl⟩
    isplitl [H0]; · iexact H0
    isplitl [HS]; · iexact HS
    isplitl [H11]; · iexact H11
    isplitl [H10]
    · iapply (Any_Rows B c); unfold Any; iexact H10
    iexact HO
  unfold kInv
  iintro %acc ⟨%hw, H0, HS, H11, H10, HO⟩
  obtain ⟨bw1, kw1, cw1, sl1, slot1, m⟩ := acc
  obtain ⟨hw, hm⟩ := hw
  dsimp only at hw hm ⊢
  subst hm
  iapply (wp_loop c _ _ _ _ (eInv I A B c b) (fun t acc => expTrip_step I A B c hI hb t acc) (n := I.NC b * 4) (t6_trips hL)) $$ [H10]
  · unfold eInv
    isplitr
    · ipureintro; rfl
    iapply (Rows_congr B c (G := scoreR I A b) (G' := mixR I A b (8 * 0)) (M := 32 * I.NC b) (M' := 32 * I.NC b) (le_refl _) (fun n hn => by unfold mixR; rw [if_neg (by omega)])) $$ H10
  unfold eInv
  iintro %l ⟨%hl, H10⟩
  have hl' : l = lAt I A b (32 * I.NC b) := by
    rw [hl]; congr 1; omega
  subst hl'
  iapply (wp_loop c _ _ _ _ (vInv I A B c b) (fun t acc => vTrip_step I A B c hI hb t acc) (n := I.NC b) (t8_trips hL)) $$ [H0 HS H12 H10 HO]
  · unfold vInv
    isplitr
    · ipureintro; exact ⟨hw, rfl⟩
    isplitl [H0]; · iexact H0
    isplitl [HS]; · iexact HS
    isplitl [H12]; · iexact H12
    isplitl [H10]
    · iapply (Rows_congr B c (G := mixR I A b (8 * (I.NC b * 4))) (G' := expR I A b) (M := 32 * I.NC b) (M' := 32 * I.NC b) (le_refl _) (fun n hn => by
        unfold mixR; rw [if_pos (show n < 8 * (I.NC b * 4) by omega)])) $$ H10
    iexact HO
  unfold vInv
  iintro %acc ⟨%hw, H0, HS, H12, H10, HO⟩
  obtain ⟨bw2, kw2, cw2, sl2, slot2, a⟩ := acc
  obtain ⟨hw, ha⟩ := hw
  dsimp only at hw ha ⊢
  subst ha
  unfold Upto
  icases H9 with ⟨%X9, %hX9, H9⟩
  iapply (wp_load_bind Variants.none (c : Thread nD τ) none Set.univ (Finset.subset_univ _) rfl) $$ H9
  iintro H9
  iapply (wp_store_bind (Y := (Rect.unit (s := S2048x128) (k0_off126 t3) S32x128.size (k0_off126_inb t3)).overlay X9 (outRows I A b))
    Variants.none (c : Thread nD τ) none Set.univ (Finset.subset_univ _) (fun _ _ => rfl)) $$ H9
  iintro H9
  iapply (le_wp_ret _ _ _ _ _)
  dsimp only
  isplitr
  · ipureintro; exact hw
  isplitl [H0]; · iexact H0
  isplitl [HS]; · iexact HS
  isplitl [H8]; · iexact H8
  isplitl [H3]; · iexact H3
  isplitl [H5]; · iexact H5
  isplitl [H9]
  · iexists _
    isplitr
    rotate_left
    · iexact H9
    ipureintro
    intro p hp
    have o := off126_eq t3
    have hp1 : (p 1).val < 128 := (p 1).isLt
    by_cases hin : 32 * b ≤ (p 0).val
    · have e : (Rect.unit (s := S2048x128) (k0_off126 t3) S32x128.size (k0_off126_inb t3)).emb (ix2 ((p 0).val % 32) (p 1).val) = p := by
        funext a
        refine Fin.ext ?_
        fin_cases a
        · show k0_off126 t3 0 + 1 * ((p 0).val % 32 % 32) = (p 0).val
          have oo : k0_off126 t3 0 = 32 * t3.val := congrFun o 0
          rw [oo]; omega
        · show k0_off126 t3 1 + 1 * ((p 1).val % 128) = (p 1).val
          have oo : k0_off126 t3 1 = 0 := congrFun o 1
          rw [oo]; omega
      conv_lhs => rw [← e]
      rw [Rect.overlay_emb]
      unfold oArr
      rw [show (p 0).val / 32 = b by omega]
    · rw [Rect.overlay_of_not_mem]
      · exact hX9 p (by omega)
      · rw [Rect.mem_set_unit]
        intro h
        have := (h 0).1
        rw [o] at this
        change 32 * t3.val ≤ (p 0).val at this
        omega
  isplitl [H10]
  · ihave H := (Rows_Any B c _ _) $$ H10
    unfold Any; iexact H
  isplitl [H11]
  · iexists _; iexact H11
  isplitl [H12]
  · iexists _; iexact H12
  iexact HO

/-- One sequence. -/
theorem seqS_step (hI : I.Ok) (t3 : Fin k0_t3_loop.trips)
    (acc : BitVec 32 × BitVec 32 × BitVec 32 × BitVec 32 × BitVec 32) :
    (sInv I A B c t3.val acc : sProp 𝕄)
      ⊢ wp frame (wpE (defs₀ (F := F)) Variants.none (c : Thread nD τ) none) Set.univ
          (seqS (F := F) B k0_pay470 k0_pay471 t3 acc) (sInv I A B c (t3.val + 1)) := by
  have hb := lt64_of_t3 t3
  have hx : I.len ((Rect.unit (s := S64) (k0_off9 t3) S1.size (k0_off9_inb t3)).emb (Shape.Idx.first (numel1_S1.symm ▸ Nat.one_pos))) = I.L t3.val := by
    refine congrArg I.len (funext fun a => Fin.ext ?_)
    have o := off9_eq t3
    fin_cases a
    show k0_off9 t3 0 + 1 * 0 = t3.val % 64
    have oo : k0_off9 t3 0 = t3.val := congrFun o 0
    rw [oo]; omega
  have hL : InLen (I.L t3.val) := hI _
  iintro H
  unfold sInv
  icases H with ⟨%hw, H0, H⟩
  unfold seqS
  iapply (wp_smemLoad_bind Variants.none (c : Thread nD τ) none Set.univ (Finset.subset_univ _) hx) $$ H0
  iintro H0
  iapply (wp_smemLoad_bind Variants.none (c : Thread nD τ) none Set.univ (Finset.subset_univ _) hx) $$ H0
  iintro H0
  iapply (wp_assume_bind Variants.none (c : Thread nD τ) none Set.univ (chk4_of t3 hL))
  iapply (seqRest_step I A B c hI t3 (chk4_of t3 hL) acc)
  unfold sInv
  isplitr
  · ipureintro; exact hw
  isplitl [H0]; · iexact H0
  iexact H

end Cert.Proof.KernelIdeal
-- ==== Proof.KernelIdeal.RingEnds.lean ====
/- The ring before the first transfer and after the last one: the slot buffer, the counters and the two
   caches, taken apart slot by slot and put together again. -/
module

public import proofs.«01_k».proof.Proof.KernelIdeal.Seq

@[expose] public section

set_option maxRecDepth 65536
set_option pp.maxSteps 250

noncomputable section

namespace Cert.Proof.KernelIdeal

open Cert.KernelIdeal Cert.KernelIdeal.Gen Cert.Proof.Rules Cert.Proof.Sched
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

variable (I : Ins F) (B : Bufs) (c : Dev nD)

/-- A family over the range of one more number. -/
theorem bs_succ (n : ℕ) (Φ : ℕ → sProp (MT nD τ sig Unit (Elt F) ℕ (Pipeline.UD sig nD τ) ℕ)) :
    bigSep (Finset.range (n + 1)) Φ = iprop(Φ n ∗ bigSep (Finset.range n) Φ) := by
  rw [Finset.range_add_one]; exact bs_insert (by simp) Φ

theorem bs_sep (s : Finset ℕ) (Φ Ψ : ℕ → sProp (MT nD τ sig Unit (Elt F) ℕ (Pipeline.UD sig nD τ) ℕ)) :
    bigSep s (fun i => iprop(Φ i ∗ Ψ i)) = iprop(bigSep s Φ ∗ bigSep s Ψ) := bigSep_sep s Φ Ψ

theorem bs_mono {s : Finset ℕ} {Φ Ψ : ℕ → sProp (MT nD τ sig Unit (Elt F) ℕ (Pipeline.UD sig nD τ) ℕ)}
    (h : ∀ i ∈ s, Φ i ⊢ Ψ i) : bigSep s Φ ⊢ bigSep s Ψ := bigSep_mono h

/-- Twenty-four consecutive numbers meet each remainder once. -/
theorem bs_cycle (P : ℕ → sProp (MT nD τ sig Unit (Elt F) ℕ (Pipeline.UD sig nD τ) ℕ)) :
    ∀ g, bigSep (Finset.Ico g (g + 24)) (fun j => P (j % 24)) = bigSep (Finset.range 24) P
  | 0 => by
    rw [show Finset.Ico 0 (0 + 24) = Finset.range 24 by ext x; simp]
    exact bigSep_congr fun i hi => by rw [Nat.mod_eq_of_lt (Finset.mem_range.mp hi)]
  | g + 1 => by
    have e1 : Finset.Ico g (g + 24) = insert g (Finset.Ico (g + 1) (g + 24)) := by
      ext x; simp only [Finset.mem_insert, Finset.mem_Ico]; omega
    have e2 : Finset.Ico (g + 1) (g + 1 + 24) = insert (g + 24) (Finset.Ico (g + 1) (g + 24)) := by
      ext x; simp only [Finset.mem_insert, Finset.mem_Ico]; omega
    rw [← bs_cycle P g, e1, e2, bs_insert (by simp), bs_insert (by simp), Nat.add_mod_right]

/-! ## The slot buffer -/

/-- The slots under `n`. -/
def slotsTo (n : ℕ) : Finset S24x16x256x128.Idx := Finset.univ.filter fun i => (i 0).val < n

theorem slotsTo_succ (n : ℕ) : slotsTo (n + 1) = slotSet n ∪ slotsTo n := by
  ext i; simp only [slotsTo, slotSet, Finset.mem_union, Finset.mem_filter, Finset.mem_univ, true_and]; omega

theorem slotsTo_disj (n : ℕ) : Disjoint (slotSet n) (slotsTo n) := by
  rw [Finset.disjoint_left]
  intro i; simp only [slotsTo, slotSet, Finset.mem_filter, Finset.mem_univ, true_and]; omega

theorem slotsTo_all : slotsTo 24 = Finset.univ := by
  ext i; simp only [slotsTo, Finset.mem_filter, Finset.mem_univ, true_and, iff_true]
  exact (i 0).isLt

theorem slots_apart (X : S24x16x256x128.Idx → Elt F .fp8e4m3) :
    ∀ n, (holds (c : Thread nD τ) B.arg7 (slotsTo n) fullShare X : sProp 𝕄)
      ⊢ bigSep (Finset.range n) (fun s => holds (c : Thread nD τ) B.arg7 (slotSet s) fullShare X)
  | 0 => by
    rw [Finset.range_zero, bigSep_empty]
    iintro H
    iempintro
  | n + 1 => by
    rw [slotsTo_succ, bs_succ]
    iintro H
    ihave H' := (holds_split (c : Thread nD τ) B.arg7 (slotsTo_disj n) fullShare X) $$ H
    icases H' with ⟨H1, H2⟩
    isplitl [H1]; · iexact H1
    iapply (slots_apart X n); iexact H2

theorem slots_together :
    ∀ n, bigSep (Finset.range (n + 1)) (fun s => iprop(∃ T, slotHolds B c s T))
      ⊢ (iprop(∃ X, holds (c : Thread nD τ) B.arg7 (slotsTo (n + 1)) fullShare X) : sProp 𝕄)
  | 0 => by
    rw [bs_succ]
    iintro ⟨⟨%T, H1⟩, -⟩
    iexists atIdx T
    rw [show slotsTo (0 + 1) = slotSet 0 by ext i; simp [slotsTo, slotSet]]
    unfold slotHolds
    iexact H1
  | n + 1 => by
    rw [slotsTo_succ (n + 1), bs_succ (n + 1)]
    iintro ⟨⟨%T, H1⟩, H2⟩
    ihave H' := (slots_together n) $$ H2
    icases H' with ⟨%X, H2⟩
    unfold slotHolds
    iexists fun i => if (i 0).val = n + 1 then atIdx T i else X i
    iapply (holds_join (c : Thread nD τ) B.arg7 (slotsTo_disj (n + 1)) fullShare _)
    isplitl [H1]
    · iapply (holds_congr (c : Thread nD τ) B.arg7 (X := atIdx T) fun i hi => by
        rw [if_pos ((Finset.mem_filter.mp hi).2)]) $$ H1
    · iapply (holds_congr (c : Thread nD τ) B.arg7 (X := X) fun i hi => by
        rw [if_neg (by have := (Finset.mem_filter.mp hi).2; omega)]) $$ H2

/-! ## A cache, share by share -/

section
variable (M : Memref sig .tc .hbm S64x128x256x128 .fp8e4m3)

/-- The contents of a cache's buffer are what is read of it. -/
theorem holds_fix {q : PosShare TreeShare} {C : S64x128x256x128.Idx → Elt F .fp8e4m3} {f₀ : M.view.ty.Contents (Elt F)}
    (h₀ : ∀ i, M.view.read (Elt F) f₀ i = C i) :
    (holds (c : Thread nD τ) M Finset.univ q C : sProp 𝕄) ⊢ (M.view.loc (c : Thread nD τ) ↦[M.view.setOn Finset.univ]{q} f₀) := by
  unfold holds
  iintro ⟨%f, %hf, H⟩
  ihave H' := (Entails.of_eq (pointsTo_congr (g := f₀) (fun x hx => by
    obtain ⟨i, hi, rfl⟩ := Finset.mem_map.mp hx
    have := (hf i hi).trans (h₀ i).symm
    rw [View.read_apply, View.read_apply] at this
    exact (cast_bijective _).1 this))) $$ H
  iexact H'

theorem holds_of_fix {q : PosShare TreeShare} {C : S64x128x256x128.Idx → Elt F .fp8e4m3} {f₀ : M.view.ty.Contents (Elt F)}
    (h₀ : ∀ i, M.view.read (Elt F) f₀ i = C i) :
    (M.view.loc (c : Thread nD τ) ↦[M.view.setOn Finset.univ]{q} f₀) ⊢ (holds (c : Thread nD τ) M Finset.univ q C : sProp 𝕄) := by
  unfold holds
  iintro H
  iexists f₀
  isplitr
  · ipureintro; exact fun i _ => h₀ i
  · iexact H

theorem leaves_eq (f₀ : M.view.ty.Contents (Elt F)) :
    (M.view.loc (c : Thread nD τ) ↦[M.view.setOn Finset.univ]{fullShare} f₀ : sProp 𝕄)
      = bigSep (Finset.range 32) fun s => (M.view.loc (c : Thread nD τ) ↦[M.view.setOn Finset.univ]{lf s} f₀) := by
  rw [ShareLeaves.pointsTo_leaves _ _ 5 fullShare]
  refine Ring.bigSep_fin_eq_range 32 _ _ fun t h => ?_
  unfold lf
  rw [show (Fin.ofNat (2 ^ 5) t) = (⟨t, h⟩ : Fin (2 ^ 5)) from Fin.ext (Nat.mod_eq_of_lt h)]

/-- A cache held whole is held by thirty-two shares, which make it whole again. -/
theorem leaves_apart (C : S64x128x256x128.Idx → Elt F .fp8e4m3) :
    (holds (c : Thread nD τ) M Finset.univ fullShare C : sProp 𝕄)
      ⊢ iprop(bigSep (Finset.range 32) (fun s => holds (c : Thread nD τ) M Finset.univ (lf s) C)
        ∗ (bigSep (Finset.range 32) (fun s => holds (c : Thread nD τ) M Finset.univ (lf s) C)
          -∗ holds (c : Thread nD τ) M Finset.univ fullShare C)) := by
  conv_lhs => unfold holds
  iintro ⟨%f, %hf, H⟩
  have h₀ : ∀ i, M.view.read (Elt F) f i = C i := fun i => hf i (Finset.mem_univ i)
  isplitl [H]
  · ihave H' := (Entails.of_eq (leaves_eq c M f)) $$ H
    iapply (bs_mono (fun s _ => holds_of_fix c M (q := lf s) h₀)) $$ H'
  iintro H
  iapply (holds_of_fix c M h₀)
  iapply (Entails.of_eq (leaves_eq c M f).symm)
  iapply (bs_mono (fun s _ => holds_fix c M (q := lf s) h₀)) $$ H
end

/-! ## The ring -/

/-- The counter of a slot, at rest. -/
def semV (s : ℕ) : sProp 𝕄 := if h : s < 24 then semVal ((c : Thread nD τ), .dma (semAt B s h)) 0 else iprop(emp)

/-- Everything of a slot. -/
def Part (s : ℕ) (T : Tile F) : sProp 𝕄 :=
  iprop(slotHolds B c s T ∗ semV B c s
    ∗ holds (c : Thread nD τ) B.arg2 Finset.univ (lf s) I.K ∗ holds (c : Thread nD τ) B.arg4 Finset.univ (lf s) I.V)

theorem Part_eq {s : ℕ} (h : s < 24) (T : Tile F) : (Part I B c s T : sProp 𝕄) = Res I B c s h T := by
  unfold Part Res semV; rw [dif_pos h]

theorem ring_start : bigSep (Finset.range 24) (fun s => Part I B c s zeroTile) ⊢ (Slots I B c 0 0 : sProp 𝕄) := by
  unfold Slots
  rw [Finset.Ico_self, bigSep_empty, show Finset.Ico 0 (0 + 24) = Finset.range 24 by ext x; simp]
  iintro H
  isplitr
  · iempintro
  iapply (bs_mono (fun s hs => Entails.of_eq (by
    have hs' := Finset.mem_range.mp hs
    rw [Part_eq I B c hs']
    unfold ResB
    have e : I.ringBefore s = zeroTile := by
      unfold Ins.ringBefore
      rw [show s / 24 = 0 by omega]
      rfl
    rw [e]
    exact Res_cast I B c (by omega) _ _ _))) $$ H

theorem st_dead (hI : I.Ok) : ∀ k, (I.st (start I.NC 64 + k)).1 = 64
  | 0 => congrArg Prod.fst (st_start hI.NC_pos 64 (by omega))
  | k + 1 => by
    have ih := st_dead hI k
    show (nxt I.NC (I.st (start I.NC 64 + k))).1 = 64
    unfold nxt
    rw [if_neg (by omega)]; exact ih

theorem ring_end (hI : I.Ok) : (Slots I B c (start I.NC 64) (start I.NC 64 + 24) : sProp 𝕄)
    ⊢ bigSep (Finset.range 24) (fun s => iprop(∃ T, Part I B c s T)) := by
  unfold Slots
  rw [Finset.Ico_self, bigSep_empty, ← bs_cycle _ (start I.NC 64)]
  iintro ⟨H, -⟩
  iapply (bs_mono (fun j hj => by
    obtain ⟨k, rfl⟩ : ∃ k, j = start I.NC 64 + k := ⟨j - start I.NC 64, by have := (Finset.mem_Ico.mp hj).1; omega⟩
    unfold SlotR
    rw [if_neg (by rw [st_dead I hI k]; omega), ← Part_eq I B c]
    iintro H
    iexists _
    iexact H)) $$ H

/-- The ring made out of the slot buffer, the counters and the caches. -/
theorem ring_make :
    iprop(holds (c : Thread nD τ) B.arg7 Finset.univ fullShare (atIdx zeroTile)
      ∗ bigSep (Finset.range 24) (semV B c)
      ∗ holds (c : Thread nD τ) B.arg2 Finset.univ fullShare I.K ∗ holds (c : Thread nD τ) B.arg4 Finset.univ fullShare I.V)
    ⊢ (iprop(Slots I B c 0 0 ∗ (bigSep (Finset.range 24) (fun s => iprop(∃ T, Part I B c s T)) -∗
        iprop((∃ X, holds (c : Thread nD τ) B.arg7 Finset.univ fullShare X) ∗ bigSep (Finset.range 24) (semV B c)
          ∗ holds (c : Thread nD τ) B.arg2 Finset.univ fullShare I.K ∗ holds (c : Thread nD τ) B.arg4 Finset.univ fullShare I.V))) : sProp 𝕄) := by
  have hu : ∀ Φ : ℕ → sProp (MT nD τ sig Unit (Elt F) ℕ (Pipeline.UD sig nD τ) ℕ), bigSep (Finset.range 32) Φ = iprop(bigSep (Finset.range 24) Φ ∗ bigSep (Finset.Ico 24 32) Φ) := by
    intro Φ
    rw [show Finset.range 32 = Finset.range 24 ∪ Finset.Ico 24 32 by ext x; simp; omega]
    exact bigSep_union (by rw [Finset.disjoint_left]; intro x; simp; omega)
  iintro ⟨H7, Hs, H2, H4⟩
  ihave H7 := (slots_apart B c (atIdx zeroTile) 24) $$ [H7]
  · rw [slotsTo_all]; iexact H7
  ihave H2 := (leaves_apart c B.arg2 I.K) $$ H2
  ihave H4 := (leaves_apart c B.arg4 I.V) $$ H4
  icases H2 with ⟨H2, H2k⟩
  icases H4 with ⟨H4, H4k⟩
  ihave H2 := (Entails.of_eq (hu _)) $$ H2
  ihave H4 := (Entails.of_eq (hu _)) $$ H4
  icases H2 with ⟨H2, H2r⟩
  icases H4 with ⟨H4, H4r⟩
  isplitl [H7 Hs H2 H4]
  · iapply (ring_start I B c)
    unfold Part
    iapply (Entails.of_eq (bs_sep _ _ _).symm)
    isplitl [H7]
    · unfold slotHolds; iexact H7
    iapply (Entails.of_eq (bs_sep _ _ _).symm)
    isplitl [Hs]; · iexact Hs
    iapply (Entails.of_eq (bs_sep _ _ _).symm)
    isplitl [H2]; · iexact H2
    iexact H4
  iintro H
  ihave H := (show bigSep (Finset.range 24) (fun s => iprop(∃ T, Part I B c s T))
      ⊢ bigSep (Finset.range 24) (fun s => iprop((∃ T, slotHolds B c s T) ∗ semV B c s
    ∗ holds (c : Thread nD τ) B.arg2 Finset.univ (lf s) I.K ∗ holds (c : Thread nD τ) B.arg4 Finset.univ (lf s) I.V)) from
    bs_mono (fun s _ => by
      unfold Part
      show iprop(∃ T, _) ⊢ iprop(_ ∗ _)
      iintro ⟨%T, H7, H⟩
      isplitl [H7]
      · iexists T; iexact H7
      iexact H)) $$ H
  ihave H := (Entails.of_eq (bs_sep _ _ _)) $$ H
  icases H with ⟨H7, H⟩
  ihave H := (Entails.of_eq (bs_sep _ _ _)) $$ H
  icases H with ⟨Hs, H⟩
  ihave H := (Entails.of_eq (bs_sep _ _ _)) $$ H
  icases H with ⟨H2, H4⟩
  isplitl [H7]
  · ihave H7 := (slots_together B c 23) $$ H7
    icases H7 with ⟨%X, H7⟩
    iexists X
    rw [slotsTo_all]
    iexact H7
  isplitl [Hs]; · iexact Hs
  isplitl [H2 H2r H2k]
  · iapply H2k
    iapply (Entails.of_eq (hu _).symm)
    isplitl [H2]; · iexact H2
    iexact H2r
  · iapply H4k
    iapply (Entails.of_eq (hu _).symm)
    isplitl [H4]; · iexact H4
    iexact H4r

end Cert.Proof.KernelIdeal
-- ==== Proof.KernelIdeal.Body.lean ====
/- The whole kernel function, from the buffers as found to the buffers as left. -/
module

public import proofs.«01_k».proof.Proof.KernelIdeal.RingEnds

@[expose] public section

set_option maxRecDepth 65536
set_option pp.maxSteps 250

noncomputable section

namespace Cert.Proof.KernelIdeal

open Cert.KernelIdeal Cert.KernelIdeal.Gen Cert.Proof.Rules Cert.Proof.Sched
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

variable (I : Ins F) (A : Arr F) (B : Bufs) (c : Dev nD)

/-! ## Clearing the ring -/

/-- The slots under `t` are cleared. -/
def clInv (t : ℕ) (_ : Unit) : sProp 𝕄 := Upto c B.arg7 (fun i => (i 0).val < t) (atIdx zeroTile)

theorem clear_step (t1 : Fin k0_t1_loop.trips) (u : Unit) :
    (clInv B c t1.val u : sProp 𝕄)
      ⊢ wp frame (wpE (defs₀ (F := F)) Variants.none (c : Thread nD τ) none) Set.univ
          (clearS (F := F) B t1 u) (clInv B c (t1.val + 1)) := by
  unfold clInv Upto
  iintro ⟨%X, %hX, H⟩
  unfold clearS
  iapply (wp_load_bind Variants.none (c : Thread nD τ) none Set.univ (Finset.subset_univ _) rfl) $$ H
  iintro H
  iapply (wp_store_holds (k := Prog.ret) Variants.none (c : Thread nD τ) none Set.univ (Finset.subset_univ _)) $$ H
  iintro H
  iapply (le_wp_ret _ _ _ _ _)
  iexists _
  isplitr
  rotate_left
  · iexact H
  ipureintro
  intro i hi
  have o0 : k0_off1 t1 0 = t1.val := congrFun (off1_eq t1) 0
  have o1 : k0_off1 t1 1 = 0 := congrFun (off1_eq t1) 1
  have o2 : k0_off1 t1 2 = 0 := congrFun (off1_eq t1) 2
  have o3 : k0_off1 t1 3 = 0 := congrFun (off1_eq t1) 3
  by_cases hin : (i 0).val = t1.val
  · have e : (Rect.unit (s := S24x16x256x128) (k0_off1 t1) S1x16x256x128.size (k0_off1_inb t1)).emb
        (fun | 0 => ⟨0, Nat.one_pos⟩ | 1 => i 1 | 2 => i 2 | 3 => i 3) = i := by
      funext a
      refine Fin.ext ?_
      fin_cases a
      · show k0_off1 t1 0 + 1 * 0 = (i 0).val
        rw [o0]; omega
      · show k0_off1 t1 1 + 1 * (i 1).val = (i 1).val
        rw [o1]; omega
      · show k0_off1 t1 2 + 1 * (i 2).val = (i 2).val
        rw [o2]; omega
      · show k0_off1 t1 3 + 1 * (i 3).val = (i 3).val
        rw [o3]; omega
    conv_lhs => rw [← e]
    rw [Rect.overlay_emb]
    rfl
  · rw [Rect.overlay_of_not_mem]
    · exact hX i (by omega)
    · intro h
      obtain ⟨j, hj⟩ := (Rect.unit (s := S24x16x256x128) (k0_off1 t1) S1x16x256x128.size (k0_off1_inb t1)).exists_idx_of_mem h
      apply hin
      have := (congrArg Fin.val (congrFun hj 0)).symm
      have h0 : (j 0).val < 1 := (j 0).isLt
      change (i 0).val = k0_off1 t1 0 + 1 * (j 0).val at this
      rw [o0] at this
      omega

/-! ## The first transfers -/

def iInv (j : ℕ) (acc : BitVec 32 × BitVec 32 × BitVec 32 × BitVec 32) : sProp 𝕄 :=
  iprop(⌜Words I j acc.1 acc.2.1 acc.2.2.1 acc.2.2.2⌝
    ∗ holds (c : Thread nD τ) B.arg0 Finset.univ fullShare I.len ∗ Slots I B c 0 j)

theorem init_step (hI : I.Ok) (t2 : Fin k0_t2_loop.trips) (ht : t2.val < 24) (acc : BitVec 32 × BitVec 32 × BitVec 32 × BitVec 32) :
    (iInv I B c t2.val acc : sProp 𝕄)
      ⊢ wp frame (wpE (defs₀ (F := F)) Variants.none (c : Thread nD τ) none) Set.univ
          (initS (F := F) B t2 acc) (iInv I B c (t2.val + 1)) := by
  obtain ⟨b, k, cw, sl⟩ := acc
  unfold iInv
  dsimp only
  iintro ⟨%hw, H0, HS⟩
  have hb : b.toNat ≤ 64 := by rw [hw.b]; exact (st_ok' I hI _).1
  unfold initS
  dsimp only
  iapply (wp_assume_bind Variants.none (c : Thread nD τ) none Set.univ (chk2_of hw.lt))
  iapply (wp_assume_bind Variants.none (c : Thread nD τ) none Set.univ (chk1_of hb))
  ihave HS := (Slots_put I B c (g := 0) (p := t2.val) (by omega) (Nat.zero_le _)) $$ HS
  icases HS with ⟨HR, HS⟩
  iapply (wp_wand _ _ _) $$ [H0 HR]
  · iapply (wp_issue I B c hI hw (chk2_of hw.lt) (chk1_of hb))
    isplitl [H0]; · iexact H0
    unfold ResB; iexact HR
  iintro %r ⟨%hr, H0, HR⟩
  isplitr
  · ipureintro; exact hr
  isplitl [H0]; · iexact H0
  iapply HS; iexact HR

/-! ## The query rows -/

/-- The block of a query row or an output row. -/
def blkQ (p : S2048x128.Idx) : ℕ := 32 * ((p 0).val / 256) + (p 0).val % 32

theorem rowsQ_mem {i : ℕ} (h : i < 256) (p : S2048x128.Idx) (hp : p ∈ (rowsQ i h).set) : blkQ p = i := by
  obtain ⟨j, hj⟩ := (rowsQ i h).exists_idx_of_mem hp
  have := (congrArg Fin.val (congrFun hj 0)).symm
  have h0 : (j 0).val < 8 := (j 0).isLt
  change (p 0).val = 256 * (i / 32) + i % 32 + 32 * (j 0).val at this
  unfold blkQ
  omega

theorem overlay_at {s : Shape} {α : Type} (r : Rect s) (X : s.Idx → α) (w : r.shape.Idx → α) {j : r.shape.Idx} {p : s.Idx}
    (e : r.emb j = p) : r.overlay X w p = w j := by subst e; exact Rect.overlay_emb ..

theorem overlay_off {s : Shape} {α : Type} (r : Rect s) (X : s.Idx → α) (w : r.shape.Idx → α) {p : s.Idx}
    (h : p ∉ r.set) : r.overlay X w p = X p := Rect.overlay_of_not_mem _ _ _ h

theorem fill_step {i : ℕ} (h : i < 256) :
    (iprop(holds (c : Thread nD τ) B.arg1 Finset.univ fullShare A.x ∗ Upto c B.arg8 (fun p => blkQ p < i) (qArr A)) : sProp 𝕄)
      ⊢ wp frame (wpE (defs₀ (F := F)) Variants.none (c : Thread nD τ) none) Set.univ
          (fillStep (F := F) B i h) (fun _ => iprop(holds (c : Thread nD τ) B.arg1 Finset.univ fullShare A.x
            ∗ Upto c B.arg8 (fun p => blkQ p < i + 1) (qArr A))) := by
  have hx : (fun j => A.x ((Rect.unit (s := S64x4096) ![8 * (i / 32), 128 * (i % 32)] S8x128.size (inb_x h)).toLoadRect.idx j)) = xBlk A i := by
    funext j
    refine congrArg A.x (funext fun a => Fin.ext ?_)
    have h0 : (j 0).val < 8 := (j 0).isLt
    have h1 : (j 1).val < 128 := (j 1).isLt
    fin_cases a
    · show 8 * (i / 32) + 1 * (j 0).val = (8 * (i / 32) + (j 0).val) % 64
      omega
    · show 128 * (i % 32) + 1 * (j 1).val = (128 * (i % 32) + (j 1).val) % 4096
      omega
  unfold Upto
  iintro ⟨H1, ⟨%X, %hX, H⟩⟩
  unfold fillStep
  iapply (wp_load_bind Variants.none (c : Thread nD τ) none Set.univ (Finset.subset_univ _) hx) $$ H1
  iintro H1
  iapply (wp_load_bind Variants.none (c : Thread nD τ) none Set.univ (Finset.subset_univ _) rfl) $$ H
  iintro H
  iapply (wp_store_holds (k := Prog.ret) Variants.none (c : Thread nD τ) none Set.univ (Finset.subset_univ _)) $$ H
  iintro H
  iapply (le_wp_ret _ _ _ _ _)
  isplitl [H1]; · iexact H1
  iexists _
  isplitr
  rotate_left
  · iexact H
  ipureintro
  intro p hp
  have hp0 : (p 0).val < 2048 := (p 0).isLt
  have hp1 : (p 1).val < 128 := (p 1).isLt
  by_cases hin : blkQ p = i
  · have e : (⟨rowsQ i h, spos_32_1⟩ : Rect S2048x128).emb (ix2 ((p 0).val % 256 / 32) (p 1).val) = p := by
      funext a
      refine Fin.ext ?_
      unfold blkQ at hin
      fin_cases a
      · show 256 * (i / 32) + i % 32 + 32 * ((p 0).val % 256 / 32 % 8) = (p 0).val
        omega
      · show 0 + 1 * ((p 1).val % 128) = (p 1).val
        omega
    subst hin
    exact overlay_at (⟨rowsQ (blkQ p) h, spos_32_1⟩ : Rect S2048x128) X _ e
  · exact (overlay_off (⟨rowsQ i h, spos_32_1⟩ : Rect S2048x128) X _ (fun hm => hin (rowsQ_mem h p hm))).trans (hX p (by omega))

theorem wp_fills : ∀ (n i : ℕ) (h : i + n ≤ 256),
    (iprop(holds (c : Thread nD τ) B.arg1 Finset.univ fullShare A.x ∗ Upto c B.arg8 (fun p => blkQ p < i) (qArr A)) : sProp 𝕄)
      ⊢ wp frame (wpE (defs₀ (F := F)) Variants.none (c : Thread nD τ) none) Set.univ
          (fills (F := F) B n i h) (fun _ => iprop(holds (c : Thread nD τ) B.arg1 Finset.univ fullShare A.x
            ∗ Upto c B.arg8 (fun p => blkQ p < i + n) (qArr A)))
  | 0, i, h => by
    unfold fills
    iintro H
    iapply (le_wp_ret _ _ _ _ _)
    iexact H
  | n + 1, i, h => by
    unfold fills
    rw [wp_bind]
    iintro H
    iapply (wp_wand _ _ _) $$ [H]
    · iapply (fill_step A B c (i := i) _); iexact H
    iintro %u H
    rw [show i + (n + 1) = i + 1 + n by omega]
    iapply (wp_fills n (i + 1) _)
    iexact H

/-! ## The output rows -/

/-- The block of an element of the output. -/
def blkO (p : S64x4096.Idx) : ℕ := 32 * ((p 0).val / 8) + (p 1).val / 128

theorem out_step {i : ℕ} (h : i < 256) :
    (iprop(holds (c : Thread nD τ) B.arg9 Finset.univ fullShare (oArr I A) ∗ Upto c B.arg6 (fun p => blkO p < i) (kernelOut I A)) : sProp 𝕄)
      ⊢ wp frame (wpE (defs₀ (F := F)) Variants.none (c : Thread nD τ) none) Set.univ
          (outStep (F := F) B i h) (fun _ => iprop(holds (c : Thread nD τ) B.arg9 Finset.univ fullShare (oArr I A)
            ∗ Upto c B.arg6 (fun p => blkO p < i + 1) (kernelOut I A))) := by
  have hx : (fun j => oArr I A ((rowsQ i h).idx j)) = oBlk I A i := by
    funext j
    refine congrArg (oArr I A) (funext fun a => Fin.ext ?_)
    have h0 : (j 0).val < 8 := (j 0).isLt
    have h1 : (j 1).val < 128 := (j 1).isLt
    fin_cases a
    · show 256 * (i / 32) + i % 32 + 32 * (j 0).val = (256 * (i / 32) + i % 32 + 32 * (j 0).val) % 2048
      omega
    · show 0 + 1 * (j 1).val = (j 1).val % 128
      omega
  unfold Upto
  iintro ⟨H9, ⟨%X, %hX, H⟩⟩
  unfold outStep
  iapply (wp_load_bind Variants.none (c : Thread nD τ) none Set.univ (Finset.subset_univ _) hx) $$ H9
  iintro H9
  iapply (wp_load_bind Variants.none (c : Thread nD τ) none Set.univ (Finset.subset_univ _) rfl) $$ H
  iintro H
  iapply (wp_store_holds (k := Prog.ret) Variants.none (c : Thread nD τ) none Set.univ (Finset.subset_univ _)) $$ H
  iintro H
  iapply (le_wp_ret _ _ _ _ _)
  isplitl [H9]; · iexact H9
  iexists _
  isplitr
  rotate_left
  · iexact H
  ipureintro
  intro p hp
  have hp0 : (p 0).val < 64 := (p 0).isLt
  have hp1 : (p 1).val < 4096 := (p 1).isLt
  by_cases hin : blkO p = i
  · have e : (Rect.unit (s := S64x4096) ![8 * (i / 32), 128 * (i % 32)] S8x128.size (inb_x h)).emb (ix2 ((p 0).val % 8) ((p 1).val % 128)) = p := by
      funext a
      refine Fin.ext ?_
      unfold blkO at hin
      fin_cases a
      · show 8 * (i / 32) + 1 * ((p 0).val % 8 % 8) = (p 0).val
        omega
      · show 128 * (i % 32) + 1 * ((p 1).val % 128 % 128) = (p 1).val
        omega
    conv_lhs => rw [← e]
    rw [Rect.overlay_emb]
    subst hin
    rfl
  · rw [Rect.overlay_of_not_mem]
    · exact hX p (by omega)
    · intro hm
      apply hin
      obtain ⟨j, hj⟩ := (Rect.unit (s := S64x4096) ![8 * (i / 32), 128 * (i % 32)] S8x128.size (inb_x h)).exists_idx_of_mem hm
      have e0 := (congrArg Fin.val (congrFun hj 0)).symm
      have e1 := (congrArg Fin.val (congrFun hj 1)).symm
      have h0 : (j 0).val < 8 := (j 0).isLt
      have h1 : (j 1).val < 128 := (j 1).isLt
      change (p 0).val = 8 * (i / 32) + 1 * (j 0).val at e0
      change (p 1).val = 128 * (i % 32) + 1 * (j 1).val at e1
      unfold blkO
      omega

theorem wp_outs : ∀ (n i : ℕ) (h : i + n ≤ 256),
    (iprop(holds (c : Thread nD τ) B.arg9 Finset.univ fullShare (oArr I A) ∗ Upto c B.arg6 (fun p => blkO p < i) (kernelOut I A)) : sProp 𝕄)
      ⊢ wp frame (wpE (defs₀ (F := F)) Variants.none (c : Thread nD τ) none) Set.univ
          (outs (F := F) B n i h) (fun _ => iprop(holds (c : Thread nD τ) B.arg9 Finset.univ fullShare (oArr I A)
            ∗ Upto c B.arg6 (fun p => blkO p < i + n) (kernelOut I A)))
  | 0, i, h => by
    unfold outs
    iintro H
    iapply (le_wp_ret _ _ _ _ _)
    iexact H
  | n + 1, i, h => by
    unfold outs
    rw [wp_bind]
    iintro H
    iapply (wp_wand _ _ _) $$ [H]
    · iapply (out_step I A B c (i := i) _); iexact H
    iintro %u H
    rw [show i + (n + 1) = i + 1 + n by omega]
    iapply (wp_outs n (i + 1) _)
    iexact H

/-! ## The kernel function -/

theorem t1_trips : k0_t1_loop.trips = 24 := by decide +kernel
theorem t2_trips : k0_t2_loop.trips = 24 := by decide +kernel
theorem t3_trips : k0_t3_loop.trips = 64 := by decide +kernel
theorem lt24_of_t2 (t : Fin k0_t2_loop.trips) : t.val < 24 := lt_of_lt_of_eq t.isLt t2_trips

/-- What the kernel function finds and leaves alike. -/
def Kept : sProp 𝕄 :=
  iprop(holds (c : Thread nD τ) B.arg0 Finset.univ fullShare I.len
    ∗ holds (c : Thread nD τ) B.arg1 Finset.univ fullShare A.x
    ∗ holds (c : Thread nD τ) B.arg2 Finset.univ fullShare I.K
    ∗ holds (c : Thread nD τ) B.arg3 Finset.univ fullShare A.ks
    ∗ holds (c : Thread nD τ) B.arg4 Finset.univ fullShare I.V
    ∗ holds (c : Thread nD τ) B.arg5 Finset.univ fullShare A.vs
    ∗ Any c B.arg7 ∗ Any c B.arg8 ∗ Any c B.arg9 ∗ Any c B.arg10 ∗ Any c B.arg11 ∗ Any c B.arg12
    ∗ bigSep (Finset.range 24) (semV B c) ∗ Owes c)

theorem Upto_none {s : Shape} {e : EltTy} (M : Memref sig .tc .vmem s e) (P : s.Idx → Prop) (G : s.Idx → Elt F e)
    (h : ∀ i, ¬ P i) : (Any c M : sProp 𝕄) ⊢ Upto c M P G := by
  unfold Any Upto
  iintro ⟨%X, H⟩
  iexists X
  isplitr
  · ipureintro; intro i hi; exact absurd hi (h i)
  · iexact H

theorem Upto_all {s : Shape} {e : EltTy} (M : Memref sig .tc .vmem s e) (P : s.Idx → Prop) (G : s.Idx → Elt F e)
    (h : ∀ i, P i) : (Upto c M P G : sProp 𝕄) ⊢ holds (c : Thread nD τ) M Finset.univ fullShare G := by
  unfold Upto
  iintro ⟨%X, %hX, H⟩
  iapply (holds_congr (c : Thread nD τ) M (X := X) fun i _ => hX i (h i)) $$ H

theorem words_start : Words I 0 0#32 0#32 0#32 0#32 :=
  ⟨rfl, rfl, rfl, show 0 < 24 by omega, fun _ => rfl⟩

set_option maxHeartbeats 2000000 in
/-- The kernel function leaves its output in place. -/
theorem wp_whole (hI : I.Ok) :
    (iprop(Kept I A B c ∗ Any c B.arg6) : sProp 𝕄)
      ⊢ wp frame (wpE (defs₀ (F := F)) Variants.none (c : Thread nD τ) none) Set.univ
          (wholeS (F := F) B) (fun _ => iprop(Kept I A B c ∗ holds (c : Thread nD τ) B.arg6 Finset.univ fullShare (kernelOut I A))) := by
  unfold Kept
  iintro ⟨⟨H0, H1, H2, H3, H4, H5, H7, H8, H9, H10, H11, H12, Hs, HO⟩, H6⟩
  unfold wholeS
  iapply (wp_loop c _ _ _ _ (clInv B c) (fun t u => clear_step B c t u) (n := 24) (t1_trips)) $$ [H7]
  · unfold clInv
    iapply (Upto_none c B.arg7 _ _ (fun i => Nat.not_lt_zero _)); iexact H7
  iintro %u H7
  unfold clInv
  ihave H7 := (Upto_all c B.arg7 (fun i => (i 0).val < 24) _ (fun i => (i 0).isLt)) $$ H7
  ihave HS := (ring_make I B c) $$ [H7 Hs H2 H4]
  · isplitl [H7]; · iexact H7
    isplitl [Hs]; · iexact Hs
    isplitl [H2]; · iexact H2
    iexact H4
  icases HS with ⟨HS, HE⟩
  iapply (wp_loop c _ _ _ _ (iInv I B c) (fun t acc => init_step I B c hI t (lt24_of_t2 t) acc) (n := 24) (t2_trips)) $$ [H0 HS]
  · unfold iInv
    isplitr
    · ipureintro; exact words_start I
    isplitl [H0]; · iexact H0
    iexact HS
  unfold iInv
  iintro %acc ⟨%hw, H0, HS⟩
  obtain ⟨b, k, cw, sl⟩ := acc
  dsimp only at hw ⊢
  unfold wholeTail
  rw [wp_bind]
  iapply (wp_wand _ _ _) $$ [H1 H8]
  · iapply (wp_fills A B c 256 0 _)
    isplitl [H1]; · iexact H1
    iapply (Upto_none c B.arg8 _ _ (fun i => Nat.not_lt_zero _)); iexact H8
  iintro %u2 ⟨H1, H8⟩
  ihave H8 := (Upto_all c B.arg8 _ _ (fun p => by
    have hp0 : (p 0).val < 2048 := (p 0).isLt
    unfold blkQ; omega)) $$ H8
  iapply (wp_loop c _ _ _ _ (sInv I A B c) (fun t acc => seqS_step I A B c hI t acc) (n := 64) (t3_trips)) $$ [H0 HS H8 H3 H5 H9 H10 H11 H12 HO]
  · unfold sInv
    isplitr
    · ipureintro; exact ⟨hw, rfl⟩
    isplitl [H0]; · iexact H0
    isplitl [HS]; · iexact HS
    isplitl [H8]; · iexact H8
    isplitl [H3]; · iexact H3
    isplitl [H5]; · iexact H5
    isplitl [H9]
    · iapply (Upto_none c B.arg9 _ _ (fun i => Nat.not_lt_zero _)); iexact H9
    isplitl [H10]; · iexact H10
    isplitl [H11]; · iexact H11
    isplitl [H12]; · iexact H12
    iexact HO
  unfold sInv
  iintro %acc2 ⟨%hw2, H0, HS, H8, H3, H5, H9, H10, H11, H12, HO⟩
  ihave H9 := (Upto_all c B.arg9 (fun p => (p 0).val < 32 * 64) _ (fun p => (p 0).isLt)) $$ H9
  iapply (wp_wand _ _ _) $$ [H9 H6]
  · iapply (wp_outs I A B c 256 0 _)
    isplitl [H9]; · iexact H9
    iapply (Upto_none c B.arg6 _ _ (fun i => Nat.not_lt_zero _)); iexact H6
  iintro %u3 ⟨H9, H6⟩
  ihave H6 := (Upto_all c B.arg6 _ _ (fun p => by
    have hp0 : (p 0).val < 64 := (p 0).isLt
    have hp1 : (p 1).val < 4096 := (p 1).isLt
    unfold blkO; omega)) $$ H6
  ihave HS := (ring_end I B c hI) $$ HS
  ihave HS := HE $$ HS
  icases HS with ⟨H7, Hs, H2, H4⟩
  isplitr [H6]
  · isplitl [H0]; · iexact H0
    isplitl [H1]; · iexact H1
    isplitl [H2]; · iexact H2
    isplitl [H3]; · iexact H3
    isplitl [H4]; · iexact H4
    isplitl [H5]; · iexact H5
    isplitl [H7]
    · unfold Any; iexact H7
    isplitl [H8]
    · iapply (holds_Any c); iexact H8
    isplitl [H9]
    · iapply (holds_Any c); iexact H9
    isplitl [H10]; · iexact H10
    isplitl [H11]; · iexact H11
    isplitl [H12]; · iexact H12
    isplitl [Hs]; · iexact Hs
    iexact HO
  iexact H6

end Cert.Proof.KernelIdeal
-- ==== Proof.KernelIdeal.Frame.lean ====
/- The run of the whole program: the host lines before the kernel, the kernel, the host line after it. The arguments
   end as launched, every counter ends at zero, and the result is what the kernel leaves. -/
module

public import proofs.«01_k».proof.Proof.KernelIdeal.Body
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.FrameBody
public import Idealize.ShloMosaic.Lib.Pipeline.FrameSuffix

@[expose] public section

set_option maxRecDepth 65536
set_option pp.maxSteps 250

noncomputable section

namespace Cert.Proof.KernelIdeal

open Cert.KernelIdeal Cert.KernelIdeal.Gen Cert.Proof.Rules Cert.Proof.Sched
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The buffers the kernel function is called with. -/
def bufsAt (t : Fin cfg0.N) : Bufs where
  arg0 := win0_0.stage (cfg0.slots t 0)
  harg0 := hstage0_0 0
  arg1 := win0_1.stage (cfg0.slots t 1)
  harg1 := hstage0_1 0
  arg2 := Memref.whole main_v1
  harg2 := Memref.isWhole_whole _
  arg3 := win0_2.stage (cfg0.slots t 2)
  harg3 := hstage0_2 0
  arg4 := Memref.whole main_v3
  harg4 := Memref.isWhole_whole _
  arg5 := win0_3.stage (cfg0.slots t 3)
  harg5 := hstage0_3 0
  arg6 := win0_4.stage (cfg0.slots t 4)
  harg6 := hstage0_4 0
  arg7 := Memref.whole cc0_scratch0
  harg7 := Memref.isWhole_whole _
  arg8 := Memref.whole cc0_scratch1
  harg8 := Memref.isWhole_whole _
  arg9 := Memref.whole cc0_scratch2
  harg9 := Memref.isWhole_whole _
  arg10 := Memref.whole cc0_scratch3
  harg10 := Memref.isWhole_whole _
  arg11 := Memref.whole cc0_scratch4
  harg11 := Memref.isWhole_whole _
  arg12 := Memref.whole cc0_scratch5
  harg12 := Memref.isWhole_whole _
  arg13 := cc0_scratch6

theorem bodyAt0_eq (t : Fin cfg0.N) : bodyAt0 (F := F) t = wholeS (bufsAt t) := by
  rw [← whole_eq (F := F) (bufsAt t)]; rfl

/-! ## The counters and the operands the kernel moves itself -/

/-- The kernel's own counters, one for each slot of its ring. -/
def osem0 (j : Fin 24) : SemLoc sig := .dma (semAt (bufsAt t0_0) j.val j.isLt)

theorem ownSemFacts0 : Pipeline.OwnSemFacts spec0 osem0 := by decide +kernel

/-- The two operands left in the large memory. -/
def H0 : Finset (Ref sig .tc) := {main_v1, main_v3}

theorem H0_sub : H0 ⊆ Pipeline.restRefs sig spec0 := by decide

theorem ownSems0_range (c : Dev nD) (t : Fin cfg0.N) :
    (Pipeline.ownSems0 (Ix := Unit) (Name := ℕ) (U := Pipeline.UD sig nD τ) (Lvl := ℕ) (Val := Elt F) (τ := τ) osem0 c : sProp 𝕄)
      = bigSep (Finset.range 24) (semV (F := F) (bufsAt t) c) := by
  unfold Pipeline.ownSems0
  refine Ring.bigSep_fin_eq_range 24 _ _ (fun k hk => ?_)
  unfold semV
  rw [dif_pos hk]
  rfl

variable (m : (ℓ : Loc nD τ sig) → Buf (Elt F) ℓ) (ρ : Dev nD → PrngReg)

theorem hbm0_eq (c : Dev nD) :
    (bigSep H0 fun b => ((c.tc : Thread nD τ).loc b) ↦{fullShare} V m c b : sProp 𝕄)
      = iprop(((c.tc : Thread nD τ).loc main_v1 ↦{fullShare} V m c main_v1) ∗ ((c.tc : Thread nD τ).loc main_v3 ↦{fullShare} V m c main_v3)) := by
  rw [BI.bigSep_eq_bigSepL_of_eq [main_v1, main_v3] (by decide) (by decide)]
  rfl

/-! ## The lines round the kernel -/

theorem sfx_but : ∀ ops ∈ ([hostOps1] : List (List (HloOp τ sig (Elt F)))), ∀ op ∈ ops,
    op.bufs ⊆ Pipeline.tailRefsBut sig Pipeline.Prefetch.none spec0 H0 := by
  intro ops hops op hop
  simp only [List.mem_cons, List.mem_nil_iff, or_false] at hops
  rcases hops with rfl
  refine Pipeline.sub_tailRefsBut _ _ _ op ((List.forall_iff_forall_mem.mp hostOps1_sub) op hop) (fun k => k.elim0) ?_
  simp only [hostOps1, List.mem_cons, List.mem_nil_iff, or_false] at hop
  rcases hop with rfl
  intro b hb
  simp only [H0, Finset.mem_insert, Finset.mem_singleton] at hb
  rcases hb with rfl | rfl
  all_goals
    simp only [StableHlo.reshape_bufs, Finset.mem_insert, Finset.mem_singleton, not_or]
    exact ⟨StableHlo.devRef_ne_of_ne (by decide), StableHlo.devRef_ne_of_ne (by decide)⟩

theorem hmainD : Pipeline.HMainK (Ix := Unit) (Name := ℕ) (U := Pipeline.UD sig nD τ) (Lvl := ℕ) cfgs 0 defs₀ Variants.none m (main (F := F)) (V m)
      (fun _ => Pipeline.chain ([hostOps1].map StableHlo.seq)) :=
  Pipeline.hmain_around cfgs 0 defs₀ Variants.none m main [hostOps0] [hostOps1] (by simp only [List.Forall]; exact hostOps0_sub)
    (by simp only [List.Forall]; exact hostOps0_fresh) main_chain

/-- What neither the kernel nor the last line writes ends as the kernel found it. -/
theorem W_keep (dats : (p : Fin 1) → (c : Dev nD) → Dat τ (Elt F) Unit ℕ (Pipeline.UD sig nD τ) ℕ (cfgs p) c) (c : Dev nD)
    (b : Ref sig .tc) (h6 : b ≠ main_v6) (hw : ∀ w, Pipeline.arrRef spec0 w ≠ b) :
    Pipeline.afterTail₀ cfgs dats 0 (V0 m) [hostOps1] c b = V m c b := by
  unfold Pipeline.afterTail₀
  rw [StableHlo.after_of_forall_not_mem (b := Proc.devRef .tc b) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne h6)),
    Pipeline.withArrays_of_ne _ c (V0 m c) _ b hw]

/-! ## The kernel's data and its obligation -/

/-- The lengths and the two caches, as the kernel finds them. -/
def insAt (c : Dev nD) (t : Fin cfg0.N) : Ins F where
  len := iblk m c 0 t
  K := V m c main_v1
  V := V m c main_v3

/-- The queries and the two arrays of scales, as the kernel finds them. -/
def arrAt' (c : Dev nD) (t : Fin cfg0.N) : Arr F where
  x := iblk m c 1 t
  ks := iblk m c 2 t
  vs := iblk m c 3 t

/-- What the kernel leaves in its result's window. -/
def outAt (c : Dev nD) (t : Fin cfg0.N) : S64x4096.Idx → Elt F .bf16 := kernelOut (insAt m c t) (arrAt' m c t)

def dats (_p : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAt m c t
  Φ _ := Pipeline.ΦD osem0 spec0 H0 (V m) c
  q _ := fullShare
  owed _ := 0

theorem A_eq (c : Dev nD) (w : Fin cfg0.W) : (dats m 0 c).A w = V m c (Pipeline.arrRef spec0 w) := by
  dsimp only [dats]

theorem before_0 (c : Dev nD) (t : Fin cfg0.N) (d) : (dats m 0 c).before 0 t d = iblk m c 0 t :=
  ((dats m 0 c).before_in_eq_fetched 0 rfl (fun _ => rfl) (fun _ _ _ => rfl) (fun t => by unfold Dat.blockOf; rfl) t d).trans
    (by unfold Dat.fetched Dat.blockOf; rfl)
theorem before_1 (c : Dev nD) (t : Fin cfg0.N) (d) : (dats m 0 c).before 1 t d = iblk m c 1 t :=
  ((dats m 0 c).before_in_eq_fetched 1 rfl (fun _ => rfl) (fun _ _ _ => rfl) (fun t => by unfold Dat.blockOf; rfl) t d).trans
    (by unfold Dat.fetched Dat.blockOf; rfl)
theorem before_2 (c : Dev nD) (t : Fin cfg0.N) (d) : (dats m 0 c).before 2 t d = iblk m c 2 t :=
  ((dats m 0 c).before_in_eq_fetched 2 rfl (fun _ => rfl) (fun _ _ _ => rfl) (fun t => by unfold Dat.blockOf; rfl) t d).trans
    (by unfold Dat.fetched Dat.blockOf; rfl)
theorem before_3 (c : Dev nD) (t : Fin cfg0.N) (d) : (dats m 0 c).before 3 t d = iblk m c 3 t :=
  ((dats m 0 c).before_in_eq_fetched 3 rfl (fun _ => rfl) (fun _ _ _ => rfl) (fun t => by unfold Dat.blockOf; rfl) t d).trans
    (by unfold Dat.fetched Dat.blockOf; rfl)

/-- Every length the program is launched with is in range. -/
def LensOk : Prop := ∀ (c : Dev nD) (i : S64.Idx), InLen (m ((c : Thread nD τ).loc main_arg5) i)

theorem ins_ok (h : LensOk m) (c : Dev nD) (t : Fin cfg0.N) : (insAt m c t).Ok := by
  intro i
  have hv : ∀ j : S64.Idx, InLen (V m c main_arg5 j) := fun j => by rw [V_main_arg5]; exact h c j
  exact hv _

/-- A whole buffer at contents, read as the kernel's proof reads it. -/
theorem pt_holds (c : Dev nD) (b : Ref sig .tc) (X : b.ty.Contents (Elt F)) :
    (((c : Thread nD τ).loc b) ↦{fullShare} X : sProp 𝕄) = holds (c : Thread nD τ) (Memref.whole b) Finset.univ fullShare X := by
  rw [holds_univ, owns_whole]

theorem scr_Any (c : Dev nD) {s : Shape} {e : EltTy} (M : Memref sig .tc .vmem s e) (P : sProp 𝕄)
    (h : P = iprop(∃ X : s.Idx → Elt F e, owns (c : Thread nD τ) M fullShare X)) : P = Any c M := by
  rw [h]; unfold Any
  refine congrArg _ (funext fun X => ?_)
  rw [holds_univ]

def bodyPre (c : Dev nD) (t : Fin cfg0.N) : sProp 𝕄 :=
  iprop((dats m 0 c).Φ t.castSucc ∗ (dats m 0 c).owesAt () t.castSucc
    ∗ (∃ d, owns (c : Thread nD τ) (bufsAt t).arg0 fullShare ((dats m 0 c).before 0 t d))
    ∗ (∃ d, owns (c : Thread nD τ) (bufsAt t).arg1 fullShare ((dats m 0 c).before 1 t d))
    ∗ (∃ d, owns (c : Thread nD τ) (bufsAt t).arg3 fullShare ((dats m 0 c).before 2 t d))
    ∗ (∃ d, owns (c : Thread nD τ) (bufsAt t).arg5 fullShare ((dats m 0 c).before 3 t d))
    ∗ (∃ d, owns (c : Thread nD τ) (bufsAt t).arg6 fullShare ((dats m 0 c).before 4 t d)))
def bodyPost (c : Dev nD) (t : Fin cfg0.N) : sProp 𝕄 :=
  iprop((dats m 0 c).Φ t.succ ∗ (dats m 0 c).owesAt () t.succ
    ∗ owns (c : Thread nD τ) (bufsAt t).arg0 fullShare ((dats m 0 c).after 0 t)
    ∗ owns (c : Thread nD τ) (bufsAt t).arg1 fullShare ((dats m 0 c).after 1 t)
    ∗ owns (c : Thread nD τ) (bufsAt t).arg3 fullShare ((dats m 0 c).after 2 t)
    ∗ owns (c : Thread nD τ) (bufsAt t).arg5 fullShare ((dats m 0 c).after 3 t)
    ∗ owns (c : Thread nD τ) (bufsAt t).arg6 fullShare ((dats m 0 c).after 4 t))

theorem Phi_eq (c : Dev nD) (t : Fin cfg0.N) :
    (Pipeline.ΦD osem0 spec0 H0 (V m) c : sProp 𝕄)
      = iprop((Any c (bufsAt t).arg7 ∗ Any c (bufsAt t).arg8 ∗ Any c (bufsAt t).arg9 ∗ Any c (bufsAt t).arg10 ∗ Any c (bufsAt t).arg11 ∗ Any c (bufsAt t).arg12)
          ∗ (∃ r, prngReg c r) ∗ bigSep (Finset.range 24) (semV (F := F) (bufsAt t) c)
          ∗ holds (c : Thread nD τ) (bufsAt t).arg2 Finset.univ fullShare (insAt m c t).K
          ∗ holds (c : Thread nD τ) (bufsAt t).arg4 Finset.univ fullShare (insAt m c t).V) := by
  rw [Pipeline.ΦD_eq, scopedRest0_eq, ownSems0_range c t, hbm0_eq]
  have key : ∀ b : Ref sig .tc, (iprop(∃ f, ((c.tc : Thread nD τ).loc b) ↦{fullShare} f) : sProp 𝕄)
      = iprop(∃ X : b.ty.Contents (Elt F), holds (c : Thread nD τ) (Memref.whole b) Finset.univ fullShare X) := fun b =>
    congrArg _ (funext fun X => pt_holds c b X)
  rw [key, key, key, key, key, key]
  rw [pt_holds c main_v1, pt_holds c main_v3]
  rfl

theorem sound_body (h : LensOk m) (c : Dev nD) (t : Fin cfg0.N) :
    bodyPre m c t ⊢ wp frame (wpE (defs₀ (F := F)) Variants.none c none) Set.univ (bodyAt0 t) (fun _ => bodyPost m c t) := by
  unfold bodyPre bodyPost
  rw [bodyAt0_eq]
  rw [show (dats m 0 c).Φ t.succ = Pipeline.ΦD osem0 spec0 H0 (V m) c from rfl,
    show (dats m 0 c).Φ t.castSucc = Pipeline.ΦD osem0 spec0 H0 (V m) c from rfl, Phi_eq m c t]
  unfold Dat.owesAt Pipeline.owesWithin
  rw [show (dats m 0 c).owed t.castSucc = 0 from rfl, show (dats m 0 c).owed t.succ = 0 from rfl]
  simp only [before_0, before_1, before_2, before_3]
  rw [show (dats m 0 c).after 0 t = (insAt m c t).len from rfl, show (dats m 0 c).after 1 t = (arrAt' m c t).x from rfl,
    show (dats m 0 c).after 2 t = (arrAt' m c t).ks from rfl, show (dats m 0 c).after 3 t = (arrAt' m c t).vs from rfl,
    show (dats m 0 c).after 4 t = kernelOut (insAt m c t) (arrAt' m c t) from rfl,
    show iblk m c 0 t = (insAt m c t).len from rfl, show iblk m c 1 t = (arrAt' m c t).x from rfl,
    show iblk m c 2 t = (arrAt' m c t).ks from rfl, show iblk m c 3 t = (arrAt' m c t).vs from rfl]
  simp only [← holds_univ]
  iintro ⟨⟨⟨H7, H8, H9, H10, H11, H12⟩, Hg, Hs, H2, H4⟩, ⟨%W, -, HW⟩, ⟨%d0, H0⟩, ⟨%d1, H1⟩, ⟨%d2, H3⟩, ⟨%d3, H5⟩, ⟨%d4, H6⟩⟩
  iapply (wp_wand _ _ _) $$ [H0 H1 H2 H3 H4 H5 H6 H7 H8 H9 H10 H11 H12 Hs HW]
  · iapply (wp_whole (insAt m c t) (arrAt' m c t) (bufsAt t) c (ins_ok m h c t))
    isplitr [H6]
    · unfold Kept
      isplitl [H0]; · iexact H0
      isplitl [H1]; · iexact H1
      isplitl [H2]; · iexact H2
      isplitl [H3]; · iexact H3
      isplitl [H4]; · iexact H4
      isplitl [H5]; · iexact H5
      isplitl [H7]; · iexact H7
      isplitl [H8]; · iexact H8
      isplitl [H9]; · iexact H9
      isplitl [H10]; · iexact H10
      isplitl [H11]; · iexact H11
      isplitl [H12]; · iexact H12
      isplitl [Hs]; · iexact Hs
      unfold Owes; iexists W; iexact HW
    · unfold Any; iexists _; iexact H6
  unfold Kept Owes
  iintro %u ⟨⟨H0, H1, H2, H3, H4, H5, H7, H8, H9, H10, H11, H12, Hs, ⟨%W', HW⟩⟩, H6⟩
  isplitl [H7 H8 H9 H10 H11 H12 Hg Hs H2 H4]
  · isplitl [H7 H8 H9 H10 H11 H12]
    · isplitl [H7]; · iexact H7
      isplitl [H8]; · iexact H8
      isplitl [H9]; · iexact H9
      isplitl [H10]; · iexact H10
      isplitl [H11]; · iexact H11
      iexact H12
    isplitl [Hg]; · iexact Hg
    isplitl [Hs]; · iexact Hs
    isplitl [H2]; · iexact H2
    iexact H4
  isplitl [HW]
  · iexists W'; isplitr; · ipureintro; exact fun _ _ => Or.inl trivial
    iexact HW
  isplitl [H0]; · iexact H0
  isplitl [H1]; · iexact H1
  isplitl [H3]; · iexact H3
  isplitl [H5]; · iexact H5
  iexact H6

theorem defs₀_row (t : Fin cfg0.N) :
    defs₀ (F := F) .tc cfg0.body (cfg0.bodyArgs t (cfg0.slots t)) = bodyAt0 t := by
  unfold defs₀; rw [Defs.onTc_tc]

theorem body_obligation (h : LensOk m) (c : Dev nD) :
    BodyObligation (dats (F := F) m 0 c) (defs₀ (F := F)) Variants.none () Set.univ := fun t => by
  rw [bigSep_W0, bigSep_W0, defs₀_row]
  exact triple_restated (sound_body m h c t) rfl .rfl fun _ => .rfl

/-! ## The run and the frame -/

set_option backward.isDefEq.respectTransparency.types false in
theorem run_main (h : LensOk m) : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_dma_around (Q' := _) cfgs (dats m) (0 : Fin 1) launch0 osem0 defs₀ Variants.none ownSemFacts0 H0 H0_sub m ρ main
    (hbody := fun c => (body_obligation m h c).loose) (hshare := fun c => (dats m 0 c).share_full fun _ => rfl)
    (howed := fun _ _ => rfl) (V₀ := V0 m) (opss := [hostOps1]) (hsub := sfx_but) (hfresh := sfx_fresh) (hkeep := sfx_keeps)
    (hmain := hmainD m) (hA := A_eq m) (hin := fun _ => .rfl) (hout := fun _ => .rfl)

/-- The arguments end as launched, from the run's post. -/
theorem args_of (r : PUnit × MemSt nD τ sig (Elt F))
    (h : Pipeline.FramePost cfgs (dats m) 0 (Pipeline.afterTail₀ cfgs (dats m) 0 (V0 m) [hostOps1]) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  ⟨((h c).2 main_arg0 (Pipeline.mem_restRefs_of main_arg0 (by decide) (by decide))).trans ((W_keep m (dats m) c main_arg0 (by decide) (by decide)).trans (V_main_arg0 m c)),
   ((h c).2 main_arg1 (Pipeline.mem_restRefs_of main_arg1 (by decide) (by decide))).trans ((W_keep m (dats m) c main_arg1 (by decide) (by decide)).trans (V_main_arg1 m c)),
   ((h c).2 main_arg2 (Pipeline.mem_restRefs_of main_arg2 (by decide) (by decide))).trans ((W_keep m (dats m) c main_arg2 (by decide) (by decide)).trans (V_main_arg2 m c)),
   ((h c).2 main_arg3 (Pipeline.mem_restRefs_of main_arg3 (by decide) (by decide))).trans ((W_keep m (dats m) c main_arg3 (by decide) (by decide)).trans (V_main_arg3 m c)),
   ((h c).2 main_arg4 (Pipeline.mem_restRefs_of main_arg4 (by decide) (by decide))).trans ((W_keep m (dats m) c main_arg4 (by decide) (by decide)).trans (V_main_arg4 m c)),
   ((h c).1 0).trans (((dats m 0 c).arrAt_in 0 rfl _).trans ((A_eq m c 0).trans (V_main_arg5 m c)))⟩

/-- The frame: the program runs, its arguments end as launched, every counter ends at zero. -/
theorem frame_holds (hl : LensOk m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨args_of m r h.1, h.2⟩) (run_main m ρ hl)

end Cert.Proof.KernelIdeal
-- ==== Proof.Value.Target.lean ====
/- What both programs compute, in plain formulas over the extended reals: the scaled and masked scores of one
   query head, their maximum, the exponentials, their sum, and the weighted sum of the values. -/
module

public import Idealize.ShloMosaic.PureOps.Ideal
public import Idealize.ShloMosaic.PureOps.Ideal.Laws

@[expose] public section

noncomputable section

namespace Cert.Proof.Value

open Idealize.ShloMosaic

/-- The arguments, read at natural numbers. -/
structure Args where
  /-- the queries: sequence, column -/
  x : ℕ → ℕ → EReal
  /-- the keys: sequence, token, head, component -/
  K : ℕ → ℕ → ℕ → ℕ → EReal
  /-- the scales of the keys: sequence, block of 64 tokens, head -/
  ks : ℕ → ℕ → ℕ → EReal
  /-- the values -/
  V : ℕ → ℕ → ℕ → ℕ → EReal
  /-- the scales of the values -/
  vs : ℕ → ℕ → ℕ → EReal
  /-- the lengths -/
  len : ℕ → ℕ

variable (R : Args)

/-- The scale of the scores. -/
def scl : EReal := Ideal.ofBits .f32 0x3DB504F3#32

/-- The score of token `p` for query `g` of the group of head `k`; past the sequence's length the least value. -/
def score (b k g p : ℕ) : EReal :=
  if p < R.len b then
    (∑ d : Fin 128, R.x b (128 * (8 * k + g) + d.val) * R.K b p k d.val) * (R.ks b (p / 64) k * scl)
  else ⊥

/-- The greatest score. -/
def top (b k g : ℕ) : EReal := (Finset.range 8192).sup (score R b k g)

/-- The exponential of a score. -/
def expo (b k g p : ℕ) : EReal := Ideal.exp (score R b k g p - top R b k g)

/-- The reciprocal of the sum of the exponentials. -/
def recip (b k g : ℕ) : EReal := Ideal.div 1 (∑ p ∈ Finset.range 8192, expo R b k g p)

/-- What token `p` contributes to component `d` of the output. -/
def part (b k g d p : ℕ) : EReal :=
  expo R b k g p * recip R b k g * R.vs b (p / 64) k * R.V b p k d

/-- The output. -/
def attend (b k g d : ℕ) : EReal := ∑ p ∈ Finset.range 8192, part R b k g d p

theorem score_past {b k g p : ℕ} (h : R.len b ≤ p) : score R b k g p = ⊥ := if_neg (by omega)

theorem expo_past {b k g p : ℕ} (h : R.len b ≤ p) : expo R b k g p = 0 := by
  unfold expo
  rw [score_past R h, sub_eq_add_neg, EReal.bot_add]
  rfl

theorem part_past {b k g d p : ℕ} (h : R.len b ≤ p) : part R b k g d p = 0 := by
  unfold part
  rw [expo_past R h, zero_mul, zero_mul, zero_mul]

end Cert.Proof.Value
-- ==== Proof.Value.Math.lean ====
/- Facts about finite sums and suprema over ranges, and about the sums and maxima that five rotations by
   4, 8, 16, 32 and 64 lanes leave on each of 128 lanes. -/
module

public import Idealize.ShloMosaic.PureOps.Ideal.Laws
public import Mathlib.Data.EReal.Operations

@[expose] public section

namespace Cert.Proof.Value

open Finset

/-- A range of `a * b` numbers, in `a` groups of `b`. -/
theorem sum_range_mul {M : Type} [AddCommMonoid M] (f : ℕ → M) (a b : ℕ) :
    ∑ i ∈ range (a * b), f i = ∑ i ∈ range a, ∑ j ∈ range b, f (b * i + j) := by
  induction a with
  | zero => simp
  | succ a ih => rw [Nat.succ_mul, sum_range_add, ih, sum_range_succ, Nat.mul_comm a b]

theorem sup_le_iff' {f : ℕ → EReal} {n : ℕ} {c : EReal} : (range n).sup f ≤ c ↔ ∀ i < n, f i ≤ c := by
  simp [Finset.sup_le_iff]

/-- A supremum over a range is determined by its upper bounds. -/
theorem sup_range_add (f : ℕ → EReal) (n m : ℕ) :
    (range (n + m)).sup f = max ((range n).sup f) ((range m).sup fun i => f (n + i)) := by
  refine eq_of_forall_ge_iff fun c => ?_
  rw [sup_le_iff', max_le_iff, sup_le_iff', sup_le_iff']
  constructor
  · exact fun h => ⟨fun i hi => h i (by omega), fun i hi => h (n + i) (by omega)⟩
  · rintro ⟨h1, h2⟩ i hi
    by_cases hn : i < n
    · exact h1 i hn
    · have := h2 (i - n) (by omega)
      rwa [show n + (i - n) = i by omega] at this

theorem sup_range_mul (f : ℕ → EReal) (a b : ℕ) :
    (range (a * b)).sup f = (range a).sup fun i => (range b).sup fun j => f (b * i + j) := by
  induction a with
  | zero => simp
  | succ a ih =>
    rw [Nat.succ_mul, sup_range_add, ih, sup_range_add]
    simp [Nat.mul_comm a b]

theorem sup_range_comm (f : ℕ → ℕ → EReal) (a b : ℕ) :
    ((range a).sup fun i => (range b).sup fun j => f i j) = (range b).sup fun j => (range a).sup fun i => f i j :=
  Finset.sup_comm _ _ _

/-- A sum over a range whose later terms are zero. -/
theorem sum_range_of_zero {M : Type} [AddCommMonoid M] (f : ℕ → M) {n m : ℕ} (h : n ≤ m) (hz : ∀ i, n ≤ i → f i = 0) :
    ∑ i ∈ range n, f i = ∑ i ∈ range m, f i :=
  sum_subset (by simpa using h) fun i _ hi => hz i (by simpa using hi)

/-- A supremum over a range whose later terms are the least. -/
theorem sup_range_of_bot (f : ℕ → EReal) {n m : ℕ} (h : n ≤ m) (hz : ∀ i, n ≤ i → f i = ⊥) :
    (range n).sup f = (range m).sup f := by
  refine eq_of_forall_ge_iff fun c => ?_
  rw [sup_le_iff', sup_le_iff']
  refine ⟨fun hc i hi => ?_, fun hc i hi => hc i (by omega)⟩
  by_cases hn : i < n
  · exact hc i hn
  · rw [hz i (by omega)]; exact bot_le

/-! ### Rotations -/

/-- The sum of `s` lanes, four apart, ending at lane `l`. -/
noncomputable def winSum (f : ℕ → EReal) (s l : ℕ) : EReal := ∑ i ∈ range s, f ((l + 128 - 4 * i) % 128)
/-- The maximum of `s` lanes, four apart, ending at lane `l`. -/
noncomputable def winSup (f : ℕ → EReal) (s l : ℕ) : EReal := (range s).sup fun i => f ((l + 128 - 4 * i) % 128)

theorem winSum_one (f : ℕ → EReal) {l : ℕ} (h : l < 128) : winSum f 1 l = f l := by
  simp [winSum, Nat.mod_eq_of_lt h]

theorem winSup_one (f : ℕ → EReal) {l : ℕ} (h : l < 128) : winSup f 1 l = f l := by
  simp [winSup, Nat.mod_eq_of_lt h]

theorem winSum_double (f : ℕ → EReal) {s l : ℕ} (hs : s ≤ 16) :
    winSum f s l + winSum f s ((l + 128 - 4 * s) % 128) = winSum f (s + s) l := by
  unfold winSum
  rw [sum_range_add]
  congr 1
  refine sum_congr rfl fun i hi => congrArg f ?_
  have := mem_range.1 hi
  omega

theorem winSup_double (f : ℕ → EReal) {s l : ℕ} (hs : s ≤ 16) :
    max (winSup f s l) (winSup f s ((l + 128 - 4 * s) % 128)) = winSup f (s + s) l := by
  unfold winSup
  rw [sup_range_add]
  congr 1
  refine sup_congr rfl fun i hi => congrArg f ?_
  have := mem_range.1 hi
  omega

theorem winSum_all (f : ℕ → EReal) {l : ℕ} (h : l < 128) : winSum f 32 l = ∑ i ∈ range 32, f (4 * i + l % 4) := by
  unfold winSum
  refine sum_nbij' (fun i => (l / 4 + 32 - i) % 32) (fun i => (l / 4 + 32 - i) % 32) ?_ ?_ ?_ ?_ ?_
  · exact fun i hi => mem_range.2 (by omega)
  · exact fun i hi => mem_range.2 (by omega)
  · intro i hi; have := mem_range.1 hi; omega
  · intro i hi; have := mem_range.1 hi; omega
  · intro i hi; have := mem_range.1 hi; exact congrArg f (by omega)

theorem winSup_all (f : ℕ → EReal) {l : ℕ} (h : l < 128) :
    winSup f 32 l = (range 32).sup fun i => f (4 * i + l % 4) := by
  unfold winSup
  refine eq_of_forall_ge_iff fun c => ?_
  rw [sup_le_iff', sup_le_iff']
  constructor
  · intro hc i hi
    have := hc ((l / 4 + 32 - i) % 32) (by omega)
    rwa [show (l + 128 - 4 * ((l / 4 + 32 - i) % 32)) % 128 = 4 * i + l % 4 by omega] at this
  · intro hc i hi
    have := hc ((l / 4 + 32 - i) % 32) (by omega)
    rwa [show 4 * ((l / 4 + 32 - i) % 32) + l % 4 = (l + 128 - 4 * i) % 128 by omega] at this

/-- A sum over 256 numbers of which only those that leave `k` at the division by four count. -/
theorem sum_every_fourth (f : ℕ → EReal) {k : ℕ} (hk : k < 4) :
    ∑ x ∈ range 256, (if x % 4 = k then f x else 0) = ∑ m ∈ range 64, f (4 * m + k) := by
  rw [show (256 : ℕ) = 64 * 4 from rfl, sum_range_mul]
  refine sum_congr rfl fun m _ => ?_
  rw [sum_eq_single k]
  · rw [if_pos (by omega)]
  · intro j hj hne
    have := mem_range.1 hj
    rw [if_neg (by omega)]
  · exact fun h => absurd (mem_range.2 hk) h

end Cert.Proof.Value
-- ==== Proof.Value.Words.lean ====
/- Small facts used on both sides: word comparisons as comparisons of numbers, and indices of literal arrays. -/
module

public import Idealize.ShloMosaic.PureOps.Vector
public import Idealize.ShloMosaic.PureOps.Ideal.Laws
public import Idealize.ShloMosaic.Lib.Pointwise
public import Idealize.ShloMosaic.Lib.Scf

@[expose] public section

namespace Cert.Proof.Value

open Idealize.ShloMosaic

theorem fin_of {n : ℕ} [NeZero n] (a : Fin n) {m : ℕ} (h : m = a.val) : Fin.ofNat n m = a := by
  apply Fin.ext
  simp only [Fin.ofNat]
  rw [h, Nat.mod_eq_of_lt a.isLt]

/-- The bits of minus infinity. -/
theorem ofBits_neg_inf : Ideal.ofBits .f32 0xFF800000#32 = ⊥ := by
  simp [Ideal.ofBits, Ideal.ieee]

theorem ofBool_eq_one {c : Bool} : BitVec.ofBool c = 1#1 ↔ c = true := by cases c <;> decide

theorem select_ofBool {α : Type} (c : Bool) (a b : α) : Scalar.select (BitVec.ofBool c) a b = if c = true then a else b := by
  cases c <;> rfl

theorem select_slt {α : Type} (x y : BitVec 32) (a b : α) :
    Scalar.select (IntOp.cmpi .slt x y) a b = if x.toInt < y.toInt then a else b := by
  unfold IntOp.cmpi
  rw [select_ofBool]
  simp only [BitVec.slt, decide_eq_true_eq]

theorem select_eq {α : Type} {n m : ℕ} (hn : n < 2 ^ 32) (hm : m < 2 ^ 32) (a b : α) :
    Scalar.select (IntOp.cmpi .eq (BitVec.ofNat 32 n) (BitVec.ofNat 32 m)) a b = if n = m then a else b := by
  unfold IntOp.cmpi
  rw [select_ofBool]
  simp only [beq_iff_eq]
  refine if_congr ⟨fun h => ?_, fun h => by rw [h]⟩ rfl rfl
  have := congrArg BitVec.toNat h
  simp only [BitVec.toNat_ofNat] at this
  omega

theorem toInt_ofNat {n : ℕ} (h : n < 2 ^ 31) : (BitVec.ofNat 32 n).toInt = n := by
  rw [BitVec.toInt_eq_toNat_cond, BitVec.toNat_ofNat]
  have : n % 2 ^ 32 = n := Nat.mod_eq_of_lt (by omega)
  rw [this, if_pos (by omega)]

theorem toInt_small {x : BitVec 32} (h : x.toNat < 2 ^ 31) : x.toInt = x.toNat := by
  rw [BitVec.toInt_eq_toNat_cond, if_pos (by omega)]

/-- The mask of the reference. -/
theorem select_lt_len {α : Type} {p : ℕ} (hp : p < 8192) {L : BitVec 32} (hL : L.toNat ≤ 8192) (a b : α) :
    Scalar.select (IntOp.cmpi .slt (BitVec.ofNat 32 p) L) a b = if p < L.toNat then a else b := by
  rw [select_slt, toInt_ofNat (by omega), toInt_small (by omega)]
  exact if_congr (by omega) rfl rfl

/-- The mask of the kernel. -/
theorem select_lt_rest {α : Type} {q n j : ℕ} (hq : q < 32) (hn : n < 128) (hj : j < 64) {L : BitVec 32}
    (hL : L.toNat ≤ 8192) (a b : α) :
    Scalar.select (IntOp.cmpi .slt (BitVec.ofNat 32 q)
      (Scalar.subi L (Scalar.addi (Scalar.muli (BitVec.ofNat 32 n) 64#32) (BitVec.ofNat 32 j)))) a b
      = if 64 * n + j + q < L.toNat then a else b := by
  have e : Scalar.addi (Scalar.muli (BitVec.ofNat 32 n) 64#32) (BitVec.ofNat 32 j) = BitVec.ofNat 32 (64 * n + j) := by
    show BitVec.ofNat 32 n * 64#32 + BitVec.ofNat 32 j = _
    apply BitVec.eq_of_toNat_eq
    simp only [BitVec.toNat_add, BitVec.toNat_mul, BitVec.toNat_ofNat]
    omega
  rw [e, select_slt, toInt_ofNat (by omega)]
  have e2 : (Scalar.subi L (BitVec.ofNat 32 (64 * n + j))).toInt = (L.toNat : ℤ) - (64 * n + j : ℕ) := by
    show (L - BitVec.ofNat 32 (64 * n + j)).toInt = _
    rw [BitVec.toInt_sub, toInt_small (by omega), toInt_ofNat (by omega), Int.bmod_def]
    split <;> omega
  rw [e2]
  exact if_congr (by push_cast; omega) rfl rfl

/-- A maximum over an axis is a supremum over its positions. -/
theorem fold_max {n : ℕ} (f : ℕ → EReal) :
    Finset.fold max ⊥ (fun x : Fin n => f x.val) Finset.univ = (Finset.range n).sup f := by
  refine eq_of_forall_ge_iff fun c => ?_
  rw [Finset.fold_max_le, Finset.sup_le_iff]
  simp only [bot_le, true_and, Finset.mem_univ, forall_const, Finset.mem_range]
  exact ⟨fun h i hi => h ⟨i, hi⟩, fun h i => h i.val i.isLt⟩

end Cert.Proof.Value
-- ==== Proof.Value.KerRead.lean ====
/- The kernel's vector operations, read at an index. -/
module

public import proofs.«01_k».proof.Proof.KernelIdeal.Spec
public import proofs.«01_k».proof.Proof.Value.Target
public import proofs.«01_k».proof.Proof.Value.Math
public import proofs.«01_k».proof.Proof.Value.Words
public import Idealize.ShloMosaic.Lib.Pipeline.Value
public import Idealize.ShloMosaic.Lib.Pointwise
public import Idealize.ShloMosaic.Lib.IdealHost

@[expose] public section

set_option maxRecDepth 65536
set_option pp.maxSteps 800

noncomputable section

namespace Cert.Proof.Value

open Cert.KernelIdeal Cert.KernelIdeal.Gen
open Idealize.ShloMosaic
open Cert.Proof.KernelIdeal (score00 score01 score10 score11 scoreVec sel4 spread weight headOf lhsOf accStep expRow)

theorem pay450_at (q : Vec Ideal S32x128 .f32) (r : Fin 64) (y : Fin 256) :
    k0_pay450 q (ix2 r y) = if r.val < 32 then (if y.val < 128 then q (ix2 (Fin.ofNat 32 r.val) (Fin.ofNat 128 y.val)) else 0)
      else (if y.val < 128 then 0 else q (ix2 (Fin.ofNat 32 (r.val - 32)) (Fin.ofNat 128 (y.val - 128)))) := by
  pointwise [k0_pay450]
  split
  · split
    · rw [fin_of (⟨r.val, by assumption⟩ : Fin 32) rfl, fin_of (⟨y.val, by assumption⟩ : Fin 128) rfl]
    · rfl
  · split
    · rfl
    · rw [fin_of (⟨r.val - 32, by omega⟩ : Fin 32) rfl, fin_of (⟨y.val - 128, by omega⟩ : Fin 128) rfl]

/-- The products of both blocks of a tile with the queries. -/
theorem pay4_at (q : Vec Ideal S32x128 .f32) (kA kB : Vec Ideal S1x1x256x128 .fp8e4m3) (r : Fin 64) (y : Fin 256) :
    k0_pay4 (k0_pay450 q) kA kB (ix2 r y) = if r.val < 32 then
        ∑ d : Fin 128, q (ix2 (Fin.ofNat 32 r.val) d) * kA (ix4 0 0 y d)
      else ∑ d : Fin 128, q (ix2 (Fin.ofNat 32 (r.val - 32)) d) * kB (ix4 0 0 y d) := by
  pointwise [k0_pay4]
  simp only [pay450_at]
  have h1 : ∀ d : Fin 128, Fin.ofNat 128 (128 + d.val - 128) = d := fun d => fin_of d (by omega)
  have h2 : ∀ d : Fin 128, Fin.ofNat 128 d.val = d := fun d => fin_of d rfl
  split
  · simp [h2]
  · simp [h1]

theorem pay292_at (kA kB : Vec Ideal S1x1x256x128 .fp8e4m3) (r : Fin 256) (y : Fin 256) :
    k0_pay292 kA kB (ix2 r y) = if y.val < 128 then kA (ix4 0 0 r (Fin.ofNat 128 y.val))
      else kB (ix4 0 0 r (Fin.ofNat 128 (y.val - 128))) := by
  pointwise [k0_pay292]
  split
  · rw [fin_of (⟨y.val, by assumption⟩ : Fin 128) rfl]
  · rw [fin_of (⟨y.val - 128, by omega⟩ : Fin 128) rfl]

theorem pay470_at (g : Fin 8) (l : Fin 128) : k0_pay470 (ix2 g l) = BitVec.ofNat 32 (l.val % 4) := by
  pointwise [k0_pay470]
  revert l
  decide +kernel

theorem pay471_at (g : Fin 8) (l : Fin 128) : k0_pay471 (ix2 g l) = BitVec.ofNat 32 (l.val / 4) := by
  pointwise [k0_pay471]
  revert l
  decide +kernel

/-- A score vector at a lane: the product of the lane's own head. -/
theorem scoreVec_at {L : BitVec 32} (hL : L.toNat ≤ 8192) {n j : ℕ} (hn : n < 128) (hj : j < 64) (sc : Vec Ideal S1x128 .f32)
    (a b c d : FVec Ideal S8x128 .f32) (g : Fin 8) (l : Fin 128) :
    scoreVec k0_pay470 k0_pay471 L (BitVec.ofNat 32 n) (BitVec.ofNat 32 j) sc a b c d (ix2 g l)
      = if 64 * n + j + l.val / 4 < L.toNat then
          (if l.val % 4 = 3 then d (ix2 g l) else if l.val % 4 = 2 then c (ix2 g l)
            else if l.val % 4 = 1 then b (ix2 g l) else a (ix2 g l)) * sc (ix2 0 l)
        else ⊥ := by
  pointwise [scoreVec, sel4, pay470_at, pay471_at]
  rw [select_lt_rest (by omega) hn hj hL, select_eq (by omega) (by omega), select_eq (by omega) (by omega),
    select_eq (by omega) (by omega), ofBits_neg_inf]

theorem turned_at (c : FVec Ideal S128x128 .f32) (n l : Fin 128) :
    shapeCast S128x128 (transpose S128x128 [1, 0] c transposes_S128x128_p1_0_S128x128) shapeCasts_S128x128_S128x128 (ix2 n l)
      = c (ix2 l n) := by
  pointwise

/-- The rows of a scale table: one block each, the heads repeated along the lanes. -/
theorem pay452_at (v : Vec Ideal S1x4x128 .f32) (n l : Fin 128) : k0_pay452 v (ix2 n l) = v (ix3 0 (Fin.ofNat 4 (l.val % 4)) n) := by
  have hc : Shape.Concatenates ((List.replicate 32
      (⟨S4x128, shapeCast S4x128 v shapeCasts_S1x4x128_S4x128⟩ : (s : Shape) × (s.Idx → EReal))).map (·.1)) S128x128 0 :=
    (by decide : Shape.Concatenates (List.replicate 32 S4x128) S128x128 0)
  have h : k0_pay452 v = shapeCast S128x128 (transpose S128x128 [1, 0] (concatenate S128x128 0
      (List.replicate 32 (⟨S4x128, shapeCast S4x128 v shapeCasts_S1x4x128_S4x128⟩ : (s : Shape) × (s.Idx → EReal))) hc)
      transposes_S128x128_p1_0_S128x128) shapeCasts_S128x128_S128x128 := rfl
  rw [h]
  refine (turned_at _ n l).trans ?_
  refine (concatenate_replicate_apply (t := S128x128) (s₁ := S4x128) 0 32 _ hc rfl (ix2 l n)
    (ix2 (Fin.ofNat 4 (l.val % 4)) n) ?_ ?_).trans ?_
  · show _ % 4 = _ % 4
    exact Nat.mod_mod _ _
  · intro b hb
    match b with
    | 0 => exact absurd rfl hb
    | 1 => rfl
  · pointwise

theorem pay451_at (v : Vec Ideal S1x4x128 .f32) (n l : Fin 128) :
    k0_pay451 v (ix2 n l) = v (ix3 0 (Fin.ofNat 4 (l.val % 4)) n) * scl :=
  (rfl : k0_pay451 v (ix2 n l) = k0_pay452 v (ix2 n l) * scl).trans (congrArg (· * scl) (pay452_at v n l))

/-- A row of weights spread over the heads: each lane in the rows of its own head. -/
theorem spread_at (p : FVec Ideal S8x128 .f32) (r : Fin 32) (l : Fin 128) :
    spread k0_pay470 p (ix2 r l) = if l.val % 4 = r.val / 8 then p (ix2 (Fin.ofNat 8 (r.val % 8)) l) else 0 := by
  pointwise [spread, headOf, pay470_at]
  have key : ∀ (m : ℕ) (hm : m < 8) (k : ℕ), r.val = 8 * k + m → k < 4 →
      Scalar.select (IntOp.cmpi .eq (BitVec.ofNat 32 (l.val % 4)) (BitVec.ofNat 32 k)) (p (ix2 ⟨m, hm⟩ l)) (0 : EReal)
        = if l.val % 4 = r.val / 8 then p (ix2 (Fin.ofNat 8 (r.val % 8)) l) else 0 := by
    intro m hm k hk hk4
    rw [select_eq (by omega) (by omega), fin_of (⟨m, hm⟩ : Fin 8) (by dsimp only; omega), show r.val / 8 = k by omega]
  split
  · exact key _ _ 0 (by omega) (by omega)
  · split
    · exact key _ _ 1 (by omega) (by omega)
    · split
      · exact key _ _ 2 (by omega) (by omega)
      · exact key _ _ 3 (by omega) (by omega)

theorem weight_at (inv sc e) (g : Fin 8) (l : Fin 128) :
    weight (F := Ideal) inv sc e (ix2 g l) = e (ix3 0 g l) * inv (ix2 g l) * sc (ix2 0 l) := by
  pointwise [weight]

theorem lhs_at (inv sc0 e00 e01 sc1 e10 e11) (r : Fin 64) (x : Fin 256) :
    lhsOf (F := Ideal) k0_pay470 inv sc0 e00 e01 sc1 e10 e11 (ix2 r x)
      = if h : r.val < 32 then
          if h1 : x.val < 128 then spread k0_pay470 (weight inv sc0 e00) (ix2 ⟨r.val, h⟩ ⟨x.val, h1⟩)
          else spread k0_pay470 (weight inv sc0 e01) (ix2 ⟨r.val, h⟩ ⟨x.val - 128, by omega⟩)
        else
          if h1 : x.val < 128 then spread k0_pay470 (weight inv sc1 e10) (ix2 ⟨r.val - 32, by omega⟩ ⟨x.val, h1⟩)
          else spread k0_pay470 (weight inv sc1 e11) (ix2 ⟨r.val - 32, by omega⟩ ⟨x.val - 128, by omega⟩) := by
  pointwise [lhsOf]

theorem acc_at (acc inv kA kB sc0 e00 e01 sc1 e10 e11) (r : Fin 64) (y : Fin 256) :
    accStep (F := Ideal) k0_pay470 inv acc kA kB sc0 e00 e01 sc1 e10 e11 (ix2 r y)
      = acc (ix2 r y) + ∑ x : Fin 256, lhsOf k0_pay470 inv sc0 e00 e01 sc1 e10 e11 (ix2 r x) * k0_pay292 kA kB (ix2 x y) := by
  pointwise [accStep]

theorem expRow_at (mx : FVec Ideal S8x128 .f32) (x : Vec Ideal S1x8x128 .f32) (g : Fin 8) (l : Fin 128) :
    expRow mx x (ix2 g l) = Ideal.exp (x (ix3 0 g l) - mx (ix2 g l)) := by
  pointwise [expRow]

/-- A rotation along the lanes. -/
theorem rot_at (n : ℕ) (hn : n < 128) (h) (x : FVec Ideal S8x128 .f32) (g : Fin 8) (l : Fin 128) :
    dynamicRotate 1 (BitVec.ofNat 32 n) none x h (ix2 g l) = x (ix2 g (Fin.ofNat 128 ((l.val + 128 - n) % 128))) := by
  pointwise
  refine congrArg (fun i => x (ix2 g i)) (Fin.ext ?_)
  simp only [Fin.ofNat, BitVec.toNat_ofNat]
  omega

end Cert.Proof.Value
-- ==== Proof.Value.KerScores.lean ====
/- The kernel's scores: the blocks its ring of slots holds where the lengths say so, and the score vectors of
   every tile. -/
module

public import proofs.«01_k».proof.Proof.Value.KerRead

@[expose] public section

set_option maxRecDepth 65536
set_option pp.maxSteps 800

noncomputable section

namespace Cert.Proof.Value

open Cert.KernelIdeal Cert.KernelIdeal.Gen Cert.Proof.Sched
open Idealize.ShloMosaic
open Cert.Proof.KernelIdeal (score00 score01 score10 score11 scoreVec sel4 spread weight headOf lhsOf accStep expRow
  Ins Arr idx4 laid rowAt nN nbN ncN ncN_le InLen xBlk qArr qRows ksRow vsRow rowOf tileRow blkW prodK scoreV Tile)

theorem spec_ix2 {n m : ℕ} [NeZero n] [NeZero m] (a b : ℕ) :
    (Cert.Proof.KernelIdeal.ix2 a b : (⟨2, ![n, m]⟩ : Shape).Idx) = ix2 (Fin.ofNat n a) (Fin.ofNat m b) := by
  funext i
  match i with
  | 0 => rfl
  | 1 => rfl

theorem pay473_at (v : Vec Ideal S8x128 .bf16) (i : Fin 8) (d : Fin 128) : k0_pay473 v (ix2 i d) = v (ix2 i d) := by
  pointwise [k0_pay473]

theorem slice_at (o0 o1 : ℕ) (s : FVec Ideal S64x256 .f32) (hs : Shape.Slices S64x256 ![o0, o1] S8x128) (g : Fin 8) (l : Fin 128)
    (h0 : o0 + 8 ≤ 64) (h1 : o1 + 128 ≤ 256) :
    extractStridedSlice S8x128 ![o0, o1] s hs (ix2 g l) = s (ix2 ⟨o0 + g.val, by omega⟩ ⟨o1 + l.val, by omega⟩) := by
  unfold extractStridedSlice
  refine congrArg s (funext fun a => ?_)
  match a with
  | 0 => rfl
  | 1 => rfl

/-- The blocks word of a tile is its number of blocks. -/
theorem blkW_eq {t i : ℕ} (ht : t < 64) (hi : i < 2) : Scalar.addi (blkW t) (BitVec.ofNat 32 i) = BitVec.ofNat 32 (2 * t + i) := by
  have : ∀ t : Fin 64, ∀ i : Fin 2, Scalar.addi (blkW t.val) (BitVec.ofNat 32 i.val) = BitVec.ofNat 32 (2 * t.val + i.val) := by
    decide +kernel
  exact this ⟨t, ht⟩ ⟨i, hi⟩

/-- What the kernel reads, against the arguments. -/
structure Rel (I : Ins Ideal) (A : Arr Ideal) (R : Args) : Prop where
  ok : I.Ok
  len : ∀ b < 64, (I.L b).toNat = R.len b
  x : ∀ b < 64, ∀ c < 4096, A.x (Cert.Proof.KernelIdeal.ix2 b c) = R.x b c
  ks : ∀ b < 64, ∀ k < 4, ∀ n < 128, A.ks (Cert.Proof.KernelIdeal.ix3 b k n) = R.ks b n k
  vs : ∀ b < 64, ∀ k < 4, ∀ n < 128, A.vs (Cert.Proof.KernelIdeal.ix3 b k n) = R.vs b n k
  K : ∀ b < 64, ∀ n < 128, ∀ (x : Fin 256) (d : Fin 128),
    I.K (idx4 (Fin.ofNat 64 b) (Fin.ofNat 128 n) x d) = R.K b (64 * n + x.val / 4) (x.val % 4) d.val
  V : ∀ b < 64, ∀ n < 128, ∀ (x : Fin 256) (d : Fin 128),
    I.V (idx4 (Fin.ofNat 64 b) (Fin.ofNat 128 n) x d) = R.V b (64 * n + x.val / 4) (x.val % 4) d.val

variable {I : Ins Ideal} {A : Arr Ideal} {R : Args} (h : Rel I A R) {b : ℕ} (hb : b < 64)
include h hb

theorem Rel.L_le : (I.L b).toNat ≤ 8192 := (h.ok _).2
theorem Rel.NC_le : I.NC b ≤ 8 := ncN_le (h.ok _).2
theorem Rel.len_le : R.len b ≤ 1024 * I.NC b := by
  rw [← h.len b hb]
  unfold Ins.NC ncN nbN
  omega

/-- A block of keys the length reaches, in the slot of its chunk. -/
theorem ringK {t i : ℕ} (ht : t < 8 * I.NC b) (hi : i < 2) (hl : 64 * (2 * t + i) < R.len b) (x : Fin 256) (d : Fin 128) :
    I.ringVal (start I.NC b + t / 8) (Fin.ofNat 16 (2 * (t % 8) + i)) x d
      = R.K b (64 * (2 * t + i) + x.val / 4) (x.val % 4) d.val := by
  have hN := h.NC_le hb
  have e := (st_at h.ok.NC_pos hb (show t / 8 < I.NC b by omega)).1
  rw [← h.len b hb] at hl
  have hv : (Fin.ofNat 16 (2 * (t % 8) + i)).val = 2 * (t % 8) + i := Nat.mod_eq_of_lt (by omega)
  rw [← h.K b hb (2 * t + i) (by omega) x d]
  unfold Ins.ringVal Ins.land Ins.st
  rw [e, if_pos hb, if_pos rfl]
  unfold laid rowAt
  dsimp only
  rw [if_pos (by rw [hv]; unfold nN nbN; omega), hv, show 16 * (t / 8) + (2 * (t % 8) + i) = 2 * t + i by omega]

/-- A block of values the length reaches, in the slot of its chunk. -/
theorem ringV {t i : ℕ} (ht : t < 8 * I.NC b) (hi : i < 2) (hl : 64 * (2 * t + i) < R.len b) (x : Fin 256) (d : Fin 128) :
    I.ringVal (start I.NC b + I.NC b + t / 8) (Fin.ofNat 16 (2 * (t % 8) + i)) x d
      = R.V b (64 * (2 * t + i) + x.val / 4) (x.val % 4) d.val := by
  have hN := h.NC_le hb
  have e := (st_at h.ok.NC_pos hb (show t / 8 < I.NC b by omega)).2
  rw [← h.len b hb] at hl
  have hv : (Fin.ofNat 16 (2 * (t % 8) + i)).val = 2 * (t % 8) + i := Nat.mod_eq_of_lt (by omega)
  rw [← h.V b hb (2 * t + i) (by omega) x d]
  unfold Ins.ringVal Ins.land Ins.st
  rw [e, if_pos hb, if_neg (fun e : (1 : ℕ) = 0 => by omega)]
  unfold laid rowAt
  dsimp only
  rw [if_pos (by rw [hv]; unfold nN nbN; omega), hv, show 16 * (t / 8) + (2 * (t % 8) + i) = 2 * t + i by omega]

theorem qRows_at (r : Fin 32) (d : Fin 128) : qRows A b (ix2 r d) = R.x b (128 * r.val + d.val) := by
  rw [← h.x b hb _ (by omega)]
  show qArr A (Cert.Proof.KernelIdeal.ix2 (32 * b + r.val) d.val) = _
  have h0 : (Fin.ofNat 2048 (32 * b + r.val)).val = 32 * b + r.val := Nat.mod_eq_of_lt (by omega)
  have h1 : (Fin.ofNat 128 d.val).val = d.val := Nat.mod_eq_of_lt d.isLt
  show k0_pay473 (xBlk A (32 * ((Fin.ofNat 2048 (32 * b + r.val)).val / 256) + (Fin.ofNat 2048 (32 * b + r.val)).val % 32))
    (Cert.Proof.KernelIdeal.ix2 ((Fin.ofNat 2048 (32 * b + r.val)).val % 256 / 32) (Fin.ofNat 128 d.val).val) = _
  rw [spec_ix2, pay473_at, h0, h1]
  show A.x (Cert.Proof.KernelIdeal.ix2 (8 * ((32 * ((32 * b + r.val) / 256) + (32 * b + r.val) % 32) / 32)
      + (Fin.ofNat 8 ((32 * b + r.val) % 256 / 32)).val)
    (128 * ((32 * ((32 * b + r.val) / 256) + (32 * b + r.val) % 32) % 32) + (Fin.ofNat 128 d.val).val)) = _
  have h2 : (Fin.ofNat 8 ((32 * b + r.val) % 256 / 32)).val = (32 * b + r.val) % 256 / 32 := Nat.mod_eq_of_lt (by omega)
  rw [h1, h2, show 8 * ((32 * ((32 * b + r.val) / 256) + (32 * b + r.val) % 32) / 32) + (32 * b + r.val) % 256 / 32 = b by omega,
    show 128 * ((32 * ((32 * b + r.val) / 256) + (32 * b + r.val) % 32) % 32) + d.val = 128 * r.val + d.val by omega]

theorem ksRow_at {n : ℕ} (hn : n < 128) (l : Fin 128) :
    rowOf (k0_pay451 (ksRow A b)) n (ix2 0 l) = R.ks b n (l.val % 4) * scl := by
  show k0_pay451 (ksRow A b) (Cert.Proof.KernelIdeal.ix2 n l.val) = _
  rw [spec_ix2, pay451_at, fin_of l rfl]
  show A.ks (Cert.Proof.KernelIdeal.ix3 b (Fin.ofNat 4 (l.val % 4)).val (Fin.ofNat 128 n).val) * scl = _
  rw [show (Fin.ofNat 4 (l.val % 4)).val = l.val % 4 from Nat.mod_eq_of_lt (by omega),
    show (Fin.ofNat 128 n).val = n from Nat.mod_eq_of_lt hn, h.ks b hb _ (by omega) n hn]

theorem vsRow_at {n : ℕ} (hn : n < 128) (l : Fin 128) :
    rowOf (k0_pay452 (vsRow A b)) n (ix2 0 l) = R.vs b n (l.val % 4) := by
  show k0_pay452 (vsRow A b) (Cert.Proof.KernelIdeal.ix2 n l.val) = _
  rw [spec_ix2, pay452_at, fin_of l rfl]
  show A.vs (Cert.Proof.KernelIdeal.ix3 b (Fin.ofNat 4 (l.val % 4)).val (Fin.ofNat 128 n).val) = _
  rw [show (Fin.ofNat 4 (l.val % 4)).val = l.val % 4 from Nat.mod_eq_of_lt (by omega),
    show (Fin.ofNat 128 n).val = n from Nat.mod_eq_of_lt hn, h.vs b hb _ (by omega) n hn]

/-- The product of a query with the keys of its own head, where the length reaches the block. -/
theorem prod_at {t i j k : ℕ} (ht : t < 8 * I.NC b) (hi : i < 2) (hj : j < 2) (hk : k < 4) (hl : 64 * (2 * t + i) < R.len b)
    (g : Fin 8) (l : Fin 128) (hlk : l.val % 4 = k) :
    prodK I A b t (ix2 ⟨32 * i + 8 * k + g.val, by omega⟩ ⟨128 * j + l.val, by omega⟩)
      = ∑ d : Fin 128, R.x b (128 * (8 * k + g.val) + d.val) * R.K b (64 * (2 * t + i) + 32 * j + l.val / 4) k d.val := by
  unfold prodK
  rw [pay4_at]
  have key : ∀ d : Fin 128, I.ringVal (start I.NC b + t / 8) (Fin.ofNat 16 (2 * (t % 8) + i)) ⟨128 * j + l.val, by omega⟩ d
      = R.K b (64 * (2 * t + i) + 32 * j + l.val / 4) k d.val := by
    intro d
    rw [ringK h hb ht hi hl]
    show R.K b (64 * (2 * t + i) + (128 * j + l.val) / 4) ((128 * j + l.val) % 4) d.val = _
    rw [show 64 * (2 * t + i) + (128 * j + l.val) / 4 = 64 * (2 * t + i) + 32 * j + l.val / 4 by omega,
      show (128 * j + l.val) % 4 = k by omega]
  obtain rfl | rfl : i = 0 ∨ i = 1 := by omega
  · rw [if_pos (by dsimp only; omega)]
    refine Finset.sum_congr rfl fun d _ => ?_
    refine congrArg₂ (· * ·) ?_ (key d)
    rw [qRows_at h hb]
    show R.x b (128 * ((32 * 0 + 8 * k + g.val) % 32) + d.val) = _
    rw [show (32 * 0 + 8 * k + g.val) % 32 = 8 * k + g.val by omega]
  · rw [if_neg (by dsimp only; omega)]
    refine Finset.sum_congr rfl fun d _ => ?_
    refine congrArg₂ (· * ·) ?_ (key d)
    rw [qRows_at h hb]
    show R.x b (128 * ((32 * 1 + 8 * k + g.val - 32) % 32) + d.val) = _
    rw [show (32 * 1 + 8 * k + g.val - 32) % 32 = 8 * k + g.val by omega]

/-- One score vector. -/
theorem scoreVec_eq {t i j : ℕ} (ht : t < 8 * I.NC b) (hi : i < 2) (hj : j < 2) (g : Fin 8) (l : Fin 128)
    (a : ℕ → FVec Ideal S8x128 .f32)
    (ha : ∀ k (hk : k < 4), a k (ix2 g l) = prodK I A b t (ix2 ⟨32 * i + 8 * k + g.val, by omega⟩ ⟨128 * j + l.val, by omega⟩)) :
    scoreVec k0_pay470 k0_pay471 (I.L b) (BitVec.ofNat 32 (2 * t + i)) (BitVec.ofNat 32 (32 * j))
        (rowOf (k0_pay451 (ksRow A b)) (2 * t + i)) (a 0) (a 1) (a 2) (a 3) (ix2 g l)
      = score R b (l.val % 4) g.val (64 * (2 * t + i) + 32 * j + l.val / 4) := by
  have hN := h.NC_le hb
  rw [scoreVec_at (h.L_le hb) (by omega) (by omega), ksRow_at h hb (by omega), h.len b hb]
  unfold score
  rw [show (64 * (2 * t + i) + 32 * j + l.val / 4) / 64 = 2 * t + i by omega]
  by_cases hp : 64 * (2 * t + i) + 32 * j + l.val / 4 < R.len b
  · rw [if_pos hp, if_pos hp]
    refine congrArg (· * _) ?_
    have hk : ∀ k (hk : k < 4), l.val % 4 = k → a k (ix2 g l)
        = ∑ d : Fin 128, R.x b (128 * (8 * k + g.val) + d.val) * R.K b (64 * (2 * t + i) + 32 * j + l.val / 4) k d.val :=
      fun k hk hlk => (ha k hk).trans (prod_at h hb ht hi hj hk (by omega) g l hlk)
    obtain e | e | e | e : l.val % 4 = 0 ∨ l.val % 4 = 1 ∨ l.val % 4 = 2 ∨ l.val % 4 = 3 := by omega
    · rw [if_neg (by omega), if_neg (by omega), if_neg (by omega), e]; exact hk 0 (by omega) e
    · rw [if_neg (by omega), if_neg (by omega), if_pos (by omega), e]; exact hk 1 (by omega) e
    · rw [if_neg (by omega), if_pos (by omega), e]; exact hk 2 (by omega) e
    · rw [if_pos (by omega), e]; exact hk 3 (by omega) e
  · rw [if_neg hp, if_neg hp]

/-- The score vectors of a tile. -/
theorem scoreV_at {t ij : ℕ} (ht : t < 8 * I.NC b) (hij : ij < 4) (g : Fin 8) (l : Fin 128) :
    scoreV I A b t ij (ix2 g l) = score R b (l.val % 4) g.val (32 * (4 * t + ij) + l.val / 4) := by
  have hN := h.NC_le hb
  have ht' : t < 64 := by omega
  have hw : ∀ i < 2, ∀ j < 2, 64 * (2 * t + i) + 32 * j + l.val / 4 = 32 * (4 * t + (2 * i + j)) + l.val / 4 := by intros; omega
  match ij, hij with
  | 0, _ =>
    refine Eq.trans ?_ ((scoreVec_eq h hb ht (i := 0) (j := 0) (by omega) (by omega) g l
      (fun | 0 => extractStridedSlice S8x128 ![0, 0] (prodK I A b t) slices_S64x256_o0_0_S8x128
           | 1 => extractStridedSlice S8x128 ![8, 0] (prodK I A b t) slices_S64x256_o8_0_S8x128
           | 2 => extractStridedSlice S8x128 ![16, 0] (prodK I A b t) slices_S64x256_o16_0_S8x128
           | _ => extractStridedSlice S8x128 ![24, 0] (prodK I A b t) slices_S64x256_o24_0_S8x128)
      (by
        intro k hk
        match k, hk with
        | 0, _ => exact slice_at _ _ _ _ _ _ (by omega) (by omega)
        | 1, _ => exact slice_at _ _ _ _ _ _ (by omega) (by omega)
        | 2, _ => exact slice_at _ _ _ _ _ _ (by omega) (by omega)
        | 3, _ => exact slice_at _ _ _ _ _ _ (by omega) (by omega))).trans (by rw [hw 0 (by omega) 0 (by omega)]))
    rw [← blkW_eq ht' (by omega)]
    rfl
  | 1, _ =>
    refine Eq.trans ?_ ((scoreVec_eq h hb ht (i := 0) (j := 1) (by omega) (by omega) g l
      (fun | 0 => extractStridedSlice S8x128 ![0, 128] (prodK I A b t) slices_S64x256_o0_128_S8x128
           | 1 => extractStridedSlice S8x128 ![8, 128] (prodK I A b t) slices_S64x256_o8_128_S8x128
           | 2 => extractStridedSlice S8x128 ![16, 128] (prodK I A b t) slices_S64x256_o16_128_S8x128
           | _ => extractStridedSlice S8x128 ![24, 128] (prodK I A b t) slices_S64x256_o24_128_S8x128)
      (by
        intro k hk
        match k, hk with
        | 0, _ => exact slice_at _ _ _ _ _ _ (by omega) (by omega)
        | 1, _ => exact slice_at _ _ _ _ _ _ (by omega) (by omega)
        | 2, _ => exact slice_at _ _ _ _ _ _ (by omega) (by omega)
        | 3, _ => exact slice_at _ _ _ _ _ _ (by omega) (by omega))).trans (by rw [hw 0 (by omega) 1 (by omega)]))
    rw [← blkW_eq ht' (by omega)]
    rfl
  | 2, _ =>
    refine Eq.trans ?_ ((scoreVec_eq h hb ht (i := 1) (j := 0) (by omega) (by omega) g l
      (fun | 0 => extractStridedSlice S8x128 ![32, 0] (prodK I A b t) slices_S64x256_o32_0_S8x128
           | 1 => extractStridedSlice S8x128 ![40, 0] (prodK I A b t) slices_S64x256_o40_0_S8x128
           | 2 => extractStridedSlice S8x128 ![48, 0] (prodK I A b t) slices_S64x256_o48_0_S8x128
           | _ => extractStridedSlice S8x128 ![56, 0] (prodK I A b t) slices_S64x256_o56_0_S8x128)
      (by
        intro k hk
        match k, hk with
        | 0, _ => exact slice_at _ _ _ _ _ _ (by omega) (by omega)
        | 1, _ => exact slice_at _ _ _ _ _ _ (by omega) (by omega)
        | 2, _ => exact slice_at _ _ _ _ _ _ (by omega) (by omega)
        | 3, _ => exact slice_at _ _ _ _ _ _ (by omega) (by omega))).trans (by rw [hw 1 (by omega) 0 (by omega)]))
    rw [← blkW_eq ht' (by omega)]
    rfl
  | 3, _ =>
    refine Eq.trans ?_ ((scoreVec_eq h hb ht (i := 1) (j := 1) (by omega) (by omega) g l
      (fun | 0 => extractStridedSlice S8x128 ![32, 128] (prodK I A b t) slices_S64x256_o32_128_S8x128
           | 1 => extractStridedSlice S8x128 ![40, 128] (prodK I A b t) slices_S64x256_o40_128_S8x128
           | 2 => extractStridedSlice S8x128 ![48, 128] (prodK I A b t) slices_S64x256_o48_128_S8x128
           | _ => extractStridedSlice S8x128 ![56, 128] (prodK I A b t) slices_S64x256_o56_128_S8x128)
      (by
        intro k hk
        match k, hk with
        | 0, _ => exact slice_at _ _ _ _ _ _ (by omega) (by omega)
        | 1, _ => exact slice_at _ _ _ _ _ _ (by omega) (by omega)
        | 2, _ => exact slice_at _ _ _ _ _ _ (by omega) (by omega)
        | 3, _ => exact slice_at _ _ _ _ _ _ (by omega) (by omega))).trans (by rw [hw 1 (by omega) 1 (by omega)]))
    rw [← blkW_eq ht' (by omega)]
    rfl

end Cert.Proof.Value
-- ==== Proof.Value.KerOut.lean ====
/- The kernel's result: the maximum, the exponentials, their sum, the products with the values, and the output. -/
module

public import proofs.«01_k».proof.Proof.Value.KerScores

@[expose] public section

set_option maxRecDepth 65536
set_option pp.maxSteps 800

noncomputable section

namespace Cert.Proof.Value

open Cert.KernelIdeal Cert.KernelIdeal.Gen Cert.Proof.Sched
open Idealize.ShloMosaic
open Finset (range)
open Cert.Proof.KernelIdeal (score00 score01 score10 score11 scoreVec sel4 spread weight headOf lhsOf accStep expRow
  Ins Arr idx4 InLen ksRow vsRow rowOf tileRow scoreV scoreR mAt mxOf expV expR lAt invOf accAt outRows oArr oBlk kernelOut)

theorem sup_range_four (f : ℕ → EReal) : (range 4).sup f = max (max (max (f 0) (f 1)) (f 2)) (f 3) := by
  refine eq_of_forall_ge_iff fun c => ?_
  rw [sup_le_iff']
  simp only [max_le_iff]
  constructor
  · exact fun h => ⟨⟨⟨h 0 (by omega), h 1 (by omega)⟩, h 2 (by omega)⟩, h 3 (by omega)⟩
  · rintro ⟨⟨⟨h0, h1⟩, h2⟩, h3⟩ i hi
    match i, hi with
    | 0, _ => exact h0
    | 1, _ => exact h1
    | 2, _ => exact h2
    | 3, _ => exact h3

/-- A rotation and a maximum double the window. -/
theorem max_rot (s : ℕ) (hs : s ≤ 16) (hr) (X : FVec Ideal S8x128 .f32) (f : ℕ → EReal) (g : Fin 8)
    (hX : ∀ l : Fin 128, X (ix2 g l) = winSup f s l.val) (l : Fin 128) :
    maximumf X (dynamicRotate 1 (BitVec.ofNat 32 (4 * s)) none X hr) (ix2 g l) = winSup f (s + s) l.val := by
  refine Eq.trans (show _ = max (X (ix2 g l)) (dynamicRotate 1 (BitVec.ofNat 32 (4 * s)) none X hr (ix2 g l)) from rfl) ?_
  rw [rot_at _ (by omega), hX, hX, show (Fin.ofNat 128 ((l.val + 128 - 4 * s) % 128)).val = (l.val + 128 - 4 * s) % 128 from
    Nat.mod_eq_of_lt (Nat.mod_lt _ (by omega)), winSup_double f hs]

/-- A rotation and a sum double the window. -/
theorem add_rot (s : ℕ) (hs : s ≤ 16) (hr) (X : FVec Ideal S8x128 .f32) (f : ℕ → EReal) (g : Fin 8)
    (hX : ∀ l : Fin 128, X (ix2 g l) = winSum f s l.val) (l : Fin 128) :
    addf X (dynamicRotate 1 (BitVec.ofNat 32 (4 * s)) none X hr) (ix2 g l) = winSum f (s + s) l.val := by
  refine Eq.trans (show _ = X (ix2 g l) + dynamicRotate 1 (BitVec.ofNat 32 (4 * s)) none X hr (ix2 g l) from rfl) ?_
  rw [rot_at _ (by omega), hX, hX, show (Fin.ofNat 128 ((l.val + 128 - 4 * s) % 128)).val = (l.val + 128 - 4 * s) % 128 from
    Nat.mod_eq_of_lt (Nat.mod_lt _ (by omega)), winSum_double f hs]

/-- The maximum over the lanes of a head. -/
theorem mx_at (X : FVec Ideal S8x128 .f32) (f : ℕ → EReal) (g : Fin 8) (hX : ∀ l : Fin 128, X (ix2 g l) = f l.val) (l : Fin 128) :
    k0_pay459 (k0_pay458 X) (ix2 g l) = (range 32).sup fun i => f (4 * i + l.val % 4) := by
  rw [← winSup_all f l.isLt]
  have h1 := max_rot 1 (by omega) rotates_S8x128_d1 X f g (fun l => (hX l).trans (winSup_one f l.isLt).symm)
  have h2 := max_rot 2 (by omega) rotates_S8x128_d1 _ f g h1
  have h4 := max_rot 4 (by omega) rotates_S8x128_d1 _ f g h2
  have h8 := max_rot 8 (by omega) rotates_S8x128_d1 _ f g h4
  exact max_rot 16 (by omega) rotates_S8x128_d1 _ f g h8 l

/-- The reciprocal of the sum over the lanes of a head. -/
theorem inv_at (X : FVec Ideal S8x128 .f32) (f : ℕ → EReal) (g : Fin 8) (hX : ∀ l : Fin 128, X (ix2 g l) = f l.val) (l : Fin 128) :
    k0_pay465 X (ix2 g l) = Ideal.div 1 (∑ i ∈ range 32, f (4 * i + l.val % 4)) := by
  rw [← winSum_all f l.isLt]
  have h1 := add_rot 1 (by omega) rotates_S8x128_d1 X f g (fun l => (hX l).trans (winSum_one f l.isLt).symm)
  have h2 := add_rot 2 (by omega) rotates_S8x128_d1 _ f g h1
  have h4 := add_rot 4 (by omega) rotates_S8x128_d1 _ f g h2
  have h8 := add_rot 8 (by omega) rotates_S8x128_d1 _ f g h4
  have h16 := add_rot 16 (by omega) rotates_S8x128_d1 _ f g h8 l
  have one : ∀ Y : FVec Ideal S8x128 .f32, divf (broadcast S8x128 (Scalar.ofBits .f32 0x3F800000#32)) Y (ix2 g l)
      = Ideal.div 1 (Y (ix2 g l)) := by
    intro Y
    pointwise
  exact (one _).trans (congrArg (Ideal.div 1) h16)

theorem pay453_at (g : Fin 8) (l : Fin 128) : k0_pay453 (F := Ideal) (ix2 g l) = ⊥ := by
  pointwise [k0_pay453]
  exact ofBits_neg_inf

theorem pay460_at (g : Fin 8) (l : Fin 128) : k0_pay460 (F := Ideal) (ix2 g l) = 0 := by
  pointwise [k0_pay460]

theorem pay466_at (r : Fin 64) (y : Fin 256) : k0_pay466 (F := Ideal) (ix2 r y) = 0 := by
  pointwise [k0_pay466]

theorem row_at (v : FVec Ideal S8x128 .f32) (g : Fin 8) (l : Fin 128) :
    shapeCast S1x8x128 v shapeCasts_S8x128_S1x8x128 (ix3 0 g l) = v (ix2 g l) := by
  pointwise

theorem pay755_at (v : FVec Ideal S64x256 .f32) (r : Fin 32) (d : Fin 128) :
    k0_pay755 (k0_pay469 v) (ix2 r d) = v (ix2 ⟨r.val, by omega⟩ ⟨d.val, by omega⟩)
      + v (ix2 ⟨32 + r.val, by omega⟩ ⟨128 + d.val, by omega⟩) := by
  pointwise [k0_pay755, k0_pay469]

variable {I : Ins Ideal} {A : Arr Ideal} {R : Args} (h : Rel I A R) {b : ℕ} (hb : b < 64)
include h hb

/-- The running maximum. -/
theorem mAt_at (g : Fin 8) (l : Fin 128) : ∀ T, T ≤ 8 * I.NC b → mAt I A b T (ix2 g l)
    = (range (4 * T)).sup fun n => score R b (l.val % 4) g.val (32 * n + l.val / 4)
  | 0, _ => pay453_at g l
  | T + 1, hT => by
    rw [show 4 * (T + 1) = 4 * T + 4 by omega, sup_range_add, sup_range_four, ← mAt_at g l T (by omega),
      ← scoreV_at h hb (by omega) (by omega), ← scoreV_at h hb (by omega) (by omega), ← scoreV_at h hb (by omega) (by omega),
      ← scoreV_at h hb (by omega) (by omega), ← max_assoc, ← max_assoc, ← max_assoc]
    rfl

/-- The maximum. -/
theorem mxOf_at (g : Fin 8) (l : Fin 128) : mxOf I A b (ix2 g l) = top R b (l.val % 4) g.val := by
  have hN := h.NC_le hb
  have hL := h.len_le hb
  unfold mxOf
  rw [mx_at _ (fun l => (range (32 * I.NC b)).sup fun n => score R b (l % 4) g.val (32 * n + l / 4)) g
    (fun l => (mAt_at h hb g l _ le_rfl).trans (by rw [show 4 * (8 * I.NC b) = 32 * I.NC b by omega])) l]
  rw [sup_range_comm]
  unfold top
  rw [← sup_range_of_bot (score R b (l.val % 4) g.val) (n := 32 * I.NC b * 32) (by omega) (fun i hi => score_past R (by omega)),
    sup_range_mul (score R b (l.val % 4) g.val) (32 * I.NC b) 32]
  refine Finset.sup_congr rfl fun n _ => Finset.sup_congr rfl fun i _ => ?_
  rw [show (4 * i + l.val % 4) % 4 = l.val % 4 by omega, show (4 * i + l.val % 4) / 4 = i by omega]

/-- The exponentials. -/
theorem expV_at {n : ℕ} (hn : n < 32 * I.NC b) (g : Fin 8) (l : Fin 128) :
    expV I A b n (ix2 g l) = expo R b (l.val % 4) g.val (32 * n + l.val / 4) := by
  unfold expV scoreR
  rw [expRow_at, row_at, mxOf_at h hb, scoreV_at h hb (by omega) (by omega), show 4 * (n / 4) + n % 4 = n by omega]
  rfl

theorem expR_at {n : ℕ} (hn : n < 32 * I.NC b) (g : Fin 8) (l : Fin 128) :
    expR I A b n (ix3 0 g l) = expo R b (l.val % 4) g.val (32 * n + l.val / 4) := by
  unfold expR
  rw [row_at, expV_at h hb hn]

/-- Their running sum. -/
theorem lAt_at (g : Fin 8) (l : Fin 128) : ∀ N, N ≤ 32 * I.NC b → lAt I A b N (ix2 g l)
    = ∑ n ∈ range N, expo R b (l.val % 4) g.val (32 * n + l.val / 4)
  | 0, _ => pay460_at g l
  | N + 1, hN => by
    rw [Finset.sum_range_succ, ← lAt_at g l N (by omega), ← expV_at h hb (by omega)]
    rfl

/-- The reciprocal of the sum. -/
theorem invOf_at (g : Fin 8) (l : Fin 128) : invOf I A b (ix2 g l) = recip R b (l.val % 4) g.val := by
  have hN := h.NC_le hb
  have hL := h.len_le hb
  unfold invOf
  rw [inv_at _ (fun l => ∑ n ∈ range (32 * I.NC b), expo R b (l % 4) g.val (32 * n + l / 4)) g
    (fun l => lAt_at h hb g l _ le_rfl) l]
  rw [Finset.sum_comm]
  unfold recip
  rw [← sum_range_of_zero (expo R b (l.val % 4) g.val) (n := 32 * I.NC b * 32) (by omega) (fun i hi => expo_past R (by omega)),
    sum_range_mul (expo R b (l.val % 4) g.val) (32 * I.NC b) 32]
  refine congrArg (Ideal.div 1) (Finset.sum_congr rfl fun n _ => Finset.sum_congr rfl fun i _ => ?_)
  rw [show (4 * i + l.val % 4) % 4 = l.val % 4 by omega, show (4 * i + l.val % 4) / 4 = i by omega]

/-- One term of a tile's product with the values. -/
theorem term_at {t i j k : ℕ} (ht : t < 8 * I.NC b) (hi : i < 2) (hj : j < 2) (hk : k < 4) (g : Fin 8) (d l : Fin 128)
    (r : Fin 32) (hr : r.val = 8 * k + g.val) (n : ℕ) (hn : n = 4 * t + (2 * i + j)) (x : Fin 256) (hx : x.val = 128 * j + l.val) :
    spread k0_pay470 (weight (invOf I A b) (rowOf (k0_pay452 (vsRow A b)) (2 * t + i)) (expR I A b n)) (ix2 r l)
        * I.ringVal (start I.NC b + I.NC b + t / 8) (Fin.ofNat 16 (2 * (t % 8) + i)) x d
      = if x.val % 4 = k then part R b k g.val d.val (64 * (2 * t + i) + x.val / 4) else 0 := by
  have hN := h.NC_le hb
  rw [spread_at, show r.val / 8 = k by omega, show l.val % 4 = x.val % 4 by omega]
  by_cases hk' : x.val % 4 = k
  · rw [if_pos hk', if_pos hk', fin_of g (by omega), weight_at, invOf_at h hb, vsRow_at h hb (by omega),
      expR_at h hb (by omega), show l.val % 4 = k by omega, show 32 * n + l.val / 4 = 64 * (2 * t + i) + x.val / 4 by omega]
    by_cases hp : 64 * (2 * t + i) + x.val / 4 < R.len b
    · rw [ringV h hb ht hi (by omega)]
      unfold part
      rw [show (64 * (2 * t + i) + x.val / 4) / 64 = 2 * t + i by omega, hk']
    · rw [part_past R (by omega), expo_past R (by omega), zero_mul, zero_mul, zero_mul]
  · rw [if_neg hk', if_neg hk', zero_mul]

/-- The accumulated products. -/
theorem accAt_at {i k : ℕ} (hi : i < 2) (hk : k < 4) (g : Fin 8) (d : Fin 128) (r : Fin 64) (y : Fin 256)
    (hr : r.val = 32 * i + 8 * k + g.val) (hy : y.val = 128 * i + d.val) : ∀ T, T ≤ 8 * I.NC b →
    accAt I A b T (ix2 r y) = ∑ t ∈ range T, ∑ m ∈ range 64, part R b k g.val d.val (64 * (2 * t + i) + m)
  | 0, _ => pay466_at r y
  | t + 1, hT => by
    rw [Finset.sum_range_succ, ← accAt_at hi hk g d r y hr hy t (by omega)]
    refine (acc_at _ _ _ _ _ _ _ _ _ _ r y).trans (congrArg (_ + ·) ?_)
    have e : ∑ m ∈ range 64, part R b k g.val d.val (64 * (2 * t + i) + m)
        = ∑ x : Fin 256, if x.val % 4 = k then part R b k g.val d.val (64 * (2 * t + i) + x.val / 4) else 0 := by
      rw [← Finset.sum_range fun x => if x % 4 = k then part R b k g.val d.val (64 * (2 * t + i) + x / 4) else 0,
        sum_every_fourth (fun x => part R b k g.val d.val (64 * (2 * t + i) + x / 4)) hk]
      refine Finset.sum_congr rfl fun m _ => ?_
      rw [show (4 * m + k) / 4 = m by omega]
    rw [e]
    refine Finset.sum_congr rfl fun x _ => ?_
    rw [lhs_at, pay292_at]
    obtain rfl | rfl : i = 0 ∨ i = 1 := by omega
    · rw [dif_pos (show r.val < 32 by omega), if_pos (by omega)]
      rw [fin_of d (by omega)]
      split
      · exact term_at h hb (by omega) hi (by omega : 0 < 2) hk g d ⟨x.val, by omega⟩ ⟨r.val, by omega⟩ (by dsimp only; omega) _ rfl x
          (by dsimp only; omega)
      · exact term_at h hb (by omega) hi (by omega : 1 < 2) hk g d ⟨x.val - 128, by omega⟩ ⟨r.val, by omega⟩ (by dsimp only; omega) _ rfl x
          (by dsimp only; omega)
    · rw [dif_neg (show ¬ r.val < 32 by omega), if_neg (by omega)]
      rw [fin_of d (by omega)]
      split
      · exact term_at h hb (by omega) hi (by omega : 0 < 2) hk g d ⟨x.val, by omega⟩ ⟨r.val - 32, by omega⟩ (by dsimp only; omega) _ rfl x
          (by dsimp only; omega)
      · exact term_at h hb (by omega) hi (by omega : 1 < 2) hk g d ⟨x.val - 128, by omega⟩ ⟨r.val - 32, by omega⟩ (by dsimp only; omega) _ rfl x
          (by dsimp only; omega)

/-- The output rows. -/
theorem outRows_at {k : ℕ} (hk : k < 4) (g : Fin 8) (d : Fin 128) (r : Fin 32) (hr : r.val = 8 * k + g.val) :
    outRows I A b (ix2 r d) = attend R b k g.val d.val := by
  have hN := h.NC_le hb
  have hL := h.len_le hb
  unfold outRows
  rw [pay755_at, accAt_at h hb (i := 0) (by omega) hk g d _ _ (by dsimp only; omega) (by dsimp only; omega) _ le_rfl,
    accAt_at h hb (i := 1) (by omega) hk g d _ _ (by dsimp only; omega) (show 128 + d.val = 128 * 1 + d.val by omega) _ le_rfl, ← Finset.sum_add_distrib]
  unfold attend
  rw [← sum_range_of_zero (part R b k g.val d.val) (n := 8 * I.NC b * (2 * 64)) (by omega) (fun i hi => part_past R (by omega)),
    sum_range_mul (part R b k g.val d.val) (8 * I.NC b) (2 * 64)]
  refine Finset.sum_congr rfl fun t _ => ?_
  rw [sum_range_mul (fun j => part R b k g.val d.val (2 * 64 * t + j)) 2 64, Finset.sum_range_succ _ 1, Finset.sum_range_one]
  refine congrArg₂ (· + ·) (Finset.sum_congr rfl fun m _ => ?_) (Finset.sum_congr rfl fun m _ => ?_)
  · rw [show 64 * (2 * t + 0) + m = 2 * 64 * t + (64 * 0 + m) by omega]
  · rw [show 64 * (2 * t + 1) + m = 2 * 64 * t + (64 * 1 + m) by omega]

omit hb in
/-- The kernel's result. -/
theorem kernelOut_at (b : Fin 64) (c : Fin 4096) :
    kernelOut I A (ix2 b c) = attend R b.val (c.val / 1024) (c.val / 128 % 8) (c.val % 128) := by
  show oArr I A (Cert.Proof.KernelIdeal.ix2 (256 * ((32 * (b.val / 8) + c.val / 128) / 32) + (32 * (b.val / 8) + c.val / 128) % 32
      + 32 * (Fin.ofNat 8 (b.val % 8)).val) (Fin.ofNat 128 (c.val % 128)).val) = _
  rw [show (Fin.ofNat 8 (b.val % 8)).val = b.val % 8 from Nat.mod_eq_of_lt (by omega),
    show (Fin.ofNat 128 (c.val % 128)).val = c.val % 128 from Nat.mod_eq_of_lt (by omega),
    show 256 * ((32 * (b.val / 8) + c.val / 128) / 32) + (32 * (b.val / 8) + c.val / 128) % 32 + 32 * (b.val % 8)
      = 32 * b.val + c.val / 128 by omega]
  show outRows I A ((Fin.ofNat 2048 (32 * b.val + c.val / 128)).val / 32)
    (Cert.Proof.KernelIdeal.ix2 ((Fin.ofNat 2048 (32 * b.val + c.val / 128)).val % 32) (Fin.ofNat 128 (c.val % 128)).val) = _
  rw [show (Fin.ofNat 2048 (32 * b.val + c.val / 128)).val = 32 * b.val + c.val / 128 from Nat.mod_eq_of_lt (by omega),
    show (Fin.ofNat 128 (c.val % 128)).val = c.val % 128 from Nat.mod_eq_of_lt (by omega),
    show (32 * b.val + c.val / 128) / 32 = b.val by omega, show (32 * b.val + c.val / 128) % 32 = c.val / 128 by omega,
    spec_ix2, fin_of (⟨c.val / 128, by omega⟩ : Fin 32) rfl, fin_of (⟨c.val % 128, by omega⟩ : Fin 128) rfl]
  exact outRows_at h b.isLt (k := c.val / 1024) (by omega) ⟨c.val / 128 % 8, by omega⟩ _ _ (by dsimp only; omega)

end Cert.Proof.Value
-- ==== Proof.Value.KerRun.lean ====
/- The kernel's run ends with its result buffer at the attention of its arguments. -/
module

public import proofs.«01_k».proof.Proof.Value.KerOut
public import proofs.«01_k».proof.Proof.KernelIdeal.Frame
public import Idealize.ShloMosaic.Lib.StableHlo.RunRead
public import Idealize.ShloMosaic.Lib.StableHlo.ReadAt
public import Idealize.ShloMosaic.Lib.Pipeline.ValueKit

@[expose] public section

set_option maxRecDepth 65536
set_option pp.maxSteps 800

noncomputable section

namespace Cert.Proof.Value

open Cert.KernelIdeal Cert.KernelIdeal.Gen
open Idealize.ShloMosaic Idealize.ShloMosaic.TcCoe
open Idealize.SL Idealize.SL.Sem
open Cert.Proof.KernelIdeal (insAt arrAt' outAt dats LensOk kernelOut Ins Arr idx4 idx1)

variable (m : (ℓ : Loc nD τ sig) → Buf (Elt Ideal) ℓ) (c : Dev nD)

/-- The arguments as launched, read at natural numbers. -/
def kArgs : Args where
  x b col := m ((c : Thread nD τ).loc main_arg0) (ix3 (Fin.ofNat 64 b) 0 (Fin.ofNat 4096 col))
  K b p k d := m ((c : Thread nD τ).loc main_arg1) (ix4 (Fin.ofNat 64 b) (Fin.ofNat 8192 p) (Fin.ofNat 4 k) (Fin.ofNat 128 d))
  ks b n k := m ((c : Thread nD τ).loc main_arg2) (ix3 (Fin.ofNat 64 b) (Fin.ofNat 128 n) (Fin.ofNat 4 k))
  V b p k d := m ((c : Thread nD τ).loc main_arg3) (ix4 (Fin.ofNat 64 b) (Fin.ofNat 8192 p) (Fin.ofNat 4 k) (Fin.ofNat 128 d))
  vs b n k := m ((c : Thread nD τ).loc main_arg4) (ix3 (Fin.ofNat 64 b) (Fin.ofNat 128 n) (Fin.ofNat 4 k))
  len b := (m ((c : Thread nD τ).loc main_arg5) (ix1 (Fin.ofNat 64 b)) : BitVec 32).toNat

theorem V_v0 : V m c main_v0 = shapeCast S64x4096 (m ((c : Thread nD τ).loc main_arg0)) shapeCasts_S64x1x4096_S64x4096 := by
  show StableHlo.after hostOps0 _ _ = _
  after_reads_simp
  rfl

theorem V_v1 : V m c main_v1 = shapeCast S64x128x256x128 (m ((c : Thread nD τ).loc main_arg1)) shapeCasts_S64x8192x4x128_S64x128x256x128 := by
  show StableHlo.after hostOps0 _ _ = _
  after_reads_simp
  rfl

theorem V_v2 : V m c main_v2 = transpose S64x4x128 [0, 2, 1] (m ((c : Thread nD τ).loc main_arg2)) transposes_S64x128x4_S64x4x128_0_2_1 := by
  show StableHlo.after hostOps0 _ _ = _
  after_reads_simp

theorem V_v3 : V m c main_v3 = shapeCast S64x128x256x128 (m ((c : Thread nD τ).loc main_arg3)) shapeCasts_S64x8192x4x128_S64x128x256x128 := by
  show StableHlo.after hostOps0 _ _ = _
  after_reads_simp
  rfl

theorem V_v4 : V m c main_v4 = transpose S64x4x128 [0, 2, 1] (m ((c : Thread nD τ).loc main_arg4)) transposes_S64x128x4_S64x4x128_0_2_1 := by
  show StableHlo.after hostOps0 _ _ = _
  after_reads_simp

theorem idx_zero : ∀ t : Fin cfg0.N, win0_0.index t (0 : Fin 1) = 0
    ∧ (win0_1.index t (0 : Fin 2) = 0 ∧ win0_1.index t (1 : Fin 2) = 0)
    ∧ (win0_2.index t (0 : Fin 3) = 0 ∧ win0_2.index t (1 : Fin 3) = 0 ∧ win0_2.index t (2 : Fin 3) = 0)
    ∧ (win0_3.index t (0 : Fin 3) = 0 ∧ win0_3.index t (1 : Fin 3) = 0 ∧ win0_3.index t (2 : Fin 3) = 0) :=
  (by decide +kernel : ∀ t : Fin grid0.N, _)

theorem iblk0 (t : Fin cfg0.N) : iblk m c 0 t = V m c main_arg5 := by
  have e0 := (idx_zero t).1
  funext j
  show V m c main_arg5 (((cfg0.win 0).blk t).view.emb j) = V m c main_arg5 j
  refine congrArg _ (funext fun a => Fin.ext ?_)
  match a with
  | ⟨0, _⟩ => show win0_0.index t (0 : Fin 1) * 64 + 1 * (j 0).val = (j 0).val; omega

theorem iblk1 (t : Fin cfg0.N) : iblk m c 1 t = V m c main_v0 := by
  obtain ⟨e0, e1⟩ := (idx_zero t).2.1
  funext j
  show V m c main_v0 (((cfg0.win 1).blk t).view.emb j) = V m c main_v0 j
  refine congrArg _ (funext fun a => Fin.ext ?_)
  match a with
  | ⟨0, _⟩ => show win0_1.index t (0 : Fin 2) * 64 + 1 * (j 0).val = (j 0).val; omega
  | ⟨1, _⟩ => show win0_1.index t (1 : Fin 2) * 4096 + 1 * (j 1).val = (j 1).val; omega

theorem iblk2 (t : Fin cfg0.N) : iblk m c 2 t = V m c main_v2 := by
  obtain ⟨e0, e1, e2⟩ := (idx_zero t).2.2.1
  funext j
  show V m c main_v2 (((cfg0.win 2).blk t).view.emb j) = V m c main_v2 j
  refine congrArg _ (funext fun a => Fin.ext ?_)
  match a with
  | ⟨0, _⟩ => show win0_2.index t (0 : Fin 3) * 64 + 1 * (j 0).val = (j 0).val; omega
  | ⟨1, _⟩ => show win0_2.index t (1 : Fin 3) * 4 + 1 * (j 1).val = (j 1).val; omega
  | ⟨2, _⟩ => show win0_2.index t (2 : Fin 3) * 128 + 1 * (j 2).val = (j 2).val; omega

theorem iblk3 (t : Fin cfg0.N) : iblk m c 3 t = V m c main_v4 := by
  obtain ⟨e0, e1, e2⟩ := (idx_zero t).2.2.2
  funext j
  show V m c main_v4 (((cfg0.win 3).blk t).view.emb j) = V m c main_v4 j
  refine congrArg _ (funext fun a => Fin.ext ?_)
  match a with
  | ⟨0, _⟩ => show win0_3.index t (0 : Fin 3) * 64 + 1 * (j 0).val = (j 0).val; omega
  | ⟨1, _⟩ => show win0_3.index t (1 : Fin 3) * 4 + 1 * (j 1).val = (j 1).val; omega
  | ⟨2, _⟩ => show win0_3.index t (2 : Fin 3) * 128 + 1 * (j 2).val = (j 2).val; omega

/-- The queries, a row per sequence. -/
theorem rows_at (x : FVec Ideal S64x1x4096 .bf16) (b : Fin 64) (c : Fin 4096) :
    shapeCast S64x4096 x shapeCasts_S64x1x4096_S64x4096 (ix2 b c) = x (ix3 b 0 c) := by
  pointwise

/-- A cache in blocks of 64 tokens by 4 heads. -/
theorem blocks_at (K : FVec Ideal S64x8192x4x128 .fp8e4m3) (b : Fin 64) (n : Fin 128) (x : Fin 256) (d : Fin 128) :
    shapeCast S64x128x256x128 K shapeCasts_S64x8192x4x128_S64x128x256x128 (ix4 b n x d)
      = K (ix4 b ⟨64 * n.val + x.val / 4, by omega⟩ ⟨x.val % 4, by omega⟩ d) := by
  pointwise
  exact congrArg (fun p => K (ix4 b p _ d)) (Fin.ext (by dsimp only; omega))

theorem scales_at (s : FVec Ideal S64x128x4 .f32) (b : Fin 64) (k : Fin 4) (n : Fin 128) :
    transpose S64x4x128 [0, 2, 1] s transposes_S64x128x4_S64x4x128_0_2_1 (ix3 b k n) = s (ix3 b n k) := by
  pointwise

theorem out_at (o : FVec Ideal S64x4096 .bf16) (b : Fin 64) (c : Fin 4096) :
    shapeCast S64x1x4096 o shapeCasts_S64x4096_S64x1x4096 (ix3 b 0 c) = o (ix2 b c) := by
  pointwise

theorem spec_ix3 {n m l : ℕ} [NeZero n] [NeZero m] [NeZero l] (a b c : ℕ) :
    (Cert.Proof.KernelIdeal.ix3 a b c : (⟨3, ![n, m, l]⟩ : Shape).Idx) = ix3 (Fin.ofNat n a) (Fin.ofNat m b) (Fin.ofNat l c) := by
  funext i
  match i with
  | 0 => rfl
  | 1 => rfl
  | 2 => rfl

theorem idx4_eq (a : Fin 64) (b : Fin 128) (x : Fin 256) (y : Fin 128) : idx4 a b x y = ix4 a b x y := by
  funext i
  match i with
  | 0 => rfl
  | 1 => rfl
  | 2 => rfl
  | 3 => rfl

theorem idx1_eq (b : ℕ) : idx1 b = ix1 (Fin.ofNat 64 b) := by
  funext i
  match i with
  | 0 => rfl

/-- What the kernel finds is what the arguments say. -/
theorem rel (h : LensOk m) (t : Fin cfg0.N) : Rel (insAt m c t) (arrAt' m c t) (kArgs m c) where
  ok := Cert.Proof.KernelIdeal.ins_ok m h c t
  len b hb := by
    show (iblk m c 0 t (idx1 b) : BitVec 32).toNat = _
    rw [iblk0, V_main_arg5, idx1_eq]
    rfl
  x b hb col hcol := by
    show iblk m c 1 t (Cert.Proof.KernelIdeal.ix2 b col) = _
    rw [iblk1, V_v0, spec_ix2, rows_at]
    rfl
  ks b hb k hk n hn := by
    show iblk m c 2 t (Cert.Proof.KernelIdeal.ix3 b k n) = _
    rw [iblk2, V_v2, spec_ix3, scales_at]
    rfl
  vs b hb k hk n hn := by
    show iblk m c 3 t (Cert.Proof.KernelIdeal.ix3 b k n) = _
    rw [iblk3, V_v4, spec_ix3, scales_at]
    rfl
  K b hb n hn x d := by
    show V m c main_v1 (idx4 (Fin.ofNat 64 b) (Fin.ofNat 128 n) x d) = m ((c : Thread nD τ).loc main_arg1) _
    rw [V_v1, idx4_eq, blocks_at, fin_of (⟨64 * (Fin.ofNat 128 n).val + x.val / 4, by omega⟩ : Fin 8192)
      (by show _ = 64 * (n % 128) + x.val / 4; omega), fin_of (⟨x.val % 4, by omega⟩ : Fin 4) rfl, fin_of d rfl]
  V b hb n hn x d := by
    show V m c main_v3 (idx4 (Fin.ofNat 64 b) (Fin.ofNat 128 n) x d) = m ((c : Thread nD τ).loc main_arg3) _
    rw [V_v3, idx4_eq, blocks_at, fin_of (⟨64 * (Fin.ofNat 128 n).val + x.val / 4, by omega⟩ : Fin 8192)
      (by show _ = 64 * (n % 128) + x.val / 4; omega), fin_of (⟨x.val % 4, by omega⟩ : Fin 4) rfl, fin_of d rfl]

/-- The one grid point. -/
def pt : Fin cfg0.N := ⟨0, by decide⟩

/-- The result's array after the run. -/
theorem arr4 : (dats m 0 c).arrAt 4 cfg0.N = outAt m c pt :=
  (dats m 0 c).arrAt_eq_of_after_last 4 pt (by decide +kernel) (outAt m c pt) (fun j => rfl)

/-- What the line after the kernel leaves. -/
theorem tail_at (W : Valuation τ sig (Elt Ideal)) :
    StableHlo.after hostOps1 W main_v6 = shapeCast S64x1x4096 (W main_v5) shapeCasts_S64x4096_S64x1x4096 := by
  after_reads_simp
  rfl

theorem post_v6 (r : PUnit × MemSt nD τ sig (Elt Ideal))
    (h : Pipeline.FramePost cfgs (dats m) 0 (Pipeline.afterTail₀ cfgs (dats m) 0 (V0 m) [hostOps1]) r) :
    r.2.mem ((c.tc : Thread nD τ).loc main_v6) = shapeCast S64x1x4096 (outAt m c pt) shapeCasts_S64x4096_S64x1x4096 := by
  refine ((h c).2 main_v6 (Pipeline.mem_restRefs_of main_v6 (by decide) (by decide))).trans ?_
  refine (tail_at _).trans (congrArg (fun o => shapeCast S64x1x4096 o shapeCasts_S64x4096_S64x1x4096) ?_)
  exact (Pipeline.withArrays_arr (cfgs 0).spec launch0.win.arr_inj c (V0 m c) _ 4).trans (arr4 m c)

/-- The result, element by element. -/
theorem result_at (h : LensOk m) (b : Fin 64) (col : Fin 4096) :
    shapeCast S64x1x4096 (outAt m c pt) shapeCasts_S64x4096_S64x1x4096 (ix3 b 0 col)
      = attend (kArgs m c) b.val (col.val / 1024) (col.val / 128 % 8) (col.val % 128) := by
  rw [out_at]
  exact kernelOut_at (rel m c h pt) b col

end Cert.Proof.Value
-- ==== Proof.Value.RefStages.lean ====
/- The reference's operations after the widening, in named stages, each read at an index. -/
module

public import proofs.«01_k».proof.Proof.Gen.ReferenceIdeal.Frame
public import proofs.«01_k».proof.Proof.Value.Target
public import proofs.«01_k».proof.Proof.Value.Math
public import proofs.«01_k».proof.Proof.Value.Words
public import Idealize.ShloMosaic.Lib.Pointwise
public import Idealize.ShloMosaic.Lib.IdealHost

@[expose] public section

set_option maxRecDepth 65536

noncomputable section

namespace Cert.Proof.Value

open Cert.ReferenceIdeal Cert.ReferenceIdeal.Gen
open Idealize.ShloMosaic

/-- The scaled scores. -/
def rScore (kf : FVec Ideal S64x8192x4x128 .bf16) (x : FVec Ideal S64x1x4096 .bf16) (ks : FVec Ideal S64x128x4 .f32) :
    FVec Ideal S64x4x8x1x8192 .f32 :=
  mulf (mulf (transpose S64x4x8x1x8192 [0, 1, 4, 3, 2]
      (Host.dotGeneral dot_S64x8192x4x128_S64x1x4x8x128_S64x4x8192x1x8_3_4_1_13_02_02 none kf
        (shapeCast S64x1x4x8x128 x shapeCasts_S64x1x4096_S64x1x4x8x128) : FVec Ideal S64x4x8192x1x8 .f32)
      transposes_S64x4x8192x1x8_S64x4x8x1x8192_0_1_4_3_2)
    (broadcastInDim S64x4x8x1x8192 ![0, 1, 2, 3, 4] bcast_S64x4x1x1x8192_S64x4x8x1x8192_0_1_2_3_4
      (broadcastInDim S64x4x1x1x8192 ![0, 1, 4] bcast_S64x4x8192_S64x4x1x1x8192_0_1_4
        (transpose S64x4x8192 [0, 2, 1]
          (shapeCast S64x8192x4 (broadcastInDim S64x128x64x4 ![0, 1, 3] bcast_S64x128x4_S64x128x64x4_0_1_3 ks)
            shapeCasts_S64x128x64x4_S64x8192x4) transposes_S64x8192x4_S64x4x8192_0_2_1))))
    (broadcastInDim S64x4x8x1x8192 ![] bcast_S_S64x4x8x1x8192 (constant S_ .f32 0x3DB504F3#32))

/-- The scores, masked. -/
def rMask (len : IVec S64 32) (s : FVec Ideal S64x4x8x1x8192 .f32) : FVec Ideal S64x4x8x1x8192 .f32 :=
  select (broadcastInDim S64x4x8x1x8192 ![0, 1, 2, 3, 4] bcast_S64x1x1x1x8192_S64x4x8x1x8192_0_1_2_3_4
      (broadcastInDim S64x1x1x1x8192 ![0, 4] bcast_S64x8192_S64x1x1x1x8192_0_4
        (cmpi .slt
          (broadcastInDim S64x8192 ![0, 1] bcast_S1x8192_S64x8192_0_1
            (broadcastInDim S1x8192 ![1] bcast_S8192_S1x8192_1 (iotaInDim S8192 32 0)))
          (broadcastInDim S64x8192 ![0, 1] bcast_S64x1_S64x8192_0_1
            (broadcastInDim S64x1 ![0] bcast_S64_S64x1_0 len)))))
    s (broadcastInDim S64x4x8x1x8192 ![] bcast_S_S64x4x8x1x8192 (id (constant S_ .f32 0xFF800000#32)))

/-- The greatest score of each query. -/
def rTop (w : FVec Ideal S64x4x8x1x8192 .f32) : FVec Ideal S64x4x8x1 .f32 :=
  Host.reduce FloatOps.maximumf w (constant S_ .f32 0xFF800000#32) reducesTo_S64x4x8x1x8192_S64x4x8x1_d4 h_S_

/-- The exponentials. -/
def rExp (w : FVec Ideal S64x4x8x1x8192 .f32) : FVec Ideal S64x4x8x1x8192 .f32 :=
  Host.exp (subf w (broadcastInDim S64x4x8x1x8192 ![0, 1, 2, 3, 4] bcast_S64x4x8x1x1_S64x4x8x1x8192_0_1_2_3_4
    (broadcastInDim S64x4x8x1x1 ![0, 1, 2, 3] bcast_S64x4x8x1_S64x4x8x1x1_0_1_2_3 (rTop w))))

/-- The weights of the values. -/
def rWeight (e : FVec Ideal S64x4x8x1x8192 .f32) (vs : FVec Ideal S64x128x4 .f32) : FVec Ideal S64x4x8x1x8192 .bf16 :=
  truncf .bf16 (mulf (mulf e
      (broadcastInDim S64x4x8x1x8192 ![0, 1, 2, 3, 4] bcast_S64x4x8x1x1_S64x4x8x1x8192_0_1_2_3_4
        (Host.divf (broadcastInDim S64x4x8x1x1 ![] bcast_S_S64x4x8x1x1 (constant S_ .f32 0x3F800000#32))
          (broadcastInDim S64x4x8x1x1 ![0, 1, 2, 3] bcast_S64x4x8x1_S64x4x8x1x1_0_1_2_3
            (Host.reduceAdd e (constant S_ .f32 0x00000000#32) reducesTo_S64x4x8x1x8192_S64x4x8x1_d4 h_S_)))))
    (broadcastInDim S64x4x8x1x8192 ![0, 1, 2, 3, 4] bcast_S64x4x1x1x8192_S64x4x8x1x8192_0_1_2_3_4
      (broadcastInDim S64x4x1x1x8192 ![0, 1, 4] bcast_S64x4x8192_S64x4x1x1x8192_0_1_4
        (transpose S64x4x8192 [0, 2, 1]
          (shapeCast S64x8192x4 (broadcastInDim S64x128x64x4 ![0, 1, 3] bcast_S64x128x4_S64x128x64x4_0_1_3 vs)
            shapeCasts_S64x128x64x4_S64x8192x4) transposes_S64x8192x4_S64x4x8192_0_2_1)))) bitsLt_bf16_f32

/-- The result. -/
def rOut (vf : FVec Ideal S64x8192x4x128 .bf16) (p : FVec Ideal S64x4x8x1x8192 .bf16) : FVec Ideal S64x1x4096 .bf16 :=
  truncf .bf16 (shapeCast S64x1x4096 (transpose S64x1x4x8x128 [0, 4, 1, 3, 2]
    (Host.dotGeneral dot_S64x8192x4x128_S64x4x8x1x8192_S64x4x128x8x1_1_4_3_23_02_01 none vf p : FVec Ideal S64x4x128x8x1 .f32)
    transposes_S64x4x128x8x1_S64x1x4x8x128_0_4_1_3_2) shapeCasts_S64x1x4x8x128_S64x1x4096) bitsLt_bf16_f32

variable (x : FVec Ideal S64x1x4096 .bf16) (K : FVec Ideal S64x8192x4x128 .fp8e4m3) (ks : FVec Ideal S64x128x4 .f32)
  (V : FVec Ideal S64x8192x4x128 .fp8e4m3) (vs : FVec Ideal S64x128x4 .f32) (len : IVec S64 32)

/-- The arguments, read at natural numbers. -/
def argsOf : Args where
  x b c := x (ix3 (Fin.ofNat 64 b) 0 (Fin.ofNat 4096 c))
  K b p k d := K (ix4 (Fin.ofNat 64 b) (Fin.ofNat 8192 p) (Fin.ofNat 4 k) (Fin.ofNat 128 d))
  ks b n k := ks (ix3 (Fin.ofNat 64 b) (Fin.ofNat 128 n) (Fin.ofNat 4 k))
  V b p k d := V (ix4 (Fin.ofNat 64 b) (Fin.ofNat 8192 p) (Fin.ofNat 4 k) (Fin.ofNat 128 d))
  vs b n k := vs (ix3 (Fin.ofNat 64 b) (Fin.ofNat 128 n) (Fin.ofNat 4 k))
  len b := (len (ix1 (Fin.ofNat 64 b))).toNat

/-- The masked scores of the reference. -/
def rS : FVec Ideal S64x4x8x1x8192 .f32 := rMask len (rScore (extf .bf16 K bitsLt_fp8e4m3_bf16) x ks)

/-- The reference's result. -/
def refOut : FVec Ideal S64x1x4096 .bf16 :=
  rOut (extf .bf16 V bitsLt_fp8e4m3_bf16) (rWeight (rExp (rS x K ks len)) vs)

theorem rScore_at (kf : FVec Ideal S64x8192x4x128 .bf16) (b : Fin 64) (k : Fin 4) (g : Fin 8) (p : Fin 8192) :
    rScore kf x ks (ix5 b k g 0 p)
      = (∑ d : Fin 128, kf (ix4 b p k d) * x (ix3 b 0 ⟨k.val * 1024 + g.val * 128 + d.val, by omega⟩))
        * ks (ix3 b ⟨p.val / 64, by omega⟩ k) * scl := by
  pointwise [rScore, scl]

theorem rMask_at (s) (b : Fin 64) (k : Fin 4) (g : Fin 8) (p : Fin 8192) (h : (len (ix1 b)).toNat ≤ 8192) :
    rMask len s (ix5 b k g 0 p) = if p.val < (len (ix1 b)).toNat then s (ix5 b k g 0 p) else ⊥ := by
  pointwise [rMask]
  rw [select_lt_len p.isLt h]
  exact if_congr Iff.rfl rfl ofBits_neg_inf

theorem rTop_at (w) (b : Fin 64) (k : Fin 4) (g : Fin 8) :
    rTop w (ix4 b k g 0) = Finset.fold max ⊥ (fun p => w (ix5 b k g 0 p)) Finset.univ := by
  pointwise [rTop]
  rw [ofBits_neg_inf]

theorem rExp_at (w) (b : Fin 64) (k : Fin 4) (g : Fin 8) (p : Fin 8192) :
    rExp w (ix5 b k g 0 p) = Ideal.exp (w (ix5 b k g 0 p) - rTop w (ix4 b k g 0)) := by
  pointwise [rExp]

theorem rWeight_at (e) (b : Fin 64) (k : Fin 4) (g : Fin 8) (p : Fin 8192) :
    rWeight e vs (ix5 b k g 0 p)
      = e (ix5 b k g 0 p) * Ideal.div 1 (∑ p : Fin 8192, e (ix5 b k g 0 p)) * vs (ix3 b ⟨p.val / 64, by omega⟩ k) := by
  pointwise [rWeight]

theorem rOut_at (vf p) (b : Fin 64) (c : Fin 4096) :
    rOut vf p (ix3 b 0 c) = ∑ t : Fin 8192, vf (ix4 b t ⟨c.val / 1024, by omega⟩ ⟨c.val % 128, by omega⟩)
      * p (ix5 b ⟨c.val / 1024, by omega⟩ ⟨c.val / 128 % 8, by omega⟩ 0 t) := by
  pointwise [rOut]

variable (hl : ∀ i, (len i).toNat ≤ 8192)
include hl

theorem rS_at (b : Fin 64) (k : Fin 4) (g : Fin 8) (p : Fin 8192) :
    rS x K ks len (ix5 b k g 0 p) = score (argsOf x K ks V vs len) b.val k.val g.val p.val := by
  unfold rS
  rw [rMask_at _ _ _ _ _ _ (hl _), rScore_at]
  unfold score
  have hb : Fin.ofNat 64 b.val = b := fin_of b rfl
  have hk : Fin.ofNat 4 k.val = k := fin_of k rfl
  refine if_congr ?_ ?_ rfl
  · show _ < _ ↔ _ < (len (ix1 (Fin.ofNat 64 b.val))).toNat
    rw [hb]
  rw [mul_assoc]
  refine congrArg₂ (· * ·) (Finset.sum_congr rfl fun d _ => ?_) (congrArg (· * scl) ?_)
  · show K _ * x _ = x _ * K _
    rw [hb, hk, fin_of d rfl, fin_of p rfl,
      fin_of (⟨k.val * 1024 + g.val * 128 + d.val, by omega⟩ : Fin 4096) (by dsimp only; omega)]
    exact mul_comm _ _
  · show ks _ = ks _
    rw [hb, hk, fin_of (⟨p.val / 64, by omega⟩ : Fin 128) rfl]

theorem rExp_score (b : Fin 64) (k : Fin 4) (g : Fin 8) (p : Fin 8192) :
    rExp (rS x K ks len) (ix5 b k g 0 p) = expo (argsOf x K ks V vs len) b.val k.val g.val p.val := by
  rw [rExp_at, rTop_at]
  simp only [rS_at x K ks V vs len hl]
  rw [fold_max (score (argsOf x K ks V vs len) b.val k.val g.val)]
  rfl

/-- The reference computes the target. -/
theorem refOut_eq (b : Fin 64) (c : Fin 4096) :
    refOut x K ks V vs len (ix3 b 0 c)
      = attend (argsOf x K ks V vs len) b.val (c.val / 1024) (c.val / 128 % 8) (c.val % 128) := by
  unfold refOut
  rw [rOut_at]
  unfold attend
  rw [← Fin.sum_univ_eq_sum_range]
  refine Finset.sum_congr rfl fun p _ => ?_
  rw [rWeight_at]
  simp only [rExp_score x K ks V vs len hl]
  unfold part recip
  rw [← Fin.sum_univ_eq_sum_range (expo (argsOf x K ks V vs len) b.val (c.val / 1024) (c.val / 128 % 8))]
  rw [mul_comm]
  refine congrArg₂ (· * ·) (congrArg₂ (· * ·) rfl ?_) ?_
  · show vs _ = vs _
    rw [fin_of b rfl, fin_of (⟨p.val / 64, by omega⟩ : Fin 128) rfl, fin_of (⟨c.val / 1024, by omega⟩ : Fin 4) rfl]
  · show V _ = V _
    rw [fin_of b rfl, fin_of p rfl, fin_of (⟨c.val / 1024, by omega⟩ : Fin 4) rfl,
      fin_of (⟨c.val % 128, by omega⟩ : Fin 128) rfl]

end Cert.Proof.Value
-- ==== Proof.Value.RefRun.lean ====
/- The reference's run ends with its result buffer at `refOut` of the arguments. -/
module

public import proofs.«01_k».proof.Proof.Value.RefStages
public import proofs.«01_k».proof.Proof.Gen.ReferenceIdeal.Frame
public import Idealize.ShloMosaic.Lib.Pipeline.ValueKit
public import Idealize.ShloMosaic.Lib.StableHlo.RunRead
public import Idealize.ShloMosaic.Lib.StableHlo.ReadAt

@[expose] public section

set_option maxRecDepth 65536
set_option pp.maxSteps 600
set_option maxHeartbeats 1600000

noncomputable section

namespace Cert.Proof.Value

open Cert.ReferenceIdeal Cert.ReferenceIdeal.Gen
open Idealize.ShloMosaic Idealize.ShloMosaic.TcCoe
open Idealize.SL Idealize.SL.Sem

/-- What the operations after the widening leave in the result buffer. -/
theorem after_result (W : Valuation τ sig (Elt Ideal)) :
    StableHlo.after hostOps1_2 (StableHlo.after hostOps1_1 (StableHlo.after hostOps1 W)) main_v41
      = rOut (W main_v0_1) (rWeight (rExp (rMask (W main_arg5) (rScore (W main_v0_0) (W main_arg0) (W main_arg2)))) (W main_arg4)) := by
  after_reads_simp
  rfl

variable (m : (ℓ : Loc nD τ sig) → Buf (Elt Ideal) ℓ) (c : Dev nD)

theorem idx_zero' : ∀ t : Fin cfg0.N,
    (win0_0.index t (0 : Fin 4) = 0 ∧ win0_0.index t (1 : Fin 4) = 0 ∧ win0_0.index t (2 : Fin 4) = 0 ∧ win0_0.index t (3 : Fin 4) = 0)
    ∧ (win0_1.index t (0 : Fin 4) = 0 ∧ win0_1.index t (1 : Fin 4) = 0 ∧ win0_1.index t (2 : Fin 4) = 0 ∧ win0_1.index t (3 : Fin 4) = 0) :=
  (by decide +kernel : ∀ t : Fin grid0.N, _)

theorem rblk0 (t : Fin cfg0.N) : iblk m c 0 t = V m c main_arg1 := by
  obtain ⟨e0, e1, e2, e3⟩ := (idx_zero' t).1
  funext j
  show V m c main_arg1 (((cfg0.win 0).blk t).view.emb j) = V m c main_arg1 j
  refine congrArg _ (funext fun a => Fin.ext ?_)
  match a with
  | ⟨0, _⟩ => show win0_0.index t (0 : Fin 4) * 64 + 1 * (j 0).val = (j 0).val; omega
  | ⟨1, _⟩ => show win0_0.index t (1 : Fin 4) * 8192 + 1 * (j 1).val = (j 1).val; omega
  | ⟨2, _⟩ => show win0_0.index t (2 : Fin 4) * 4 + 1 * (j 2).val = (j 2).val; omega
  | ⟨3, _⟩ => show win0_0.index t (3 : Fin 4) * 128 + 1 * (j 3).val = (j 3).val; omega

theorem rblk1 (t : Fin cfg0.N) : iblk m c 1 t = V m c main_arg3 := by
  obtain ⟨e0, e1, e2, e3⟩ := (idx_zero' t).2
  funext j
  show V m c main_arg3 (((cfg0.win 1).blk t).view.emb j) = V m c main_arg3 j
  refine congrArg _ (funext fun a => Fin.ext ?_)
  match a with
  | ⟨0, _⟩ => show win0_1.index t (0 : Fin 4) * 64 + 1 * (j 0).val = (j 0).val; omega
  | ⟨1, _⟩ => show win0_1.index t (1 : Fin 4) * 8192 + 1 * (j 1).val = (j 1).val; omega
  | ⟨2, _⟩ => show win0_1.index t (2 : Fin 4) * 4 + 1 * (j 2).val = (j 2).val; omega
  | ⟨3, _⟩ => show win0_1.index t (3 : Fin 4) * 128 + 1 * (j 3).val = (j 3).val; omega

/-- The one grid point. -/
def rpt : Fin cfg0.N := ⟨0, by decide⟩

/-- The widened keys' array after the region, -/
theorem arr2 : (dats m 0 c).arrAt 2 cfg0.N = (extf .bf16 (m ((c : Thread nD τ).loc main_arg1) : FVec Ideal S64x8192x4x128 .fp8e4m3) bitsLt_fp8e4m3_bf16 : FVec Ideal S64x8192x4x128 .bf16) := by
  refine (dats m 0 c).arrAt_eq_of_after_last 2 rpt (by decide +kernel) _ (fun j => ?_)
  show (dats m 0 c).after 2 rpt _ = _
  rw [after0_2, rblk0, rblk1]
  frame_out
  rfl

/-- and the widened values'. -/
theorem arr3 : (dats m 0 c).arrAt 3 cfg0.N = (extf .bf16 (m ((c : Thread nD τ).loc main_arg3) : FVec Ideal S64x8192x4x128 .fp8e4m3) bitsLt_fp8e4m3_bf16 : FVec Ideal S64x8192x4x128 .bf16) := by
  refine (dats m 0 c).arrAt_eq_of_after_last 3 rpt (by decide +kernel) _ (fun j => ?_)
  show (dats m 0 c).after 3 rpt _ = _
  rw [after0_3, rblk0, rblk1]
  frame_out
  rfl

/-- The result buffer after the run. -/
theorem post_v41 (r : PUnit × MemSt nD τ sig (Elt Ideal))
    (h : Pipeline.FramePost cfgs (dats m) 0 (Pipeline.afterTail₀ cfgs (dats m) 0 (V0 m) [hostOps1, hostOps1_1, hostOps1_2]) r) :
    r.2.mem ((c.tc : Thread nD τ).loc main_v41)
      = refOut (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) := by
  refine ((h c).2 main_v41 (Pipeline.mem_restRefs_of main_v41 (by decide) (by decide))).trans ?_
  have hw : ∀ b : Ref sig .tc, (∀ w, Pipeline.arrRef spec0 w ≠ b) →
      Pipeline.withArrays (cfgs 0).spec c (V0 m c) (fun w => (dats m 0 c).arrAt w (cfgs 0).N) (Proc.devRef .tc b) = V m c b :=
    fun b hb => Pipeline.withArrays_of_ne _ c (V0 m c) _ b hb
  have h2 : Pipeline.withArrays (cfgs 0).spec c (V0 m c) (fun w => (dats m 0 c).arrAt w (cfgs 0).N) (Proc.devRef .tc main_v0_0) = _ :=
    (Pipeline.withArrays_arr (cfgs 0).spec launch0.win.arr_inj c (V0 m c) _ 2).trans (arr2 m c)
  have h3 : Pipeline.withArrays (cfgs 0).spec c (V0 m c) (fun w => (dats m 0 c).arrAt w (cfgs 0).N) (Proc.devRef .tc main_v0_1) = _ :=
    (Pipeline.withArrays_arr (cfgs 0).spec launch0.win.arr_inj c (V0 m c) _ 3).trans (arr3 m c)
  unfold Pipeline.afterTail₀
  generalize Pipeline.withArrays (cfgs 0).spec c (V0 m c) (fun w => (dats m 0 c).arrAt w (cfgs 0).N) = W at hw h2 h3
  have h0 := (hw main_arg0 (by decide)).trans (V_main_arg0 m c)
  have h22 := (hw main_arg2 (by decide)).trans (V_main_arg2 m c)
  have h4 := (hw main_arg4 (by decide)).trans (V_main_arg4 m c)
  have h5 := (hw main_arg5 (by decide)).trans (V_main_arg5 m c)
  have e : StableHlo.after ([hostOps1, hostOps1_1, hostOps1_2] : List (List (HloOp τ sig (Elt Ideal)))).flatten W
      = StableHlo.after hostOps1_2 (StableHlo.after hostOps1_1 (StableHlo.after hostOps1 W)) := rfl
  rw [e]
  refine (after_result W).trans ?_
  rw [h0, h2, h22, h3, h4, h5]
  rfl

end Cert.Proof.Value
-- ==== Proof.Value.Algebraic.lean ====
/- The kernel and the reference compute the same extended reals: both results are the attention of the arguments. -/
module

public import proofs.«01_k».proof.Defs
public import proofs.«01_k».proof.Proof.Lens
public import proofs.«01_k».proof.Proof.Value.KerRun
public import proofs.«01_k».proof.Proof.Value.RefRun

@[expose] public section

set_option maxRecDepth 65536
set_option pp.maxSteps 800

noncomputable section

namespace Cert.Proof.Value

open Idealize.ShloMosaic Idealize.SL.Sem

/-- The two results agree. -/
theorem same (m : (ℓ : Loc Cert.KernelIdeal.nD Cert.KernelIdeal.τ Cert.KernelIdeal.sig) → Buf (Elt Ideal) ℓ)
    (hl : Cert.Proof.KernelIdeal.LensOk m) (c : Dev Cert.KernelIdeal.nD) :
    refOut (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
      = shapeCast Cert.KernelIdeal.S64x1x4096 (Cert.Proof.KernelIdeal.outAt m c pt) Cert.KernelIdeal.Gen.shapeCasts_S64x4096_S64x1x4096 := by
  funext j
  rw [eq_ix3 j, Fin.fin_one_eq_zero (j 1)]
  exact (refOut_eq _ _ _ _ _ _ (fun i => (hl c i).2) (j 0) (j 2)).trans (result_at m c hl (j 0) (j 2)).symm

/-- From memories that agree on the arguments, the idealized kernel and the idealized reference both run, leave their
    arguments, and end with the same result. -/
theorem algebraic : Cert.algebraic_KernelIdeal_ReferenceIdeal (hKernelIdeal := Cert.KernelIdeal.Gen.facts)
    (hReferenceIdeal := Cert.ReferenceIdeal.Gen.facts) (hPre_lengths := Cert.Pre_lengths.Gen.facts) := by
  intro m g m' g' hp ha
  have hl : Cert.Proof.KernelIdeal.LensOk m := fun c i => lens_inLenIdeal _ _ _ _ _ _ (hp c) i
  refine ⟨fun c => shapeCast Cert.KernelIdeal.S64x1x4096 (Cert.Proof.KernelIdeal.outAt m c pt) Cert.KernelIdeal.Gen.shapeCasts_S64x4096_S64x1x4096, ?_, ?_⟩
  · exact (θ_run _ _ _).mono (fun r h c => ⟨post_v6 m c r h.1, Cert.Proof.KernelIdeal.args_of m r h.1 c⟩)
      (Cert.Proof.KernelIdeal.run_main m g hl)
  · refine (θ_run _ _ _).mono (fun r h c => ⟨?_, h.2 c⟩)
      (θ_run_and (Cert.ReferenceIdeal.Gen.run_main m' g') (Cert.ReferenceIdeal.Gen.unchanged m' g'))
    refine (post_v41 m' c r h.1).trans ?_
    obtain ⟨h0, h1, h2, h3, h4, h5⟩ := ha c
    refine Eq.trans ?_ (same m hl c)
    exact congr (congr (congr (congr (congr (congrArg refOut h0) h1) h2) h3) h4) h5

end Cert.Proof.Value
-- ==== Proof.lean ====
/- The claims of Defs.lean, assembled: each program's run from its own modules, the run of the reference as generated,
   the equality of the two results from Value/. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Pre_lengths
public import proofs.«01_k».proof.Proof.Lens
public import proofs.«01_k».proof.Proof.Kernel.Frame
public import proofs.«01_k».proof.Proof.KernelIdeal.Frame
public import proofs.«01_k».proof.Proof.Value.Algebraic
public import Idealize.ShloMosaic.Adequacy
public import Idealize.ShloMosaic.Init

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_lengths.Gen.facts,
    fun m g h => Cert.Proof.Kernel.frame_holds m g (fun c i => lens_inLen _ _ _ _ _ _ (h c) i),
    fun m g h => Cert.Proof.KernelIdeal.frame_holds m g (fun c i => lens_inLenIdeal _ _ _ _ _ _ (h c) i),
    fun m g _ => Cert.ReferenceIdeal.Gen.frame m g,
    fun m g _ => Cert.ReferenceIdeal.Gen.frame m g,
    trivial, Cert.Proof.Value.algebraic⟩

end Cert.Proof

end
